-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixReferenceIdeal (m : (ℓ : Loc Cert.MixReferenceIdeal.nD Cert.MixReferenceIdeal.τ Cert.MixReferenceIdeal.sig) → Buf (Elt Ideal) ℓ) : Prop :=
  True

def Pre_InAb (m : (ℓ : Loc Cert.InAb.nD Cert.InAb.τ Cert.InAb.sig) → Buf (Elt Bits) ℓ) : Prop :=
  True

def Pre_InAbIdeal (m : (ℓ : Loc Cert.InAbIdeal.nD Cert.InAbIdeal.τ Cert.InAbIdeal.sig) → Buf (Elt Ideal) ℓ) : Prop :=
  True

def Pre_InAbReferenceIdeal (m : (ℓ : Loc Cert.InAbReferenceIdeal.nD Cert.InAbReferenceIdeal.τ Cert.InAbReferenceIdeal.sig) → Buf (Elt Ideal) ℓ) : Prop :=
  True

def Pre_InC (m : (ℓ : Loc Cert.InC.nD Cert.InC.τ Cert.InC.sig) → Buf (Elt Bits) ℓ) : Prop :=
  True

def Pre_InCIdeal (m : (ℓ : Loc Cert.InCIdeal.nD Cert.InCIdeal.τ Cert.InCIdeal.sig) → Buf (Elt Ideal) ℓ) : Prop :=
  True

def Pre_InCReferenceIdeal (m : (ℓ : Loc Cert.InCReferenceIdeal.nD Cert.InCReferenceIdeal.τ Cert.InCReferenceIdeal.sig) → Buf (Elt Ideal) ℓ) : Prop :=
  True

def Pre_InD (m : (ℓ : Loc Cert.InD.nD Cert.InD.τ Cert.InD.sig) → Buf (Elt Bits) ℓ) : Prop :=
  True

def Pre_InDIdeal (m : (ℓ : Loc Cert.InDIdeal.nD Cert.InDIdeal.τ Cert.InDIdeal.sig) → Buf (Elt Ideal) ℓ) : Prop :=
  True

def Pre_InDReferenceIdeal (m : (ℓ : Loc Cert.InDReferenceIdeal.nD Cert.InDReferenceIdeal.τ Cert.InDReferenceIdeal.sig) → Buf (Elt Ideal) ℓ) : Prop :=
  True

def Pre_TailAb (m : (ℓ : Loc Cert.TailAb.nD Cert.TailAb.τ Cert.TailAb.sig) → Buf (Elt Bits) ℓ) : Prop :=
  True

def Pre_TailAbIdeal (m : (ℓ : Loc Cert.TailAbIdeal.nD Cert.TailAbIdeal.τ Cert.TailAbIdeal.sig) → Buf (Elt Ideal) ℓ) : Prop :=
  True

def Pre_TailAbReferenceIdeal (m : (ℓ : Loc Cert.TailAbReferenceIdeal.nD Cert.TailAbReferenceIdeal.τ Cert.TailAbReferenceIdeal.sig) → Buf (Elt Ideal) ℓ) : Prop :=
  True

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxReferenceIdeal (m : (ℓ : Loc Cert.FoxReferenceIdeal.nD Cert.FoxReferenceIdeal.τ Cert.FoxReferenceIdeal.sig) → Buf (Elt Ideal) ℓ) : Prop :=
  True

def Pre_FoxReferenceIdeal_finite_fox [hPre_finite_fox : Cert.Pre_finite_fox.Facts] (m : (ℓ : Loc Cert.FoxReferenceIdeal.nD Cert.FoxReferenceIdeal.τ Cert.FoxReferenceIdeal.sig) → Buf (Elt Ideal) ℓ) : Prop :=
  ∀ c : Dev Cert.FoxReferenceIdeal.nD,
    (Cert.Pre_finite_fox.fn (F := Ideal) (m ((c.tc : Thread Cert.FoxReferenceIdeal.nD Cert.FoxReferenceIdeal.τ).loc Cert.FoxReferenceIdeal.main_arg0)) (m ((c.tc : Thread Cert.FoxReferenceIdeal.nD Cert.FoxReferenceIdeal.τ).loc Cert.FoxReferenceIdeal.main_arg1)) (m ((c.tc : Thread Cert.FoxReferenceIdeal.nD Cert.FoxReferenceIdeal.τ).loc Cert.FoxReferenceIdeal.main_arg2)) (m ((c.tc : Thread Cert.FoxReferenceIdeal.nD Cert.FoxReferenceIdeal.τ).loc Cert.FoxReferenceIdeal.main_arg3))) = (fun _ => 1#1)

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpReferenceIdeal (m : (ℓ : Loc Cert.QUpReferenceIdeal.nD Cert.QUpReferenceIdeal.τ Cert.QUpReferenceIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpReferenceIdeal (m : (ℓ : Loc Cert.KvUpReferenceIdeal.nD Cert.KvUpReferenceIdeal.τ Cert.KvUpReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6))
      ∧ r.2.sem = fun _ => 0)

def quiescent_InAb [hInAb : Cert.InAb.Facts] : Prop :=
  ∀ (m : (ℓ : Loc Cert.InAb.nD Cert.InAb.τ Cert.InAb.sig) → Buf (Elt Bits) ℓ) (g : Dev Cert.InAb.nD → PrngReg), Pre_InAb m →
    θ_run (Cert.InAb.defs (F := Bits)) (onTc (τ := Cert.InAb.τ) (Cert.InAb.main (F := Bits))) ⟨m, fun _ => 0, g⟩ (fun r => (∀ c : Dev Cert.InAb.nD,
      r.2.mem ((c.tc : Thread Cert.InAb.nD Cert.InAb.τ).loc Cert.InAb.main_arg0) = m ((c.tc : Thread Cert.InAb.nD Cert.InAb.τ).loc Cert.InAb.main_arg0)
      ∧ r.2.mem ((c.tc : Thread Cert.InAb.nD Cert.InAb.τ).loc Cert.InAb.main_arg1) = m ((c.tc : Thread Cert.InAb.nD Cert.InAb.τ).loc Cert.InAb.main_arg1))
      ∧ r.2.sem = fun _ => 0)

def quiescent_InAbIdeal [hInAbIdeal : Cert.InAbIdeal.Facts] : Prop :=
  ∀ (m : (ℓ : Loc Cert.InAbIdeal.nD Cert.InAbIdeal.τ Cert.InAbIdeal.sig) → Buf (Elt Ideal) ℓ) (g : Dev Cert.InAbIdeal.nD → PrngReg), Pre_InAbIdeal m →
    θ_run (Cert.InAbIdeal.defs (F := Ideal)) (onTc (τ := Cert.InAbIdeal.τ) (Cert.InAbIdeal.main (F := Ideal))) ⟨m, fun _ => 0, g⟩ (fun r => (∀ c : Dev Cert.InAbIdeal.nD,
      r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
      ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ r.2.sem = fun _ => 0)

def quiescent_InAbReferenceIdeal [hInAbReferenceIdeal : Cert.InAbReferenceIdeal.Facts] : Prop :=
  ∀ (m : (ℓ : Loc Cert.InAbReferenceIdeal.nD Cert.InAbReferenceIdeal.τ Cert.InAbReferenceIdeal.sig) → Buf (Elt Ideal) ℓ) (g : Dev Cert.InAbReferenceIdeal.nD → PrngReg), Pre_InAbReferenceIdeal m →
    θ_run (Cert.InAbReferenceIdeal.defs (F := Ideal)) (onTc (τ := Cert.InAbReferenceIdeal.τ) (Cert.InAbReferenceIdeal.main (F := Ideal))) ⟨m, fun _ => 0, g⟩ (fun r => (∀ c : Dev Cert.InAbReferenceIdeal.nD,
      r.2.mem ((c.tc : Thread Cert.InAbReferenceIdeal.nD Cert.InAbReferenceIdeal.τ).loc Cert.InAbReferenceIdeal.main_arg0) = m ((c.tc : Thread Cert.InAbReferenceIdeal.nD Cert.InAbReferenceIdeal.τ).loc Cert.InAbReferenceIdeal.main_arg0)
      ∧ r.2.mem ((c.tc : Thread Cert.InAbReferenceIdeal.nD Cert.InAbReferenceIdeal.τ).loc Cert.InAbReferenceIdeal.main_arg1) = m ((c.tc : Thread Cert.InAbReferenceIdeal.nD Cert.InAbReferenceIdeal.τ).loc Cert.InAbReferenceIdeal.main_arg1))
      ∧ r.2.sem = fun _ => 0)

def quiescent_InC [hInC : Cert.InC.Facts] : Prop :=
  ∀ (m : (ℓ : Loc Cert.InC.nD Cert.InC.τ Cert.InC.sig) → Buf (Elt Bits) ℓ) (g : Dev Cert.InC.nD → PrngReg), Pre_InC m →
    θ_run (Cert.InC.defs (F := Bits)) (onTc (τ := Cert.InC.τ) (Cert.InC.main (F := Bits))) ⟨m, fun _ => 0, g⟩ (fun r => (∀ c : Dev Cert.InC.nD,
      r.2.mem ((c.tc : Thread Cert.InC.nD Cert.InC.τ).loc Cert.InC.main_arg0) = m ((c.tc : Thread Cert.InC.nD Cert.InC.τ).loc Cert.InC.main_arg0)
      ∧ r.2.mem ((c.tc : Thread Cert.InC.nD Cert.InC.τ).loc Cert.InC.main_arg1) = m ((c.tc : Thread Cert.InC.nD Cert.InC.τ).loc Cert.InC.main_arg1))
      ∧ r.2.sem = fun _ => 0)

def quiescent_InCIdeal [hInCIdeal : Cert.InCIdeal.Facts] : Prop :=
  ∀ (m : (ℓ : Loc Cert.InCIdeal.nD Cert.InCIdeal.τ Cert.InCIdeal.sig) → Buf (Elt Ideal) ℓ) (g : Dev Cert.InCIdeal.nD → PrngReg), Pre_InCIdeal m →
    θ_run (Cert.InCIdeal.defs (F := Ideal)) (onTc (τ := Cert.InCIdeal.τ) (Cert.InCIdeal.main (F := Ideal))) ⟨m, fun _ => 0, g⟩ (fun r => (∀ c : Dev Cert.InCIdeal.nD,
      r.2.mem ((c.tc : Thread Cert.InCIdeal.nD Cert.InCIdeal.τ).loc Cert.InCIdeal.main_arg0) = m ((c.tc : Thread Cert.InCIdeal.nD Cert.InCIdeal.τ).loc Cert.InCIdeal.main_arg0)
      ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ r.2.sem = fun _ => 0)

def quiescent_InCReferenceIdeal [hInCReferenceIdeal : Cert.InCReferenceIdeal.Facts] : Prop :=
  ∀ (m : (ℓ : Loc Cert.InCReferenceIdeal.nD Cert.InCReferenceIdeal.τ Cert.InCReferenceIdeal.sig) → Buf (Elt Ideal) ℓ) (g : Dev Cert.InCReferenceIdeal.nD → PrngReg), Pre_InCReferenceIdeal m →
    θ_run (Cert.InCReferenceIdeal.defs (F := Ideal)) (onTc (τ := Cert.InCReferenceIdeal.τ) (Cert.InCReferenceIdeal.main (F := Ideal))) ⟨m, fun _ => 0, g⟩ (fun r => (∀ c : Dev Cert.InCReferenceIdeal.nD,
      r.2.mem ((c.tc : Thread Cert.InCReferenceIdeal.nD Cert.InCReferenceIdeal.τ).loc Cert.InCReferenceIdeal.main_arg0) = m ((c.tc : Thread Cert.InCReferenceIdeal.nD Cert.InCReferenceIdeal.τ).loc Cert.InCReferenceIdeal.main_arg0)
      ∧ r.2.mem ((c.tc : Thread Cert.InCReferenceIdeal.nD Cert.InCReferenceIdeal.τ).loc Cert.InCReferenceIdeal.main_arg1) = m ((c.tc : Thread Cert.InCReferenceIdeal.nD Cert.InCReferenceIdeal.τ).loc Cert.InCReferenceIdeal.main_arg1))
      ∧ r.2.sem = fun _ => 0)

def quiescent_InD [hInD : Cert.InD.Facts] : Prop :=
  ∀ (m : (ℓ : Loc Cert.InD.nD Cert.InD.τ Cert.InD.sig) → Buf (Elt Bits) ℓ) (g : Dev Cert.InD.nD → PrngReg), Pre_InD m →
    θ_run (Cert.InD.defs (F := Bits)) (onTc (τ := Cert.InD.τ) (Cert.InD.main (F := Bits))) ⟨m, fun _ => 0, g⟩ (fun r => (∀ c : Dev Cert.InD.nD,
      r.2.mem ((c.tc : Thread Cert.InD.nD Cert.InD.τ).loc Cert.InD.main_arg0) = m ((c.tc : Thread Cert.InD.nD Cert.InD.τ).loc Cert.InD.main_arg0)
      ∧ r.2.mem ((c.tc : Thread Cert.InD.nD Cert.InD.τ).loc Cert.InD.main_arg1) = m ((c.tc : Thread Cert.InD.nD Cert.InD.τ).loc Cert.InD.main_arg1))
      ∧ r.2.sem = fun _ => 0)

def quiescent_InDIdeal [hInDIdeal : Cert.InDIdeal.Facts] : Prop :=
  ∀ (m : (ℓ : Loc Cert.InDIdeal.nD Cert.InDIdeal.τ Cert.InDIdeal.sig) → Buf (Elt Ideal) ℓ) (g : Dev Cert.InDIdeal.nD → PrngReg), Pre_InDIdeal m →
    θ_run (Cert.InDIdeal.defs (F := Ideal)) (onTc (τ := Cert.InDIdeal.τ) (Cert.InDIdeal.main (F := Ideal))) ⟨m, fun _ => 0, g⟩ (fun r => (∀ c : Dev Cert.InDIdeal.nD,
      r.2.mem ((c.tc : Thread Cert.InDIdeal.nD Cert.InDIdeal.τ).loc Cert.InDIdeal.main_arg0) = m ((c.tc : Thread Cert.InDIdeal.nD Cert.InDIdeal.τ).loc Cert.InDIdeal.main_arg0)
      ∧ r.2.mem ((c.tc : Thread Cert.InDIdeal.nD Cert.InDIdeal.τ).loc Cert.InDIdeal.main_arg1) = m ((c.tc : Thread Cert.InDIdeal.nD Cert.InDIdeal.τ).loc Cert.InDIdeal.main_arg1))
      ∧ r.2.sem = fun _ => 0)

def quiescent_InDReferenceIdeal [hInDReferenceIdeal : Cert.InDReferenceIdeal.Facts] : Prop :=
  ∀ (m : (ℓ : Loc Cert.InDReferenceIdeal.nD Cert.InDReferenceIdeal.τ Cert.InDReferenceIdeal.sig) → Buf (Elt Ideal) ℓ) (g : Dev Cert.InDReferenceIdeal.nD → PrngReg), Pre_InDReferenceIdeal m →
    θ_run (Cert.InDReferenceIdeal.defs (F := Ideal)) (onTc (τ := Cert.InDReferenceIdeal.τ) (Cert.InDReferenceIdeal.main (F := Ideal))) ⟨m, fun _ => 0, g⟩ (fun r => (∀ c : Dev Cert.InDReferenceIdeal.nD,
      r.2.mem ((c.tc : Thread Cert.InDReferenceIdeal.nD Cert.InDReferenceIdeal.τ).loc Cert.InDReferenceIdeal.main_arg0) = m ((c.tc : Thread Cert.InDReferenceIdeal.nD Cert.InDReferenceIdeal.τ).loc Cert.InDReferenceIdeal.main_arg0)
      ∧ r.2.mem ((c.tc : Thread Cert.InDReferenceIdeal.nD Cert.InDReferenceIdeal.τ).loc Cert.InDReferenceIdeal.main_arg1) = m ((c.tc : Thread Cert.InDReferenceIdeal.nD Cert.InDReferenceIdeal.τ).loc Cert.InDReferenceIdeal.main_arg1))
      ∧ r.2.sem = fun _ => 0)

def quiescent_TailAb [hTailAb : Cert.TailAb.Facts] : Prop :=
  ∀ (m : (ℓ : Loc Cert.TailAb.nD Cert.TailAb.τ Cert.TailAb.sig) → Buf (Elt Bits) ℓ) (g : Dev Cert.TailAb.nD → PrngReg), Pre_TailAb m →
    θ_run (Cert.TailAb.defs (F := Bits)) (onTc (τ := Cert.TailAb.τ) (Cert.TailAb.main (F := Bits))) ⟨m, fun _ => 0, g⟩ (fun r => (∀ c : Dev Cert.TailAb.nD,
      r.2.mem ((c.tc : Thread Cert.TailAb.nD Cert.TailAb.τ).loc Cert.TailAb.main_arg0) = m ((c.tc : Thread Cert.TailAb.nD Cert.TailAb.τ).loc Cert.TailAb.main_arg0)
      ∧ r.2.mem ((c.tc : Thread Cert.TailAb.nD Cert.TailAb.τ).loc Cert.TailAb.main_arg1) = m ((c.tc : Thread Cert.TailAb.nD Cert.TailAb.τ).loc Cert.TailAb.main_arg1))
      ∧ r.2.sem = fun _ => 0)

def quiescent_TailAbIdeal [hTailAbIdeal : Cert.TailAbIdeal.Facts] : Prop :=
  ∀ (m : (ℓ : Loc Cert.TailAbIdeal.nD Cert.TailAbIdeal.τ Cert.TailAbIdeal.sig) → Buf (Elt Ideal) ℓ) (g : Dev Cert.TailAbIdeal.nD → PrngReg), Pre_TailAbIdeal m →
    θ_run (Cert.TailAbIdeal.defs (F := Ideal)) (onTc (τ := Cert.TailAbIdeal.τ) (Cert.TailAbIdeal.main (F := Ideal))) ⟨m, fun _ => 0, g⟩ (fun r => (∀ c : Dev Cert.TailAbIdeal.nD,
      r.2.mem ((c.tc : Thread Cert.TailAbIdeal.nD Cert.TailAbIdeal.τ).loc Cert.TailAbIdeal.main_arg0) = m ((c.tc : Thread Cert.TailAbIdeal.nD Cert.TailAbIdeal.τ).loc Cert.TailAbIdeal.main_arg0)
      ∧ r.2.mem ((c.tc : Thread Cert.TailAbIdeal.nD Cert.TailAbIdeal.τ).loc Cert.TailAbIdeal.main_arg1) = m ((c.tc : Thread Cert.TailAbIdeal.nD Cert.TailAbIdeal.τ).loc Cert.TailAbIdeal.main_arg1))
      ∧ r.2.sem = fun _ => 0)

def quiescent_TailAbReferenceIdeal [hTailAbReferenceIdeal : Cert.TailAbReferenceIdeal.Facts] : Prop :=
  ∀ (m : (ℓ : Loc Cert.TailAbReferenceIdeal.nD Cert.TailAbReferenceIdeal.τ Cert.TailAbReferenceIdeal.sig) → Buf (Elt Ideal) ℓ) (g : Dev Cert.TailAbReferenceIdeal.nD → PrngReg), Pre_TailAbReferenceIdeal m →
    θ_run (Cert.TailAbReferenceIdeal.defs (F := Ideal)) (onTc (τ := Cert.TailAbReferenceIdeal.τ) (Cert.TailAbReferenceIdeal.main (F := Ideal))) ⟨m, fun _ => 0, g⟩ (fun r => (∀ c : Dev Cert.TailAbReferenceIdeal.nD,
      r.2.mem ((c.tc : Thread Cert.TailAbReferenceIdeal.nD Cert.TailAbReferenceIdeal.τ).loc Cert.TailAbReferenceIdeal.main_arg0) = m ((c.tc : Thread Cert.TailAbReferenceIdeal.nD Cert.TailAbReferenceIdeal.τ).loc Cert.TailAbReferenceIdeal.main_arg0)
      ∧ r.2.mem ((c.tc : Thread Cert.TailAbReferenceIdeal.nD Cert.TailAbReferenceIdeal.τ).loc Cert.TailAbReferenceIdeal.main_arg1) = m ((c.tc : Thread Cert.TailAbReferenceIdeal.nD Cert.TailAbReferenceIdeal.τ).loc Cert.TailAbReferenceIdeal.main_arg1))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxReferenceIdeal [hFoxReferenceIdeal : Cert.FoxReferenceIdeal.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_FoxReferenceIdeal_pre_finite_fox [hFoxReferenceIdeal : Cert.FoxReferenceIdeal.Facts] [hPre_finite_fox : Cert.Pre_finite_fox.Facts] : Prop :=
  ∀ (m : (ℓ : Loc Cert.FoxReferenceIdeal.nD Cert.FoxReferenceIdeal.τ Cert.FoxReferenceIdeal.sig) → Buf (Elt Ideal) ℓ) (g : Dev Cert.FoxReferenceIdeal.nD → PrngReg), Pre_FoxReferenceIdeal_finite_fox m →
    θ_run (Cert.FoxReferenceIdeal.defs (F := Ideal)) (onTc (τ := Cert.FoxReferenceIdeal.τ) (Cert.FoxReferenceIdeal.main (F := Ideal))) ⟨m, fun _ => 0, g⟩ (fun r => (∀ c : Dev Cert.FoxReferenceIdeal.nD,
      r.2.mem ((c.tc : Thread Cert.FoxReferenceIdeal.nD Cert.FoxReferenceIdeal.τ).loc Cert.FoxReferenceIdeal.main_arg0) = m ((c.tc : Thread Cert.FoxReferenceIdeal.nD Cert.FoxReferenceIdeal.τ).loc Cert.FoxReferenceIdeal.main_arg0)
      ∧ r.2.mem ((c.tc : Thread Cert.FoxReferenceIdeal.nD Cert.FoxReferenceIdeal.τ).loc Cert.FoxReferenceIdeal.main_arg1) = m ((c.tc : Thread Cert.FoxReferenceIdeal.nD Cert.FoxReferenceIdeal.τ).loc Cert.FoxReferenceIdeal.main_arg1)
      ∧ r.2.mem ((c.tc : Thread Cert.FoxReferenceIdeal.nD Cert.FoxReferenceIdeal.τ).loc Cert.FoxReferenceIdeal.main_arg2) = m ((c.tc : Thread Cert.FoxReferenceIdeal.nD Cert.FoxReferenceIdeal.τ).loc Cert.FoxReferenceIdeal.main_arg2)
      ∧ r.2.mem ((c.tc : Thread Cert.FoxReferenceIdeal.nD Cert.FoxReferenceIdeal.τ).loc Cert.FoxReferenceIdeal.main_arg3) = m ((c.tc : Thread Cert.FoxReferenceIdeal.nD Cert.FoxReferenceIdeal.τ).loc Cert.FoxReferenceIdeal.main_arg3))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1)
      ∧ r.2.mem ((c.tc : Thread Cert.QUp.nD Cert.QUp.τ).loc Cert.QUp.main_arg2) = m ((c.tc : Thread Cert.QUp.nD Cert.QUp.τ).loc Cert.QUp.main_arg2)
      ∧ r.2.mem ((c.tc : Thread Cert.QUp.nD Cert.QUp.τ).loc Cert.QUp.main_arg3) = m ((c.tc : Thread Cert.QUp.nD Cert.QUp.τ).loc Cert.QUp.main_arg3)
      ∧ r.2.mem ((c.tc : Thread Cert.QUp.nD Cert.QUp.τ).loc Cert.QUp.main_arg4) = m ((c.tc : Thread Cert.QUp.nD Cert.QUp.τ).loc Cert.QUp.main_arg4))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
      ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
      ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3)
      ∧ r.2.mem ((c.tc : Thread Cert.QUpIdeal.nD Cert.QUpIdeal.τ).loc Cert.QUpIdeal.main_arg4) = m ((c.tc : Thread Cert.QUpIdeal.nD Cert.QUpIdeal.τ).loc Cert.QUpIdeal.main_arg4))
      ∧ r.2.sem = fun _ => 0)

def quiescent_QUpReferenceIdeal [hQUpReferenceIdeal : Cert.QUpReferenceIdeal.Facts] : Prop :=
  ∀ (m : (ℓ : Loc Cert.QUpReferenceIdeal.nD Cert.QUpReferenceIdeal.τ Cert.QUpReferenceIdeal.sig) → Buf (Elt Ideal) ℓ) (g : Dev Cert.QUpReferenceIdeal.nD → PrngReg), Pre_QUpReferenceIdeal m →
    θ_run (Cert.QUpReferenceIdeal.defs (F := Ideal)) (onTc (τ := Cert.QUpReferenceIdeal.τ) (Cert.QUpReferenceIdeal.main (F := Ideal))) ⟨m, fun _ => 0, g⟩ (fun r => (∀ c : Dev Cert.QUpReferenceIdeal.nD,
      r.2.mem ((c.tc : Thread Cert.QUpReferenceIdeal.nD Cert.QUpReferenceIdeal.τ).loc Cert.QUpReferenceIdeal.main_arg0) = m ((c.tc : Thread Cert.QUpReferenceIdeal.nD Cert.QUpReferenceIdeal.τ).loc Cert.QUpReferenceIdeal.main_arg0)
      ∧ r.2.mem ((c.tc : Thread Cert.QUpReferenceIdeal.nD Cert.QUpReferenceIdeal.τ).loc Cert.QUpReferenceIdeal.main_arg1) = m ((c.tc : Thread Cert.QUpReferenceIdeal.nD Cert.QUpReferenceIdeal.τ).loc Cert.QUpReferenceIdeal.main_arg1)
      ∧ r.2.mem ((c.tc : Thread Cert.QUpReferenceIdeal.nD Cert.QUpReferenceIdeal.τ).loc Cert.QUpReferenceIdeal.main_arg2) = m ((c.tc : Thread Cert.QUpReferenceIdeal.nD Cert.QUpReferenceIdeal.τ).loc Cert.QUpReferenceIdeal.main_arg2)
      ∧ r.2.mem ((c.tc : Thread Cert.QUpReferenceIdeal.nD Cert.QUpReferenceIdeal.τ).loc Cert.QUpReferenceIdeal.main_arg3) = m ((c.tc : Thread Cert.QUpReferenceIdeal.nD Cert.QUpReferenceIdeal.τ).loc Cert.QUpReferenceIdeal.main_arg3)
      ∧ r.2.mem ((c.tc : Thread Cert.QUpReferenceIdeal.nD Cert.QUpReferenceIdeal.τ).loc Cert.QUpReferenceIdeal.main_arg4) = m ((c.tc : Thread Cert.QUpReferenceIdeal.nD Cert.QUpReferenceIdeal.τ).loc Cert.QUpReferenceIdeal.main_arg4))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1)
      ∧ r.2.mem ((c.tc : Thread Cert.KvUp.nD Cert.KvUp.τ).loc Cert.KvUp.main_arg2) = m ((c.tc : Thread Cert.KvUp.nD Cert.KvUp.τ).loc Cert.KvUp.main_arg2)
      ∧ r.2.mem ((c.tc : Thread Cert.KvUp.nD Cert.KvUp.τ).loc Cert.KvUp.main_arg3) = m ((c.tc : Thread Cert.KvUp.nD Cert.KvUp.τ).loc Cert.KvUp.main_arg3)
      ∧ r.2.mem ((c.tc : Thread Cert.KvUp.nD Cert.KvUp.τ).loc Cert.KvUp.main_arg4) = m ((c.tc : Thread Cert.KvUp.nD Cert.KvUp.τ).loc Cert.KvUp.main_arg4)
      ∧ r.2.mem ((c.tc : Thread Cert.KvUp.nD Cert.KvUp.τ).loc Cert.KvUp.main_arg5) = m ((c.tc : Thread Cert.KvUp.nD Cert.KvUp.τ).loc Cert.KvUp.main_arg5))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
      ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
      ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3)
      ∧ r.2.mem ((c.tc : Thread Cert.KvUpIdeal.nD Cert.KvUpIdeal.τ).loc Cert.KvUpIdeal.main_arg4) = m ((c.tc : Thread Cert.KvUpIdeal.nD Cert.KvUpIdeal.τ).loc Cert.KvUpIdeal.main_arg4)
      ∧ r.2.mem ((c.tc : Thread Cert.KvUpIdeal.nD Cert.KvUpIdeal.τ).loc Cert.KvUpIdeal.main_arg5) = m ((c.tc : Thread Cert.KvUpIdeal.nD Cert.KvUpIdeal.τ).loc Cert.KvUpIdeal.main_arg5))
      ∧ r.2.sem = fun _ => 0)

def quiescent_KvUpReferenceIdeal [hKvUpReferenceIdeal : Cert.KvUpReferenceIdeal.Facts] : Prop :=
  ∀ (m : (ℓ : Loc Cert.KvUpReferenceIdeal.nD Cert.KvUpReferenceIdeal.τ Cert.KvUpReferenceIdeal.sig) → Buf (Elt Ideal) ℓ) (g : Dev Cert.KvUpReferenceIdeal.nD → PrngReg), Pre_KvUpReferenceIdeal m →
    θ_run (Cert.KvUpReferenceIdeal.defs (F := Ideal)) (onTc (τ := Cert.KvUpReferenceIdeal.τ) (Cert.KvUpReferenceIdeal.main (F := Ideal))) ⟨m, fun _ => 0, g⟩ (fun r => (∀ c : Dev Cert.KvUpReferenceIdeal.nD,
      r.2.mem ((c.tc : Thread Cert.KvUpReferenceIdeal.nD Cert.KvUpReferenceIdeal.τ).loc Cert.KvUpReferenceIdeal.main_arg0) = m ((c.tc : Thread Cert.KvUpReferenceIdeal.nD Cert.KvUpReferenceIdeal.τ).loc Cert.KvUpReferenceIdeal.main_arg0)
      ∧ r.2.mem ((c.tc : Thread Cert.KvUpReferenceIdeal.nD Cert.KvUpReferenceIdeal.τ).loc Cert.KvUpReferenceIdeal.main_arg1) = m ((c.tc : Thread Cert.KvUpReferenceIdeal.nD Cert.KvUpReferenceIdeal.τ).loc Cert.KvUpReferenceIdeal.main_arg1)
      ∧ r.2.mem ((c.tc : Thread Cert.KvUpReferenceIdeal.nD Cert.KvUpReferenceIdeal.τ).loc Cert.KvUpReferenceIdeal.main_arg2) = m ((c.tc : Thread Cert.KvUpReferenceIdeal.nD Cert.KvUpReferenceIdeal.τ).loc Cert.KvUpReferenceIdeal.main_arg2)
      ∧ r.2.mem ((c.tc : Thread Cert.KvUpReferenceIdeal.nD Cert.KvUpReferenceIdeal.τ).loc Cert.KvUpReferenceIdeal.main_arg3) = m ((c.tc : Thread Cert.KvUpReferenceIdeal.nD Cert.KvUpReferenceIdeal.τ).loc Cert.KvUpReferenceIdeal.main_arg3)
      ∧ r.2.mem ((c.tc : Thread Cert.KvUpReferenceIdeal.nD Cert.KvUpReferenceIdeal.τ).loc Cert.KvUpReferenceIdeal.main_arg4) = m ((c.tc : Thread Cert.KvUpReferenceIdeal.nD Cert.KvUpReferenceIdeal.τ).loc Cert.KvUpReferenceIdeal.main_arg4)
      ∧ r.2.mem ((c.tc : Thread Cert.KvUpReferenceIdeal.nD Cert.KvUpReferenceIdeal.τ).loc Cert.KvUpReferenceIdeal.main_arg5) = m ((c.tc : Thread Cert.KvUpReferenceIdeal.nD Cert.KvUpReferenceIdeal.τ).loc Cert.KvUpReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)
      ∧ m' ((c.tc : Thread Cert.UpReferenceIdeal.nD Cert.UpReferenceIdeal.τ).loc Cert.UpReferenceIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v9) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1)
          ∧ r.2.mem ((c.tc : Thread Cert.UpReferenceIdeal.nD Cert.UpReferenceIdeal.τ).loc Cert.UpReferenceIdeal.main_arg2) = m' ((c.tc : Thread Cert.UpReferenceIdeal.nD Cert.UpReferenceIdeal.τ).loc Cert.UpReferenceIdeal.main_arg2))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)
      ∧ m' ((c.tc : Thread Cert.DownReferenceIdeal.nD Cert.DownReferenceIdeal.τ).loc Cert.DownReferenceIdeal.main_arg4) = m ((c.tc : Thread Cert.DownIdeal.nD Cert.DownIdeal.τ).loc Cert.DownIdeal.main_arg4)
      ∧ m' ((c.tc : Thread Cert.DownReferenceIdeal.nD Cert.DownReferenceIdeal.τ).loc Cert.DownReferenceIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v13)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v13) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v28) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5))

def preserves_Mix_MixIdeal : Prop :=
  True

def algebraic_MixIdeal_MixReferenceIdeal [hMixIdeal : Cert.MixIdeal.Facts] [hMixReferenceIdeal : Cert.MixReferenceIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v14_0)) (v1 : (c : Dev Cert.MixIdeal.nD) → Buf (Elt Ideal) ((c.tc : Thread Cert.MixIdeal.nD Cert.MixIdeal.τ).loc Cert.MixIdeal.main_v14_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v14_0) = v0 c
          ∧ r.2.mem ((c.tc : Thread Cert.MixIdeal.nD Cert.MixIdeal.τ).loc Cert.MixIdeal.main_v14_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v54) = v0 c
          ∧ r.2.mem ((c.tc : Thread Cert.MixReferenceIdeal.nD Cert.MixReferenceIdeal.τ).loc Cert.MixReferenceIdeal.main_v56) = v1 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6))

def preserves_InAb_InAbIdeal : Prop :=
  True

def algebraic_InAbIdeal_InAbReferenceIdeal [hInAbIdeal : Cert.InAbIdeal.Facts] [hInAbReferenceIdeal : Cert.InAbReferenceIdeal.Facts] : Prop :=
  ∀ (m : (ℓ : Loc Cert.InAbIdeal.nD Cert.InAbIdeal.τ Cert.InAbIdeal.sig) → Buf (Elt Ideal) ℓ) (g : Dev Cert.InAbIdeal.nD → PrngReg)
    (m' : (ℓ : Loc Cert.InAbReferenceIdeal.nD Cert.InAbReferenceIdeal.τ Cert.InAbReferenceIdeal.sig) → Buf (Elt Ideal) ℓ) (g' : Dev Cert.InAbReferenceIdeal.nD → PrngReg), Pre_InAbIdeal m →
    (∀ c : Dev Cert.InAbIdeal.nD,
      m' ((c.tc : Thread Cert.InAbReferenceIdeal.nD Cert.InAbReferenceIdeal.τ).loc Cert.InAbReferenceIdeal.main_arg0) = m ((c.tc : Thread Cert.InAbIdeal.nD Cert.InAbIdeal.τ).loc Cert.InAbIdeal.main_arg0)
      ∧ m' ((c.tc : Thread Cert.InAbReferenceIdeal.nD Cert.InAbReferenceIdeal.τ).loc Cert.InAbReferenceIdeal.main_arg1) = m ((c.tc : Thread Cert.InAbIdeal.nD Cert.InAbIdeal.τ).loc Cert.InAbIdeal.main_arg1)) →
    ∃ (v0 : (c : Dev Cert.InAbIdeal.nD) → Buf (Elt Ideal) ((c.tc : Thread Cert.InAbIdeal.nD Cert.InAbIdeal.τ).loc Cert.InAbIdeal.main_v2)),
      θ_run (Cert.InAbIdeal.defs (F := Ideal)) (onTc (τ := Cert.InAbIdeal.τ) (Cert.InAbIdeal.main (F := Ideal))) ⟨m, fun _ => 0, g⟩ (fun r => ∀ c : Dev Cert.InAbIdeal.nD,
          r.2.mem ((c.tc : Thread Cert.InAbIdeal.nD Cert.InAbIdeal.τ).loc Cert.InAbIdeal.main_v2) = v0 c
          ∧ r.2.mem ((c.tc : Thread Cert.InAbIdeal.nD Cert.InAbIdeal.τ).loc Cert.InAbIdeal.main_arg0) = m ((c.tc : Thread Cert.InAbIdeal.nD Cert.InAbIdeal.τ).loc Cert.InAbIdeal.main_arg0)
          ∧ r.2.mem ((c.tc : Thread Cert.InAbIdeal.nD Cert.InAbIdeal.τ).loc Cert.InAbIdeal.main_arg1) = m ((c.tc : Thread Cert.InAbIdeal.nD Cert.InAbIdeal.τ).loc Cert.InAbIdeal.main_arg1))
      ∧ θ_run (Cert.InAbReferenceIdeal.defs (F := Ideal)) (onTc (τ := Cert.InAbReferenceIdeal.τ) (Cert.InAbReferenceIdeal.main (F := Ideal))) ⟨m', fun _ => 0, g'⟩ (fun r => ∀ c : Dev Cert.InAbReferenceIdeal.nD,
          r.2.mem ((c.tc : Thread Cert.InAbReferenceIdeal.nD Cert.InAbReferenceIdeal.τ).loc Cert.InAbReferenceIdeal.main_v3) = v0 c
          ∧ r.2.mem ((c.tc : Thread Cert.InAbReferenceIdeal.nD Cert.InAbReferenceIdeal.τ).loc Cert.InAbReferenceIdeal.main_arg0) = m' ((c.tc : Thread Cert.InAbReferenceIdeal.nD Cert.InAbReferenceIdeal.τ).loc Cert.InAbReferenceIdeal.main_arg0)
          ∧ r.2.mem ((c.tc : Thread Cert.InAbReferenceIdeal.nD Cert.InAbReferenceIdeal.τ).loc Cert.InAbReferenceIdeal.main_arg1) = m' ((c.tc : Thread Cert.InAbReferenceIdeal.nD Cert.InAbReferenceIdeal.τ).loc Cert.InAbReferenceIdeal.main_arg1))

def preserves_InC_InCIdeal : Prop :=
  True

def algebraic_InCIdeal_InCReferenceIdeal [hInCIdeal : Cert.InCIdeal.Facts] [hInCReferenceIdeal : Cert.InCReferenceIdeal.Facts] : Prop :=
  ∀ (m : (ℓ : Loc Cert.InCIdeal.nD Cert.InCIdeal.τ Cert.InCIdeal.sig) → Buf (Elt Ideal) ℓ) (g : Dev Cert.InCIdeal.nD → PrngReg)
    (m' : (ℓ : Loc Cert.InCReferenceIdeal.nD Cert.InCReferenceIdeal.τ Cert.InCReferenceIdeal.sig) → Buf (Elt Ideal) ℓ) (g' : Dev Cert.InCReferenceIdeal.nD → PrngReg), Pre_InCIdeal m →
    (∀ c : Dev Cert.InCIdeal.nD,
      m' ((c.tc : Thread Cert.InCReferenceIdeal.nD Cert.InCReferenceIdeal.τ).loc Cert.InCReferenceIdeal.main_arg0) = m ((c.tc : Thread Cert.InCIdeal.nD Cert.InCIdeal.τ).loc Cert.InCIdeal.main_arg0)
      ∧ m' ((c.tc : Thread Cert.InCReferenceIdeal.nD Cert.InCReferenceIdeal.τ).loc Cert.InCReferenceIdeal.main_arg1) = m ((c.tc : Thread Cert.InCIdeal.nD Cert.InCIdeal.τ).loc Cert.InCIdeal.main_arg1)) →
    ∃ (v0 : (c : Dev Cert.InCIdeal.nD) → Buf (Elt Ideal) ((c.tc : Thread Cert.InCIdeal.nD Cert.InCIdeal.τ).loc Cert.InCIdeal.main_v7)),
      θ_run (Cert.InCIdeal.defs (F := Ideal)) (onTc (τ := Cert.InCIdeal.τ) (Cert.InCIdeal.main (F := Ideal))) ⟨m, fun _ => 0, g⟩ (fun r => ∀ c : Dev Cert.InCIdeal.nD,
          r.2.mem ((c.tc : Thread Cert.InCIdeal.nD Cert.InCIdeal.τ).loc Cert.InCIdeal.main_v7) = v0 c
          ∧ r.2.mem ((c.tc : Thread Cert.InCIdeal.nD Cert.InCIdeal.τ).loc Cert.InCIdeal.main_arg0) = m ((c.tc : Thread Cert.InCIdeal.nD Cert.InCIdeal.τ).loc Cert.InCIdeal.main_arg0)
          ∧ r.2.mem ((c.tc : Thread Cert.InCIdeal.nD Cert.InCIdeal.τ).loc Cert.InCIdeal.main_arg1) = m ((c.tc : Thread Cert.InCIdeal.nD Cert.InCIdeal.τ).loc Cert.InCIdeal.main_arg1))
      ∧ θ_run (Cert.InCReferenceIdeal.defs (F := Ideal)) (onTc (τ := Cert.InCReferenceIdeal.τ) (Cert.InCReferenceIdeal.main (F := Ideal))) ⟨m', fun _ => 0, g'⟩ (fun r => ∀ c : Dev Cert.InCReferenceIdeal.nD,
          r.2.mem ((c.tc : Thread Cert.InCReferenceIdeal.nD Cert.InCReferenceIdeal.τ).loc Cert.InCReferenceIdeal.main_v10) = v0 c
          ∧ r.2.mem ((c.tc : Thread Cert.InCReferenceIdeal.nD Cert.InCReferenceIdeal.τ).loc Cert.InCReferenceIdeal.main_arg0) = m' ((c.tc : Thread Cert.InCReferenceIdeal.nD Cert.InCReferenceIdeal.τ).loc Cert.InCReferenceIdeal.main_arg0)
          ∧ r.2.mem ((c.tc : Thread Cert.InCReferenceIdeal.nD Cert.InCReferenceIdeal.τ).loc Cert.InCReferenceIdeal.main_arg1) = m' ((c.tc : Thread Cert.InCReferenceIdeal.nD Cert.InCReferenceIdeal.τ).loc Cert.InCReferenceIdeal.main_arg1))

def preserves_InD_InDIdeal : Prop :=
  True

def algebraic_InDIdeal_InDReferenceIdeal [hInDIdeal : Cert.InDIdeal.Facts] [hInDReferenceIdeal : Cert.InDReferenceIdeal.Facts] : Prop :=
  ∀ (m : (ℓ : Loc Cert.InDIdeal.nD Cert.InDIdeal.τ Cert.InDIdeal.sig) → Buf (Elt Ideal) ℓ) (g : Dev Cert.InDIdeal.nD → PrngReg)
    (m' : (ℓ : Loc Cert.InDReferenceIdeal.nD Cert.InDReferenceIdeal.τ Cert.InDReferenceIdeal.sig) → Buf (Elt Ideal) ℓ) (g' : Dev Cert.InDReferenceIdeal.nD → PrngReg), Pre_InDIdeal m →
    (∀ c : Dev Cert.InDIdeal.nD,
      m' ((c.tc : Thread Cert.InDReferenceIdeal.nD Cert.InDReferenceIdeal.τ).loc Cert.InDReferenceIdeal.main_arg0) = m ((c.tc : Thread Cert.InDIdeal.nD Cert.InDIdeal.τ).loc Cert.InDIdeal.main_arg0)
      ∧ m' ((c.tc : Thread Cert.InDReferenceIdeal.nD Cert.InDReferenceIdeal.τ).loc Cert.InDReferenceIdeal.main_arg1) = m ((c.tc : Thread Cert.InDIdeal.nD Cert.InDIdeal.τ).loc Cert.InDIdeal.main_arg1)) →
    ∃ (v0 : (c : Dev Cert.InDIdeal.nD) → Buf (Elt Ideal) ((c.tc : Thread Cert.InDIdeal.nD Cert.InDIdeal.τ).loc Cert.InDIdeal.main_v7)),
      θ_run (Cert.InDIdeal.defs (F := Ideal)) (onTc (τ := Cert.InDIdeal.τ) (Cert.InDIdeal.main (F := Ideal))) ⟨m, fun _ => 0, g⟩ (fun r => ∀ c : Dev Cert.InDIdeal.nD,
          r.2.mem ((c.tc : Thread Cert.InDIdeal.nD Cert.InDIdeal.τ).loc Cert.InDIdeal.main_v7) = v0 c
          ∧ r.2.mem ((c.tc : Thread Cert.InDIdeal.nD Cert.InDIdeal.τ).loc Cert.InDIdeal.main_arg0) = m ((c.tc : Thread Cert.InDIdeal.nD Cert.InDIdeal.τ).loc Cert.InDIdeal.main_arg0)
          ∧ r.2.mem ((c.tc : Thread Cert.InDIdeal.nD Cert.InDIdeal.τ).loc Cert.InDIdeal.main_arg1) = m ((c.tc : Thread Cert.InDIdeal.nD Cert.InDIdeal.τ).loc Cert.InDIdeal.main_arg1))
      ∧ θ_run (Cert.InDReferenceIdeal.defs (F := Ideal)) (onTc (τ := Cert.InDReferenceIdeal.τ) (Cert.InDReferenceIdeal.main (F := Ideal))) ⟨m', fun _ => 0, g'⟩ (fun r => ∀ c : Dev Cert.InDReferenceIdeal.nD,
          r.2.mem ((c.tc : Thread Cert.InDReferenceIdeal.nD Cert.InDReferenceIdeal.τ).loc Cert.InDReferenceIdeal.main_v10) = v0 c
          ∧ r.2.mem ((c.tc : Thread Cert.InDReferenceIdeal.nD Cert.InDReferenceIdeal.τ).loc Cert.InDReferenceIdeal.main_arg0) = m' ((c.tc : Thread Cert.InDReferenceIdeal.nD Cert.InDReferenceIdeal.τ).loc Cert.InDReferenceIdeal.main_arg0)
          ∧ r.2.mem ((c.tc : Thread Cert.InDReferenceIdeal.nD Cert.InDReferenceIdeal.τ).loc Cert.InDReferenceIdeal.main_arg1) = m' ((c.tc : Thread Cert.InDReferenceIdeal.nD Cert.InDReferenceIdeal.τ).loc Cert.InDReferenceIdeal.main_arg1))

def preserves_TailAb_TailAbIdeal : Prop :=
  True

def algebraic_TailAbIdeal_TailAbReferenceIdeal [hTailAbIdeal : Cert.TailAbIdeal.Facts] [hTailAbReferenceIdeal : Cert.TailAbReferenceIdeal.Facts] : Prop :=
  ∀ (m : (ℓ : Loc Cert.TailAbIdeal.nD Cert.TailAbIdeal.τ Cert.TailAbIdeal.sig) → Buf (Elt Ideal) ℓ) (g : Dev Cert.TailAbIdeal.nD → PrngReg)
    (m' : (ℓ : Loc Cert.TailAbReferenceIdeal.nD Cert.TailAbReferenceIdeal.τ Cert.TailAbReferenceIdeal.sig) → Buf (Elt Ideal) ℓ) (g' : Dev Cert.TailAbReferenceIdeal.nD → PrngReg), Pre_TailAbIdeal m →
    (∀ c : Dev Cert.TailAbIdeal.nD,
      m' ((c.tc : Thread Cert.TailAbReferenceIdeal.nD Cert.TailAbReferenceIdeal.τ).loc Cert.TailAbReferenceIdeal.main_arg0) = m ((c.tc : Thread Cert.TailAbIdeal.nD Cert.TailAbIdeal.τ).loc Cert.TailAbIdeal.main_arg0)
      ∧ m' ((c.tc : Thread Cert.TailAbReferenceIdeal.nD Cert.TailAbReferenceIdeal.τ).loc Cert.TailAbReferenceIdeal.main_arg1) = m ((c.tc : Thread Cert.TailAbIdeal.nD Cert.TailAbIdeal.τ).loc Cert.TailAbIdeal.main_arg1)) →
    ∃ (v0 : (c : Dev Cert.TailAbIdeal.nD) → Buf (Elt Ideal) ((c.tc : Thread Cert.TailAbIdeal.nD Cert.TailAbIdeal.τ).loc Cert.TailAbIdeal.main_v14)),
      θ_run (Cert.TailAbIdeal.defs (F := Ideal)) (onTc (τ := Cert.TailAbIdeal.τ) (Cert.TailAbIdeal.main (F := Ideal))) ⟨m, fun _ => 0, g⟩ (fun r => ∀ c : Dev Cert.TailAbIdeal.nD,
          r.2.mem ((c.tc : Thread Cert.TailAbIdeal.nD Cert.TailAbIdeal.τ).loc Cert.TailAbIdeal.main_v14) = v0 c
          ∧ r.2.mem ((c.tc : Thread Cert.TailAbIdeal.nD Cert.TailAbIdeal.τ).loc Cert.TailAbIdeal.main_arg0) = m ((c.tc : Thread Cert.TailAbIdeal.nD Cert.TailAbIdeal.τ).loc Cert.TailAbIdeal.main_arg0)
          ∧ r.2.mem ((c.tc : Thread Cert.TailAbIdeal.nD Cert.TailAbIdeal.τ).loc Cert.TailAbIdeal.main_arg1) = m ((c.tc : Thread Cert.TailAbIdeal.nD Cert.TailAbIdeal.τ).loc Cert.TailAbIdeal.main_arg1))
      ∧ θ_run (Cert.TailAbReferenceIdeal.defs (F := Ideal)) (onTc (τ := Cert.TailAbReferenceIdeal.τ) (Cert.TailAbReferenceIdeal.main (F := Ideal))) ⟨m', fun _ => 0, g'⟩ (fun r => ∀ c : Dev Cert.TailAbReferenceIdeal.nD,
          r.2.mem ((c.tc : Thread Cert.TailAbReferenceIdeal.nD Cert.TailAbReferenceIdeal.τ).loc Cert.TailAbReferenceIdeal.main_v14) = v0 c
          ∧ r.2.mem ((c.tc : Thread Cert.TailAbReferenceIdeal.nD Cert.TailAbReferenceIdeal.τ).loc Cert.TailAbReferenceIdeal.main_arg0) = m' ((c.tc : Thread Cert.TailAbReferenceIdeal.nD Cert.TailAbReferenceIdeal.τ).loc Cert.TailAbReferenceIdeal.main_arg0)
          ∧ r.2.mem ((c.tc : Thread Cert.TailAbReferenceIdeal.nD Cert.TailAbReferenceIdeal.τ).loc Cert.TailAbReferenceIdeal.main_arg1) = m' ((c.tc : Thread Cert.TailAbReferenceIdeal.nD Cert.TailAbReferenceIdeal.τ).loc Cert.TailAbReferenceIdeal.main_arg1))

def preserves_Fox_FoxIdeal : Prop :=
  IdealRules.named_const.Statement Cert.FoxIdeal.κ "mask" .f32 0xF149F2CA#32 ⊥

def algebraic_FoxIdeal_FoxReferenceIdeal_pre_finite_fox [hFoxIdeal : Cert.FoxIdeal.Facts] [hFoxReferenceIdeal : Cert.FoxReferenceIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxReferenceIdeal.nD Cert.FoxReferenceIdeal.τ Cert.FoxReferenceIdeal.sig) → Buf (Elt Ideal) ℓ) (g' : Dev Cert.FoxReferenceIdeal.nD → PrngReg), Pre_FoxIdeal_finite_fox m →
    (∀ c : Dev Cert.FoxIdeal.nD,
      m' ((c.tc : Thread Cert.FoxReferenceIdeal.nD Cert.FoxReferenceIdeal.τ).loc Cert.FoxReferenceIdeal.main_arg0) = m ((c.tc : Thread Cert.FoxIdeal.nD Cert.FoxIdeal.τ).loc Cert.FoxIdeal.main_arg0)
      ∧ m' ((c.tc : Thread Cert.FoxReferenceIdeal.nD Cert.FoxReferenceIdeal.τ).loc Cert.FoxReferenceIdeal.main_arg1) = m ((c.tc : Thread Cert.FoxIdeal.nD Cert.FoxIdeal.τ).loc Cert.FoxIdeal.main_arg1)
      ∧ m' ((c.tc : Thread Cert.FoxReferenceIdeal.nD Cert.FoxReferenceIdeal.τ).loc Cert.FoxReferenceIdeal.main_arg2) = m ((c.tc : Thread Cert.FoxIdeal.nD Cert.FoxIdeal.τ).loc Cert.FoxIdeal.main_arg2)
      ∧ m' ((c.tc : Thread Cert.FoxReferenceIdeal.nD Cert.FoxReferenceIdeal.τ).loc Cert.FoxReferenceIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v29)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v29) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxReferenceIdeal.defs (F := Ideal)) (onTc (τ := Cert.FoxReferenceIdeal.τ) (Cert.FoxReferenceIdeal.main (F := Ideal))) ⟨m', fun _ => 0, g'⟩ (fun r => ∀ c : Dev Cert.FoxReferenceIdeal.nD,
          r.2.mem ((c.tc : Thread Cert.FoxReferenceIdeal.nD Cert.FoxReferenceIdeal.τ).loc Cert.FoxReferenceIdeal.main_v33) = v0 c
          ∧ r.2.mem ((c.tc : Thread Cert.FoxReferenceIdeal.nD Cert.FoxReferenceIdeal.τ).loc Cert.FoxReferenceIdeal.main_arg0) = m' ((c.tc : Thread Cert.FoxReferenceIdeal.nD Cert.FoxReferenceIdeal.τ).loc Cert.FoxReferenceIdeal.main_arg0)
          ∧ r.2.mem ((c.tc : Thread Cert.FoxReferenceIdeal.nD Cert.FoxReferenceIdeal.τ).loc Cert.FoxReferenceIdeal.main_arg1) = m' ((c.tc : Thread Cert.FoxReferenceIdeal.nD Cert.FoxReferenceIdeal.τ).loc Cert.FoxReferenceIdeal.main_arg1)
          ∧ r.2.mem ((c.tc : Thread Cert.FoxReferenceIdeal.nD Cert.FoxReferenceIdeal.τ).loc Cert.FoxReferenceIdeal.main_arg2) = m' ((c.tc : Thread Cert.FoxReferenceIdeal.nD Cert.FoxReferenceIdeal.τ).loc Cert.FoxReferenceIdeal.main_arg2)
          ∧ r.2.mem ((c.tc : Thread Cert.FoxReferenceIdeal.nD Cert.FoxReferenceIdeal.τ).loc Cert.FoxReferenceIdeal.main_arg3) = m' ((c.tc : Thread Cert.FoxReferenceIdeal.nD Cert.FoxReferenceIdeal.τ).loc Cert.FoxReferenceIdeal.main_arg3))

def preserves_QUp_QUpIdeal : Prop :=
  True

def algebraic_QUpIdeal_QUpReferenceIdeal [hQUpIdeal : Cert.QUpIdeal.Facts] [hQUpReferenceIdeal : Cert.QUpReferenceIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpReferenceIdeal.nD Cert.QUpReferenceIdeal.τ Cert.QUpReferenceIdeal.sig) → Buf (Elt Ideal) ℓ) (g' : Dev Cert.QUpReferenceIdeal.nD → PrngReg), Pre_QUpIdeal m →
    (∀ c : Dev Cert.QUpIdeal.nD,
      m' ((c.tc : Thread Cert.QUpReferenceIdeal.nD Cert.QUpReferenceIdeal.τ).loc Cert.QUpReferenceIdeal.main_arg0) = m ((c.tc : Thread Cert.QUpIdeal.nD Cert.QUpIdeal.τ).loc Cert.QUpIdeal.main_arg0)
      ∧ m' ((c.tc : Thread Cert.QUpReferenceIdeal.nD Cert.QUpReferenceIdeal.τ).loc Cert.QUpReferenceIdeal.main_arg1) = m ((c.tc : Thread Cert.QUpIdeal.nD Cert.QUpIdeal.τ).loc Cert.QUpIdeal.main_arg1)
      ∧ m' ((c.tc : Thread Cert.QUpReferenceIdeal.nD Cert.QUpReferenceIdeal.τ).loc Cert.QUpReferenceIdeal.main_arg2) = m ((c.tc : Thread Cert.QUpIdeal.nD Cert.QUpIdeal.τ).loc Cert.QUpIdeal.main_arg2)
      ∧ m' ((c.tc : Thread Cert.QUpReferenceIdeal.nD Cert.QUpReferenceIdeal.τ).loc Cert.QUpReferenceIdeal.main_arg3) = m ((c.tc : Thread Cert.QUpIdeal.nD Cert.QUpIdeal.τ).loc Cert.QUpIdeal.main_arg3)
      ∧ m' ((c.tc : Thread Cert.QUpReferenceIdeal.nD Cert.QUpReferenceIdeal.τ).loc Cert.QUpReferenceIdeal.main_arg4) = m ((c.tc : Thread Cert.QUpIdeal.nD Cert.QUpIdeal.τ).loc Cert.QUpIdeal.main_arg4)) →
    ∃ (v0 : (c : Dev Cert.QUpIdeal.nD) → Buf (Elt Ideal) ((c.tc : Thread Cert.QUpIdeal.nD Cert.QUpIdeal.τ).loc Cert.QUpIdeal.main_v25)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v25) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1)
          ∧ r.2.mem ((c.tc : Thread Cert.QUpIdeal.nD Cert.QUpIdeal.τ).loc Cert.QUpIdeal.main_arg2) = m ((c.tc : Thread Cert.QUpIdeal.nD Cert.QUpIdeal.τ).loc Cert.QUpIdeal.main_arg2)
          ∧ r.2.mem ((c.tc : Thread Cert.QUpIdeal.nD Cert.QUpIdeal.τ).loc Cert.QUpIdeal.main_arg3) = m ((c.tc : Thread Cert.QUpIdeal.nD Cert.QUpIdeal.τ).loc Cert.QUpIdeal.main_arg3)
          ∧ r.2.mem ((c.tc : Thread Cert.QUpIdeal.nD Cert.QUpIdeal.τ).loc Cert.QUpIdeal.main_arg4) = m ((c.tc : Thread Cert.QUpIdeal.nD Cert.QUpIdeal.τ).loc Cert.QUpIdeal.main_arg4))
      ∧ θ_run (Cert.QUpReferenceIdeal.defs (F := Ideal)) (onTc (τ := Cert.QUpReferenceIdeal.τ) (Cert.QUpReferenceIdeal.main (F := Ideal))) ⟨m', fun _ => 0, g'⟩ (fun r => ∀ c : Dev Cert.QUpReferenceIdeal.nD,
          r.2.mem ((c.tc : Thread Cert.QUpReferenceIdeal.nD Cert.QUpReferenceIdeal.τ).loc Cert.QUpReferenceIdeal.main_v37) = v0 c
          ∧ r.2.mem ((c.tc : Thread Cert.QUpReferenceIdeal.nD Cert.QUpReferenceIdeal.τ).loc Cert.QUpReferenceIdeal.main_arg0) = m' ((c.tc : Thread Cert.QUpReferenceIdeal.nD Cert.QUpReferenceIdeal.τ).loc Cert.QUpReferenceIdeal.main_arg0)
          ∧ r.2.mem ((c.tc : Thread Cert.QUpReferenceIdeal.nD Cert.QUpReferenceIdeal.τ).loc Cert.QUpReferenceIdeal.main_arg1) = m' ((c.tc : Thread Cert.QUpReferenceIdeal.nD Cert.QUpReferenceIdeal.τ).loc Cert.QUpReferenceIdeal.main_arg1)
          ∧ r.2.mem ((c.tc : Thread Cert.QUpReferenceIdeal.nD Cert.QUpReferenceIdeal.τ).loc Cert.QUpReferenceIdeal.main_arg2) = m' ((c.tc : Thread Cert.QUpReferenceIdeal.nD Cert.QUpReferenceIdeal.τ).loc Cert.QUpReferenceIdeal.main_arg2)
          ∧ r.2.mem ((c.tc : Thread Cert.QUpReferenceIdeal.nD Cert.QUpReferenceIdeal.τ).loc Cert.QUpReferenceIdeal.main_arg3) = m' ((c.tc : Thread Cert.QUpReferenceIdeal.nD Cert.QUpReferenceIdeal.τ).loc Cert.QUpReferenceIdeal.main_arg3)
          ∧ r.2.mem ((c.tc : Thread Cert.QUpReferenceIdeal.nD Cert.QUpReferenceIdeal.τ).loc Cert.QUpReferenceIdeal.main_arg4) = m' ((c.tc : Thread Cert.QUpReferenceIdeal.nD Cert.QUpReferenceIdeal.τ).loc Cert.QUpReferenceIdeal.main_arg4))

def preserves_KvUp_KvUpIdeal : Prop :=
  True

def algebraic_KvUpIdeal_KvUpReferenceIdeal [hKvUpIdeal : Cert.KvUpIdeal.Facts] [hKvUpReferenceIdeal : Cert.KvUpReferenceIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpReferenceIdeal.nD Cert.KvUpReferenceIdeal.τ Cert.KvUpReferenceIdeal.sig) → Buf (Elt Ideal) ℓ) (g' : Dev Cert.KvUpReferenceIdeal.nD → PrngReg), Pre_KvUpIdeal m →
    (∀ c : Dev Cert.KvUpIdeal.nD,
      m' ((c.tc : Thread Cert.KvUpReferenceIdeal.nD Cert.KvUpReferenceIdeal.τ).loc Cert.KvUpReferenceIdeal.main_arg0) = m ((c.tc : Thread Cert.KvUpIdeal.nD Cert.KvUpIdeal.τ).loc Cert.KvUpIdeal.main_arg0)
      ∧ m' ((c.tc : Thread Cert.KvUpReferenceIdeal.nD Cert.KvUpReferenceIdeal.τ).loc Cert.KvUpReferenceIdeal.main_arg1) = m ((c.tc : Thread Cert.KvUpIdeal.nD Cert.KvUpIdeal.τ).loc Cert.KvUpIdeal.main_arg1)
      ∧ m' ((c.tc : Thread Cert.KvUpReferenceIdeal.nD Cert.KvUpReferenceIdeal.τ).loc Cert.KvUpReferenceIdeal.main_arg2) = m ((c.tc : Thread Cert.KvUpIdeal.nD Cert.KvUpIdeal.τ).loc Cert.KvUpIdeal.main_arg2)
      ∧ m' ((c.tc : Thread Cert.KvUpReferenceIdeal.nD Cert.KvUpReferenceIdeal.τ).loc Cert.KvUpReferenceIdeal.main_arg3) = m ((c.tc : Thread Cert.KvUpIdeal.nD Cert.KvUpIdeal.τ).loc Cert.KvUpIdeal.main_arg3)
      ∧ m' ((c.tc : Thread Cert.KvUpReferenceIdeal.nD Cert.KvUpReferenceIdeal.τ).loc Cert.KvUpReferenceIdeal.main_arg4) = m ((c.tc : Thread Cert.KvUpIdeal.nD Cert.KvUpIdeal.τ).loc Cert.KvUpIdeal.main_arg4)
      ∧ m' ((c.tc : Thread Cert.KvUpReferenceIdeal.nD Cert.KvUpReferenceIdeal.τ).loc Cert.KvUpReferenceIdeal.main_arg5) = m ((c.tc : Thread Cert.KvUpIdeal.nD Cert.KvUpIdeal.τ).loc Cert.KvUpIdeal.main_arg5)) →
    ∃ (v0 : (c : Dev Cert.KvUpIdeal.nD) → Buf (Elt Ideal) ((c.tc : Thread Cert.KvUpIdeal.nD Cert.KvUpIdeal.τ).loc Cert.KvUpIdeal.main_v26_0)) (v1 : (c : Dev Cert.KvUpIdeal.nD) → Buf (Elt Ideal) ((c.tc : Thread Cert.KvUpIdeal.nD Cert.KvUpIdeal.τ).loc Cert.KvUpIdeal.main_v26_1)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v26_0) = v0 c
          ∧ r.2.mem ((c.tc : Thread Cert.KvUpIdeal.nD Cert.KvUpIdeal.τ).loc Cert.KvUpIdeal.main_v26_1) = v1 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1)
          ∧ r.2.mem ((c.tc : Thread Cert.KvUpIdeal.nD Cert.KvUpIdeal.τ).loc Cert.KvUpIdeal.main_arg2) = m ((c.tc : Thread Cert.KvUpIdeal.nD Cert.KvUpIdeal.τ).loc Cert.KvUpIdeal.main_arg2)
          ∧ r.2.mem ((c.tc : Thread Cert.KvUpIdeal.nD Cert.KvUpIdeal.τ).loc Cert.KvUpIdeal.main_arg3) = m ((c.tc : Thread Cert.KvUpIdeal.nD Cert.KvUpIdeal.τ).loc Cert.KvUpIdeal.main_arg3)
          ∧ r.2.mem ((c.tc : Thread Cert.KvUpIdeal.nD Cert.KvUpIdeal.τ).loc Cert.KvUpIdeal.main_arg4) = m ((c.tc : Thread Cert.KvUpIdeal.nD Cert.KvUpIdeal.τ).loc Cert.KvUpIdeal.main_arg4)
          ∧ r.2.mem ((c.tc : Thread Cert.KvUpIdeal.nD Cert.KvUpIdeal.τ).loc Cert.KvUpIdeal.main_arg5) = m ((c.tc : Thread Cert.KvUpIdeal.nD Cert.KvUpIdeal.τ).loc Cert.KvUpIdeal.main_arg5))
      ∧ θ_run (Cert.KvUpReferenceIdeal.defs (F := Ideal)) (onTc (τ := Cert.KvUpReferenceIdeal.τ) (Cert.KvUpReferenceIdeal.main (F := Ideal))) ⟨m', fun _ => 0, g'⟩ (fun r => ∀ c : Dev Cert.KvUpReferenceIdeal.nD,
          r.2.mem ((c.tc : Thread Cert.KvUpReferenceIdeal.nD Cert.KvUpReferenceIdeal.τ).loc Cert.KvUpReferenceIdeal.main_v33) = v0 c
          ∧ r.2.mem ((c.tc : Thread Cert.KvUpReferenceIdeal.nD Cert.KvUpReferenceIdeal.τ).loc Cert.KvUpReferenceIdeal.main_v35) = v1 c
          ∧ r.2.mem ((c.tc : Thread Cert.KvUpReferenceIdeal.nD Cert.KvUpReferenceIdeal.τ).loc Cert.KvUpReferenceIdeal.main_arg0) = m' ((c.tc : Thread Cert.KvUpReferenceIdeal.nD Cert.KvUpReferenceIdeal.τ).loc Cert.KvUpReferenceIdeal.main_arg0)
          ∧ r.2.mem ((c.tc : Thread Cert.KvUpReferenceIdeal.nD Cert.KvUpReferenceIdeal.τ).loc Cert.KvUpReferenceIdeal.main_arg1) = m' ((c.tc : Thread Cert.KvUpReferenceIdeal.nD Cert.KvUpReferenceIdeal.τ).loc Cert.KvUpReferenceIdeal.main_arg1)
          ∧ r.2.mem ((c.tc : Thread Cert.KvUpReferenceIdeal.nD Cert.KvUpReferenceIdeal.τ).loc Cert.KvUpReferenceIdeal.main_arg2) = m' ((c.tc : Thread Cert.KvUpReferenceIdeal.nD Cert.KvUpReferenceIdeal.τ).loc Cert.KvUpReferenceIdeal.main_arg2)
          ∧ r.2.mem ((c.tc : Thread Cert.KvUpReferenceIdeal.nD Cert.KvUpReferenceIdeal.τ).loc Cert.KvUpReferenceIdeal.main_arg3) = m' ((c.tc : Thread Cert.KvUpReferenceIdeal.nD Cert.KvUpReferenceIdeal.τ).loc Cert.KvUpReferenceIdeal.main_arg3)
          ∧ r.2.mem ((c.tc : Thread Cert.KvUpReferenceIdeal.nD Cert.KvUpReferenceIdeal.τ).loc Cert.KvUpReferenceIdeal.main_arg4) = m' ((c.tc : Thread Cert.KvUpReferenceIdeal.nD Cert.KvUpReferenceIdeal.τ).loc Cert.KvUpReferenceIdeal.main_arg4)
          ∧ r.2.mem ((c.tc : Thread Cert.KvUpReferenceIdeal.nD Cert.KvUpReferenceIdeal.τ).loc Cert.KvUpReferenceIdeal.main_arg5) = m' ((c.tc : Thread Cert.KvUpReferenceIdeal.nD Cert.KvUpReferenceIdeal.τ).loc Cert.KvUpReferenceIdeal.main_arg5))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hDown : Cert.Down.Facts) (hDownIdeal : Cert.DownIdeal.Facts) (hDownReferenceIdeal : Cert.DownReferenceIdeal.Facts) (hMix : Cert.Mix.Facts) (hMixIdeal : Cert.MixIdeal.Facts) (hMixReferenceIdeal : Cert.MixReferenceIdeal.Facts) (hInAb : Cert.InAb.Facts) (hInAbIdeal : Cert.InAbIdeal.Facts) (hInAbReferenceIdeal : Cert.InAbReferenceIdeal.Facts) (hInC : Cert.InC.Facts) (hInCIdeal : Cert.InCIdeal.Facts) (hInCReferenceIdeal : Cert.InCReferenceIdeal.Facts) (hInD : Cert.InD.Facts) (hInDIdeal : Cert.InDIdeal.Facts) (hInDReferenceIdeal : Cert.InDReferenceIdeal.Facts) (hTailAb : Cert.TailAb.Facts) (hTailAbIdeal : Cert.TailAbIdeal.Facts) (hTailAbReferenceIdeal : Cert.TailAbReferenceIdeal.Facts) (hFox : Cert.Fox.Facts) (hFoxIdeal : Cert.FoxIdeal.Facts) (hFoxReferenceIdeal : Cert.FoxReferenceIdeal.Facts) (hQUp : Cert.QUp.Facts) (hQUpIdeal : Cert.QUpIdeal.Facts) (hQUpReferenceIdeal : Cert.QUpReferenceIdeal.Facts) (hKvUp : Cert.KvUp.Facts) (hKvUpIdeal : Cert.KvUpIdeal.Facts) (hKvUpReferenceIdeal : Cert.KvUpReferenceIdeal.Facts) (hPre_finite_scores : Cert.Pre_finite_scores.Facts) (hPre_finite_fox : Cert.Pre_finite_fox.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Up (hUp := hUp)
    ∧ quiescent_UpIdeal (hUpIdeal := hUpIdeal)
    ∧ quiescent_UpReferenceIdeal (hUpReferenceIdeal := hUpReferenceIdeal)
    ∧ quiescent_Down (hDown := hDown)
    ∧ quiescent_DownIdeal (hDownIdeal := hDownIdeal)
    ∧ quiescent_DownReferenceIdeal (hDownReferenceIdeal := hDownReferenceIdeal)
    ∧ quiescent_Mix (hMix := hMix)
    ∧ quiescent_MixIdeal (hMixIdeal := hMixIdeal)
    ∧ quiescent_MixReferenceIdeal (hMixReferenceIdeal := hMixReferenceIdeal)
    ∧ quiescent_InAb (hInAb := hInAb)
    ∧ quiescent_InAbIdeal (hInAbIdeal := hInAbIdeal)
    ∧ quiescent_InAbReferenceIdeal (hInAbReferenceIdeal := hInAbReferenceIdeal)
    ∧ quiescent_InC (hInC := hInC)
    ∧ quiescent_InCIdeal (hInCIdeal := hInCIdeal)
    ∧ quiescent_InCReferenceIdeal (hInCReferenceIdeal := hInCReferenceIdeal)
    ∧ quiescent_InD (hInD := hInD)
    ∧ quiescent_InDIdeal (hInDIdeal := hInDIdeal)
    ∧ quiescent_InDReferenceIdeal (hInDReferenceIdeal := hInDReferenceIdeal)
    ∧ quiescent_TailAb (hTailAb := hTailAb)
    ∧ quiescent_TailAbIdeal (hTailAbIdeal := hTailAbIdeal)
    ∧ quiescent_TailAbReferenceIdeal (hTailAbReferenceIdeal := hTailAbReferenceIdeal)
    ∧ quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxReferenceIdeal (hFoxReferenceIdeal := hFoxReferenceIdeal)
    ∧ quiescent_FoxReferenceIdeal_pre_finite_fox (hFoxReferenceIdeal := hFoxReferenceIdeal) (hPre_finite_fox := hPre_finite_fox)
    ∧ quiescent_QUp (hQUp := hQUp)
    ∧ quiescent_QUpIdeal (hQUpIdeal := hQUpIdeal)
    ∧ quiescent_QUpReferenceIdeal (hQUpReferenceIdeal := hQUpReferenceIdeal)
    ∧ quiescent_KvUp (hKvUp := hKvUp)
    ∧ quiescent_KvUpIdeal (hKvUpIdeal := hKvUpIdeal)
    ∧ quiescent_KvUpReferenceIdeal (hKvUpReferenceIdeal := hKvUpReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Up_UpIdeal
    ∧ algebraic_UpIdeal_UpReferenceIdeal (hUpIdeal := hUpIdeal) (hUpReferenceIdeal := hUpReferenceIdeal)
    ∧ preserves_Down_DownIdeal
    ∧ algebraic_DownIdeal_DownReferenceIdeal (hDownIdeal := hDownIdeal) (hDownReferenceIdeal := hDownReferenceIdeal)
    ∧ preserves_Mix_MixIdeal
    ∧ algebraic_MixIdeal_MixReferenceIdeal (hMixIdeal := hMixIdeal) (hMixReferenceIdeal := hMixReferenceIdeal)
    ∧ preserves_InAb_InAbIdeal
    ∧ algebraic_InAbIdeal_InAbReferenceIdeal (hInAbIdeal := hInAbIdeal) (hInAbReferenceIdeal := hInAbReferenceIdeal)
    ∧ preserves_InC_InCIdeal
    ∧ algebraic_InCIdeal_InCReferenceIdeal (hInCIdeal := hInCIdeal) (hInCReferenceIdeal := hInCReferenceIdeal)
    ∧ preserves_InD_InDIdeal
    ∧ algebraic_InDIdeal_InDReferenceIdeal (hInDIdeal := hInDIdeal) (hInDReferenceIdeal := hInDReferenceIdeal)
    ∧ preserves_TailAb_TailAbIdeal
    ∧ algebraic_TailAbIdeal_TailAbReferenceIdeal (hTailAbIdeal := hTailAbIdeal) (hTailAbReferenceIdeal := hTailAbReferenceIdeal)
    ∧ preserves_Fox_FoxIdeal
    ∧ algebraic_FoxIdeal_FoxReferenceIdeal_pre_finite_fox (hFoxIdeal := hFoxIdeal) (hFoxReferenceIdeal := hFoxReferenceIdeal) (hPre_finite_fox := hPre_finite_fox)
    ∧ preserves_QUp_QUpIdeal
    ∧ algebraic_QUpIdeal_QUpReferenceIdeal (hQUpIdeal := hQUpIdeal) (hQUpReferenceIdeal := hQUpReferenceIdeal)
    ∧ preserves_KvUp_KvUpIdeal
    ∧ algebraic_KvUpIdeal_KvUpReferenceIdeal (hKvUpIdeal := hKvUpIdeal) (hKvUpReferenceIdeal := hKvUpReferenceIdeal)
-- ==== Pre_finite_fox.lean ====
abbrev S4x4096x8x128 : Shape := ⟨4, ![4, 4096, 8, 128]⟩
abbrev S4x4096x8 : Shape := ⟨3, ![4, 4096, 8]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_

variable [Facts]

def fn {F : FTy → Type} [FloatOps F] (main_arg0 : FVec F S4x4096x8x128 .f32) (main_arg1 : FVec F S4x4096x8x128 .f32) (main_arg2 : FVec F S4x4096x8x128 .f32) (main_arg3 : FVec F S4x4096x8 .f32) : IVec S_ 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4096x8x128 .f32 := Host.absf main_arg1
  let main_cst_0 : FVec F S_ .f32 := constant S_ .f32 0x7F800000#32
  let main_v5 : FVec F S4x4096x8x128 .f32 := broadcastInDim S4x4096x8x128 ![] bcast_S_S4x4096x8x128 main_cst_0
  let main_v6 : IVec S4x4096x8x128 1 := cmpf .olt main_v4 main_v5
  let main_c_1 : IVec S_ 1 := constantI S_ 1 1#1
  let main_v7 : IVec S_ 1 := (fun x v => Host.reduce IntOp.andi x v reducesTo_S4x4096x8x128_S_d0_1_2_3 h_S_) main_v6 main_c_1
  let main_v8 : IVec S_ 1 := andi main_v3 main_v7
  let main_v9 : FVec F S4x4096x8 .f32 := Host.absf main_arg3
  let main_cst_2 : FVec F S_ .f32 := constant S_ .f32 0x7F800000#32
  let main_v10 : FVec F S4x4096x8 .f32 := broadcastInDim S4x4096x8 ![] bcast_S_S4x4096x8 main_cst_2
  let main_v11 : IVec S4x4096x8 1 := cmpf .olt main_v9 main_v10
  let main_c_3 : IVec S_ 1 := constantI S_ 1 1#1
  let main_v12 : IVec S_ 1 := (fun x v => Host.reduce IntOp.andi x v reducesTo_S4x4096x8_S_d0_1_2 h_S_) main_v11 main_c_3
  let main_v13 : IVec S_ 1 := andi main_v8 main_v12
  main_v13
-- ==== Pre_finite_scores.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S_ : Shape := ⟨0, ![]⟩

class Facts : Prop where
  bcast_S_S4x4096x8x128 : S_.BroadcastsInDim S4x4096x8x128 (![] : Fin 0 → Fin S4x4096x8x128.rank)
  reducesTo_S4x4096x8x128_S_d0_1_2_3 : S4x4096x8x128.ReducesTo [0, 1, 2, 3] S_
  h_S_ : 0 < S_.numel
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  bcast_S_S4x4096x64 : S_.BroadcastsInDim S4x4096x64 (![] : Fin 0 → Fin S4x4096x64.rank)
  reducesTo_S4x4096x64_S_d0_1_2 : S4x4096x64.ReducesTo [0, 1, 2] S_

variable [Facts]

def fn_part1 {F : FTy → Type} [FloatOps F] (main_v13 : IVec S_ 1) (main_v16 : IVec S4x4096x64 1) : IVec S_ 1 :=
  let main_c_5 : IVec S_ 1 := constantI S_ 1 1#1
  let main_v17 : IVec S_ 1 := (fun x v => Host.reduce IntOp.andi x v reducesTo_S4x4096x64_S_d0_1_2 h_S_) main_v16 main_c_5
  let main_v18 : IVec S_ 1 := andi main_v13 main_v17
  main_v18

def fn {F : FTy → Type} [FloatOps F] (main_arg0 : FVec F S4x4096x8x128 .f32) (main_arg1 : FVec F S4x4096x8x64 .f32) (main_arg2 : FVec F S4x4096x8x128 .f32) (main_arg3 : FVec F S4x4096x64 .f32) (main_arg4 : FVec F S4x4096x8x128 .f32) : IVec S_ 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_c : IVec S_ 1 := constantI S_ 1 1#1
  let main_v3 : IVec S_ 1 := (fun x v => Host.reduce IntOp.andi x v reducesTo_S4x4096x8x128_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  let main_v9 : FVec F S4x4096x8x128 .f32 := Host.absf main_arg2
  let main_cst_2 : FVec F S_ .f32 := constant S_ .f32 0x7F800000#32
  let main_v10 : FVec F S4x4096x8x128 .f32 := broadcastInDim S4x4096x8x128 ![] bcast_S_S4x4096x8x128 main_cst_2
  let main_v11 : IVec S4x4096x8x128 1 := cmpf .olt main_v9 main_v10
  let main_c_3 : IVec S_ 1 := constantI S_ 1 1#1
  let main_v12 : IVec S_ 1 := (fun x v => Host.reduce IntOp.andi x v reducesTo_S4x4096x8x128_S_d0_1_2_3 h_S_) main_v11 main_c_3
  let main_v13 : IVec S_ 1 := andi main_v8 main_v12
  let main_v14 : FVec F S4x4096x64 .f32 := Host.absf main_arg3
  let main_cst_4 : FVec F S_ .f32 := constant S_ .f32 0x7F800000#32
  let main_v15 : FVec F S4x4096x64 .f32 := broadcastInDim S4x4096x64 ![] bcast_S_S4x4096x64 main_cst_4
  let main_v16 : IVec S4x4096x64 1 := cmpf .olt main_v14 main_v15
  fn_part1 (F := F) main_v13 main_v16
-- ==== Kernel.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S_ : Shape := ⟨0, ![]⟩
abbrev S4x4096x8x32 : Shape := ⟨4, ![4, 4096, 8, 32]⟩
abbrev S4x4096x8x256 : Shape := ⟨4, ![4, 4096, 8, 256]⟩
abbrev S4x4096x32 : Shape := ⟨3, ![4, 4096, 32]⟩
abbrev S4x4096x128 : Shape := ⟨3, ![4, 4096, 128]⟩
abbrev S4x4096x1x128 : Shape := ⟨4, ![4, 4096, 1, 128]⟩
abbrev S16384x2048 : Shape := ⟨2, ![16384, 2048]⟩
abbrev S16384x1024 : Shape := ⟨2, ![16384, 1024]⟩
abbrev S512x1024 : Shape := ⟨2, ![512, 1024]⟩
abbrev S4096x1024 : Shape := ⟨2, ![4096, 1024]⟩
abbrev S4096x512 : Shape := ⟨2, ![4096, 512]⟩
abbrev S512x512 : Shape := ⟨2, ![512, 512]⟩
abbrev S4x1x512 : Shape := ⟨3, ![4, 1, 512]⟩
abbrev S4x144x512 : Shape := ⟨3, ![4, 144, 512]⟩
abbrev S4x8x144x512 : Shape := ⟨4, ![4, 8, 144, 512]⟩
abbrev S512x128 : Shape := ⟨2, ![512, 128]⟩
abbrev S128x512 : Shape := ⟨2, ![128, 512]⟩
abbrev S1x1x128x512 : Shape := ⟨4, ![1, 1, 128, 512]⟩
abbrev S16x512 : Shape := ⟨2, ![16, 512]⟩
abbrev S1x1x16x512 : Shape := ⟨4, ![1, 1, 16, 512]⟩
abbrev S512x256 : Shape := ⟨2, ![512, 256]⟩
abbrev S1x1x512 : Shape := ⟨3, ![1, 1, 512]⟩
abbrev S1x512 : Shape := ⟨2, ![1, 512]⟩
abbrev S512 : Shape := ⟨1, ![512]⟩
abbrev S1x1x144x512 : Shape := ⟨4, ![1, 1, 144, 512]⟩
abbrev S144x512 : Shape := ⟨2, ![144, 512]⟩
abbrev S1x144x512 : Shape := ⟨3, ![1, 144, 512]⟩

abbrev nBuf : Space → Nat
  | .hbm => 37
  | .vmem => 11
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x64, .f32⟩
  | .hbm, ⟨2, _⟩ => ⟨S4x4096x8x128, .f32⟩
  | .hbm, ⟨3, _⟩ => ⟨S4x4096x64, .f32⟩
  | .hbm, ⟨4, _⟩ => ⟨S4x4096x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4x4096x8x128, .f32⟩
  | .hbm, ⟨13, _⟩ => ⟨S4x4096x8x128, .f32⟩
  | .hbm, ⟨14, _⟩ => ⟨S4x4096x8x64, .f32⟩
  | .hbm, ⟨15, _⟩ => ⟨S4x4096x8x64, .f32⟩
  | .hbm, ⟨16, _⟩ => ⟨S_, .f32⟩
  | .hbm, ⟨17, _⟩ => ⟨S4x4096x8x32, .f32⟩
  | .hbm, ⟨18, _⟩ => ⟨S4x4096x8x32, .f32⟩
  | .hbm, ⟨19, _⟩ => ⟨S4x4096x8x32, .f32⟩
  | .hbm, ⟨20, _⟩ => ⟨S4x4096x8x128, .f32⟩
  | .hbm, ⟨21, _⟩ => ⟨S4x4096x8x256, .f32⟩
  | .hbm, ⟨22, _⟩ => ⟨S_, .f32⟩
  | .hbm, ⟨23, _⟩ => ⟨S4x4096x32, .f32⟩
  | .hbm, ⟨24, _⟩ => ⟨S4x4096x32, .f32⟩
  | .hbm, ⟨25, _⟩ => ⟨S4x4096x32, .f32⟩
  | .hbm, ⟨26, _⟩ => ⟨S4x4096x128, .f32⟩
  | .hbm, ⟨27, _⟩ => ⟨S4x4096x1x128, .f32⟩
  | .hbm, ⟨28, _⟩ => ⟨S4x4096x8x128, .f32⟩
  | .hbm, ⟨29, _⟩ => ⟨S4x4096x8x256, .f32⟩
  | .hbm, ⟨30, _⟩ => ⟨S16384x2048, .f32⟩
  | .hbm, ⟨31, _⟩ => ⟨S16384x2048, .bf16⟩
  | .hbm, ⟨32, _⟩ => ⟨S16384x2048, .f32⟩
  | .hbm, ⟨33, _⟩ => ⟨S16384x2048, .bf16⟩
  | .hbm, ⟨34, _⟩ => ⟨S16384x1024, .f32⟩
  | .hbm, ⟨35, _⟩ => ⟨S16384x1024, .bf16⟩
  | .hbm, ⟨36, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S4096x1024, .bf16⟩
  | .local _ .vmem, ⟨4, _⟩ => ⟨S4096x512, .bf16⟩
  | .local _ .vmem, ⟨5, _⟩ => ⟨S4096x512, .bf16⟩
  | .local _ .vmem, ⟨6, _⟩ => ⟨S512x512, .bf16⟩
  | .local _ .vmem, ⟨7, _⟩ => ⟨S512x512, .bf16⟩
  | .local _ .vmem, ⟨8, _⟩ => ⟨S4x1x512, .f32⟩
  | .local _ .vmem, ⟨9, _⟩ => ⟨S4x144x512, .f32⟩
  | .local _ .vmem, ⟨10, _⟩ => ⟨S4x8x144x512, .bf16⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_9 : BitVec 32 := 1#32
  ⟨c0_i32_8, v15, c1_i32_9⟩
def k0_mult1 (i : grid0.Coords) (k0_t1 : Fin (k0_t1_loop i).trips) : BitVec 32 :=
  let c0_i32_8 : BitVec 32 := 0#32
  let c1_i32_9 : BitVec 32 := 1#32
  let arg10 : BitVec 32 := Scf.iv c0_i32_8 c1_i32_9 k0_t1
  let c512_i32_112 : BitVec 32 := 512#32
  let v197 : BitVec 32 := Scalar.muli arg10 c512_i32_112
  v197
def k0_off1 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c512_i32_112 : BitVec 32 := 512#32
  let v197 : BitVec 32 := Scalar.muli arg10 c512_i32_112
  let v198 : BitVec 32 := v197
  let v199 : Index := Scalar.indexCast v198
  let c0_113 : Index := 0#32
  ![v199.toNat, 0]
def k0_off2 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c512_i32_112 : BitVec 32 := 512#32
  let v197 : BitVec 32 := Scalar.muli arg10 c512_i32_112
  let v198 : BitVec 32 := v197
  let v205 : Index := Scalar.indexCast v198
  let c256_117 : Index := 256#32
  ![v205.toNat, 256]
def k0_off3 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c512_i32_112 : BitVec 32 := 512#32
  let v197 : BitVec 32 := Scalar.muli arg10 c512_i32_112
  let v198 : BitVec 32 := v197
  let v211 : Index := Scalar.indexCast v198
  let c512_121 : Index := 512#32
  ![v211.toNat, 512]
def k0_off4 (i : grid0.Coords) (k0_t1 : Fin (k0_t1_loop i).trips) : Fin 2 → Nat :=
  let c0_i32_8 : BitVec 32 := 0#32
  let c1_i32_9 : BitVec 32 := 1#32
  let arg10 : BitVec 32 := Scf.iv c0_i32_8 c1_i32_9 k0_t1
  let c512_i32_112 : BitVec 32 := 512#32
  let v197 : BitVec 32 := Scalar.muli arg10 c512_i32_112
  let v198 : BitVec 32 := v197
  let v217 : Index := Scalar.indexCast v198
  let c768_125 : Index := 768#32
  ![v217.toNat, 768]
def k0_off5 (i : grid0.Coords) (k0_t1 : Fin (k0_t1_loop i).trips) : Fin 4 → Nat :=
  let c0_157 : Index := 0#32
  let c0_i32_8 : BitVec 32 := 0#32
  let c1_i32_9 : BitVec 32 := 1#32
  let arg10 : BitVec 32 := Scf.iv c0_i32_8 c1_i32_9 k0_t1
  let v279 : Index := Scalar.indexCast arg10
  let c0_158 : Index := 0#32
  let c0_159 : Index := 0#32
  ![0, v279.toNat, 0, 0]
def k0_off6 (i : grid0.Coords) (k0_t1 : Fin (k0_t1_loop i).trips) : Fin 4 → Nat :=
  let c1_161 : Index := 1#32
  let c0_i32_8 : BitVec 32 := 0#32
  let c1_i32_9 : BitVec 32 := 1#32
  let arg10 : BitVec 32 := Scf.iv c0_i32_8 c1_i32_9 k0_t1
  let v283 : Index := Scalar.indexCast arg10
  let c0_162 : Index := 0#32
  let c0_163 : Index := 0#32
  ![1, v283.toNat, 0, 0]
def k0_off7 (i : grid0.Coords) (k0_t1 : Fin (k0_t1_loop i).trips) : Fin 4 → Nat :=
  let c2_165 : Index := 2#32
  let c0_i32_8 : BitVec 32 := 0#32
  let c1_i32_9 : BitVec 32 := 1#32
  let arg10 : BitVec 32 := Scf.iv c0_i32_8 c1_i32_9 k0_t1
  let v287 : Index := Scalar.indexCast arg10
  let c0_166 : Index := 0#32
  let c0_167 : Index := 0#32
  ![2, v287.toNat, 0, 0]
def k0_off8 (i : grid0.Coords) (k0_t1 : Fin (k0_t1_loop i).trips) : Fin 4 → Nat :=
  let c3_169 : Index := 3#32
  let c0_i32_8 : BitVec 32 := 0#32
  let c1_i32_9 : BitVec 32 := 1#32
  let arg10 : BitVec 32 := Scf.iv c0_i32_8 c1_i32_9 k0_t1
  let v291 : Index := Scalar.indexCast arg10
  let c0_170 : Index := 0#32
  let c0_171 : Index := 0#32
  ![3, v291.toNat, 0, 0]
@[reducible] def k0_t2_loop (i : grid0.Coords) : Scf.Loop 32 :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let v12 : BitVec 32 := Scalar.addi c0_i32_8 v11
  let c1_i32_10 : BitVec 32 := 1#32
  ⟨v15, v12, c1_i32_10⟩
def k0_mult2 (i : grid0.Coords) (k0_t2 : Fin (k0_t2_loop i).trips) : BitVec 32 :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let c512_i32_112 : BitVec 32 := 512#32
  let v197 : BitVec 32 := Scalar.muli arg10 c512_i32_112
  v197
def k0_off9 (i : grid0.Coords) (k0_t2 : Fin (k0_t2_loop i).trips) : Fin 2 → Nat :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let c512_i32_112 : BitVec 32 := 512#32
  let v197 : BitVec 32 := Scalar.muli arg10 c512_i32_112
  let v198 : BitVec 32 := v197
  let v199 : Index := Scalar.indexCast v198
  let c0_113 : Index := 0#32
  ![v199.toNat, 0]
def k0_off10 (i : grid0.Coords) (k0_t2 : Fin (k0_t2_loop i).trips) : Fin 2 → Nat :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let c512_i32_112 : BitVec 32 := 512#32
  let v197 : BitVec 32 := Scalar.muli arg10 c512_i32_112
  let v198 : BitVec 32 := v197
  let v205 : Index := Scalar.indexCast v198
  let c256_117 : Index := 256#32
  ![v205.toNat, 256]
def k0_off11 (i : grid0.Coords) (k0_t2 : Fin (k0_t2_loop i).trips) : Fin 2 → Nat :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let c512_i32_112 : BitVec 32 := 512#32
  let v197 : BitVec 32 := Scalar.muli arg10 c512_i32_112
  let v198 : BitVec 32 := v197
  let v211 : Index := Scalar.indexCast v198
  let c512_121 : Index := 512#32
  ![v211.toNat, 512]
def k0_off12 (i : grid0.Coords) (k0_t2 : Fin (k0_t2_loop i).trips) : Fin 2 → Nat :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let c512_i32_112 : BitVec 32 := 512#32
  let v197 : BitVec 32 := Scalar.muli arg10 c512_i32_112
  let v198 : BitVec 32 := v197
  let v217 : Index := Scalar.indexCast v198
  let c768_125 : Index := 768#32
  ![v217.toNat, 768]
def k0_off13 (i : grid0.Coords) (k0_t2 : Fin (k0_t2_loop i).trips) : Fin 4 → Nat :=
  let c0_157 : Index := 0#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let v279 : Index := Scalar.indexCast arg10
  let c0_158 : Index := 0#32
  let c0_159 : Index := 0#32
  ![0, v279.toNat, 0, 0]
def k0_off14 (i : grid0.Coords) (k0_t2 : Fin (k0_t2_loop i).trips) : Fin 4 → Nat :=
  let c1_161 : Index := 1#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let v283 : Index := Scalar.indexCast arg10
  let c0_162 : Index := 0#32
  let c0_163 : Index := 0#32
  ![1, v283.toNat, 0, 0]
def k0_off15 (i : grid0.Coords) (k0_t2 : Fin (k0_t2_loop i).trips) : Fin 4 → Nat :=
  let c2_165 : Index := 2#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let v287 : Index := Scalar.indexCast arg10
  let c0_166 : Index := 0#32
  let c0_167 : Index := 0#32
  ![2, v287.toNat, 0, 0]
def k0_off16 (i : grid0.Coords) (k0_t2 : Fin (k0_t2_loop i).trips) : Fin 4 → Nat :=
  let c3_169 : Index := 3#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg10 : BitVec 32 := Scf.iv v15 c1_i32_10 k0_t2
  let v291 : Index := Scalar.indexCast arg10
  let c0_170 : Index := 0#32
  let c0_171 : Index := 0#32
  ![3, v291.toNat, 0, 0]
def k0_mult3 (i : grid0.Coords) : BitVec 32 :=
  let arg2 : BitVec 32 := BitVec.ofNat 32 (i 2).val
  let c512_i32 : BitVec 32 := 512#32
  let v16 : BitVec 32 := Scalar.muli arg2 c512_i32
  v16
def k0_off17 (i : grid0.Coords) : Fin 2 → Nat :=
  let arg2 : BitVec 32 := BitVec.ofNat 32 (i 2).val
  let c512_i32 : BitVec 32 := 512#32
  let v16 : BitVec 32 := Scalar.muli arg2 c512_i32
  let v17 : BitVec 32 := v16
  let v18 : Index := Scalar.indexCast v17
  let c0_11 : Index := 0#32
  ![v18.toNat, 0]
def k0_off18 (i : grid0.Coords) : Fin 2 → Nat :=
  let arg2 : BitVec 32 := BitVec.ofNat 32 (i 2).val
  let c512_i32 : BitVec 32 := 512#32
  let v16 : BitVec 32 := Scalar.muli arg2 c512_i32
  let v17 : BitVec 32 := v16
  let v24 : Index := Scalar.indexCast v17
  let c256 : Index := 256#32
  ![v24.toNat, 256]
def k0_off19 (i : grid0.Coords) : Fin 2 → Nat :=
  let arg2 : BitVec 32 := BitVec.ofNat 32 (i 2).val
  let c512_i32 : BitVec 32 := 512#32
  let v16 : BitVec 32 := Scalar.muli arg2 c512_i32
  let v17 : BitVec 32 := v16
  let v30 : Index := Scalar.indexCast v17
  let c512 : Index := 512#32
  ![v30.toNat, 512]
def k0_off20 (i : grid0.Coords) : Fin 2 → Nat :=
  let arg2 : BitVec 32 := BitVec.ofNat 32 (i 2).val
  let c512_i32 : BitVec 32 := 512#32
  let v16 : BitVec 32 := Scalar.muli arg2 c512_i32
  let v17 : BitVec 32 := v16
  let v36 : Index := Scalar.indexCast v17
  let c768 : Index := 768#32
  ![v36.toNat, 768]
def k0_off21 (i : grid0.Coords) : Fin 4 → Nat :=
  let c0_54 : Index := 0#32
  let arg2 : BitVec 32 := BitVec.ofNat 32 (i 2).val
  let v113 : Index := Scalar.indexCast arg2
  let c0_55 : Index := 0#32
  let c0_56 : Index := 0#32
  ![0, v113.toNat, 0, 0]
def k0_off22 (i : grid0.Coords) : Fin 4 → Nat :=
  let c1_58 : Index := 1#32
  let arg2 : BitVec 32 := BitVec.ofNat 32 (i 2).val
  let v117 : Index := Scalar.indexCast arg2
  let c0_59 : Index := 0#32
  let c0_60 : Index := 0#32
  ![1, v117.toNat, 0, 0]
def k0_off23 (i : grid0.Coords) : Fin 4 → Nat :=
  let c2_62 : Index := 2#32
  let arg2 : BitVec 32 := BitVec.ofNat 32 (i 2).val
  let v121 : Index := Scalar.indexCast arg2
  let c0_63 : Index := 0#32
  let c0_64 : Index := 0#32
  ![2, v121.toNat, 0, 0]
def k0_off24 (i : grid0.Coords) : Fin 4 → Nat :=
  let c3_66 : Index := 3#32
  let arg2 : BitVec 32 := BitVec.ofNat 32 (i 2).val
  let v125 : Index := Scalar.indexCast arg2
  let c0_67 : Index := 0#32
  let c0_68 : Index := 0#32
  ![3, v125.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x8x128 : Shape := ⟨4, ![4, 4096, 8, 128]⟩
abbrev S4x4096x8x64 : Shape := ⟨4, ![4, 4096, 8, 64]⟩
abbrev S4x4096x64 : Shape := ⟨3, ![4, 4096, 64]⟩
abbrev S_ : Shape := ⟨0, ![]⟩
abbrev S64x64 : Shape := ⟨2, ![64, 64]⟩
abbrev S4096 : Shape := ⟨1, ![4096]⟩
abbrev S4x8x4096x4096 : Shape := ⟨4, ![4, 8, 4096, 4096]⟩
abbrev S4x4096x4096x8 : Shape := ⟨4, ![4, 4096, 4096, 8]⟩
abbrev S1x4096 : Shape := ⟨2, ![1, 4096]⟩
abbrev S4096x1 : Shape := ⟨2, ![4096, 1]⟩
abbrev S4096x4096 : Shape := ⟨2, ![4096, 4096]⟩
abbrev S4x8x4096 : Shape := ⟨3, ![4, 8, 4096]⟩
abbrev S4x8x4096x1 : Shape := ⟨4, ![4, 8, 4096, 1]⟩
abbrev S4x8x128x4096 : Shape := ⟨4, ![4, 8, 128, 4096]⟩
abbrev S16384x1024 : Shape := ⟨2, ![16384, 1024]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x64, .f32⟩
  | .hbm, ⟨2, _⟩ => ⟨S4x4096x8x128, .f32⟩
  | .hbm, ⟨3, _⟩ => ⟨S4x4096x64, .f32⟩
  | .hbm, ⟨4, _⟩ => ⟨S4x4096x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S64x64, .i32⟩
  | .hbm, ⟨10, _⟩ => ⟨S4096, .i32⟩
  | .hbm, ⟨11, _⟩ => ⟨S4x8x4096x4096, .f32⟩
  | .hbm, ⟨12, _⟩ => ⟨S4x4096x4096x8, .f32⟩
  | .hbm, ⟨13, _⟩ => ⟨S4x8x4096x4096, .f32⟩
  | .hbm, ⟨14, _⟩ => ⟨S4x8x4096x4096, .f32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S4x8x4096x4096, .f32⟩
  | .hbm, ⟨21, _⟩ => ⟨S4x8x4096x4096, .f32⟩
  | .hbm, ⟨22, _⟩ => ⟨S_, .f32⟩
  | .hbm, ⟨23, _⟩ => ⟨S_, .f32⟩
  | .hbm, ⟨24, _⟩ => ⟨S4x8x4096x4096, .i1⟩
  | .hbm, ⟨25, _⟩ => ⟨S4x8x4096x4096, .f32⟩
  | .hbm, ⟨26, _⟩ => ⟨S4x8x4096x4096, .f32⟩
  | .hbm, ⟨27, _⟩ => ⟨S_, .f32⟩
  | .hbm, ⟨28, _⟩ => ⟨S4x8x4096, .f32⟩
  | .hbm, ⟨29, _⟩ => ⟨S_, .f32⟩
  | .hbm, ⟨30, _⟩ => ⟨S4x8x4096, .f32⟩
  | .hbm, ⟨31, _⟩ => ⟨S4x8x4096, .f32⟩
  | .hbm, ⟨32, _⟩ => ⟨S4x8x4096x1, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S_, .f32⟩
  | .hbm, ⟨37, _⟩ => ⟨S4x8x4096, .f32⟩
  | .hbm, ⟨38, _⟩ => ⟨S4x8x4096x1, .f32⟩
  | .hbm, ⟨39, _⟩ => ⟨S4x8x4096x4096, .f32⟩
  | .hbm, ⟨40, _⟩ => ⟨S4x8x4096x4096, .f32⟩
  | .hbm, ⟨41, _⟩ => ⟨S4x8x128x4096, .f32⟩
  | .hbm, ⟨42, _⟩ => ⟨S4x4096x8x128, .f32⟩
  | .hbm, ⟨43, _⟩ => ⟨S16384x1024, .f32⟩
  | .hbm, ⟨44, _⟩ => ⟨S16384x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Up.lean ====
abbrev S4x4096x2048 : Shape := ⟨3, ![4, 4096, 2048]⟩
abbrev S2x2048x5632 : Shape := ⟨3, ![2, 2048, 5632]⟩
abbrev S16384x2048 : Shape := ⟨2, ![16384, 2048]⟩
abbrev S16384x5632 : Shape := ⟨2, ![16384, 5632]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2x2048x5632, .f32⟩
  | .hbm, ⟨2, _⟩ => ⟨S2x2048x5632, .f32⟩
  | .hbm, ⟨3, _⟩ => ⟨S16384x2048, .f32⟩
  | .hbm, ⟨4, _⟩ => ⟨S16384x2048, .bf16⟩
  | .hbm, ⟨5, _⟩ => ⟨S16384x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1024x512, .bf16⟩
  | .local _ .vmem, ⟨7, _⟩ => ⟨S1024x512, .bf16⟩
  | .local _ .vmem, ⟨8, _⟩ => ⟨S2048x512, .bf16⟩
  | .local _ .vmem, ⟨9, _⟩ => ⟨S2048x512, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpReferenceIdeal.lean ====
abbrev S4x4096x2048 : Shape := ⟨3, ![4, 4096, 2048]⟩
abbrev S2x2048x5632 : Shape := ⟨3, ![2, 2048, 5632]⟩
abbrev S1x2048x5632 : Shape := ⟨3, ![1, 2048, 5632]⟩
abbrev S2048x5632 : Shape := ⟨2, ![2048, 5632]⟩
abbrev S4x4096x5632 : Shape := ⟨3, ![4, 4096, 5632]⟩
abbrev S_ : Shape := ⟨0, ![]⟩
abbrev S16384x5632 : Shape := ⟨2, ![16384, 5632]⟩

abbrev nBuf : Space → Nat
  | .hbm => 21
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x5632, .f32⟩
  | .hbm, ⟨2, _⟩ => ⟨S2x2048x5632, .f32⟩
  | .hbm, ⟨3, _⟩ => ⟨S1x2048x5632, .f32⟩
  | .hbm, ⟨4, _⟩ => ⟨S2048x5632, .f32⟩
  | .hbm, ⟨5, _⟩ => ⟨S4x4096x5632, .f32⟩
  | .hbm, ⟨6, _⟩ => ⟨S4x4096x5632, .f32⟩
  | .hbm, ⟨7, _⟩ => ⟨S4x4096x5632, .f32⟩
  | .hbm, ⟨8, _⟩ => ⟨S_, .f32⟩
  | .hbm, ⟨9, _⟩ => ⟨S4x4096x5632, .f32⟩
  | .hbm, ⟨10, _⟩ => ⟨S4x4096x5632, .f32⟩
  | .hbm, ⟨11, _⟩ => ⟨S_, .f32⟩
  | .hbm, ⟨12, _⟩ => ⟨S4x4096x5632, .f32⟩
  | .hbm, ⟨13, _⟩ => ⟨S4x4096x5632, .f32⟩
  | .hbm, ⟨14, _⟩ => ⟨S4x4096x5632, .f32⟩
  | .hbm, ⟨15, _⟩ => ⟨S1x2048x5632, .f32⟩
  | .hbm, ⟨16, _⟩ => ⟨S2048x5632, .f32⟩
  | .hbm, ⟨17, _⟩ => ⟨S4x4096x5632, .f32⟩
  | .hbm, ⟨18, _⟩ => ⟨S4x4096x5632, .f32⟩
  | .hbm, ⟨19, _⟩ => ⟨S16384x5632, .f32⟩
  | .hbm, ⟨20, _⟩ => ⟨S16384x5632, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Down.lean ====
abbrev S4x4096x5632 : Shape := ⟨3, ![4, 4096, 5632]⟩
abbrev S2x5632x2048 : Shape := ⟨3, ![2, 5632, 2048]⟩
abbrev S4x4096x2048 : Shape := ⟨3, ![4, 4096, 2048]⟩
abbrev S4x12288 : Shape := ⟨2, ![4, 12288]⟩
abbrev S2x2048 : Shape := ⟨2, ![2, 2048]⟩
abbrev S_ : Shape := ⟨0, ![]⟩
abbrev S8x12288 : Shape := ⟨2, ![8, 12288]⟩
abbrev S8x6x2048 : Shape := ⟨3, ![8, 6, 2048]⟩
abbrev S16384x5632 : Shape := ⟨2, ![16384, 5632]⟩
abbrev S16384x2048 : Shape := ⟨2, ![16384, 2048]⟩
abbrev S1x2048 : Shape := ⟨2, ![1, 2048]⟩
abbrev S2048 : Shape := ⟨1, ![2048]⟩
abbrev S512x5632 : Shape := ⟨2, ![512, 5632]⟩
abbrev S1x5632x2048 : Shape := ⟨3, ![1, 5632, 2048]⟩
abbrev S512x2048 : Shape := ⟨2, ![512, 2048]⟩
abbrev S1x6x2048 : Shape := ⟨3, ![1, 6, 2048]⟩
abbrev S256x5632 : Shape := ⟨2, ![256, 5632]⟩
abbrev S5632x2048 : Shape := ⟨2, ![5632, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 21
  | .vmem => 13
  | .smem => 0
  | _ => 0

abbrev bufTy : (tb : Table) → Fin (tcTables nBuf tb) → BufTy
  | .hbm, ⟨0, _⟩ => ⟨S4x4096x5632, .f32⟩
  | .hbm, ⟨1, _⟩ => ⟨S2x5632x2048, .f32⟩
  | .hbm, ⟨2, _⟩ => ⟨S4x4096x2048, .f32⟩
  | .hbm, ⟨3, _⟩ => ⟨S4x12288, .f32⟩
  | .hbm, ⟨4, _⟩ => ⟨S2x2048, .f32⟩
  | .hbm, ⟨5, _⟩ => ⟨S2x2048, .f32⟩
  | .hbm, ⟨6, _⟩ => ⟨S_, .f32⟩
  | .hbm, ⟨7, _⟩ => ⟨S4x12288, .f32⟩
  | .hbm, ⟨8, _⟩ => ⟨S8x12288, .f32⟩
  | .hbm, ⟨9, _⟩ => ⟨S8x6x2048, .f32⟩
  | .hbm, ⟨10, _⟩ => ⟨S16384x5632, .f32⟩
  | .hbm, ⟨11, _⟩ => ⟨S16384x5632, .bf16⟩
  | .hbm, ⟨12, _⟩ => ⟨S2x5632x2048, .bf16⟩
  | .hbm, ⟨13, _⟩ => ⟨S16384x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1x2048, .f32⟩
  | .hbm, ⟨20, _⟩ => ⟨S16384x2048, .f32⟩
  | .local _ .vmem, ⟨0, _⟩ => ⟨S512x5632, .bf16⟩
  | .local _ .vmem, ⟨1, _⟩ => ⟨S512x5632, .bf16⟩
  | .local _ .vmem, ⟨2, _⟩ => ⟨S1x5632x2048, .bf16⟩
  | .local _ .vmem, ⟨3, _⟩ => ⟨S512x2048, .f32⟩
  | .local _ .vmem, ⟨4, _⟩ => ⟨S512x2048, .f32⟩
  | .local _ .vmem, ⟨5, _⟩ => ⟨S1x6x2048, .f32⟩
  | .local _ .vmem, ⟨6, _⟩ => ⟨S1x6x2048, .f32⟩
  | .local _ .vmem, ⟨7, _⟩ => ⟨S1x6x2048, .f32⟩
  | .local _ .vmem, ⟨8, _⟩ => ⟨S1x6x2048, .f32⟩
  | .local _ .vmem, ⟨9, _⟩ => ⟨S1x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4x4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x6x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x6x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownReferenceIdeal.lean ====
abbrev S4x4096x5632 : Shape := ⟨3, ![4, 4096, 5632]⟩
abbrev S2x5632x2048 : Shape := ⟨3, ![2, 5632, 2048]⟩
abbrev S4x4096x2048 : Shape := ⟨3, ![4, 4096, 2048]⟩
abbrev S4x12288 : Shape := ⟨2, ![4, 12288]⟩
abbrev S2x2048 : Shape := ⟨2, ![2, 2048]⟩
abbrev S4x2048 : Shape := ⟨2, ![4, 2048]⟩
abbrev S4x1x2048 : Shape := ⟨3, ![4, 1, 2048]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 38
  | .vmem => 0
  | .smem => 0
  | _ => 0

abbrev bufTy : (tb : Table) → Fin (tcTables nBuf tb) → BufTy
  | .hbm, ⟨0, _⟩ => ⟨S4x4096x5632, .f32⟩
  | .hbm, ⟨1, _⟩ => ⟨S2x5632x2048, .f32⟩
  | .hbm, ⟨2, _⟩ => ⟨S4x4096x2048, .f32⟩
  | .hbm, ⟨3, _⟩ => ⟨S4x12288, .f32⟩
  | .hbm, ⟨4, _⟩ => ⟨S2x2048, .f32⟩
  | .hbm, ⟨5, _⟩ => ⟨S2x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x1x2048, .f32⟩
  | .hbm, ⟨13, _⟩ => ⟨S1x5632x2048, .f32⟩
  | .hbm, ⟨14, _⟩ => ⟨S5632x2048, .f32⟩
  | .hbm, ⟨15, _⟩ => ⟨S4x4096x2048, .f32⟩
  | .hbm, ⟨16, _⟩ => ⟨S1x2048, .f32⟩
  | .hbm, ⟨17, _⟩ => ⟨S2048, .f32⟩
  | .hbm, ⟨18, _⟩ => ⟨S4x4096x2048, .f32⟩
  | .hbm, ⟨19, _⟩ => ⟨S_, .f32⟩
  | .hbm, ⟨20, _⟩ => ⟨S4x4096, .f32⟩
  | .hbm, ⟨21, _⟩ => ⟨S4x4096x1, .f32⟩
  | .hbm, ⟨22, _⟩ => ⟨S_, .f32⟩
  | .hbm, ⟨23, _⟩ => ⟨S4x4096x1, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S4x4096x1, .f32⟩
  | .hbm, ⟨29, _⟩ => ⟨S4x4096x2048, .f32⟩
  | .hbm, ⟨30, _⟩ => ⟨S4x4096x2048, .f32⟩
  | .hbm, ⟨31, _⟩ => ⟨S1x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S16384x2048, .f32⟩
  | _, _ => ⟨S4x4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Mix.lean ====
abbrev S4x4096x1024 : Shape := ⟨3, ![4, 4096, 1024]⟩
abbrev S1x2048x2048 : Shape := ⟨3, ![1, 2048, 2048]⟩
abbrev S4x4096x2048 : Shape := ⟨3, ![4, 4096, 2048]⟩
abbrev S4x12288 : Shape := ⟨2, ![4, 12288]⟩
abbrev S2x2048 : Shape := ⟨2, ![2, 2048]⟩
abbrev S_ : Shape := ⟨0, ![]⟩
abbrev S8x12288 : Shape := ⟨2, ![8, 12288]⟩
abbrev S8x6x2048 : Shape := ⟨3, ![8, 6, 2048]⟩
abbrev S16384x1024 : Shape := ⟨2, ![16384, 1024]⟩
abbrev S16384x2048 : Shape := ⟨2, ![16384, 2048]⟩
abbrev S1x2048 : Shape := ⟨2, ![1, 2048]⟩
abbrev S2048 : Shape := ⟨1, ![2048]⟩
abbrev S512x1024 : Shape := ⟨2, ![512, 1024]⟩
abbrev S1x1024x2048 : Shape := ⟨3, ![1, 1024, 2048]⟩
abbrev S512x2048 : Shape := ⟨2, ![512, 2048]⟩
abbrev S1x6x2048 : Shape := ⟨3, ![1, 6, 2048]⟩
abbrev S1024x2048 : Shape := ⟨2, ![1024, 2048]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 24
  | .vmem => 20
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1x2048x2048, .f32⟩
  | .hbm, ⟨3, _⟩ => ⟨S4x4096x2048, .f32⟩
  | .hbm, ⟨4, _⟩ => ⟨S4x12288, .f32⟩
  | .hbm, ⟨5, _⟩ => ⟨S2x2048, .f32⟩
  | .hbm, ⟨6, _⟩ => ⟨S2x2048, .f32⟩
  | .hbm, ⟨7, _⟩ => ⟨S_, .f32⟩
  | .hbm, ⟨8, _⟩ => ⟨S4x12288, .f32⟩
  | .hbm, ⟨9, _⟩ => ⟨S8x12288, .f32⟩
  | .hbm, ⟨10, _⟩ => ⟨S8x6x2048, .f32⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x1024, .bf16⟩
  | .hbm, ⟨15, _⟩ => ⟨S16384x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S2048, .f32⟩
  | .hbm, ⟨20, _⟩ => ⟨S1x2048, .f32⟩
  | .hbm, ⟨21, _⟩ => ⟨S1x2048, .f32⟩
  | .hbm, ⟨22, _⟩ => ⟨S16384x2048, .f32⟩
  | .hbm, ⟨23, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .f32⟩
  | .local _ .vmem, ⟨5, _⟩ => ⟨S1x1024x2048, .f32⟩
  | .local _ .vmem, ⟨6, _⟩ => ⟨S512x2048, .f32⟩
  | .local _ .vmem, ⟨7, _⟩ => ⟨S512x2048, .f32⟩
  | .local _ .vmem, ⟨8, _⟩ => ⟨S1x6x2048, .f32⟩
  | .local _ .vmem, ⟨9, _⟩ => ⟨S1x6x2048, .f32⟩
  | .local _ .vmem, ⟨10, _⟩ => ⟨S1x6x2048, .f32⟩
  | .local _ .vmem, ⟨11, _⟩ => ⟨S1x6x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | .local _ .vmem, ⟨18, _⟩ => ⟨S1024x2048, .bf16⟩
  | .local _ .vmem, ⟨19, _⟩ => ⟨S1024x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x6x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixReferenceIdeal.lean ====
abbrev S4x4096x1024 : Shape := ⟨3, ![4, 4096, 1024]⟩
abbrev S1x2048x2048 : Shape := ⟨3, ![1, 2048, 2048]⟩
abbrev S4x4096x2048 : Shape := ⟨3, ![4, 4096, 2048]⟩
abbrev S4x12288 : Shape := ⟨2, ![4, 12288]⟩
abbrev S2x2048 : Shape := ⟨2, ![2, 2048]⟩
abbrev S4x2048 : Shape := ⟨2, ![4, 2048]⟩
abbrev S4x1x2048 : Shape := ⟨3, ![4, 1, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 71
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S1x2048x2048, .f32⟩
  | .hbm, ⟨3, _⟩ => ⟨S4x4096x2048, .f32⟩
  | .hbm, ⟨4, _⟩ => ⟨S4x12288, .f32⟩
  | .hbm, ⟨5, _⟩ => ⟨S2x2048, .f32⟩
  | .hbm, ⟨6, _⟩ => ⟨S2x2048, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S4x1x2048, .f32⟩
  | .hbm, ⟨14, _⟩ => ⟨S4x1x2048, .f32⟩
  | .hbm, ⟨15, _⟩ => ⟨S4x1x2048, .f32⟩
  | .hbm, ⟨16, _⟩ => ⟨S4x1x2048, .f32⟩
  | .hbm, ⟨17, _⟩ => ⟨S4x1x2048, .f32⟩
  | .hbm, ⟨18, _⟩ => ⟨S4x1x2048, .f32⟩
  | .hbm, ⟨19, _⟩ => ⟨S4x4096x2048, .f32⟩
  | .hbm, ⟨20, _⟩ => ⟨S2048x2048, .f32⟩
  | .hbm, ⟨21, _⟩ => ⟨S4x4096x2048, .f32⟩
  | .hbm, ⟨22, _⟩ => ⟨S1x2048, .f32⟩
  | .hbm, ⟨23, _⟩ => ⟨S2048, .f32⟩
  | .hbm, ⟨24, _⟩ => ⟨S4x4096x2048, .f32⟩
  | .hbm, ⟨25, _⟩ => ⟨S_, .f32⟩
  | .hbm, ⟨26, _⟩ => ⟨S4x4096, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S4x4096x1, .f32⟩
  | .hbm, ⟨35, _⟩ => ⟨S4x4096x2048, .f32⟩
  | .hbm, ⟨36, _⟩ => ⟨S4x4096x2048, .f32⟩
  | .hbm, ⟨37, _⟩ => ⟨S1x1x2048, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S1x2048, .f32⟩
  | .hbm, ⟨44, _⟩ => ⟨S2048, .f32⟩
  | .hbm, ⟨45, _⟩ => ⟨S4x4096x2048, .f32⟩
  | .hbm, ⟨46, _⟩ => ⟨S_, .f32⟩
  | .hbm, ⟨47, _⟩ => ⟨S4x4096, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S4x4096x1, .f32⟩
  | .hbm, ⟨56, _⟩ => ⟨S4x4096x2048, .f32⟩
  | .hbm, ⟨57, _⟩ => ⟨S4x4096x2048, .f32⟩
  | .hbm, ⟨58, _⟩ => ⟨S1x1x2048, .f32⟩
  | .hbm, ⟨59, _⟩ => ⟨S4x4096x2048, .f32⟩
  | .hbm, ⟨60, _⟩ => ⟨S4x4096x2048, .f32⟩
  | .hbm, ⟨61, _⟩ => ⟨S_, .f32⟩
  | .hbm, ⟨62, _⟩ => ⟨S4x1x2048, .f32⟩
  | .hbm, ⟨63, _⟩ => ⟨S4x1x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S4x4096x2048, .f32⟩
  | .hbm, ⟨68, _⟩ => ⟨S16384x2048, .f32⟩
  | .hbm, ⟨69, _⟩ => ⟨S16384x2048, .f32⟩
  | .hbm, ⟨70, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_cst_0 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩

abbrev nD : Nat := 1
abbrev τ : Topo := Topo.v7x

variable {F : FTy → Type} [FloatOps F]
-- ==== InAb.lean ====
abbrev S4x4096x2048 : Shape := ⟨3, ![4, 4096, 2048]⟩
abbrev S1x2048x5200 : Shape := ⟨3, ![1, 2048, 5200]⟩
abbrev S16384x2048 : Shape := ⟨2, ![16384, 2048]⟩
abbrev S16384x4096 : Shape := ⟨2, ![16384, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S1x2048x5200, .f32⟩
  | .hbm, ⟨2, _⟩ => ⟨S16384x2048, .f32⟩
  | .hbm, ⟨3, _⟩ => ⟨S16384x2048, .bf16⟩
  | .hbm, ⟨4, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InAbReferenceIdeal.lean ====
abbrev S4x4096x2048 : Shape := ⟨3, ![4, 4096, 2048]⟩
abbrev S1x2048x5200 : Shape := ⟨3, ![1, 2048, 5200]⟩
abbrev S2048x5200 : Shape := ⟨2, ![2048, 5200]⟩
abbrev S4x4096x5200 : Shape := ⟨3, ![4, 4096, 5200]⟩
abbrev S4x4096x4096 : Shape := ⟨3, ![4, 4096, 4096]⟩
abbrev S16384x4096 : Shape := ⟨2, ![16384, 4096]⟩

abbrev nBuf : Space → Nat
  | .hbm => 6
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x5200, .f32⟩
  | .hbm, ⟨2, _⟩ => ⟨S2048x5200, .f32⟩
  | .hbm, ⟨3, _⟩ => ⟨S4x4096x5200, .f32⟩
  | .hbm, ⟨4, _⟩ => ⟨S4x4096x4096, .f32⟩
  | .hbm, ⟨5, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InC.lean ====
abbrev S4x4096x2048 : Shape := ⟨3, ![4, 4096, 2048]⟩
abbrev S1x2048x7176 : Shape := ⟨3, ![1, 2048, 7176]⟩
abbrev S_ : Shape := ⟨0, ![]⟩
abbrev S1024 : Shape := ⟨1, ![1024]⟩
abbrev S4096 : Shape := ⟨1, ![4096]⟩
abbrev S16384x2048 : Shape := ⟨2, ![16384, 2048]⟩
abbrev S1x4096 : Shape := ⟨2, ![1, 4096]⟩
abbrev S16384x4096 : Shape := ⟨2, ![16384, 4096]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S1x2048x7176, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S4096, .f32⟩
  | .hbm, ⟨8, _⟩ => ⟨S16384x2048, .f32⟩
  | .hbm, ⟨9, _⟩ => ⟨S16384x2048, .bf16⟩
  | .hbm, ⟨10, _⟩ => ⟨S1x4096, .f32⟩
  | .hbm, ⟨11, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InCReferenceIdeal.lean ====
abbrev S4x4096x2048 : Shape := ⟨3, ![4, 4096, 2048]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x4096 : Shape := ⟨3, ![4, 4096, 4096]⟩
abbrev S4x4096x1024 : Shape := ⟨3, ![4, 4096, 1024]⟩
abbrev S_ : Shape := ⟨0, ![]⟩
abbrev S16384x4096 : Shape := ⟨2, ![16384, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x7176, .f32⟩
  | .hbm, ⟨2, _⟩ => ⟨S2048x7176, .f32⟩
  | .hbm, ⟨3, _⟩ => ⟨S4x4096x7176, .f32⟩
  | .hbm, ⟨4, _⟩ => ⟨S4x4096x4096, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S_, .f32⟩
  | .hbm, ⟨10, _⟩ => ⟨S4x4096x1024, .f32⟩
  | .hbm, ⟨11, _⟩ => ⟨S4x4096x1024, .f32⟩
  | .hbm, ⟨12, _⟩ => ⟨S4x4096x4096, .f32⟩
  | .hbm, ⟨13, _⟩ => ⟨S16384x4096, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InD.lean ====
abbrev S4x4096x2048 : Shape := ⟨3, ![4, 4096, 2048]⟩
abbrev S1x2048x7176 : Shape := ⟨3, ![1, 2048, 7176]⟩
abbrev S_ : Shape := ⟨0, ![]⟩
abbrev S1024 : Shape := ⟨1, ![1024]⟩
abbrev S3072 : Shape := ⟨1, ![3072]⟩
abbrev S16384x2048 : Shape := ⟨2, ![16384, 2048]⟩
abbrev S1x3072 : Shape := ⟨2, ![1, 3072]⟩
abbrev S16384x3072 : Shape := ⟨2, ![16384, 3072]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x2048, .f32⟩
  | .hbm, ⟨1, _⟩ => ⟨S1x2048x7176, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S3072, .f32⟩
  | .hbm, ⟨8, _⟩ => ⟨S16384x2048, .f32⟩
  | .hbm, ⟨9, _⟩ => ⟨S16384x2048, .bf16⟩
  | .hbm, ⟨10, _⟩ => ⟨S1x3072, .f32⟩
  | .hbm, ⟨11, _⟩ => ⟨S16384x3072, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InDReferenceIdeal.lean ====
abbrev S4x4096x2048 : Shape := ⟨3, ![4, 4096, 2048]⟩
abbrev S1x2048x7176 : Shape := ⟨3, ![1, 2048, 7176]⟩
abbrev S2048x7176 : Shape := ⟨2, ![2048, 7176]⟩
abbrev S4x4096x7176 : Shape := ⟨3, ![4, 4096, 7176]⟩
abbrev S4x4096x3072 : Shape := ⟨3, ![4, 4096, 3072]⟩
abbrev S4x4096x1024 : Shape := ⟨3, ![4, 4096, 1024]⟩
abbrev S_ : Shape := ⟨0, ![]⟩
abbrev S16384x3072 : Shape := ⟨2, ![16384, 3072]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x7176, .f32⟩
  | .hbm, ⟨2, _⟩ => ⟨S2048x7176, .f32⟩
  | .hbm, ⟨3, _⟩ => ⟨S4x4096x7176, .f32⟩
  | .hbm, ⟨4, _⟩ => ⟨S4x4096x3072, .f32⟩
  | .hbm, ⟨5, _⟩ => ⟨S4x4096x1024, .f32⟩
  | .hbm, ⟨6, _⟩ => ⟨S4x4096x1024, .f32⟩
  | .hbm, ⟨7, _⟩ => ⟨S4x4096x1024, .f32⟩
  | .hbm, ⟨8, _⟩ => ⟨S_, .f32⟩
  | .hbm, ⟨9, _⟩ => ⟨S4x4096x1024, .f32⟩
  | .hbm, ⟨10, _⟩ => ⟨S4x4096x1024, .f32⟩
  | .hbm, ⟨11, _⟩ => ⟨S4x4096x3072, .f32⟩
  | .hbm, ⟨12, _⟩ => ⟨S16384x3072, .f32⟩
  | .hbm, ⟨13, _⟩ => ⟨S16384x3072, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== TailAb.lean ====
abbrev S4x4096x2048 : Shape := ⟨3, ![4, 4096, 2048]⟩
abbrev S1x2048x5200 : Shape := ⟨3, ![1, 2048, 5200]⟩
abbrev S2048x5200 : Shape := ⟨2, ![2048, 5200]⟩
abbrev S2048x8 : Shape := ⟨2, ![2048, 8]⟩
abbrev S2048x512 : Shape := ⟨2, ![2048, 512]⟩
abbrev S2048x64 : Shape := ⟨2, ![2048, 64]⟩
abbrev S_ : Shape := ⟨0, ![]⟩
abbrev S2048x32 : Shape := ⟨2, ![2048, 32]⟩
abbrev S2048x128 : Shape := ⟨2, ![2048, 128]⟩
abbrev S2048x112 : Shape := ⟨2, ![2048, 112]⟩
abbrev S2048x1280 : Shape := ⟨2, ![2048, 1280]⟩
abbrev S16384x2048 : Shape := ⟨2, ![16384, 2048]⟩
abbrev S16384x1280 : Shape := ⟨2, ![16384, 1280]⟩
abbrev S1024x2048 : Shape := ⟨2, ![1024, 2048]⟩
abbrev S1024x1280 : Shape := ⟨2, ![1024, 1280]⟩

abbrev nBuf : Space → Nat
  | .hbm => 19
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S1x2048x5200, .f32⟩
  | .hbm, ⟨2, _⟩ => ⟨S2048x5200, .f32⟩
  | .hbm, ⟨3, _⟩ => ⟨S2048x8, .f32⟩
  | .hbm, ⟨4, _⟩ => ⟨S2048x8, .f32⟩
  | .hbm, ⟨5, _⟩ => ⟨S2048x512, .f32⟩
  | .hbm, ⟨6, _⟩ => ⟨S2048x512, .f32⟩
  | .hbm, ⟨7, _⟩ => ⟨S2048x64, .f32⟩
  | .hbm, ⟨8, _⟩ => ⟨S_, .f32⟩
  | .hbm, ⟨9, _⟩ => ⟨S2048x32, .f32⟩
  | .hbm, ⟨10, _⟩ => ⟨S2048x32, .f32⟩
  | .hbm, ⟨11, _⟩ => ⟨S2048x32, .f32⟩
  | .hbm, ⟨12, _⟩ => ⟨S2048x128, .f32⟩
  | .hbm, ⟨13, _⟩ => ⟨S_, .f32⟩
  | .hbm, ⟨14, _⟩ => ⟨S2048x112, .f32⟩
  | .hbm, ⟨15, _⟩ => ⟨S2048x1280, .f32⟩
  | .hbm, ⟨16, _⟩ => ⟨S16384x2048, .f32⟩
  | .hbm, ⟨17, _⟩ => ⟨S16384x2048, .bf16⟩
  | .hbm, ⟨18, _⟩ => ⟨S16384x1280, .f32⟩
  | .local _ .vmem, ⟨0, _⟩ => ⟨S1024x2048, .bf16⟩
  | .local _ .vmem, ⟨1, _⟩ => ⟨S1024x2048, .bf16⟩
  | .local _ .vmem, ⟨2, _⟩ => ⟨S2048x1280, .f32⟩
  | .local _ .vmem, ⟨3, _⟩ => ⟨S1024x1280, .f32⟩
  | .local _ .vmem, ⟨4, _⟩ => ⟨S1024x1280, .f32⟩
  | .local _ .vmem, ⟨5, _⟩ => ⟨S2048x1280, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x1280 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== TailAbReferenceIdeal.lean ====
abbrev S4x4096x2048 : Shape := ⟨3, ![4, 4096, 2048]⟩
abbrev S1x2048x5200 : Shape := ⟨3, ![1, 2048, 5200]⟩
abbrev S2048x5200 : Shape := ⟨2, ![2048, 5200]⟩
abbrev S4x4096x5200 : Shape := ⟨3, ![4, 4096, 5200]⟩
abbrev S4x4096x3072 : Shape := ⟨3, ![4, 4096, 3072]⟩
abbrev S4x4096x1024 : Shape := ⟨3, ![4, 4096, 1024]⟩
abbrev S4x4096x8 : Shape := ⟨3, ![4, 4096, 8]⟩
abbrev S4x4096x512 : Shape := ⟨3, ![4, 4096, 512]⟩
abbrev S4x4096x64 : Shape := ⟨3, ![4, 4096, 64]⟩
abbrev S_ : Shape := ⟨0, ![]⟩
abbrev S4x4096x32 : Shape := ⟨3, ![4, 4096, 32]⟩
abbrev S4x4096x112 : Shape := ⟨3, ![4, 4096, 112]⟩
abbrev S4x4096x1280 : Shape := ⟨3, ![4, 4096, 1280]⟩
abbrev S16384x1280 : Shape := ⟨2, ![16384, 1280]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048x5200, .f32⟩
  | .hbm, ⟨2, _⟩ => ⟨S2048x5200, .f32⟩
  | .hbm, ⟨3, _⟩ => ⟨S4x4096x5200, .f32⟩
  | .hbm, ⟨4, _⟩ => ⟨S4x4096x3072, .f32⟩
  | .hbm, ⟨5, _⟩ => ⟨S4x4096x1024, .f32⟩
  | .hbm, ⟨6, _⟩ => ⟨S4x4096x8, .f32⟩
  | .hbm, ⟨7, _⟩ => ⟨S4x4096x8, .f32⟩
  | .hbm, ⟨8, _⟩ => ⟨S4x4096x512, .f32⟩
  | .hbm, ⟨9, _⟩ => ⟨S4x4096x512, .f32⟩
  | .hbm, ⟨10, _⟩ => ⟨S4x4096x64, .f32⟩
  | .hbm, ⟨11, _⟩ => ⟨S_, .f32⟩
  | .hbm, ⟨12, _⟩ => ⟨S4x4096x32, .f32⟩
  | .hbm, ⟨13, _⟩ => ⟨S4x4096x32, .f32⟩
  | .hbm, ⟨14, _⟩ => ⟨S4x4096x32, .f32⟩
  | .hbm, ⟨15, _⟩ => ⟨S_, .f32⟩
  | .hbm, ⟨16, _⟩ => ⟨S4x4096x112, .f32⟩
  | .hbm, ⟨17, _⟩ => ⟨S4x4096x1280, .f32⟩
  | .hbm, ⟨18, _⟩ => ⟨S16384x1280, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Fox.lean ====
abbrev S4x4096x8x128 : Shape := ⟨4, ![4, 4096, 8, 128]⟩
abbrev S4x4096x8 : Shape := ⟨3, ![4, 4096, 8]⟩
abbrev S_ : Shape := ⟨0, ![]⟩
abbrev S16384x1024 : Shape := ⟨2, ![16384, 1024]⟩
abbrev S16384x3072 : Shape := ⟨2, ![16384, 3072]⟩
abbrev S16384x8 : Shape := ⟨2, ![16384, 8]⟩
abbrev S16384x120 : Shape := ⟨2, ![16384, 120]⟩
abbrev S16384x128 : Shape := ⟨2, ![16384, 128]⟩
abbrev S16384x124 : Shape := ⟨2, ![16384, 124]⟩
abbrev S16384x4 : Shape := ⟨2, ![16384, 4]⟩
abbrev S1x16384x128 : Shape := ⟨3, ![1, 16384, 128]⟩
abbrev S2x16384x128 : Shape := ⟨3, ![2, 16384, 128]⟩
abbrev S4x8x4096 : Shape := ⟨3, ![4, 8, 4096]⟩
abbrev S4x8x1x4096 : Shape := ⟨4, ![4, 8, 1, 4096]⟩
abbrev S512x512 : Shape := ⟨2, ![512, 512]⟩
abbrev S4096x512 : Shape := ⟨2, ![4096, 512]⟩
abbrev S1x4x1x512 : Shape := ⟨4, ![1, 4, 1, 512]⟩
abbrev S1x4096x128 : Shape := ⟨3, ![1, 4096, 128]⟩
abbrev S4x1x512 : Shape := ⟨3, ![4, 1, 512]⟩
abbrev S4x144x512 : Shape := ⟨3, ![4, 144, 512]⟩
abbrev S4x8x144x512 : Shape := ⟨4, ![4, 8, 144, 512]⟩
abbrev S512x128 : Shape := ⟨2, ![512, 128]⟩
abbrev S128x512 : Shape := ⟨2, ![128, 512]⟩
abbrev S1x1x128x512 : Shape := ⟨4, ![1, 1, 128, 512]⟩
abbrev S16x512 : Shape := ⟨2, ![16, 512]⟩
abbrev S1x1x16x512 : Shape := ⟨4, ![1, 1, 16, 512]⟩
abbrev S1x512x1 : Shape := ⟨3, ![1, 512, 1]⟩
abbrev S512x1 : Shape := ⟨2, ![512, 1]⟩
abbrev S1x1x512 : Shape := ⟨3, ![1, 1, 512]⟩
abbrev S1x512 : Shape := ⟨2, ![1, 512]⟩
abbrev S512 : Shape := ⟨1, ![512]⟩
abbrev S1x1x1x512 : Shape := ⟨4, ![1, 1, 1, 512]⟩
abbrev S1x1x144x512 : Shape := ⟨4, ![1, 1, 144, 512]⟩
abbrev S144x512 : Shape := ⟨2, ![144, 512]⟩
abbrev S1x144x512 : Shape := ⟨3, ![1, 144, 512]⟩

abbrev nBuf : Space → Nat
  | .hbm => 39
  | .vmem => 15
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x128, .f32⟩
  | .hbm, ⟨2, _⟩ => ⟨S4x4096x8x128, .f32⟩
  | .hbm, ⟨3, _⟩ => ⟨S4x4096x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x4096x8x128, .f32⟩
  | .hbm, ⟨12, _⟩ => ⟨S4x4096x8x128, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x3072, .f32⟩
  | .hbm, ⟨17, _⟩ => ⟨S16384x3072, .bf16⟩
  | .hbm, ⟨18, _⟩ => ⟨S_, .f32⟩
  | .hbm, ⟨19, _⟩ => ⟨S_, .f32⟩
  | .hbm, ⟨20, _⟩ => ⟨S4x4096x8, .f32⟩
  | .hbm, ⟨21, _⟩ => ⟨S4x4096x8, .f32⟩
  | .hbm, ⟨22, _⟩ => ⟨S16384x8, .f32⟩
  | .hbm, ⟨23, _⟩ => ⟨S_, .f32⟩
  | .hbm, ⟨24, _⟩ => ⟨S16384x120, .f32⟩
  | .hbm, ⟨25, _⟩ => ⟨S16384x128, .f32⟩
  | .hbm, ⟨26, _⟩ => ⟨S16384x124, .f32⟩
  | .hbm, ⟨27, _⟩ => ⟨S16384x4, .f32⟩
  | .hbm, ⟨28, _⟩ => ⟨S16384x128, .f32⟩
  | .hbm, ⟨29, _⟩ => ⟨S1x16384x128, .f32⟩
  | .hbm, ⟨30, _⟩ => ⟨S1x16384x128, .f32⟩
  | .hbm, ⟨31, _⟩ => ⟨S2x16384x128, .f32⟩
  | .hbm, ⟨32, _⟩ => ⟨S1x16384x128, .f32⟩
  | .hbm, ⟨33, _⟩ => ⟨S16384x128, .f32⟩
  | .hbm, ⟨34, _⟩ => ⟨S16384x8, .f32⟩
  | .hbm, ⟨35, _⟩ => ⟨S4x4096x8, .f32⟩
  | .hbm, ⟨36, _⟩ => ⟨S4x8x4096, .f32⟩
  | .hbm, ⟨37, _⟩ => ⟨S4x8x1x4096, .f32⟩
  | .hbm, ⟨38, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S1x4x1x512, .f32⟩
  | .local _ .vmem, ⟨7, _⟩ => ⟨S1x4x1x512, .f32⟩
  | .local _ .vmem, ⟨8, _⟩ => ⟨S1x4096x128, .f32⟩
  | .local _ .vmem, ⟨9, _⟩ => ⟨S1x4096x128, .f32⟩
  | .local _ .vmem, ⟨10, _⟩ => ⟨S512x512, .bf16⟩
  | .local _ .vmem, ⟨11, _⟩ => ⟨S512x512, .bf16⟩
  | .local _ .vmem, ⟨12, _⟩ => ⟨S4x1x512, .f32⟩
  | .local _ .vmem, ⟨13, _⟩ => ⟨S4x144x512, .f32⟩
  | .local _ .vmem, ⟨14, _⟩ => ⟨S4x8x144x512, .bf16⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 8], ![false, false, false]⟩

@[reducible] def k0_t1_loop (i : grid0.Coords) : Scf.Loop 32 :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_9 : BitVec 32 := 1#32
  ⟨c0_i32_8, v15, c1_i32_9⟩
def k0_mult1 (i : grid0.Coords) (k0_t1 : Fin (k0_t1_loop i).trips) : BitVec 32 :=
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  v237
def k0_off1 (i : grid0.Coords) (k0_t1 : Fin (k0_t1_loop i).trips) : Fin 2 → Nat :=
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  let v238 : BitVec 32 := v237
  let v239 : Index := Scalar.indexCast v238
  let c0_154 : Index := 0#32
  ![v239.toNat, 0]
def k0_off2 (i : grid0.Coords) (k0_t1 : Fin (k0_t1_loop i).trips) : Fin 2 → Nat :=
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  let v238 : BitVec 32 := v237
  let v245 : Index := Scalar.indexCast v238
  let c128_158 : Index := 128#32
  ![v245.toNat, 128]
def k0_off3 (i : grid0.Coords) (k0_t1 : Fin (k0_t1_loop i).trips) : Fin 2 → Nat :=
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  let v238 : BitVec 32 := v237
  let v251 : Index := Scalar.indexCast v238
  let c256_162 : Index := 256#32
  ![v251.toNat, 256]
def k0_off4 (i : grid0.Coords) (k0_t1 : Fin (k0_t1_loop i).trips) : Fin 2 → Nat :=
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  let v238 : BitVec 32 := v237
  let v257 : Index := Scalar.indexCast v238
  let c384_166 : Index := 384#32
  ![v257.toNat, 384]
def k0_off5 (i : grid0.Coords) (k0_t1 : Fin (k0_t1_loop i).trips) : Fin 3 → Nat :=
  let c0_170 : Index := 0#32
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  let v238 : BitVec 32 := v237
  let v263 : Index := Scalar.indexCast v238
  let c0_171 : Index := 0#32
  ![0, v263.toNat, 0]
def k0_off6 (i : grid0.Coords) (k0_t1 : Fin (k0_t1_loop i).trips) : Fin 3 → Nat :=
  let c0_172 : Index := 0#32
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  let v238 : BitVec 32 := v237
  let v268 : Index := Scalar.indexCast v238
  let c1_173 : Index := 1#32
  ![0, v268.toNat, 1]
def k0_off7 (i : grid0.Coords) (k0_t1 : Fin (k0_t1_loop i).trips) : Fin 3 → Nat :=
  let c0_174 : Index := 0#32
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  let v238 : BitVec 32 := v237
  let v273 : Index := Scalar.indexCast v238
  let c2_175 : Index := 2#32
  ![0, v273.toNat, 2]
def k0_off8 (i : grid0.Coords) (k0_t1 : Fin (k0_t1_loop i).trips) : Fin 3 → Nat :=
  let c0_176 : Index := 0#32
  let c0_i32_8 : BitVec 32 := 0#32
  let c1_i32_9 : BitVec 32 := 1#32
  let arg12 : BitVec 32 := Scf.iv c0_i32_8 c1_i32_9 k0_t1
  let c512_i32_153 : BitVec 32 := 512#32
  let v237 : BitVec 32 := Scalar.muli arg12 c512_i32_153
  let v238 : BitVec 32 := v237
  let v278 : Index := Scalar.indexCast v238
  let c3_177 : Index := 3#32
  ![0, v278.toNat, 3]
def k0_off9 (i : grid0.Coords) (k0_t1 : Fin (k0_t1_loop i).trips) : Fin 4 → Nat :=
  let c0_238 : Index := 0#32
  let c0_i32_8 : BitVec 32 := 0#32
  let c1_i32_9 : BitVec 32 := 1#32
  let arg12 : BitVec 32 := Scf.iv c0_i32_8 c1_i32_9 k0_t1
  let v363 : Index := Scalar.indexCast arg12
  let c0_239 : Index := 0#32
  let c0_240 : Index := 0#32
  ![0, v363.toNat, 0, 0]
def k0_off10 (i : grid0.Coords) (k0_t1 : Fin (k0_t1_loop i).trips) : Fin 4 → Nat :=
  let c1_242 : Index := 1#32
  let c0_i32_8 : BitVec 32 := 0#32
  let c1_i32_9 : BitVec 32 := 1#32
  let arg12 : BitVec 32 := Scf.iv c0_i32_8 c1_i32_9 k0_t1
  let v367 : Index := Scalar.indexCast arg12
  let c0_243 : Index := 0#32
  let c0_244 : Index := 0#32
  ![1, v367.toNat, 0, 0]
def k0_off11 (i : grid0.Coords) (k0_t1 : Fin (k0_t1_loop i).trips) : Fin 4 → Nat :=
  let c2_246 : Index := 2#32
  let c0_i32_8 : BitVec 32 := 0#32
  let c1_i32_9 : BitVec 32 := 1#32
  let arg12 : BitVec 32 := Scf.iv c0_i32_8 c1_i32_9 k0_t1
  let v371 : Index := Scalar.indexCast arg12
  let c0_247 : Index := 0#32
  let c0_248 : Index := 0#32
  ![2, v371.toNat, 0, 0]
def k0_off12 (i : grid0.Coords) (k0_t1 : Fin (k0_t1_loop i).trips) : Fin 4 → Nat :=
  let c3_250 : Index := 3#32
  let c0_i32_8 : BitVec 32 := 0#32
  let c1_i32_9 : BitVec 32 := 1#32
  let arg12 : BitVec 32 := Scf.iv c0_i32_8 c1_i32_9 k0_t1
  let v375 : Index := Scalar.indexCast arg12
  let c0_251 : Index := 0#32
  let c0_252 : Index := 0#32
  ![3, v375.toNat, 0, 0]
@[reducible] def k0_t2_loop (i : grid0.Coords) : Scf.Loop 32 :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let v12 : BitVec 32 := Scalar.addi c0_i32_8 v11
  let c1_i32_10 : BitVec 32 := 1#32
  ⟨v15, v12, c1_i32_10⟩
def k0_mult2 (i : grid0.Coords) (k0_t2 : Fin (k0_t2_loop i).trips) : BitVec 32 :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  v237
def k0_off13 (i : grid0.Coords) (k0_t2 : Fin (k0_t2_loop i).trips) : Fin 2 → Nat :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  let v238 : BitVec 32 := v237
  let v239 : Index := Scalar.indexCast v238
  let c0_154 : Index := 0#32
  ![v239.toNat, 0]
def k0_off14 (i : grid0.Coords) (k0_t2 : Fin (k0_t2_loop i).trips) : Fin 2 → Nat :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  let v238 : BitVec 32 := v237
  let v245 : Index := Scalar.indexCast v238
  let c128_158 : Index := 128#32
  ![v245.toNat, 128]
def k0_off15 (i : grid0.Coords) (k0_t2 : Fin (k0_t2_loop i).trips) : Fin 2 → Nat :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  let v238 : BitVec 32 := v237
  let v251 : Index := Scalar.indexCast v238
  let c256_162 : Index := 256#32
  ![v251.toNat, 256]
def k0_off16 (i : grid0.Coords) (k0_t2 : Fin (k0_t2_loop i).trips) : Fin 2 → Nat :=
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  let v238 : BitVec 32 := v237
  let v257 : Index := Scalar.indexCast v238
  let c384_166 : Index := 384#32
  ![v257.toNat, 384]
def k0_off17 (i : grid0.Coords) (k0_t2 : Fin (k0_t2_loop i).trips) : Fin 3 → Nat :=
  let c0_170 : Index := 0#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  let v238 : BitVec 32 := v237
  let v263 : Index := Scalar.indexCast v238
  let c0_171 : Index := 0#32
  ![0, v263.toNat, 0]
def k0_off18 (i : grid0.Coords) (k0_t2 : Fin (k0_t2_loop i).trips) : Fin 3 → Nat :=
  let c0_172 : Index := 0#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  let v238 : BitVec 32 := v237
  let v268 : Index := Scalar.indexCast v238
  let c1_173 : Index := 1#32
  ![0, v268.toNat, 1]
def k0_off19 (i : grid0.Coords) (k0_t2 : Fin (k0_t2_loop i).trips) : Fin 3 → Nat :=
  let c0_174 : Index := 0#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  let v238 : BitVec 32 := v237
  let v273 : Index := Scalar.indexCast v238
  let c2_175 : Index := 2#32
  ![0, v273.toNat, 2]
def k0_off20 (i : grid0.Coords) (k0_t2 : Fin (k0_t2_loop i).trips) : Fin 3 → Nat :=
  let c0_176 : Index := 0#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let c512_i32_153 : BitVec 32 := 512#32
  let v237 : BitVec 32 := Scalar.muli arg12 c512_i32_153
  let v238 : BitVec 32 := v237
  let v278 : Index := Scalar.indexCast v238
  let c3_177 : Index := 3#32
  ![0, v278.toNat, 3]
def k0_off21 (i : grid0.Coords) (k0_t2 : Fin (k0_t2_loop i).trips) : Fin 4 → Nat :=
  let c0_238 : Index := 0#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let v363 : Index := Scalar.indexCast arg12
  let c0_239 : Index := 0#32
  let c0_240 : Index := 0#32
  ![0, v363.toNat, 0, 0]
def k0_off22 (i : grid0.Coords) (k0_t2 : Fin (k0_t2_loop i).trips) : Fin 4 → Nat :=
  let c1_242 : Index := 1#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let v367 : Index := Scalar.indexCast arg12
  let c0_243 : Index := 0#32
  let c0_244 : Index := 0#32
  ![1, v367.toNat, 0, 0]
def k0_off23 (i : grid0.Coords) (k0_t2 : Fin (k0_t2_loop i).trips) : Fin 4 → Nat :=
  let c2_246 : Index := 2#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let v371 : Index := Scalar.indexCast arg12
  let c0_247 : Index := 0#32
  let c0_248 : Index := 0#32
  ![2, v371.toNat, 0, 0]
def k0_off24 (i : grid0.Coords) (k0_t2 : Fin (k0_t2_loop i).trips) : Fin 4 → Nat :=
  let c3_250 : Index := 3#32
  let c0_i32_8 : BitVec 32 := 0#32
  let arg2 : BitVec 32 := BitVec.ofNat 32 (i 2).val
  let v11 : BitVec 32 := Scalar.subi arg2 c0_i32_8
  let c1_i32 : BitVec 32 := 1#32
  let v13 : BitVec 32 := Scalar.divsi v11 c1_i32
  let v14 : BitVec 32 := Scalar.muli v13 c1_i32
  let v15 : BitVec 32 := Scalar.addi c0_i32_8 v14
  let c1_i32_10 : BitVec 32 := 1#32
  let arg12 : BitVec 32 := Scf.iv v15 c1_i32_10 k0_t2
  let v375 : Index := Scalar.indexCast arg12
  let c0_251 : Index := 0#32
  let c0_252 : Index := 0#32
  ![3, v375.toNat, 0, 0]
def k0_mult3 (i : grid0.Coords) : BitVec 32 :=
  let arg2 : BitVec 32 := BitVec.ofNat 32 (i 2).val
  let c512_i32 : BitVec 32 := 512#32
  let v16 : BitVec 32 := Scalar.muli arg2 c512_i32
  v16
def k0_off25 (i : grid0.Coords) : Fin 2 → Nat :=
  let arg2 : BitVec 32 := BitVec.ofNat 32 (i 2).val
  let c512_i32 : BitVec 32 := 512#32
  let v16 : BitVec 32 := Scalar.muli arg2 c512_i32
  let v17 : BitVec 32 := v16
  let v18 : Index := Scalar.indexCast v17
  let c0_11 : Index := 0#32
  ![v18.toNat, 0]
def k0_off26 (i : grid0.Coords) : Fin 2 → Nat :=
  let arg2 : BitVec 32 := BitVec.ofNat 32 (i 2).val
  let c512_i32 : BitVec 32 := 512#32
  let v16 : BitVec 32 := Scalar.muli arg2 c512_i32
  let v17 : BitVec 32 := v16
  let v24 : Index := Scalar.indexCast v17
  let c128 : Index := 128#32
  ![v24.toNat, 128]
def k0_off27 (i : grid0.Coords) : Fin 2 → Nat :=
  let arg2 : BitVec 32 := BitVec.ofNat 32 (i 2).val
  let c512_i32 : BitVec 32 := 512#32
  let v16 : BitVec 32 := Scalar.muli arg2 c512_i32
  let v17 : BitVec 32 := v16
  let v30 : Index := Scalar.indexCast v17
  let c256 : Index := 256#32
  ![v30.toNat, 256]
def k0_off28 (i : grid0.Coords) : Fin 2 → Nat :=
  let arg2 : BitVec 32 := BitVec.ofNat 32 (i 2).val
  let c512_i32 : BitVec 32 := 512#32
  let v16 : BitVec 32 := Scalar.muli arg2 c512_i32
  let v17 : BitVec 32 := v16
  let v36 : Index := Scalar.indexCast v17
  let c384 : Index := 384#32
  ![v36.toNat, 384]
def k0_off29 (i : grid0.Coords) : Fin 3 → Nat :=
  let c0_24 : Index := 0#32
  let arg2 : BitVec 32 := BitVec.ofNat 32 (i 2).val
  let c512_i32 : BitVec 32 := 512#32
  let v16 : BitVec 32 := Scalar.muli arg2 c512_i32
  let v17 : BitVec 32 := v16
  let v42 : Index := Scalar.indexCast v17
  let c0_25 : Index := 0#32
  ![0, v42.toNat, 0]
def k0_off30 (i : grid0.Coords) : Fin 3 → Nat :=
  let c0_26 : Index := 0#32
  let arg2 : BitVec 32 := BitVec.ofNat 32 (i 2).val
  let c512_i32 : BitVec 32 := 512#32
  let v16 : BitVec 32 := Scalar.muli arg2 c512_i32
  let v17 : BitVec 32 := v16
  let v47 : Index := Scalar.indexCast v17
  let c1 : Index := 1#32
  ![0, v47.toNat, 1]
def k0_off31 (i : grid0.Coords) : Fin 3 → Nat :=
  let c0_27 : Index := 0#32
  let arg2 : BitVec 32 := BitVec.ofNat 32 (i 2).val
  let c512_i32 : BitVec 32 := 512#32
  let v16 : BitVec 32 := Scalar.muli arg2 c512_i32
  let v17 : BitVec 32 := v16
  let v52 : Index := Scalar.indexCast v17
  let c2 : Index := 2#32
  ![0, v52.toNat, 2]
def k0_off32 (i : grid0.Coords) : Fin 3 → Nat :=
  let c0_28 : Index := 0#32
  let arg2 : BitVec 32 := BitVec.ofNat 32 (i 2).val
  let c512_i32 : BitVec 32 := 512#32
  let v16 : BitVec 32 := Scalar.muli arg2 c512_i32
  let v17 : BitVec 32 := v16
  let v57 : Index := Scalar.indexCast v17
  let c3 : Index := 3#32
  ![0, v57.toNat, 3]
def k0_off33 (i : grid0.Coords) : Fin 4 → Nat :=
  let c0_93 : Index := 0#32
  let arg2 : BitVec 32 := BitVec.ofNat 32 (i 2).val
  let v153 : Index := Scalar.indexCast arg2
  let c0_94 : Index := 0#32
  let c0_95 : Index := 0#32
  ![0, v153.toNat, 0, 0]
def k0_off34 (i : grid0.Coords) : Fin 4 → Nat :=
  let c1_97 : Index := 1#32
  let arg2 : BitVec 32 := BitVec.ofNat 32 (i 2).val
  let v157 : Index := Scalar.indexCast arg2
  let c0_98 : Index := 0#32
  let c0_99 : Index := 0#32
  ![1, v157.toNat, 0, 0]
def k0_off35 (i : grid0.Coords) : Fin 4 → Nat :=
  let c2_101 : Index := 2#32
  let arg2 : BitVec 32 := BitVec.ofNat 32 (i 2).val
  let v161 : Index := Scalar.indexCast arg2
  let c0_102 : Index := 0#32
  let c0_103 : Index := 0#32
  ![2, v161.toNat, 0, 0]
def k0_off36 (i : grid0.Coords) : Fin 4 → Nat :=
  let c3_105 : Index := 3#32
  let arg2 : BitVec 32 := BitVec.ofNat 32 (i 2).val
  let v165 : Index := Scalar.indexCast arg2
  let c0_106 : Index := 0#32
  let c0_107 : Index := 0#32
  ![3, v165.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxReferenceIdeal.lean ====
abbrev S4x4096x8x128 : Shape := ⟨4, ![4, 4096, 8, 128]⟩
abbrev S4x4096x8 : Shape := ⟨3, ![4, 4096, 8]⟩
abbrev S_ : Shape := ⟨0, ![]⟩
abbrev S4096 : Shape := ⟨1, ![4096]⟩
abbrev S4x8x4096 : Shape := ⟨3, ![4, 8, 4096]⟩
abbrev S4x8x4096x4096 : Shape := ⟨4, ![4, 8, 4096, 4096]⟩
abbrev S4x8x4096x1 : Shape := ⟨4, ![4, 8, 4096, 1]⟩
abbrev S4x8x1x4096 : Shape := ⟨4, ![4, 8, 1, 4096]⟩
abbrev S1x4096 : Shape := ⟨2, ![1, 4096]⟩
abbrev S4096x1 : Shape := ⟨2, ![4096, 1]⟩
abbrev S4096x4096 : Shape := ⟨2, ![4096, 4096]⟩
abbrev S4x8x128x4096 : Shape := ⟨4, ![4, 8, 128, 4096]⟩
abbrev S16384x1024 : Shape := ⟨2, ![16384, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x128, .f32⟩
  | .hbm, ⟨2, _⟩ => ⟨S4x4096x8x128, .f32⟩
  | .hbm, ⟨3, _⟩ => ⟨S4x4096x8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096, .i32⟩
  | .hbm, ⟨9, _⟩ => ⟨S4x8x4096, .f32⟩
  | .hbm, ⟨10, _⟩ => ⟨S4x8x4096x4096, .f32⟩
  | .hbm, ⟨11, _⟩ => ⟨S4x8x4096x4096, .f32⟩
  | .hbm, ⟨12, _⟩ => ⟨S4x8x4096x4096, .f32⟩
  | .hbm, ⟨13, _⟩ => ⟨S4x8x4096x1, .f32⟩
  | .hbm, ⟨14, _⟩ => ⟨S4x8x4096x4096, .f32⟩
  | .hbm, ⟨15, _⟩ => ⟨S4x8x4096x4096, .f32⟩
  | .hbm, ⟨16, _⟩ => ⟨S4x8x1x4096, .f32⟩
  | .hbm, ⟨17, _⟩ => ⟨S4x8x4096x4096, .f32⟩
  | .hbm, ⟨18, _⟩ => ⟨S4x8x4096x4096, .f32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4x8x4096x4096, .i1⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S4x8x4096, .f32⟩
  | .hbm, ⟨31, _⟩ => ⟨S_, .f32⟩
  | .hbm, ⟨32, _⟩ => ⟨S4x8x4096, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S_, .f32⟩
  | .hbm, ⟨39, _⟩ => ⟨S4x8x4096, .f32⟩
  | .hbm, ⟨40, _⟩ => ⟨S4x8x4096x1, .f32⟩
  | .hbm, ⟨41, _⟩ => ⟨S4x8x4096x4096, .f32⟩
  | .hbm, ⟨42, _⟩ => ⟨S4x8x4096x4096, .f32⟩
  | .hbm, ⟨43, _⟩ => ⟨S4x8x128x4096, .f32⟩
  | .hbm, ⟨44, _⟩ => ⟨S4x4096x8x128, .f32⟩
  | .hbm, ⟨45, _⟩ => ⟨S16384x1024, .f32⟩
  | .hbm, ⟨46, _⟩ => ⟨S16384x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== QUp.lean ====
abbrev S4x4096x512 : Shape := ⟨3, ![4, 4096, 512]⟩
abbrev S1x512 : Shape := ⟨2, ![1, 512]⟩
abbrev S1x512x1536 : Shape := ⟨3, ![1, 512, 1536]⟩
abbrev S4x4096x32 : Shape := ⟨3, ![4, 4096, 32]⟩
abbrev S512x1536 : Shape := ⟨2, ![512, 1536]⟩
abbrev S_ : Shape := ⟨0, ![]⟩
abbrev S512x8x192 : Shape := ⟨3, ![512, 8, 192]⟩
abbrev S512x8x128 : Shape := ⟨3, ![512, 8, 128]⟩
abbrev S512x8x64 : Shape := ⟨3, ![512, 8, 64]⟩
abbrev S512x8x32 : Shape := ⟨3, ![512, 8, 32]⟩
abbrev S512x8x256 : Shape := ⟨3, ![512, 8, 256]⟩
abbrev S512x2048 : Shape := ⟨2, ![512, 2048]⟩
abbrev S16384x512 : Shape := ⟨2, ![16384, 512]⟩
abbrev S16384x768 : Shape := ⟨2, ![16384, 768]⟩
abbrev S16384x1280 : Shape := ⟨2, ![16384, 1280]⟩
abbrev S512 : Shape := ⟨1, ![512]⟩
abbrev S4x4096x128 : Shape := ⟨3, ![4, 4096, 128]⟩
abbrev S16384x128 : Shape := ⟨2, ![16384, 128]⟩
abbrev S16384x2048 : Shape := ⟨2, ![16384, 2048]⟩
abbrev S1024x512 : Shape := ⟨2, ![1024, 512]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩
abbrev S512x256 : Shape := ⟨2, ![512, 256]⟩
abbrev S1024x256 : Shape := ⟨2, ![1024, 256]⟩

abbrev nBuf : Space → Nat
  | .hbm => 36
  | .vmem => 10
  | .smem => 0
  | _ => 0

abbrev bufTy : (tb : Table) → Fin (tcTables nBuf tb) → BufTy
  | .hbm, ⟨0, _⟩ => ⟨S4x4096x512, .f32⟩
  | .hbm, ⟨1, _⟩ => ⟨S1x512, .f32⟩
  | .hbm, ⟨2, _⟩ => ⟨S1x512x1536, .f32⟩
  | .hbm, ⟨3, _⟩ => ⟨S4x4096x32, .f32⟩
  | .hbm, ⟨4, _⟩ => ⟨S4x4096x32, .f32⟩
  | .hbm, ⟨5, _⟩ => ⟨S512x1536, .f32⟩
  | .hbm, ⟨6, _⟩ => ⟨S_, .f32⟩
  | .hbm, ⟨7, _⟩ => ⟨S512x1536, .f32⟩
  | .hbm, ⟨8, _⟩ => ⟨S512x1536, .f32⟩
  | .hbm, ⟨9, _⟩ => ⟨S512x8x192, .f32⟩
  | .hbm, ⟨10, _⟩ => ⟨S512x8x128, .f32⟩
  | .hbm, ⟨11, _⟩ => ⟨S512x8x64, .f32⟩
  | .hbm, ⟨12, _⟩ => ⟨S_, .f32⟩
  | .hbm, ⟨13, _⟩ => ⟨S512x8x32, .f32⟩
  | .hbm, ⟨14, _⟩ => ⟨S512x8x32, .f32⟩
  | .hbm, ⟨15, _⟩ => ⟨S512x8x32, .f32⟩
  | .hbm, ⟨16, _⟩ => ⟨S512x8x128, .f32⟩
  | .hbm, ⟨17, _⟩ => ⟨S512x8x256, .f32⟩
  | .hbm, ⟨18, _⟩ => ⟨S512x2048, .f32⟩
  | .hbm, ⟨19, _⟩ => ⟨S512x2048, .bf16⟩
  | .hbm, ⟨20, _⟩ => ⟨S16384x512, .f32⟩
  | .hbm, ⟨21, _⟩ => ⟨S_, .f32⟩
  | .hbm, ⟨22, _⟩ => ⟨S16384x768, .f32⟩
  | .hbm, ⟨23, _⟩ => ⟨S16384x1280, .f32⟩
  | .hbm, ⟨24, _⟩ => ⟨S512, .f32⟩
  | .hbm, ⟨25, _⟩ => ⟨S_, .f32⟩
  | .hbm, ⟨26, _⟩ => ⟨S4x4096x32, .f32⟩
  | .hbm, ⟨27, _⟩ => ⟨S4x4096x128, .f32⟩
  | .hbm, ⟨28, _⟩ => ⟨S16384x128, .f32⟩
  | .hbm, ⟨29, _⟩ => ⟨S4x4096x32, .f32⟩
  | .hbm, ⟨30, _⟩ => ⟨S_, .f32⟩
  | .hbm, ⟨31, _⟩ => ⟨S4x4096x32, .f32⟩
  | .hbm, ⟨32, _⟩ => ⟨S4x4096x128, .f32⟩
  | .hbm, ⟨33, _⟩ => ⟨S16384x128, .f32⟩
  | .hbm, ⟨34, _⟩ => ⟨S1x512, .f32⟩
  | .hbm, ⟨35, _⟩ => ⟨S16384x2048, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S512x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .bf16⟩
  | .local _ .vmem, ⟨9, _⟩ => ⟨S1024x2048, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== QUpReferenceIdeal.lean ====
abbrev S4x4096x512 : Shape := ⟨3, ![4, 4096, 512]⟩
abbrev S1x512 : Shape := ⟨2, ![1, 512]⟩
abbrev S1x512x1536 : Shape := ⟨3, ![1, 512, 1536]⟩
abbrev S4x4096x32 : Shape := ⟨3, ![4, 4096, 32]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S512x1536 : Shape := ⟨2, ![512, 1536]⟩
abbrev S4x4096x1536 : Shape := ⟨3, ![4, 4096, 1536]⟩
abbrev S4x4096x8x192 : Shape := ⟨4, ![4, 4096, 8, 192]⟩
abbrev S4x4096x8x32 : Shape := ⟨4, ![4, 4096, 8, 32]⟩
abbrev S4x4096x1x32 : Shape := ⟨4, ![4, 4096, 1, 32]⟩
abbrev S4x4096x8x128 : Shape := ⟨4, ![4, 4096, 8, 128]⟩
abbrev S4x4096x8x256 : Shape := ⟨4, ![4, 4096, 8, 256]⟩
abbrev S16384x2048 : Shape := ⟨2, ![16384, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S1x512, .f32⟩
  | .hbm, ⟨2, _⟩ => ⟨S1x512x1536, .f32⟩
  | .hbm, ⟨3, _⟩ => ⟨S4x4096x32, .f32⟩
  | .hbm, ⟨4, _⟩ => ⟨S4x4096x32, .f32⟩
  | .hbm, ⟨5, _⟩ => ⟨S512, .f32⟩
  | .hbm, ⟨6, _⟩ => ⟨S4x4096x512, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x512, .f32⟩
  | .hbm, ⟨18, _⟩ => ⟨S4x4096x512, .f32⟩
  | .hbm, ⟨19, _⟩ => ⟨S1x1x512, .f32⟩
  | .hbm, ⟨20, _⟩ => ⟨S4x4096x512, .f32⟩
  | .hbm, ⟨21, _⟩ => ⟨S4x4096x512, .f32⟩
  | .hbm, ⟨22, _⟩ => ⟨S512x1536, .f32⟩
  | .hbm, ⟨23, _⟩ => ⟨S4x4096x1536, .f32⟩
  | .hbm, ⟨24, _⟩ => ⟨S4x4096x8x192, .f32⟩
  | .hbm, ⟨25, _⟩ => ⟨S4x4096x8x32, .f32⟩
  | .hbm, ⟨26, _⟩ => ⟨S4x4096x8x32, .f32⟩
  | .hbm, ⟨27, _⟩ => ⟨S4x4096x1x32, .f32⟩
  | .hbm, ⟨28, _⟩ => ⟨S4x4096x1x32, .f32⟩
  | .hbm, ⟨29, _⟩ => ⟨S_, .f32⟩
  | .hbm, ⟨30, _⟩ => ⟨S4x4096x8x32, .f32⟩
  | .hbm, ⟨31, _⟩ => ⟨S4x4096x8x128, .f32⟩
  | .hbm, ⟨32, _⟩ => ⟨S4x4096x8x32, .f32⟩
  | .hbm, ⟨33, _⟩ => ⟨S4x4096x8x32, .f32⟩
  | .hbm, ⟨34, _⟩ => ⟨S4x4096x8x32, .f32⟩
  | .hbm, ⟨35, _⟩ => ⟨S4x4096x8x32, .f32⟩
  | .hbm, ⟨36, _⟩ => ⟨S4x4096x8x32, .f32⟩
  | .hbm, ⟨37, _⟩ => ⟨S4x4096x8x32, .f32⟩
  | .hbm, ⟨38, _⟩ => ⟨S4x4096x8x32, .f32⟩
  | .hbm, ⟨39, _⟩ => ⟨S4x4096x8x32, .f32⟩
  | .hbm, ⟨40, _⟩ => ⟨S4x4096x8x32, .f32⟩
  | .hbm, ⟨41, _⟩ => ⟨S4x4096x8x32, .f32⟩
  | .hbm, ⟨42, _⟩ => ⟨S4x4096x8x256, .f32⟩
  | .hbm, ⟨43, _⟩ => ⟨S_, .f32⟩
  | .hbm, ⟨44, _⟩ => ⟨S4x4096x8x256, .f32⟩
  | .hbm, ⟨45, _⟩ => ⟨S4x4096x8x256, .f32⟩
  | .hbm, ⟨46, _⟩ => ⟨S16384x2048, .f32⟩
  | .hbm, ⟨47, _⟩ => ⟨S16384x2048, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== KvUp.lean ====
abbrev S4x4096x512 : Shape := ⟨3, ![4, 4096, 512]⟩
abbrev S1x512 : Shape := ⟨2, ![1, 512]⟩
abbrev S1x512x2048 : Shape := ⟨3, ![1, 512, 2048]⟩
abbrev S4x4096x64 : Shape := ⟨3, ![4, 4096, 64]⟩
abbrev S4x4096x32 : Shape := ⟨3, ![4, 4096, 32]⟩
abbrev S512x2048 : Shape := ⟨2, ![512, 2048]⟩
abbrev S512x8x256 : Shape := ⟨3, ![512, 8, 256]⟩
abbrev S512x8x128 : Shape := ⟨3, ![512, 8, 128]⟩
abbrev S512x1024 : Shape := ⟨2, ![512, 1024]⟩
abbrev S_ : Shape := ⟨0, ![]⟩
abbrev S16384x512 : Shape := ⟨2, ![16384, 512]⟩
abbrev S4x4096x128 : Shape := ⟨3, ![4, 4096, 128]⟩
abbrev S16384x128 : Shape := ⟨2, ![16384, 128]⟩
abbrev S16384x1280 : Shape := ⟨2, ![16384, 1280]⟩
abbrev S512 : Shape := ⟨1, ![512]⟩
abbrev S16384x2048 : Shape := ⟨2, ![16384, 2048]⟩
abbrev S16384x1024 : Shape := ⟨2, ![16384, 1024]⟩
abbrev S1024x512 : Shape := ⟨2, ![1024, 512]⟩
abbrev S1024x128 : Shape := ⟨2, ![1024, 128]⟩
abbrev S1024x2048 : Shape := ⟨2, ![1024, 2048]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 39
  | .vmem => 14
  | .smem => 0
  | _ => 0

abbrev bufTy : (tb : Table) → Fin (tcTables nBuf tb) → BufTy
  | .hbm, ⟨0, _⟩ => ⟨S4x4096x512, .f32⟩
  | .hbm, ⟨1, _⟩ => ⟨S1x512, .f32⟩
  | .hbm, ⟨2, _⟩ => ⟨S1x512x2048, .f32⟩
  | .hbm, ⟨3, _⟩ => ⟨S4x4096x64, .f32⟩
  | .hbm, ⟨4, _⟩ => ⟨S4x4096x32, .f32⟩
  | .hbm, ⟨5, _⟩ => ⟨S4x4096x32, .f32⟩
  | .hbm, ⟨6, _⟩ => ⟨S512x2048, .f32⟩
  | .hbm, ⟨7, _⟩ => ⟨S512x8x256, .f32⟩
  | .hbm, ⟨8, _⟩ => ⟨S512x8x128, .f32⟩
  | .hbm, ⟨9, _⟩ => ⟨S512x1024, .f32⟩
  | .hbm, ⟨10, _⟩ => ⟨S512x8x128, .f32⟩
  | .hbm, ⟨11, _⟩ => ⟨S512x1024, .f32⟩
  | .hbm, ⟨12, _⟩ => ⟨S512x2048, .f32⟩
  | .hbm, ⟨13, _⟩ => ⟨S512x2048, .bf16⟩
  | .hbm, ⟨14, _⟩ => ⟨S_, .f32⟩
  | .hbm, ⟨15, _⟩ => ⟨S16384x512, .f32⟩
  | .hbm, ⟨16, _⟩ => ⟨S16384x512, .f32⟩
  | .hbm, ⟨17, _⟩ => ⟨S4x4096x32, .f32⟩
  | .hbm, ⟨18, _⟩ => ⟨S4x4096x32, .f32⟩
  | .hbm, ⟨19, _⟩ => ⟨S_, .f32⟩
  | .hbm, ⟨20, _⟩ => ⟨S4x4096x32, .f32⟩
  | .hbm, ⟨21, _⟩ => ⟨S4x4096x128, .f32⟩
  | .hbm, ⟨22, _⟩ => ⟨S16384x128, .f32⟩
  | .hbm, ⟨23, _⟩ => ⟨S_, .f32⟩
  | .hbm, ⟨24, _⟩ => ⟨S16384x128, .f32⟩
  | .hbm, ⟨25, _⟩ => ⟨S16384x1280, .f32⟩
  | .hbm, ⟨26, _⟩ => ⟨S512, .f32⟩
  | .hbm, ⟨27, _⟩ => ⟨S_, .f32⟩
  | .hbm, ⟨28, _⟩ => ⟨S4x4096x32, .f32⟩
  | .hbm, ⟨29, _⟩ => ⟨S4x4096x128, .f32⟩
  | .hbm, ⟨30, _⟩ => ⟨S16384x128, .f32⟩
  | .hbm, ⟨31, _⟩ => ⟨S4x4096x32, .f32⟩
  | .hbm, ⟨32, _⟩ => ⟨S_, .f32⟩
  | .hbm, ⟨33, _⟩ => ⟨S4x4096x32, .f32⟩
  | .hbm, ⟨34, _⟩ => ⟨S4x4096x128, .f32⟩
  | .hbm, ⟨35, _⟩ => ⟨S16384x128, .f32⟩
  | .hbm, ⟨36, _⟩ => ⟨S1x512, .f32⟩
  | .hbm, ⟨37, _⟩ => ⟨S16384x2048, .bf16⟩
  | .hbm, ⟨38, _⟩ => ⟨S16384x1024, .bf16⟩
  | .local _ .vmem, ⟨0, _⟩ => ⟨S1024x512, .f32⟩
  | .local _ .vmem, ⟨1, _⟩ => ⟨S1024x512, .f32⟩
  | .local _ .vmem, ⟨2, _⟩ => ⟨S1x512, .f32⟩
  | .local _ .vmem, ⟨3, _⟩ => ⟨S512x2048, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x2048, .bf16⟩
  | .local _ .vmem, ⟨11, _⟩ => ⟨S1024x2048, .bf16⟩
  | .local _ .vmem, ⟨12, _⟩ => ⟨S1024x1024, .bf16⟩
  | .local _ .vmem, ⟨13, _⟩ => ⟨S1024x1024, .bf16⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26_0 : Ref sig .tc := ⟨.hbm, 37, rfl⟩
abbrev main_v26_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KvUpReferenceIdeal.lean ====
abbrev S4x4096x512 : Shape := ⟨3, ![4, 4096, 512]⟩
abbrev S1x512 : Shape := ⟨2, ![1, 512]⟩
abbrev S1x512x2048 : Shape := ⟨3, ![1, 512, 2048]⟩
abbrev S4x4096x64 : Shape := ⟨3, ![4, 4096, 64]⟩
abbrev S4x4096x32 : Shape := ⟨3, ![4, 4096, 32]⟩
abbrev S512 : Shape := ⟨1, ![512]⟩
abbrev S_ : Shape := ⟨0, ![]⟩
abbrev S4x4096 : Shape := ⟨2, ![4, 4096]⟩
abbrev S4x4096x1 : Shape := ⟨3, ![4, 4096, 1]⟩
abbrev S1x1x512 : Shape := ⟨3, ![1, 1, 512]⟩
abbrev S512x2048 : Shape := ⟨2, ![512, 2048]⟩
abbrev S4x4096x2048 : Shape := ⟨3, ![4, 4096, 2048]⟩
abbrev S4x4096x8x256 : Shape := ⟨4, ![4, 4096, 8, 256]⟩
abbrev S4x4096x128 : Shape := ⟨3, ![4, 4096, 128]⟩
abbrev S4x4096x8x128 : Shape := ⟨4, ![4, 4096, 8, 128]⟩
abbrev S4x4096x1x128 : Shape := ⟨4, ![4, 4096, 1, 128]⟩
abbrev S16384x2048 : Shape := ⟨2, ![16384, 2048]⟩
abbrev S16384x1024 : Shape := ⟨2, ![16384, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S1x512, .f32⟩
  | .hbm, ⟨2, _⟩ => ⟨S1x512x2048, .f32⟩
  | .hbm, ⟨3, _⟩ => ⟨S4x4096x64, .f32⟩
  | .hbm, ⟨4, _⟩ => ⟨S4x4096x32, .f32⟩
  | .hbm, ⟨5, _⟩ => ⟨S4x4096x32, .f32⟩
  | .hbm, ⟨6, _⟩ => ⟨S512, .f32⟩
  | .hbm, ⟨7, _⟩ => ⟨S4x4096x512, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x512, .f32⟩
  | .hbm, ⟨19, _⟩ => ⟨S4x4096x512, .f32⟩
  | .hbm, ⟨20, _⟩ => ⟨S1x1x512, .f32⟩
  | .hbm, ⟨21, _⟩ => ⟨S4x4096x512, .f32⟩
  | .hbm, ⟨22, _⟩ => ⟨S4x4096x512, .f32⟩
  | .hbm, ⟨23, _⟩ => ⟨S512x2048, .f32⟩
  | .hbm, ⟨24, _⟩ => ⟨S4x4096x2048, .f32⟩
  | .hbm, ⟨25, _⟩ => ⟨S4x4096x8x256, .f32⟩
  | .hbm, ⟨26, _⟩ => ⟨S4x4096x32, .f32⟩
  | .hbm, ⟨27, _⟩ => ⟨S4x4096x32, .f32⟩
  | .hbm, ⟨28, _⟩ => ⟨S_, .f32⟩
  | .hbm, ⟨29, _⟩ => ⟨S4x4096x32, .f32⟩
  | .hbm, ⟨30, _⟩ => ⟨S4x4096x32, .f32⟩
  | .hbm, ⟨31, _⟩ => ⟨S4x4096x32, .f32⟩
  | .hbm, ⟨32, _⟩ => ⟨S4x4096x32, .f32⟩
  | .hbm, ⟨33, _⟩ => ⟨S4x4096x32, .f32⟩
  | .hbm, ⟨34, _⟩ => ⟨S4x4096x32, .f32⟩
  | .hbm, ⟨35, _⟩ => ⟨S4x4096x32, .f32⟩
  | .hbm, ⟨36, _⟩ => ⟨S4x4096x128, .f32⟩
  | .hbm, ⟨37, _⟩ => ⟨S4x4096x8x128, .f32⟩
  | .hbm, ⟨38, _⟩ => ⟨S4x4096x1x128, .f32⟩
  | .hbm, ⟨39, _⟩ => ⟨S4x4096x8x128, .f32⟩
  | .hbm, ⟨40, _⟩ => ⟨S4x4096x8x256, .f32⟩
  | .hbm, ⟨41, _⟩ => ⟨S4x4096x8x128, .f32⟩
  | .hbm, ⟨42, _⟩ => ⟨S16384x2048, .f32⟩
  | .hbm, ⟨43, _⟩ => ⟨S16384x2048, .bf16⟩
  | .hbm, ⟨44, _⟩ => ⟨S16384x1024, .f32⟩
  | .hbm, ⟨45, _⟩ => ⟨S16384x1024, .bf16⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Half.lean ====
module
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownReferenceIdeal
public import proofs.«01_k».proof.Proof.Gen.DownReferenceIdeal.Run
public import proofs.«01_k».proof.Proof.Gen.DownReferenceIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixReferenceIdeal
public import proofs.«01_k».proof.Proof.Gen.MixReferenceIdeal.Run
public import proofs.«01_k».proof.Proof.Gen.MixReferenceIdeal.Read
public import proofs.«01_k».proof.Proof.Gen.InAb
public import proofs.«01_k».proof.Proof.Gen.InAb.Frame
public import proofs.«01_k».proof.Proof.Gen.InAbIdeal
public import proofs.«01_k».proof.Proof.Gen.InAbIdeal.Frame
public import proofs.«01_k».proof.Proof.Gen.InAbIdeal.Value
public import proofs.«01_k».proof.Proof.Gen.InAbReferenceIdeal
public import proofs.«01_k».proof.Proof.Gen.InAbReferenceIdeal.Run
public import proofs.«01_k».proof.Proof.Gen.InAbReferenceIdeal.Read
public import proofs.«01_k».proof.Proof.Gen.InC
public import proofs.«01_k».proof.Proof.Gen.InC.Frame
public import proofs.«01_k».proof.Proof.Gen.InCIdeal
public import proofs.«01_k».proof.Proof.Gen.InCIdeal.Frame
public import proofs.«01_k».proof.Proof.Gen.InCIdeal.Value
public import proofs.«01_k».proof.Proof.Gen.InCReferenceIdeal
public import proofs.«01_k».proof.Proof.Gen.InCReferenceIdeal.Run
public import proofs.«01_k».proof.Proof.Gen.InCReferenceIdeal.Read
public import proofs.«01_k».proof.Proof.Gen.InD
public import proofs.«01_k».proof.Proof.Gen.InD.Frame
public import proofs.«01_k».proof.Proof.Gen.InDIdeal
public import proofs.«01_k».proof.Proof.Gen.InDIdeal.Frame
public import proofs.«01_k».proof.Proof.Gen.InDIdeal.Value
public import proofs.«01_k».proof.Proof.Gen.InDReferenceIdeal
public import proofs.«01_k».proof.Proof.Gen.InDReferenceIdeal.Run
public import proofs.«01_k».proof.Proof.Gen.InDReferenceIdeal.Read
public import proofs.«01_k».proof.Proof.Gen.TailAb
public import proofs.«01_k».proof.Proof.Gen.TailAb.Frame
public import proofs.«01_k».proof.Proof.Gen.TailAbIdeal
public import proofs.«01_k».proof.Proof.Gen.TailAbIdeal.Frame
public import proofs.«01_k».proof.Proof.Gen.TailAbIdeal.Value
public import proofs.«01_k».proof.Proof.Gen.TailAbReferenceIdeal
public import proofs.«01_k».proof.Proof.Gen.TailAbReferenceIdeal.Run
public import proofs.«01_k».proof.Proof.Gen.TailAbReferenceIdeal.Read
@[expose] public section
-- ==== Proof.QUpBlock.lean ====
module
public import proofs.«01_k».proof.Proof.Gen.QUpIdeal.Value
public import Idealize.ShloMosaic.Lib.Pointwise
public import Idealize.ShloMosaic.Lib.Pipeline.ValueKit
public import Idealize.ShloMosaic.Lib.Pipeline.ValueKit.Tiles
@[expose] public section
set_option maxRecDepth 16384
noncomputable section
namespace Cert.QUpIdeal.Step
open Cert.QUpIdeal Cert.QUpIdeal.Gen Idealize.ShloMosaic Idealize.ShloMosaic.TcCoe Idealize.SL.Sem Idealize.ShloMosaic.Tactic

/-! # One block of the queries -/

theorem z2 : (![0, 0] : Fin 2 → ℕ) = fun _ => 0 := by funext a; fin_cases a <;> rfl

/-- A row normalised by its root mean square and scaled. -/
def rms (y : Fin 512 → EReal) (w : EReal) (n : Fin 512) : EReal :=
  y n * Ideal.rsqrt (Ideal.div (∑ k : Fin 512, y k * y k) (Ideal.ofBits .f32 0x44000000#32) + Ideal.ofBits .f32 0x358637BD#32) * w

theorem pay5_apply (y : Vec Ideal S1024x512 .f32) (w : Vec Ideal S1x512 .f32) (r : Fin 1024) (n : Fin 512) :
    k0_pay5 (F := Ideal) y w (ix2 r n) = rms (fun k => y (ix2 r k)) (w (ix2 0 n)) n := by
  unfold k0_pay5 rms
  pointwise

theorem pay6_eq (y : Vec Ideal S1024x128 .f32) : k0_pay6 (F := Ideal) y = y := by
  funext (z : S1024x128.Idx)
  idx_vars z
  unfold k0_pay6
  pointwise

theorem pay2_apply (n : Vec Ideal S1024x512 .bf16) (w : Vec Ideal S512x256 .bf16) (r : Fin 1024) (j : Fin 256) :
    k0_pay2 (F := Ideal) n w (ix2 r j) = ∑ k : Fin 512, n (ix2 r k) * w (ix2 k j) := by
  unfold k0_pay2
  pointwise

/-- The lanes without rotation. -/
theorem pay3_apply (n : Vec Ideal S1024x512 .bf16) (w : Vec Ideal S512x256 .bf16) (r : Fin 1024) (j : Fin 128) :
    k0_pay3 (F := Ideal) n w (ix2 r j) = ∑ k : Fin 512, n (ix2 r k) * w (ix2 k (⟨j.val, by omega⟩ : Fin 256)) := by
  refine Eq.trans ?_ (pay2_apply n w r _)
  unfold k0_pay3
  generalize k0_pay2 (F := Ideal) n w = d
  pointwise

/-- The rotary lanes. -/
theorem pay4_apply (n : Vec Ideal S1024x512 .bf16) (c s : Vec Ideal S1024x128 .f32) (w : Vec Ideal S512x256 .bf16) (r : Fin 1024) (j : Fin 128) :
    k0_pay4 (F := Ideal) n c s w (ix2 r j) = (∑ k : Fin 512, n (ix2 r k) * w (ix2 k (⟨128 + j.val, by omega⟩ : Fin 256))) * c (ix2 r j)
      + (∑ k : Fin 512, n (ix2 r k) * w (ix2 k (⟨128 + (j.val + 64) % 128, by omega⟩ : Fin 256))) * s (ix2 r j) := by
  rw [← pay2_apply n w r, ← pay2_apply n w r]
  unfold k0_pay4
  generalize k0_pay2 (F := Ideal) n w = d
  pointwise
  refine congrArg (fun e : EReal => d (ix2 r (⟨128 + j.val, by omega⟩ : Fin 256)) * c (ix2 r j) + e * s (ix2 r j)) (congrArg d (funext fun a => ?_))
  match a with
  | ⟨0, _⟩ => rfl
  | ⟨1, _⟩ => exact Fin.ext (by show 128 + (j.val + 128 - 64) % 128 = 128 + (j.val + 64) % 128; omega)

/-- A product of a normalised row and a column of the weights. -/
def dd (x0 : Vec Ideal S1024x512 .f32) (x1 : Vec Ideal S1x512 .f32) (x2 : Vec Ideal S512x2048 .bf16) (r : Fin 1024) (j : Fin 2048) : EReal :=
  ∑ k : Fin 512, rms (fun k => x0 (ix2 r k)) (x1 (ix2 0 k)) k * x2 (ix2 k j)

/-- A block of the result: in every head the lanes without rotation, then the rotary lanes. -/
def blkv (x0 : Vec Ideal S1024x512 .f32) (x1 : Vec Ideal S1x512 .f32) (x2 : Vec Ideal S512x2048 .bf16) (x3 x4 : Vec Ideal S1024x128 .f32) : Vec Ideal S1024x2048 .bf16 := fun y =>
  if h : (y 1).val % 256 < 128 then dd x0 x1 x2 (y 0) (y 1)
  else dd x0 x1 x2 (y 0) (y 1) * x3 (ix2 (y 0) (⟨(y 1).val % 256 - 128, by omega⟩ : Fin 128))
    + dd x0 x1 x2 (y 0) (⟨(y 1).val / 256 * 256 + (128 + ((y 1).val % 256 - 128 + 64) % 128), by have h : (y 1).val < 2048 := (y 1).isLt; omega⟩ : Fin 2048) * x4 (ix2 (y 0) (⟨(y 1).val % 256 - 128, by omega⟩ : Fin 128))

theorem ld_w (arg3 : Memref sig .tc .vmem S512x2048 .bf16) (harg3 : arg3.IsWhole) (X : Vec Ideal S512x2048 .bf16) (o : ℕ) (off : Fin 2 → ℕ) (hoff : off = ![0, o]) (hin : ∀ a, off a + S512x256.size a ≤ S512x2048.size a)
    (k : Fin 512) (j : Fin 256) (q : Fin 2048) (hq : q.val = o + j.val) :
    arg3.view.readAt (Elt Ideal) (Rect.unit (s := S512x2048) off S512x256.size hin).toLoadRect (harg3.unread X) (ix2 k j) = X (ix2 k q) := by
  subst hoff
  rw [View.readAt_eq_ld, harg3.read_unread]
  refine congrArg X (funext fun a => ?_)
  match a with
  | ⟨0, _⟩ => exact Fin.ext (by show 0 + 1 * k.val = k.val; omega)
  | ⟨1, _⟩ => exact Fin.ext (by show o + 1 * j.val = q.val; omega)

theorem tile_n (x0 : Vec Ideal S1024x512 .f32) (x1 : Vec Ideal S1x512 .f32) (x2 : Vec Ideal S512x2048 .bf16) (x3 x4 : Vec Ideal S1024x128 .f32) (w : Vec Ideal S512x256 .bf16) (h : ℕ) (hw : ∀ (k : Fin 512) (j : Fin 256) (q : Fin 2048), q.val = 256 * h + j.val → w (ix2 k j) = x2 (ix2 k q))
    (z : S1024x128.Idx) (y : S1024x2048.Idx) (e0 : (y 0).val = (z 0).val) (e1 : (y 1).val = 256 * h + (z 1).val) :
    k0_pay3 (F := Ideal) (k0_pay5 x0 x1) w z = blkv x0 x1 x2 x3 x4 y := by
  idx_vars z
  idx_vars y
  have bz : z1.val < 128 := z1.isLt
  have by1 : y1.val < 2048 := y1.isLt
  have e1' : y1.val = 256 * h + z1.val := e1
  obtain rfl : y0 = z0 := Fin.ext e0
  rw [pay3_apply]
  unfold blkv dd
  rw [dif_pos (by show y1.val % 256 < 128; omega)]
  refine Finset.sum_congr rfl fun k _ => ?_
  rw [pay5_apply]
  exact congrArg _ (hw k _ y1 (by show y1.val = 256 * h + z1.val; omega))

theorem tile_r (x0 : Vec Ideal S1024x512 .f32) (x1 : Vec Ideal S1x512 .f32) (x2 : Vec Ideal S512x2048 .bf16) (x3 x4 : Vec Ideal S1024x128 .f32) (w : Vec Ideal S512x256 .bf16) (h : ℕ) (hw : ∀ (k : Fin 512) (j : Fin 256) (q : Fin 2048), q.val = 256 * h + j.val → w (ix2 k j) = x2 (ix2 k q))
    (z : S1024x128.Idx) (y : S1024x2048.Idx) (e0 : (y 0).val = (z 0).val) (e1 : (y 1).val = 256 * h + 128 + (z 1).val) :
    k0_pay4 (F := Ideal) (k0_pay5 x0 x1) (k0_pay6 x3) (k0_pay6 x4) w z = blkv x0 x1 x2 x3 x4 y := by
  rw [pay6_eq, pay6_eq]
  idx_vars z
  idx_vars y
  have bz : z1.val < 128 := z1.isLt
  have by1 : y1.val < 2048 := y1.isLt
  have e1' : y1.val = 256 * h + 128 + z1.val := e1
  obtain rfl : y0 = z0 := Fin.ext e0
  rw [pay4_apply]
  unfold blkv dd
  rw [dif_neg (by show ¬y1.val % 256 < 128; omega)]
  have ez : (⟨y1.val % 256 - 128, by omega⟩ : Fin 128) = z1 := Fin.ext (by show y1.val % 256 - 128 = z1.val; omega)
  have c1 : (∑ k : Fin 512, k0_pay5 (F := Ideal) x0 x1 (ix2 y0 k) * w (ix2 k (⟨128 + z1.val, by omega⟩ : Fin 256)) : EReal)
      = ∑ k : Fin 512, rms (fun k => x0 (ix2 y0 k)) (x1 (ix2 0 k)) k * x2 (ix2 k y1) := by
    refine Finset.sum_congr rfl fun k _ => ?_
    rw [pay5_apply]
    exact congrArg _ (hw k _ y1 (by show y1.val = 256 * h + (128 + z1.val); omega))
  have c2 : (∑ k : Fin 512, k0_pay5 (F := Ideal) x0 x1 (ix2 y0 k) * w (ix2 k (⟨128 + (z1.val + 64) % 128, by omega⟩ : Fin 256)) : EReal)
      = ∑ k : Fin 512, rms (fun k => x0 (ix2 y0 k)) (x1 (ix2 0 k)) k * x2 (ix2 k (⟨y1.val / 256 * 256 + (128 + (y1.val % 256 - 128 + 64) % 128), by omega⟩ : Fin 2048)) := by
    refine Finset.sum_congr rfl fun k _ => ?_
    rw [pay5_apply]
    exact congrArg _ (hw k _ _ (by show y1.val / 256 * 256 + (128 + (y1.val % 256 - 128 + 64) % 128) = 256 * h + (128 + (z1.val + 64) % 128); omega))
  rw [c1, c2]
  show _ = (_ : EReal) * x3 (ix2 y0 (⟨y1.val % 256 - 128, _⟩ : Fin 128)) + _ * x4 (ix2 y0 (⟨y1.val % 256 - 128, _⟩ : Fin 128))
  rw [ez]
  rfl

/-- Sixteen stores of 128 lanes each fill the block. -/
theorem canon_all (p0 p1 p2 p3 p4 p5 p6 p7 p8 p9 p10 p11 p12 p13 p14 p15 : S1024x128.Idx → Elt Ideal .bf16) (B : Vec Ideal S1024x2048 .bf16)
    (g15 : ∀ (z : S1024x128.Idx) (y : S1024x2048.Idx), (y 0).val = (z 0).val → (y 1).val = 1920 + (z 1).val → p15 z = B y)
    (g14 : ∀ (z : S1024x128.Idx) (y : S1024x2048.Idx), (y 0).val = (z 0).val → (y 1).val = 1792 + (z 1).val → p14 z = B y)
    (g13 : ∀ (z : S1024x128.Idx) (y : S1024x2048.Idx), (y 0).val = (z 0).val → (y 1).val = 1664 + (z 1).val → p13 z = B y)
    (g12 : ∀ (z : S1024x128.Idx) (y : S1024x2048.Idx), (y 0).val = (z 0).val → (y 1).val = 1536 + (z 1).val → p12 z = B y)
    (g11 : ∀ (z : S1024x128.Idx) (y : S1024x2048.Idx), (y 0).val = (z 0).val → (y 1).val = 1408 + (z 1).val → p11 z = B y)
    (g10 : ∀ (z : S1024x128.Idx) (y : S1024x2048.Idx), (y 0).val = (z 0).val → (y 1).val = 1280 + (z 1).val → p10 z = B y)
    (g9 : ∀ (z : S1024x128.Idx) (y : S1024x2048.Idx), (y 0).val = (z 0).val → (y 1).val = 1152 + (z 1).val → p9 z = B y)
    (g8 : ∀ (z : S1024x128.Idx) (y : S1024x2048.Idx), (y 0).val = (z 0).val → (y 1).val = 1024 + (z 1).val → p8 z = B y)
    (g7 : ∀ (z : S1024x128.Idx) (y : S1024x2048.Idx), (y 0).val = (z 0).val → (y 1).val = 896 + (z 1).val → p7 z = B y)
    (g6 : ∀ (z : S1024x128.Idx) (y : S1024x2048.Idx), (y 0).val = (z 0).val → (y 1).val = 768 + (z 1).val → p6 z = B y)
    (g5 : ∀ (z : S1024x128.Idx) (y : S1024x2048.Idx), (y 0).val = (z 0).val → (y 1).val = 640 + (z 1).val → p5 z = B y)
    (g4 : ∀ (z : S1024x128.Idx) (y : S1024x2048.Idx), (y 0).val = (z 0).val → (y 1).val = 512 + (z 1).val → p4 z = B y)
    (g3 : ∀ (z : S1024x128.Idx) (y : S1024x2048.Idx), (y 0).val = (z 0).val → (y 1).val = 384 + (z 1).val → p3 z = B y)
    (g2 : ∀ (z : S1024x128.Idx) (y : S1024x2048.Idx), (y 0).val = (z 0).val → (y 1).val = 256 + (z 1).val → p2 z = B y)
    (g1 : ∀ (z : S1024x128.Idx) (y : S1024x2048.Idx), (y 0).val = (z 0).val → (y 1).val = 128 + (z 1).val → p1 z = B y)
    (g0 : ∀ (z : S1024x128.Idx) (y : S1024x2048.Idx), (y 0).val = (z 0).val → (y 1).val = 0 + (z 1).val → p0 z = B y) :
    View.canon (Val := Elt Ideal) (s := S1024x2048) (e := .bf16) [⟨Rect.unit (s := S1024x2048) ![0, 1920] S1024x128.size inb_S1024x2048_S1024x128_0_1920, p15⟩,
    ⟨Rect.unit (s := S1024x2048) ![0, 1792] S1024x128.size inb_S1024x2048_S1024x128_0_1792, p14⟩,
    ⟨Rect.unit (s := S1024x2048) ![0, 1664] S1024x128.size inb_S1024x2048_S1024x128_0_1664, p13⟩,
    ⟨Rect.unit (s := S1024x2048) ![0, 1536] S1024x128.size inb_S1024x2048_S1024x128_0_1536, p12⟩,
    ⟨Rect.unit (s := S1024x2048) ![0, 1408] S1024x128.size inb_S1024x2048_S1024x128_0_1408, p11⟩,
    ⟨Rect.unit (s := S1024x2048) ![0, 1280] S1024x128.size inb_S1024x2048_S1024x128_0_1280, p10⟩,
    ⟨Rect.unit (s := S1024x2048) ![0, 1152] S1024x128.size inb_S1024x2048_S1024x128_0_1152, p9⟩,
    ⟨Rect.unit (s := S1024x2048) ![0, 1024] S1024x128.size inb_S1024x2048_S1024x128_0_1024, p8⟩,
    ⟨Rect.unit (s := S1024x2048) ![0, 896] S1024x128.size inb_S1024x2048_S1024x128_0_896, p7⟩,
    ⟨Rect.unit (s := S1024x2048) ![0, 768] S1024x128.size inb_S1024x2048_S1024x128_0_768, p6⟩,
    ⟨Rect.unit (s := S1024x2048) ![0, 640] S1024x128.size inb_S1024x2048_S1024x128_0_640, p5⟩,
    ⟨Rect.unit (s := S1024x2048) ![0, 512] S1024x128.size inb_S1024x2048_S1024x128_0_512, p4⟩,
    ⟨Rect.unit (s := S1024x2048) ![0, 384] S1024x128.size inb_S1024x2048_S1024x128_0_384, p3⟩,
    ⟨Rect.unit (s := S1024x2048) ![0, 256] S1024x128.size inb_S1024x2048_S1024x128_0_256, p2⟩,
    ⟨Rect.unit (s := S1024x2048) ![0, 128] S1024x128.size inb_S1024x2048_S1024x128_0_128, p1⟩,
    ⟨Rect.unit (s := S1024x2048) ![0, 0] S1024x128.size inb_S1024x2048_S1024x128_0_0, p0⟩] = B := by
  funext y
  canon_tiles x h using View.cover_of_tiled_head _ _ _ (by rfl) y
  · exact g15 x y (by omega) (by omega)
  · exact g14 x y (by omega) (by omega)
  · exact g13 x y (by omega) (by omega)
  · exact g12 x y (by omega) (by omega)
  · exact g11 x y (by omega) (by omega)
  · exact g10 x y (by omega) (by omega)
  · exact g9 x y (by omega) (by omega)
  · exact g8 x y (by omega) (by omega)
  · exact g7 x y (by omega) (by omega)
  · exact g6 x y (by omega) (by omega)
  · exact g5 x y (by omega) (by omega)
  · exact g4 x y (by omega) (by omega)
  · exact g3 x y (by omega) (by omega)
  · exact g2 x y (by omega) (by omega)
  · exact g1 x y (by omega) (by omega)
  · exact g0 x y (by omega) (by omega)

section
variable (a : Vec Ideal S1024x512 .f32) (b : Vec Ideal S1x512 .f32) (n : Vec Ideal S1024x512 .bf16) (c s : Vec Ideal S1024x128 .f32) (w : Vec Ideal S512x256 .bf16)
theorem e7 : k0_pay7 (F := Ideal) c = k0_pay6 c := rfl
theorem e9 : k0_pay9 (F := Ideal) a b w = k0_pay3 (k0_pay5 a b) w := rfl
theorem e10 : k0_pay10 (F := Ideal) a b c s w = k0_pay4 (k0_pay5 a b) (k0_pay6 c) (k0_pay6 s) w := rfl
theorem e13 : k0_pay13 (F := Ideal) n (k0_pay11 w) = k0_pay3 n w := rfl
theorem e14 : k0_pay14 (F := Ideal) n c s (k0_pay11 w) = k0_pay4 n c s w := rfl
theorem e16 : k0_pay16 (F := Ideal) n w = k0_pay3 n w := rfl
theorem e17 : k0_pay17 (F := Ideal) n c s w = k0_pay4 n c s w := rfl
theorem e19 : k0_pay19 (F := Ideal) n w = k0_pay3 n w := rfl
theorem e21 : k0_pay21 (k0_pay20 (F := Ideal) n c s w) = k0_pay4 n c s w := rfl
theorem e23 : k0_pay23 (F := Ideal) n w = k0_pay3 n w := rfl
theorem e24 : k0_pay24 (F := Ideal) n c s w = k0_pay4 n c s w := rfl
theorem e26 : k0_pay26 (F := Ideal) n w = k0_pay3 n w := rfl
theorem e27 : k0_pay27 (F := Ideal) n c s w = k0_pay4 n c s w := rfl
theorem e29 : k0_pay29 (F := Ideal) n w = k0_pay3 n w := rfl
theorem e1 : k0_pay1 (F := Ideal) c s (k0_pay28 n w) = k0_pay4 n c s w := rfl
end

theorem out_eq (c : Dev nD) (i : grid0.Coords) (arg1 : Memref sig .tc .vmem S1024x512 .f32) (harg1 : arg1.IsWhole) (arg2 : Memref sig .tc .vmem S1x512 .f32) (harg2 : arg2.IsWhole) (arg3 : Memref sig .tc .vmem S512x2048 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x2048 .bf16) (harg6 : arg6.IsWhole) (x0 : Vec Ideal S1024x512 .f32) (x1 : Vec Ideal S1x512 .f32) (x2 : Vec Ideal S512x2048 .bf16) (x3 x4 : Vec Ideal S1024x128 .f32) :
    out0_A_5 (F := Ideal) c i arg1 harg1 arg2 harg2 arg3 harg3 arg4 harg4 arg5 harg5 arg6 harg6 x0 x1 x2 x3 x4 = blkv x0 x1 x2 x3 x4 := by
  unfold out0_A_5 kernelRun0_A
  dsimp only
  rw [View.read_writes_junk_eq_canon]
  sl_unfold_words
  have l0 : arg1.view.readAt (Elt Ideal) (Rect.unit (s := S1024x512) ![0, 0] S1024x512.size inb_S1024x512_S1024x512_0_0).toLoadRect (harg1.unread x0) = x0 := by
    rw [View.readAt_eq_ld, harg1.read_unread, View.ld_unit_zero z2]
  have l1 : arg2.view.readAt (Elt Ideal) (Rect.unit (s := S1x512) ![0, 0] S1x512.size inb_S1x512_S1x512_0_0).toLoadRect (harg2.unread x1) = x1 := by
    rw [View.readAt_eq_ld, harg2.read_unread, View.ld_unit_zero z2]
  have l3 : arg4.view.readAt (Elt Ideal) (Rect.unit (s := S1024x128) ![0, 0] S1024x128.size inb_S1024x128_S1024x128_0_0).toLoadRect (harg4.unread x3) = x3 := by
    rw [View.readAt_eq_ld, harg4.read_unread, View.ld_unit_zero z2]
  have l4 : arg5.view.readAt (Elt Ideal) (Rect.unit (s := S1024x128) ![0, 0] S1024x128.size inb_S1024x128_S1024x128_0_0).toLoadRect (harg5.unread x4) = x4 := by
    rw [View.readAt_eq_ld, harg5.read_unread, View.ld_unit_zero z2]
  rw [l0, l1, l3, l4]
  simp only [e7, e9, e10, e13, e14, e16, e17, e19, e21, e23, e24, e26, e27, e29, e1]
  refine canon_all _ _ _ _ _ _ _ _ _ _ _ _ _ _ _ _ _ ?_ ?_ ?_ ?_ ?_ ?_ ?_ ?_ ?_ ?_ ?_ ?_ ?_ ?_ ?_ ?_
  · intro z y e0 e1
    exact tile_r x0 x1 x2 x3 x4 _ 7 (fun k j q hq => ld_w arg3 harg3 x2 1792 ![0, 1792] rfl (by decide) k j q (by omega)) z y e0 (by omega)
  · intro z y e0 e1
    exact tile_n x0 x1 x2 x3 x4 _ 7 (fun k j q hq => ld_w arg3 harg3 x2 1792 ![0, 1792] rfl (by decide) k j q (by omega)) z y e0 (by omega)
  · intro z y e0 e1
    exact tile_r x0 x1 x2 x3 x4 _ 6 (fun k j q hq => ld_w arg3 harg3 x2 1536 ![0, 1536] rfl (by decide) k j q (by omega)) z y e0 (by omega)
  · intro z y e0 e1
    exact tile_n x0 x1 x2 x3 x4 _ 6 (fun k j q hq => ld_w arg3 harg3 x2 1536 ![0, 1536] rfl (by decide) k j q (by omega)) z y e0 (by omega)
  · intro z y e0 e1
    exact tile_r x0 x1 x2 x3 x4 _ 5 (fun k j q hq => ld_w arg3 harg3 x2 1280 ![0, 1280] rfl (by decide) k j q (by omega)) z y e0 (by omega)
  · intro z y e0 e1
    exact tile_n x0 x1 x2 x3 x4 _ 5 (fun k j q hq => ld_w arg3 harg3 x2 1280 ![0, 1280] rfl (by decide) k j q (by omega)) z y e0 (by omega)
  · intro z y e0 e1
    exact tile_r x0 x1 x2 x3 x4 _ 4 (fun k j q hq => ld_w arg3 harg3 x2 1024 ![0, 1024] rfl (by decide) k j q (by omega)) z y e0 (by omega)
  · intro z y e0 e1
    exact tile_n x0 x1 x2 x3 x4 _ 4 (fun k j q hq => ld_w arg3 harg3 x2 1024 ![0, 1024] rfl (by decide) k j q (by omega)) z y e0 (by omega)
  · intro z y e0 e1
    exact tile_r x0 x1 x2 x3 x4 _ 3 (fun k j q hq => ld_w arg3 harg3 x2 768 ![0, 768] rfl (by decide) k j q (by omega)) z y e0 (by omega)
  · intro z y e0 e1
    exact tile_n x0 x1 x2 x3 x4 _ 3 (fun k j q hq => ld_w arg3 harg3 x2 768 ![0, 768] rfl (by decide) k j q (by omega)) z y e0 (by omega)
  · intro z y e0 e1
    exact tile_r x0 x1 x2 x3 x4 _ 2 (fun k j q hq => ld_w arg3 harg3 x2 512 ![0, 512] rfl (by decide) k j q (by omega)) z y e0 (by omega)
  · intro z y e0 e1
    exact tile_n x0 x1 x2 x3 x4 _ 2 (fun k j q hq => ld_w arg3 harg3 x2 512 ![0, 512] rfl (by decide) k j q (by omega)) z y e0 (by omega)
  · intro z y e0 e1
    exact tile_r x0 x1 x2 x3 x4 _ 1 (fun k j q hq => ld_w arg3 harg3 x2 256 ![0, 256] rfl (by decide) k j q (by omega)) z y e0 (by omega)
  · intro z y e0 e1
    exact tile_n x0 x1 x2 x3 x4 _ 1 (fun k j q hq => ld_w arg3 harg3 x2 256 ![0, 256] rfl (by decide) k j q (by omega)) z y e0 (by omega)
  · intro z y e0 e1
    exact tile_r x0 x1 x2 x3 x4 _ 0 (fun k j q hq => ld_w arg3 harg3 x2 0 ![0, 0] rfl (by decide) k j q (by omega)) z y e0 (by omega)
  · intro z y e0 e1
    exact tile_n x0 x1 x2 x3 x4 _ 0 (fun k j q hq => ld_w arg3 harg3 x2 0 ![0, 0] rfl (by decide) k j q (by omega)) z y e0 (by omega)
end Cert.QUpIdeal.Step
-- ==== Proof.Step.lean ====
module
public import proofs.«01_k».proof.Proof.Gen.KernelIdeal.Value
public import Idealize.ShloMosaic.Lib.Pointwise
public import Idealize.ShloMosaic.Lib.WritesUnit
@[expose] public section
set_option maxRecDepth 16384
noncomputable section
namespace Cert.KernelIdeal.Step
open Cert.KernelIdeal Cert.KernelIdeal.Gen Idealize.ShloMosaic Idealize.ShloMosaic.TcCoe Idealize.SL.Sem Idealize.ShloMosaic.Tactic

/-! # One step of the online softmax, for one head and one query row

The kernel keeps, for each head and query row, a running maximum and 144 running sums (128 of the value lanes, one of
the weights themselves, the rest unused). `mxf` is the next maximum after a block of 512 scores, `acf` the next value
of one sum. The lemmas read the printed operations of a head at an index as these. -/

/-- The word of minus infinity is the least extended real. -/
theorem ninf_word : Ideal.ofBits .f32 0xFF800000#32 = (⊥ : EReal) := by simp [Ideal.ofBits, Ideal.ieee]

/-- The next maximum: the old one against the block's greatest score. -/
def mxf (m : EReal) (s : Fin 512 → EReal) : EReal := max m (Finset.univ.sup s)

/-- The next sum: the old one rescaled to the new maximum, plus the block's weighted values. -/
def acf (m a : EReal) (s v : Fin 512 → EReal) : EReal :=
  Ideal.exp2 (m - mxf m s) * a + ∑ x : Fin 512, v x * Ideal.exp2 (s x - mxf m s)

/-- A block of scores at key row `a` and query row `b`: the sum of the 256 products. -/
theorem score_apply (kb qb : Vec Ideal S512x256 .bf16) (a b : Fin 512) :
    k0_pay75 (F := Ideal) kb qb (ix2 a b) = ∑ e : Fin 256, kb (ix2 a e) * qb (ix2 b e) := by
  unfold k0_pay75
  pointwise

/-- The new maximum a head stores, from its scores and the maximum it loads. -/
abbrev mNew (s : FVec Ideal S512x512 .f32) (m : Vec Ideal S1x1x512 .f32) : FVec Ideal S1x1x512 .f32 :=
  k0_pay95 (F := Ideal) s (k0_pay79 m)

/-- The new sums a head stores, from its scores, the maximum, the transposed values and the sums it loads. -/
abbrev aNew (s : FVec Ideal S512x512 .f32) (m : Vec Ideal S1x1x512 .f32) (vt : Vec Ideal S1x1x144x512 .bf16)
    (a : Vec Ideal S1x144x512 .f32) : FVec Ideal S1x144x512 .f32 :=
  k0_pay102 (F := Ideal) (k0_pay87 s (k0_pay79 m)) (k0_pay91 s (k0_pay79 m)) vt a

theorem pay83_apply (s : FVec Ideal S512x512 .f32) (m : Vec Ideal S1x1x512 .f32) (r : Fin 512) :
    k0_pay83 (F := Ideal) s (k0_pay79 m) (ix2 0 r) = mxf (m (ix3 0 0 r)) (fun a => s (ix2 a r)) := by
  unfold k0_pay83 k0_pay79 mxf
  pointwise
  rw [ninf_word]; rfl

theorem mNew_apply (s : FVec Ideal S512x512 .f32) (m : Vec Ideal S1x1x512 .f32) (r : Fin 512) :
    mNew s m (ix3 0 0 r) = mxf (m (ix3 0 0 r)) (fun a => s (ix2 a r)) := by
  unfold mNew k0_pay95
  pointwise
  exact pay83_apply s m r

theorem pay79_apply (m : Vec Ideal S1x1x512 .f32) (r : Fin 512) : k0_pay79 (F := Ideal) m (ix2 0 r) = m (ix3 0 0 r) := by
  unfold k0_pay79
  pointwise

theorem aNew_apply (s : FVec Ideal S512x512 .f32) (m : Vec Ideal S1x1x512 .f32) (vt : Vec Ideal S1x1x144x512 .bf16)
    (a : Vec Ideal S1x144x512 .f32) (d : Fin 144) (r : Fin 512) :
    aNew s m vt a (ix3 0 d r)
      = acf (m (ix3 0 0 r)) (a (ix3 0 d r)) (fun x => s (ix2 x r)) (fun x => vt (ix4 0 0 d x)) := by
  unfold aNew k0_pay102 k0_pay91 k0_pay87 acf
  pointwise
  rw [pay83_apply, pay79_apply]
  rfl

/-- The output of a head: its first 128 sums over the sum of its weights, transposed. -/
theorem out_apply (a : Vec Ideal S1x144x512 .f32) (d : Fin 128) (r : Fin 512) :
    k0_pay176 (F := Ideal) a (ix2 r d) = Ideal.div (a (ix3 0 (Fin.castLE (by omega) d) r)) (a (ix3 0 128 r)) := by
  unfold k0_pay176
  pointwise
  rfl

/-! ## Reading four heads' stores -/

variable {Val : EltTy → Type} {κ : Kind} {sp : Space}

theorem hit_m (v : View sig κ sp S4x1x512 .f32) (f : v.ty.Contents Val) (off : Fin 3 → ℕ) (inb) (w : S1x1x512.Idx → Val .f32) (L)
    (h : Fin 4) (r : Fin 512) (he : off = ![h.val, 0, 0]) :
    v.read Val (v.writes Val f (⟨Rect.unit (s := S4x1x512) off S1x1x512.size inb, w⟩ :: L)) (ix3 h 0 r) = w (ix3 0 0 r) :=
  View.read_writes_cons_unit_of_mem v f inb w L (ix3 h 0 r) (ix3 0 0 r : S1x1x512.Idx) he fun a => match a with
    | ⟨0, _⟩ => rfl
    | ⟨1, _⟩ => rfl
    | ⟨2, _⟩ => (Nat.zero_add _).symm

theorem miss_m (v : View sig κ sp S4x1x512 .f32) (f : v.ty.Contents Val) (off : Fin 3 → ℕ) (inb) (w : S1x1x512.Idx → Val .f32) (L)
    (h : Fin 4) (r : Fin 512) (q : ℕ) (he : off = ![q, 0, 0]) (hq : h.val < q) :
    v.read Val (v.writes Val f (⟨Rect.unit (s := S4x1x512) off S1x1x512.size inb, w⟩ :: L)) (ix3 h 0 r)
      = v.read Val (v.writes Val f L) (ix3 h 0 r) :=
  View.read_writes_cons_unit_of_not_mem v f inb w L (ix3 h 0 r) he (0 : Fin 3) (.inl hq)

theorem hit_a (v : View sig κ sp S4x144x512 .f32) (f : v.ty.Contents Val) (off : Fin 3 → ℕ) (inb) (w : S1x144x512.Idx → Val .f32) (L)
    (h : Fin 4) (d : Fin 144) (r : Fin 512) (he : off = ![h.val, 0, 0]) :
    v.read Val (v.writes Val f (⟨Rect.unit (s := S4x144x512) off S1x144x512.size inb, w⟩ :: L)) (ix3 h d r) = w (ix3 0 d r) :=
  View.read_writes_cons_unit_of_mem v f inb w L (ix3 h d r) (ix3 0 d r : S1x144x512.Idx) he fun a => match a with
    | ⟨0, _⟩ => rfl
    | ⟨1, _⟩ => (Nat.zero_add _).symm
    | ⟨2, _⟩ => (Nat.zero_add _).symm

theorem miss_a (v : View sig κ sp S4x144x512 .f32) (f : v.ty.Contents Val) (off : Fin 3 → ℕ) (inb) (w : S1x144x512.Idx → Val .f32) (L)
    (h : Fin 4) (d : Fin 144) (r : Fin 512) (q : ℕ) (he : off = ![q, 0, 0]) (hq : h.val < q) :
    v.read Val (v.writes Val f (⟨Rect.unit (s := S4x144x512) off S1x144x512.size inb, w⟩ :: L)) (ix3 h d r)
      = v.read Val (v.writes Val f L) (ix3 h d r) :=
  View.read_writes_cons_unit_of_not_mem v f inb w L (ix3 h d r) he (0 : Fin 3) (.inl hq)

/-- Four stores, one per head: head `h` reads its own. -/
theorem read_m (v : View sig κ sp S4x1x512 .f32) (f : v.ty.Contents Val) (i0 i1 i2 i3) (p : Fin 4 → S1x1x512.Idx → Val .f32)
    (h : Fin 4) (r : Fin 512) (L : List (View.Piece Val S4x1x512 .f32)) :
    v.read Val (v.writes Val f (⟨Rect.unit (s := S4x1x512) ![3, 0, 0] S1x1x512.size i3, p 3⟩ :: ⟨Rect.unit (s := S4x1x512) ![2, 0, 0] S1x1x512.size i2, p 2⟩ ::
      ⟨Rect.unit (s := S4x1x512) ![1, 0, 0] S1x1x512.size i1, p 1⟩ :: ⟨Rect.unit (s := S4x1x512) ![0, 0, 0] S1x1x512.size i0, p 0⟩ :: L)) (ix3 h 0 r)
      = p h (ix3 0 0 r) := by
  match h with
  | 0 =>
    rw [miss_m v f _ i3 (p 3) _ 0 r 3 rfl (by decide)]
    rw [miss_m v f _ i2 (p 2) _ 0 r 2 rfl (by decide)]
    rw [miss_m v f _ i1 (p 1) _ 0 r 1 rfl (by decide)]
    exact hit_m v f _ i0 (p 0) _ 0 r rfl
  | 1 =>
    rw [miss_m v f _ i3 (p 3) _ 1 r 3 rfl (by decide)]
    rw [miss_m v f _ i2 (p 2) _ 1 r 2 rfl (by decide)]
    exact hit_m v f _ i1 (p 1) _ 1 r rfl
  | 2 =>
    rw [miss_m v f _ i3 (p 3) _ 2 r 3 rfl (by decide)]
    exact hit_m v f _ i2 (p 2) _ 2 r rfl
  | 3 =>
    exact hit_m v f _ i3 (p 3) _ 3 r rfl

/-- Four stores, one per head: head `h` reads its own. -/
theorem read_a (v : View sig κ sp S4x144x512 .f32) (f : v.ty.Contents Val) (i0 i1 i2 i3) (p : Fin 4 → S1x144x512.Idx → Val .f32)
    (h : Fin 4) (d : Fin 144) (r : Fin 512) (L : List (View.Piece Val S4x144x512 .f32)) :
    v.read Val (v.writes Val f (⟨Rect.unit (s := S4x144x512) ![3, 0, 0] S1x144x512.size i3, p 3⟩ :: ⟨Rect.unit (s := S4x144x512) ![2, 0, 0] S1x144x512.size i2, p 2⟩ ::
      ⟨Rect.unit (s := S4x144x512) ![1, 0, 0] S1x144x512.size i1, p 1⟩ :: ⟨Rect.unit (s := S4x144x512) ![0, 0, 0] S1x144x512.size i0, p 0⟩ :: L)) (ix3 h d r)
      = p h (ix3 0 d r) := by
  match h with
  | 0 =>
    rw [miss_a v f _ i3 (p 3) _ 0 d r 3 rfl (by decide)]
    rw [miss_a v f _ i2 (p 2) _ 0 d r 2 rfl (by decide)]
    rw [miss_a v f _ i1 (p 1) _ 0 d r 1 rfl (by decide)]
    exact hit_a v f _ i0 (p 0) _ 0 d r rfl
  | 1 =>
    rw [miss_a v f _ i3 (p 3) _ 1 d r 3 rfl (by decide)]
    rw [miss_a v f _ i2 (p 2) _ 1 d r 2 rfl (by decide)]
    exact hit_a v f _ i1 (p 1) _ 1 d r rfl
  | 2 =>
    rw [miss_a v f _ i3 (p 3) _ 2 d r 3 rfl (by decide)]
    exact hit_a v f _ i2 (p 2) _ 2 d r rfl
  | 3 =>
    exact hit_a v f _ i3 (p 3) _ 3 d r rfl

end Cert.KernelIdeal.Step
-- ==== Proof.Flash.lean ====
module
public import proofs.«01_k».proof.Proof.Step
@[expose] public section
noncomputable section
namespace Cert.KernelIdeal.Step
open Cert.KernelIdeal Cert.KernelIdeal.Gen Idealize.ShloMosaic

/-! # The online softmax as one weighted sum

Scores are reals or minus infinity. The running sum is the plain weighted sum times two to minus the running maximum,
whatever that maximum is, so the quotient of two such sums does not depend on it. The values may be any extended reals:
a nonnegative real factor distributes over every sum. -/

/-- A nonnegative real factor goes into a sum of extended reals. -/
theorem mul_sum_coe {ι : Type} (t : Finset ι) (c : ℝ) (hc : 0 ≤ c) (f : ι → EReal) :
    (c : EReal) * ∑ x ∈ t, f x = ∑ x ∈ t, (c : EReal) * f x := by
  classical
  induction t using Finset.induction_on with
  | empty => simp
  | insert a t ha ih =>
    rw [Finset.sum_insert ha, Finset.sum_insert ha, EReal.left_distrib_of_nonneg_of_ne_top (by exact_mod_cast hc) (EReal.coe_ne_top c), ih]

/-- The sum of reals, as an extended real. -/
theorem sum_coe {ι : Type} (t : Finset ι) (f : ι → ℝ) : ∑ x ∈ t, (f x : EReal) = ((∑ x ∈ t, f x : ℝ) : EReal) := by
  classical
  induction t using Finset.induction_on with
  | empty => simp
  | insert a t ha ih => rw [Finset.sum_insert ha, Finset.sum_insert ha, ih, EReal.coe_add]

/-- A score: a real, or minus infinity. -/
def Sc (x : EReal) : Prop := x = ⊥ ∨ ∃ r : ℝ, x = r

/-- Two to the power of a score less a real. -/
theorem exp2_sub {x : EReal} (h : Sc x) (μ : ℝ) : Ideal.exp2 (x - μ) = ((Real.rpow 2 (-μ) : ℝ) : EReal) * Ideal.exp2 x := by
  rcases h with rfl | ⟨r, rfl⟩
  · rw [EReal.bot_sub, Ideal.exp2_bot, mul_zero]
  · rw [← EReal.coe_sub, Ideal.exp2_coe, Ideal.exp2_coe, ← EReal.coe_mul]
    congr 1
    show (2 : ℝ) ^ (r - μ) = 2 ^ (-μ) * 2 ^ r
    rw [← Real.rpow_add (by norm_num)]
    congr 1; ring

theorem exp_sub {x : EReal} (h : Sc x) (μ : ℝ) : Ideal.exp (x - μ) = ((Real.exp (-μ) : ℝ) : EReal) * Ideal.exp x := by
  rcases h with rfl | ⟨r, rfl⟩
  · rw [EReal.bot_sub, Ideal.exp_bot, mul_zero]
  · rw [← EReal.coe_sub, Ideal.exp_coe, Ideal.exp_coe, ← EReal.coe_mul, ← Real.exp_add]
    congr 2; ring

/-- The greatest of finitely many scores one of which is real is real. -/
theorem sup_real {ι : Type} (t : Finset ι) (s : ι → EReal) (hs : ∀ x, Sc (s x)) (x0 : ι) (h0 : x0 ∈ t) (r0 : ℝ) (hr : s x0 = r0) (m : EReal)
    (hm : Sc m) : ∃ μ : ℝ, max m (t.sup s) = μ := by
  have key : Sc (t.sup s) := by
    classical
    clear h0
    induction t using Finset.induction_on with
    | empty => exact Or.inl (by simp)
    | insert a t ha ih =>
      rw [Finset.sup_insert]
      rcases le_total (s a) (t.sup s) with h | h
      · rw [sup_eq_right.2 h]; exact ih
      · rw [sup_eq_left.2 h]; exact hs a
  have hge : (r0 : EReal) ≤ t.sup s := hr ▸ Finset.le_sup (f := s) h0
  have hne : t.sup s ≠ ⊥ := fun e => by rw [e] at hge; exact (EReal.bot_lt_coe r0).not_ge hge
  rcases key with h | ⟨a, ha⟩
  · exact absurd h hne
  · rcases hm with rfl | ⟨b, rfl⟩
    · exact ⟨a, by rw [ha]; simp⟩
    · exact ⟨max b a, by rw [ha]; exact (EReal.coe_strictMono.monotone.map_max).symm⟩

/-- The running maximum `m` and a running sum `a` stand for the weighted sum `T`. -/
def Inv (m a T : EReal) : Prop :=
  (m = ⊥ ∧ a = 0 ∧ T = 0) ∨ ∃ μ : ℝ, m = μ ∧ a = ((Real.rpow 2 (-μ) : ℝ) : EReal) * T

theorem step_inv (m a T : EReal) (s v : Fin 512 → EReal) (h : Inv m a T) (hs : ∀ x, Sc (s x)) (x0 : Fin 512) (r0 : ℝ) (hr : s x0 = r0) :
    ∃ μ : ℝ, mxf m s = μ ∧ acf m a s v = ((Real.rpow 2 (-μ) : ℝ) : EReal) * (T + ∑ x : Fin 512, v x * Ideal.exp2 (s x)) := by
  have hm : Sc m := by
    rcases h with ⟨h, -, -⟩ | ⟨μ, h, -⟩
    · exact Or.inl h
    · exact Or.inr ⟨μ, h⟩
  obtain ⟨μ, hμ⟩ := sup_real Finset.univ s hs x0 (Finset.mem_univ _) r0 hr m hm
  refine ⟨μ, hμ, ?_⟩
  have hp : (0 : ℝ) ≤ Real.rpow 2 (-μ) := Real.rpow_nonneg (by norm_num) _
  unfold acf
  rw [show mxf m s = μ from hμ, EReal.left_distrib_of_nonneg_of_ne_top (by exact_mod_cast hp) (EReal.coe_ne_top _), mul_sum_coe _ _ hp]
  congr 1
  · rcases h with ⟨rfl, rfl, rfl⟩ | ⟨ν, rfl, rfl⟩
    · simp
    · rw [exp2_sub (Or.inr ⟨ν, rfl⟩), mul_assoc, Ideal.exp2_coe]
      congr 1
      rw [← mul_assoc, ← EReal.coe_mul]
      rw [show Real.rpow 2 ν * Real.rpow 2 (-ν) = 1 from by
        show (2 : ℝ) ^ ν * 2 ^ (-ν) = 1
        rw [← Real.rpow_add (by norm_num)]; simp, EReal.coe_one, one_mul]
  · refine Finset.sum_congr rfl fun x _ => ?_
    rw [exp2_sub (hs x), mul_left_comm]

/-- The quotient of two sums that carry the same positive factor. -/
theorem div_cancel (c L : ℝ) (hc : 0 < c) (hL : 0 < L) (N : EReal) :
    Ideal.div ((c : EReal) * N) ((c : EReal) * (L : EReal)) = N * ((1 / L : ℝ) : EReal) := by
  rw [← EReal.coe_mul, Ideal.div_coe (by positivity), mul_comm (c : EReal) N, mul_assoc, ← EReal.coe_mul]
  congr 2
  field_simp
end Cert.KernelIdeal.Step
-- ==== Proof.QUpVal.lean ====
module
public import proofs.«01_k».proof.Proof.QUpBlock
public import proofs.«01_k».proof.Proof.Flash
public import proofs.«01_k».proof.Proof.Gen.QUpReferenceIdeal.Read
public import Idealize.ShloMosaic.Lib.StableHlo.RunRead
@[expose] public section
set_option maxRecDepth 16384
noncomputable section
namespace Cert.QUpIdeal.Step
open Cert.QUpIdeal Cert.QUpIdeal.Gen Idealize.ShloMosaic Idealize.ShloMosaic.TcCoe Idealize.SL.Sem Idealize.ShloMosaic.Tactic

/-! # The queries of the latent attention -/

theorem zero_word : Ideal.ofBits .f32 0x00000000#32 = (0 : EReal) := by simp [Ideal.ofBits, Ideal.ieee]

section
variable (m : (ℓ : Loc nD τ sig) → Buf (Elt Ideal) ℓ) (c : Dev nD)

theorem ix_a0 : ∀ t : Fin cfg0.N, win0_0.index t 0 = t.val := by decide +kernel
theorem ix_a1 : ∀ t : Fin cfg0.N, win0_0.index t 1 = 0 := by decide +kernel
theorem ix_b0 : ∀ t : Fin cfg0.N, win0_1.index t 0 = 0 := by decide +kernel
theorem ix_b1 : ∀ t : Fin cfg0.N, win0_1.index t 1 = 0 := by decide +kernel
theorem ix_w0 : ∀ t : Fin cfg0.N, win0_2.index t 0 = 0 := by decide +kernel
theorem ix_w1 : ∀ t : Fin cfg0.N, win0_2.index t 1 = 0 := by decide +kernel
theorem ix_c0 : ∀ t : Fin cfg0.N, win0_3.index t 0 = t.val := by decide +kernel
theorem ix_c1 : ∀ t : Fin cfg0.N, win0_3.index t 1 = 0 := by decide +kernel
theorem ix_s0 : ∀ t : Fin cfg0.N, win0_4.index t 0 = t.val := by decide +kernel
theorem ix_s1 : ∀ t : Fin cfg0.N, win0_4.index t 1 = 0 := by decide +kernel
theorem ix_o0 : ∀ t : Fin cfg0.N, win0_5.index t 0 = t.val := by decide +kernel
theorem ix_o1 : ∀ t : Fin cfg0.N, win0_5.index t 1 = 0 := by decide +kernel
theorem fl_o : ∀ t : Fin cfg0.N, (cfg0.win 5).flush t = true := by decide +kernel

theorem lt_N (t : Fin cfg0.N) : t.val < 16 :=
  lt_of_lt_of_eq t.isLt N_0

/-- The compressed queries of a grid point. -/
def ab (A : Vec Ideal S16384x1280 .f32) (t : Fin cfg0.N) : Vec Ideal S1024x512 .f32 := fun y =>
  A (ix2 (⟨1024 * t.val + (y 0).val, by have := (y 0).isLt; have := lt_N t; dsimp at *; omega⟩ : Fin 16384) (⟨(y 1).val, by have := (y 1).isLt; dsimp at *; omega⟩ : Fin 1280))
/-- The rotary table of a grid point. -/
def tb (A : Vec Ideal S16384x128 .f32) (t : Fin cfg0.N) : Vec Ideal S1024x128 .f32 := fun y =>
  A (ix2 (⟨1024 * t.val + (y 0).val, by have := (y 0).isLt; have := lt_N t; dsimp at *; omega⟩ : Fin 16384) (y 1))

theorem iblk_a (t) : X0_0 m c t = ab (V m c main_v15) t := by
  funext y
  unfold X0_0 Pipeline.Window.fill
  rw [dif_pos (moved0_0 t y)]
  unfold ab
  blk_ext [iblk, ix_a0 t, ix_a1 t]
theorem iblk_b (t) : iblk m c 1 t = V m c main_v24 := by
  funext y
  blk_ext [iblk, ix_b0 t, ix_b1 t]
theorem iblk_w (t) : iblk m c 2 t = V m c main_v12 := by
  funext y
  blk_ext [iblk, ix_w0 t, ix_w1 t]
theorem iblk_c (t) : iblk m c 3 t = tb (V m c main_v19) t := by
  funext y
  unfold tb
  blk_ext [iblk, ix_c0 t, ix_c1 t]
theorem iblk_s (t) : iblk m c 4 t = tb (V m c main_v23) t := by
  funext y
  unfold tb
  blk_ext [iblk, ix_s0 t, ix_s1 t]
end

/-! ## The arrays the kernel is launched on -/

/-- Zeros between the lanes. -/
def zw : Vec Ideal S512x8x32 .f32 := broadcastInDim S512x8x32 ![] bcast_S_S512x8x32 (constant (F := Ideal) S_ .f32 0x00000000#32)
def zt : Vec Ideal S4x4096x32 .f32 := broadcastInDim S4x4096x32 ![] bcast_S_S4x4096x32 (constant (F := Ideal) S_ .f32 0x00000000#32)
/-- The scaled weights by heads. -/
def ws (x2 : Vec Ideal S1x512x1536 .f32) : Vec Ideal S512x8x192 .f32 :=
  shapeCast S512x8x192 (mulf (F := Ideal) (φ := .f32) (shapeCast S512x1536 x2 shapeCasts_S1x512x1536_S512x1536) (broadcastInDim S512x1536 ![] bcast_S_S512x1536 (constant (F := Ideal) S_ .f32 0x3DD53B95#32))) shapeCasts_S512x1536_S512x8x192
def cat4 (a1 a2 a3 a4 : Vec Ideal S512x8x32 .f32) : Vec Ideal S512x8x128 .f32 :=
  concatenate S512x8x128 2 [⟨S512x8x32, a1⟩, ⟨S512x8x32, a2⟩, ⟨S512x8x32, a3⟩, ⟨S512x8x32, a4⟩] concatenates_S512x8x32_S512x8x32_S512x8x32_S512x8x32_S512x8x128_d2
def cat2 (a1 a2 : Vec Ideal S512x8x128 .f32) : Vec Ideal S512x8x256 .f32 :=
  concatenate S512x8x256 2 [⟨S512x8x128, a1⟩, ⟨S512x8x128, a2⟩] concatenates_S512x8x128_S512x8x128_S512x8x256_d2
def wr (x2 : Vec Ideal S1x512x1536 .f32) : Vec Ideal S512x8x64 .f32 := extractStridedSlice S512x8x64 ![0, 0, 128] (ws x2) slices_S512x8x192_S512x8x64_0_0_128
/-- The rotary part of the weights: the first half, zeros, the second half, zeros. -/
def pw (x2 : Vec Ideal S1x512x1536 .f32) : Vec Ideal S512x8x128 .f32 :=
  cat4 (extractStridedSlice S512x8x32 ![0, 0, 0] (wr x2) slices_S512x8x64_S512x8x32_0_0_0) zw (extractStridedSlice S512x8x32 ![0, 0, 32] (wr x2) slices_S512x8x64_S512x8x32_0_0_32) zw
/-- The weights as the kernel takes them. -/
def wh (x2 : Vec Ideal S1x512x1536 .f32) : Vec Ideal S512x2048 .bf16 :=
  truncf (F := Ideal) .bf16 (shapeCast S512x2048 (cat2 (extractStridedSlice S512x8x128 ![0, 0, 0] (ws x2) slices_S512x8x192_S512x8x128_0_0_0) (pw x2)) shapeCasts_S512x8x256_S512x2048) bitsLt_bf16_f32
/-- The compressed queries as the kernel takes them. -/
def ah (x0 : Vec Ideal S4x4096x512 .f32) : Vec Ideal S16384x1280 .f32 :=
  concatenate S16384x1280 1 [⟨S16384x512, shapeCast S16384x512 x0 shapeCasts_S4x4096x512_S16384x512⟩, ⟨S16384x768, broadcastInDim S16384x768 ![] bcast_S_S16384x768 (constant (F := Ideal) S_ .f32 0x00000000#32)⟩] concatenates_S16384x512_S16384x768_S16384x1280_d1
/-- The norm's scale as the kernel takes it. -/
def bh (x1 : Vec Ideal S1x512 .f32) : Vec Ideal S1x512 .f32 := shapeCast S1x512 (shapeCast S512 x1 shapeCasts_S1x512_S512) shapeCasts_S512_S1x512
def catt (a1 a2 a3 a4 : Vec Ideal S4x4096x32 .f32) : Vec Ideal S4x4096x128 .f32 :=
  concatenate S4x4096x128 2 [⟨S4x4096x32, a1⟩, ⟨S4x4096x32, a2⟩, ⟨S4x4096x32, a3⟩, ⟨S4x4096x32, a4⟩] concatenates_S4x4096x32_S4x4096x32_S4x4096x32_S4x4096x32_S4x4096x128_d2
/-- A rotary table as the kernel takes it. -/
def th (a b : Vec Ideal S4x4096x32 .f32) : Vec Ideal S16384x128 .f32 := shapeCast S16384x128 (catt a zt b zt) shapeCasts_S4x4096x128_S16384x128

section
variable (m : (ℓ : Loc nD τ sig) → Buf (Elt Ideal) ℓ) (c : Dev nD)

theorem up6 : StableHlo.upto hostOps0 (fun b => m (c, b)) 11 (Proc.tc.devRef main_v6) = zw := by
  after_reads_simp
  rfl
theorem up7 : StableHlo.upto hostOps0 (fun b => m (c, b)) 11 (Proc.tc.devRef main_v7)
    = extractStridedSlice S512x8x32 ![0, 0, 0] (wr (m ((c : Thread nD τ).loc main_arg2))) slices_S512x8x64_S512x8x32_0_0_0 := by
  after_reads_simp
  rfl
theorem up8 : StableHlo.upto hostOps0 (fun b => m (c, b)) 11 (Proc.tc.devRef main_v8)
    = extractStridedSlice S512x8x32 ![0, 0, 32] (wr (m ((c : Thread nD τ).loc main_arg2))) slices_S512x8x64_S512x8x32_0_0_32 := by
  after_reads_simp
  rfl
theorem up4 : StableHlo.upto hostOps0 (fun b => m (c, b)) 12 (Proc.tc.devRef main_v4)
    = extractStridedSlice S512x8x128 ![0, 0, 0] (ws (m ((c : Thread nD τ).loc main_arg2))) slices_S512x8x192_S512x8x128_0_0_0 := by
  after_reads_simp
  rfl
theorem up9 : StableHlo.upto hostOps0 (fun b => m (c, b)) 12 (Proc.tc.devRef main_v9) = pw (m ((c : Thread nD τ).loc main_arg2)) := by
  after_reads_simp
  simp only [Matrix.cons_val]
  rw [up7, up6, up8]
  rfl
theorem V12 : V m c main_v12 = wh (m ((c : Thread nD τ).loc main_arg2)) := by
  unfold V
  after_reads_simp
  rw [up4, up9]
  rfl
theorem up13 : StableHlo.upto hostOps0 (fun b => m (c, b)) 18 (Proc.tc.devRef main_v13)
    = shapeCast S16384x512 (m ((c : Thread nD τ).loc main_arg0)) shapeCasts_S4x4096x512_S16384x512 := by
  after_reads_simp
  try rfl
theorem up14 : StableHlo.upto hostOps0 (fun b => m (c, b)) 18 (Proc.tc.devRef main_v14)
    = broadcastInDim S16384x768 ![] bcast_S_S16384x768 (constant (F := Ideal) S_ .f32 0x00000000#32) := by
  after_reads_simp
theorem V15 : V m c main_v15 = ah (m ((c : Thread nD τ).loc main_arg0)) := by
  unfold V
  after_reads_simp
  rw [up13, up14]
  rfl
theorem V24 : V m c main_v24 = bh (m ((c : Thread nD τ).loc main_arg1)) := by
  unfold V
  after_reads_simp
  rfl
theorem up17 : StableHlo.upto hostOps0 (fun b => m (c, b)) 22 (Proc.tc.devRef main_v17) = zt := by
  after_reads_simp
  rfl
theorem upc : StableHlo.upto hostOps0 (fun b => m (c, b)) 22 (Proc.tc.devRef main_arg3) = m ((c : Thread nD τ).loc main_arg3) := by
  after_reads_simp
  try rfl
theorem V19 : V m c main_v19 = th (m ((c : Thread nD τ).loc main_arg3)) (m ((c : Thread nD τ).loc main_arg3)) := by
  unfold V
  after_reads_simp
  simp only [Matrix.cons_val]
  rw [upc, up17]
  rfl
theorem up21 : StableHlo.upto hostOps0 (fun b => m (c, b)) 27 (Proc.tc.devRef main_v21) = zt := by
  after_reads_simp
  rfl
theorem up20 : StableHlo.upto hostOps0 (fun b => m (c, b)) 27 (Proc.tc.devRef main_v20) = Host.negf (F := Ideal) (φ := .f32) (m ((c : Thread nD τ).loc main_arg4)) := by
  after_reads_simp
  try rfl
theorem ups : StableHlo.upto hostOps0 (fun b => m (c, b)) 27 (Proc.tc.devRef main_arg4) = m ((c : Thread nD τ).loc main_arg4) := by
  after_reads_simp
  try rfl
theorem V23 : V m c main_v23 = th (Host.negf (F := Ideal) (φ := .f32) (m ((c : Thread nD τ).loc main_arg4))) (m ((c : Thread nD τ).loc main_arg4)) := by
  unfold V
  after_reads_simp
  simp only [Matrix.cons_val]
  rw [up20, up21, ups]
  rfl
end

/-! ## Their entries -/

theorem ah_apply (x0 : Vec Ideal S4x4096x512 .f32) (r : Fin 16384) (n : Fin 1280) (k : Fin 512) (hn : n.val = k.val) :
    ah x0 (ix2 r n) = x0 (ix3 (⟨r.val / 4096, by omega⟩ : Fin 4) (⟨r.val % 4096, by omega⟩ : Fin 4096) k) := by
  unfold ah
  pointwise
  rw [dif_pos (by omega)]
  exact congrArg x0 (congrArg (ix3 _ _) (Fin.ext hn))
theorem bh_apply (x1 : Vec Ideal S1x512 .f32) (n : Fin 512) : bh x1 (ix2 0 n) = x1 (ix2 0 n) := by
  unfold bh
  pointwise
theorem ws_apply (x2 : Vec Ideal S1x512x1536 .f32) (k : Fin 512) (h : Fin 8) (n : Fin 192) :
    ws x2 (ix3 k h n) = x2 (ix3 0 k (⟨192 * h.val + n.val, by omega⟩ : Fin 1536)) * Ideal.ofBits .f32 0x3DD53B95#32 := by
  unfold ws
  pointwise
  refine congrArg (fun e : EReal => e * Ideal.ofBits .f32 0x3DD53B95#32) (congrArg x2 (congrArg (ix3 _ _) (Fin.ext ?_)))
  show h.val * 192 + n.val = 192 * h.val + n.val
  omega
theorem zw_apply (y) : zw y = 0 := by
  idx_vars y
  unfold zw
  pointwise
theorem zt_apply (y) : zt y = 0 := by
  idx_vars y
  unfold zt
  pointwise
theorem cat4_apply (a1 a2 a3 a4 : Vec Ideal S512x8x32 .f32) (k : Fin 512) (h : Fin 8) (n : Fin 128) :
    cat4 a1 a2 a3 a4 (ix3 k h n) = (if g : n.val < 32 then a1 (ix3 k h (⟨n.val, g⟩ : Fin 32))
      else if g : n.val - 32 < 32 then a2 (ix3 k h (⟨n.val - 32, g⟩ : Fin 32))
      else if g : n.val - 32 - 32 < 32 then a3 (ix3 k h (⟨n.val - 32 - 32, g⟩ : Fin 32))
      else a4 (ix3 k h (⟨n.val - 32 - 32 - 32, by omega⟩ : Fin 32))) := by
  unfold cat4
  pointwise
theorem catt_apply (a1 a2 a3 a4 : Vec Ideal S4x4096x32 .f32) (k : Fin 4) (h : Fin 4096) (n : Fin 128) :
    catt a1 a2 a3 a4 (ix3 k h n) = (if g : n.val < 32 then a1 (ix3 k h (⟨n.val, g⟩ : Fin 32))
      else if g : n.val - 32 < 32 then a2 (ix3 k h (⟨n.val - 32, g⟩ : Fin 32))
      else if g : n.val - 32 - 32 < 32 then a3 (ix3 k h (⟨n.val - 32 - 32, g⟩ : Fin 32))
      else a4 (ix3 k h (⟨n.val - 32 - 32 - 32, by omega⟩ : Fin 32))) := by
  unfold catt
  pointwise
theorem cat2_apply (a1 a2 : Vec Ideal S512x8x128 .f32) (k : Fin 512) (h : Fin 8) (n : Fin 256) :
    cat2 a1 a2 (ix3 k h n) = (if g : n.val < 128 then a1 (ix3 k h (⟨n.val, g⟩ : Fin 128))
      else a2 (ix3 k h (⟨n.val - 128, by omega⟩ : Fin 128))) := by
  unfold cat2
  pointwise
theorem wn_apply (x2 : Vec Ideal S1x512x1536 .f32) (k : Fin 512) (h : Fin 8) (n : Fin 128) :
    extractStridedSlice S512x8x128 ![0, 0, 0] (ws x2) slices_S512x8x192_S512x8x128_0_0_0 (ix3 k h n) = ws x2 (ix3 k h (⟨n.val, by omega⟩ : Fin 192)) := by
  generalize ws x2 = w
  pointwise
theorem wa_apply (x2 : Vec Ideal S1x512x1536 .f32) (k : Fin 512) (h : Fin 8) (n : Fin 32) :
    extractStridedSlice S512x8x32 ![0, 0, 0] (wr x2) slices_S512x8x64_S512x8x32_0_0_0 (ix3 k h n) = ws x2 (ix3 k h (⟨128 + n.val, by omega⟩ : Fin 192)) := by
  unfold wr
  generalize ws x2 = w
  pointwise
theorem wb_apply (x2 : Vec Ideal S1x512x1536 .f32) (k : Fin 512) (h : Fin 8) (n : Fin 32) :
    extractStridedSlice S512x8x32 ![0, 0, 32] (wr x2) slices_S512x8x64_S512x8x32_0_0_32 (ix3 k h n) = ws x2 (ix3 k h (⟨160 + n.val, by omega⟩ : Fin 192)) := by
  unfold wr
  generalize ws x2 = w
  pointwise
  refine congrArg w (congrArg (ix3 _ _) (Fin.ext ?_))
  show 128 + (32 + n.val) = 160 + n.val
  omega
theorem wh_cast (x2 : Vec Ideal S1x512x1536 .f32) (k : Fin 512) (h : Fin 8) (n : Fin 256) (q : Fin 2048) (hq : q.val = 256 * h.val + n.val) :
    wh x2 (ix2 k q) = cat2 (extractStridedSlice S512x8x128 ![0, 0, 0] (ws x2) slices_S512x8x192_S512x8x128_0_0_0) (pw x2) (ix3 k h n) := by
  unfold wh
  generalize cat2 (extractStridedSlice S512x8x128 ![0, 0, 0] (ws x2) slices_S512x8x192_S512x8x128_0_0_0) (pw x2) = d
  pointwise
  refine congrArg d (funext fun a => ?_)
  match a with
  | ⟨0, _⟩ => rfl
  | ⟨1, _⟩ => exact Fin.ext (by show q.val / 256 = h.val; omega)
  | ⟨2, _⟩ => exact Fin.ext (by show q.val % 256 = n.val; omega)
theorem th_cast (a b : Vec Ideal S4x4096x32 .f32) (r : Fin 16384) (n : Fin 128) :
    th a b (ix2 r n) = catt a zt b zt (ix3 (⟨r.val / 4096, by omega⟩ : Fin 4) (⟨r.val % 4096, by omega⟩ : Fin 4096) n) := by
  unfold th
  generalize catt a zt b zt = d
  pointwise

/-! ## The result -/

/-- The scale of the queries. -/
def sc : EReal := Ideal.ofBits .f32 0x3DD53B95#32
theorem sc_real : ∃ v : ℝ, 0 ≤ v ∧ sc = (v : EReal) := by
  refine ⟨(13974421 : ℝ) / 2 ^ 27, by positivity, ?_⟩
  simp [sc, Ideal.ofBits, Ideal.ieee, -EReal.coe_mul]
  norm_num

theorem sum_sc {ι : Type} (t : Finset ι) (f w : ι → EReal) : ∑ k ∈ t, f k * (w k * sc) = (∑ k ∈ t, f k * w k) * sc := by
  obtain ⟨v, hv, e⟩ := sc_real
  rw [e, mul_comm _ (v : EReal), Cert.KernelIdeal.Step.mul_sum_coe t v hv]
  refine Finset.sum_congr rfl fun k _ => ?_
  rw [← mul_assoc, mul_comm]

theorem rot_sc (A B c s : EReal) : A * sc * c + B * sc * s = (A * c + B * s) * sc := by
  obtain ⟨v, hv, e⟩ := sc_real
  rw [e, EReal.right_distrib_of_nonneg_of_ne_top (by exact_mod_cast hv) (EReal.coe_ne_top v), mul_right_comm A, mul_right_comm B]

/-- A query before the scale and the rotation. -/
def qn (x0 : Vec Ideal S4x4096x512 .f32) (x1 : Vec Ideal S1x512 .f32) (x2 : Vec Ideal S1x512x1536 .f32) (b : Fin 4) (s : Fin 4096) (h : Fin 8) (l : Fin 192) : EReal :=
  ∑ k : Fin 512, rms (fun k => x0 (ix3 b s k)) (x1 (ix2 0 k)) k * x2 (ix3 0 k (⟨192 * h.val + l.val, by omega⟩ : Fin 1536))

/-- The query at a row, a head and a lane. -/
def res (x0 : Vec Ideal S4x4096x512 .f32) (x1 : Vec Ideal S1x512 .f32) (x2 : Vec Ideal S1x512x1536 .f32) (x3 x4 : Vec Ideal S4x4096x32 .f32) (b : Fin 4) (s : Fin 4096) (h : Fin 8) (l : Fin 256) : EReal :=
  (if g : l.val < 128 then qn x0 x1 x2 b s h (⟨l.val, by omega⟩ : Fin 192)
  else if g : l.val - 128 < 32 then
    qn x0 x1 x2 b s h (⟨128 + (l.val - 128), by omega⟩ : Fin 192) * x3 (ix3 b s (⟨l.val - 128, g⟩ : Fin 32)) - qn x0 x1 x2 b s h (⟨160 + (l.val - 128), by omega⟩ : Fin 192) * x4 (ix3 b s (⟨l.val - 128, g⟩ : Fin 32))
  else if g : l.val - 128 - 32 < 32 then 0
  else if g : l.val - 128 - 32 - 32 < 32 then
    qn x0 x1 x2 b s h (⟨160 + (l.val - 128 - 32 - 32), by omega⟩ : Fin 192) * x3 (ix3 b s (⟨l.val - 128 - 32 - 32, g⟩ : Fin 32)) + qn x0 x1 x2 b s h (⟨128 + (l.val - 128 - 32 - 32), by omega⟩ : Fin 192) * x4 (ix3 b s (⟨l.val - 128 - 32 - 32, g⟩ : Fin 32))
  else 0) * sc

section
variable (x2 : Vec Ideal S1x512x1536 .f32) (k : Fin 512) (h : Fin 8) (q : Fin 2048)

theorem wh_lo (l : Fin 192) (hl : l.val < 128) (hq : q.val = 256 * h.val + l.val) :
    wh x2 (ix2 k q) = x2 (ix3 0 k (⟨192 * h.val + l.val, by omega⟩ : Fin 1536)) * sc := by
  rw [wh_cast x2 k h (⟨l.val, by omega⟩ : Fin 256) q hq, cat2_apply, dif_pos hl, wn_apply, ws_apply]
  rfl
theorem wh_hi (j : Fin 128) (hq : q.val = 256 * h.val + (128 + j.val)) : wh x2 (ix2 k q) = pw x2 (ix3 k h j) := by
  rw [wh_cast x2 k h (⟨128 + j.val, by omega⟩ : Fin 256) q hq, cat2_apply, dif_neg (by show ¬(128 + j.val < 128); omega)]
  exact congrArg (pw x2) (congrArg (ix3 _ _) (Fin.ext (by show 128 + j.val - 128 = j.val; omega)))
theorem wh_a (j : Fin 32) (hq : q.val = 256 * h.val + (128 + j.val)) :
    wh x2 (ix2 k q) = x2 (ix3 0 k (⟨192 * h.val + (128 + j.val), by omega⟩ : Fin 1536)) * sc := by
  rw [wh_hi x2 k h q (⟨j.val, by omega⟩ : Fin 128) hq, pw, cat4_apply, dif_pos j.isLt, wa_apply, ws_apply]
  rfl
theorem wh_b (j : Fin 32) (hq : q.val = 256 * h.val + (192 + j.val)) :
    wh x2 (ix2 k q) = x2 (ix3 0 k (⟨192 * h.val + (160 + j.val), by omega⟩ : Fin 1536)) * sc := by
  rw [wh_hi x2 k h q (⟨64 + j.val, by omega⟩ : Fin 128) (by show q.val = 256 * h.val + (128 + (64 + j.val)); omega), pw, cat4_apply,
    dif_neg (by show ¬(64 + j.val < 32); omega), dif_neg (by show ¬(64 + j.val - 32 < 32); omega), dif_pos (by show 64 + j.val - 32 - 32 < 32; omega), wb_apply, ws_apply]
  refine congrArg (fun e : EReal => e * sc) (congrArg x2 (congrArg (ix3 _ _) (Fin.ext ?_)))
  show 192 * h.val + (160 + (64 + j.val - 32 - 32)) = 192 * h.val + (160 + j.val)
  omega
theorem wh_z (j : Fin 32) (hq : q.val = 256 * h.val + (160 + j.val) ∨ q.val = 256 * h.val + (224 + j.val)) : wh x2 (ix2 k q) = (0 : EReal) := by
  rcases hq with hq | hq
  · rw [wh_hi x2 k h q (⟨32 + j.val, by omega⟩ : Fin 128) (by show q.val = 256 * h.val + (128 + (32 + j.val)); omega), pw, cat4_apply,
      dif_neg (by show ¬(32 + j.val < 32); omega), dif_pos (by show 32 + j.val - 32 < 32; omega), zw_apply]
  · rw [wh_hi x2 k h q (⟨96 + j.val, by omega⟩ : Fin 128) (by show q.val = 256 * h.val + (128 + (96 + j.val)); omega), pw, cat4_apply,
      dif_neg (by show ¬(96 + j.val < 32); omega), dif_neg (by show ¬(96 + j.val - 32 < 32); omega), dif_neg (by show ¬(96 + j.val - 32 - 32 < 32); omega), zw_apply]
end

theorem blkv_ix (y0 : Vec Ideal S1024x512 .f32) (y1 : Vec Ideal S1x512 .f32) (y2 : Vec Ideal S512x2048 .bf16) (y3 y4 : Vec Ideal S1024x128 .f32) (r : Fin 1024) (q : Fin 2048) :
    blkv y0 y1 y2 y3 y4 (ix2 r q) = (if h : q.val % 256 < 128 then dd y0 y1 y2 r q
      else dd y0 y1 y2 r q * y3 (ix2 r (⟨q.val % 256 - 128, by omega⟩ : Fin 128))
        + dd y0 y1 y2 r (⟨q.val / 256 * 256 + (128 + (q.val % 256 - 128 + 64) % 128), by omega⟩ : Fin 2048) * y4 (ix2 r (⟨q.val % 256 - 128, by omega⟩ : Fin 128))) := rfl

section
variable (x0 : Vec Ideal S4x4096x512 .f32) (x1 : Vec Ideal S1x512 .f32) (x2 : Vec Ideal S1x512x1536 .f32)
variable (t : Fin cfg0.N) (r : Fin 1024) (b : Fin 4) (s : Fin 4096) (hb : (1024 * t.val + r.val) / 4096 = b.val) (hs : (1024 * t.val + r.val) % 4096 = s.val)
include hb hs

theorem ab_ah (k : Fin 512) : ab (ah x0) t (ix2 r k) = x0 (ix3 b s k) := by
  unfold ab
  rw [ah_apply x0 _ _ k rfl]
  refine congrArg x0 (funext fun a => ?_)
  match a with
  | ⟨0, _⟩ => exact Fin.ext hb
  | ⟨1, _⟩ => exact Fin.ext hs
  | ⟨2, _⟩ => rfl
theorem tb_th (u v : Vec Ideal S4x4096x32 .f32) (n : Fin 128) : tb (th u v) t (ix2 r n) = catt u zt v zt (ix3 b s n) := by
  unfold tb
  rw [show (ix2 r n : S1024x128.Idx) 1 = n from rfl, th_cast]
  refine congrArg (catt u zt v zt) (funext fun a => ?_)
  match a with
  | ⟨0, _⟩ => exact Fin.ext hb
  | ⟨1, _⟩ => exact Fin.ext hs
  | ⟨2, _⟩ => rfl
theorem dd_row (q : Fin 2048) : dd (ab (ah x0) t) (bh x1) (wh x2) r q = ∑ k : Fin 512, rms (fun k => x0 (ix3 b s k)) (x1 (ix2 0 k)) k * wh x2 (ix2 k q) := by
  unfold dd
  simp only [ab_ah x0 t r b s hb hs, bh_apply]
theorem dd_lo (h : Fin 8) (q : Fin 2048) (l : Fin 192) (hl : l.val < 128) (hq : q.val = 256 * h.val + l.val) :
    dd (ab (ah x0) t) (bh x1) (wh x2) r q = qn x0 x1 x2 b s h l * sc := by
  rw [dd_row x0 x1 x2 t r b s hb hs]
  simp only [wh_lo x2 _ h q l hl hq]
  exact sum_sc _ _ _
theorem dd_a (h : Fin 8) (q : Fin 2048) (j : Fin 32) (hq : q.val = 256 * h.val + (128 + j.val)) :
    dd (ab (ah x0) t) (bh x1) (wh x2) r q = qn x0 x1 x2 b s h (⟨128 + j.val, by omega⟩ : Fin 192) * sc := by
  rw [dd_row x0 x1 x2 t r b s hb hs]
  simp only [wh_a x2 _ h q j hq]
  exact sum_sc _ _ _
theorem dd_b (h : Fin 8) (q : Fin 2048) (j : Fin 32) (hq : q.val = 256 * h.val + (192 + j.val)) :
    dd (ab (ah x0) t) (bh x1) (wh x2) r q = qn x0 x1 x2 b s h (⟨160 + j.val, by omega⟩ : Fin 192) * sc := by
  rw [dd_row x0 x1 x2 t r b s hb hs]
  simp only [wh_b x2 _ h q j hq]
  exact sum_sc _ _ _
theorem dd_z (h : Fin 8) (q : Fin 2048) (j : Fin 32) (hq : q.val = 256 * h.val + (160 + j.val) ∨ q.val = 256 * h.val + (224 + j.val)) :
    dd (ab (ah x0) t) (bh x1) (wh x2) r q = 0 := by
  rw [dd_row x0 x1 x2 t r b s hb hs]
  simp only [wh_z x2 _ h q j hq, mul_zero]
  exact Finset.sum_const_zero

/-- A block of the kernel's result at a row, a head and a lane. -/
theorem blkv_apply (x3 x4 : Vec Ideal S4x4096x32 .f32) (h : Fin 8) (l : Fin 256) (q : Fin 2048) (hq : q.val = 256 * h.val + l.val) :
    blkv (ab (ah x0) t) (bh x1) (wh x2) (tb (th x3 x3) t) (tb (th (Host.negf (F := Ideal) (φ := .f32) x4) x4) t) (ix2 r q) = res x0 x1 x2 x3 x4 b s h l := by
  have e1 : q.val % 256 = l.val := by omega
  have e2 : q.val / 256 = h.val := by omega
  rw [blkv_ix]
  unfold res
  simp only [e1, e2]
  by_cases g : l.val < 128
  · rw [dif_pos g, dif_pos g]
    exact dd_lo x0 x1 x2 t r b s hb hs h q (⟨l.val, by omega⟩ : Fin 192) g hq
  · rw [dif_neg g, dif_neg g, tb_th t r b s hb hs, tb_th t r b s hb hs, catt_apply, catt_apply]
    by_cases ga : l.val - 128 < 32
    · rw [dif_pos ga, dif_pos ga, dif_pos ga, dd_a x0 x1 x2 t r b s hb hs h q (⟨l.val - 128, ga⟩ : Fin 32) (by show q.val = 256 * h.val + (128 + (l.val - 128)); omega),
        dd_b x0 x1 x2 t r b s hb hs h _ (⟨l.val - 128, ga⟩ : Fin 32) (by show h.val * 256 + (128 + (l.val - 128 + 64) % 128) = 256 * h.val + (192 + (l.val - 128)); omega), rot_sc]
      refine congrArg (fun e : EReal => e * sc) ?_
      rw [sub_eq_add_neg, ← mul_neg]
      rfl
    · rw [dif_neg ga, dif_neg ga, dif_neg ga]
      by_cases gz : l.val - 128 - 32 < 32
      · rw [dif_pos gz, dif_pos gz, dif_pos gz, dd_z x0 x1 x2 t r b s hb hs h q (⟨l.val - 128 - 32, gz⟩ : Fin 32) (Or.inl (by show q.val = 256 * h.val + (160 + (l.val - 128 - 32)); omega)),
          dd_z x0 x1 x2 t r b s hb hs h _ (⟨l.val - 128 - 32, gz⟩ : Fin 32) (Or.inr (by show h.val * 256 + (128 + (l.val - 128 + 64) % 128) = 256 * h.val + (224 + (l.val - 128 - 32)); omega)),
          zero_mul, zero_mul, add_zero]
      · rw [dif_neg gz, dif_neg gz, dif_neg gz]
        by_cases gb : l.val - 128 - 32 - 32 < 32
        · rw [dif_pos gb, dif_pos gb, dif_pos gb, dd_b x0 x1 x2 t r b s hb hs h q (⟨l.val - 128 - 32 - 32, gb⟩ : Fin 32) (by show q.val = 256 * h.val + (192 + (l.val - 128 - 32 - 32)); omega),
            dd_a x0 x1 x2 t r b s hb hs h _ (⟨l.val - 128 - 32 - 32, gb⟩ : Fin 32) (by show h.val * 256 + (128 + (l.val - 128 + 64) % 128) = 256 * h.val + (128 + (l.val - 128 - 32 - 32)); omega), rot_sc]
        · rw [dif_neg gb, dif_neg gb, dif_neg gb, dd_z x0 x1 x2 t r b s hb hs h q (⟨l.val - 128 - 32 - 32 - 32, by omega⟩ : Fin 32) (Or.inr (by show q.val = 256 * h.val + (224 + (l.val - 128 - 32 - 32 - 32)); omega)),
            dd_z x0 x1 x2 t r b s hb hs h _ (⟨l.val - 128 - 32 - 32 - 32, by omega⟩ : Fin 32) (Or.inl (by show h.val * 256 + (128 + (l.val - 128 + 64) % 128) = 256 * h.val + (160 + (l.val - 128 - 32 - 32 - 32)); omega)),
            zero_mul, zero_mul, add_zero]
end

section
variable (m : (ℓ : Loc nD τ sig) → Buf (Elt Ideal) ℓ) (c : Dev nD)

/-- The kernel's result array at a row and a column. -/
theorem arr_apply (x0 : Vec Ideal S4x4096x512 .f32) (x1 : Vec Ideal S1x512 .f32) (x2 : Vec Ideal S1x512x1536 .f32) (x3 x4 : Vec Ideal S4x4096x32 .f32)
    (h0 : m ((c : Thread nD τ).loc main_arg0) = x0) (h1 : m ((c : Thread nD τ).loc main_arg1) = x1) (h2 : m ((c : Thread nD τ).loc main_arg2) = x2) (h3 : m ((c : Thread nD τ).loc main_arg3) = x3) (h4 : m ((c : Thread nD τ).loc main_arg4) = x4) (r : Fin 16384) (n : Fin 2048) :
    (dats m 0 c).arrAt 5 cfg0.N (ix2 r n) = res x0 x1 x2 x3 x4 (⟨r.val / 4096, by omega⟩ : Fin 4) (⟨r.val % 4096, by omega⟩ : Fin 4096) (⟨n.val / 256, by omega⟩ : Fin 8) (⟨n.val % 256, by omega⟩ : Fin 256) := by
  have ht : r.val / 1024 < cfg0.N := by rw [show cfg0.N = 16 from N_0]; omega
  have e := congrFun ((Value.blocks5 m c ⟨r.val / 1024, ht⟩ (fl_o _)).trans (Value.flushed5_A m c ⟨r.val / 1024, ht⟩)) (ix2 (⟨r.val % 1024, by omega⟩ : Fin 1024) n)
  rw [out_eq, iblk_a, iblk_b, iblk_w, iblk_c, iblk_s, V15, V24, V12, V19, V23, h0, h1, h2, h3, h4] at e
  refine Eq.trans ?_ (e.trans ?_)
  · blk_ext [ix_o0, ix_o1]
  · exact blkv_apply x0 x1 x2 ⟨r.val / 1024, ht⟩ (⟨r.val % 1024, by omega⟩ : Fin 1024) _ _
      (by show (1024 * (r.val / 1024) + r.val % 1024) / 4096 = r.val / 4096; omega) (by show (1024 * (r.val / 1024) + r.val % 1024) % 4096 = r.val % 4096; omega)
      x3 x4 (⟨n.val / 256, by omega⟩ : Fin 8) (⟨n.val % 256, by omega⟩ : Fin 256) n (by show n.val = 256 * (n.val / 256) + n.val % 256; omega)
end

end Cert.QUpIdeal.Step

namespace Cert.QUpReferenceIdeal.Val
open Cert.QUpReferenceIdeal Cert.QUpReferenceIdeal.Gen Cert.QUpReferenceIdeal.Read Idealize.ShloMosaic Idealize.ShloMosaic.Tactic Idealize.ShloMosaic.TcCoe Idealize.SL.Sem
open Cert.QUpIdeal.Step (res rms qn sc zero_word)

def cat5 (a1 : Vec Ideal S4x4096x8x128 .f32) (a2 a3 a4 a5 : Vec Ideal S4x4096x8x32 .f32) : Vec Ideal S4x4096x8x256 .f32 :=
  concatenate S4x4096x8x256 3 [⟨S4x4096x8x128, a1⟩, ⟨S4x4096x8x32, a2⟩, ⟨S4x4096x8x32, a3⟩, ⟨S4x4096x8x32, a4⟩, ⟨S4x4096x8x32, a5⟩] concatenates_S4x4096x8x128_S4x4096x8x32_S4x4096x8x32_S4x4096x8x32_S4x4096x8x32_S4x4096x8x256_d3
theorem cat5_apply (a1 : Vec Ideal S4x4096x8x128 .f32) (a2 a3 a4 a5 : Vec Ideal S4x4096x8x32 .f32) (b : Fin 4) (s : Fin 4096) (h : Fin 8) (n : Fin 256) :
    cat5 a1 a2 a3 a4 a5 (ix4 b s h n) = (if g : n.val < 128 then a1 (ix4 b s h (⟨n.val, g⟩ : Fin 128))
      else if g : n.val - 128 < 32 then a2 (ix4 b s h (⟨n.val - 128, g⟩ : Fin 32))
      else if g : n.val - 128 - 32 < 32 then a3 (ix4 b s h (⟨n.val - 128 - 32, g⟩ : Fin 32))
      else if g : n.val - 128 - 32 - 32 < 32 then a4 (ix4 b s h (⟨n.val - 128 - 32 - 32, g⟩ : Fin 32))
      else a5 (ix4 b s h (⟨n.val - 128 - 32 - 32 - 32, by omega⟩ : Fin 32))) := by
  unfold cat5
  pointwise

section
variable (x0 : Vec Ideal S4x4096x512 .f32) (x1 : Vec Ideal S1x512 .f32) (x2 : Vec Ideal S1x512x1536 .f32) (x3 x4 : Vec Ideal S4x4096x32 .f32) (b : Fin 4) (s : Fin 4096) (h : Fin 8)

/-- The normed compressed query. -/
theorem v13_apply (k : Fin 512) : val_main_v13 (F := Ideal) x0 x1 (ix3 b s k) = rms (fun k => x0 (ix3 b s k)) (x1 (ix2 0 k)) k := by
  have hs : val_main_v2 (F := Ideal) x0 (ix2 b s) = ∑ k : Fin 512, x0 (ix3 b s k) * x0 (ix3 b s k) := by
    rw [val_main_v2_apply]
    have hz : val_main_cst (F := Ideal) (Shape.Idx.first h_S_) = (0 : EReal) := zero_word
    rw [hz, zero_add]
    refine Finset.sum_congr rfl fun k _ => ?_
    have ek : idx_main_v2 (ix2 b s) k = ix3 b s k := by funext a; fin_cases a <;> rfl
    rw [ek, val_main_v1_apply]
    rfl
  rw [val_main_v13_apply, val_main_v12_apply, val_main_v11_apply, val_main_v10_apply, val_main_v9_apply, val_main_v8_apply, val_main_v7_apply, val_main_v6_apply,
    val_main_v5_apply, val_main_v4_apply, val_main_v3_apply, val_main_v0_apply]
  have e3 : idx_main_v3 (idx_main_v9 (ix3 b s k)) = ix2 b s := by funext a; fin_cases a <;> rfl
  rw [e3, hs]
  unfold rms
  refine congrArg₂ (fun a b : EReal => a * b) rfl (congrArg x1 ?_)
  funext a; fin_cases a
  · rfl
  · exact Fin.ext (Nat.mod_eq_of_lt k.isLt)

theorem v16_apply (l : Fin 192) : val_main_v16 (F := Ideal) x0 x1 x2 (ix4 b s h l) = qn x0 x1 x2 b s h l := by
  have ei : idx_main_v16 (ix4 b s h l) = ix3 b s (⟨192 * h.val + l.val, by omega⟩ : Fin 1536) := by
    funext a; fin_cases a
    · exact Fin.ext (by show (((b.val * 4096 + s.val) * 8 + h.val) * 192 + l.val) / 6291456 = b.val; omega)
    · exact Fin.ext (by show (((b.val * 4096 + s.val) * 8 + h.val) * 192 + l.val) / 1536 % 4096 = s.val; omega)
    · exact Fin.ext (by show (((b.val * 4096 + s.val) * 8 + h.val) * 192 + l.val) % 1536 = 192 * h.val + l.val; omega)
  rw [val_main_v16_apply, ei, val_main_v15_apply]
  unfold qn
  generalize (⟨192 * h.val + l.val, by omega⟩ : Fin 1536) = n
  refine Finset.sum_congr rfl fun k _ => ?_
  have el : lidx_main_v15 (ix3 b s n) k = ix3 b s k := by funext a; fin_cases a <;> rfl
  rw [el, v13_apply, val_main_v14_apply]
  refine congrArg₂ (fun a b : EReal => a * b) rfl (congrArg x2 ?_)
  funext a; fin_cases a
  · rfl
  · exact Fin.ext (by show (k.val * 1536 + n.val) / 1536 % 512 = k.val; omega)
  · exact Fin.ext (by show (k.val * 1536 + n.val) % 1536 = n.val; omega)

theorem v17_apply (j : Fin 32) : val_main_v17 (F := Ideal) x0 x1 x2 (ix4 b s h j) = qn x0 x1 x2 b s h (⟨128 + j.val, by omega⟩ : Fin 192) := by
  rw [val_main_v17_apply, ← v16_apply]
  refine congrArg (val_main_v16 (F := Ideal) x0 x1 x2) ?_
  funext a; fin_cases a <;> rfl
theorem v18_apply (j : Fin 32) : val_main_v18 (F := Ideal) x0 x1 x2 (ix4 b s h j) = qn x0 x1 x2 b s h (⟨160 + j.val, by omega⟩ : Fin 192) := by
  rw [val_main_v18_apply, ← v16_apply]
  refine congrArg (val_main_v16 (F := Ideal) x0 x1 x2) ?_
  funext a; fin_cases a <;> rfl
theorem v22_apply (j : Fin 128) : val_main_v22 (F := Ideal) x0 x1 x2 (ix4 b s h j) = qn x0 x1 x2 b s h (⟨j.val, by omega⟩ : Fin 192) := by
  rw [val_main_v22_apply, ← v16_apply]
  refine congrArg (val_main_v16 (F := Ideal) x0 x1 x2) ?_
  funext a; fin_cases a <;> rfl
theorem v21_apply (j : Fin 32) : val_main_v21 (F := Ideal) (ix4 b s h j) = (0 : EReal) := by
  rw [val_main_v21_apply]
  exact zero_word
theorem v27_apply (j : Fin 32) : val_main_v27 (F := Ideal) x0 x1 x2 x3 x4 (ix4 b s h j)
    = qn x0 x1 x2 b s h (⟨128 + j.val, by omega⟩ : Fin 192) * x3 (ix3 b s j) - qn x0 x1 x2 b s h (⟨160 + j.val, by omega⟩ : Fin 192) * x4 (ix3 b s j) := by
  rw [val_main_v27_apply, val_main_v24_apply, val_main_v26_apply, v17_apply, v18_apply, val_main_v23_apply, val_main_v19_apply, val_main_v25_apply, val_main_v20_apply]
  refine congrArg₂ (fun a b : EReal => a - b) (congrArg₂ (fun a b : EReal => a * b) rfl (congrArg x3 ?_)) (congrArg₂ (fun a b : EReal => a * b) rfl (congrArg x4 ?_))
  · funext a; fin_cases a <;> rfl
  · funext a; fin_cases a <;> rfl
theorem v32_apply (j : Fin 32) : val_main_v32 (F := Ideal) x0 x1 x2 x3 x4 (ix4 b s h j)
    = qn x0 x1 x2 b s h (⟨160 + j.val, by omega⟩ : Fin 192) * x3 (ix3 b s j) + qn x0 x1 x2 b s h (⟨128 + j.val, by omega⟩ : Fin 192) * x4 (ix3 b s j) := by
  rw [val_main_v32_apply, val_main_v29_apply, val_main_v31_apply, v17_apply, v18_apply, val_main_v28_apply, val_main_v19_apply, val_main_v30_apply, val_main_v20_apply]
  refine congrArg₂ (fun a b : EReal => a + b) (congrArg₂ (fun a b : EReal => a * b) rfl (congrArg x3 ?_)) (congrArg₂ (fun a b : EReal => a * b) rfl (congrArg x4 ?_))
  · funext a; fin_cases a <;> rfl
  · funext a; fin_cases a <;> rfl

theorem v33_eq : val_main_v33 (F := Ideal) x0 x1 x2 x3 x4
    = cat5 (val_main_v22 (F := Ideal) x0 x1 x2) (val_main_v27 (F := Ideal) x0 x1 x2 x3 x4) (val_main_v21 (F := Ideal)) (val_main_v32 (F := Ideal) x0 x1 x2 x3 x4) (val_main_v21 (F := Ideal)) := rfl
end

/-- The reference at a row and a column. -/
theorem ref_apply (x0 : Vec Ideal S4x4096x512 .f32) (x1 : Vec Ideal S1x512 .f32) (x2 : Vec Ideal S1x512x1536 .f32) (x3 x4 : Vec Ideal S4x4096x32 .f32) (r : Fin 16384) (n : Fin 2048) :
    val_main_v37 (F := Ideal) x0 x1 x2 x3 x4 (ix2 r n) = res x0 x1 x2 x3 x4 (⟨r.val / 4096, by omega⟩ : Fin 4) (⟨r.val % 4096, by omega⟩ : Fin 4096) (⟨n.val / 256, by omega⟩ : Fin 8) (⟨n.val % 256, by omega⟩ : Fin 256) := by
  have ei : idx_main_v36 (ix2 r n) = ix4 (⟨r.val / 4096, by omega⟩ : Fin 4) (⟨r.val % 4096, by omega⟩ : Fin 4096) (⟨n.val / 256, by omega⟩ : Fin 8) (⟨n.val % 256, by omega⟩ : Fin 256) := by
    funext a; fin_cases a
    · exact Fin.ext (by show (r.val * 2048 + n.val) / 8388608 = r.val / 4096; omega)
    · exact Fin.ext (by show (r.val * 2048 + n.val) / 2048 % 4096 = r.val % 4096; omega)
    · exact Fin.ext (by show (r.val * 2048 + n.val) / 256 % 8 = n.val / 256; omega)
    · exact Fin.ext (by show (r.val * 2048 + n.val) % 256 = n.val % 256; omega)
  rw [val_main_v37_apply, val_main_v36_apply, ei, val_main_v35_apply, val_main_v34_apply]
  generalize (⟨r.val / 4096, by omega⟩ : Fin 4) = b
  generalize (⟨r.val % 4096, by omega⟩ : Fin 4096) = s
  generalize (⟨n.val / 256, by omega⟩ : Fin 8) = h
  generalize (⟨n.val % 256, by omega⟩ : Fin 256) = l
  unfold res
  refine congrArg (fun e : EReal => e * sc) ?_
  rw [v33_eq, cat5_apply]
  simp only [v22_apply, v27_apply, v32_apply, v21_apply]

/-- The kernel's result array is the reference's. -/
theorem result_eq (m : (ℓ : Loc Cert.QUpIdeal.nD Cert.QUpIdeal.τ Cert.QUpIdeal.sig) → Buf (Elt Ideal) ℓ) (c : Dev Cert.QUpIdeal.nD)
    (x0 : Vec Ideal S4x4096x512 .f32) (x1 : Vec Ideal S1x512 .f32) (x2 : Vec Ideal S1x512x1536 .f32) (x3 x4 : Vec Ideal S4x4096x32 .f32)
    (h0 : m ((c : Thread Cert.QUpIdeal.nD Cert.QUpIdeal.τ).loc Cert.QUpIdeal.main_arg0) = x0) (h1 : m ((c : Thread Cert.QUpIdeal.nD Cert.QUpIdeal.τ).loc Cert.QUpIdeal.main_arg1) = x1)
    (h2 : m ((c : Thread Cert.QUpIdeal.nD Cert.QUpIdeal.τ).loc Cert.QUpIdeal.main_arg2) = x2) (h3 : m ((c : Thread Cert.QUpIdeal.nD Cert.QUpIdeal.τ).loc Cert.QUpIdeal.main_arg3) = x3)
    (h4 : m ((c : Thread Cert.QUpIdeal.nD Cert.QUpIdeal.τ).loc Cert.QUpIdeal.main_arg4) = x4) :
    (Cert.QUpIdeal.Gen.dats m 0 c).arrAt 5 Cert.QUpIdeal.cfg0.N = val_main_v37 (F := Ideal) x0 x1 x2 x3 x4 := by
  refine funext fun (y : S16384x2048.Idx) => ?_
  idx_vars y
  exact (Cert.QUpIdeal.Step.arr_apply m c x0 x1 x2 x3 x4 h0 h1 h2 h3 h4 y0 y1).trans (ref_apply x0 x1 x2 x3 x4 y0 y1).symm
end Cert.QUpReferenceIdeal.Val
-- ==== Proof.KvUpBlock.lean ====
module
public import proofs.«01_k».proof.Proof.Gen.KvUpIdeal.Value
public import Idealize.ShloMosaic.Lib.Pointwise
public import Idealize.ShloMosaic.Lib.Pipeline.ValueKit
public import Idealize.ShloMosaic.Lib.Pipeline.ValueKit.Tiles
@[expose] public section
set_option maxRecDepth 16384
noncomputable section
namespace Cert.KvUpIdeal.Step
open Cert.KvUpIdeal Cert.KvUpIdeal.Gen Idealize.ShloMosaic Idealize.ShloMosaic.TcCoe Idealize.SL.Sem Idealize.ShloMosaic.Tactic

/-! # One block of the keys and one of the values -/

theorem z2 : (![0, 0] : Fin 2 → ℕ) = fun _ => 0 := by funext a; fin_cases a <;> rfl

/-- A row normalised by its root mean square and scaled. -/
def rms (y : Fin 512 → EReal) (w : EReal) (n : Fin 512) : EReal :=
  y n * Ideal.rsqrt (Ideal.div (∑ k : Fin 512, y k * y k) (Ideal.ofBits .f32 0x44000000#32) + Ideal.ofBits .f32 0x358637BD#32) * w

theorem pay3_apply (y : Vec Ideal S1024x512 .f32) (w : Vec Ideal S1x512 .f32) (r : Fin 1024) (n : Fin 512) :
    k0_pay3 (F := Ideal) y w (ix2 r n) = rms (fun k => y (ix2 r k)) (w (ix2 0 n)) n := by
  unfold k0_pay3 rms
  pointwise

theorem pay5_apply (y : Vec Ideal S1024x512 .f32) (w : Vec Ideal S1x512 .f32) (v : Vec Ideal S512x1024 .bf16) (r : Fin 1024) (j : Fin 1024) :
    k0_pay5 (F := Ideal) y w v (ix2 r j) = ∑ k : Fin 512, rms (fun k => y (ix2 r k)) (w (ix2 0 k)) k * v (ix2 k j) := by
  simp only [← pay3_apply]
  unfold k0_pay5
  generalize k0_pay3 (F := Ideal) y w = n
  pointwise

theorem pay2_apply (n : Vec Ideal S1024x512 .bf16) (w : Vec Ideal S512x1024 .bf16) (r : Fin 1024) (j : Fin 1024) :
    k0_pay2 (F := Ideal) n w (ix2 r j) = ∑ k : Fin 512, n (ix2 r k) * w (ix2 k j) := by
  unfold k0_pay2
  pointwise

/-- The rotary lanes of the keys. -/
theorem pay4_apply (y c s : Vec Ideal S1024x128 .f32) (r : Fin 1024) (j : Fin 128) :
    k0_pay4 (F := Ideal) y c s (ix2 r j) = y (ix2 r j) * c (ix2 r j) + y (ix2 r (⟨(j.val + 64) % 128, by omega⟩ : Fin 128)) * s (ix2 r j) := by
  unfold k0_pay4
  pointwise
  refine congrArg (fun e : EReal => y (ix2 r j) * c (ix2 r j) + e * s (ix2 r j)) (congrArg y (funext fun a => ?_))
  match a with
  | ⟨0, _⟩ => rfl
  | ⟨1, _⟩ => exact Fin.ext (by show (j.val + 128 - 64) % 128 = (j.val + 64) % 128; omega)

/-- A slice of 128 columns. -/
def cut (o : ℕ) (ho : o + 128 ≤ 1024) (d : Vec Ideal S1024x1024 .f32) : Vec Ideal S1024x128 .bf16 := fun y => d (ix2 (y 0) (⟨o + (y 1).val, by have h : (y 1).val < 128 := (y 1).isLt; omega⟩ : Fin 1024))

section
variable (a : Vec Ideal S1024x512 .f32) (b : Vec Ideal S1x512 .f32) (v : Vec Ideal S512x1024 .bf16) (d : Vec Ideal S1024x1024 .f32)
theorem c0 : k0_pay6 (F := Ideal) a b v = cut 0 (by omega) (k0_pay5 a b v) := by
  unfold k0_pay6
  generalize k0_pay5 (F := Ideal) a b v = d
  funext (z : S1024x128.Idx)
  idx_vars z
  unfold cut
  pointwise
theorem c1 : k0_pay8 (F := Ideal) (k0_pay7 a b v) = cut 128 (by omega) (k0_pay5 a b v) := by
  unfold k0_pay8 k0_pay7
  generalize k0_pay5 (F := Ideal) a b v = d
  funext (z : S1024x128.Idx)
  idx_vars z
  unfold cut
  pointwise
theorem c2 : k0_pay9 (F := Ideal) d = cut 256 (by omega) (d) := by
  unfold k0_pay9
  funext (z : S1024x128.Idx)
  idx_vars z
  unfold cut
  pointwise
theorem c3 : k0_pay10 (F := Ideal) d = cut 384 (by omega) (d) := by
  unfold k0_pay10
  funext (z : S1024x128.Idx)
  idx_vars z
  unfold cut
  pointwise
theorem c4 : k0_pay11 (F := Ideal) d = cut 512 (by omega) (d) := by
  unfold k0_pay11
  funext (z : S1024x128.Idx)
  idx_vars z
  unfold cut
  pointwise
theorem c5 : k0_pay12 (F := Ideal) d = cut 640 (by omega) (d) := by
  unfold k0_pay12
  funext (z : S1024x128.Idx)
  idx_vars z
  unfold cut
  pointwise
theorem c6 : k0_pay13 (F := Ideal) d = cut 768 (by omega) (d) := by
  unfold k0_pay13
  funext (z : S1024x128.Idx)
  idx_vars z
  unfold cut
  pointwise
theorem c7 : k0_pay1 (F := Ideal) (k0_pay14 d) = cut 896 (by omega) (d) := by
  unfold k0_pay1 k0_pay14
  funext (z : S1024x128.Idx)
  idx_vars z
  unfold cut
  pointwise
end

/-- A product of a normalised row and a column of the weights. -/
def dd (x0 : Vec Ideal S1024x512 .f32) (x1 : Vec Ideal S1x512 .f32) (x2 : Vec Ideal S512x2048 .bf16) (r : Fin 1024) (j : Fin 2048) : EReal :=
  ∑ k : Fin 512, rms (fun k => x0 (ix2 r k)) (x1 (ix2 0 k)) k * x2 (ix2 k j)

/-- A block of the keys: in every head the lanes without rotation, then the rotary lanes. -/
def blkk (x0 : Vec Ideal S1024x512 .f32) (x1 : Vec Ideal S1x512 .f32) (x2 : Vec Ideal S512x2048 .bf16) (x3 x4 x5 : Vec Ideal S1024x128 .f32) : Vec Ideal S1024x2048 .bf16 := fun y =>
  if h : (y 1).val % 256 < 128 then dd x0 x1 x2 (y 0) (⟨(y 1).val / 256 * 128 + (y 1).val % 256, by have h : (y 1).val < 2048 := (y 1).isLt; omega⟩ : Fin 2048)
  else x3 (ix2 (y 0) (⟨(y 1).val % 256 - 128, by omega⟩ : Fin 128)) * x4 (ix2 (y 0) (⟨(y 1).val % 256 - 128, by omega⟩ : Fin 128))
    + x3 (ix2 (y 0) (⟨((y 1).val % 256 - 128 + 64) % 128, by omega⟩ : Fin 128)) * x5 (ix2 (y 0) (⟨(y 1).val % 256 - 128, by omega⟩ : Fin 128))

/-- A block of the values. -/
def blkvv (x0 : Vec Ideal S1024x512 .f32) (x1 : Vec Ideal S1x512 .f32) (x2 : Vec Ideal S512x2048 .bf16) : Vec Ideal S1024x1024 .bf16 := fun y =>
  dd x0 x1 x2 (y 0) (⟨1024 + (y 1).val, by have h : (y 1).val < 1024 := (y 1).isLt; omega⟩ : Fin 2048)

theorem ld_w (arg3 : Memref sig .tc .vmem S512x2048 .bf16) (harg3 : arg3.IsWhole) (X : Vec Ideal S512x2048 .bf16) (o : ℕ) (off : Fin 2 → ℕ) (hoff : off = ![0, o]) (hin : ∀ a, off a + S512x1024.size a ≤ S512x2048.size a)
    (k : Fin 512) (j : Fin 1024) (q : Fin 2048) (hq : q.val = o + j.val) :
    arg3.view.readAt (Elt Ideal) (Rect.unit (s := S512x2048) off S512x1024.size hin).toLoadRect (harg3.unread X) (ix2 k j) = X (ix2 k q) := by
  subst hoff
  rw [View.readAt_eq_ld, harg3.read_unread]
  refine congrArg X (funext fun a => ?_)
  match a with
  | ⟨0, _⟩ => exact Fin.ext (by show 0 + 1 * k.val = k.val; omega)
  | ⟨1, _⟩ => exact Fin.ext (by show o + 1 * j.val = q.val; omega)

theorem tile_n (x0 : Vec Ideal S1024x512 .f32) (x1 : Vec Ideal S1x512 .f32) (x2 : Vec Ideal S512x2048 .bf16) (x3 x4 x5 : Vec Ideal S1024x128 .f32) (v : Vec Ideal S512x1024 .bf16) (hv : ∀ (k : Fin 512) (j : Fin 1024) (q : Fin 2048), q.val = 0 + j.val → v (ix2 k j) = x2 (ix2 k q)) (h : ℕ) (ho : 128 * h + 128 ≤ 1024) (u : ℕ) (hu : u + 128 ≤ 1024) (eu : u = 128 * h)
    (z : S1024x128.Idx) (y : S1024x2048.Idx) (e0 : (y 0).val = (z 0).val) (e1 : (y 1).val = 256 * h + (z 1).val) :
    cut u hu (k0_pay5 (F := Ideal) x0 x1 v) z = blkk x0 x1 x2 x3 x4 x5 y := by
  idx_vars z
  idx_vars y
  have bz : z1.val < 128 := z1.isLt
  have by1 : y1.val < 2048 := y1.isLt
  have e1' : y1.val = 256 * h + z1.val := e1
  obtain rfl : y0 = z0 := Fin.ext e0
  unfold blkk dd cut
  rw [dif_pos (by show y1.val % 256 < 128; omega)]
  refine (pay5_apply x0 x1 v y0 _).trans (Finset.sum_congr rfl fun k _ => ?_)
  exact congrArg _ (hv k _ _ (by show y1.val / 256 * 128 + y1.val % 256 = 0 + (u + z1.val); omega))

theorem tile_r (x0 : Vec Ideal S1024x512 .f32) (x1 : Vec Ideal S1x512 .f32) (x2 : Vec Ideal S512x2048 .bf16) (x3 x4 x5 : Vec Ideal S1024x128 .f32) (h : ℕ)
    (z : S1024x128.Idx) (y : S1024x2048.Idx) (e0 : (y 0).val = (z 0).val) (e1 : (y 1).val = 256 * h + 128 + (z 1).val) :
    k0_pay4 (F := Ideal) x3 x4 x5 z = blkk x0 x1 x2 x3 x4 x5 y := by
  idx_vars z
  idx_vars y
  have bz : z1.val < 128 := z1.isLt
  have by1 : y1.val < 2048 := y1.isLt
  have e1' : y1.val = 256 * h + 128 + z1.val := e1
  obtain rfl : y0 = z0 := Fin.ext e0
  rw [pay4_apply]
  unfold blkk
  rw [dif_neg (by show ¬y1.val % 256 < 128; omega)]
  have ez : (⟨y1.val % 256 - 128, by omega⟩ : Fin 128) = z1 := Fin.ext (by show y1.val % 256 - 128 = z1.val; omega)
  have ew : (⟨(y1.val % 256 - 128 + 64) % 128, by omega⟩ : Fin 128) = (⟨(z1.val + 64) % 128, by omega⟩ : Fin 128) := Fin.ext (by show (y1.val % 256 - 128 + 64) % 128 = (z1.val + 64) % 128; omega)
  show _ = (x3 (ix2 y0 (⟨y1.val % 256 - 128, _⟩ : Fin 128)) : EReal) * x4 (ix2 y0 (⟨y1.val % 256 - 128, _⟩ : Fin 128)) + x3 (ix2 y0 (⟨(y1.val % 256 - 128 + 64) % 128, _⟩ : Fin 128)) * x5 (ix2 y0 (⟨y1.val % 256 - 128, _⟩ : Fin 128))
  rw [ez, ew]

/-- Sixteen stores of 128 lanes each fill the block. -/
theorem canon_all (p0 p1 p2 p3 p4 p5 p6 p7 p8 p9 p10 p11 p12 p13 p14 p15 : S1024x128.Idx → Elt Ideal .bf16) (B : Vec Ideal S1024x2048 .bf16)
    (g15 : ∀ (z : S1024x128.Idx) (y : S1024x2048.Idx), (y 0).val = (z 0).val → (y 1).val = 1920 + (z 1).val → p15 z = B y)
    (g14 : ∀ (z : S1024x128.Idx) (y : S1024x2048.Idx), (y 0).val = (z 0).val → (y 1).val = 1792 + (z 1).val → p14 z = B y)
    (g13 : ∀ (z : S1024x128.Idx) (y : S1024x2048.Idx), (y 0).val = (z 0).val → (y 1).val = 1664 + (z 1).val → p13 z = B y)
    (g12 : ∀ (z : S1024x128.Idx) (y : S1024x2048.Idx), (y 0).val = (z 0).val → (y 1).val = 1536 + (z 1).val → p12 z = B y)
    (g11 : ∀ (z : S1024x128.Idx) (y : S1024x2048.Idx), (y 0).val = (z 0).val → (y 1).val = 1408 + (z 1).val → p11 z = B y)
    (g10 : ∀ (z : S1024x128.Idx) (y : S1024x2048.Idx), (y 0).val = (z 0).val → (y 1).val = 1280 + (z 1).val → p10 z = B y)
    (g9 : ∀ (z : S1024x128.Idx) (y : S1024x2048.Idx), (y 0).val = (z 0).val → (y 1).val = 1152 + (z 1).val → p9 z = B y)
    (g8 : ∀ (z : S1024x128.Idx) (y : S1024x2048.Idx), (y 0).val = (z 0).val → (y 1).val = 1024 + (z 1).val → p8 z = B y)
    (g7 : ∀ (z : S1024x128.Idx) (y : S1024x2048.Idx), (y 0).val = (z 0).val → (y 1).val = 896 + (z 1).val → p7 z = B y)
    (g6 : ∀ (z : S1024x128.Idx) (y : S1024x2048.Idx), (y 0).val = (z 0).val → (y 1).val = 768 + (z 1).val → p6 z = B y)
    (g5 : ∀ (z : S1024x128.Idx) (y : S1024x2048.Idx), (y 0).val = (z 0).val → (y 1).val = 640 + (z 1).val → p5 z = B y)
    (g4 : ∀ (z : S1024x128.Idx) (y : S1024x2048.Idx), (y 0).val = (z 0).val → (y 1).val = 512 + (z 1).val → p4 z = B y)
    (g3 : ∀ (z : S1024x128.Idx) (y : S1024x2048.Idx), (y 0).val = (z 0).val → (y 1).val = 384 + (z 1).val → p3 z = B y)
    (g2 : ∀ (z : S1024x128.Idx) (y : S1024x2048.Idx), (y 0).val = (z 0).val → (y 1).val = 256 + (z 1).val → p2 z = B y)
    (g1 : ∀ (z : S1024x128.Idx) (y : S1024x2048.Idx), (y 0).val = (z 0).val → (y 1).val = 128 + (z 1).val → p1 z = B y)
    (g0 : ∀ (z : S1024x128.Idx) (y : S1024x2048.Idx), (y 0).val = (z 0).val → (y 1).val = 0 + (z 1).val → p0 z = B y) :
    View.canon (Val := Elt Ideal) (s := S1024x2048) (e := .bf16) [⟨Rect.unit (s := S1024x2048) ![0, 1920] S1024x128.size inb_S1024x2048_S1024x128_0_1920, p15⟩,
    ⟨Rect.unit (s := S1024x2048) ![0, 1792] S1024x128.size inb_S1024x2048_S1024x128_0_1792, p14⟩,
    ⟨Rect.unit (s := S1024x2048) ![0, 1664] S1024x128.size inb_S1024x2048_S1024x128_0_1664, p13⟩,
    ⟨Rect.unit (s := S1024x2048) ![0, 1536] S1024x128.size inb_S1024x2048_S1024x128_0_1536, p12⟩,
    ⟨Rect.unit (s := S1024x2048) ![0, 1408] S1024x128.size inb_S1024x2048_S1024x128_0_1408, p11⟩,
    ⟨Rect.unit (s := S1024x2048) ![0, 1280] S1024x128.size inb_S1024x2048_S1024x128_0_1280, p10⟩,
    ⟨Rect.unit (s := S1024x2048) ![0, 1152] S1024x128.size inb_S1024x2048_S1024x128_0_1152, p9⟩,
    ⟨Rect.unit (s := S1024x2048) ![0, 1024] S1024x128.size inb_S1024x2048_S1024x128_0_1024, p8⟩,
    ⟨Rect.unit (s := S1024x2048) ![0, 896] S1024x128.size inb_S1024x2048_S1024x128_0_896, p7⟩,
    ⟨Rect.unit (s := S1024x2048) ![0, 768] S1024x128.size inb_S1024x2048_S1024x128_0_768, p6⟩,
    ⟨Rect.unit (s := S1024x2048) ![0, 640] S1024x128.size inb_S1024x2048_S1024x128_0_640, p5⟩,
    ⟨Rect.unit (s := S1024x2048) ![0, 512] S1024x128.size inb_S1024x2048_S1024x128_0_512, p4⟩,
    ⟨Rect.unit (s := S1024x2048) ![0, 384] S1024x128.size inb_S1024x2048_S1024x128_0_384, p3⟩,
    ⟨Rect.unit (s := S1024x2048) ![0, 256] S1024x128.size inb_S1024x2048_S1024x128_0_256, p2⟩,
    ⟨Rect.unit (s := S1024x2048) ![0, 128] S1024x128.size inb_S1024x2048_S1024x128_0_128, p1⟩,
    ⟨Rect.unit (s := S1024x2048) ![0, 0] S1024x128.size inb_S1024x2048_S1024x128_0_0, p0⟩] = B := by
  funext y
  canon_tiles x h using View.cover_of_tiled_head _ _ _ (by rfl) y
  · exact g15 x y (by omega) (by omega)
  · exact g14 x y (by omega) (by omega)
  · exact g13 x y (by omega) (by omega)
  · exact g12 x y (by omega) (by omega)
  · exact g11 x y (by omega) (by omega)
  · exact g10 x y (by omega) (by omega)
  · exact g9 x y (by omega) (by omega)
  · exact g8 x y (by omega) (by omega)
  · exact g7 x y (by omega) (by omega)
  · exact g6 x y (by omega) (by omega)
  · exact g5 x y (by omega) (by omega)
  · exact g4 x y (by omega) (by omega)
  · exact g3 x y (by omega) (by omega)
  · exact g2 x y (by omega) (by omega)
  · exact g1 x y (by omega) (by omega)
  · exact g0 x y (by omega) (by omega)

theorem outk_eq (c : Dev nD) (i : grid0.Coords) (arg1 : Memref sig .tc .vmem S1024x512 .f32) (harg1 : arg1.IsWhole) (arg2 : Memref sig .tc .vmem S1x512 .f32) (harg2 : arg2.IsWhole) (arg3 : Memref sig .tc .vmem S512x2048 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x2048 .bf16) (harg7 : arg7.IsWhole) (arg8 : Memref sig .tc .vmem S1024x1024 .bf16) (harg8 : arg8.IsWhole) (x0 : Vec Ideal S1024x512 .f32) (x1 : Vec Ideal S1x512 .f32) (x2 : Vec Ideal S512x2048 .bf16) (x3 x4 x5 : Vec Ideal S1024x128 .f32) :
    out0_A_6 (F := Ideal) c i arg1 harg1 arg2 harg2 arg3 harg3 arg4 harg4 arg5 harg5 arg6 harg6 arg7 harg7 arg8 harg8 x0 x1 x2 x3 x4 x5 = blkk x0 x1 x2 x3 x4 x5 := by
  unfold out0_A_6 kernelRun0_A
  dsimp only
  rw [View.read_writes_junk_eq_canon]
  sl_unfold_words
  have l0 : arg1.view.readAt (Elt Ideal) (Rect.unit (s := S1024x512) ![0, 0] S1024x512.size inb_S1024x512_S1024x512_0_0).toLoadRect (harg1.unread x0) = x0 := by
    rw [View.readAt_eq_ld, harg1.read_unread, View.ld_unit_zero z2]
  have l1 : arg2.view.readAt (Elt Ideal) (Rect.unit (s := S1x512) ![0, 0] S1x512.size inb_S1x512_S1x512_0_0).toLoadRect (harg2.unread x1) = x1 := by
    rw [View.readAt_eq_ld, harg2.read_unread, View.ld_unit_zero z2]
  have l3 : arg4.view.readAt (Elt Ideal) (Rect.unit (s := S1024x128) ![0, 0] S1024x128.size inb_S1024x128_S1024x128_0_0).toLoadRect (harg4.unread x3) = x3 := by
    rw [View.readAt_eq_ld, harg4.read_unread, View.ld_unit_zero z2]
  have l4 : arg5.view.readAt (Elt Ideal) (Rect.unit (s := S1024x128) ![0, 0] S1024x128.size inb_S1024x128_S1024x128_0_0).toLoadRect (harg5.unread x4) = x4 := by
    rw [View.readAt_eq_ld, harg5.read_unread, View.ld_unit_zero z2]
  have l5 : arg6.view.readAt (Elt Ideal) (Rect.unit (s := S1024x128) ![0, 0] S1024x128.size inb_S1024x128_S1024x128_0_0).toLoadRect (harg6.unread x5) = x5 := by
    rw [View.readAt_eq_ld, harg6.read_unread, View.ld_unit_zero z2]
  rw [l0, l1, l3, l4, l5]
  simp only [c0, c1, c2, c3, c4, c5, c6, c7]
  refine canon_all _ _ _ _ _ _ _ _ _ _ _ _ _ _ _ _ _ ?_ ?_ ?_ ?_ ?_ ?_ ?_ ?_ ?_ ?_ ?_ ?_ ?_ ?_ ?_ ?_
  · intro z y e0 e1
    exact tile_r x0 x1 x2 x3 x4 x5 7 z y e0 (by omega)
  · intro z y e0 e1
    exact tile_n x0 x1 x2 x3 x4 x5 _ (fun k j q hq => ld_w arg3 harg3 x2 0 ![0, 0] rfl (by decide) k j q hq) 7 (by omega) 896 (by omega) (by omega) z y e0 (by omega)
  · intro z y e0 e1
    exact tile_r x0 x1 x2 x3 x4 x5 6 z y e0 (by omega)
  · intro z y e0 e1
    exact tile_n x0 x1 x2 x3 x4 x5 _ (fun k j q hq => ld_w arg3 harg3 x2 0 ![0, 0] rfl (by decide) k j q hq) 6 (by omega) 768 (by omega) (by omega) z y e0 (by omega)
  · intro z y e0 e1
    exact tile_r x0 x1 x2 x3 x4 x5 5 z y e0 (by omega)
  · intro z y e0 e1
    exact tile_n x0 x1 x2 x3 x4 x5 _ (fun k j q hq => ld_w arg3 harg3 x2 0 ![0, 0] rfl (by decide) k j q hq) 5 (by omega) 640 (by omega) (by omega) z y e0 (by omega)
  · intro z y e0 e1
    exact tile_r x0 x1 x2 x3 x4 x5 4 z y e0 (by omega)
  · intro z y e0 e1
    exact tile_n x0 x1 x2 x3 x4 x5 _ (fun k j q hq => ld_w arg3 harg3 x2 0 ![0, 0] rfl (by decide) k j q hq) 4 (by omega) 512 (by omega) (by omega) z y e0 (by omega)
  · intro z y e0 e1
    exact tile_r x0 x1 x2 x3 x4 x5 3 z y e0 (by omega)
  · intro z y e0 e1
    exact tile_n x0 x1 x2 x3 x4 x5 _ (fun k j q hq => ld_w arg3 harg3 x2 0 ![0, 0] rfl (by decide) k j q hq) 3 (by omega) 384 (by omega) (by omega) z y e0 (by omega)
  · intro z y e0 e1
    exact tile_r x0 x1 x2 x3 x4 x5 2 z y e0 (by omega)
  · intro z y e0 e1
    exact tile_n x0 x1 x2 x3 x4 x5 _ (fun k j q hq => ld_w arg3 harg3 x2 0 ![0, 0] rfl (by decide) k j q hq) 2 (by omega) 256 (by omega) (by omega) z y e0 (by omega)
  · intro z y e0 e1
    exact tile_r x0 x1 x2 x3 x4 x5 1 z y e0 (by omega)
  · intro z y e0 e1
    exact tile_n x0 x1 x2 x3 x4 x5 _ (fun k j q hq => ld_w arg3 harg3 x2 0 ![0, 0] rfl (by decide) k j q hq) 1 (by omega) 128 (by omega) (by omega) z y e0 (by omega)
  · intro z y e0 e1
    exact tile_r x0 x1 x2 x3 x4 x5 0 z y e0 (by omega)
  · intro z y e0 e1
    exact tile_n x0 x1 x2 x3 x4 x5 _ (fun k j q hq => ld_w arg3 harg3 x2 0 ![0, 0] rfl (by decide) k j q hq) 0 (by omega) 0 (by omega) (by omega) z y e0 (by omega)

theorem outv_eq (c : Dev nD) (i : grid0.Coords) (arg1 : Memref sig .tc .vmem S1024x512 .f32) (harg1 : arg1.IsWhole) (arg2 : Memref sig .tc .vmem S1x512 .f32) (harg2 : arg2.IsWhole) (arg3 : Memref sig .tc .vmem S512x2048 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x2048 .bf16) (harg7 : arg7.IsWhole) (arg8 : Memref sig .tc .vmem S1024x1024 .bf16) (harg8 : arg8.IsWhole) (x0 : Vec Ideal S1024x512 .f32) (x1 : Vec Ideal S1x512 .f32) (x2 : Vec Ideal S512x2048 .bf16) (x3 x4 x5 : Vec Ideal S1024x128 .f32) :
    out0_A_7 (F := Ideal) c i arg1 harg1 arg2 harg2 arg3 harg3 arg4 harg4 arg5 harg5 arg6 harg6 arg7 harg7 arg8 harg8 x0 x1 x2 x3 x4 x5 = blkvv x0 x1 x2 := by
  unfold out0_A_7 kernelRun0_A
  dsimp only
  rw [View.read_writes_junk_eq_canon]
  sl_unfold_words
  have l0 : arg1.view.readAt (Elt Ideal) (Rect.unit (s := S1024x512) ![0, 0] S1024x512.size inb_S1024x512_S1024x512_0_0).toLoadRect (harg1.unread x0) = x0 := by
    rw [View.readAt_eq_ld, harg1.read_unread, View.ld_unit_zero z2]
  have l1 : arg2.view.readAt (Elt Ideal) (Rect.unit (s := S1x512) ![0, 0] S1x512.size inb_S1x512_S1x512_0_0).toLoadRect (harg2.unread x1) = x1 := by
    rw [View.readAt_eq_ld, harg2.read_unread, View.ld_unit_zero z2]
  rw [l0, l1, View.canon_unit_zero z2]
  funext (y : S1024x1024.Idx)
  idx_vars y
  rw [pay2_apply]
  unfold blkvv dd
  refine Finset.sum_congr rfl fun k _ => ?_
  rw [pay3_apply]
  exact congrArg _ (ld_w arg3 harg3 x2 1024 ![0, 1024] rfl (by decide) k y1 _ rfl)
end Cert.KvUpIdeal.Step
-- ==== Proof.KvUpVal.lean ====
module
public import proofs.«01_k».proof.Proof.KvUpBlock
public import proofs.«01_k».proof.Proof.Gen.KvUpReferenceIdeal.Read
public import Idealize.ShloMosaic.Lib.StableHlo.RunRead
@[expose] public section
set_option maxRecDepth 16384
noncomputable section
namespace Cert.KvUpIdeal.Step
open Cert.KvUpIdeal Cert.KvUpIdeal.Gen Idealize.ShloMosaic Idealize.ShloMosaic.TcCoe Idealize.SL.Sem Idealize.ShloMosaic.Tactic

/-! # The keys and the values of the latent attention -/

theorem zero_word : Ideal.ofBits .f32 0x00000000#32 = (0 : EReal) := by simp [Ideal.ofBits, Ideal.ieee]

section
variable (m : (ℓ : Loc nD τ sig) → Buf (Elt Ideal) ℓ) (c : Dev nD)

theorem ix_a0 : ∀ t : Fin cfg0.N, win0_0.index t 0 = t.val := by decide +kernel
theorem ix_a1 : ∀ t : Fin cfg0.N, win0_0.index t 1 = 1 := by decide +kernel
theorem ix_b0 : ∀ t : Fin cfg0.N, win0_1.index t 0 = 0 := by decide +kernel
theorem ix_b1 : ∀ t : Fin cfg0.N, win0_1.index t 1 = 0 := by decide +kernel
theorem ix_w0 : ∀ t : Fin cfg0.N, win0_2.index t 0 = 0 := by decide +kernel
theorem ix_w1 : ∀ t : Fin cfg0.N, win0_2.index t 1 = 0 := by decide +kernel
theorem ix_p0 : ∀ t : Fin cfg0.N, win0_3.index t 0 = t.val := by decide +kernel
theorem ix_p1 : ∀ t : Fin cfg0.N, win0_3.index t 1 = 8 := by decide +kernel
theorem ix_c0 : ∀ t : Fin cfg0.N, win0_4.index t 0 = t.val := by decide +kernel
theorem ix_c1 : ∀ t : Fin cfg0.N, win0_4.index t 1 = 0 := by decide +kernel
theorem ix_s0 : ∀ t : Fin cfg0.N, win0_5.index t 0 = t.val := by decide +kernel
theorem ix_s1 : ∀ t : Fin cfg0.N, win0_5.index t 1 = 0 := by decide +kernel
theorem ix_k0 : ∀ t : Fin cfg0.N, win0_6.index t 0 = t.val := by decide +kernel
theorem ix_k1 : ∀ t : Fin cfg0.N, win0_6.index t 1 = 0 := by decide +kernel
theorem ix_v0 : ∀ t : Fin cfg0.N, win0_7.index t 0 = t.val := by decide +kernel
theorem ix_v1 : ∀ t : Fin cfg0.N, win0_7.index t 1 = 0 := by decide +kernel
theorem fl_k : ∀ t : Fin cfg0.N, (cfg0.win 6).flush t = true := by decide +kernel
theorem fl_v : ∀ t : Fin cfg0.N, (cfg0.win 7).flush t = true := by decide +kernel

theorem lt_N (t : Fin cfg0.N) : t.val < 16 :=
  lt_of_lt_of_eq t.isLt N_0

/-- The compressed keys and values of a grid point. -/
def ab (A : Vec Ideal S16384x1280 .f32) (t : Fin cfg0.N) : Vec Ideal S1024x512 .f32 := fun y =>
  A (ix2 (⟨1024 * t.val + (y 0).val, by have := (y 0).isLt; have := lt_N t; dsimp at *; omega⟩ : Fin 16384) (⟨512 + (y 1).val, by have := (y 1).isLt; dsimp at *; omega⟩ : Fin 1280))
/-- The rotary keys of a grid point. -/
def pb (A : Vec Ideal S16384x1280 .f32) (t : Fin cfg0.N) : Vec Ideal S1024x128 .f32 := fun y =>
  A (ix2 (⟨1024 * t.val + (y 0).val, by have := (y 0).isLt; have := lt_N t; dsimp at *; omega⟩ : Fin 16384) (⟨1024 + (y 1).val, by have := (y 1).isLt; dsimp at *; omega⟩ : Fin 1280))
/-- The rotary table of a grid point. -/
def tb (A : Vec Ideal S16384x128 .f32) (t : Fin cfg0.N) : Vec Ideal S1024x128 .f32 := fun y =>
  A (ix2 (⟨1024 * t.val + (y 0).val, by have := (y 0).isLt; have := lt_N t; dsimp at *; omega⟩ : Fin 16384) (y 1))

theorem iblk_a (t) : X0_0 m c t = ab (V m c main_v16) t := by
  funext y
  unfold X0_0 Pipeline.Window.fill
  rw [dif_pos (moved0_0 t y)]
  unfold ab
  blk_ext [iblk, ix_a0 t, ix_a1 t]
theorem iblk_b (t) : iblk m c 1 t = V m c main_v25 := by
  funext y
  blk_ext [iblk, ix_b0 t, ix_b1 t]
theorem iblk_w (t) : iblk m c 2 t = V m c main_v7 := by
  funext y
  blk_ext [iblk, ix_w0 t, ix_w1 t]
theorem iblk_p (t) : iblk m c 3 t = pb (V m c main_v16) t := by
  funext y
  unfold pb
  blk_ext [iblk, ix_p0 t, ix_p1 t]
theorem iblk_c (t) : iblk m c 4 t = tb (V m c main_v20) t := by
  funext y
  unfold tb
  blk_ext [iblk, ix_c0 t, ix_c1 t]
theorem iblk_s (t) : iblk m c 5 t = tb (V m c main_v24) t := by
  funext y
  unfold tb
  blk_ext [iblk, ix_s0 t, ix_s1 t]
end

/-! ## The arrays the kernel is launched on -/

def zt : Vec Ideal S4x4096x32 .f32 := broadcastInDim S4x4096x32 ![] bcast_S_S4x4096x32 (constant (F := Ideal) S_ .f32 0x00000000#32)
def z5 : Vec Ideal S16384x512 .f32 := broadcastInDim S16384x512 ![] bcast_S_S16384x512 (constant (F := Ideal) S_ .f32 0x00000000#32)
def z1 : Vec Ideal S16384x128 .f32 := broadcastInDim S16384x128 ![] bcast_S_S16384x128 (constant (F := Ideal) S_ .f32 0x00000000#32)
/-- The weights by heads. -/
def ws (x2 : Vec Ideal S1x512x2048 .f32) : Vec Ideal S512x8x256 .f32 :=
  shapeCast S512x8x256 (shapeCast S512x2048 x2 shapeCasts_S1x512x2048_S512x2048) shapeCasts_S512x2048_S512x8x256
def wk (x2 : Vec Ideal S1x512x2048 .f32) : Vec Ideal S512x1024 .f32 :=
  shapeCast S512x1024 (extractStridedSlice S512x8x128 ![0, 0, 0] (ws x2) slices_S512x8x256_S512x8x128_0_0_0) shapeCasts_S512x8x128_S512x1024
def wv (x2 : Vec Ideal S1x512x2048 .f32) : Vec Ideal S512x1024 .f32 :=
  shapeCast S512x1024 (extractStridedSlice S512x8x128 ![0, 0, 128] (ws x2) slices_S512x8x256_S512x8x128_0_0_128) shapeCasts_S512x8x128_S512x1024
def cat2 (a1 a2 : Vec Ideal S512x1024 .f32) : Vec Ideal S512x2048 .f32 :=
  concatenate S512x2048 1 [⟨S512x1024, a1⟩, ⟨S512x1024, a2⟩] concatenates_S512x1024_S512x1024_S512x2048_d1
/-- The weights as the kernel takes them: all the keys' columns, then all the values'. -/
def wh (x2 : Vec Ideal S1x512x2048 .f32) : Vec Ideal S512x2048 .bf16 :=
  truncf (F := Ideal) .bf16 (cat2 (wk x2) (wv x2)) bitsLt_bf16_f32
def catt (a1 a2 a3 a4 : Vec Ideal S4x4096x32 .f32) : Vec Ideal S4x4096x128 .f32 :=
  concatenate S4x4096x128 2 [⟨S4x4096x32, a1⟩, ⟨S4x4096x32, a2⟩, ⟨S4x4096x32, a3⟩, ⟨S4x4096x32, a4⟩] concatenates_S4x4096x32_S4x4096x32_S4x4096x32_S4x4096x32_S4x4096x128_d2
/-- A rotary table as the kernel takes it. -/
def th (a b : Vec Ideal S4x4096x32 .f32) : Vec Ideal S16384x128 .f32 := shapeCast S16384x128 (catt a zt b zt) shapeCasts_S4x4096x128_S16384x128
/-- The halves of the rotary keys. -/
def kl (x3 : Vec Ideal S4x4096x64 .f32) : Vec Ideal S4x4096x32 .f32 := extractStridedSlice S4x4096x32 ![0, 0, 0] x3 slices_S4x4096x64_S4x4096x32_0_0_0
def kh (x3 : Vec Ideal S4x4096x64 .f32) : Vec Ideal S4x4096x32 .f32 := extractStridedSlice S4x4096x32 ![0, 0, 32] x3 slices_S4x4096x64_S4x4096x32_0_0_32
def catA (a1 a2 : Vec Ideal S16384x512 .f32) (a3 a4 : Vec Ideal S16384x128 .f32) : Vec Ideal S16384x1280 .f32 :=
  concatenate S16384x1280 1 [⟨S16384x512, a1⟩, ⟨S16384x512, a2⟩, ⟨S16384x128, a3⟩, ⟨S16384x128, a4⟩] concatenates_S16384x512_S16384x512_S16384x128_S16384x128_S16384x1280_d1
/-- The compressed keys and values and the rotary keys as the kernel takes them. -/
def ah (x0 : Vec Ideal S4x4096x512 .f32) (x3 : Vec Ideal S4x4096x64 .f32) : Vec Ideal S16384x1280 .f32 :=
  catA z5 (shapeCast S16384x512 x0 shapeCasts_S4x4096x512_S16384x512) (th (kl x3) (kh x3)) z1
/-- The norm's scale as the kernel takes it. -/
def bh (x1 : Vec Ideal S1x512 .f32) : Vec Ideal S1x512 .f32 := shapeCast S1x512 (shapeCast S512 x1 shapeCasts_S1x512_S512) shapeCasts_S512_S1x512

section
variable (m : (ℓ : Loc nD τ sig) → Buf (Elt Ideal) ℓ) (c : Dev nD)

theorem up3 : StableHlo.upto hostOps0 (fun b => m (c, b)) 6 (Proc.tc.devRef main_v3) = wk (m ((c : Thread nD τ).loc main_arg2)) := by
  after_reads_simp
  rfl
theorem up5 : StableHlo.upto hostOps0 (fun b => m (c, b)) 6 (Proc.tc.devRef main_v5) = wv (m ((c : Thread nD τ).loc main_arg2)) := by
  after_reads_simp
  rfl
theorem V7 : V m c main_v7 = wh (m ((c : Thread nD τ).loc main_arg2)) := by
  unfold V
  after_reads_simp
  rw [up3, up5]
  rfl
theorem up10 : StableHlo.upto hostOps0 (fun b => m (c, b)) 15 (Proc.tc.devRef main_v10) = kl (m ((c : Thread nD τ).loc main_arg3)) := by
  after_reads_simp
  rfl
theorem up11 : StableHlo.upto hostOps0 (fun b => m (c, b)) 15 (Proc.tc.devRef main_v11) = kh (m ((c : Thread nD τ).loc main_arg3)) := by
  after_reads_simp
  rfl
theorem up12 : StableHlo.upto hostOps0 (fun b => m (c, b)) 15 (Proc.tc.devRef main_v12) = zt := by
  after_reads_simp
  rfl
theorem up8 : StableHlo.upto hostOps0 (fun b => m (c, b)) 19 (Proc.tc.devRef main_v8) = z5 := by
  after_reads_simp
  rfl
theorem up9 : StableHlo.upto hostOps0 (fun b => m (c, b)) 19 (Proc.tc.devRef main_v9)
    = shapeCast S16384x512 (m ((c : Thread nD τ).loc main_arg0)) shapeCasts_S4x4096x512_S16384x512 := by
  after_reads_simp
  try rfl
theorem up14 : StableHlo.upto hostOps0 (fun b => m (c, b)) 19 (Proc.tc.devRef main_v14) = th (kl (m ((c : Thread nD τ).loc main_arg3))) (kh (m ((c : Thread nD τ).loc main_arg3))) := by
  after_reads_simp
  simp only [Matrix.cons_val]
  rw [up10, up11, up12]
  rfl
theorem up15 : StableHlo.upto hostOps0 (fun b => m (c, b)) 19 (Proc.tc.devRef main_v15) = z1 := by
  after_reads_simp
  rfl
theorem V16 : V m c main_v16 = ah (m ((c : Thread nD τ).loc main_arg0)) (m ((c : Thread nD τ).loc main_arg3)) := by
  unfold V
  after_reads_simp
  simp only [Matrix.cons_val]
  rw [up8, up9, up14, up15]
  rfl
theorem V25 : V m c main_v25 = bh (m ((c : Thread nD τ).loc main_arg1)) := by
  unfold V
  after_reads_simp
  rfl
theorem up18 : StableHlo.upto hostOps0 (fun b => m (c, b)) 23 (Proc.tc.devRef main_v18) = zt := by
  after_reads_simp
  rfl
theorem upc : StableHlo.upto hostOps0 (fun b => m (c, b)) 23 (Proc.tc.devRef main_arg4) = m ((c : Thread nD τ).loc main_arg4) := by
  after_reads_simp
  try rfl
theorem V20 : V m c main_v20 = th (m ((c : Thread nD τ).loc main_arg4)) (m ((c : Thread nD τ).loc main_arg4)) := by
  unfold V
  after_reads_simp
  simp only [Matrix.cons_val]
  rw [upc, up18]
  rfl
theorem up22 : StableHlo.upto hostOps0 (fun b => m (c, b)) 28 (Proc.tc.devRef main_v22) = zt := by
  after_reads_simp
  rfl
theorem up21 : StableHlo.upto hostOps0 (fun b => m (c, b)) 28 (Proc.tc.devRef main_v21) = Host.negf (F := Ideal) (φ := .f32) (m ((c : Thread nD τ).loc main_arg5)) := by
  after_reads_simp
  try rfl
theorem ups : StableHlo.upto hostOps0 (fun b => m (c, b)) 28 (Proc.tc.devRef main_arg5) = m ((c : Thread nD τ).loc main_arg5) := by
  after_reads_simp
  try rfl
theorem V24 : V m c main_v24 = th (Host.negf (F := Ideal) (φ := .f32) (m ((c : Thread nD τ).loc main_arg5))) (m ((c : Thread nD τ).loc main_arg5)) := by
  unfold V
  after_reads_simp
  simp only [Matrix.cons_val]
  rw [up21, up22, ups]
  rfl
end

/-! ## Their entries -/

theorem bh_apply (x1 : Vec Ideal S1x512 .f32) (n : Fin 512) : bh x1 (ix2 0 n) = x1 (ix2 0 n) := by
  unfold bh
  pointwise
theorem ws_apply (x2 : Vec Ideal S1x512x2048 .f32) (k : Fin 512) (h : Fin 8) (n : Fin 256) :
    ws x2 (ix3 k h n) = x2 (ix3 0 k (⟨256 * h.val + n.val, by omega⟩ : Fin 2048)) := by
  unfold ws
  pointwise
  refine congrArg x2 (congrArg (ix3 _ _) (Fin.ext ?_))
  show h.val * 256 + n.val = 256 * h.val + n.val
  omega
theorem zt_apply (y) : zt y = 0 := by
  idx_vars y
  unfold zt
  pointwise
theorem catt_apply (a1 a2 a3 a4 : Vec Ideal S4x4096x32 .f32) (k : Fin 4) (h : Fin 4096) (n : Fin 128) :
    catt a1 a2 a3 a4 (ix3 k h n) = (if g : n.val < 32 then a1 (ix3 k h (⟨n.val, g⟩ : Fin 32))
      else if g : n.val - 32 < 32 then a2 (ix3 k h (⟨n.val - 32, g⟩ : Fin 32))
      else if g : n.val - 32 - 32 < 32 then a3 (ix3 k h (⟨n.val - 32 - 32, g⟩ : Fin 32))
      else a4 (ix3 k h (⟨n.val - 32 - 32 - 32, by omega⟩ : Fin 32))) := by
  unfold catt
  pointwise
theorem th_cast (a b : Vec Ideal S4x4096x32 .f32) (r : Fin 16384) (n : Fin 128) :
    th a b (ix2 r n) = catt a zt b zt (ix3 (⟨r.val / 4096, by omega⟩ : Fin 4) (⟨r.val % 4096, by omega⟩ : Fin 4096) n) := by
  unfold th
  generalize catt a zt b zt = d
  pointwise
theorem kl_apply (x3 : Vec Ideal S4x4096x64 .f32) (b : Fin 4) (s : Fin 4096) (j : Fin 32) : kl x3 (ix3 b s j) = x3 (ix3 b s (⟨j.val, by omega⟩ : Fin 64)) := by
  unfold kl
  pointwise
theorem kh_apply (x3 : Vec Ideal S4x4096x64 .f32) (b : Fin 4) (s : Fin 4096) (j : Fin 32) : kh x3 (ix3 b s j) = x3 (ix3 b s (⟨32 + j.val, by omega⟩ : Fin 64)) := by
  unfold kh
  pointwise
theorem catA_a (a1 a2 : Vec Ideal S16384x512 .f32) (a3 a4 : Vec Ideal S16384x128 .f32) (r : Fin 16384) (n : Fin 1280) (k : Fin 512) (hn : n.val = 512 + k.val) :
    catA a1 a2 a3 a4 (ix2 r n) = a2 (ix2 r k) := by
  unfold catA
  pointwise
  rw [dif_neg (by omega), dif_pos (by omega)]
  exact congrArg a2 (congrArg (ix2 _) (Fin.ext (by show n.val - 512 = k.val; omega)))
theorem catA_p (a1 a2 : Vec Ideal S16384x512 .f32) (a3 a4 : Vec Ideal S16384x128 .f32) (r : Fin 16384) (n : Fin 1280) (k : Fin 128) (hn : n.val = 1024 + k.val) :
    catA a1 a2 a3 a4 (ix2 r n) = a3 (ix2 r k) := by
  unfold catA
  pointwise
  rw [dif_neg (by omega), dif_neg (by omega), dif_pos (by omega)]
  exact congrArg a3 (congrArg (ix2 _) (Fin.ext (by show n.val - 512 - 512 = k.val; omega)))
theorem flat_apply (x0 : Vec Ideal S4x4096x512 .f32) (r : Fin 16384) (k : Fin 512) :
    shapeCast S16384x512 x0 shapeCasts_S4x4096x512_S16384x512 (ix2 r k) = x0 (ix3 (⟨r.val / 4096, by omega⟩ : Fin 4) (⟨r.val % 4096, by omega⟩ : Fin 4096) k) := by
  pointwise
theorem wk_apply (x2 : Vec Ideal S1x512x2048 .f32) (k : Fin 512) (q : Fin 1024) (h : Fin 8) (j : Fin 128) (hq : q.val = 128 * h.val + j.val) :
    wk x2 (ix2 k q) = x2 (ix3 0 k (⟨256 * h.val + j.val, by omega⟩ : Fin 2048)) := by
  refine Eq.trans ?_ (ws_apply x2 k h (⟨j.val, by omega⟩ : Fin 256))
  unfold wk
  generalize ws x2 = w
  pointwise
  refine congrArg w (funext fun a => ?_)
  match a with
  | ⟨0, _⟩ => rfl
  | ⟨1, _⟩ => exact Fin.ext (by show q.val / 128 = h.val; omega)
  | ⟨2, _⟩ => exact Fin.ext (by show q.val % 128 = j.val; omega)
theorem wv_apply (x2 : Vec Ideal S1x512x2048 .f32) (k : Fin 512) (q : Fin 1024) (h : Fin 8) (j : Fin 128) (hq : q.val = 128 * h.val + j.val) :
    wv x2 (ix2 k q) = x2 (ix3 0 k (⟨256 * h.val + (128 + j.val), by omega⟩ : Fin 2048)) := by
  refine Eq.trans ?_ (ws_apply x2 k h (⟨128 + j.val, by omega⟩ : Fin 256))
  unfold wv
  generalize ws x2 = w
  pointwise
  refine congrArg w (funext fun a => ?_)
  match a with
  | ⟨0, _⟩ => rfl
  | ⟨1, _⟩ => exact Fin.ext (by show q.val / 128 = h.val; omega)
  | ⟨2, _⟩ => exact Fin.ext (by show 128 + q.val % 128 = 128 + j.val; omega)
theorem cat2_apply (a1 a2 : Vec Ideal S512x1024 .f32) (k : Fin 512) (n : Fin 2048) :
    cat2 a1 a2 (ix2 k n) = (if g : n.val < 1024 then a1 (ix2 k (⟨n.val, g⟩ : Fin 1024))
      else a2 (ix2 k (⟨n.val - 1024, by omega⟩ : Fin 1024))) := by
  unfold cat2
  pointwise
theorem wh_cast (x2 : Vec Ideal S1x512x2048 .f32) (k : Fin 512) (q : Fin 2048) : wh x2 (ix2 k q) = cat2 (wk x2) (wv x2) (ix2 k q) := by
  unfold wh
  generalize cat2 (wk x2) (wv x2) = d
  pointwise
theorem wh_k (x2 : Vec Ideal S1x512x2048 .f32) (k : Fin 512) (q : Fin 2048) (h : Fin 8) (j : Fin 128) (hq : q.val = 128 * h.val + j.val) :
    wh x2 (ix2 k q) = x2 (ix3 0 k (⟨256 * h.val + j.val, by omega⟩ : Fin 2048)) := by
  rw [wh_cast, cat2_apply, dif_pos (by omega)]
  exact wk_apply x2 k _ h j hq
theorem wh_v (x2 : Vec Ideal S1x512x2048 .f32) (k : Fin 512) (q : Fin 2048) (h : Fin 8) (j : Fin 128) (hq : q.val = 1024 + (128 * h.val + j.val)) :
    wh x2 (ix2 k q) = x2 (ix3 0 k (⟨256 * h.val + (128 + j.val), by omega⟩ : Fin 2048)) := by
  rw [wh_cast, cat2_apply, dif_neg (by omega)]
  exact wv_apply x2 k _ h j (by show q.val - 1024 = 128 * h.val + j.val; omega)

/-! ## The results -/

/-- A product of the normed row and a column of the weights. -/
def kn (x0 : Vec Ideal S4x4096x512 .f32) (x1 : Vec Ideal S1x512 .f32) (x2 : Vec Ideal S1x512x2048 .f32) (b : Fin 4) (s : Fin 4096) (h : Fin 8) (l : Fin 256) : EReal :=
  ∑ k : Fin 512, rms (fun k => x0 (ix3 b s k)) (x1 (ix2 0 k)) k * x2 (ix3 0 k (⟨256 * h.val + l.val, by omega⟩ : Fin 2048))

/-- The rotary key at a row and a lane. -/
def rope (x3 : Vec Ideal S4x4096x64 .f32) (x4 x5 : Vec Ideal S4x4096x32 .f32) (b : Fin 4) (s : Fin 4096) (l : Fin 128) : EReal :=
  if g : l.val < 32 then
    x3 (ix3 b s (⟨l.val, by omega⟩ : Fin 64)) * x4 (ix3 b s (⟨l.val, g⟩ : Fin 32)) - x3 (ix3 b s (⟨32 + l.val, by omega⟩ : Fin 64)) * x5 (ix3 b s (⟨l.val, g⟩ : Fin 32))
  else if g : l.val - 32 < 32 then 0
  else if g : l.val - 32 - 32 < 32 then
    x3 (ix3 b s (⟨32 + (l.val - 32 - 32), by omega⟩ : Fin 64)) * x4 (ix3 b s (⟨l.val - 32 - 32, g⟩ : Fin 32)) + x3 (ix3 b s (⟨l.val - 32 - 32, by omega⟩ : Fin 64)) * x5 (ix3 b s (⟨l.val - 32 - 32, g⟩ : Fin 32))
  else 0

/-- The key at a row, a head and a lane. -/
def resk (x0 : Vec Ideal S4x4096x512 .f32) (x1 : Vec Ideal S1x512 .f32) (x2 : Vec Ideal S1x512x2048 .f32) (x3 : Vec Ideal S4x4096x64 .f32) (x4 x5 : Vec Ideal S4x4096x32 .f32) (b : Fin 4) (s : Fin 4096) (h : Fin 8) (l : Fin 256) : EReal :=
  if g : l.val < 128 then kn x0 x1 x2 b s h (⟨l.val, by omega⟩ : Fin 256)
  else rope x3 x4 x5 b s (⟨l.val - 128, by omega⟩ : Fin 128)

theorem blkk_ix (y0 : Vec Ideal S1024x512 .f32) (y1 : Vec Ideal S1x512 .f32) (y2 : Vec Ideal S512x2048 .bf16) (y3 y4 y5 : Vec Ideal S1024x128 .f32) (r : Fin 1024) (q : Fin 2048) :
    blkk y0 y1 y2 y3 y4 y5 (ix2 r q) = (if h : q.val % 256 < 128 then dd y0 y1 y2 r (⟨q.val / 256 * 128 + q.val % 256, by omega⟩ : Fin 2048)
      else y3 (ix2 r (⟨q.val % 256 - 128, by omega⟩ : Fin 128)) * y4 (ix2 r (⟨q.val % 256 - 128, by omega⟩ : Fin 128))
        + y3 (ix2 r (⟨(q.val % 256 - 128 + 64) % 128, by omega⟩ : Fin 128)) * y5 (ix2 r (⟨q.val % 256 - 128, by omega⟩ : Fin 128))) := rfl

section
variable (x0 : Vec Ideal S4x4096x512 .f32) (x1 : Vec Ideal S1x512 .f32) (x2 : Vec Ideal S1x512x2048 .f32) (x3 : Vec Ideal S4x4096x64 .f32)
variable (t : Fin cfg0.N) (r : Fin 1024) (b : Fin 4) (s : Fin 4096) (hb : (1024 * t.val + r.val) / 4096 = b.val) (hs : (1024 * t.val + r.val) % 4096 = s.val)
include hb hs

theorem ab_ah (k : Fin 512) : ab (ah x0 x3) t (ix2 r k) = x0 (ix3 b s k) := by
  unfold ab ah
  rw [catA_a _ _ _ _ _ _ k rfl, flat_apply]
  refine congrArg x0 (funext fun a => ?_)
  match a with
  | ⟨0, _⟩ => exact Fin.ext hb
  | ⟨1, _⟩ => exact Fin.ext hs
  | ⟨2, _⟩ => rfl
theorem tb_th (u v : Vec Ideal S4x4096x32 .f32) (n : Fin 128) : tb (th u v) t (ix2 r n) = catt u zt v zt (ix3 b s n) := by
  unfold tb
  rw [show (ix2 r n : S1024x128.Idx) 1 = n from rfl, th_cast]
  refine congrArg (catt u zt v zt) (funext fun a => ?_)
  match a with
  | ⟨0, _⟩ => exact Fin.ext hb
  | ⟨1, _⟩ => exact Fin.ext hs
  | ⟨2, _⟩ => rfl
theorem pb_ah (n : Fin 128) : pb (ah x0 x3) t (ix2 r n) = catt (kl x3) zt (kh x3) zt (ix3 b s n) := by
  rw [← tb_th t r b s hb hs]
  unfold pb ah
  rw [catA_p _ _ _ _ _ _ n rfl]
  rfl
theorem dd_row (q : Fin 2048) : dd (ab (ah x0 x3) t) (bh x1) (wh x2) r q = ∑ k : Fin 512, rms (fun k => x0 (ix3 b s k)) (x1 (ix2 0 k)) k * wh x2 (ix2 k q) := by
  unfold dd
  simp only [ab_ah x0 x3 t r b s hb hs, bh_apply]
theorem dd_k (h : Fin 8) (q : Fin 2048) (j : Fin 128) (hq : q.val = 128 * h.val + j.val) :
    dd (ab (ah x0 x3) t) (bh x1) (wh x2) r q = kn x0 x1 x2 b s h (⟨j.val, by omega⟩ : Fin 256) := by
  rw [dd_row x0 x1 x2 x3 t r b s hb hs]
  simp only [wh_k x2 _ q h j hq]
  rfl
theorem dd_v (h : Fin 8) (q : Fin 2048) (j : Fin 128) (hq : q.val = 1024 + (128 * h.val + j.val)) :
    dd (ab (ah x0 x3) t) (bh x1) (wh x2) r q = kn x0 x1 x2 b s h (⟨128 + j.val, by omega⟩ : Fin 256) := by
  rw [dd_row x0 x1 x2 x3 t r b s hb hs]
  simp only [wh_v x2 _ q h j hq]
  rfl

theorem rope_apply (x4 x5 : Vec Ideal S4x4096x32 .f32) (l : Fin 128) :
    pb (ah x0 x3) t (ix2 r l) * tb (th x4 x4) t (ix2 r l)
      + pb (ah x0 x3) t (ix2 r (⟨(l.val + 64) % 128, by omega⟩ : Fin 128)) * tb (th (Host.negf (F := Ideal) (φ := .f32) x5) x5) t (ix2 r l) = rope x3 x4 x5 b s l := by
  have pl (n : Fin 128) (j : Fin 32) (hj : n.val = j.val) : pb (ah x0 x3) t (ix2 r n) = x3 (ix3 b s (⟨j.val, by omega⟩ : Fin 64)) := by
    rw [pb_ah x0 x3 t r b s hb hs, catt_apply, dif_pos (by omega), kl_apply]
    exact congrArg x3 (congrArg (ix3 _ _) (Fin.ext hj))
  have ph (n : Fin 128) (j : Fin 32) (hj : n.val = 64 + j.val) : pb (ah x0 x3) t (ix2 r n) = x3 (ix3 b s (⟨32 + j.val, by omega⟩ : Fin 64)) := by
    rw [pb_ah x0 x3 t r b s hb hs, catt_apply, dif_neg (by omega), dif_neg (by omega), dif_pos (by omega), kh_apply]
    exact congrArg x3 (congrArg (ix3 _ _) (Fin.ext (by show 32 + (n.val - 32 - 32) = 32 + j.val; omega)))
  have pz (n : Fin 128) (hj : (32 ≤ n.val ∧ n.val < 64) ∨ 96 ≤ n.val) : pb (ah x0 x3) t (ix2 r n) = (0 : EReal) := by
    rw [pb_ah x0 x3 t r b s hb hs, catt_apply]
    rcases hj with hj | hj
    · rw [dif_neg (by omega), dif_pos (by omega), zt_apply]
    · rw [dif_neg (by omega), dif_neg (by omega), dif_neg (by omega), zt_apply]
  rw [tb_th t r b s hb hs, tb_th t r b s hb hs, catt_apply, catt_apply]
  unfold rope
  by_cases ga : l.val < 32
  · rw [dif_pos ga, dif_pos ga, dif_pos ga, pl l (⟨l.val, ga⟩ : Fin 32) rfl, ph _ (⟨l.val, ga⟩ : Fin 32) (by show (l.val + 64) % 128 = 64 + l.val; omega), sub_eq_add_neg, ← mul_neg]
    rfl
  · rw [dif_neg ga, dif_neg ga, dif_neg ga]
    by_cases gz : l.val - 32 < 32
    · rw [dif_pos gz, dif_pos gz, dif_pos gz, pz l (Or.inl (by omega)), pz _ (Or.inr (by show 96 ≤ (l.val + 64) % 128; omega)), zero_mul, add_zero]
    · rw [dif_neg gz, dif_neg gz, dif_neg gz]
      by_cases gb : l.val - 32 - 32 < 32
      · rw [dif_pos gb, dif_pos gb, dif_pos gb, ph l (⟨l.val - 32 - 32, gb⟩ : Fin 32) (by show l.val = 64 + (l.val - 32 - 32); omega),
          pl _ (⟨l.val - 32 - 32, gb⟩ : Fin 32) (by show (l.val + 64) % 128 = l.val - 32 - 32; omega)]
      · rw [dif_neg gb, dif_neg gb, dif_neg gb, pz l (Or.inr (by omega)), pz _ (Or.inl (by show 32 ≤ (l.val + 64) % 128 ∧ (l.val + 64) % 128 < 64; omega)), zero_mul, add_zero]

/-- A block of the keys at a row, a head and a lane. -/
theorem blkk_apply (x4 x5 : Vec Ideal S4x4096x32 .f32) (h : Fin 8) (l : Fin 256) (q : Fin 2048) (hq : q.val = 256 * h.val + l.val) :
    blkk (ab (ah x0 x3) t) (bh x1) (wh x2) (pb (ah x0 x3) t) (tb (th x4 x4) t) (tb (th (Host.negf (F := Ideal) (φ := .f32) x5) x5) t) (ix2 r q) = resk x0 x1 x2 x3 x4 x5 b s h l := by
  have e1 : q.val % 256 = l.val := by omega
  have e2 : q.val / 256 = h.val := by omega
  rw [blkk_ix]
  unfold resk
  simp only [e1, e2]
  by_cases g : l.val < 128
  · rw [dif_pos g, dif_pos g]
    exact dd_k x0 x1 x2 x3 t r b s hb hs h _ (⟨l.val, g⟩ : Fin 128) (by show h.val * 128 + l.val = 128 * h.val + l.val; omega)
  · rw [dif_neg g, dif_neg g]
    exact rope_apply x0 x3 t r b s hb hs x4 x5 (⟨l.val - 128, by omega⟩ : Fin 128)

/-- A block of the values at a row, a head and a lane. -/
theorem blkvv_apply (h : Fin 8) (j : Fin 128) (q : Fin 1024) (hq : q.val = 128 * h.val + j.val) :
    blkvv (ab (ah x0 x3) t) (bh x1) (wh x2) (ix2 r q) = kn x0 x1 x2 b s h (⟨128 + j.val, by omega⟩ : Fin 256) :=
  dd_v x0 x1 x2 x3 t r b s hb hs h _ j (by show 1024 + q.val = 1024 + (128 * h.val + j.val); omega)
end

section
variable (m : (ℓ : Loc nD τ sig) → Buf (Elt Ideal) ℓ) (c : Dev nD)
variable (x0 : Vec Ideal S4x4096x512 .f32) (x1 : Vec Ideal S1x512 .f32) (x2 : Vec Ideal S1x512x2048 .f32) (x3 : Vec Ideal S4x4096x64 .f32) (x4 x5 : Vec Ideal S4x4096x32 .f32)
    (h0 : m ((c : Thread nD τ).loc main_arg0) = x0) (h1 : m ((c : Thread nD τ).loc main_arg1) = x1) (h2 : m ((c : Thread nD τ).loc main_arg2) = x2) (h3 : m ((c : Thread nD τ).loc main_arg3) = x3)
include h0 h1 h2 h3

/-- The kernel's keys at a row and a column. -/
theorem arrk_apply (h4 : m ((c : Thread nD τ).loc main_arg4) = x4) (h5 : m ((c : Thread nD τ).loc main_arg5) = x5) (r : Fin 16384) (n : Fin 2048) :
    (dats m 0 c).arrAt 6 cfg0.N (ix2 r n) = resk x0 x1 x2 x3 x4 x5 (⟨r.val / 4096, by omega⟩ : Fin 4) (⟨r.val % 4096, by omega⟩ : Fin 4096) (⟨n.val / 256, by omega⟩ : Fin 8) (⟨n.val % 256, by omega⟩ : Fin 256) := by
  have ht : r.val / 1024 < cfg0.N := by rw [show cfg0.N = 16 from N_0]; omega
  have e := congrFun ((Value.blocks6 m c ⟨r.val / 1024, ht⟩ (fl_k _)).trans (Value.flushed6_A m c ⟨r.val / 1024, ht⟩)) (ix2 (⟨r.val % 1024, by omega⟩ : Fin 1024) n)
  rw [outk_eq, iblk_a, iblk_b, iblk_w, iblk_p, iblk_c, iblk_s, V16, V25, V7, V20, V24, h0, h1, h2, h3, h4, h5] at e
  refine Eq.trans ?_ (e.trans ?_)
  · blk_ext [ix_k0, ix_k1]
  · exact blkk_apply x0 x1 x2 x3 ⟨r.val / 1024, ht⟩ (⟨r.val % 1024, by omega⟩ : Fin 1024) _ _
      (by show (1024 * (r.val / 1024) + r.val % 1024) / 4096 = r.val / 4096; omega) (by show (1024 * (r.val / 1024) + r.val % 1024) % 4096 = r.val % 4096; omega)
      x4 x5 (⟨n.val / 256, by omega⟩ : Fin 8) (⟨n.val % 256, by omega⟩ : Fin 256) n (by show n.val = 256 * (n.val / 256) + n.val % 256; omega)

/-- The kernel's values at a row and a column. -/
theorem arrv_apply (r : Fin 16384) (n : Fin 1024) :
    (dats m 0 c).arrAt 7 cfg0.N (ix2 r n) = kn x0 x1 x2 (⟨r.val / 4096, by omega⟩ : Fin 4) (⟨r.val % 4096, by omega⟩ : Fin 4096) (⟨n.val / 128, by omega⟩ : Fin 8) (⟨128 + n.val % 128, by omega⟩ : Fin 256) := by
  have ht : r.val / 1024 < cfg0.N := by rw [show cfg0.N = 16 from N_0]; omega
  have e := congrFun ((Value.blocks7 m c ⟨r.val / 1024, ht⟩ (fl_v _)).trans (Value.flushed7_A m c ⟨r.val / 1024, ht⟩)) (ix2 (⟨r.val % 1024, by omega⟩ : Fin 1024) n)
  rw [outv_eq, iblk_a, iblk_b, iblk_w, V16, V25, V7, h0, h1, h2, h3] at e
  refine Eq.trans ?_ (e.trans ?_)
  · blk_ext [ix_v0, ix_v1]
  · exact blkvv_apply x0 x1 x2 x3 ⟨r.val / 1024, ht⟩ (⟨r.val % 1024, by omega⟩ : Fin 1024) _ _
      (by show (1024 * (r.val / 1024) + r.val % 1024) / 4096 = r.val / 4096; omega) (by show (1024 * (r.val / 1024) + r.val % 1024) % 4096 = r.val % 4096; omega)
      (⟨n.val / 128, by omega⟩ : Fin 8) (⟨n.val % 128, by omega⟩ : Fin 128) n (by show n.val = 128 * (n.val / 128) + n.val % 128; omega)
end

end Cert.KvUpIdeal.Step

namespace Cert.KvUpReferenceIdeal.Val
open Cert.KvUpReferenceIdeal Cert.KvUpReferenceIdeal.Gen Cert.KvUpReferenceIdeal.Read Idealize.ShloMosaic Idealize.ShloMosaic.Tactic Idealize.ShloMosaic.TcCoe Idealize.SL.Sem
open Cert.KvUpIdeal.Step (resk rms kn rope zero_word)

def catp (a1 a2 a3 a4 : Vec Ideal S4x4096x32 .f32) : Vec Ideal S4x4096x128 .f32 :=
  concatenate S4x4096x128 2 [⟨S4x4096x32, a1⟩, ⟨S4x4096x32, a2⟩, ⟨S4x4096x32, a3⟩, ⟨S4x4096x32, a4⟩] concatenates_S4x4096x32_S4x4096x32_S4x4096x32_S4x4096x32_S4x4096x128_d2
theorem catp_apply (a1 a2 a3 a4 : Vec Ideal S4x4096x32 .f32) (k : Fin 4) (h : Fin 4096) (n : Fin 128) :
    catp a1 a2 a3 a4 (ix3 k h n) = (if g : n.val < 32 then a1 (ix3 k h (⟨n.val, g⟩ : Fin 32))
      else if g : n.val - 32 < 32 then a2 (ix3 k h (⟨n.val - 32, g⟩ : Fin 32))
      else if g : n.val - 32 - 32 < 32 then a3 (ix3 k h (⟨n.val - 32 - 32, g⟩ : Fin 32))
      else a4 (ix3 k h (⟨n.val - 32 - 32 - 32, by omega⟩ : Fin 32))) := by
  unfold catp
  pointwise
def catk (a1 a2 : Vec Ideal S4x4096x8x128 .f32) : Vec Ideal S4x4096x8x256 .f32 :=
  concatenate S4x4096x8x256 3 [⟨S4x4096x8x128, a1⟩, ⟨S4x4096x8x128, a2⟩] concatenates_S4x4096x8x128_S4x4096x8x128_S4x4096x8x256_d3
theorem catk_apply (a1 a2 : Vec Ideal S4x4096x8x128 .f32) (b : Fin 4) (s : Fin 4096) (h : Fin 8) (n : Fin 256) :
    catk a1 a2 (ix4 b s h n) = (if g : n.val < 128 then a1 (ix4 b s h (⟨n.val, g⟩ : Fin 128))
      else a2 (ix4 b s h (⟨n.val - 128, by omega⟩ : Fin 128))) := by
  unfold catk
  pointwise

section
variable (x0 : Vec Ideal S4x4096x512 .f32) (x1 : Vec Ideal S1x512 .f32) (x2 : Vec Ideal S1x512x2048 .f32) (x3 : Vec Ideal S4x4096x64 .f32) (x4 x5 : Vec Ideal S4x4096x32 .f32) (b : Fin 4) (s : Fin 4096) (h : Fin 8)

/-- The normed compressed row. -/
theorem v13_apply (k : Fin 512) : val_main_v13 (F := Ideal) x0 x1 (ix3 b s k) = rms (fun k => x0 (ix3 b s k)) (x1 (ix2 0 k)) k := by
  have hs : val_main_v2 (F := Ideal) x0 (ix2 b s) = ∑ k : Fin 512, x0 (ix3 b s k) * x0 (ix3 b s k) := by
    rw [val_main_v2_apply]
    have hz : val_main_cst (F := Ideal) (Shape.Idx.first h_S_) = (0 : EReal) := zero_word
    rw [hz, zero_add]
    refine Finset.sum_congr rfl fun k _ => ?_
    have ek : idx_main_v2 (ix2 b s) k = ix3 b s k := by funext a; fin_cases a <;> rfl
    rw [ek, val_main_v1_apply]
    rfl
  rw [val_main_v13_apply, val_main_v12_apply, val_main_v11_apply, val_main_v10_apply, val_main_v9_apply, val_main_v8_apply, val_main_v7_apply, val_main_v6_apply,
    val_main_v5_apply, val_main_v4_apply, val_main_v3_apply, val_main_v0_apply]
  have e3 : idx_main_v3 (idx_main_v9 (ix3 b s k)) = ix2 b s := by funext a; fin_cases a <;> rfl
  rw [e3, hs]
  unfold rms
  refine congrArg₂ (fun a b : EReal => a * b) rfl (congrArg x1 ?_)
  funext a; fin_cases a
  · rfl
  · exact Fin.ext (Nat.mod_eq_of_lt k.isLt)

theorem v16_apply (l : Fin 256) : val_main_v16 (F := Ideal) x0 x1 x2 (ix4 b s h l) = kn x0 x1 x2 b s h l := by
  have ei : idx_main_v16 (ix4 b s h l) = ix3 b s (⟨256 * h.val + l.val, by omega⟩ : Fin 2048) := by
    funext a; fin_cases a
    · exact Fin.ext (by show (((b.val * 4096 + s.val) * 8 + h.val) * 256 + l.val) / 8388608 = b.val; omega)
    · exact Fin.ext (by show (((b.val * 4096 + s.val) * 8 + h.val) * 256 + l.val) / 2048 % 4096 = s.val; omega)
    · exact Fin.ext (by show (((b.val * 4096 + s.val) * 8 + h.val) * 256 + l.val) % 2048 = 256 * h.val + l.val; omega)
  rw [val_main_v16_apply, ei, val_main_v15_apply]
  unfold kn
  generalize (⟨256 * h.val + l.val, by omega⟩ : Fin 2048) = n
  refine Finset.sum_congr rfl fun k _ => ?_
  have el : lidx_main_v15 (ix3 b s n) k = ix3 b s k := by funext a; fin_cases a <;> rfl
  rw [el, v13_apply, val_main_v14_apply]
  refine congrArg₂ (fun a b : EReal => a * b) rfl (congrArg x2 ?_)
  funext a; fin_cases a
  · rfl
  · exact Fin.ext (by show (k.val * 2048 + n.val) / 2048 % 512 = k.val; omega)
  · exact Fin.ext (by show (k.val * 2048 + n.val) % 2048 = n.val; omega)

theorem v27_apply (j : Fin 128) : val_main_v27 (F := Ideal) x0 x1 x2 (ix4 b s h j) = kn x0 x1 x2 b s h (⟨j.val, by omega⟩ : Fin 256) := by
  rw [val_main_v27_apply, ← v16_apply]
  refine congrArg (val_main_v16 (F := Ideal) x0 x1 x2) ?_
  funext a; fin_cases a <;> rfl
theorem v31_apply (j : Fin 128) : val_main_v31 (F := Ideal) x0 x1 x2 (ix4 b s h j) = kn x0 x1 x2 b s h (⟨128 + j.val, by omega⟩ : Fin 256) := by
  rw [val_main_v31_apply, ← v16_apply]
  refine congrArg (val_main_v16 (F := Ideal) x0 x1 x2) ?_
  funext a; fin_cases a <;> rfl
theorem v17_apply (j : Fin 32) : val_main_v17 (F := Ideal) x3 (ix3 b s j) = x3 (ix3 b s (⟨j.val, by omega⟩ : Fin 64)) := by
  rw [val_main_v17_apply]
  refine congrArg x3 ?_
  funext a; fin_cases a <;> rfl
theorem v18_apply (j : Fin 32) : val_main_v18 (F := Ideal) x3 (ix3 b s j) = x3 (ix3 b s (⟨32 + j.val, by omega⟩ : Fin 64)) := by
  rw [val_main_v18_apply]
  refine congrArg x3 ?_
  funext a; fin_cases a <;> rfl
theorem v19_apply (j : Fin 32) : val_main_v19 (F := Ideal) (ix3 b s j) = (0 : EReal) := by
  rw [val_main_v19_apply]
  exact zero_word
theorem v22_apply (j : Fin 32) : val_main_v22 (F := Ideal) x3 x4 x5 (ix3 b s j)
    = x3 (ix3 b s (⟨j.val, by omega⟩ : Fin 64)) * x4 (ix3 b s j) - x3 (ix3 b s (⟨32 + j.val, by omega⟩ : Fin 64)) * x5 (ix3 b s j) := by
  rw [val_main_v22_apply, val_main_v20_apply, val_main_v21_apply, v17_apply, v18_apply]
  rfl
theorem v25_apply (j : Fin 32) : val_main_v25 (F := Ideal) x3 x4 x5 (ix3 b s j)
    = x3 (ix3 b s (⟨32 + j.val, by omega⟩ : Fin 64)) * x4 (ix3 b s j) + x3 (ix3 b s (⟨j.val, by omega⟩ : Fin 64)) * x5 (ix3 b s j) := by
  rw [val_main_v25_apply, val_main_v23_apply, val_main_v24_apply, v17_apply, v18_apply]
  rfl
theorem v26_eq : val_main_v26 (F := Ideal) x3 x4 x5
    = catp (val_main_v22 (F := Ideal) x3 x4 x5) (val_main_v19 (F := Ideal)) (val_main_v25 (F := Ideal) x3 x4 x5) (val_main_v19 (F := Ideal)) := rfl
theorem v26_apply (l : Fin 128) : val_main_v26 (F := Ideal) x3 x4 x5 (ix3 b s l) = rope x3 x4 x5 b s l := by
  rw [v26_eq, catp_apply]
  unfold rope
  simp only [v22_apply, v25_apply, v19_apply]
theorem v29_apply (l : Fin 128) : val_main_v29 (F := Ideal) x3 x4 x5 (ix4 b s h l) = rope x3 x4 x5 b s l := by
  rw [val_main_v29_apply, val_main_v28_apply, ← v26_apply]
  refine congrArg (val_main_v26 (F := Ideal) x3 x4 x5) ?_
  funext a; fin_cases a <;> rfl
theorem v30_eq : val_main_v30 (F := Ideal) x0 x1 x2 x3 x4 x5 = catk (val_main_v27 (F := Ideal) x0 x1 x2) (val_main_v29 (F := Ideal) x3 x4 x5) := rfl
theorem v30_apply (l : Fin 256) : val_main_v30 (F := Ideal) x0 x1 x2 x3 x4 x5 (ix4 b s h l) = resk x0 x1 x2 x3 x4 x5 b s h l := by
  rw [v30_eq, catk_apply]
  unfold resk
  simp only [v27_apply, v29_apply]

/-- The reference's keys at a row and a column. -/
theorem refk_apply (r : Fin 16384) (n : Fin 2048) :
    val_main_v33 (F := Ideal) x0 x1 x2 x3 x4 x5 (ix2 r n) = resk x0 x1 x2 x3 x4 x5 (⟨r.val / 4096, by omega⟩ : Fin 4) (⟨r.val % 4096, by omega⟩ : Fin 4096) (⟨n.val / 256, by omega⟩ : Fin 8) (⟨n.val % 256, by omega⟩ : Fin 256) := by
  have ei : idx_main_v32 (ix2 r n) = ix4 (⟨r.val / 4096, by omega⟩ : Fin 4) (⟨r.val % 4096, by omega⟩ : Fin 4096) (⟨n.val / 256, by omega⟩ : Fin 8) (⟨n.val % 256, by omega⟩ : Fin 256) := by
    funext a; fin_cases a
    · exact Fin.ext (by show (r.val * 2048 + n.val) / 8388608 = r.val / 4096; omega)
    · exact Fin.ext (by show (r.val * 2048 + n.val) / 2048 % 4096 = r.val % 4096; omega)
    · exact Fin.ext (by show (r.val * 2048 + n.val) / 256 % 8 = n.val / 256; omega)
    · exact Fin.ext (by show (r.val * 2048 + n.val) % 256 = n.val % 256; omega)
  rw [val_main_v33_apply, val_main_v32_apply, ei]
  exact v30_apply x0 x1 x2 x3 x4 x5 _ _ _ _

/-- The reference's values at a row and a column. -/
theorem refv_apply (r : Fin 16384) (n : Fin 1024) :
    val_main_v35 (F := Ideal) x0 x1 x2 (ix2 r n) = kn x0 x1 x2 (⟨r.val / 4096, by omega⟩ : Fin 4) (⟨r.val % 4096, by omega⟩ : Fin 4096) (⟨n.val / 128, by omega⟩ : Fin 8) (⟨128 + n.val % 128, by omega⟩ : Fin 256) := by
  have ei : idx_main_v34 (ix2 r n) = ix4 (⟨r.val / 4096, by omega⟩ : Fin 4) (⟨r.val % 4096, by omega⟩ : Fin 4096) (⟨n.val / 128, by omega⟩ : Fin 8) (⟨n.val % 128, by omega⟩ : Fin 128) := by
    funext a; fin_cases a
    · exact Fin.ext (by show (r.val * 1024 + n.val) / 4194304 = r.val / 4096; omega)
    · exact Fin.ext (by show (r.val * 1024 + n.val) / 1024 % 4096 = r.val % 4096; omega)
    · exact Fin.ext (by show (r.val * 1024 + n.val) / 128 % 8 = n.val / 128; omega)
    · exact Fin.ext (by show (r.val * 1024 + n.val) % 128 = n.val % 128; omega)
  rw [val_main_v35_apply, val_main_v34_apply, ei]
  exact v31_apply x0 x1 x2 _ _ _ _
end

section
variable (m : (ℓ : Loc Cert.KvUpIdeal.nD Cert.KvUpIdeal.τ Cert.KvUpIdeal.sig) → Buf (Elt Ideal) ℓ) (c : Dev Cert.KvUpIdeal.nD)
    (x0 : Vec Ideal S4x4096x512 .f32) (x1 : Vec Ideal S1x512 .f32) (x2 : Vec Ideal S1x512x2048 .f32) (x3 : Vec Ideal S4x4096x64 .f32) (x4 x5 : Vec Ideal S4x4096x32 .f32)
    (h0 : m ((c : Thread Cert.KvUpIdeal.nD Cert.KvUpIdeal.τ).loc Cert.KvUpIdeal.main_arg0) = x0) (h1 : m ((c : Thread Cert.KvUpIdeal.nD Cert.KvUpIdeal.τ).loc Cert.KvUpIdeal.main_arg1) = x1)
    (h2 : m ((c : Thread Cert.KvUpIdeal.nD Cert.KvUpIdeal.τ).loc Cert.KvUpIdeal.main_arg2) = x2) (h3 : m ((c : Thread Cert.KvUpIdeal.nD Cert.KvUpIdeal.τ).loc Cert.KvUpIdeal.main_arg3) = x3)
include h0 h1 h2 h3

/-- The kernel's keys are the reference's. -/
theorem result_k (h4 : m ((c : Thread Cert.KvUpIdeal.nD Cert.KvUpIdeal.τ).loc Cert.KvUpIdeal.main_arg4) = x4) (h5 : m ((c : Thread Cert.KvUpIdeal.nD Cert.KvUpIdeal.τ).loc Cert.KvUpIdeal.main_arg5) = x5) :
    (Cert.KvUpIdeal.Gen.dats m 0 c).arrAt 6 Cert.KvUpIdeal.cfg0.N = val_main_v33 (F := Ideal) x0 x1 x2 x3 x4 x5 := by
  refine funext fun (y : S16384x2048.Idx) => ?_
  idx_vars y
  exact (Cert.KvUpIdeal.Step.arrk_apply m c x0 x1 x2 x3 x4 x5 h0 h1 h2 h3 h4 h5 y0 y1).trans (refk_apply x0 x1 x2 x3 x4 x5 y0 y1).symm

/-- The kernel's values are the reference's. -/
theorem result_v :
    (Cert.KvUpIdeal.Gen.dats m 0 c).arrAt 7 Cert.KvUpIdeal.cfg0.N = val_main_v35 (F := Ideal) x0 x1 x2 := by
  refine funext fun (y : S16384x1024.Idx) => ?_
  idx_vars y
  exact (Cert.KvUpIdeal.Step.arrv_apply m c x0 x1 x2 x3 h0 h1 h2 h3 y0 y1).trans (refv_apply x0 x1 x2 y0 y1).symm
end
end Cert.KvUpReferenceIdeal.Val
-- ==== Proof.FoxHalf.lean ====
module
public import proofs.«01_k».proof.Proof.Gen.Fox
public import proofs.«01_k».proof.Proof.Gen.Fox.Frame
public import proofs.«01_k».proof.Proof.Gen.FoxIdeal
public import proofs.«01_k».proof.Proof.Gen.FoxIdeal.Frame
public import proofs.«01_k».proof.Proof.Gen.FoxIdeal.Value
public import proofs.«01_k».proof.Proof.Gen.FoxReferenceIdeal
public import proofs.«01_k».proof.Proof.Gen.FoxReferenceIdeal.Run
public import proofs.«01_k».proof.Proof.Gen.FoxReferenceIdeal.Read
@[expose] public section
-- ==== Proof.FoxPre.lean ====
module
public import proofs.«01_k».proof.Pre_finite_fox
public import Idealize.ShloMosaic.Lib.Pointwise
public import Idealize.ShloMosaic.Lib.ReduceAll
public import Idealize.ShloMosaic.PureOps.Ideal.Laws
@[expose] public section
noncomputable section
namespace Cert.Pre_finite_fox
open Idealize.ShloMosaic

/-! # The precondition read back: every query, key and gate is a real -/

theorem facts : Facts where
  bcast_S_S4x4096x8x128 := by decide
  reducesTo_S4x4096x8x128_S_d0_1_2_3 := by decide
  h_S_ := by decide
  bcast_S_S4x4096x8 := by decide
  reducesTo_S4x4096x8_S_d0_1_2 := by decide

theorem inf_word : Ideal.ofBits .f32 0x7F800000#32 = (⊤ : EReal) := by simp [Ideal.ofBits, Ideal.ieee]

/-- An extended real whose absolute value is below plus infinity is a real. -/
theorem real_of_lt (x : EReal) (h : max x (-x) < ⊤) : ∃ r : ℝ, x = r := by
  induction x with
  | bot => simp at h
  | coe r => exact ⟨r, rfl⟩
  | top => simp at h

theorem real_of_cmp (x : EReal) (h : Ideal.cmp .olt (max x (-x)) (⊤ : EReal) = 1#1) : ∃ r : ℝ, x = r := by
  refine real_of_lt x ?_
  by_contra hn
  simp [Ideal.cmp, hn] at h

instance : Subsingleton S_.Idx := ⟨fun a b => funext fun i => i.elim0⟩

section
variable [Facts]
open Facts
theorem all_real {s : Shape} {axes : List (Fin s.rank)} (x : FVec Ideal s .f32) (hb : S_.BroadcastsInDim s (![] : Fin 0 → Fin s.rank)) (hr : s.ReducesTo axes S_) (j : S_.Idx)
    (h : Host.reduce IntOp.andi (cmpf .olt (Host.absf x) (broadcastInDim s ![] hb (constant S_ .f32 0x7F800000#32))) (constantI S_ 1 1#1) hr h_S_ j = 1#1) (y : s.Idx) : ∃ r : ℝ, x y = (r : EReal) := by
  have e := Host.reduce_andi_all _ _ _ _ _ h y
  refine real_of_cmp _ ?_
  rw [← inf_word]
  exact e

/-- Under the precondition every element of the queries, of the keys and of the cumulative log gates is a real. -/
theorem reals (x0 x1 x2 : FVec Ideal S4x4096x8x128 .f32) (x3 : FVec Ideal S4x4096x8 .f32) (h : fn (F := Ideal) x0 x1 x2 x3 = fun _ => 1#1) :
    (∀ y, ∃ r : ℝ, x0 y = (r : EReal)) ∧ (∀ y, ∃ r : ℝ, x1 y = (r : EReal)) ∧ (∀ y, ∃ r : ℝ, x3 y = (r : EReal)) := by
  have e := congrFun h (Shape.Idx.first h_S_)
  unfold fn at e
  obtain ⟨e1, h3⟩ := IntOp.andi_eq_one.1 e
  obtain ⟨h0, h1⟩ := IntOp.andi_eq_one.1 e1
  exact ⟨all_real x0 _ _ _ h0, all_real x1 _ _ _ h1, all_real x3 _ _ _ h3⟩
end
end Cert.Pre_finite_fox
-- ==== Proof.FoxStep.lean ====
module
public import proofs.«01_k».proof.Proof.Gen.FoxIdeal.Value
public import Idealize.ShloMosaic.Lib.Pointwise
public import Idealize.ShloMosaic.Lib.WritesUnit
@[expose] public section
set_option maxRecDepth 16384
noncomputable section
namespace Cert.FoxIdeal.Step
open Cert.FoxIdeal Cert.FoxIdeal.Gen Idealize.ShloMosaic Idealize.ShloMosaic.TcCoe Idealize.SL.Sem Idealize.ShloMosaic.Tactic

/-! # One step of the online softmax with a bias, for one head and one query row

The kernel keeps, for each head and query row, a running maximum and 144 running sums (128 of the value lanes, one of
the weights themselves, the rest unused). A block of scores carries the key's bias already; the query's bias `u` is added to
the block's maximum and taken off what the scores are reduced by. `mxb` is the next maximum, `acb` the next value of one sum.
The lemmas read the printed operations of a head at an index as these. -/

/-- The word of minus infinity is the least extended real. -/
theorem ninf_word : Ideal.ofBits .f32 0xFF800000#32 = (⊥ : EReal) := by simp [Ideal.ofBits, Ideal.ieee]

/-- The next maximum: the old one against the block's greatest score plus the query's bias. -/
def mxb (u m : EReal) (s : Fin 512 → EReal) : EReal := max m (Finset.univ.sup s + u)

/-- The next sum: the old one rescaled to the new maximum, plus the block's weighted values. -/
def acb (u m a : EReal) (s v : Fin 512 → EReal) : EReal :=
  Ideal.exp2 (m - mxb u m s) * a + ∑ x : Fin 512, v x * Ideal.exp2 (s x - (mxb u m s - u))

/-- The scores of a block with the keys' bias, from 512 keys, 512 queries and 512 biases. -/
abbrev sNew (kb qb : Vec Ideal S512x128 .bf16) (ck : Vec Ideal S1x512x1 .f32) : FVec Ideal S512x512 .f32 :=
  k0_pay74 (F := Ideal) kb qb ck

/-- A block of scores at key row `a` and query row `b`: the sum of the 128 products less the key's bias. -/
theorem score_apply (kb qb : Vec Ideal S512x128 .bf16) (ck : Vec Ideal S1x512x1 .f32) (a b : Fin 512) :
    sNew kb qb ck (ix2 a b) = (∑ e : Fin 128, kb (ix2 a e) * qb (ix2 b e)) - ck (ix3 0 a 0) := by
  unfold sNew k0_pay74
  pointwise

/-- The new maximum of a head. -/
abbrev mRow (s : FVec Ideal S512x512 .f32) (m : Vec Ideal S1x1x512 .f32) (u : Vec Ideal S1x1x1x512 .f32) : FVec Ideal S1x512 .f32 :=
  k0_pay86 (F := Ideal) (k0_pay78 m) (k0_pay84 s u)

/-- The new maximum a head stores, from its scores, the maximum it loads and the queries' bias. -/
abbrev mNew (s : FVec Ideal S512x512 .f32) (m : Vec Ideal S1x1x512 .f32) (u : Vec Ideal S1x1x1x512 .f32) : FVec Ideal S1x1x512 .f32 :=
  k0_pay98 (F := Ideal) (mRow s m u)

/-- The new sums a head stores, from its scores, the maximum, the bias, the transposed values and the sums it loads. -/
abbrev aNew (s : FVec Ideal S512x512 .f32) (m : Vec Ideal S1x1x512 .f32) (u : Vec Ideal S1x1x1x512 .f32) (vt : Vec Ideal S1x1x144x512 .bf16)
    (a : Vec Ideal S1x144x512 .f32) : FVec Ideal S1x144x512 .f32 :=
  k0_pay106 (F := Ideal) (k0_pay94 (k0_pay78 m) (mRow s m u)) (k0_pay102 (k0_pay90 s (k0_pay78 m) (k0_pay84 s u) u) vt) a

theorem pay84_apply (s : FVec Ideal S512x512 .f32) (u : Vec Ideal S1x1x1x512 .f32) (r : Fin 512) :
    k0_pay84 (F := Ideal) s u (ix2 0 r) = Finset.univ.sup (fun a => s (ix2 a r)) + u (ix4 0 0 0 r) := by
  unfold k0_pay84
  pointwise
  rw [ninf_word]; rfl

theorem pay78_apply (m : Vec Ideal S1x1x512 .f32) (r : Fin 512) : k0_pay78 (F := Ideal) m (ix2 0 r) = m (ix3 0 0 r) := by
  unfold k0_pay78
  pointwise

theorem mRow_apply (s : FVec Ideal S512x512 .f32) (m : Vec Ideal S1x1x512 .f32) (u : Vec Ideal S1x1x1x512 .f32) (r : Fin 512) :
    mRow s m u (ix2 0 r) = mxb (u (ix4 0 0 0 r)) (m (ix3 0 0 r)) (fun a => s (ix2 a r)) := by
  unfold mRow k0_pay86 mxb
  pointwise
  rw [pay84_apply, pay78_apply]

theorem mNew_apply (s : FVec Ideal S512x512 .f32) (m : Vec Ideal S1x1x512 .f32) (u : Vec Ideal S1x1x1x512 .f32) (r : Fin 512) :
    mNew s m u (ix3 0 0 r) = mxb (u (ix4 0 0 0 r)) (m (ix3 0 0 r)) (fun a => s (ix2 a r)) := by
  unfold mNew k0_pay98
  pointwise
  exact mRow_apply s m u r

theorem aNew_apply (s : FVec Ideal S512x512 .f32) (m : Vec Ideal S1x1x512 .f32) (u : Vec Ideal S1x1x1x512 .f32) (vt : Vec Ideal S1x1x144x512 .bf16)
    (a : Vec Ideal S1x144x512 .f32) (d : Fin 144) (r : Fin 512) :
    aNew s m u vt a (ix3 0 d r)
      = acb (u (ix4 0 0 0 r)) (m (ix3 0 0 r)) (a (ix3 0 d r)) (fun x => s (ix2 x r)) (fun x => vt (ix4 0 0 d x)) := by
  unfold aNew k0_pay106 k0_pay102 k0_pay94 k0_pay90 acb
  pointwise
  rw [pay78_apply]
  simp only [show k0_pay86 (k0_pay78 m) (k0_pay84 s u) (ix2 0 r) = _ from mRow_apply s m u r]
  rfl

/-- The output of a head: its first 128 sums over the sum of its weights, transposed. -/
theorem out_apply (a : Vec Ideal S1x144x512 .f32) (d : Fin 128) (r : Fin 512) :
    k0_pay197 (F := Ideal) a (ix2 r d) = Ideal.div (a (ix3 0 (Fin.castLE (by omega) d) r)) (a (ix3 0 128 r)) := by
  unfold k0_pay197
  pointwise
  rfl

/-! ## Reading four heads' stores -/

variable {Val : EltTy → Type} {κ : Kind} {sp : Space}

theorem hit_m (v : View sig κ sp S4x1x512 .f32) (f : v.ty.Contents Val) (off : Fin 3 → ℕ) (inb) (w : S1x1x512.Idx → Val .f32) (L)
    (h : Fin 4) (r : Fin 512) (he : off = ![h.val, 0, 0]) :
    v.read Val (v.writes Val f (⟨Rect.unit (s := S4x1x512) off S1x1x512.size inb, w⟩ :: L)) (ix3 h 0 r) = w (ix3 0 0 r) :=
  View.read_writes_cons_unit_of_mem v f inb w L (ix3 h 0 r) (ix3 0 0 r : S1x1x512.Idx) he fun a => match a with
    | ⟨0, _⟩ => rfl
    | ⟨1, _⟩ => rfl
    | ⟨2, _⟩ => (Nat.zero_add _).symm

theorem miss_m (v : View sig κ sp S4x1x512 .f32) (f : v.ty.Contents Val) (off : Fin 3 → ℕ) (inb) (w : S1x1x512.Idx → Val .f32) (L)
    (h : Fin 4) (r : Fin 512) (q : ℕ) (he : off = ![q, 0, 0]) (hq : h.val < q) :
    v.read Val (v.writes Val f (⟨Rect.unit (s := S4x1x512) off S1x1x512.size inb, w⟩ :: L)) (ix3 h 0 r)
      = v.read Val (v.writes Val f L) (ix3 h 0 r) :=
  View.read_writes_cons_unit_of_not_mem v f inb w L (ix3 h 0 r) he (0 : Fin 3) (.inl hq)

theorem hit_a (v : View sig κ sp S4x144x512 .f32) (f : v.ty.Contents Val) (off : Fin 3 → ℕ) (inb) (w : S1x144x512.Idx → Val .f32) (L)
    (h : Fin 4) (d : Fin 144) (r : Fin 512) (he : off = ![h.val, 0, 0]) :
    v.read Val (v.writes Val f (⟨Rect.unit (s := S4x144x512) off S1x144x512.size inb, w⟩ :: L)) (ix3 h d r) = w (ix3 0 d r) :=
  View.read_writes_cons_unit_of_mem v f inb w L (ix3 h d r) (ix3 0 d r : S1x144x512.Idx) he fun a => match a with
    | ⟨0, _⟩ => rfl
    | ⟨1, _⟩ => (Nat.zero_add _).symm
    | ⟨2, _⟩ => (Nat.zero_add _).symm

theorem miss_a (v : View sig κ sp S4x144x512 .f32) (f : v.ty.Contents Val) (off : Fin 3 → ℕ) (inb) (w : S1x144x512.Idx → Val .f32) (L)
    (h : Fin 4) (d : Fin 144) (r : Fin 512) (q : ℕ) (he : off = ![q, 0, 0]) (hq : h.val < q) :
    v.read Val (v.writes Val f (⟨Rect.unit (s := S4x144x512) off S1x144x512.size inb, w⟩ :: L)) (ix3 h d r)
      = v.read Val (v.writes Val f L) (ix3 h d r) :=
  View.read_writes_cons_unit_of_not_mem v f inb w L (ix3 h d r) he (0 : Fin 3) (.inl hq)

/-- Four stores, one per head: head `h` reads its own. -/
theorem read_m (v : View sig κ sp S4x1x512 .f32) (f : v.ty.Contents Val) (i0 i1 i2 i3) (p : Fin 4 → S1x1x512.Idx → Val .f32)
    (h : Fin 4) (r : Fin 512) (L : List (View.Piece Val S4x1x512 .f32)) :
    v.read Val (v.writes Val f (⟨Rect.unit (s := S4x1x512) ![3, 0, 0] S1x1x512.size i3, p 3⟩ :: ⟨Rect.unit (s := S4x1x512) ![2, 0, 0] S1x1x512.size i2, p 2⟩ ::
      ⟨Rect.unit (s := S4x1x512) ![1, 0, 0] S1x1x512.size i1, p 1⟩ :: ⟨Rect.unit (s := S4x1x512) ![0, 0, 0] S1x1x512.size i0, p 0⟩ :: L)) (ix3 h 0 r)
      = p h (ix3 0 0 r) := by
  match h with
  | 0 =>
    rw [miss_m v f _ i3 (p 3) _ 0 r 3 rfl (by decide)]
    rw [miss_m v f _ i2 (p 2) _ 0 r 2 rfl (by decide)]
    rw [miss_m v f _ i1 (p 1) _ 0 r 1 rfl (by decide)]
    exact hit_m v f _ i0 (p 0) _ 0 r rfl
  | 1 =>
    rw [miss_m v f _ i3 (p 3) _ 1 r 3 rfl (by decide)]
    rw [miss_m v f _ i2 (p 2) _ 1 r 2 rfl (by decide)]
    exact hit_m v f _ i1 (p 1) _ 1 r rfl
  | 2 =>
    rw [miss_m v f _ i3 (p 3) _ 2 r 3 rfl (by decide)]
    exact hit_m v f _ i2 (p 2) _ 2 r rfl
  | 3 =>
    exact hit_m v f _ i3 (p 3) _ 3 r rfl

/-- Four stores, one per head: head `h` reads its own. -/
theorem read_a (v : View sig κ sp S4x144x512 .f32) (f : v.ty.Contents Val) (i0 i1 i2 i3) (p : Fin 4 → S1x144x512.Idx → Val .f32)
    (h : Fin 4) (d : Fin 144) (r : Fin 512) (L : List (View.Piece Val S4x144x512 .f32)) :
    v.read Val (v.writes Val f (⟨Rect.unit (s := S4x144x512) ![3, 0, 0] S1x144x512.size i3, p 3⟩ :: ⟨Rect.unit (s := S4x144x512) ![2, 0, 0] S1x144x512.size i2, p 2⟩ ::
      ⟨Rect.unit (s := S4x144x512) ![1, 0, 0] S1x144x512.size i1, p 1⟩ :: ⟨Rect.unit (s := S4x144x512) ![0, 0, 0] S1x144x512.size i0, p 0⟩ :: L)) (ix3 h d r)
      = p h (ix3 0 d r) := by
  match h with
  | 0 =>
    rw [miss_a v f _ i3 (p 3) _ 0 d r 3 rfl (by decide)]
    rw [miss_a v f _ i2 (p 2) _ 0 d r 2 rfl (by decide)]
    rw [miss_a v f _ i1 (p 1) _ 0 d r 1 rfl (by decide)]
    exact hit_a v f _ i0 (p 0) _ 0 d r rfl
  | 1 =>
    rw [miss_a v f _ i3 (p 3) _ 1 d r 3 rfl (by decide)]
    rw [miss_a v f _ i2 (p 2) _ 1 d r 2 rfl (by decide)]
    exact hit_a v f _ i1 (p 1) _ 1 d r rfl
  | 2 =>
    rw [miss_a v f _ i3 (p 3) _ 2 d r 3 rfl (by decide)]
    exact hit_a v f _ i2 (p 2) _ 2 d r rfl
  | 3 =>
    exact hit_a v f _ i3 (p 3) _ 3 d r rfl

end Cert.FoxIdeal.Step
-- ==== Proof.FoxTrip.lean ====
module
public import proofs.«01_k».proof.Proof.FoxStep
@[expose] public section
set_option maxRecDepth 16384
noncomputable section
namespace Cert.FoxIdeal.Step
open Cert.FoxIdeal Cert.FoxIdeal.Gen Idealize.ShloMosaic Idealize.ShloMosaic.TcCoe Idealize.SL.Sem Idealize.ShloMosaic.Tactic

/-! # One trip of the loop over the key blocks below the diagonal -/

/-- The score of key row `a` of key block `j` with query row `r`, for head `h`, over the head's 128 lanes, less the key's bias. -/
def scf (K : Vec Ideal S4096x512 .bf16) (Q : Vec Ideal S512x512 .bf16) (G : Vec Ideal S1x4096x128 .f32) (h : Fin 4) (j : Fin 8) (r a : Fin 512) : EReal :=
  (∑ e : Fin 128, K (ix2 (⟨512 * j.val + a.val, by omega⟩ : Fin 4096) (⟨128 * h.val + e.val, by omega⟩ : Fin 512))
    * Q (ix2 r (⟨128 * h.val + e.val, by omega⟩ : Fin 512)))
    - G (ix3 0 (⟨512 * j.val + a.val, by omega⟩ : Fin 4096) (⟨h.val, by omega⟩ : Fin 128))

theorem trips1 : ∀ i : grid0.Coords, (k0_t1_loop i).trips = (i 2).val := by decide +kernel
theorem trips2 : ∀ i : grid0.Coords, (k0_t2_loop i).trips = 0 := by decide +kernel

section
variable (𝒱 : Variants) (c : Dev nD) (bd : Option 𝒱.V) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x1x512 .f32) (harg6 : arg6.IsWhole) (arg7 : Memref sig .tc .vmem S1x4096x128 .f32) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x144x512 .f32) (harg10 : arg10.IsWhole) (arg11 : Memref sig .tc .vmem S4x8x144x512 .bf16) (harg11 : arg11.IsWhole)
  (X3 : BufTy.Contents (Elt Ideal) arg3.view.ty) (X4 : BufTy.Contents (Elt Ideal) arg4.view.ty) (X6 : BufTy.Contents (Elt Ideal) arg6.view.ty) (X7 : BufTy.Contents (Elt Ideal) arg7.view.ty) (X11 : BufTy.Contents (Elt Ideal) arg11.view.ty)
  (k : Fin (k0_t1_loop i).trips) (f9 : BufTy.Contents (Elt Ideal) arg9.view.ty) (f10 : BufTy.Contents (Elt Ideal) arg10.view.ty)

include k in
theorem trip_lt : k.val < 8 := by
  exact lt_of_lt_of_le k.isLt (by rw [trips1]; exact (i 2).isLt.le)

/-- A load of the block of 128 lanes at row `512 k` of the keys, at an index. -/
theorem ld_k (off : Fin 2 → ℕ) (h : Fin 4) (j : Fin 8) (he : off = ![512 * j.val, 128 * h.val]) (inb) (f : BufTy.Contents (Elt Ideal) arg4.view.ty) (a : Fin 512) (e : Fin 128) :
    View.readAt (Elt Ideal) arg4.view (Rect.unit (s := S4096x512) off S512x128.size inb).toLoadRect f (ix2 a e)
      = arg4.view.read (Elt Ideal) f (ix2 (⟨512 * j.val + a.val, by omega⟩ : Fin 4096) (⟨128 * h.val + e.val, by omega⟩ : Fin 512)) := by
  subst he
  rw [View.readAt_eq_ld]
  pointwise

/-- A load of a head's 128 lanes of the queries, at an index. -/
theorem ld_q (off : Fin 2 → ℕ) (h : Fin 4) (he : off = ![0, 128 * h.val]) (inb) (f : BufTy.Contents (Elt Ideal) arg3.view.ty) (a : Fin 512) (e : Fin 128) :
    View.readAt (Elt Ideal) arg3.view (Rect.unit (s := S512x512) off S512x128.size inb).toLoadRect f (ix2 a e)
      = arg3.view.read (Elt Ideal) f (ix2 a (⟨128 * h.val + e.val, by omega⟩ : Fin 512)) := by
  subst he
  rw [View.readAt_eq_ld]
  pointwise

/-- A load of a head's column of the keys' biases. -/
theorem ld_g (off : Fin 3 → ℕ) (h : Fin 4) (j : Fin 8) (he : off = ![0, 512 * j.val, h.val]) (inb) (f : BufTy.Contents (Elt Ideal) arg7.view.ty) (a : Fin 512) :
    View.readAt (Elt Ideal) arg7.view (Rect.unit (s := S1x4096x128) off S1x512x1.size inb).toLoadRect f (ix3 0 a 0)
      = arg7.view.read (Elt Ideal) f (ix3 0 (⟨512 * j.val + a.val, by omega⟩ : Fin 4096) (⟨h.val, by omega⟩ : Fin 128)) := by
  subst he
  rw [View.readAt_eq_ld]
  pointwise

/-- A load of a head's row of the queries' biases. -/
theorem ld_u (off : Fin 4 → ℕ) (h : Fin 4) (he : off = ![0, h.val, 0, 0]) (inb) (f : BufTy.Contents (Elt Ideal) arg6.view.ty) (r : Fin 512) :
    View.readAt (Elt Ideal) arg6.view (Rect.unit (s := S1x4x1x512) off S1x1x1x512.size inb).toLoadRect f (ix4 0 0 0 r)
      = arg6.view.read (Elt Ideal) f (ix4 0 h 0 r) := by
  subst he
  rw [View.readAt_eq_ld]
  pointwise

/-- A load of a head's maxima. -/
theorem ld_m (off : Fin 3 → ℕ) (h : Fin 4) (he : off = ![h.val, 0, 0]) (inb) (f : BufTy.Contents (Elt Ideal) arg9.view.ty) (r : Fin 512) :
    View.readAt (Elt Ideal) arg9.view (Rect.unit (s := S4x1x512) off S1x1x512.size inb).toLoadRect f (ix3 0 0 r)
      = arg9.view.read (Elt Ideal) f (ix3 h 0 r) := by
  subst he
  rw [View.readAt_eq_ld]
  pointwise

/-- A load of a head's sums. -/
theorem ld_a (off : Fin 3 → ℕ) (h : Fin 4) (he : off = ![h.val, 0, 0]) (inb) (f : BufTy.Contents (Elt Ideal) arg10.view.ty) (d : Fin 144) (r : Fin 512) :
    View.readAt (Elt Ideal) arg10.view (Rect.unit (s := S4x144x512) off S1x144x512.size inb).toLoadRect f (ix3 0 d r)
      = arg10.view.read (Elt Ideal) f (ix3 h d r) := by
  subst he
  rw [View.readAt_eq_ld]
  pointwise

/-- A load of a head's transposed values of block `j`. -/
theorem ld_v (off : Fin 4 → ℕ) (h : Fin 4) (j : Fin 8) (he : off = ![h.val, j.val, 0, 0]) (inb) (f : BufTy.Contents (Elt Ideal) arg11.view.ty) (d : Fin 144) (r : Fin 512) :
    View.readAt (Elt Ideal) arg11.view (Rect.unit (s := S4x8x144x512) off S1x1x144x512.size inb).toLoadRect f (ix4 0 0 d r)
      = arg11.view.read (Elt Ideal) f (ix4 h j d r) := by
  subst he
  rw [View.readAt_eq_ld]
  pointwise

theorem ld_score (ko : Fin 2 → ℕ) (qo : Fin 2 → ℕ) (go : Fin 3 → ℕ) (h : Fin 4) (j : Fin 8) (hk : ko = ![512 * j.val, 128 * h.val]) (hq : qo = ![0, 128 * h.val])
    (hg : go = ![0, 512 * j.val, h.val]) (ik) (iq) (ig) (r a : Fin 512) :
    sNew (View.readAt (Elt Ideal) arg4.view (Rect.unit (s := S4096x512) ko S512x128.size ik).toLoadRect X4)
      (View.readAt (Elt Ideal) arg3.view (Rect.unit (s := S512x512) qo S512x128.size iq).toLoadRect X3)
      (View.readAt (Elt Ideal) arg7.view (Rect.unit (s := S1x4096x128) go S1x512x1.size ig).toLoadRect X7) (ix2 a r)
      = scf (arg4.view.read (Elt Ideal) X4) (arg3.view.read (Elt Ideal) X3) (arg7.view.read (Elt Ideal) X7) h j r a := by
  rw [score_apply, ld_g arg7 go h j hg]
  unfold scf
  congr 1
  refine Finset.sum_congr rfl fun e _ => ?_
  rw [ld_k arg4 ko h j hk, ld_q arg3 qo h hq]

/-- The block of scores of head `h` in trip `k`. -/
def tsc : Fin 4 → FVec Ideal S512x512 .f32 := ![
  sNew (View.readAt (Elt Ideal) arg4.view (Rect.unit (s := S4096x512) (k0_off1 i k) S512x128.size (k0_off1_inb i k)).toLoadRect X4) (View.readAt (Elt Ideal) arg3.view (Rect.unit (s := S512x512) ![0, 0] S512x128.size inb_S512x512_S512x128_0_0).toLoadRect X3)
    (View.readAt (Elt Ideal) arg7.view (Rect.unit (s := S1x4096x128) (k0_off5 i k) S1x512x1.size (k0_off5_inb i k)).toLoadRect X7),
  sNew (View.readAt (Elt Ideal) arg4.view (Rect.unit (s := S4096x512) (k0_off2 i k) S512x128.size (k0_off2_inb i k)).toLoadRect X4) (View.readAt (Elt Ideal) arg3.view (Rect.unit (s := S512x512) ![0, 128] S512x128.size inb_S512x512_S512x128_0_128).toLoadRect X3)
    (View.readAt (Elt Ideal) arg7.view (Rect.unit (s := S1x4096x128) (k0_off6 i k) S1x512x1.size (k0_off6_inb i k)).toLoadRect X7),
  sNew (View.readAt (Elt Ideal) arg4.view (Rect.unit (s := S4096x512) (k0_off3 i k) S512x128.size (k0_off3_inb i k)).toLoadRect X4) (View.readAt (Elt Ideal) arg3.view (Rect.unit (s := S512x512) ![0, 256] S512x128.size inb_S512x512_S512x128_0_256).toLoadRect X3)
    (View.readAt (Elt Ideal) arg7.view (Rect.unit (s := S1x4096x128) (k0_off7 i k) S1x512x1.size (k0_off7_inb i k)).toLoadRect X7),
  sNew (View.readAt (Elt Ideal) arg4.view (Rect.unit (s := S4096x512) (k0_off4 i k) S512x128.size (k0_off4_inb i k)).toLoadRect X4) (View.readAt (Elt Ideal) arg3.view (Rect.unit (s := S512x512) ![0, 384] S512x128.size inb_S512x512_S512x128_0_384).toLoadRect X3)
    (View.readAt (Elt Ideal) arg7.view (Rect.unit (s := S1x4096x128) (k0_off8 i k) S1x512x1.size (k0_off8_inb i k)).toLoadRect X7)]

/-- The queries' biases of head `h`. -/
def tu : Fin 4 → Vec Ideal S1x1x1x512 .f32 := ![
  View.readAt (Elt Ideal) arg6.view (Rect.unit (s := S1x4x1x512) ![0, 0, 0, 0] S1x1x1x512.size inb_S1x4x1x512_S1x1x1x512_0_0_0_0).toLoadRect X6,
  View.readAt (Elt Ideal) arg6.view (Rect.unit (s := S1x4x1x512) ![0, 1, 0, 0] S1x1x1x512.size inb_S1x4x1x512_S1x1x1x512_0_1_0_0).toLoadRect X6,
  View.readAt (Elt Ideal) arg6.view (Rect.unit (s := S1x4x1x512) ![0, 2, 0, 0] S1x1x1x512.size inb_S1x4x1x512_S1x1x1x512_0_2_0_0).toLoadRect X6,
  View.readAt (Elt Ideal) arg6.view (Rect.unit (s := S1x4x1x512) ![0, 3, 0, 0] S1x1x1x512.size inb_S1x4x1x512_S1x1x1x512_0_3_0_0).toLoadRect X6]

/-- The maxima head `h` loads. -/
def tm : Fin 4 → Vec Ideal S1x1x512 .f32 := ![
  View.readAt (Elt Ideal) arg9.view (Rect.unit (s := S4x1x512) ![0, 0, 0] S1x1x512.size inb_S4x1x512_S1x1x512_0_0_0).toLoadRect f9,
  View.readAt (Elt Ideal) arg9.view (Rect.unit (s := S4x1x512) ![1, 0, 0] S1x1x512.size inb_S4x1x512_S1x1x512_1_0_0).toLoadRect f9,
  View.readAt (Elt Ideal) arg9.view (Rect.unit (s := S4x1x512) ![2, 0, 0] S1x1x512.size inb_S4x1x512_S1x1x512_2_0_0).toLoadRect f9,
  View.readAt (Elt Ideal) arg9.view (Rect.unit (s := S4x1x512) ![3, 0, 0] S1x1x512.size inb_S4x1x512_S1x1x512_3_0_0).toLoadRect f9]

/-- The sums head `h` loads. -/
def ta : Fin 4 → Vec Ideal S1x144x512 .f32 := ![
  View.readAt (Elt Ideal) arg10.view (Rect.unit (s := S4x144x512) ![0, 0, 0] S1x144x512.size inb_S4x144x512_S1x144x512_0_0_0).toLoadRect f10,
  View.readAt (Elt Ideal) arg10.view (Rect.unit (s := S4x144x512) ![1, 0, 0] S1x144x512.size inb_S4x144x512_S1x144x512_1_0_0).toLoadRect f10,
  View.readAt (Elt Ideal) arg10.view (Rect.unit (s := S4x144x512) ![2, 0, 0] S1x144x512.size inb_S4x144x512_S1x144x512_2_0_0).toLoadRect f10,
  View.readAt (Elt Ideal) arg10.view (Rect.unit (s := S4x144x512) ![3, 0, 0] S1x144x512.size inb_S4x144x512_S1x144x512_3_0_0).toLoadRect f10]

/-- The transposed values head `h` loads. -/
def tv : Fin 4 → Vec Ideal S1x1x144x512 .bf16 := ![
  View.readAt (Elt Ideal) arg11.view (Rect.unit (s := S4x8x144x512) (k0_off9 i k) S1x1x144x512.size (k0_off9_inb i k)).toLoadRect X11,
  View.readAt (Elt Ideal) arg11.view (Rect.unit (s := S4x8x144x512) (k0_off10 i k) S1x1x144x512.size (k0_off10_inb i k)).toLoadRect X11,
  View.readAt (Elt Ideal) arg11.view (Rect.unit (s := S4x8x144x512) (k0_off11 i k) S1x1x144x512.size (k0_off11_inb i k)).toLoadRect X11,
  View.readAt (Elt Ideal) arg11.view (Rect.unit (s := S4x8x144x512) (k0_off12 i k) S1x1x144x512.size (k0_off12_inb i k)).toLoadRect X11]

/-- The stores of one trip: per head, the new maxima and the new sums. -/
theorem trip_list : tripL_k0_t1 (F := Ideal) 𝒱 c bd i arg3 harg3 arg4 harg4 arg5 harg5 arg6 harg6 arg7 harg7 arg8 harg8 arg9 harg9 arg10 harg10 arg11 harg11 X3 X4 X6 X7 X11 k f9 f10 =
   ([⟨Rect.unit (s := S4x1x512) ![3, 0, 0] S1x1x512.size inb_S4x1x512_S1x1x512_3_0_0, mNew (tsc i arg3 arg4 arg7 X3 X4 X7 k 3) (tm arg9 f9 3) (tu arg6 X6 3)⟩,
     ⟨Rect.unit (s := S4x1x512) ![2, 0, 0] S1x1x512.size inb_S4x1x512_S1x1x512_2_0_0, mNew (tsc i arg3 arg4 arg7 X3 X4 X7 k 2) (tm arg9 f9 2) (tu arg6 X6 2)⟩,
     ⟨Rect.unit (s := S4x1x512) ![1, 0, 0] S1x1x512.size inb_S4x1x512_S1x1x512_1_0_0, mNew (tsc i arg3 arg4 arg7 X3 X4 X7 k 1) (tm arg9 f9 1) (tu arg6 X6 1)⟩,
     ⟨Rect.unit (s := S4x1x512) ![0, 0, 0] S1x1x512.size inb_S4x1x512_S1x1x512_0_0_0, mNew (tsc i arg3 arg4 arg7 X3 X4 X7 k 0) (tm arg9 f9 0) (tu arg6 X6 0)⟩],
    [⟨Rect.unit (s := S4x144x512) ![3, 0, 0] S1x144x512.size inb_S4x144x512_S1x144x512_3_0_0, aNew (tsc i arg3 arg4 arg7 X3 X4 X7 k 3) (tm arg9 f9 3) (tu arg6 X6 3) (tv i arg11 X11 k 3) (ta arg10 f10 3)⟩,
     ⟨Rect.unit (s := S4x144x512) ![2, 0, 0] S1x144x512.size inb_S4x144x512_S1x144x512_2_0_0, aNew (tsc i arg3 arg4 arg7 X3 X4 X7 k 2) (tm arg9 f9 2) (tu arg6 X6 2) (tv i arg11 X11 k 2) (ta arg10 f10 2)⟩,
     ⟨Rect.unit (s := S4x144x512) ![1, 0, 0] S1x144x512.size inb_S4x144x512_S1x144x512_1_0_0, aNew (tsc i arg3 arg4 arg7 X3 X4 X7 k 1) (tm arg9 f9 1) (tu arg6 X6 1) (tv i arg11 X11 k 1) (ta arg10 f10 1)⟩,
     ⟨Rect.unit (s := S4x144x512) ![0, 0, 0] S1x144x512.size inb_S4x144x512_S1x144x512_0_0_0, aNew (tsc i arg3 arg4 arg7 X3 X4 X7 k 0) (tm arg9 f9 0) (tu arg6 X6 0) (tv i arg11 X11 k 0) (ta arg10 f10 0)⟩]) := by
  unfold tripL_k0_t1 trip_k0_t1
  dsimp only
  rfl

theorem tsc_apply (h : Fin 4) (r a : Fin 512) :
    tsc i arg3 arg4 arg7 X3 X4 X7 k h (ix2 a r) = scf (arg4.view.read (Elt Ideal) X4) (arg3.view.read (Elt Ideal) X3) (arg7.view.read (Elt Ideal) X7) h ⟨k.val, trip_lt i k⟩ r a := by
  fin_cases h
  · exact ld_score arg3 arg4 arg7 X3 X4 X7 _ _ _ 0 ⟨k.val, trip_lt i k⟩ (k0_off1_eq i k) rfl (k0_off5_eq i k) _ _ _ r a
  · exact ld_score arg3 arg4 arg7 X3 X4 X7 _ _ _ 1 ⟨k.val, trip_lt i k⟩ (k0_off2_eq i k) rfl (k0_off6_eq i k) _ _ _ r a
  · exact ld_score arg3 arg4 arg7 X3 X4 X7 _ _ _ 2 ⟨k.val, trip_lt i k⟩ (k0_off3_eq i k) rfl (k0_off7_eq i k) _ _ _ r a
  · exact ld_score arg3 arg4 arg7 X3 X4 X7 _ _ _ 3 ⟨k.val, trip_lt i k⟩ (k0_off4_eq i k) rfl (k0_off8_eq i k) _ _ _ r a

theorem tu_apply (h : Fin 4) (r : Fin 512) : tu arg6 X6 h (ix4 0 0 0 r) = arg6.view.read (Elt Ideal) X6 (ix4 0 h 0 r) := by
  fin_cases h
  · exact ld_u arg6 _ 0 rfl _ X6 r
  · exact ld_u arg6 _ 1 rfl _ X6 r
  · exact ld_u arg6 _ 2 rfl _ X6 r
  · exact ld_u arg6 _ 3 rfl _ X6 r

theorem tm_apply (h : Fin 4) (r : Fin 512) : tm arg9 f9 h (ix3 0 0 r) = arg9.view.read (Elt Ideal) f9 (ix3 h 0 r) := by
  fin_cases h
  · exact ld_m arg9 _ 0 rfl _ f9 r
  · exact ld_m arg9 _ 1 rfl _ f9 r
  · exact ld_m arg9 _ 2 rfl _ f9 r
  · exact ld_m arg9 _ 3 rfl _ f9 r

theorem ta_apply (h : Fin 4) (d : Fin 144) (r : Fin 512) : ta arg10 f10 h (ix3 0 d r) = arg10.view.read (Elt Ideal) f10 (ix3 h d r) := by
  fin_cases h
  · exact ld_a arg10 _ 0 rfl _ f10 d r
  · exact ld_a arg10 _ 1 rfl _ f10 d r
  · exact ld_a arg10 _ 2 rfl _ f10 d r
  · exact ld_a arg10 _ 3 rfl _ f10 d r

theorem tv_apply (h : Fin 4) (d : Fin 144) (r : Fin 512) :
    tv i arg11 X11 k h (ix4 0 0 d r) = arg11.view.read (Elt Ideal) X11 (ix4 h ⟨k.val, trip_lt i k⟩ d r) := by
  fin_cases h
  · exact ld_v arg11 _ 0 ⟨k.val, trip_lt i k⟩ (k0_off9_eq i k) _ X11 d r
  · exact ld_v arg11 _ 1 ⟨k.val, trip_lt i k⟩ (k0_off10_eq i k) _ X11 d r
  · exact ld_v arg11 _ 2 ⟨k.val, trip_lt i k⟩ (k0_off11_eq i k) _ X11 d r
  · exact ld_v arg11 _ 3 ⟨k.val, trip_lt i k⟩ (k0_off12_eq i k) _ X11 d r

/-- The maxima after a trip. -/
theorem trip_read_m (h : Fin 4) (r : Fin 512) :
    arg9.view.read (Elt Ideal) (arg9.view.writes (Elt Ideal) f9 (tripL_k0_t1 (F := Ideal) 𝒱 c bd i arg3 harg3 arg4 harg4 arg5 harg5 arg6 harg6 arg7 harg7 arg8 harg8 arg9 harg9 arg10 harg10 arg11 harg11 X3 X4 X6 X7 X11 k f9 f10).1) (ix3 h 0 r)
      = mxb (arg6.view.read (Elt Ideal) X6 (ix4 0 h 0 r)) (arg9.view.read (Elt Ideal) f9 (ix3 h 0 r)) (scf (arg4.view.read (Elt Ideal) X4) (arg3.view.read (Elt Ideal) X3) (arg7.view.read (Elt Ideal) X7) h ⟨k.val, trip_lt i k⟩ r) := by
  rw [trip_list]
  refine (read_m arg9.view f9 _ _ _ _ (fun h => mNew (tsc i arg3 arg4 arg7 X3 X4 X7 k h) (tm arg9 f9 h) (tu arg6 X6 h)) h r []).trans ?_
  rw [mNew_apply, tm_apply, tu_apply]
  simp only [tsc_apply]

/-- The sums after a trip. -/
theorem trip_read_a (h : Fin 4) (d : Fin 144) (r : Fin 512) :
    arg10.view.read (Elt Ideal) (arg10.view.writes (Elt Ideal) f10 (tripL_k0_t1 (F := Ideal) 𝒱 c bd i arg3 harg3 arg4 harg4 arg5 harg5 arg6 harg6 arg7 harg7 arg8 harg8 arg9 harg9 arg10 harg10 arg11 harg11 X3 X4 X6 X7 X11 k f9 f10).2) (ix3 h d r)
      = acb (arg6.view.read (Elt Ideal) X6 (ix4 0 h 0 r)) (arg9.view.read (Elt Ideal) f9 (ix3 h 0 r)) (arg10.view.read (Elt Ideal) f10 (ix3 h d r))
          (scf (arg4.view.read (Elt Ideal) X4) (arg3.view.read (Elt Ideal) X3) (arg7.view.read (Elt Ideal) X7) h ⟨k.val, trip_lt i k⟩ r)
          (fun x => arg11.view.read (Elt Ideal) X11 (ix4 h ⟨k.val, trip_lt i k⟩ d x)) := by
  rw [trip_list]
  refine (read_a arg10.view f10 _ _ _ _ (fun h => aNew (tsc i arg3 arg4 arg7 X3 X4 X7 k h) (tm arg9 f9 h) (tu arg6 X6 h) (tv i arg11 X11 k h) (ta arg10 f10 h)) h d r []).trans ?_
  rw [aNew_apply, tm_apply, ta_apply, tu_apply]
  simp only [tsc_apply, tv_apply]

end
end Cert.FoxIdeal.Step
-- ==== Proof.FoxLoop.lean ====
module
public import proofs.«01_k».proof.Proof.FoxTrip
@[expose] public section
set_option maxRecDepth 16384
noncomputable section
namespace Cert.FoxIdeal.Step
open Cert.FoxIdeal Cert.FoxIdeal.Gen Idealize.ShloMosaic Idealize.ShloMosaic.TcCoe Idealize.SL.Sem Idealize.ShloMosaic.Tactic

/-! # The loop, the diagonal block and the output block of one grid point -/

/-- The maximum of head `h`, query row `r` after the first `n` key blocks. -/
def stM (K : Vec Ideal S4096x512 .bf16) (Q : Vec Ideal S512x512 .bf16) (G : Vec Ideal S1x4096x128 .f32) (U : Vec Ideal S1x4x1x512 .f32) (h : Fin 4) (r : Fin 512) : ℕ → EReal
  | 0 => ⊥
  | n + 1 => if hn : n < 8 then mxb (U (ix4 0 h 0 r)) (stM K Q G U h r n) (scf K Q G h ⟨n, hn⟩ r) else stM K Q G U h r n

/-- Sum `d` of head `h`, query row `r` after the first `n` key blocks. -/
def stA (K : Vec Ideal S4096x512 .bf16) (Q : Vec Ideal S512x512 .bf16) (G : Vec Ideal S1x4096x128 .f32) (U : Vec Ideal S1x4x1x512 .f32) (VT : Vec Ideal S4x8x144x512 .bf16) (h : Fin 4) (d : Fin 144)
    (r : Fin 512) : ℕ → EReal
  | 0 => 0
  | n + 1 => if hn : n < 8 then acb (U (ix4 0 h 0 r)) (stM K Q G U h r n) (stA K Q G U VT h d r n) (scf K Q G h ⟨n, hn⟩ r) (fun x => VT (ix4 h ⟨n, hn⟩ d x))
      else stA K Q G U VT h d r n

/-- The masked score of the diagonal block: key at most the query, else minus infinity. -/
def scm (K : Vec Ideal S4096x512 .bf16) (Q : Vec Ideal S512x512 .bf16) (G : Vec Ideal S1x4096x128 .f32) (h : Fin 4) (j : Fin 8) (r a : Fin 512) : EReal :=
  if a.val ≤ r.val then scf K Q G h j r a else ⊥

/-- Sum `d` after the diagonal block `n`. -/
def fin (K : Vec Ideal S4096x512 .bf16) (Q : Vec Ideal S512x512 .bf16) (G : Vec Ideal S1x4096x128 .f32) (U : Vec Ideal S1x4x1x512 .f32) (VT : Vec Ideal S4x8x144x512 .bf16) (h : Fin 4) (n : Fin 8) (r : Fin 512)
    (d : Fin 144) : EReal :=
  acb (U (ix4 0 h 0 r)) (stM K Q G U h r n.val) (stA K Q G U VT h d r n.val) (scm K Q G h n r) (fun x => VT (ix4 h n d x))

theorem mask_word : Named.named (F := Ideal) (φ := .f32) κ "mask" 0xF149F2CA#32 = (⊥ : EReal) :=
  IdealRules.named_const.ideal_named_scalar _ _ _ _ rfl

theorem init_m (y : S4x1x512.Idx) : k0_pay150 (F := Ideal) y = ⊥ := by
  idx_vars y
  unfold k0_pay150
  pointwise
  exact mask_word

theorem init_a (y : S4x144x512.Idx) : k0_pay151 (F := Ideal) y = 0 := by
  idx_vars y
  unfold k0_pay151
  pointwise

theorem sle_apply (p q : Fin 512) : IntOp.cmpi CmpIPredicate.sle (BitVec.ofNat 32 p.val) (BitVec.ofNat 32 q.val) = if p.val ≤ q.val then 1#1 else 0#1 := by
  have hp := p.isLt
  have hq := q.isLt
  have ep : (BitVec.ofNat 32 p.val).toInt = (p.val : ℤ) := by rw [BitVec.toInt_eq_toNat_cond, BitVec.toNat_ofNat, Nat.mod_eq_of_lt (by omega), if_pos (by omega)]
  have eq : (BitVec.ofNat 32 q.val).toInt = (q.val : ℤ) := by rw [BitVec.toInt_eq_toNat_cond, BitVec.toNat_ofNat, Nat.mod_eq_of_lt (by omega), if_pos (by omega)]
  unfold IntOp.cmpi
  simp only [BitVec.sle, ep, eq]
  by_cases h : p.val ≤ q.val <;> simp [h]

/-- The causal mask of the diagonal block: key `a` is kept for query `r` when it comes no later. -/
theorem keep_apply (a r : Fin 512) : k0_pay159 (ix2 a r) = if a.val ≤ r.val then 1#1 else 0#1 := by
  unfold k0_pay159
  pointwise
  exact sle_apply a r

/-- A head's masked scores of the diagonal block. -/
abbrev sMask (kb qb : Vec Ideal S512x128 .bf16) (ck : Vec Ideal S1x512x1 .f32) : FVec Ideal S512x512 .f32 :=
  k0_pay160 (F := Ideal) (k0_pay154 kb qb) ck

theorem masked_apply (kb qb : Vec Ideal S512x128 .bf16) (ck : Vec Ideal S1x512x1 .f32) (a r : Fin 512) :
    sMask kb qb ck (ix2 a r) = if a.val ≤ r.val then sNew kb qb ck (ix2 a r) else ⊥ := by
  rw [score_apply]
  unfold sMask k0_pay160 k0_pay154
  pointwise
  rw [keep_apply, mask_word]
  split <;> rfl

section
variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x1x512 .f32) (harg6 : arg6.IsWhole) (arg7 : Memref sig .tc .vmem S1x4096x128 .f32) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x144x512 .f32) (harg10 : arg10.IsWhole) (arg11 : Memref sig .tc .vmem S4x8x144x512 .bf16) (harg11 : arg11.IsWhole)
  (X3 : BufTy.Contents (Elt Ideal) arg3.view.ty) (X4 : BufTy.Contents (Elt Ideal) arg4.view.ty) (X6 : BufTy.Contents (Elt Ideal) arg6.view.ty) (X7 : BufTy.Contents (Elt Ideal) arg7.view.ty) (X11 : BufTy.Contents (Elt Ideal) arg11.view.ty)
  (v15 : BitVec 32)

/-- The whole-buffer stores of the first maxima and sums. -/
abbrev I7 : List (View.Piece (Elt Ideal) S4x1x512 .f32) := [⟨Rect.unit (s := S4x1x512) ![0, 0, 0] S4x1x512.size inb_S4x1x512_S4x1x512_0_0_0, k0_pay150 (F := Ideal)⟩]
abbrev I8 : List (View.Piece (Elt Ideal) S4x144x512 .f32) := [⟨Rect.unit (s := S4x144x512) ![0, 0, 0] S4x144x512.size inb_S4x144x512_S4x144x512_0_0_0, k0_pay151 (F := Ideal)⟩]

/-- The stores of the first `n` trips. -/
def pb (n : ℕ) := pb_k0_t1 (F := Ideal) Variants.none c none i arg3 harg3 arg4 harg4 arg5 harg5 arg6 harg6 arg7 harg7 arg8 harg8 arg9 harg9 arg10 harg10 arg11 harg11 X3 X4 X6 X7 X11
  (arg9.view.writes (Elt Ideal) arg9.view.junk I7) (arg10.view.writes (Elt Ideal) arg10.view.junk I8) n

theorem read_i7 (y : S4x1x512.Idx) : arg9.view.read (Elt Ideal) (arg9.view.writes (Elt Ideal) arg9.view.junk I7) y = ⊥ := by
  refine (View.read_writes_cons_unit_of_mem _ _ _ _ _ y y rfl fun a => by match a with
    | ⟨0, _⟩ => exact (Nat.zero_add _).symm
    | ⟨1, _⟩ => exact (Nat.zero_add _).symm
    | ⟨2, _⟩ => exact (Nat.zero_add _).symm).trans ?_
  exact init_m y

theorem read_i8 (y : S4x144x512.Idx) : arg10.view.read (Elt Ideal) (arg10.view.writes (Elt Ideal) arg10.view.junk I8) y = 0 := by
  refine (View.read_writes_cons_unit_of_mem _ _ _ _ _ y y rfl fun a => by match a with
    | ⟨0, _⟩ => exact (Nat.zero_add _).symm
    | ⟨1, _⟩ => exact (Nat.zero_add _).symm
    | ⟨2, _⟩ => exact (Nat.zero_add _).symm).trans ?_
  exact init_a y

/-- The maxima and sums after `n` trips. -/
theorem loop_read (n : ℕ) (hn : n ≤ (k0_t1_loop i).trips) :
    (∀ h r, arg9.view.read (Elt Ideal) (arg9.view.writes (Elt Ideal) arg9.view.junk ((pb c i arg3 harg3 arg4 harg4 arg5 harg5 arg6 harg6 arg7 harg7 arg8 harg8 arg9 harg9 arg10 harg10 arg11 harg11 X3 X4 X6 X7 X11 n).1 ++ I7)) (ix3 h 0 r)
      = stM (arg4.view.read (Elt Ideal) X4) (arg3.view.read (Elt Ideal) X3) (arg7.view.read (Elt Ideal) X7) (arg6.view.read (Elt Ideal) X6) h r n)
    ∧ (∀ h d r, arg10.view.read (Elt Ideal) (arg10.view.writes (Elt Ideal) arg10.view.junk ((pb c i arg3 harg3 arg4 harg4 arg5 harg5 arg6 harg6 arg7 harg7 arg8 harg8 arg9 harg9 arg10 harg10 arg11 harg11 X3 X4 X6 X7 X11 n).2 ++ I8)) (ix3 h d r)
      = stA (arg4.view.read (Elt Ideal) X4) (arg3.view.read (Elt Ideal) X3) (arg7.view.read (Elt Ideal) X7) (arg6.view.read (Elt Ideal) X6) (arg11.view.read (Elt Ideal) X11) h d r n) := by
  induction n with
  | zero =>
    refine ⟨fun h r => ?_, fun h d r => ?_⟩
    · exact read_i7 arg9 _
    · exact read_i8 arg10 _
  | succ n ih =>
    obtain ⟨ih7, ih8⟩ := ih (by omega)
    have h8 : n < 8 := trip_lt i ⟨n, hn⟩
    have e := pb_k0_t1_succ (F := Ideal) Variants.none c none i arg3 harg3 arg4 harg4 arg5 harg5 arg6 harg6 arg7 harg7 arg8 harg8 arg9 harg9 arg10 harg10 arg11 harg11 X3 X4 X6 X7 X11
      (arg9.view.writes (Elt Ideal) arg9.view.junk I7) (arg10.view.writes (Elt Ideal) arg10.view.junk I8) ⟨n, hn⟩
    dsimp only at e
    simp only [View.writes_append, pb] at ih7 ih8
    refine ⟨fun h r => ?_, fun h d r => ?_⟩
    · rw [pb, e]
      dsimp only
      rw [View.writes_append, View.writes_append]
      refine (trip_read_m Variants.none c none i arg3 harg3 arg4 harg4 arg5 harg5 arg6 harg6 arg7 harg7 arg8 harg8 arg9 harg9 arg10 harg10 arg11 harg11 X3 X4 X6 X7 X11 ⟨n, hn⟩ _ _ h r).trans ?_
      rw [ih7 h r]
      simp only [stM, dif_pos h8]
    · rw [pb, e]
      dsimp only
      rw [View.writes_append, View.writes_append]
      refine (trip_read_a Variants.none c none i arg3 harg3 arg4 harg4 arg5 harg5 arg6 harg6 arg7 harg7 arg8 harg8 arg9 harg9 arg10 harg10 arg11 harg11 X3 X4 X6 X7 X11 ⟨n, hn⟩ _ _ h d r).trans ?_
      rw [ih7 h r, ih8 h d r]
      simp only [stA, dif_pos h8]

/-- The loop over what remains of the key blocks below the diagonal makes no trip. -/
theorem rest_nil (G7) (G8) : pb_k0_t2 (F := Ideal) Variants.none c none i arg3 harg3 arg4 harg4 arg5 harg5 arg6 harg6 arg7 harg7 arg8 harg8 arg9 harg9 arg10 harg10 arg11 harg11 v15 X3 X4 X6 X7 X11 G7 G8 (Scf.trips (k0_t2_loop i).lb (k0_t2_loop i).ub (k0_t2_loop i).st) = ([], []) := by
  rw [show Scf.trips (k0_t2_loop i).lb (k0_t2_loop i).ub (k0_t2_loop i).st = 0 from trips2 i]
  rfl

/-- The stores into the maxima and the sums before the diagonal block. -/
def L7 := (pb c i arg3 harg3 arg4 harg4 arg5 harg5 arg6 harg6 arg7 harg7 arg8 harg8 arg9 harg9 arg10 harg10 arg11 harg11 X3 X4 X6 X7 X11 (Scf.trips (k0_t1_loop i).lb (k0_t1_loop i).ub (k0_t1_loop i).st)).1 ++ I7
def L8 := (pb c i arg3 harg3 arg4 harg4 arg5 harg5 arg6 harg6 arg7 harg7 arg8 harg8 arg9 harg9 arg10 harg10 arg11 harg11 X3 X4 X6 X7 X11 (Scf.trips (k0_t1_loop i).lb (k0_t1_loop i).ub (k0_t1_loop i).st)).2 ++ I8
def P7 := (pb_k0_t2 (F := Ideal) Variants.none c none i arg3 harg3 arg4 harg4 arg5 harg5 arg6 harg6 arg7 harg7 arg8 harg8 arg9 harg9 arg10 harg10 arg11 harg11 v15 X3 X4 X6 X7 X11 (arg9.view.writes (Elt Ideal) arg9.view.junk (L7 c i arg3 harg3 arg4 harg4 arg5 harg5 arg6 harg6 arg7 harg7 arg8 harg8 arg9 harg9 arg10 harg10 arg11 harg11 X3 X4 X6 X7 X11))
  (arg10.view.writes (Elt Ideal) arg10.view.junk (L8 c i arg3 harg3 arg4 harg4 arg5 harg5 arg6 harg6 arg7 harg7 arg8 harg8 arg9 harg9 arg10 harg10 arg11 harg11 X3 X4 X6 X7 X11)) (Scf.trips (k0_t2_loop i).lb (k0_t2_loop i).ub (k0_t2_loop i).st)).1 ++ L7 c i arg3 harg3 arg4 harg4 arg5 harg5 arg6 harg6 arg7 harg7 arg8 harg8 arg9 harg9 arg10 harg10 arg11 harg11 X3 X4 X6 X7 X11
def P8 := (pb_k0_t2 (F := Ideal) Variants.none c none i arg3 harg3 arg4 harg4 arg5 harg5 arg6 harg6 arg7 harg7 arg8 harg8 arg9 harg9 arg10 harg10 arg11 harg11 v15 X3 X4 X6 X7 X11 (arg9.view.writes (Elt Ideal) arg9.view.junk (L7 c i arg3 harg3 arg4 harg4 arg5 harg5 arg6 harg6 arg7 harg7 arg8 harg8 arg9 harg9 arg10 harg10 arg11 harg11 X3 X4 X6 X7 X11))
  (arg10.view.writes (Elt Ideal) arg10.view.junk (L8 c i arg3 harg3 arg4 harg4 arg5 harg5 arg6 harg6 arg7 harg7 arg8 harg8 arg9 harg9 arg10 harg10 arg11 harg11 X3 X4 X6 X7 X11)) (Scf.trips (k0_t2_loop i).lb (k0_t2_loop i).ub (k0_t2_loop i).st)).2 ++ L8 c i arg3 harg3 arg4 harg4 arg5 harg5 arg6 harg6 arg7 harg7 arg8 harg8 arg9 harg9 arg10 harg10 arg11 harg11 X3 X4 X6 X7 X11

theorem P7_read (h : Fin 4) (r : Fin 512) :
    arg9.view.read (Elt Ideal) (arg9.view.writes (Elt Ideal) arg9.view.junk (P7 c i arg3 harg3 arg4 harg4 arg5 harg5 arg6 harg6 arg7 harg7 arg8 harg8 arg9 harg9 arg10 harg10 arg11 harg11 X3 X4 X6 X7 X11 v15)) (ix3 h 0 r)
      = stM (arg4.view.read (Elt Ideal) X4) (arg3.view.read (Elt Ideal) X3) (arg7.view.read (Elt Ideal) X7) (arg6.view.read (Elt Ideal) X6) h r (i 2).val := by
  unfold P7
  rw [rest_nil, List.nil_append, L7, show Scf.trips (k0_t1_loop i).lb (k0_t1_loop i).ub (k0_t1_loop i).st = (i 2).val from trips1 i]
  exact (loop_read c i arg3 harg3 arg4 harg4 arg5 harg5 arg6 harg6 arg7 harg7 arg8 harg8 arg9 harg9 arg10 harg10 arg11 harg11 X3 X4 X6 X7 X11 (i 2).val (le_of_eq (trips1 i).symm)).1 h r

theorem P8_read (h : Fin 4) (d : Fin 144) (r : Fin 512) :
    arg10.view.read (Elt Ideal) (arg10.view.writes (Elt Ideal) arg10.view.junk (P8 c i arg3 harg3 arg4 harg4 arg5 harg5 arg6 harg6 arg7 harg7 arg8 harg8 arg9 harg9 arg10 harg10 arg11 harg11 X3 X4 X6 X7 X11 v15)) (ix3 h d r)
      = stA (arg4.view.read (Elt Ideal) X4) (arg3.view.read (Elt Ideal) X3) (arg7.view.read (Elt Ideal) X7) (arg6.view.read (Elt Ideal) X6) (arg11.view.read (Elt Ideal) X11) h d r (i 2).val := by
  unfold P8
  rw [rest_nil, List.nil_append, L8, show Scf.trips (k0_t1_loop i).lb (k0_t1_loop i).ub (k0_t1_loop i).st = (i 2).val from trips1 i]
  exact (loop_read c i arg3 harg3 arg4 harg4 arg5 harg5 arg6 harg6 arg7 harg7 arg8 harg8 arg9 harg9 arg10 harg10 arg11 harg11 X3 X4 X6 X7 X11 (i 2).val (le_of_eq (trips1 i).symm)).2 h d r

end
end Cert.FoxIdeal.Step
-- ==== Proof.FoxBlock.lean ====
module
public import proofs.«01_k».proof.Proof.FoxLoop
@[expose] public section
set_option maxRecDepth 16384
noncomputable section
namespace Cert.FoxIdeal.Step
open Cert.FoxIdeal Cert.FoxIdeal.Gen Idealize.ShloMosaic Idealize.ShloMosaic.TcCoe Idealize.SL.Sem Idealize.ShloMosaic.Tactic

/-! # The diagonal block and the output block of one grid point -/

section
variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x1x512 .f32) (harg6 : arg6.IsWhole) (arg7 : Memref sig .tc .vmem S1x4096x128 .f32) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x144x512 .f32) (harg10 : arg10.IsWhole) (arg11 : Memref sig .tc .vmem S4x8x144x512 .bf16) (harg11 : arg11.IsWhole)
  (X3 : BufTy.Contents (Elt Ideal) arg3.view.ty) (X4 : BufTy.Contents (Elt Ideal) arg4.view.ty) (X6 : BufTy.Contents (Elt Ideal) arg6.view.ty) (X7 : BufTy.Contents (Elt Ideal) arg7.view.ty) (X11 : BufTy.Contents (Elt Ideal) arg11.view.ty)
  (v15 : BitVec 32)

/-- The diagonal block's masked scores of head `h`. -/
def dsc : Fin 4 → FVec Ideal S512x512 .f32 := ![
  sMask (View.readAt (Elt Ideal) arg4.view (Rect.unit (s := S4096x512) (k0_off25 i) S512x128.size (k0_off25_inb i)).toLoadRect X4) (View.readAt (Elt Ideal) arg3.view (Rect.unit (s := S512x512) ![0, 0] S512x128.size inb_S512x512_S512x128_0_0).toLoadRect X3)
    (View.readAt (Elt Ideal) arg7.view (Rect.unit (s := S1x4096x128) (k0_off29 i) S1x512x1.size (k0_off29_inb i)).toLoadRect X7),
  sMask (View.readAt (Elt Ideal) arg4.view (Rect.unit (s := S4096x512) (k0_off26 i) S512x128.size (k0_off26_inb i)).toLoadRect X4) (View.readAt (Elt Ideal) arg3.view (Rect.unit (s := S512x512) ![0, 128] S512x128.size inb_S512x512_S512x128_0_128).toLoadRect X3)
    (View.readAt (Elt Ideal) arg7.view (Rect.unit (s := S1x4096x128) (k0_off30 i) S1x512x1.size (k0_off30_inb i)).toLoadRect X7),
  sMask (View.readAt (Elt Ideal) arg4.view (Rect.unit (s := S4096x512) (k0_off27 i) S512x128.size (k0_off27_inb i)).toLoadRect X4) (View.readAt (Elt Ideal) arg3.view (Rect.unit (s := S512x512) ![0, 256] S512x128.size inb_S512x512_S512x128_0_256).toLoadRect X3)
    (View.readAt (Elt Ideal) arg7.view (Rect.unit (s := S1x4096x128) (k0_off31 i) S1x512x1.size (k0_off31_inb i)).toLoadRect X7),
  sMask (View.readAt (Elt Ideal) arg4.view (Rect.unit (s := S4096x512) (k0_off28 i) S512x128.size (k0_off28_inb i)).toLoadRect X4) (View.readAt (Elt Ideal) arg3.view (Rect.unit (s := S512x512) ![0, 384] S512x128.size inb_S512x512_S512x128_0_384).toLoadRect X3)
    (View.readAt (Elt Ideal) arg7.view (Rect.unit (s := S1x4096x128) (k0_off32 i) S1x512x1.size (k0_off32_inb i)).toLoadRect X7)]

/-- The diagonal block's transposed values of head `h`. -/
def dv : Fin 4 → Vec Ideal S1x1x144x512 .bf16 := ![
  View.readAt (Elt Ideal) arg11.view (Rect.unit (s := S4x8x144x512) (k0_off33 i) S1x1x144x512.size (k0_off33_inb i)).toLoadRect X11,
  View.readAt (Elt Ideal) arg11.view (Rect.unit (s := S4x8x144x512) (k0_off34 i) S1x1x144x512.size (k0_off34_inb i)).toLoadRect X11,
  View.readAt (Elt Ideal) arg11.view (Rect.unit (s := S4x8x144x512) (k0_off35 i) S1x1x144x512.size (k0_off35_inb i)).toLoadRect X11,
  View.readAt (Elt Ideal) arg11.view (Rect.unit (s := S4x8x144x512) (k0_off36 i) S1x1x144x512.size (k0_off36_inb i)).toLoadRect X11]

theorem dsc_apply (h : Fin 4) (r a : Fin 512) :
    dsc i arg3 arg4 arg7 X3 X4 X7 h (ix2 a r) = scm (arg4.view.read (Elt Ideal) X4) (arg3.view.read (Elt Ideal) X3) (arg7.view.read (Elt Ideal) X7) h (i 2) r a := by
  unfold scm
  fin_cases h
  · exact (masked_apply _ _ _ a r).trans (congrArg (fun z : EReal => if a.val ≤ r.val then z else ⊥) (ld_score arg3 arg4 arg7 X3 X4 X7 _ _ _ 0 (i 2) (k0_off25_eq i) rfl (k0_off29_eq i) _ _ _ r a))
  · exact (masked_apply _ _ _ a r).trans (congrArg (fun z : EReal => if a.val ≤ r.val then z else ⊥) (ld_score arg3 arg4 arg7 X3 X4 X7 _ _ _ 1 (i 2) (k0_off26_eq i) rfl (k0_off30_eq i) _ _ _ r a))
  · exact (masked_apply _ _ _ a r).trans (congrArg (fun z : EReal => if a.val ≤ r.val then z else ⊥) (ld_score arg3 arg4 arg7 X3 X4 X7 _ _ _ 2 (i 2) (k0_off27_eq i) rfl (k0_off31_eq i) _ _ _ r a))
  · exact (masked_apply _ _ _ a r).trans (congrArg (fun z : EReal => if a.val ≤ r.val then z else ⊥) (ld_score arg3 arg4 arg7 X3 X4 X7 _ _ _ 3 (i 2) (k0_off28_eq i) rfl (k0_off32_eq i) _ _ _ r a))

theorem dv_apply (h : Fin 4) (d : Fin 144) (r : Fin 512) :
    dv i arg11 X11 h (ix4 0 0 d r) = arg11.view.read (Elt Ideal) X11 (ix4 h (i 2) d r) := by
  fin_cases h
  · exact ld_v arg11 _ 0 (i 2) (k0_off33_eq i) _ X11 d r
  · exact ld_v arg11 _ 1 (i 2) (k0_off34_eq i) _ X11 d r
  · exact ld_v arg11 _ 2 (i 2) (k0_off35_eq i) _ X11 d r
  · exact ld_v arg11 _ 3 (i 2) (k0_off36_eq i) _ X11 d r

/-- The new sums of head `h` after the diagonal block, over any contents of the two buffers. -/
def dacc (f9 : BufTy.Contents (Elt Ideal) arg9.view.ty) (f10 : BufTy.Contents (Elt Ideal) arg10.view.ty) (h : Fin 4) : FVec Ideal S1x144x512 .f32 :=
  aNew (dsc i arg3 arg4 arg7 X3 X4 X7 h) (tm arg9 f9 h) (tu arg6 X6 h) (dv i arg11 X11 h) (ta arg10 f10 h)

theorem dacc_apply (f9 : BufTy.Contents (Elt Ideal) arg9.view.ty) (f10 : BufTy.Contents (Elt Ideal) arg10.view.ty) (h : Fin 4) (d : Fin 144) (r : Fin 512) :
    dacc i arg3 arg4 arg6 arg7 arg9 arg10 arg11 X3 X4 X6 X7 X11 f9 f10 h (ix3 0 d r)
      = acb (arg6.view.read (Elt Ideal) X6 (ix4 0 h 0 r)) (arg9.view.read (Elt Ideal) f9 (ix3 h 0 r)) (arg10.view.read (Elt Ideal) f10 (ix3 h d r))
          (scm (arg4.view.read (Elt Ideal) X4) (arg3.view.read (Elt Ideal) X3) (arg7.view.read (Elt Ideal) X7) h (i 2) r) (fun x => arg11.view.read (Elt Ideal) X11 (ix4 h (i 2) d x)) := by
  unfold dacc
  rw [aNew_apply, tm_apply, ta_apply, tu_apply]
  exact congrArg₂ (acb _ _ _) (funext fun a => dsc_apply i arg3 arg4 arg7 X3 X4 X7 h r a) (funext fun x => dv_apply i arg11 X11 h d x)

/-- Four new head sums, in front of any stores. -/
abbrev D8 (p : Fin 4 → FVec Ideal S1x144x512 .f32) (L : List (View.Piece (Elt Ideal) S4x144x512 .f32)) : List (View.Piece (Elt Ideal) S4x144x512 .f32) :=
  ⟨Rect.unit (s := S4x144x512) ![3, 0, 0] S1x144x512.size inb_S4x144x512_S1x144x512_3_0_0, p 3⟩ ::
  ⟨Rect.unit (s := S4x144x512) ![2, 0, 0] S1x144x512.size inb_S4x144x512_S1x144x512_2_0_0, p 2⟩ ::
  ⟨Rect.unit (s := S4x144x512) ![1, 0, 0] S1x144x512.size inb_S4x144x512_S1x144x512_1_0_0, p 1⟩ ::
  ⟨Rect.unit (s := S4x144x512) ![0, 0, 0] S1x144x512.size inb_S4x144x512_S1x144x512_0_0_0, p 0⟩ :: L

/-- The output block of head `h` from the head sums. -/
def ob (p : Fin 4 → FVec Ideal S1x144x512 .f32) (L : List (View.Piece (Elt Ideal) S4x144x512 .f32)) (h : Fin 4) : FVec Ideal S512x128 .bf16 :=
  k0_pay197 (ta arg10 (arg10.view.writes (Elt Ideal) arg10.view.junk (D8 p L)) h)

theorem ob_apply (p : Fin 4 → FVec Ideal S1x144x512 .f32) (L : List (View.Piece (Elt Ideal) S4x144x512 .f32)) (h : Fin 4) (r : Fin 512) (d : Fin 128) :
    ob arg10 p L h (ix2 r d) = Ideal.div (p h (ix3 0 (Fin.castLE (by omega) d) r)) (p h (ix3 0 128 r)) := by
  have key : ∀ d : Fin 144, ta arg10 (arg10.view.writes (Elt Ideal) arg10.view.junk (D8 p L)) h (ix3 0 d r) = p h (ix3 0 d r) := fun d => by
    rw [ta_apply]
    exact read_a (Val := Elt Ideal) arg10.view arg10.view.junk inb_S4x144x512_S1x144x512_0_0_0 inb_S4x144x512_S1x144x512_1_0_0 inb_S4x144x512_S1x144x512_2_0_0 inb_S4x144x512_S1x144x512_3_0_0 p h d r L
  unfold ob
  rw [out_apply, key, key]

theorem head_idx (y : S1x144x512.Idx) : ∃ (d : Fin 144) (r : Fin 512), y = ix3 0 d r := by
  idx_vars y
  exact ⟨y1, y2, by rw [Subsingleton.elim y0 0]⟩

/-- A store at an earlier head does not change what head `h` loads. -/
theorem ta_skip (off : Fin 3 → ℕ) (inb) (w : FVec Ideal S1x144x512 .f32) (L : List (View.Piece (Elt Ideal) S4x144x512 .f32)) (h : Fin 4) (q : ℕ)
    (he : off = ![q, 0, 0]) (hq : q < h.val) :
    ta arg10 (arg10.view.writes (Elt Ideal) arg10.view.junk (⟨Rect.unit (s := S4x144x512) off S1x144x512.size inb, w⟩ :: L)) h
      = ta arg10 (arg10.view.writes (Elt Ideal) arg10.view.junk L) h := by
  funext y
  obtain ⟨d, r, rfl⟩ := head_idx y
  refine (ta_apply arg10 _ h d r).trans (Eq.trans ?_ (ta_apply arg10 _ h d r).symm)
  exact View.read_writes_cons_unit_of_not_mem (Val := Elt Ideal) arg10.view arg10.view.junk inb w L (ix3 h d r) he (0 : Fin 3) (.inr hq)

section
variable (s : Fin 4 → FVec Ideal S512x512 .f32) (m : Fin 4 → Vec Ideal S1x1x512 .f32) (u : Fin 4 → Vec Ideal S1x1x1x512 .f32) (v : Fin 4 → Vec Ideal S1x1x144x512 .bf16) (L : List (View.Piece (Elt Ideal) S4x144x512 .f32))
/-- The stores after one, two, three and four heads: each head loads through the stores before it. -/
def K0 : List (View.Piece (Elt Ideal) S4x144x512 .f32) :=
  ⟨Rect.unit (s := S4x144x512) ![0, 0, 0] S1x144x512.size inb_S4x144x512_S1x144x512_0_0_0, aNew (s 0) (m 0) (u 0) (v 0) (ta arg10 (arg10.view.writes (Elt Ideal) arg10.view.junk L) 0)⟩ :: L
def K1 : List (View.Piece (Elt Ideal) S4x144x512 .f32) :=
  ⟨Rect.unit (s := S4x144x512) ![1, 0, 0] S1x144x512.size inb_S4x144x512_S1x144x512_1_0_0, aNew (s 1) (m 1) (u 1) (v 1) (ta arg10 (arg10.view.writes (Elt Ideal) arg10.view.junk (K0 arg10 s m u v L)) 1)⟩ :: K0 arg10 s m u v L
def K2 : List (View.Piece (Elt Ideal) S4x144x512 .f32) :=
  ⟨Rect.unit (s := S4x144x512) ![2, 0, 0] S1x144x512.size inb_S4x144x512_S1x144x512_2_0_0, aNew (s 2) (m 2) (u 2) (v 2) (ta arg10 (arg10.view.writes (Elt Ideal) arg10.view.junk (K1 arg10 s m u v L)) 2)⟩ :: K1 arg10 s m u v L
def K3 : List (View.Piece (Elt Ideal) S4x144x512 .f32) :=
  ⟨Rect.unit (s := S4x144x512) ![3, 0, 0] S1x144x512.size inb_S4x144x512_S1x144x512_3_0_0, aNew (s 3) (m 3) (u 3) (v 3) (ta arg10 (arg10.view.writes (Elt Ideal) arg10.view.junk (K2 arg10 s m u v L)) 3)⟩ :: K2 arg10 s m u v L

theorem K3_eq : K3 arg10 s m u v L = D8 (fun h => aNew (s h) (m h) (u h) (v h) (ta arg10 (arg10.view.writes (Elt Ideal) arg10.view.junk L) h)) L := by
  have e1 : ta arg10 (arg10.view.writes (Elt Ideal) arg10.view.junk (K0 arg10 s m u v L)) 1 = ta arg10 (arg10.view.writes (Elt Ideal) arg10.view.junk L) 1 :=
    ta_skip arg10 _ _ _ L 1 0 rfl (by decide)
  have e2 : ta arg10 (arg10.view.writes (Elt Ideal) arg10.view.junk (K1 arg10 s m u v L)) 2 = ta arg10 (arg10.view.writes (Elt Ideal) arg10.view.junk L) 2 :=
    (ta_skip arg10 _ _ _ (K0 arg10 s m u v L) 2 1 rfl (by decide)).trans (ta_skip arg10 _ _ _ L 2 0 rfl (by decide))
  have e3 : ta arg10 (arg10.view.writes (Elt Ideal) arg10.view.junk (K2 arg10 s m u v L)) 3 = ta arg10 (arg10.view.writes (Elt Ideal) arg10.view.junk L) 3 :=
    ((ta_skip arg10 _ _ _ (K1 arg10 s m u v L) 3 2 rfl (by decide)).trans (ta_skip arg10 _ _ _ (K0 arg10 s m u v L) 3 1 rfl (by decide))).trans (ta_skip arg10 _ _ _ L 3 0 rfl (by decide))
  unfold K3
  rw [e3]
  unfold K2
  rw [e2]
  unfold K1
  rw [e1]
  rfl
end

/-- The stores into the sums up to the diagonal block's own. -/
def KK : List (View.Piece (Elt Ideal) S4x144x512 .f32) :=
  K3 arg10 (dsc i arg3 arg4 arg7 X3 X4 X7) (tm arg9 (arg9.view.writes (Elt Ideal) arg9.view.junk (P7 c i arg3 harg3 arg4 harg4 arg5 harg5 arg6 harg6 arg7 harg7 arg8 harg8 arg9 harg9 arg10 harg10 arg11 harg11 X3 X4 X6 X7 X11 v15))) (tu arg6 X6) (dv i arg11 X11) (P8 c i arg3 harg3 arg4 harg4 arg5 harg5 arg6 harg6 arg7 harg7 arg8 harg8 arg9 harg9 arg10 harg10 arg11 harg11 X3 X4 X6 X7 X11 v15)

/-- The output block of head `h`. -/
def oblk (h : Fin 4) : FVec Ideal S512x128 .bf16 :=
  k0_pay197 (ta arg10 (arg10.view.writes (Elt Ideal) arg10.view.junk (KK c i arg3 harg3 arg4 harg4 arg5 harg5 arg6 harg6 arg7 harg7 arg8 harg8 arg9 harg9 arg10 harg10 arg11 harg11 X3 X4 X6 X7 X11 v15)) h)

theorem oblk_apply (h : Fin 4) (r : Fin 512) (d : Fin 128) :
    oblk c i arg3 harg3 arg4 harg4 arg5 harg5 arg6 harg6 arg7 harg7 arg8 harg8 arg9 harg9 arg10 harg10 arg11 harg11 X3 X4 X6 X7 X11 v15 h (ix2 r d)
      = Ideal.div (fin (arg4.view.read (Elt Ideal) X4) (arg3.view.read (Elt Ideal) X3) (arg7.view.read (Elt Ideal) X7) (arg6.view.read (Elt Ideal) X6) (arg11.view.read (Elt Ideal) X11) h (i 2) r (Fin.castLE (by omega) d))
          (fin (arg4.view.read (Elt Ideal) X4) (arg3.view.read (Elt Ideal) X3) (arg7.view.read (Elt Ideal) X7) (arg6.view.read (Elt Ideal) X6) (arg11.view.read (Elt Ideal) X11) h (i 2) r 128) := by
  have e : oblk c i arg3 harg3 arg4 harg4 arg5 harg5 arg6 harg6 arg7 harg7 arg8 harg8 arg9 harg9 arg10 harg10 arg11 harg11 X3 X4 X6 X7 X11 v15 h = ob arg10 (dacc i arg3 arg4 arg6 arg7 arg9 arg10 arg11 X3 X4 X6 X7 X11 (arg9.view.writes (Elt Ideal) arg9.view.junk (P7 c i arg3 harg3 arg4 harg4 arg5 harg5 arg6 harg6 arg7 harg7 arg8 harg8 arg9 harg9 arg10 harg10 arg11 harg11 X3 X4 X6 X7 X11 v15))
    (arg10.view.writes (Elt Ideal) arg10.view.junk (P8 c i arg3 harg3 arg4 harg4 arg5 harg5 arg6 harg6 arg7 harg7 arg8 harg8 arg9 harg9 arg10 harg10 arg11 harg11 X3 X4 X6 X7 X11 v15))) (P8 c i arg3 harg3 arg4 harg4 arg5 harg5 arg6 harg6 arg7 harg7 arg8 harg8 arg9 harg9 arg10 harg10 arg11 harg11 X3 X4 X6 X7 X11 v15) h := by
    unfold oblk KK ob
    rw [K3_eq]
    rfl
  rw [e, ob_apply, dacc_apply, dacc_apply, P7_read, P8_read, P8_read]
  rfl

/-- The four heads' stores into the output block. -/
abbrev OL : List (View.Piece (Elt Ideal) S512x512 .bf16) :=
  [⟨Rect.unit (s := S512x512) ![0, 384] S512x128.size inb_S512x512_S512x128_0_384, oblk c i arg3 harg3 arg4 harg4 arg5 harg5 arg6 harg6 arg7 harg7 arg8 harg8 arg9 harg9 arg10 harg10 arg11 harg11 X3 X4 X6 X7 X11 v15 3⟩,
   ⟨Rect.unit (s := S512x512) ![0, 256] S512x128.size inb_S512x512_S512x128_0_256, oblk c i arg3 harg3 arg4 harg4 arg5 harg5 arg6 harg6 arg7 harg7 arg8 harg8 arg9 harg9 arg10 harg10 arg11 harg11 X3 X4 X6 X7 X11 v15 2⟩,
   ⟨Rect.unit (s := S512x512) ![0, 128] S512x128.size inb_S512x512_S512x128_0_128, oblk c i arg3 harg3 arg4 harg4 arg5 harg5 arg6 harg6 arg7 harg7 arg8 harg8 arg9 harg9 arg10 harg10 arg11 harg11 X3 X4 X6 X7 X11 v15 1⟩,
   ⟨Rect.unit (s := S512x512) ![0, 0] S512x128.size inb_S512x512_S512x128_0_0, oblk c i arg3 harg3 arg4 harg4 arg5 harg5 arg6 harg6 arg7 harg7 arg8 harg8 arg9 harg9 arg10 harg10 arg11 harg11 X3 X4 X6 X7 X11 v15 0⟩]

end

theorem hit_o {Val : EltTy → Type} {κ : Kind} {sp : Space} (v : View sig κ sp S512x512 .bf16) (f : v.ty.Contents Val) (off : Fin 2 → ℕ) (inb) (w : S512x128.Idx → Val .bf16) (L)
    (h : Fin 4) (r : Fin 512) (d : Fin 128) (he : off = ![0, 128 * h.val]) :
    v.read Val (v.writes Val f (⟨Rect.unit (s := S512x512) off S512x128.size inb, w⟩ :: L)) (ix2 r (⟨128 * h.val + d.val, by omega⟩ : Fin 512)) = w (ix2 r d) :=
  View.read_writes_cons_unit_of_mem v f inb w L (ix2 r (⟨128 * h.val + d.val, by omega⟩ : Fin 512)) (ix2 r d : S512x128.Idx) he fun a => match a with
    | ⟨0, _⟩ => (Nat.zero_add _).symm
    | ⟨1, _⟩ => rfl

theorem miss_o {Val : EltTy → Type} {κ : Kind} {sp : Space} (v : View sig κ sp S512x512 .bf16) (f : v.ty.Contents Val) (off : Fin 2 → ℕ) (inb) (w : S512x128.Idx → Val .bf16) (L)
    (h : Fin 4) (r : Fin 512) (d : Fin 128) (q : ℕ) (he : off = ![0, 128 * q]) (hq : h.val < q) :
    v.read Val (v.writes Val f (⟨Rect.unit (s := S512x512) off S512x128.size inb, w⟩ :: L)) (ix2 r (⟨128 * h.val + d.val, by omega⟩ : Fin 512))
      = v.read Val (v.writes Val f L) (ix2 r (⟨128 * h.val + d.val, by omega⟩ : Fin 512)) :=
  View.read_writes_cons_unit_of_not_mem v f inb w L _ he (1 : Fin 2) (.inl (by
    show 128 * h.val + d.val < 128 * q
    have := d.isLt
    omega))

/-- Four stores side by side into the output block: head `h` reads its own. -/
theorem read_o {Val : EltTy → Type} {κ : Kind} {sp : Space} (v : View sig κ sp S512x512 .bf16) (f : v.ty.Contents Val) (i0 i1 i2 i3) (p : Fin 4 → S512x128.Idx → Val .bf16)
    (h : Fin 4) (r : Fin 512) (d : Fin 128) :
    v.read Val (v.writes Val f [⟨Rect.unit (s := S512x512) ![0, 384] S512x128.size i3, p 3⟩, ⟨Rect.unit (s := S512x512) ![0, 256] S512x128.size i2, p 2⟩,
      ⟨Rect.unit (s := S512x512) ![0, 128] S512x128.size i1, p 1⟩, ⟨Rect.unit (s := S512x512) ![0, 0] S512x128.size i0, p 0⟩]) (ix2 r (⟨128 * h.val + d.val, by omega⟩ : Fin 512))
      = p h (ix2 r d) := by
  match h with
  | 0 => rw [miss_o v f _ i3 (p 3) _ 0 r d 3 rfl (by decide), miss_o v f _ i2 (p 2) _ 0 r d 2 rfl (by decide), miss_o v f _ i1 (p 1) _ 0 r d 1 rfl (by decide)]
         exact hit_o v f _ i0 (p 0) _ 0 r d rfl
  | 1 => rw [miss_o v f _ i3 (p 3) _ 1 r d 3 rfl (by decide), miss_o v f _ i2 (p 2) _ 1 r d 2 rfl (by decide)]
         exact hit_o v f _ i1 (p 1) _ 1 r d rfl
  | 2 => rw [miss_o v f _ i3 (p 3) _ 2 r d 3 rfl (by decide)]
         exact hit_o v f _ i2 (p 2) _ 2 r d rfl
  | 3 => exact hit_o v f _ i3 (p 3) _ 3 r d rfl

section
variable (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x1x512 .f32) (harg6 : arg6.IsWhole) (arg7 : Memref sig .tc .vmem S1x4096x128 .f32) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x144x512 .f32) (harg10 : arg10.IsWhole) (arg11 : Memref sig .tc .vmem S4x8x144x512 .bf16) (harg11 : arg11.IsWhole)

section
variable (x0 : Vec Ideal S512x512 .bf16) (x1 : Vec Ideal S4096x512 .bf16) (x3 : Vec Ideal S1x4x1x512 .f32) (x4 : Vec Ideal S1x4096x128 .f32) (xs2 : Vec Ideal S4x8x144x512 .bf16)
theorem stB_0 : kernelRun0_B.sl.HS1_1_1 c i arg3 harg3 arg4 harg4 arg5 harg5 arg6 harg6 arg7 harg7 arg8 harg8 arg9 harg9 arg10 harg10 arg11 harg11 x0 x1 x3 x4 xs2 = K0 arg10 (dsc i arg3 arg4 arg7 (harg3.unread x0) (harg4.unread x1) (harg7.unread x4)) (tm arg9 (arg9.view.writes (Elt Ideal) arg9.view.junk (P7 c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i)))) (tu arg6 (harg6.unread x3)) (dv i arg11 (harg11.unread xs2)) (P8 c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i)) := rfl
theorem stB_1 : kernelRun0_B.sl.HS1_2 c i arg3 harg3 arg4 harg4 arg5 harg5 arg6 harg6 arg7 harg7 arg8 harg8 arg9 harg9 arg10 harg10 arg11 harg11 x0 x1 x3 x4 xs2 = K1 arg10 (dsc i arg3 arg4 arg7 (harg3.unread x0) (harg4.unread x1) (harg7.unread x4)) (tm arg9 (arg9.view.writes (Elt Ideal) arg9.view.junk (P7 c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i)))) (tu arg6 (harg6.unread x3)) (dv i arg11 (harg11.unread xs2)) (P8 c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i)) := by
  unfold K1; rw [← stB_0]; rfl
theorem stB_2 : kernelRun0_B.sl.HS1_3 c i arg3 harg3 arg4 harg4 arg5 harg5 arg6 harg6 arg7 harg7 arg8 harg8 arg9 harg9 arg10 harg10 arg11 harg11 x0 x1 x3 x4 xs2 = K2 arg10 (dsc i arg3 arg4 arg7 (harg3.unread x0) (harg4.unread x1) (harg7.unread x4)) (tm arg9 (arg9.view.writes (Elt Ideal) arg9.view.junk (P7 c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i)))) (tu arg6 (harg6.unread x3)) (dv i arg11 (harg11.unread xs2)) (P8 c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i)) := by
  unfold K2; rw [← stB_1]; rfl
theorem stB_3 : kernelRun0_B.sl.HS1_4 c i arg3 harg3 arg4 harg4 arg5 harg5 arg6 harg6 arg7 harg7 arg8 harg8 arg9 harg9 arg10 harg10 arg11 harg11 x0 x1 x3 x4 xs2 = KK c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i) := by
  unfold KK K3; rw [← stB_2]; rfl
theorem stB_o (h : Fin 4) : oblk c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i) h = k0_pay197 (ta arg10 (arg10.view.writes (Elt Ideal) arg10.view.junk (kernelRun0_B.sl.HS1_4 c i arg3 harg3 arg4 harg4 arg5 harg5 arg6 harg6 arg7 harg7 arg8 harg8 arg9 harg9 arg10 harg10 arg11 harg11 x0 x1 x3 x4 xs2)) h) := by
  unfold oblk; rw [← stB_3]
end

/-- A grid point that finds the transposed values in its scratch: the output block of head `h`. -/
theorem out_B (hc0 : ¬cond0_0 i) (x0 : Vec Ideal S512x512 .bf16) (x1 : Vec Ideal S4096x512 .bf16) (x2 : Vec Ideal S4096x512 .bf16) (x3 : Vec Ideal S1x4x1x512 .f32) (x4 : Vec Ideal S1x4096x128 .f32) (xs2 : Vec Ideal S4x8x144x512 .bf16)
    (h : Fin 4) (r : Fin 512) (d : Fin 128) :
    out0_B_5 c i arg3 harg3 arg4 harg4 arg5 harg5 arg6 harg6 arg7 harg7 arg8 harg8 arg9 harg9 arg10 harg10 arg11 harg11 hc0 x0 x1 x2 x3 x4 xs2 (ix2 r (⟨128 * h.val + d.val, by omega⟩ : Fin 512))
      = Ideal.div (fin x1 x0 x4 x3 xs2 h (i 2) r (Fin.castLE (by omega) d)) (fin x1 x0 x4 x3 xs2 h (i 2) r 128) := by
  have e : out0_B_5 c i arg3 harg3 arg4 harg4 arg5 harg5 arg6 harg6 arg7 harg7 arg8 harg8 arg9 harg9 arg10 harg10 arg11 harg11 hc0 x0 x1 x2 x3 x4 xs2 = VO0_5.read (Elt Ideal) (VO0_5.writes (Elt Ideal) VO0_5.junk
      (OL c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i))) := by
    unfold out0_B_5 kernelRun0_B
    dsimp only
    rw [OL, stB_o, stB_o, stB_o, stB_o]
    rfl
  rw [e]
  refine (read_o (Val := Elt Ideal) VO0_5 VO0_5.junk inb_S512x512_S512x128_0_0 inb_S512x512_S512x128_0_128 inb_S512x512_S512x128_0_256 inb_S512x512_S512x128_0_384 (oblk c i arg3 harg3 arg4 harg4 arg5 harg5 arg6 harg6 arg7 harg7 arg8 harg8 arg9 harg9 arg10 harg10 arg11 harg11 (harg3.unread x0) (harg4.unread x1) (harg6.unread x3) (harg7.unread x4) (harg11.unread xs2) (kernelRun0_B.sl.v15 i)) h r d).trans ?_
  rw [oblk_apply, harg3.read_unread, harg4.read_unread, harg6.read_unread, harg7.read_unread, harg11.read_unread]

section
variable (x0 : Vec Ideal S512x512 .bf16) (x1 : Vec Ideal S4096x512 .bf16) (x2 : Vec Ideal S4096x512 .bf16) (x3 : Vec Ideal S1x4x1x512 .f32) (x4 : Vec Ideal S1x4096x128 .f32)
theorem stA_0 : kernelRun0_A.sl.HS1_1_1 c i arg3 harg3 arg4 harg4 arg5 harg5 arg6 harg6 arg7 harg7 arg8 harg8 arg9 harg9 arg10 harg10 arg11 harg11 x0 x1 x2 x3 x4 = K0 arg10 (dsc i arg3 arg4 arg7 (harg3.unread x0) (harg4.unread x1) (harg7.unread x4)) (tm arg9 (arg9.view.writes (Elt Ideal) arg9.view.junk (P7 c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i)))) (tu arg6 (harg6.unread x3)) (dv i arg11 (arg11.view.writes (Elt Ideal) arg11.view.junk (kernelRun0_A.sl.HS2_64 c arg5 harg5 x2))) (P8 c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i)) := rfl
theorem stA_1 : kernelRun0_A.sl.HS1_2 c i arg3 harg3 arg4 harg4 arg5 harg5 arg6 harg6 arg7 harg7 arg8 harg8 arg9 harg9 arg10 harg10 arg11 harg11 x0 x1 x2 x3 x4 = K1 arg10 (dsc i arg3 arg4 arg7 (harg3.unread x0) (harg4.unread x1) (harg7.unread x4)) (tm arg9 (arg9.view.writes (Elt Ideal) arg9.view.junk (P7 c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i)))) (tu arg6 (harg6.unread x3)) (dv i arg11 (arg11.view.writes (Elt Ideal) arg11.view.junk (kernelRun0_A.sl.HS2_64 c arg5 harg5 x2))) (P8 c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i)) := by
  unfold K1; rw [← stA_0]; rfl
theorem stA_2 : kernelRun0_A.sl.HS1_3 c i arg3 harg3 arg4 harg4 arg5 harg5 arg6 harg6 arg7 harg7 arg8 harg8 arg9 harg9 arg10 harg10 arg11 harg11 x0 x1 x2 x3 x4 = K2 arg10 (dsc i arg3 arg4 arg7 (harg3.unread x0) (harg4.unread x1) (harg7.unread x4)) (tm arg9 (arg9.view.writes (Elt Ideal) arg9.view.junk (P7 c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i)))) (tu arg6 (harg6.unread x3)) (dv i arg11 (arg11.view.writes (Elt Ideal) arg11.view.junk (kernelRun0_A.sl.HS2_64 c arg5 harg5 x2))) (P8 c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i)) := by
  unfold K2; rw [← stA_1]; rfl
theorem stA_3 : kernelRun0_A.sl.HS1_4 c i arg3 harg3 arg4 harg4 arg5 harg5 arg6 harg6 arg7 harg7 arg8 harg8 arg9 harg9 arg10 harg10 arg11 harg11 x0 x1 x2 x3 x4 = KK c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i) := by
  unfold KK K3; rw [← stA_2]; rfl
theorem stA_o (h : Fin 4) : oblk c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i) h = k0_pay197 (ta arg10 (arg10.view.writes (Elt Ideal) arg10.view.junk (kernelRun0_A.sl.HS1_4 c i arg3 harg3 arg4 harg4 arg5 harg5 arg6 harg6 arg7 harg7 arg8 harg8 arg9 harg9 arg10 harg10 arg11 harg11 x0 x1 x2 x3 x4)) h) := by
  unfold oblk; rw [← stA_3]
end

/-- A grid point that stores the transposed values first: the output block of head `h`, over what it stored. -/
theorem out_A (hc0 : cond0_0 i) (x0 : Vec Ideal S512x512 .bf16) (x1 : Vec Ideal S4096x512 .bf16) (x2 : Vec Ideal S4096x512 .bf16) (x3 : Vec Ideal S1x4x1x512 .f32) (x4 : Vec Ideal S1x4096x128 .f32)
    (h : Fin 4) (r : Fin 512) (d : Fin 128) :
    out0_A_5 c i arg3 harg3 arg4 harg4 arg5 harg5 arg6 harg6 arg7 harg7 arg8 harg8 arg9 harg9 arg10 harg10 arg11 harg11 hc0 x0 x1 x2 x3 x4 (ix2 r (⟨128 * h.val + d.val, by omega⟩ : Fin 512))
      = Ideal.div (fin x1 x0 x4 x3 (sout0_A_2 c i arg3 harg3 arg4 harg4 arg5 harg5 arg6 harg6 arg7 harg7 arg8 harg8 arg9 harg9 arg10 harg10 arg11 harg11 hc0 x0 x1 x2 x3 x4) h (i 2) r (Fin.castLE (by omega) d)) (fin x1 x0 x4 x3 (sout0_A_2 c i arg3 harg3 arg4 harg4 arg5 harg5 arg6 harg6 arg7 harg7 arg8 harg8 arg9 harg9 arg10 harg10 arg11 harg11 hc0 x0 x1 x2 x3 x4) h (i 2) r 128) := by
  have e : out0_A_5 c i arg3 harg3 arg4 harg4 arg5 harg5 arg6 harg6 arg7 harg7 arg8 harg8 arg9 harg9 arg10 harg10 arg11 harg11 hc0 x0 x1 x2 x3 x4 = VO0_5.read (Elt Ideal) (VO0_5.writes (Elt Ideal) VO0_5.junk
      (OL c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i))) := by
    unfold out0_A_5 kernelRun0_A
    dsimp only
    rw [OL, stA_o, stA_o, stA_o, stA_o]
    rfl
  have e2 : arg11.view.read (Elt Ideal) (arg11.view.writes (Elt Ideal) arg11.view.junk (kernelRun0_A.sl.HS2_64 c arg5 harg5 x2)) = sout0_A_2 c i arg3 harg3 arg4 harg4 arg5 harg5 arg6 harg6 arg7 harg7 arg8 harg8 arg9 harg9 arg10 harg10 arg11 harg11 hc0 x0 x1 x2 x3 x4 := by
    unfold sout0_A_2 kernelRun0_A
    dsimp only
    rw [View.read_writes_junk_eq_canon, View.read_writes_junk_eq_canon]
  rw [e]
  refine (read_o (Val := Elt Ideal) VO0_5 VO0_5.junk inb_S512x512_S512x128_0_0 inb_S512x512_S512x128_0_128 inb_S512x512_S512x128_0_256 inb_S512x512_S512x128_0_384 (oblk c i arg3 harg3 arg4 harg4 arg5 harg5 arg6 harg6 arg7 harg7 arg8 harg8 arg9 harg9 arg10 harg10 arg11 harg11 (harg3.unread x0) (harg4.unread x1) (harg6.unread x3) (harg7.unread x4) (arg11.view.writes (Elt Ideal) arg11.view.junk (kernelRun0_A.sl.HS2_64 c arg5 harg5 x2)) (kernelRun0_A.sl.v15 i)) h r d).trans ?_
  rw [oblk_apply, harg3.read_unread, harg4.read_unread, harg6.read_unread, harg7.read_unread, e2]
end
end Cert.FoxIdeal.Step
-- ==== Proof.FoxScratch.lean ====
module
public import proofs.«01_k».proof.Proof.FoxBlock
public import Idealize.ShloMosaic.Lib.Pipeline.ValueKit.Tiles
@[expose] public section
set_option maxRecDepth 16384
noncomputable section
namespace Cert.FoxIdeal.Step
open Cert.FoxIdeal Cert.FoxIdeal.Gen Idealize.ShloMosaic Idealize.ShloMosaic.TcCoe Idealize.SL.Sem Idealize.ShloMosaic.Tactic

/-! # The scratch of transposed values -/

/-- The values transposed, one block of 512 keys and one head at a time, over sixteen rows of ones. -/
def vt (X : Vec Ideal S4096x512 .bf16) : Vec Ideal S4x8x144x512 .bf16 := fun y =>
  if hd : (y 2).val < 128 then X (ix2 (⟨512 * (y 1).val + (y 3).val, by have := (y 1).isLt; have := (y 3).isLt; dsimp at *; omega⟩ : Fin 4096)
    (⟨128 * (y 0).val + (y 2).val, by have := (y 0).isLt; dsimp at *; omega⟩ : Fin 512)) else 1

theorem ones_apply (x : S1x1x16x512.Idx) : k0_pay2 (F := Ideal) x = 1 := by
  idx_vars x
  unfold k0_pay2
  pointwise

theorem vals_apply (v : Vec Ideal S512x128 .bf16) (d : Fin 128) (x : Fin 512) : k0_pay1 v (ix4 0 0 d x) = v (ix2 x d) := by
  unfold k0_pay1
  pointwise

theorem tile_one (y : S4x8x144x512.Idx) (X : Vec Ideal S4096x512 .bf16) (x : S1x1x16x512.Idx) (h : 128 ≤ (y 2).val) : k0_pay2 (F := Ideal) x = vt X y := by
  rw [ones_apply]
  unfold vt
  rw [dif_neg (by omega)]

theorem tile_v (arg5 : Memref sig .tc .vmem S4096x512 .bf16) (harg5 : arg5.IsWhole) (X : Vec Ideal S4096x512 .bf16) (h j : ℕ) (off : Fin 2 → ℕ)
    (he : off = ![512 * j, 128 * h]) (inb : ∀ a, off a + S512x128.size a ≤ S4096x512.size a) (x : S1x1x128x512.Idx) (y : S4x8x144x512.Idx)
    (h0 : (y 0).val = h + (x 0).val) (h1 : (y 1).val = j + (x 1).val) (h2 : (y 2).val = 0 + (x 2).val) (h3 : (y 3).val = 0 + (x 3).val) :
    k0_pay1 (View.readAt (Elt Ideal) arg5.view (Rect.unit (s := S4096x512) off S512x128.size inb).toLoadRect (harg5.unread X)) x = vt X y := by
  subst he
  idx_vars x
  obtain rfl : x0 = 0 := Subsingleton.elim _ _
  obtain rfl : x1 = 0 := Subsingleton.elim _ _
  refine (vals_apply _ x2 x3).trans ?_
  unfold vt
  have b2 : x2.val < 128 := x2.isLt
  have e2 : (y 2).val = x2.val := by simpa using h2
  have e3 : (y 3).val = x3.val := by simpa using h3
  have e0 : (y 0).val = h := by simpa using h0
  have e1 : (y 1).val = j := by simpa using h1
  rw [dif_pos (by omega), View.readAt_eq_ld, harg5.read_unread]
  refine congrArg X ?_
  funext a
  match a with
  | ⟨0, _⟩ => exact Fin.ext (by show 512 * j + 1 * x3.val = 512 * (y 1).val + (y 3).val; omega)
  | ⟨1, _⟩ => exact Fin.ext (by show 128 * h + 1 * x2.val = 128 * (y 0).val + (y 2).val; omega)

theorem scratch_A (c : Dev nD) (i : grid0.Coords) (arg3 : Memref sig .tc .vmem S512x512 .bf16) (harg3 : arg3.IsWhole) (arg4 : Memref sig .tc .vmem S4096x512 .bf16) (harg4 : arg4.IsWhole) (arg5 : Memref sig .tc .vmem S4096x512 .bf16) (harg5 : arg5.IsWhole) (arg6 : Memref sig .tc .vmem S1x4x1x512 .f32) (harg6 : arg6.IsWhole) (arg7 : Memref sig .tc .vmem S1x4096x128 .f32) (harg7 : arg7.IsWhole) (arg8 : Memref sig .tc .vmem S512x512 .bf16) (harg8 : arg8.IsWhole) (arg9 : Memref sig .tc .vmem S4x1x512 .f32) (harg9 : arg9.IsWhole) (arg10 : Memref sig .tc .vmem S4x144x512 .f32) (harg10 : arg10.IsWhole) (arg11 : Memref sig .tc .vmem S4x8x144x512 .bf16) (harg11 : arg11.IsWhole) (hc0 : cond0_0 i) (x0 : Vec Ideal S512x512 .bf16) (x1 : Vec Ideal S4096x512 .bf16) (x2 : Vec Ideal S4096x512 .bf16) (x3 : Vec Ideal S1x4x1x512 .f32) (x4 : Vec Ideal S1x4096x128 .f32) :
    sout0_A_2 c i arg3 harg3 arg4 harg4 arg5 harg5 arg6 harg6 arg7 harg7 arg8 harg8 arg9 harg9 arg10 harg10 arg11 harg11 hc0 x0 x1 x2 x3 x4 = vt x2 := by
  unfold sout0_A_2 kernelRun0_A
  dsimp only
  rw [View.read_writes_junk_eq_canon]
  funext y
  unfold kernelRun0_A.sl.HS2_64
  canon_tiles x h using scover0_A_2 c i arg3 harg3 arg4 harg4 arg5 harg5 arg6 harg6 arg7 harg7 arg8 harg8 arg9 harg9 arg10 harg10 arg11 harg11 hc0 x0 x1 x2 x3 x4 y
  · exact tile_one y x2 x (by omega)
  · exact tile_v arg5 harg5 x2 3 7 ![3584, 384] rfl (by decide) x y (by omega) (by omega) (by omega) (by omega)
  · exact tile_one y x2 x (by omega)
  · exact tile_v arg5 harg5 x2 3 6 ![3072, 384] rfl (by decide) x y (by omega) (by omega) (by omega) (by omega)
  · exact tile_one y x2 x (by omega)
  · exact tile_v arg5 harg5 x2 3 5 ![2560, 384] rfl (by decide) x y (by omega) (by omega) (by omega) (by omega)
  · exact tile_one y x2 x (by omega)
  · exact tile_v arg5 harg5 x2 3 4 ![2048, 384] rfl (by decide) x y (by omega) (by omega) (by omega) (by omega)
  · exact tile_one y x2 x (by omega)
  · exact tile_v arg5 harg5 x2 3 3 ![1536, 384] rfl (by decide) x y (by omega) (by omega) (by omega) (by omega)
  · exact tile_one y x2 x (by omega)
  · exact tile_v arg5 harg5 x2 3 2 ![1024, 384] rfl (by decide) x y (by omega) (by omega) (by omega) (by omega)
  · exact tile_one y x2 x (by omega)
  · exact tile_v arg5 harg5 x2 3 1 ![512, 384] rfl (by decide) x y (by omega) (by omega) (by omega) (by omega)
  · exact tile_one y x2 x (by omega)
  · exact tile_v arg5 harg5 x2 3 0 ![0, 384] rfl (by decide) x y (by omega) (by omega) (by omega) (by omega)
  · exact tile_one y x2 x (by omega)
  · exact tile_v arg5 harg5 x2 2 7 ![3584, 256] rfl (by decide) x y (by omega) (by omega) (by omega) (by omega)
  · exact tile_one y x2 x (by omega)
  · exact tile_v arg5 harg5 x2 2 6 ![3072, 256] rfl (by decide) x y (by omega) (by omega) (by omega) (by omega)
  · exact tile_one y x2 x (by omega)
  · exact tile_v arg5 harg5 x2 2 5 ![2560, 256] rfl (by decide) x y (by omega) (by omega) (by omega) (by omega)
  · exact tile_one y x2 x (by omega)
  · exact tile_v arg5 harg5 x2 2 4 ![2048, 256] rfl (by decide) x y (by omega) (by omega) (by omega) (by omega)
  · exact tile_one y x2 x (by omega)
  · exact tile_v arg5 harg5 x2 2 3 ![1536, 256] rfl (by decide) x y (by omega) (by omega) (by omega) (by omega)
  · exact tile_one y x2 x (by omega)
  · exact tile_v arg5 harg5 x2 2 2 ![1024, 256] rfl (by decide) x y (by omega) (by omega) (by omega) (by omega)
  · exact tile_one y x2 x (by omega)
  · exact tile_v arg5 harg5 x2 2 1 ![512, 256] rfl (by decide) x y (by omega) (by omega) (by omega) (by omega)
  · exact tile_one y x2 x (by omega)
  · exact tile_v arg5 harg5 x2 2 0 ![0, 256] rfl (by decide) x y (by omega) (by omega) (by omega) (by omega)
  · exact tile_one y x2 x (by omega)
  · exact tile_v arg5 harg5 x2 1 7 ![3584, 128] rfl (by decide) x y (by omega) (by omega) (by omega) (by omega)
  · exact tile_one y x2 x (by omega)
  · exact tile_v arg5 harg5 x2 1 6 ![3072, 128] rfl (by decide) x y (by omega) (by omega) (by omega) (by omega)
  · exact tile_one y x2 x (by omega)
  · exact tile_v arg5 harg5 x2 1 5 ![2560, 128] rfl (by decide) x y (by omega) (by omega) (by omega) (by omega)
  · exact tile_one y x2 x (by omega)
  · exact tile_v arg5 harg5 x2 1 4 ![2048, 128] rfl (by decide) x y (by omega) (by omega) (by omega) (by omega)
  · exact tile_one y x2 x (by omega)
  · exact tile_v arg5 harg5 x2 1 3 ![1536, 128] rfl (by decide) x y (by omega) (by omega) (by omega) (by omega)
  · exact tile_one y x2 x (by omega)
  · exact tile_v arg5 harg5 x2 1 2 ![1024, 128] rfl (by decide) x y (by omega) (by omega) (by omega) (by omega)
  · exact tile_one y x2 x (by omega)
  · exact tile_v arg5 harg5 x2 1 1 ![512, 128] rfl (by decide) x y (by omega) (by omega) (by omega) (by omega)
  · exact tile_one y x2 x (by omega)
  · exact tile_v arg5 harg5 x2 1 0 ![0, 128] rfl (by decide) x y (by omega) (by omega) (by omega) (by omega)
  · exact tile_one y x2 x (by omega)
  · exact tile_v arg5 harg5 x2 0 7 ![3584, 0] rfl (by decide) x y (by omega) (by omega) (by omega) (by omega)
  · exact tile_one y x2 x (by omega)
  · exact tile_v arg5 harg5 x2 0 6 ![3072, 0] rfl (by decide) x y (by omega) (by omega) (by omega) (by omega)
  · exact tile_one y x2 x (by omega)
  · exact tile_v arg5 harg5 x2 0 5 ![2560, 0] rfl (by decide) x y (by omega) (by omega) (by omega) (by omega)
  · exact tile_one y x2 x (by omega)
  · exact tile_v arg5 harg5 x2 0 4 ![2048, 0] rfl (by decide) x y (by omega) (by omega) (by omega) (by omega)
  · exact tile_one y x2 x (by omega)
  · exact tile_v arg5 harg5 x2 0 3 ![1536, 0] rfl (by decide) x y (by omega) (by omega) (by omega) (by omega)
  · exact tile_one y x2 x (by omega)
  · exact tile_v arg5 harg5 x2 0 2 ![1024, 0] rfl (by decide) x y (by omega) (by omega) (by omega) (by omega)
  · exact tile_one y x2 x (by omega)
  · exact tile_v arg5 harg5 x2 0 1 ![512, 0] rfl (by decide) x y (by omega) (by omega) (by omega) (by omega)
  · exact tile_one y x2 x (by omega)
  · exact tile_v arg5 harg5 x2 0 0 ![0, 0] rfl (by decide) x y (by omega) (by omega) (by omega) (by omega)
end Cert.FoxIdeal.Step
-- ==== Proof.FoxArray.lean ====
module
public import proofs.«01_k».proof.Proof.FoxScratch
public import proofs.«01_k».proof.Proof.Gen.FoxIdeal.Value
public import Idealize.ShloMosaic.Lib.Pipeline.ValueKit
@[expose] public section
set_option maxRecDepth 16384
noncomputable section
namespace Cert.FoxIdeal.Step
open Cert.FoxIdeal Cert.FoxIdeal.Gen Idealize.ShloMosaic Idealize.ShloMosaic.TcCoe Idealize.SL.Sem Idealize.ShloMosaic.Tactic

/-! # The kernel's result array, index by index -/

variable (m : (ℓ : Loc nD τ sig) → Buf (Elt Ideal) ℓ) (c : Dev nD)

/-- Grid point of batch `b`, head group `g`, query block `i`. -/
def pt (b : Fin 4) (g : Fin 2) (i : Fin 8) : Fin cfg0.N := ⟨16 * b.val + 8 * g.val + i.val, by rw [show cfg0.N = 64 from N_0]; omega⟩

theorem co2 : ∀ b g i, (grid0.coords (pt b g i) 2).val = i.val := by decide +kernel
theorem ix_q0 : ∀ b g i, win0_0.index (pt b g i) 0 = 8 * b.val + i.val := by decide +kernel
theorem ix_q1 : ∀ b g i, win0_0.index (pt b g i) 1 = g.val := by decide +kernel
theorem ix_k0 : ∀ b g i, win0_1.index (pt b g i) 0 = b.val := by decide +kernel
theorem ix_k1 : ∀ b g i, win0_1.index (pt b g i) 1 = 2 + g.val := by decide +kernel
theorem ix_v0 : ∀ b g i, win0_2.index (pt b g i) 0 = b.val := by decide +kernel
theorem ix_v1 : ∀ b g i, win0_2.index (pt b g i) 1 = 4 + g.val := by decide +kernel
theorem ix_u0 : ∀ b g i, win0_3.index (pt b g i) 0 = b.val := by decide +kernel
theorem ix_u1 : ∀ b g i, win0_3.index (pt b g i) 1 = g.val := by decide +kernel
theorem ix_u2 : ∀ b g i, win0_3.index (pt b g i) 2 = 0 := by decide +kernel
theorem ix_u3 : ∀ b g i, win0_3.index (pt b g i) 3 = i.val := by decide +kernel
theorem ix_g0 : ∀ b g i, win0_4.index (pt b g i) 0 = g.val := by decide +kernel
theorem ix_g1 : ∀ b g i, win0_4.index (pt b g i) 1 = b.val := by decide +kernel
theorem ix_g2 : ∀ b g i, win0_4.index (pt b g i) 2 = 0 := by decide +kernel
theorem ix_o0 : ∀ b g i, win0_5.index (pt b g i) 0 = 8 * b.val + i.val := by decide +kernel
theorem ix_o1 : ∀ b g i, win0_5.index (pt b g i) 1 = g.val := by decide +kernel

/-- The query block of a grid point. -/
def qb (P : Vec Ideal S16384x3072 .bf16) (b : Fin 4) (g : Fin 2) (i : Fin 8) : Vec Ideal S512x512 .bf16 := fun y =>
  P (ix2 (⟨4096 * b.val + 512 * i.val + (y 0).val, by have := (y 0).isLt; dsimp at *; omega⟩ : Fin 16384) (⟨512 * g.val + (y 1).val, by have := (y 1).isLt; dsimp at *; omega⟩ : Fin 3072))
/-- The keys of a batch and head group. -/
def kb (P : Vec Ideal S16384x3072 .bf16) (b : Fin 4) (g : Fin 2) : Vec Ideal S4096x512 .bf16 := fun y =>
  P (ix2 (⟨4096 * b.val + (y 0).val, by have := (y 0).isLt; dsimp at *; omega⟩ : Fin 16384) (⟨1024 + 512 * g.val + (y 1).val, by have := (y 1).isLt; dsimp at *; omega⟩ : Fin 3072))
/-- The values of a batch and head group. -/
def vb (P : Vec Ideal S16384x3072 .bf16) (b : Fin 4) (g : Fin 2) : Vec Ideal S4096x512 .bf16 := fun y =>
  P (ix2 (⟨4096 * b.val + (y 0).val, by have := (y 0).isLt; dsimp at *; omega⟩ : Fin 16384) (⟨2048 + 512 * g.val + (y 1).val, by have := (y 1).isLt; dsimp at *; omega⟩ : Fin 3072))
/-- The queries' biases of a grid point. -/
def ub (U : Vec Ideal S4x8x1x4096 .f32) (b : Fin 4) (g : Fin 2) (i : Fin 8) : Vec Ideal S1x4x1x512 .f32 := fun y =>
  U (ix4 b (⟨4 * g.val + (y 1).val, by have := (y 1).isLt; dsimp at *; omega⟩ : Fin 8) 0 (⟨512 * i.val + (y 3).val, by have := (y 3).isLt; dsimp at *; omega⟩ : Fin 4096))
/-- The keys' biases of a batch and head group. -/
def gb (G : Vec Ideal S2x16384x128 .f32) (b : Fin 4) (g : Fin 2) : Vec Ideal S1x4096x128 .f32 := fun y =>
  G (ix3 g (⟨4096 * b.val + (y 1).val, by have := (y 1).isLt; dsimp at *; omega⟩ : Fin 16384) (y 2))

theorem iblk_q (b g i) : iblk m c 0 (pt b g i) = qb (V m c main_v10) b g i := by
  funext y
  unfold qb
  blk_ext [iblk, ix_q0 b g i, ix_q1 b g i]

theorem iblk_k (b g i) : iblk m c 1 (pt b g i) = kb (V m c main_v10) b g := by
  funext y
  unfold kb
  blk_ext [iblk, ix_k0 b g i, ix_k1 b g i]

theorem iblk_v (b g i) : iblk m c 2 (pt b g i) = vb (V m c main_v10) b g := by
  funext y
  unfold vb
  blk_ext [iblk, ix_v0 b g i, ix_v1 b g i]

theorem iblk_u (b g i) : iblk m c 3 (pt b g i) = ub (V m c main_v28) b g i := by
  funext y
  unfold ub
  blk_ext [iblk, ix_u0 b g i, ix_u1 b g i, ix_u2 b g i, ix_u3 b g i]

theorem iblk_g (b g i) : iblk m c 4 (pt b g i) = gb (V m c main_v22) b g := by
  funext y
  unfold gb
  blk_ext [iblk, ix_g0 b g i, ix_g1 b g i, ix_g2 b g i]

/-- Every point's scratch holds the transposed values of its batch and head group. -/
theorem scratch_all (b : Fin 4) (g : Fin 2) : ∀ (n : ℕ) (hn : n < 8), (outsAt0 m c (pt b g ⟨n, hn⟩).val (pt b g ⟨n, hn⟩).isLt).2 = vt (vb (V m c main_v10) b g)
  | 0, hn => by
    rw [outsAt0_A m c (pt b g ⟨0, hn⟩) (by show (16 * b.val + 8 * g.val + 0) % 8 = 0; omega)]
    dsimp only
    rw [scratch_A, iblk_v]
  | n + 1, hn => by
    rw [outsAt0_B m c (pt b g ⟨n + 1, hn⟩) (by show ¬(16 * b.val + 8 * g.val + (n + 1)) % 8 = 0; omega)]
    exact scratch_all b g n (by omega)

/-- What a grid point writes back. -/
theorem point_out (b : Fin 4) (g : Fin 2) (i : Fin 8) (h : Fin 4) (r : Fin 512) (d : Fin 128) :
    (outsAt0 m c (pt b g i).val (pt b g i).isLt).1 (ix2 r (⟨128 * h.val + d.val, by omega⟩ : Fin 512))
      = Ideal.div (fin (kb (V m c main_v10) b g) (qb (V m c main_v10) b g i) (gb (V m c main_v22) b g) (ub (V m c main_v28) b g i) (vt (vb (V m c main_v10) b g)) h i r (Fin.castLE (by omega) d))
          (fin (kb (V m c main_v10) b g) (qb (V m c main_v10) b g i) (gb (V m c main_v22) b g) (ub (V m c main_v28) b g i) (vt (vb (V m c main_v10) b g)) h i r 128) := by
  have hi : i.val < 8 := i.isLt
  have e2 : grid0.coords (pt b g i) 2 = i := Fin.ext (co2 b g i)
  by_cases h0 : (pt b g i).val % 8 = 0
  · rw [outsAt0_A m c (pt b g i) h0]
    dsimp only
    rw [out_A, scratch_A, iblk_q, iblk_k, iblk_v, iblk_u, iblk_g, e2]
  · rw [outsAt0_B m c (pt b g i) h0]
    dsimp only
    have h1 : (16 * b.val + 8 * g.val + i.val) % 8 ≠ 0 := h0
    have hs := scratch_all m c b g (i.val - 1) (by omega)
    have hp : (pt b g ⟨i.val - 1, by omega⟩).val = (pt b g i).val - 1 := by
      show 16 * b.val + 8 * g.val + (i.val - 1) = 16 * b.val + 8 * g.val + i.val - 1
      omega
    have hs' : (outsAt0 m c ((pt b g i).val - 1) (Nat.lt_of_le_of_lt (Nat.sub_le _ _) (pt b g i).isLt)).2 = vt (vb (V m c main_v10) b g) := by
      rw [← hs]
      congr 1
      simp only [hp]
    rw [out_B, hs', iblk_q, iblk_k, iblk_u, iblk_g, e2]

/-- The result array at batch `b`, query block `i`, row `r`, head group `g`, head `h` of it and lane `d`. -/
theorem arr_apply (b : Fin 4) (g : Fin 2) (i : Fin 8) (h : Fin 4) (r : Fin 512) (d : Fin 128) :
    (dats m 0 c).arrAt 5 cfg0.N (ix2 (⟨4096 * b.val + 512 * i.val + r.val, by omega⟩ : Fin 16384) (⟨512 * g.val + 128 * h.val + d.val, by omega⟩ : Fin 1024))
      = Ideal.div (fin (kb (V m c main_v10) b g) (qb (V m c main_v10) b g i) (gb (V m c main_v22) b g) (ub (V m c main_v28) b g i) (vt (vb (V m c main_v10) b g)) h i r (Fin.castLE (by omega) d))
          (fin (kb (V m c main_v10) b g) (qb (V m c main_v10) b g i) (gb (V m c main_v22) b g) (ub (V m c main_v28) b g i) (vt (vb (V m c main_v10) b g)) h i r 128) := by
  rw [← point_out]
  have e := congrFun ((Value.blocks5 m c (pt b g i) (by revert b g i; decide +kernel)).trans (Value.flushed5 m c (pt b g i))) (ix2 r (⟨128 * h.val + d.val, by omega⟩ : Fin 512))
  refine Eq.trans ?_ e
  blk_ext [ix_o0 b g i, ix_o1 b g i]

end Cert.FoxIdeal.Step
-- ==== Proof.FoxHost.lean ====
module
public import proofs.«01_k».proof.Proof.FoxArray
public import Idealize.ShloMosaic.Lib.Claim
public import Idealize.ShloMosaic.Lib.StableHlo.RunRead
@[expose] public section
set_option maxRecDepth 16384
noncomputable section
namespace Cert.FoxIdeal.Step
open Cert.FoxIdeal Cert.FoxIdeal.Gen Idealize.ShloMosaic Idealize.ShloMosaic.TcCoe Idealize.SL.Sem Idealize.ShloMosaic.Tactic

/-! # The packed queries, keys and values and the two arrays of biases the kernel is launched on -/

/-- The scale of the queries: one over the root of 128 and over the logarithm of two. -/
def scl : FVec Ideal S_ .f32 :=
  Host.divf (constant S_ FTy.f32 0x3F800000#32) (mulf (Host.sqrt (constant S_ FTy.f32 0x43000000#32)) (Host.log (constant S_ FTy.f32 0x40000000#32)))

/-- The scale as a real. -/
def sc : ℝ := 1 / (Real.sqrt 128 * Real.log 2)

theorem sc_pos : 0 < sc := by
  unfold sc
  have := Real.log_pos (by norm_num : (1 : ℝ) < 2)
  positivity

theorem w128 : Ideal.ofBits .f32 0x43000000#32 = ((128 : ℝ) : EReal) := by
  simp [Ideal.ofBits, Ideal.ieee, -EReal.coe_mul]; norm_num
theorem w2 : Ideal.ofBits .f32 0x40000000#32 = ((2 : ℝ) : EReal) := by
  simp [Ideal.ofBits, Ideal.ieee, -EReal.coe_mul]; norm_num

theorem scl_apply (j : S_.Idx) : scl j = (sc : EReal) := by
  have hl := Real.log_pos (by norm_num : (1 : ℝ) < 2)
  have e : Ideal.div 1 (Ideal.sqrt (Ideal.ofBits .f32 0x43000000#32) * Ideal.log (Ideal.ofBits .f32 0x40000000#32)) = (sc : EReal) := by
    rw [w128, w2]
    have e1 : Ideal.sqrt ((128 : ℝ) : EReal) = ((Real.sqrt 128 : ℝ) : EReal) := if_neg (by norm_num)
    have e2 : Ideal.log ((2 : ℝ) : EReal) = ((Real.log 2 : ℝ) : EReal) := if_neg (by norm_num)
    rw [e1, e2, ← EReal.coe_mul, Ideal.div_coe (by positivity), one_mul]
    rfl
  unfold scl
  pointwise
  exact e

/-- One over the logarithm of two: the biases' factor. -/
def ill : FVec Ideal S_ .f32 := Host.divf (constant S_ FTy.f32 0x3F800000#32) (Host.log (constant S_ FTy.f32 0x40000000#32))

/-- The biases' factor as a real. -/
def il : ℝ := 1 / Real.log 2

theorem ill_apply (j : S_.Idx) : ill j = (il : EReal) := by
  have hl := Real.log_pos (by norm_num : (1 : ℝ) < 2)
  have e : Ideal.div 1 (Ideal.log (Ideal.ofBits .f32 0x40000000#32)) = (il : EReal) := by
    rw [w2]
    have e2 : Ideal.log ((2 : ℝ) : EReal) = ((Real.log 2 : ℝ) : EReal) := if_neg (by norm_num)
    rw [e2, Ideal.div_coe (by positivity), one_mul]
    rfl
  unfold ill
  pointwise
  exact e

/-- The queries, keys and values side by side. -/
def proj (x0 x1 x2 : Vec Ideal S4x4096x8x128 .f32) : Vec Ideal S16384x3072 .bf16 :=
  truncf (F := Ideal) .bf16 (concatenate S16384x3072 1
    [⟨S16384x1024, shapeCast S16384x1024 (mulf (F := Ideal) (φ := .f32) x0 (broadcastInDim S4x4096x8x128 ![] bcast_S_S4x4096x8x128 scl)) shapeCasts_S4x4096x8x128_S16384x1024⟩,
     ⟨S16384x1024, shapeCast S16384x1024 x1 shapeCasts_S4x4096x8x128_S16384x1024⟩,
     ⟨S16384x1024, shapeCast S16384x1024 x2 shapeCasts_S4x4096x8x128_S16384x1024⟩]
    concatenates_S16384x1024_S16384x1024_S16384x1024_S16384x3072_d1) bitsLt_bf16_f32

/-- The gates in base two, one row per position, over 128 lanes. -/
def c128 (x3 : Vec Ideal S4x4096x8 .f32) : Vec Ideal S16384x128 .f32 :=
  concatenate S16384x128 1
    [⟨S16384x8, shapeCast S16384x8 (mulf (F := Ideal) (φ := .f32) x3 (broadcastInDim S4x4096x8 ![] bcast_S_S4x4096x8 ill)) shapeCasts_S4x4096x8_S16384x8⟩,
     ⟨S16384x120, broadcastInDim S16384x120 ![] bcast_S_S16384x120 (constant (F := Ideal) S_ .f32 0x00000000#32)⟩]
    concatenates_S16384x8_S16384x120_S16384x128_d1

/-- The same with the second group's lanes first. -/
def r128 (x3 : Vec Ideal S4x4096x8 .f32) : Vec Ideal S16384x128 .f32 :=
  concatenate S16384x128 1
    [⟨S16384x124, extractStridedSlice S16384x124 ![0, 4] (c128 x3) slices_S16384x128_S16384x124_0_4⟩,
     ⟨S16384x4, extractStridedSlice S16384x4 ![0, 0] (c128 x3) slices_S16384x128_S16384x4_0_0⟩]
    concatenates_S16384x124_S16384x4_S16384x128_d1

/-- The keys' biases, a slab per head group. -/
def ckh (x3 : Vec Ideal S4x4096x8 .f32) : Vec Ideal S2x16384x128 .f32 :=
  concatenate S2x16384x128 0
    [⟨S1x16384x128, broadcastInDim S1x16384x128 ![1, 2] bcast_S16384x128_S1x16384x128_1_2 (c128 x3)⟩,
     ⟨S1x16384x128, broadcastInDim S1x16384x128 ![1, 2] bcast_S16384x128_S1x16384x128_1_2 (r128 x3)⟩]
    concatenates_S1x16384x128_S1x16384x128_S2x16384x128_d0

/-- The queries' biases, a row per batch and head. -/
def cqh (x3 : Vec Ideal S4x4096x8 .f32) : Vec Ideal S4x8x1x4096 .f32 :=
  shapeCast S4x8x1x4096 (transpose S4x8x4096 [0, 2, 1] (shapeCast S4x4096x8 (extractStridedSlice S16384x8 ![0, 0]
    (shapeCast S16384x128 (extractStridedSlice S1x16384x128 ![0, 0, 0] (ckh x3) slices_S2x16384x128_S1x16384x128_0_0_0) shapeCasts_S1x16384x128_S16384x128)
    slices_S16384x128_S16384x8_0_0) shapeCasts_S16384x8_S4x4096x8) transposes_S4x4096x8_S4x8x4096_0_2_1) shapeCasts_S4x8x4096_S4x8x1x4096

section
variable (m : (ℓ : Loc nD τ sig) → Buf (Elt Ideal) ℓ) (c : Dev nD)

theorem up6 : StableHlo.upto hostOps0 (fun b => m (c, b)) 12 (Proc.tc.devRef main_v6)
    = shapeCast S16384x1024 (mulf (F := Ideal) (φ := .f32) (m ((c : Thread nD τ).loc main_arg0)) (broadcastInDim S4x4096x8x128 ![] bcast_S_S4x4096x8x128 scl)) shapeCasts_S4x4096x8x128_S16384x1024 := by
  after_reads_simp
  rfl
theorem up7 : StableHlo.upto hostOps0 (fun b => m (c, b)) 12 (Proc.tc.devRef main_v7)
    = shapeCast S16384x1024 (m ((c : Thread nD τ).loc main_arg1)) shapeCasts_S4x4096x8x128_S16384x1024 := by
  after_reads_simp
  try rfl
theorem up8 : StableHlo.upto hostOps0 (fun b => m (c, b)) 12 (Proc.tc.devRef main_v8)
    = shapeCast S16384x1024 (m ((c : Thread nD τ).loc main_arg2)) shapeCasts_S4x4096x8x128_S16384x1024 := by
  after_reads_simp
  try rfl
/-- The packed array the kernel reads its queries, keys and values from. -/
theorem V10 : V m c main_v10 = proj (m ((c : Thread nD τ).loc main_arg0)) (m ((c : Thread nD τ).loc main_arg1)) (m ((c : Thread nD τ).loc main_arg2)) := by
  unfold V
  after_reads_simp
  simp only [Matrix.cons_val]
  rw [up6, up7, up8]
  rfl
theorem up14 : StableHlo.upto hostOps0 (fun b => m (c, b)) 21 (Proc.tc.devRef main_v14)
    = shapeCast S16384x8 (mulf (F := Ideal) (φ := .f32) (m ((c : Thread nD τ).loc main_arg3)) (broadcastInDim S4x4096x8 ![] bcast_S_S4x4096x8 ill)) shapeCasts_S4x4096x8_S16384x8 := by
  after_reads_simp
  rfl
theorem up15 : StableHlo.upto hostOps0 (fun b => m (c, b)) 21 (Proc.tc.devRef main_v15)
    = broadcastInDim S16384x120 ![] bcast_S_S16384x120 (constant (F := Ideal) S_ .f32 0x00000000#32) := by
  after_reads_simp
theorem up17 : StableHlo.upto hostOps0 (fun b => m (c, b)) 24 (Proc.tc.devRef main_v17)
    = extractStridedSlice S16384x124 ![0, 4] (c128 (m ((c : Thread nD τ).loc main_arg3))) slices_S16384x128_S16384x124_0_4 := by
  after_reads_simp
  rw [up14, up15]
  rfl
theorem up18 : StableHlo.upto hostOps0 (fun b => m (c, b)) 24 (Proc.tc.devRef main_v18)
    = extractStridedSlice S16384x4 ![0, 0] (c128 (m ((c : Thread nD τ).loc main_arg3))) slices_S16384x128_S16384x4_0_0 := by
  after_reads_simp
  rw [up14, up15]
  rfl
theorem up20 : StableHlo.upto hostOps0 (fun b => m (c, b)) 27 (Proc.tc.devRef main_v20)
    = broadcastInDim S1x16384x128 ![1, 2] bcast_S16384x128_S1x16384x128_1_2 (c128 (m ((c : Thread nD τ).loc main_arg3))) := by
  after_reads_simp
  rw [up14, up15]
  rfl
theorem up21 : StableHlo.upto hostOps0 (fun b => m (c, b)) 27 (Proc.tc.devRef main_v21)
    = broadcastInDim S1x16384x128 ![1, 2] bcast_S16384x128_S1x16384x128_1_2 (r128 (m ((c : Thread nD τ).loc main_arg3))) := by
  after_reads_simp
  rw [up17, up18]
  rfl
/-- The keys' biases the kernel is launched on. -/
theorem V22 : V m c main_v22 = ckh (m ((c : Thread nD τ).loc main_arg3)) := by
  unfold V
  after_reads_simp
  rw [up20, up21]
  rfl
/-- The queries' biases the kernel is launched on. -/
theorem V28 : V m c main_v28 = cqh (m ((c : Thread nD τ).loc main_arg3)) := by
  unfold V
  after_reads_simp
  rw [up20, up21]
  rfl
end

section
variable (x0 x1 x2 : Vec Ideal S4x4096x8x128 .f32) (x3 : Vec Ideal S4x4096x8 .f32)
  (b : Fin 4) (s : Fin 4096) (H : Fin 8)

/-- The queries' lanes: scaled. -/
theorem proj_q (d : Fin 128) :
    proj x0 x1 x2 (ix2 (⟨4096 * b.val + s.val, by omega⟩ : Fin 16384) (⟨128 * H.val + d.val, by omega⟩ : Fin 3072)) = (x0 (ix4 b s H d) : EReal) * sc := by
  have hd := d.isLt
  have hH := H.isLt
  unfold proj
  pointwise
  simp only [scl_apply]
  rw [dif_pos (by omega)]
/-- The keys' lanes. -/
theorem proj_k (d : Fin 128) :
    proj x0 x1 x2 (ix2 (⟨4096 * b.val + s.val, by omega⟩ : Fin 16384) (⟨1024 + (128 * H.val + d.val), by omega⟩ : Fin 3072)) = x1 (ix4 b s H d) := by
  have hd := d.isLt
  have hH := H.isLt
  unfold proj
  pointwise
  rw [dif_pos (by omega)]
/-- The values' lanes. -/
theorem proj_v (d : Fin 128) :
    proj x0 x1 x2 (ix2 (⟨4096 * b.val + s.val, by omega⟩ : Fin 16384) (⟨2048 + (128 * H.val + d.val), by omega⟩ : Fin 3072)) = x2 (ix4 b s H d) := by
  have hd := d.isLt
  have hH := H.isLt
  unfold proj
  pointwise
  have e1 : (2048 + (128 * H.val + d.val) - 1024 - 1024) / 128 = H.val := by omega
  have e2 : (2048 + (128 * H.val + d.val) - 1024 - 1024) % 128 = d.val := by omega
  rw [dif_neg (by omega), dif_neg (by omega)]
  simp only [e1, e2]
/-- The gates in base two, one row per position. -/
theorem c128_apply :
    c128 x3 (ix2 (⟨4096 * b.val + s.val, by omega⟩ : Fin 16384) (⟨H.val, by omega⟩ : Fin 128)) = (x3 (ix3 b s H) : EReal) * il := by
  have hH := H.isLt
  unfold c128
  pointwise
  simp only [ill_apply]
/-- The second slab's first four lanes are the second group's. -/
theorem r128_apply (h : Fin 4) :
    r128 x3 (ix2 (⟨4096 * b.val + s.val, by omega⟩ : Fin 16384) (⟨h.val, by omega⟩ : Fin 128)) = c128 x3 (ix2 (⟨4096 * b.val + s.val, by omega⟩ : Fin 16384) (⟨4 + h.val, by omega⟩ : Fin 128)) := by
  have hh := h.isLt
  unfold r128
  pointwise
  rw [dif_pos (by omega)]
/-- The keys' bias of head `h` of group `g`. -/
theorem ckh_apply (g : Fin 2) (h : Fin 4) :
    ckh x3 (ix3 g (⟨4096 * b.val + s.val, by omega⟩ : Fin 16384) (⟨h.val, by omega⟩ : Fin 128)) = (x3 (ix3 b s (⟨4 * g.val + h.val, by omega⟩ : Fin 8)) : EReal) * il := by
  have hh := h.isLt
  rw [← c128_apply]
  unfold ckh
  fin_cases g
  · pointwise
  · pointwise
    exact r128_apply x3 b s h
/-- The queries' bias. -/
theorem cqh_apply :
    cqh x3 (ix4 b H 0 s) = (x3 (ix3 b s H) : EReal) * il := by
  have hH := H.isLt
  rw [← c128_apply]
  unfold cqh ckh
  pointwise
  refine congrArg (c128 x3) ?_
  funext a
  fin_cases a
  · apply Fin.ext; show b.val * 4096 + s.val = 4096 * b.val + s.val; omega
  · rfl
end
end Cert.FoxIdeal.Step
-- ==== Proof.FoxSums.lean ====
module
public import proofs.«01_k».proof.Proof.Flash
public import proofs.«01_k».proof.Proof.FoxLoop
@[expose] public section
noncomputable section
namespace Cert.FoxIdeal.Step
open Cert.KernelIdeal.Step (mul_sum_coe sum_coe Sc exp2_sub Inv step_inv div_cancel mxf acf)
open Cert.FoxIdeal Cert.FoxIdeal.Gen Idealize.ShloMosaic Idealize.ShloMosaic.TcCoe Idealize.SL.Sem Idealize.ShloMosaic.Tactic

/-! # What one grid point's rows are: a weighted sum over all 4096 keys, over the sum of the weights -/

/-- A real goes into the greatest of finitely many extended reals. -/
theorem sup_add (w : ℝ) (s : Fin 512 → EReal) : Finset.univ.sup s + (w : EReal) = Finset.univ.sup fun x => s x + (w : EReal) := by
  have hm : Monotone fun z : EReal => z + (w : EReal) := fun a b h => by dsimp only; gcongr
  exact Finset.comp_sup_eq_sup_comp (fun z : EReal => z + (w : EReal)) (fun a b => hm.map_max) (EReal.bot_add _)

/-- With a real bias the next maximum is that of the scores with the bias added. -/
theorem mxb_eq (w : ℝ) (m : EReal) (s : Fin 512 → EReal) : mxb (w : EReal) m s = mxf m fun x => s x + (w : EReal) := by
  unfold mxb mxf
  rw [sup_add]

/-- With a real bias the next sum is that of the scores with the bias added. -/
theorem acb_eq (w : ℝ) (m a : EReal) (s v : Fin 512 → EReal) : acb (w : EReal) m a s v = acf m a (fun x => s x + (w : EReal)) v := by
  unfold acb acf
  rw [mxb_eq]
  refine congrArg _ (Finset.sum_congr rfl fun x _ => ?_)
  refine congrArg (fun z => v x * Ideal.exp2 z) ?_
  rw [sub_eq_add_neg, EReal.neg_sub (Or.inr (EReal.coe_ne_bot w)) (Or.inr (EReal.coe_ne_top w)), sub_eq_add_neg, add_comm (-_ : EReal), add_assoc]

section
variable (K : Vec Ideal S4096x512 .bf16) (Q : Vec Ideal S512x512 .bf16) (G : Vec Ideal S1x4096x128 .f32) (U : Vec Ideal S1x4x1x512 .f32) (VT : Vec Ideal S4x8x144x512 .bf16) (h : Fin 4) (i : Fin 8) (r : Fin 512)
  (S : Fin 8 → Fin 512 → ℝ) (w : ℝ)

/-- The weight of key `x` of block `j` for query row `r` of block `i`: two to the score, if the key comes
no later than the query, else zero. -/
def wt (j : Fin 8) (x : Fin 512) : ℝ :=
  if 512 * j.val + x.val ≤ 512 * i.val + r.val then Real.rpow 2 (S j x) else 0

/-- The weighted sum of the first `n` blocks. -/
def part (d : Fin 144) (n : ℕ) : EReal :=
  ∑ j : Fin 8, if j.val < n then ∑ x : Fin 512, VT (ix4 h j d x) * Ideal.exp2 (S j x : EReal) else 0

theorem part_zero (d : Fin 144) : part VT h S d 0 = 0 := by simp [part]

theorem part_succ (d : Fin 144) (n : ℕ) (hn : n < 8) :
    part VT h S d (n + 1) = part VT h S d n + ∑ x : Fin 512, VT (ix4 h ⟨n, hn⟩ d x) * Ideal.exp2 (S ⟨n, hn⟩ x : EReal) := by
  unfold part
  have e : ∀ j : Fin 8, (if j.val < n + 1 then ∑ x : Fin 512, VT (ix4 h j d x) * Ideal.exp2 (S j x : EReal) else 0)
      = (if j.val < n then ∑ x : Fin 512, VT (ix4 h j d x) * Ideal.exp2 (S j x : EReal) else 0)
        + (if j = ⟨n, hn⟩ then ∑ x : Fin 512, VT (ix4 h j d x) * Ideal.exp2 (S j x : EReal) else 0) := by
    intro j
    by_cases h1 : j.val < n
    · rw [if_pos (by omega), if_pos h1, if_neg (fun e => by rw [e] at h1; exact lt_irrefl _ h1), add_zero]
    · by_cases h2 : j = ⟨n, hn⟩
      · rw [if_pos (by rw [h2]; exact Nat.lt_succ_self n), if_neg h1, if_pos h2, zero_add]
      · rw [if_neg (fun h3 => h2 (Fin.ext (by show j.val = n; omega))), if_neg h1, if_neg h2, zero_add]
  rw [Finset.sum_congr rfl fun j _ => e j, Finset.sum_add_distrib, Finset.sum_ite_eq' Finset.univ (⟨n, hn⟩ : Fin 8)]
  simp only [Finset.mem_univ, if_true]

/-- After `n` key blocks the running maximum and sums stand for the weighted sums of those blocks. -/
theorem loop_inv (hU : U (ix4 0 h 0 r) = (w : EReal)) (hS : ∀ j x, scf K Q G h j r x + (w : EReal) = (S j x : EReal)) (n : ℕ) (hn : n ≤ 8) (d : Fin 144) :
    Inv (stM K Q G U h r n) (stA K Q G U VT h d r n) (part VT h S d n) := by
  induction n with
  | zero => exact Or.inl ⟨rfl, rfl, part_zero VT h S d⟩
  | succ n ih =>
    have hn' : n < 8 := by omega
    have hs : (fun x => scf K Q G h ⟨n, hn'⟩ r x + (w : EReal)) = fun x => (S ⟨n, hn'⟩ x : EReal) := funext fun x => hS _ x
    obtain ⟨μ, h1, h2⟩ := step_inv _ _ _ (fun x => (S ⟨n, hn'⟩ x : EReal)) (fun x => VT (ix4 h ⟨n, hn'⟩ d x)) (ih (by omega))
      (fun x => Or.inr ⟨_, rfl⟩) 0 _ rfl
    refine Or.inr ⟨μ, ?_, ?_⟩
    · show (if hn : n < 8 then mxb (U (ix4 0 h 0 r)) (stM K Q G U h r n) (scf K Q G h ⟨n, hn⟩ r) else stM K Q G U h r n) = _
      rw [dif_pos hn', hU, mxb_eq, hs]; exact h1
    · show (if hn : n < 8 then acb (U (ix4 0 h 0 r)) (stM K Q G U h r n) (stA K Q G U VT h d r n) (scf K Q G h ⟨n, hn⟩ r) (fun x => VT (ix4 h ⟨n, hn⟩ d x))
        else stA K Q G U VT h d r n) = _
      rw [dif_pos hn', hU, acb_eq, hs, part_succ VT h S d n hn']; exact h2

/-- The blocks before the query's own and its own under the mask are all the keys under the mask. -/
theorem whole (d : Fin 144) (hU : U (ix4 0 h 0 r) = (w : EReal)) (hS : ∀ j x, scf K Q G h j r x + (w : EReal) = (S j x : EReal)) :
    part VT h S d i.val + ∑ x : Fin 512, VT (ix4 h i d x) * Ideal.exp2 (scm K Q G h i r x + (w : EReal))
      = ∑ j : Fin 8, ∑ x : Fin 512, VT (ix4 h j d x) * (wt i r S j x : EReal) := by
  have e : ∀ j : Fin 8, (∑ x : Fin 512, VT (ix4 h j d x) * (wt i r S j x : EReal))
      = (if j.val < i.val then ∑ x : Fin 512, VT (ix4 h j d x) * Ideal.exp2 (S j x : EReal) else 0)
        + (if j = i then ∑ x : Fin 512, VT (ix4 h j d x) * Ideal.exp2 (scm K Q G h j r x + (w : EReal)) else 0) := by
    intro j
    by_cases h1 : j.val < i.val
    · rw [if_pos h1, if_neg (fun e => by rw [e] at h1; exact lt_irrefl _ h1), add_zero]
      refine Finset.sum_congr rfl fun x _ => ?_
      have hx := x.isLt
      unfold wt
      rw [if_pos (by omega), Ideal.exp2_coe]
    · by_cases h2 : j = i
      · subst h2
        rw [if_neg h1, if_pos rfl, zero_add]
        refine Finset.sum_congr rfl fun x _ => ?_
        have hx := x.isLt
        have hr := r.isLt
        unfold wt scm
        by_cases h3 : x.val ≤ r.val
        · rw [if_pos (by omega), if_pos h3, hS, Ideal.exp2_coe]
        · rw [if_neg (by omega), if_neg h3, EReal.bot_add, Ideal.exp2_bot, EReal.coe_zero]
      · rw [if_neg h1, if_neg h2, zero_add]
        refine Finset.sum_eq_zero fun x _ => ?_
        have hx := x.isLt
        have hr := r.isLt
        have hne : j.val ≠ i.val := fun e => h2 (Fin.ext e)
        unfold wt
        rw [if_neg (by omega), EReal.coe_zero, mul_zero]
  rw [Finset.sum_congr rfl fun j _ => e j, Finset.sum_add_distrib, Finset.sum_ite_eq' Finset.univ i]
  simp only [Finset.mem_univ, if_true]
  rfl

/-- The final sums share one positive factor. -/
theorem fin_sum (hU : U (ix4 0 h 0 r) = (w : EReal)) (hS : ∀ j x, scf K Q G h j r x + (w : EReal) = (S j x : EReal)) : ∃ μ : ℝ, ∀ d : Fin 144,
    fin K Q G U VT h i r d = ((Real.rpow 2 (-μ) : ℝ) : EReal) * ∑ j : Fin 8, ∑ x : Fin 512, VT (ix4 h j d x) * (wt i r S j x : EReal) := by
  have hsc : ∀ x, Sc (scm K Q G h i r x + (w : EReal)) := by
    intro x
    unfold scm
    split
    · exact Or.inr ⟨_, hS i x⟩
    · exact Or.inl (EReal.bot_add _)
  have h0 : scm K Q G h i r r + (w : EReal) = (S i r : EReal) := by
    unfold scm
    rw [if_pos le_rfl, hS]
  have key := fun d => step_inv _ _ _ (fun x => scm K Q G h i r x + (w : EReal)) (fun x => VT (ix4 h i d x)) (loop_inv K Q G U VT h r S w hU hS i.val (by omega) d) hsc r _ h0
  obtain ⟨μ, hμ, -⟩ := key 0
  refine ⟨μ, fun d => ?_⟩
  unfold fin
  rw [hU, acb_eq]
  obtain ⟨ν, h1, h2⟩ := key d
  have : ν = μ := by rw [hμ] at h1; exact (EReal.coe_eq_coe_iff.1 h1).symm
  subst this
  rw [← whole K Q G U VT h i r S w d hU hS]
  exact h2

/-- The sum of the weights is positive: the query's own key has a positive weight. -/
theorem wt_pos : 0 < ∑ j : Fin 8, ∑ x : Fin 512, wt i r S j x := by
  have hnn : ∀ j x, 0 ≤ wt i r S j x := by
    intro j x
    unfold wt
    split
    · exact Real.rpow_nonneg (by norm_num) _
    · exact le_rfl
  refine Finset.sum_pos' (fun j _ => Finset.sum_nonneg fun x _ => hnn j x) ⟨i, Finset.mem_univ _, ?_⟩
  refine Finset.sum_pos' (fun x _ => hnn i x) ⟨r, Finset.mem_univ _, ?_⟩
  unfold wt
  rw [if_pos le_rfl]
  exact Real.rpow_pos_of_pos (by norm_num) _

/-- The quotient the kernel stores, where row 128 of the transposed values holds ones. -/
theorem fin_div (hU : U (ix4 0 h 0 r) = (w : EReal)) (hS : ∀ j x, scf K Q G h j r x + (w : EReal) = (S j x : EReal)) (hone : ∀ j x, VT (ix4 h j (128 : Fin 144) x) = (1 : EReal)) (d : Fin 144) :
    Ideal.div (fin K Q G U VT h i r d) (fin K Q G U VT h i r 128)
      = (∑ j : Fin 8, ∑ x : Fin 512, VT (ix4 h j d x) * (wt i r S j x : EReal)) * ((1 / (∑ j : Fin 8, ∑ x : Fin 512, wt i r S j x) : ℝ) : EReal) := by
  obtain ⟨μ, hμ⟩ := fin_sum K Q G U VT h i r S w hU hS
  rw [hμ d, hμ 128]
  have e : (∑ j : Fin 8, ∑ x : Fin 512, VT (ix4 h j (128 : Fin 144) x) * (wt i r S j x : EReal)) = ((∑ j : Fin 8, ∑ x : Fin 512, wt i r S j x : ℝ) : EReal) := by
    rw [← sum_coe]
    refine Finset.sum_congr rfl fun j _ => ?_
    rw [← sum_coe]
    exact Finset.sum_congr rfl fun x _ => by rw [hone, one_mul]
  rw [e]
  exact div_cancel _ _ (Real.rpow_pos_of_pos (by norm_num) _) (wt_pos i r S) _
end
end Cert.FoxIdeal.Step
-- ==== Proof.Trip.lean ====
module
public import proofs.«01_k».proof.Proof.Step
@[expose] public section
set_option maxRecDepth 16384
noncomputable section
namespace Cert.KernelIdeal.Step
open Cert.KernelIdeal Cert.KernelIdeal.Gen Idealize.ShloMosaic Idealize.ShloMosaic.TcCoe Idealize.SL.Sem Idealize.ShloMosaic.Tactic

/-! # One trip of the loop over the key blocks below the diagonal -/

/-- The score of key row `a` of key block `j` with query row `r`, for head `h`, over the head's 256 lanes. -/
def scf (K : Vec Ideal S4096x1024 .bf16) (Q : Vec Ideal S512x1024 .bf16) (h : Fin 4) (j : Fin 8) (r a : Fin 512) : EReal :=
  ∑ e : Fin 256, K (ix2 (⟨512 * j.val + a.val, by omega⟩ : Fin 4096) (⟨256 * h.val + e.val, by omega⟩ : Fin 1024))
    * Q (ix2 r (⟨256 * h.val + e.val, by omega⟩ : Fin 1024))

theorem trips1 : ∀ i : grid0.Coords, (k0_t1_loop i).trips = (i 2).val := by decide +kernel
theorem trips2 : ∀ i : grid0.Coords, (k0_t2_loop i).trips = 0 := by decide +kernel

section
variable (𝒱 : Variants) (c : Dev nD) (bd : Option 𝒱.V) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x512 .bf16) (harg5 : arg5.IsWhole) (arg6 : Memref sig .tc .vmem S512x512 .bf16) (harg6 : arg6.IsWhole) (arg7 : Memref sig .tc .vmem S4x1x512 .f32) (harg7 : arg7.IsWhole) (arg8 : Memref sig .tc .vmem S4x144x512 .f32) (harg8 : arg8.IsWhole) (arg9 : Memref sig .tc .vmem S4x8x144x512 .bf16) (harg9 : arg9.IsWhole)
  (X3 : BufTy.Contents (Elt Ideal) arg3.view.ty) (X4 : BufTy.Contents (Elt Ideal) arg4.view.ty) (X9 : BufTy.Contents (Elt Ideal) arg9.view.ty)
  (k : Fin (k0_t1_loop i).trips) (f7 : BufTy.Contents (Elt Ideal) arg7.view.ty) (f8 : BufTy.Contents (Elt Ideal) arg8.view.ty)

include k in
theorem trip_lt : k.val < 8 := by
  exact lt_of_lt_of_le k.isLt (by rw [trips1]; exact (i 2).isLt.le)

/-- A load of the block of 256 lanes at row `512 k` of the keys, at an index. -/
theorem ld_k (off : Fin 2 → ℕ) (h : Fin 4) (j : Fin 8) (he : off = ![512 * j.val, 256 * h.val]) (inb) (f : BufTy.Contents (Elt Ideal) arg4.view.ty) (a : Fin 512) (e : Fin 256) :
    View.readAt (Elt Ideal) arg4.view (Rect.unit (s := S4096x1024) off S512x256.size inb).toLoadRect f (ix2 a e)
      = arg4.view.read (Elt Ideal) f (ix2 (⟨512 * j.val + a.val, by omega⟩ : Fin 4096) (⟨256 * h.val + e.val, by omega⟩ : Fin 1024)) := by
  subst he
  rw [View.readAt_eq_ld]
  pointwise

/-- A load of a head's 256 lanes of the queries, at an index. -/
theorem ld_q (off : Fin 2 → ℕ) (h : Fin 4) (he : off = ![0, 256 * h.val]) (inb) (f : BufTy.Contents (Elt Ideal) arg3.view.ty) (a : Fin 512) (e : Fin 256) :
    View.readAt (Elt Ideal) arg3.view (Rect.unit (s := S512x1024) off S512x256.size inb).toLoadRect f (ix2 a e)
      = arg3.view.read (Elt Ideal) f (ix2 a (⟨256 * h.val + e.val, by omega⟩ : Fin 1024)) := by
  subst he
  rw [View.readAt_eq_ld]
  pointwise

/-- A load of a head's maxima. -/
theorem ld_m (off : Fin 3 → ℕ) (h : Fin 4) (he : off = ![h.val, 0, 0]) (inb) (f : BufTy.Contents (Elt Ideal) arg7.view.ty) (r : Fin 512) :
    View.readAt (Elt Ideal) arg7.view (Rect.unit (s := S4x1x512) off S1x1x512.size inb).toLoadRect f (ix3 0 0 r)
      = arg7.view.read (Elt Ideal) f (ix3 h 0 r) := by
  subst he
  rw [View.readAt_eq_ld]
  pointwise

/-- A load of a head's sums. -/
theorem ld_a (off : Fin 3 → ℕ) (h : Fin 4) (he : off = ![h.val, 0, 0]) (inb) (f : BufTy.Contents (Elt Ideal) arg8.view.ty) (d : Fin 144) (r : Fin 512) :
    View.readAt (Elt Ideal) arg8.view (Rect.unit (s := S4x144x512) off S1x144x512.size inb).toLoadRect f (ix3 0 d r)
      = arg8.view.read (Elt Ideal) f (ix3 h d r) := by
  subst he
  rw [View.readAt_eq_ld]
  pointwise

/-- A load of a head's transposed values of block `j`. -/
theorem ld_v (off : Fin 4 → ℕ) (h : Fin 4) (j : Fin 8) (he : off = ![h.val, j.val, 0, 0]) (inb) (f : BufTy.Contents (Elt Ideal) arg9.view.ty) (d : Fin 144) (r : Fin 512) :
    View.readAt (Elt Ideal) arg9.view (Rect.unit (s := S4x8x144x512) off S1x1x144x512.size inb).toLoadRect f (ix4 0 0 d r)
      = arg9.view.read (Elt Ideal) f (ix4 h j d r) := by
  subst he
  rw [View.readAt_eq_ld]
  pointwise

theorem ld_score (ko : Fin 2 → ℕ) (qo : Fin 2 → ℕ) (h : Fin 4) (j : Fin 8) (hk : ko = ![512 * j.val, 256 * h.val]) (hq : qo = ![0, 256 * h.val]) (ik) (iq) (r a : Fin 512) :
    k0_pay75 (F := Ideal) (View.readAt (Elt Ideal) arg4.view (Rect.unit (s := S4096x1024) ko S512x256.size ik).toLoadRect X4)
      (View.readAt (Elt Ideal) arg3.view (Rect.unit (s := S512x1024) qo S512x256.size iq).toLoadRect X3) (ix2 a r)
      = scf (arg4.view.read (Elt Ideal) X4) (arg3.view.read (Elt Ideal) X3) h j r a := by
  rw [score_apply]
  unfold scf
  refine Finset.sum_congr rfl fun e _ => ?_
  rw [ld_k arg4 ko h j hk, ld_q arg3 qo h hq]

/-- The block of scores of head `h` in trip `k`. -/
def tsc : Fin 4 → FVec Ideal S512x512 .f32 := ![
  k0_pay75 (View.readAt (Elt Ideal) arg4.view (Rect.unit (s := S4096x1024) (k0_off1 i k) S512x256.size (k0_off1_inb i k)).toLoadRect X4) (View.readAt (Elt Ideal) arg3.view (Rect.unit (s := S512x1024) ![0, 0] S512x256.size inb_S512x1024_S512x256_0_0).toLoadRect X3),
  k0_pay75 (View.readAt (Elt Ideal) arg4.view (Rect.unit (s := S4096x1024) (k0_off2 i k) S512x256.size (k0_off2_inb i k)).toLoadRect X4) (View.readAt (Elt Ideal) arg3.view (Rect.unit (s := S512x1024) ![0, 256] S512x256.size inb_S512x1024_S512x256_0_256).toLoadRect X3),
  k0_pay75 (View.readAt (Elt Ideal) arg4.view (Rect.unit (s := S4096x1024) (k0_off3 i k) S512x256.size (k0_off3_inb i k)).toLoadRect X4) (View.readAt (Elt Ideal) arg3.view (Rect.unit (s := S512x1024) ![0, 512] S512x256.size inb_S512x1024_S512x256_0_512).toLoadRect X3),
  k0_pay75 (View.readAt (Elt Ideal) arg4.view (Rect.unit (s := S4096x1024) (k0_off4 i k) S512x256.size (k0_off4_inb i k)).toLoadRect X4) (View.readAt (Elt Ideal) arg3.view (Rect.unit (s := S512x1024) ![0, 768] S512x256.size inb_S512x1024_S512x256_0_768).toLoadRect X3)]

/-- The maxima head `h` loads. -/
def tm : Fin 4 → Vec Ideal S1x1x512 .f32 := ![
  View.readAt (Elt Ideal) arg7.view (Rect.unit (s := S4x1x512) ![0, 0, 0] S1x1x512.size inb_S4x1x512_S1x1x512_0_0_0).toLoadRect f7,
  View.readAt (Elt Ideal) arg7.view (Rect.unit (s := S4x1x512) ![1, 0, 0] S1x1x512.size inb_S4x1x512_S1x1x512_1_0_0).toLoadRect f7,
  View.readAt (Elt Ideal) arg7.view (Rect.unit (s := S4x1x512) ![2, 0, 0] S1x1x512.size inb_S4x1x512_S1x1x512_2_0_0).toLoadRect f7,
  View.readAt (Elt Ideal) arg7.view (Rect.unit (s := S4x1x512) ![3, 0, 0] S1x1x512.size inb_S4x1x512_S1x1x512_3_0_0).toLoadRect f7]

/-- The sums head `h` loads. -/
def ta : Fin 4 → Vec Ideal S1x144x512 .f32 := ![
  View.readAt (Elt Ideal) arg8.view (Rect.unit (s := S4x144x512) ![0, 0, 0] S1x144x512.size inb_S4x144x512_S1x144x512_0_0_0).toLoadRect f8,
  View.readAt (Elt Ideal) arg8.view (Rect.unit (s := S4x144x512) ![1, 0, 0] S1x144x512.size inb_S4x144x512_S1x144x512_1_0_0).toLoadRect f8,
  View.readAt (Elt Ideal) arg8.view (Rect.unit (s := S4x144x512) ![2, 0, 0] S1x144x512.size inb_S4x144x512_S1x144x512_2_0_0).toLoadRect f8,
  View.readAt (Elt Ideal) arg8.view (Rect.unit (s := S4x144x512) ![3, 0, 0] S1x144x512.size inb_S4x144x512_S1x144x512_3_0_0).toLoadRect f8]

/-- The transposed values head `h` loads. -/
def tv : Fin 4 → Vec Ideal S1x1x144x512 .bf16 := ![
  View.readAt (Elt Ideal) arg9.view (Rect.unit (s := S4x8x144x512) (k0_off5 i k) S1x1x144x512.size (k0_off5_inb i k)).toLoadRect X9,
  View.readAt (Elt Ideal) arg9.view (Rect.unit (s := S4x8x144x512) (k0_off6 i k) S1x1x144x512.size (k0_off6_inb i k)).toLoadRect X9,
  View.readAt (Elt Ideal) arg9.view (Rect.unit (s := S4x8x144x512) (k0_off7 i k) S1x1x144x512.size (k0_off7_inb i k)).toLoadRect X9,
  View.readAt (Elt Ideal) arg9.view (Rect.unit (s := S4x8x144x512) (k0_off8 i k) S1x1x144x512.size (k0_off8_inb i k)).toLoadRect X9]

/-- The stores of one trip: per head, the new maxima and the new sums. -/
theorem trip_list : tripL_k0_t1 (F := Ideal) 𝒱 c bd i arg3 harg3 arg4 harg4 arg5 harg5 arg6 harg6 arg7 harg7 arg8 harg8 arg9 harg9 X3 X4 X9 k f7 f8 =
   ([⟨Rect.unit (s := S4x1x512) ![3, 0, 0] S1x1x512.size inb_S4x1x512_S1x1x512_3_0_0, mNew (tsc i arg3 arg4 X3 X4 k 3) (tm arg7 f7 3)⟩,
     ⟨Rect.unit (s := S4x1x512) ![2, 0, 0] S1x1x512.size inb_S4x1x512_S1x1x512_2_0_0, mNew (tsc i arg3 arg4 X3 X4 k 2) (tm arg7 f7 2)⟩,
     ⟨Rect.unit (s := S4x1x512) ![1, 0, 0] S1x1x512.size inb_S4x1x512_S1x1x512_1_0_0, mNew (tsc i arg3 arg4 X3 X4 k 1) (tm arg7 f7 1)⟩,
     ⟨Rect.unit (s := S4x1x512) ![0, 0, 0] S1x1x512.size inb_S4x1x512_S1x1x512_0_0_0, mNew (tsc i arg3 arg4 X3 X4 k 0) (tm arg7 f7 0)⟩],
    [⟨Rect.unit (s := S4x144x512) ![3, 0, 0] S1x144x512.size inb_S4x144x512_S1x144x512_3_0_0, aNew (tsc i arg3 arg4 X3 X4 k 3) (tm arg7 f7 3) (tv i arg9 X9 k 3) (ta arg8 f8 3)⟩,
     ⟨Rect.unit (s := S4x144x512) ![2, 0, 0] S1x144x512.size inb_S4x144x512_S1x144x512_2_0_0, aNew (tsc i arg3 arg4 X3 X4 k 2) (tm arg7 f7 2) (tv i arg9 X9 k 2) (ta arg8 f8 2)⟩,
     ⟨Rect.unit (s := S4x144x512) ![1, 0, 0] S1x144x512.size inb_S4x144x512_S1x144x512_1_0_0, aNew (tsc i arg3 arg4 X3 X4 k 1) (tm arg7 f7 1) (tv i arg9 X9 k 1) (ta arg8 f8 1)⟩,
     ⟨Rect.unit (s := S4x144x512) ![0, 0, 0] S1x144x512.size inb_S4x144x512_S1x144x512_0_0_0, aNew (tsc i arg3 arg4 X3 X4 k 0) (tm arg7 f7 0) (tv i arg9 X9 k 0) (ta arg8 f8 0)⟩]) := by
  unfold tripL_k0_t1 trip_k0_t1
  dsimp only
  rfl

theorem tsc_apply (h : Fin 4) (r a : Fin 512) :
    tsc i arg3 arg4 X3 X4 k h (ix2 a r) = scf (arg4.view.read (Elt Ideal) X4) (arg3.view.read (Elt Ideal) X3) h ⟨k.val, trip_lt i k⟩ r a := by
  fin_cases h
  · exact ld_score arg3 arg4 X3 X4 _ _ 0 ⟨k.val, trip_lt i k⟩ (k0_off1_eq i k) rfl _ _ r a
  · exact ld_score arg3 arg4 X3 X4 _ _ 1 ⟨k.val, trip_lt i k⟩ (k0_off2_eq i k) rfl _ _ r a
  · exact ld_score arg3 arg4 X3 X4 _ _ 2 ⟨k.val, trip_lt i k⟩ (k0_off3_eq i k) rfl _ _ r a
  · exact ld_score arg3 arg4 X3 X4 _ _ 3 ⟨k.val, trip_lt i k⟩ (k0_off4_eq i k) rfl _ _ r a

theorem tm_apply (h : Fin 4) (r : Fin 512) : tm arg7 f7 h (ix3 0 0 r) = arg7.view.read (Elt Ideal) f7 (ix3 h 0 r) := by
  fin_cases h
  · exact ld_m arg7 _ 0 rfl _ f7 r
  · exact ld_m arg7 _ 1 rfl _ f7 r
  · exact ld_m arg7 _ 2 rfl _ f7 r
  · exact ld_m arg7 _ 3 rfl _ f7 r

theorem ta_apply (h : Fin 4) (d : Fin 144) (r : Fin 512) : ta arg8 f8 h (ix3 0 d r) = arg8.view.read (Elt Ideal) f8 (ix3 h d r) := by
  fin_cases h
  · exact ld_a arg8 _ 0 rfl _ f8 d r
  · exact ld_a arg8 _ 1 rfl _ f8 d r
  · exact ld_a arg8 _ 2 rfl _ f8 d r
  · exact ld_a arg8 _ 3 rfl _ f8 d r

theorem tv_apply (h : Fin 4) (d : Fin 144) (r : Fin 512) :
    tv i arg9 X9 k h (ix4 0 0 d r) = arg9.view.read (Elt Ideal) X9 (ix4 h ⟨k.val, trip_lt i k⟩ d r) := by
  fin_cases h
  · exact ld_v arg9 _ 0 ⟨k.val, trip_lt i k⟩ (k0_off5_eq i k) _ X9 d r
  · exact ld_v arg9 _ 1 ⟨k.val, trip_lt i k⟩ (k0_off6_eq i k) _ X9 d r
  · exact ld_v arg9 _ 2 ⟨k.val, trip_lt i k⟩ (k0_off7_eq i k) _ X9 d r
  · exact ld_v arg9 _ 3 ⟨k.val, trip_lt i k⟩ (k0_off8_eq i k) _ X9 d r

/-- The maxima after a trip. -/
theorem trip_read_m (h : Fin 4) (r : Fin 512) :
    arg7.view.read (Elt Ideal) (arg7.view.writes (Elt Ideal) f7 (tripL_k0_t1 (F := Ideal) 𝒱 c bd i arg3 harg3 arg4 harg4 arg5 harg5 arg6 harg6 arg7 harg7 arg8 harg8 arg9 harg9 X3 X4 X9 k f7 f8).1) (ix3 h 0 r)
      = mxf (arg7.view.read (Elt Ideal) f7 (ix3 h 0 r)) (scf (arg4.view.read (Elt Ideal) X4) (arg3.view.read (Elt Ideal) X3) h ⟨k.val, trip_lt i k⟩ r) := by
  rw [trip_list]
  refine (read_m arg7.view f7 _ _ _ _ (fun h => mNew (tsc i arg3 arg4 X3 X4 k h) (tm arg7 f7 h)) h r []).trans ?_
  rw [mNew_apply, tm_apply]
  simp only [tsc_apply]

/-- The sums after a trip. -/
theorem trip_read_a (h : Fin 4) (d : Fin 144) (r : Fin 512) :
    arg8.view.read (Elt Ideal) (arg8.view.writes (Elt Ideal) f8 (tripL_k0_t1 (F := Ideal) 𝒱 c bd i arg3 harg3 arg4 harg4 arg5 harg5 arg6 harg6 arg7 harg7 arg8 harg8 arg9 harg9 X3 X4 X9 k f7 f8).2) (ix3 h d r)
      = acf (arg7.view.read (Elt Ideal) f7 (ix3 h 0 r)) (arg8.view.read (Elt Ideal) f8 (ix3 h d r))
          (scf (arg4.view.read (Elt Ideal) X4) (arg3.view.read (Elt Ideal) X3) h ⟨k.val, trip_lt i k⟩ r)
          (fun x => arg9.view.read (Elt Ideal) X9 (ix4 h ⟨k.val, trip_lt i k⟩ d x)) := by
  rw [trip_list]
  refine (read_a arg8.view f8 _ _ _ _ (fun h => aNew (tsc i arg3 arg4 X3 X4 k h) (tm arg7 f7 h) (tv i arg9 X9 k h) (ta arg8 f8 h)) h d r []).trans ?_
  rw [aNew_apply, tm_apply, ta_apply]
  simp only [tsc_apply, tv_apply]

end
end Cert.KernelIdeal.Step
-- ==== Proof.Loop.lean ====
module
public import proofs.«01_k».proof.Proof.Trip
@[expose] public section
set_option maxRecDepth 16384
noncomputable section
namespace Cert.KernelIdeal.Step
open Cert.KernelIdeal Cert.KernelIdeal.Gen Idealize.ShloMosaic Idealize.ShloMosaic.TcCoe Idealize.SL.Sem Idealize.ShloMosaic.Tactic

/-! # The loop, the diagonal block and the output block of one grid point -/

/-- The maximum of head `h`, query row `r` after the first `n` key blocks. -/
def stM (K : Vec Ideal S4096x1024 .bf16) (Q : Vec Ideal S512x1024 .bf16) (h : Fin 4) (r : Fin 512) : ℕ → EReal
  | 0 => ⊥
  | n + 1 => if hn : n < 8 then mxf (stM K Q h r n) (scf K Q h ⟨n, hn⟩ r) else stM K Q h r n

/-- Sum `d` of head `h`, query row `r` after the first `n` key blocks. -/
def stA (K : Vec Ideal S4096x1024 .bf16) (Q : Vec Ideal S512x1024 .bf16) (VT : Vec Ideal S4x8x144x512 .bf16) (h : Fin 4) (d : Fin 144)
    (r : Fin 512) : ℕ → EReal
  | 0 => 0
  | n + 1 => if hn : n < 8 then acf (stM K Q h r n) (stA K Q VT h d r n) (scf K Q h ⟨n, hn⟩ r) (fun x => VT (ix4 h ⟨n, hn⟩ d x))
      else stA K Q VT h d r n

/-- The masked score of the diagonal block: key chunk at most the query's chunk, else minus infinity. -/
def scm (K : Vec Ideal S4096x1024 .bf16) (Q : Vec Ideal S512x1024 .bf16) (h : Fin 4) (j : Fin 8) (r a : Fin 512) : EReal :=
  if a.val / 64 ≤ r.val / 64 then scf K Q h j r a else ⊥

/-- Sum `d` after the diagonal block `n`. -/
def fin (K : Vec Ideal S4096x1024 .bf16) (Q : Vec Ideal S512x1024 .bf16) (VT : Vec Ideal S4x8x144x512 .bf16) (h : Fin 4) (n : Fin 8) (r : Fin 512)
    (d : Fin 144) : EReal :=
  acf (stM K Q h r n.val) (stA K Q VT h d r n.val) (scm K Q h n r) (fun x => VT (ix4 h n d x))

theorem mask_word : Named.named (F := Ideal) (φ := .f32) κ "mask" 0xF149F2CA#32 = (⊥ : EReal) :=
  IdealRules.named_const.ideal_named_scalar _ _ _ _ rfl

theorem init_m (y : S4x1x512.Idx) : k0_pay133 (F := Ideal) y = ⊥ := by
  idx_vars y
  unfold k0_pay133
  pointwise
  exact mask_word

theorem init_a (y : S4x144x512.Idx) : k0_pay134 (F := Ideal) y = 0 := by
  idx_vars y
  unfold k0_pay134
  pointwise

theorem shr6 (x : Fin 512) : IntOp.shrui ArithUnit.vector (BitVec.ofNat 32 x.val) 6#32 = BitVec.ofNat 32 (x.val / 64) := by
  revert x; decide +kernel

theorem sle8 (p q : Fin 8) : IntOp.cmpi CmpIPredicate.sle (BitVec.ofNat 32 p.val) (BitVec.ofNat 32 q.val) = if p.val ≤ q.val then 1#1 else 0#1 := by
  revert p q; decide +kernel

/-- The chunk mask: key `a` is kept for query `r` when its chunk of 64 is at most the query's. -/
theorem keep_apply (a r : Fin 512) : k0_pay144 (ix2 a r) = if a.val / 64 ≤ r.val / 64 then 1#1 else 0#1 := by
  unfold k0_pay144
  pointwise
  rw [shr6, shr6]
  exact sle8 ⟨a.val / 64, by omega⟩ ⟨r.val / 64, by omega⟩

theorem masked_apply (s : FVec Ideal S512x512 .f32) (a r : Fin 512) :
    k0_pay145 s (ix2 a r) = if a.val / 64 ≤ r.val / 64 then s (ix2 a r) else ⊥ := by
  unfold k0_pay145
  pointwise
  rw [keep_apply, mask_word]
  split <;> rfl

section
variable (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x512 .bf16) (harg5 : arg5.IsWhole) (arg6 : Memref sig .tc .vmem S512x512 .bf16) (harg6 : arg6.IsWhole) (arg7 : Memref sig .tc .vmem S4x1x512 .f32) (harg7 : arg7.IsWhole) (arg8 : Memref sig .tc .vmem S4x144x512 .f32) (harg8 : arg8.IsWhole) (arg9 : Memref sig .tc .vmem S4x8x144x512 .bf16) (harg9 : arg9.IsWhole)
  (X3 : BufTy.Contents (Elt Ideal) arg3.view.ty) (X4 : BufTy.Contents (Elt Ideal) arg4.view.ty) (X9 : BufTy.Contents (Elt Ideal) arg9.view.ty)
  (v15 : BitVec 32)

/-- The whole-buffer stores of the first maxima and sums. -/
abbrev I7 : List (View.Piece (Elt Ideal) S4x1x512 .f32) := [⟨Rect.unit (s := S4x1x512) ![0, 0, 0] S4x1x512.size inb_S4x1x512_S4x1x512_0_0_0, k0_pay133 (F := Ideal)⟩]
abbrev I8 : List (View.Piece (Elt Ideal) S4x144x512 .f32) := [⟨Rect.unit (s := S4x144x512) ![0, 0, 0] S4x144x512.size inb_S4x144x512_S4x144x512_0_0_0, k0_pay134 (F := Ideal)⟩]

/-- The stores of the first `n` trips. -/
def pb (n : ℕ) := pb_k0_t1 (F := Ideal) Variants.none c none i arg3 harg3 arg4 harg4 arg5 harg5 arg6 harg6 arg7 harg7 arg8 harg8 arg9 harg9 X3 X4 X9
  (arg7.view.writes (Elt Ideal) arg7.view.junk I7) (arg8.view.writes (Elt Ideal) arg8.view.junk I8) n

theorem read_i7 (y : S4x1x512.Idx) : arg7.view.read (Elt Ideal) (arg7.view.writes (Elt Ideal) arg7.view.junk I7) y = ⊥ := by
  refine (View.read_writes_cons_unit_of_mem _ _ _ _ _ y y rfl fun a => by match a with
    | ⟨0, _⟩ => exact (Nat.zero_add _).symm
    | ⟨1, _⟩ => exact (Nat.zero_add _).symm
    | ⟨2, _⟩ => exact (Nat.zero_add _).symm).trans ?_
  exact init_m y

theorem read_i8 (y : S4x144x512.Idx) : arg8.view.read (Elt Ideal) (arg8.view.writes (Elt Ideal) arg8.view.junk I8) y = 0 := by
  refine (View.read_writes_cons_unit_of_mem _ _ _ _ _ y y rfl fun a => by match a with
    | ⟨0, _⟩ => exact (Nat.zero_add _).symm
    | ⟨1, _⟩ => exact (Nat.zero_add _).symm
    | ⟨2, _⟩ => exact (Nat.zero_add _).symm).trans ?_
  exact init_a y

/-- The maxima and sums after `n` trips. -/
theorem loop_read (n : ℕ) (hn : n ≤ (k0_t1_loop i).trips) :
    (∀ h r, arg7.view.read (Elt Ideal) (arg7.view.writes (Elt Ideal) arg7.view.junk ((pb c i arg3 harg3 arg4 harg4 arg5 harg5 arg6 harg6 arg7 harg7 arg8 harg8 arg9 harg9 X3 X4 X9 n).1 ++ I7)) (ix3 h 0 r)
      = stM (arg4.view.read (Elt Ideal) X4) (arg3.view.read (Elt Ideal) X3) h r n)
    ∧ (∀ h d r, arg8.view.read (Elt Ideal) (arg8.view.writes (Elt Ideal) arg8.view.junk ((pb c i arg3 harg3 arg4 harg4 arg5 harg5 arg6 harg6 arg7 harg7 arg8 harg8 arg9 harg9 X3 X4 X9 n).2 ++ I8)) (ix3 h d r)
      = stA (arg4.view.read (Elt Ideal) X4) (arg3.view.read (Elt Ideal) X3) (arg9.view.read (Elt Ideal) X9) h d r n) := by
  induction n with
  | zero =>
    refine ⟨fun h r => ?_, fun h d r => ?_⟩
    · exact read_i7 arg7 _
    · exact read_i8 arg8 _
  | succ n ih =>
    obtain ⟨ih7, ih8⟩ := ih (by omega)
    have h8 : n < 8 := trip_lt i ⟨n, hn⟩
    have e := pb_k0_t1_succ (F := Ideal) Variants.none c none i arg3 harg3 arg4 harg4 arg5 harg5 arg6 harg6 arg7 harg7 arg8 harg8 arg9 harg9 X3 X4 X9
      (arg7.view.writes (Elt Ideal) arg7.view.junk I7) (arg8.view.writes (Elt Ideal) arg8.view.junk I8) ⟨n, hn⟩
    dsimp only at e
    simp only [View.writes_append, pb] at ih7 ih8
    refine ⟨fun h r => ?_, fun h d r => ?_⟩
    · rw [pb, e]
      dsimp only
      rw [View.writes_append, View.writes_append]
      refine (trip_read_m Variants.none c none i arg3 harg3 arg4 harg4 arg5 harg5 arg6 harg6 arg7 harg7 arg8 harg8 arg9 harg9 X3 X4 X9 ⟨n, hn⟩ _ _ h r).trans ?_
      rw [ih7 h r]
      simp only [stM, dif_pos h8]
    · rw [pb, e]
      dsimp only
      rw [View.writes_append, View.writes_append]
      refine (trip_read_a Variants.none c none i arg3 harg3 arg4 harg4 arg5 harg5 arg6 harg6 arg7 harg7 arg8 harg8 arg9 harg9 X3 X4 X9 ⟨n, hn⟩ _ _ h d r).trans ?_
      rw [ih7 h r, ih8 h d r]
      simp only [stA, dif_pos h8]

/-- The loop over what remains of the key blocks below the diagonal makes no trip. -/
theorem rest_nil (G7) (G8) : pb_k0_t2 (F := Ideal) Variants.none c none i arg3 harg3 arg4 harg4 arg5 harg5 arg6 harg6 arg7 harg7 arg8 harg8 arg9 harg9 v15 X3 X4 X9 G7 G8 (Scf.trips (k0_t2_loop i).lb (k0_t2_loop i).ub (k0_t2_loop i).st) = ([], []) := by
  rw [show Scf.trips (k0_t2_loop i).lb (k0_t2_loop i).ub (k0_t2_loop i).st = 0 from trips2 i]
  rfl

/-- The stores into the maxima and the sums before the diagonal block. -/
def L7 := (pb c i arg3 harg3 arg4 harg4 arg5 harg5 arg6 harg6 arg7 harg7 arg8 harg8 arg9 harg9 X3 X4 X9 (Scf.trips (k0_t1_loop i).lb (k0_t1_loop i).ub (k0_t1_loop i).st)).1 ++ I7
def L8 := (pb c i arg3 harg3 arg4 harg4 arg5 harg5 arg6 harg6 arg7 harg7 arg8 harg8 arg9 harg9 X3 X4 X9 (Scf.trips (k0_t1_loop i).lb (k0_t1_loop i).ub (k0_t1_loop i).st)).2 ++ I8
def P7 := (pb_k0_t2 (F := Ideal) Variants.none c none i arg3 harg3 arg4 harg4 arg5 harg5 arg6 harg6 arg7 harg7 arg8 harg8 arg9 harg9 v15 X3 X4 X9 (arg7.view.writes (Elt Ideal) arg7.view.junk (L7 c i arg3 harg3 arg4 harg4 arg5 harg5 arg6 harg6 arg7 harg7 arg8 harg8 arg9 harg9 X3 X4 X9))
  (arg8.view.writes (Elt Ideal) arg8.view.junk (L8 c i arg3 harg3 arg4 harg4 arg5 harg5 arg6 harg6 arg7 harg7 arg8 harg8 arg9 harg9 X3 X4 X9)) (Scf.trips (k0_t2_loop i).lb (k0_t2_loop i).ub (k0_t2_loop i).st)).1 ++ L7 c i arg3 harg3 arg4 harg4 arg5 harg5 arg6 harg6 arg7 harg7 arg8 harg8 arg9 harg9 X3 X4 X9
def P8 := (pb_k0_t2 (F := Ideal) Variants.none c none i arg3 harg3 arg4 harg4 arg5 harg5 arg6 harg6 arg7 harg7 arg8 harg8 arg9 harg9 v15 X3 X4 X9 (arg7.view.writes (Elt Ideal) arg7.view.junk (L7 c i arg3 harg3 arg4 harg4 arg5 harg5 arg6 harg6 arg7 harg7 arg8 harg8 arg9 harg9 X3 X4 X9))
  (arg8.view.writes (Elt Ideal) arg8.view.junk (L8 c i arg3 harg3 arg4 harg4 arg5 harg5 arg6 harg6 arg7 harg7 arg8 harg8 arg9 harg9 X3 X4 X9)) (Scf.trips (k0_t2_loop i).lb (k0_t2_loop i).ub (k0_t2_loop i).st)).2 ++ L8 c i arg3 harg3 arg4 harg4 arg5 harg5 arg6 harg6 arg7 harg7 arg8 harg8 arg9 harg9 X3 X4 X9

theorem P7_read (h : Fin 4) (r : Fin 512) :
    arg7.view.read (Elt Ideal) (arg7.view.writes (Elt Ideal) arg7.view.junk (P7 c i arg3 harg3 arg4 harg4 arg5 harg5 arg6 harg6 arg7 harg7 arg8 harg8 arg9 harg9 X3 X4 X9 v15)) (ix3 h 0 r)
      = stM (arg4.view.read (Elt Ideal) X4) (arg3.view.read (Elt Ideal) X3) h r (i 2).val := by
  unfold P7
  rw [rest_nil, List.nil_append, L7, show Scf.trips (k0_t1_loop i).lb (k0_t1_loop i).ub (k0_t1_loop i).st = (i 2).val from trips1 i]
  exact (loop_read c i arg3 harg3 arg4 harg4 arg5 harg5 arg6 harg6 arg7 harg7 arg8 harg8 arg9 harg9 X3 X4 X9 (i 2).val (le_of_eq (trips1 i).symm)).1 h r

theorem P8_read (h : Fin 4) (d : Fin 144) (r : Fin 512) :
    arg8.view.read (Elt Ideal) (arg8.view.writes (Elt Ideal) arg8.view.junk (P8 c i arg3 harg3 arg4 harg4 arg5 harg5 arg6 harg6 arg7 harg7 arg8 harg8 arg9 harg9 X3 X4 X9 v15)) (ix3 h d r)
      = stA (arg4.view.read (Elt Ideal) X4) (arg3.view.read (Elt Ideal) X3) (arg9.view.read (Elt Ideal) X9) h d r (i 2).val := by
  unfold P8
  rw [rest_nil, List.nil_append, L8, show Scf.trips (k0_t1_loop i).lb (k0_t1_loop i).ub (k0_t1_loop i).st = (i 2).val from trips1 i]
  exact (loop_read c i arg3 harg3 arg4 harg4 arg5 harg5 arg6 harg6 arg7 harg7 arg8 harg8 arg9 harg9 X3 X4 X9 (i 2).val (le_of_eq (trips1 i).symm)).2 h d r

end
end Cert.KernelIdeal.Step
-- ==== Proof.Block.lean ====
module
public import proofs.«01_k».proof.Proof.Loop
@[expose] public section
set_option maxRecDepth 16384
noncomputable section
namespace Cert.KernelIdeal.Step
open Cert.KernelIdeal Cert.KernelIdeal.Gen Idealize.ShloMosaic Idealize.ShloMosaic.TcCoe Idealize.SL.Sem Idealize.ShloMosaic.Tactic

/-! # The diagonal block and the output block of one grid point -/

section
variable (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x512 .bf16) (harg5 : arg5.IsWhole) (arg6 : Memref sig .tc .vmem S512x512 .bf16) (harg6 : arg6.IsWhole) (arg7 : Memref sig .tc .vmem S4x1x512 .f32) (harg7 : arg7.IsWhole) (arg8 : Memref sig .tc .vmem S4x144x512 .f32) (harg8 : arg8.IsWhole) (arg9 : Memref sig .tc .vmem S4x8x144x512 .bf16) (harg9 : arg9.IsWhole)
  (X3 : BufTy.Contents (Elt Ideal) arg3.view.ty) (X4 : BufTy.Contents (Elt Ideal) arg4.view.ty) (X9 : BufTy.Contents (Elt Ideal) arg9.view.ty)
  (v15 : BitVec 32)

/-- The diagonal block's masked scores of head `h`. -/
def dsc : Fin 4 → FVec Ideal S512x512 .f32 := ![
  k0_pay145 (k0_pay75 (View.readAt (Elt Ideal) arg4.view (Rect.unit (s := S4096x1024) (k0_off17 i) S512x256.size (k0_off17_inb i)).toLoadRect X4) (View.readAt (Elt Ideal) arg3.view (Rect.unit (s := S512x1024) ![0, 0] S512x256.size inb_S512x1024_S512x256_0_0).toLoadRect X3)),
  k0_pay145 (k0_pay75 (View.readAt (Elt Ideal) arg4.view (Rect.unit (s := S4096x1024) (k0_off18 i) S512x256.size (k0_off18_inb i)).toLoadRect X4) (View.readAt (Elt Ideal) arg3.view (Rect.unit (s := S512x1024) ![0, 256] S512x256.size inb_S512x1024_S512x256_0_256).toLoadRect X3)),
  k0_pay145 (k0_pay75 (View.readAt (Elt Ideal) arg4.view (Rect.unit (s := S4096x1024) (k0_off19 i) S512x256.size (k0_off19_inb i)).toLoadRect X4) (View.readAt (Elt Ideal) arg3.view (Rect.unit (s := S512x1024) ![0, 512] S512x256.size inb_S512x1024_S512x256_0_512).toLoadRect X3)),
  k0_pay145 (k0_pay75 (View.readAt (Elt Ideal) arg4.view (Rect.unit (s := S4096x1024) (k0_off20 i) S512x256.size (k0_off20_inb i)).toLoadRect X4) (View.readAt (Elt Ideal) arg3.view (Rect.unit (s := S512x1024) ![0, 768] S512x256.size inb_S512x1024_S512x256_0_768).toLoadRect X3))]

/-- The diagonal block's transposed values of head `h`. -/
def dv : Fin 4 → Vec Ideal S1x1x144x512 .bf16 := ![
  View.readAt (Elt Ideal) arg9.view (Rect.unit (s := S4x8x144x512) (k0_off21 i) S1x1x144x512.size (k0_off21_inb i)).toLoadRect X9,
  View.readAt (Elt Ideal) arg9.view (Rect.unit (s := S4x8x144x512) (k0_off22 i) S1x1x144x512.size (k0_off22_inb i)).toLoadRect X9,
  View.readAt (Elt Ideal) arg9.view (Rect.unit (s := S4x8x144x512) (k0_off23 i) S1x1x144x512.size (k0_off23_inb i)).toLoadRect X9,
  View.readAt (Elt Ideal) arg9.view (Rect.unit (s := S4x8x144x512) (k0_off24 i) S1x1x144x512.size (k0_off24_inb i)).toLoadRect X9]

theorem dsc_apply (h : Fin 4) (r a : Fin 512) :
    dsc i arg3 arg4 X3 X4 h (ix2 a r) = scm (arg4.view.read (Elt Ideal) X4) (arg3.view.read (Elt Ideal) X3) h (i 2) r a := by
  unfold scm
  fin_cases h
  · exact (masked_apply _ a r).trans (congrArg (fun z : EReal => if a.val / 64 ≤ r.val / 64 then z else ⊥) (ld_score arg3 arg4 X3 X4 _ _ 0 (i 2) (k0_off17_eq i) rfl _ _ r a))
  · exact (masked_apply _ a r).trans (congrArg (fun z : EReal => if a.val / 64 ≤ r.val / 64 then z else ⊥) (ld_score arg3 arg4 X3 X4 _ _ 1 (i 2) (k0_off18_eq i) rfl _ _ r a))
  · exact (masked_apply _ a r).trans (congrArg (fun z : EReal => if a.val / 64 ≤ r.val / 64 then z else ⊥) (ld_score arg3 arg4 X3 X4 _ _ 2 (i 2) (k0_off19_eq i) rfl _ _ r a))
  · exact (masked_apply _ a r).trans (congrArg (fun z : EReal => if a.val / 64 ≤ r.val / 64 then z else ⊥) (ld_score arg3 arg4 X3 X4 _ _ 3 (i 2) (k0_off20_eq i) rfl _ _ r a))

theorem dv_apply (h : Fin 4) (d : Fin 144) (r : Fin 512) :
    dv i arg9 X9 h (ix4 0 0 d r) = arg9.view.read (Elt Ideal) X9 (ix4 h (i 2) d r) := by
  fin_cases h
  · exact ld_v arg9 _ 0 (i 2) (k0_off21_eq i) _ X9 d r
  · exact ld_v arg9 _ 1 (i 2) (k0_off22_eq i) _ X9 d r
  · exact ld_v arg9 _ 2 (i 2) (k0_off23_eq i) _ X9 d r
  · exact ld_v arg9 _ 3 (i 2) (k0_off24_eq i) _ X9 d r

/-- The new sums of head `h` after the diagonal block, over any contents of the two buffers. -/
def dacc (f7 : BufTy.Contents (Elt Ideal) arg7.view.ty) (f8 : BufTy.Contents (Elt Ideal) arg8.view.ty) (h : Fin 4) : FVec Ideal S1x144x512 .f32 :=
  aNew (dsc i arg3 arg4 X3 X4 h) (tm arg7 f7 h) (dv i arg9 X9 h) (ta arg8 f8 h)

theorem dacc_apply (f7 : BufTy.Contents (Elt Ideal) arg7.view.ty) (f8 : BufTy.Contents (Elt Ideal) arg8.view.ty) (h : Fin 4) (d : Fin 144) (r : Fin 512) :
    dacc i arg3 arg4 arg7 arg8 arg9 X3 X4 X9 f7 f8 h (ix3 0 d r)
      = acf (arg7.view.read (Elt Ideal) f7 (ix3 h 0 r)) (arg8.view.read (Elt Ideal) f8 (ix3 h d r))
          (scm (arg4.view.read (Elt Ideal) X4) (arg3.view.read (Elt Ideal) X3) h (i 2) r) (fun x => arg9.view.read (Elt Ideal) X9 (ix4 h (i 2) d x)) := by
  unfold dacc
  rw [aNew_apply, tm_apply, ta_apply]
  exact congrArg₂ (acf _ _) (funext fun a => dsc_apply i arg3 arg4 X3 X4 h r a) (funext fun x => dv_apply i arg9 X9 h d x)

/-- Four new head sums, in front of any stores. -/
abbrev D8 (p : Fin 4 → FVec Ideal S1x144x512 .f32) (L : List (View.Piece (Elt Ideal) S4x144x512 .f32)) : List (View.Piece (Elt Ideal) S4x144x512 .f32) :=
  ⟨Rect.unit (s := S4x144x512) ![3, 0, 0] S1x144x512.size inb_S4x144x512_S1x144x512_3_0_0, p 3⟩ ::
  ⟨Rect.unit (s := S4x144x512) ![2, 0, 0] S1x144x512.size inb_S4x144x512_S1x144x512_2_0_0, p 2⟩ ::
  ⟨Rect.unit (s := S4x144x512) ![1, 0, 0] S1x144x512.size inb_S4x144x512_S1x144x512_1_0_0, p 1⟩ ::
  ⟨Rect.unit (s := S4x144x512) ![0, 0, 0] S1x144x512.size inb_S4x144x512_S1x144x512_0_0_0, p 0⟩ :: L

/-- The output block of head `h` from the head sums. -/
def ob (p : Fin 4 → FVec Ideal S1x144x512 .f32) (L : List (View.Piece (Elt Ideal) S4x144x512 .f32)) (h : Fin 4) : FVec Ideal S512x128 .bf16 :=
  k0_pay176 (ta arg8 (arg8.view.writes (Elt Ideal) arg8.view.junk (D8 p L)) h)

theorem ob_apply (p : Fin 4 → FVec Ideal S1x144x512 .f32) (L : List (View.Piece (Elt Ideal) S4x144x512 .f32)) (h : Fin 4) (r : Fin 512) (d : Fin 128) :
    ob arg8 p L h (ix2 r d) = Ideal.div (p h (ix3 0 (Fin.castLE (by omega) d) r)) (p h (ix3 0 128 r)) := by
  have key : ∀ d : Fin 144, ta arg8 (arg8.view.writes (Elt Ideal) arg8.view.junk (D8 p L)) h (ix3 0 d r) = p h (ix3 0 d r) := fun d => by
    rw [ta_apply]
    exact read_a (Val := Elt Ideal) arg8.view arg8.view.junk inb_S4x144x512_S1x144x512_0_0_0 inb_S4x144x512_S1x144x512_1_0_0 inb_S4x144x512_S1x144x512_2_0_0 inb_S4x144x512_S1x144x512_3_0_0 p h d r L
  unfold ob
  rw [out_apply, key, key]

theorem head_idx (y : S1x144x512.Idx) : ∃ (d : Fin 144) (r : Fin 512), y = ix3 0 d r := by
  idx_vars y
  exact ⟨y1, y2, by rw [Subsingleton.elim y0 0]⟩

/-- A store at an earlier head does not change what head `h` loads. -/
theorem ta_skip (off : Fin 3 → ℕ) (inb) (w : FVec Ideal S1x144x512 .f32) (L : List (View.Piece (Elt Ideal) S4x144x512 .f32)) (h : Fin 4) (q : ℕ)
    (he : off = ![q, 0, 0]) (hq : q < h.val) :
    ta arg8 (arg8.view.writes (Elt Ideal) arg8.view.junk (⟨Rect.unit (s := S4x144x512) off S1x144x512.size inb, w⟩ :: L)) h
      = ta arg8 (arg8.view.writes (Elt Ideal) arg8.view.junk L) h := by
  funext y
  obtain ⟨d, r, rfl⟩ := head_idx y
  refine (ta_apply arg8 _ h d r).trans (Eq.trans ?_ (ta_apply arg8 _ h d r).symm)
  exact View.read_writes_cons_unit_of_not_mem (Val := Elt Ideal) arg8.view arg8.view.junk inb w L (ix3 h d r) he (0 : Fin 3) (.inr hq)

section
variable (s : Fin 4 → FVec Ideal S512x512 .f32) (m : Fin 4 → Vec Ideal S1x1x512 .f32) (v : Fin 4 → Vec Ideal S1x1x144x512 .bf16) (L : List (View.Piece (Elt Ideal) S4x144x512 .f32))
/-- The stores after one, two, three and four heads: each head loads through the stores before it. -/
def K0 : List (View.Piece (Elt Ideal) S4x144x512 .f32) :=
  ⟨Rect.unit (s := S4x144x512) ![0, 0, 0] S1x144x512.size inb_S4x144x512_S1x144x512_0_0_0, aNew (s 0) (m 0) (v 0) (ta arg8 (arg8.view.writes (Elt Ideal) arg8.view.junk L) 0)⟩ :: L
def K1 : List (View.Piece (Elt Ideal) S4x144x512 .f32) :=
  ⟨Rect.unit (s := S4x144x512) ![1, 0, 0] S1x144x512.size inb_S4x144x512_S1x144x512_1_0_0, aNew (s 1) (m 1) (v 1) (ta arg8 (arg8.view.writes (Elt Ideal) arg8.view.junk (K0 arg8 s m v L)) 1)⟩ :: K0 arg8 s m v L
def K2 : List (View.Piece (Elt Ideal) S4x144x512 .f32) :=
  ⟨Rect.unit (s := S4x144x512) ![2, 0, 0] S1x144x512.size inb_S4x144x512_S1x144x512_2_0_0, aNew (s 2) (m 2) (v 2) (ta arg8 (arg8.view.writes (Elt Ideal) arg8.view.junk (K1 arg8 s m v L)) 2)⟩ :: K1 arg8 s m v L
def K3 : List (View.Piece (Elt Ideal) S4x144x512 .f32) :=
  ⟨Rect.unit (s := S4x144x512) ![3, 0, 0] S1x144x512.size inb_S4x144x512_S1x144x512_3_0_0, aNew (s 3) (m 3) (v 3) (ta arg8 (arg8.view.writes (Elt Ideal) arg8.view.junk (K2 arg8 s m v L)) 3)⟩ :: K2 arg8 s m v L

theorem K3_eq : K3 arg8 s m v L = D8 (fun h => aNew (s h) (m h) (v h) (ta arg8 (arg8.view.writes (Elt Ideal) arg8.view.junk L) h)) L := by
  have e1 : ta arg8 (arg8.view.writes (Elt Ideal) arg8.view.junk (K0 arg8 s m v L)) 1 = ta arg8 (arg8.view.writes (Elt Ideal) arg8.view.junk L) 1 :=
    ta_skip arg8 _ _ _ L 1 0 rfl (by decide)
  have e2 : ta arg8 (arg8.view.writes (Elt Ideal) arg8.view.junk (K1 arg8 s m v L)) 2 = ta arg8 (arg8.view.writes (Elt Ideal) arg8.view.junk L) 2 :=
    (ta_skip arg8 _ _ _ (K0 arg8 s m v L) 2 1 rfl (by decide)).trans (ta_skip arg8 _ _ _ L 2 0 rfl (by decide))
  have e3 : ta arg8 (arg8.view.writes (Elt Ideal) arg8.view.junk (K2 arg8 s m v L)) 3 = ta arg8 (arg8.view.writes (Elt Ideal) arg8.view.junk L) 3 :=
    ((ta_skip arg8 _ _ _ (K1 arg8 s m v L) 3 2 rfl (by decide)).trans (ta_skip arg8 _ _ _ (K0 arg8 s m v L) 3 1 rfl (by decide))).trans (ta_skip arg8 _ _ _ L 3 0 rfl (by decide))
  unfold K3
  rw [e3]
  unfold K2
  rw [e2]
  unfold K1
  rw [e1]
  rfl
end

/-- The stores into the sums up to the diagonal block's own. -/
def KK : List (View.Piece (Elt Ideal) S4x144x512 .f32) :=
  K3 arg8 (dsc i arg3 arg4 X3 X4) (tm arg7 (arg7.view.writes (Elt Ideal) arg7.view.junk (P7 c i arg3 harg3 arg4 harg4 arg5 harg5 arg6 harg6 arg7 harg7 arg8 harg8 arg9 harg9 X3 X4 X9 v15))) (dv i arg9 X9) (P8 c i arg3 harg3 arg4 harg4 arg5 harg5 arg6 harg6 arg7 harg7 arg8 harg8 arg9 harg9 X3 X4 X9 v15)

/-- The output block of head `h`. -/
def oblk (h : Fin 4) : FVec Ideal S512x128 .bf16 :=
  k0_pay176 (ta arg8 (arg8.view.writes (Elt Ideal) arg8.view.junk (KK c i arg3 harg3 arg4 harg4 arg5 harg5 arg6 harg6 arg7 harg7 arg8 harg8 arg9 harg9 X3 X4 X9 v15)) h)

theorem oblk_apply (h : Fin 4) (r : Fin 512) (d : Fin 128) :
    oblk c i arg3 harg3 arg4 harg4 arg5 harg5 arg6 harg6 arg7 harg7 arg8 harg8 arg9 harg9 X3 X4 X9 v15 h (ix2 r d)
      = Ideal.div (fin (arg4.view.read (Elt Ideal) X4) (arg3.view.read (Elt Ideal) X3) (arg9.view.read (Elt Ideal) X9) h (i 2) r (Fin.castLE (by omega) d))
          (fin (arg4.view.read (Elt Ideal) X4) (arg3.view.read (Elt Ideal) X3) (arg9.view.read (Elt Ideal) X9) h (i 2) r 128) := by
  have e : oblk c i arg3 harg3 arg4 harg4 arg5 harg5 arg6 harg6 arg7 harg7 arg8 harg8 arg9 harg9 X3 X4 X9 v15 h = ob arg8 (dacc i arg3 arg4 arg7 arg8 arg9 X3 X4 X9 (arg7.view.writes (Elt Ideal) arg7.view.junk (P7 c i arg3 harg3 arg4 harg4 arg5 harg5 arg6 harg6 arg7 harg7 arg8 harg8 arg9 harg9 X3 X4 X9 v15))
    (arg8.view.writes (Elt Ideal) arg8.view.junk (P8 c i arg3 harg3 arg4 harg4 arg5 harg5 arg6 harg6 arg7 harg7 arg8 harg8 arg9 harg9 X3 X4 X9 v15))) (P8 c i arg3 harg3 arg4 harg4 arg5 harg5 arg6 harg6 arg7 harg7 arg8 harg8 arg9 harg9 X3 X4 X9 v15) h := by
    unfold oblk KK ob
    rw [K3_eq]
    rfl
  rw [e, ob_apply, dacc_apply, dacc_apply, P7_read, P8_read, P8_read]
  rfl

/-- The four heads' stores into the output block. -/
abbrev OL : List (View.Piece (Elt Ideal) S512x512 .bf16) :=
  [⟨Rect.unit (s := S512x512) ![0, 384] S512x128.size inb_S512x512_S512x128_0_384, oblk c i arg3 harg3 arg4 harg4 arg5 harg5 arg6 harg6 arg7 harg7 arg8 harg8 arg9 harg9 X3 X4 X9 v15 3⟩,
   ⟨Rect.unit (s := S512x512) ![0, 256] S512x128.size inb_S512x512_S512x128_0_256, oblk c i arg3 harg3 arg4 harg4 arg5 harg5 arg6 harg6 arg7 harg7 arg8 harg8 arg9 harg9 X3 X4 X9 v15 2⟩,
   ⟨Rect.unit (s := S512x512) ![0, 128] S512x128.size inb_S512x512_S512x128_0_128, oblk c i arg3 harg3 arg4 harg4 arg5 harg5 arg6 harg6 arg7 harg7 arg8 harg8 arg9 harg9 X3 X4 X9 v15 1⟩,
   ⟨Rect.unit (s := S512x512) ![0, 0] S512x128.size inb_S512x512_S512x128_0_0, oblk c i arg3 harg3 arg4 harg4 arg5 harg5 arg6 harg6 arg7 harg7 arg8 harg8 arg9 harg9 X3 X4 X9 v15 0⟩]

end

theorem hit_o {Val : EltTy → Type} {κ : Kind} {sp : Space} (v : View sig κ sp S512x512 .bf16) (f : v.ty.Contents Val) (off : Fin 2 → ℕ) (inb) (w : S512x128.Idx → Val .bf16) (L)
    (h : Fin 4) (r : Fin 512) (d : Fin 128) (he : off = ![0, 128 * h.val]) :
    v.read Val (v.writes Val f (⟨Rect.unit (s := S512x512) off S512x128.size inb, w⟩ :: L)) (ix2 r (⟨128 * h.val + d.val, by omega⟩ : Fin 512)) = w (ix2 r d) :=
  View.read_writes_cons_unit_of_mem v f inb w L (ix2 r (⟨128 * h.val + d.val, by omega⟩ : Fin 512)) (ix2 r d : S512x128.Idx) he fun a => match a with
    | ⟨0, _⟩ => (Nat.zero_add _).symm
    | ⟨1, _⟩ => rfl

theorem miss_o {Val : EltTy → Type} {κ : Kind} {sp : Space} (v : View sig κ sp S512x512 .bf16) (f : v.ty.Contents Val) (off : Fin 2 → ℕ) (inb) (w : S512x128.Idx → Val .bf16) (L)
    (h : Fin 4) (r : Fin 512) (d : Fin 128) (q : ℕ) (he : off = ![0, 128 * q]) (hq : h.val < q) :
    v.read Val (v.writes Val f (⟨Rect.unit (s := S512x512) off S512x128.size inb, w⟩ :: L)) (ix2 r (⟨128 * h.val + d.val, by omega⟩ : Fin 512))
      = v.read Val (v.writes Val f L) (ix2 r (⟨128 * h.val + d.val, by omega⟩ : Fin 512)) :=
  View.read_writes_cons_unit_of_not_mem v f inb w L _ he (1 : Fin 2) (.inl (by
    show 128 * h.val + d.val < 128 * q
    have := d.isLt
    omega))

/-- Four stores side by side into the output block: head `h` reads its own. -/
theorem read_o {Val : EltTy → Type} {κ : Kind} {sp : Space} (v : View sig κ sp S512x512 .bf16) (f : v.ty.Contents Val) (i0 i1 i2 i3) (p : Fin 4 → S512x128.Idx → Val .bf16)
    (h : Fin 4) (r : Fin 512) (d : Fin 128) :
    v.read Val (v.writes Val f [⟨Rect.unit (s := S512x512) ![0, 384] S512x128.size i3, p 3⟩, ⟨Rect.unit (s := S512x512) ![0, 256] S512x128.size i2, p 2⟩,
      ⟨Rect.unit (s := S512x512) ![0, 128] S512x128.size i1, p 1⟩, ⟨Rect.unit (s := S512x512) ![0, 0] S512x128.size i0, p 0⟩]) (ix2 r (⟨128 * h.val + d.val, by omega⟩ : Fin 512))
      = p h (ix2 r d) := by
  match h with
  | 0 => rw [miss_o v f _ i3 (p 3) _ 0 r d 3 rfl (by decide), miss_o v f _ i2 (p 2) _ 0 r d 2 rfl (by decide), miss_o v f _ i1 (p 1) _ 0 r d 1 rfl (by decide)]
         exact hit_o v f _ i0 (p 0) _ 0 r d rfl
  | 1 => rw [miss_o v f _ i3 (p 3) _ 1 r d 3 rfl (by decide), miss_o v f _ i2 (p 2) _ 1 r d 2 rfl (by decide)]
         exact hit_o v f _ i1 (p 1) _ 1 r d rfl
  | 2 => rw [miss_o v f _ i3 (p 3) _ 2 r d 3 rfl (by decide)]
         exact hit_o v f _ i2 (p 2) _ 2 r d rfl
  | 3 => exact hit_o v f _ i3 (p 3) _ 3 r d rfl

section
variable (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x512 .bf16) (harg5 : arg5.IsWhole) (arg6 : Memref sig .tc .vmem S512x512 .bf16) (harg6 : arg6.IsWhole) (arg7 : Memref sig .tc .vmem S4x1x512 .f32) (harg7 : arg7.IsWhole) (arg8 : Memref sig .tc .vmem S4x144x512 .f32) (harg8 : arg8.IsWhole) (arg9 : Memref sig .tc .vmem S4x8x144x512 .bf16) (harg9 : arg9.IsWhole)

section
variable (x0 : Vec Ideal S512x1024 .bf16) (x1 : Vec Ideal S4096x1024 .bf16) (xs2 : Vec Ideal S4x8x144x512 .bf16)
theorem stB_0 : kernelRun0_B.sl.HS1_1_1 c i arg3 harg3 arg4 harg4 arg5 harg5 arg6 harg6 arg7 harg7 arg8 harg8 arg9 harg9 x0 x1 xs2 = K0 arg8 (dsc i arg3 arg4 (harg3.unread x0) (harg4.unread x1)) (tm arg7 (arg7.view.writes (Elt Ideal) arg7.view.junk (P7 c i arg3 harg3 arg4 harg4 arg5 harg5 arg6 harg6 arg7 harg7 arg8 harg8 arg9 harg9 (harg3.unread x0) (harg4.unread x1) (harg9.unread xs2) (kernelRun0_B.sl.v15 i)))) (dv i arg9 (harg9.unread xs2)) (P8 c i arg3 harg3 arg4 harg4 arg5 harg5 arg6 harg6 arg7 harg7 arg8 harg8 arg9 harg9 (harg3.unread x0) (harg4.unread x1) (harg9.unread xs2) (kernelRun0_B.sl.v15 i)) := rfl
theorem stB_1 : kernelRun0_B.sl.HS1_2 c i arg3 harg3 arg4 harg4 arg5 harg5 arg6 harg6 arg7 harg7 arg8 harg8 arg9 harg9 x0 x1 xs2 = K1 arg8 (dsc i arg3 arg4 (harg3.unread x0) (harg4.unread x1)) (tm arg7 (arg7.view.writes (Elt Ideal) arg7.view.junk (P7 c i arg3 harg3 arg4 harg4 arg5 harg5 arg6 harg6 arg7 harg7 arg8 harg8 arg9 harg9 (harg3.unread x0) (harg4.unread x1) (harg9.unread xs2) (kernelRun0_B.sl.v15 i)))) (dv i arg9 (harg9.unread xs2)) (P8 c i arg3 harg3 arg4 harg4 arg5 harg5 arg6 harg6 arg7 harg7 arg8 harg8 arg9 harg9 (harg3.unread x0) (harg4.unread x1) (harg9.unread xs2) (kernelRun0_B.sl.v15 i)) := by
  unfold K1; rw [← stB_0]; rfl
theorem stB_2 : kernelRun0_B.sl.HS1_3 c i arg3 harg3 arg4 harg4 arg5 harg5 arg6 harg6 arg7 harg7 arg8 harg8 arg9 harg9 x0 x1 xs2 = K2 arg8 (dsc i arg3 arg4 (harg3.unread x0) (harg4.unread x1)) (tm arg7 (arg7.view.writes (Elt Ideal) arg7.view.junk (P7 c i arg3 harg3 arg4 harg4 arg5 harg5 arg6 harg6 arg7 harg7 arg8 harg8 arg9 harg9 (harg3.unread x0) (harg4.unread x1) (harg9.unread xs2) (kernelRun0_B.sl.v15 i)))) (dv i arg9 (harg9.unread xs2)) (P8 c i arg3 harg3 arg4 harg4 arg5 harg5 arg6 harg6 arg7 harg7 arg8 harg8 arg9 harg9 (harg3.unread x0) (harg4.unread x1) (harg9.unread xs2) (kernelRun0_B.sl.v15 i)) := by
  unfold K2; rw [← stB_1]; rfl
theorem stB_3 : kernelRun0_B.sl.HS1_4 c i arg3 harg3 arg4 harg4 arg5 harg5 arg6 harg6 arg7 harg7 arg8 harg8 arg9 harg9 x0 x1 xs2 = KK c i arg3 harg3 arg4 harg4 arg5 harg5 arg6 harg6 arg7 harg7 arg8 harg8 arg9 harg9 (harg3.unread x0) (harg4.unread x1) (harg9.unread xs2) (kernelRun0_B.sl.v15 i) := by
  unfold KK K3; rw [← stB_2]; rfl
theorem stB_o (h : Fin 4) : oblk c i arg3 harg3 arg4 harg4 arg5 harg5 arg6 harg6 arg7 harg7 arg8 harg8 arg9 harg9 (harg3.unread x0) (harg4.unread x1) (harg9.unread xs2) (kernelRun0_B.sl.v15 i) h = k0_pay176 (ta arg8 (arg8.view.writes (Elt Ideal) arg8.view.junk (kernelRun0_B.sl.HS1_4 c i arg3 harg3 arg4 harg4 arg5 harg5 arg6 harg6 arg7 harg7 arg8 harg8 arg9 harg9 x0 x1 xs2)) h) := by
  unfold oblk; rw [← stB_3]
end

/-- A grid point that finds the transposed values in its scratch: the output block of head `h`. -/
theorem out_B (hc0 : ¬cond0_0 i) (x0 : Vec Ideal S512x1024 .bf16) (x1 : Vec Ideal S4096x1024 .bf16) (x2 : Vec Ideal S4096x512 .bf16) (xs2 : Vec Ideal S4x8x144x512 .bf16)
    (h : Fin 4) (r : Fin 512) (d : Fin 128) :
    out0_B_3 c i arg3 harg3 arg4 harg4 arg5 harg5 arg6 harg6 arg7 harg7 arg8 harg8 arg9 harg9 hc0 x0 x1 x2 xs2 (ix2 r (⟨128 * h.val + d.val, by omega⟩ : Fin 512))
      = Ideal.div (fin x1 x0 xs2 h (i 2) r (Fin.castLE (by omega) d)) (fin x1 x0 xs2 h (i 2) r 128) := by
  have e : out0_B_3 c i arg3 harg3 arg4 harg4 arg5 harg5 arg6 harg6 arg7 harg7 arg8 harg8 arg9 harg9 hc0 x0 x1 x2 xs2 = VO0_3.read (Elt Ideal) (VO0_3.writes (Elt Ideal) VO0_3.junk
      (OL c i arg3 harg3 arg4 harg4 arg5 harg5 arg6 harg6 arg7 harg7 arg8 harg8 arg9 harg9 (harg3.unread x0) (harg4.unread x1) (harg9.unread xs2) (kernelRun0_B.sl.v15 i))) := by
    unfold out0_B_3 kernelRun0_B
    dsimp only
    rw [OL, stB_o, stB_o, stB_o, stB_o]
    rfl
  rw [e]
  refine (read_o (Val := Elt Ideal) VO0_3 VO0_3.junk inb_S512x512_S512x128_0_0 inb_S512x512_S512x128_0_128 inb_S512x512_S512x128_0_256 inb_S512x512_S512x128_0_384 (oblk c i arg3 harg3 arg4 harg4 arg5 harg5 arg6 harg6 arg7 harg7 arg8 harg8 arg9 harg9 (harg3.unread x0) (harg4.unread x1) (harg9.unread xs2) (kernelRun0_B.sl.v15 i)) h r d).trans ?_
  rw [oblk_apply, harg3.read_unread, harg4.read_unread, harg9.read_unread]

section
variable (x0 : Vec Ideal S512x1024 .bf16) (x1 : Vec Ideal S4096x1024 .bf16) (x2 : Vec Ideal S4096x512 .bf16)
theorem stA_0 : kernelRun0_A.sl.HS1_1_1 c i arg3 harg3 arg4 harg4 arg5 harg5 arg6 harg6 arg7 harg7 arg8 harg8 arg9 harg9 x0 x1 x2 = K0 arg8 (dsc i arg3 arg4 (harg3.unread x0) (harg4.unread x1)) (tm arg7 (arg7.view.writes (Elt Ideal) arg7.view.junk (P7 c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i)))) (dv i arg9 (arg9.view.writes (Elt Ideal) arg9.view.junk (kernelRun0_A.sl.HS2_64 c arg5 harg5 x2))) (P8 c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i)) := rfl
theorem stA_1 : kernelRun0_A.sl.HS1_2 c i arg3 harg3 arg4 harg4 arg5 harg5 arg6 harg6 arg7 harg7 arg8 harg8 arg9 harg9 x0 x1 x2 = K1 arg8 (dsc i arg3 arg4 (harg3.unread x0) (harg4.unread x1)) (tm arg7 (arg7.view.writes (Elt Ideal) arg7.view.junk (P7 c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i)))) (dv i arg9 (arg9.view.writes (Elt Ideal) arg9.view.junk (kernelRun0_A.sl.HS2_64 c arg5 harg5 x2))) (P8 c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i)) := by
  unfold K1; rw [← stA_0]; rfl
theorem stA_2 : kernelRun0_A.sl.HS1_3 c i arg3 harg3 arg4 harg4 arg5 harg5 arg6 harg6 arg7 harg7 arg8 harg8 arg9 harg9 x0 x1 x2 = K2 arg8 (dsc i arg3 arg4 (harg3.unread x0) (harg4.unread x1)) (tm arg7 (arg7.view.writes (Elt Ideal) arg7.view.junk (P7 c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i)))) (dv i arg9 (arg9.view.writes (Elt Ideal) arg9.view.junk (kernelRun0_A.sl.HS2_64 c arg5 harg5 x2))) (P8 c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i)) := by
  unfold K2; rw [← stA_1]; rfl
theorem stA_3 : kernelRun0_A.sl.HS1_4 c i arg3 harg3 arg4 harg4 arg5 harg5 arg6 harg6 arg7 harg7 arg8 harg8 arg9 harg9 x0 x1 x2 = KK c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i) := by
  unfold KK K3; rw [← stA_2]; rfl
theorem stA_o (h : Fin 4) : oblk c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i) h = k0_pay176 (ta arg8 (arg8.view.writes (Elt Ideal) arg8.view.junk (kernelRun0_A.sl.HS1_4 c i arg3 harg3 arg4 harg4 arg5 harg5 arg6 harg6 arg7 harg7 arg8 harg8 arg9 harg9 x0 x1 x2)) h) := by
  unfold oblk; rw [← stA_3]
end

/-- A grid point that stores the transposed values first: the output block of head `h`, over what it stored. -/
theorem out_A (hc0 : cond0_0 i) (x0 : Vec Ideal S512x1024 .bf16) (x1 : Vec Ideal S4096x1024 .bf16) (x2 : Vec Ideal S4096x512 .bf16)
    (h : Fin 4) (r : Fin 512) (d : Fin 128) :
    out0_A_3 c i arg3 harg3 arg4 harg4 arg5 harg5 arg6 harg6 arg7 harg7 arg8 harg8 arg9 harg9 hc0 x0 x1 x2 (ix2 r (⟨128 * h.val + d.val, by omega⟩ : Fin 512))
      = Ideal.div (fin x1 x0 (sout0_A_2 c i arg3 harg3 arg4 harg4 arg5 harg5 arg6 harg6 arg7 harg7 arg8 harg8 arg9 harg9 hc0 x0 x1 x2) h (i 2) r (Fin.castLE (by omega) d)) (fin x1 x0 (sout0_A_2 c i arg3 harg3 arg4 harg4 arg5 harg5 arg6 harg6 arg7 harg7 arg8 harg8 arg9 harg9 hc0 x0 x1 x2) h (i 2) r 128) := by
  have e : out0_A_3 c i arg3 harg3 arg4 harg4 arg5 harg5 arg6 harg6 arg7 harg7 arg8 harg8 arg9 harg9 hc0 x0 x1 x2 = VO0_3.read (Elt Ideal) (VO0_3.writes (Elt Ideal) VO0_3.junk
      (OL c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i))) := by
    unfold out0_A_3 kernelRun0_A
    dsimp only
    rw [OL, stA_o, stA_o, stA_o, stA_o]
    rfl
  have e2 : arg9.view.read (Elt Ideal) (arg9.view.writes (Elt Ideal) arg9.view.junk (kernelRun0_A.sl.HS2_64 c arg5 harg5 x2)) = sout0_A_2 c i arg3 harg3 arg4 harg4 arg5 harg5 arg6 harg6 arg7 harg7 arg8 harg8 arg9 harg9 hc0 x0 x1 x2 := by
    unfold sout0_A_2 kernelRun0_A
    dsimp only
    rw [View.read_writes_junk_eq_canon, View.read_writes_junk_eq_canon]
  rw [e]
  refine (read_o (Val := Elt Ideal) VO0_3 VO0_3.junk inb_S512x512_S512x128_0_0 inb_S512x512_S512x128_0_128 inb_S512x512_S512x128_0_256 inb_S512x512_S512x128_0_384 (oblk c i arg3 harg3 arg4 harg4 arg5 harg5 arg6 harg6 arg7 harg7 arg8 harg8 arg9 harg9 (harg3.unread x0) (harg4.unread x1) (arg9.view.writes (Elt Ideal) arg9.view.junk (kernelRun0_A.sl.HS2_64 c arg5 harg5 x2)) (kernelRun0_A.sl.v15 i)) h r d).trans ?_
  rw [oblk_apply, harg3.read_unread, harg4.read_unread, e2]
end
end Cert.KernelIdeal.Step
-- ==== Proof.Scratch.lean ====
module
public import proofs.«01_k».proof.Proof.Block
public import Idealize.ShloMosaic.Lib.Pipeline.ValueKit.Tiles
@[expose] public section
set_option maxRecDepth 16384
noncomputable section
namespace Cert.KernelIdeal.Step
open Cert.KernelIdeal Cert.KernelIdeal.Gen Idealize.ShloMosaic Idealize.ShloMosaic.TcCoe Idealize.SL.Sem Idealize.ShloMosaic.Tactic

/-! # The scratch of transposed values -/

/-- The values transposed, one block of 512 keys and one head at a time, over sixteen rows of ones. -/
def vt (X : Vec Ideal S4096x512 .bf16) : Vec Ideal S4x8x144x512 .bf16 := fun y =>
  if hd : (y 2).val < 128 then X (ix2 (⟨512 * (y 1).val + (y 3).val, by have := (y 1).isLt; have := (y 3).isLt; dsimp at *; omega⟩ : Fin 4096)
    (⟨128 * (y 0).val + (y 2).val, by have := (y 0).isLt; dsimp at *; omega⟩ : Fin 512)) else 1

theorem ones_apply (x : S1x1x16x512.Idx) : k0_pay5 (F := Ideal) x = 1 := by
  idx_vars x
  unfold k0_pay5
  pointwise

theorem vals_apply (v : Vec Ideal S512x128 .bf16) (d : Fin 128) (x : Fin 512) : k0_pay4 v (ix4 0 0 d x) = v (ix2 x d) := by
  unfold k0_pay4
  pointwise

theorem tile_one (y : S4x8x144x512.Idx) (X : Vec Ideal S4096x512 .bf16) (x : S1x1x16x512.Idx) (h : 128 ≤ (y 2).val) : k0_pay5 (F := Ideal) x = vt X y := by
  rw [ones_apply]
  unfold vt
  rw [dif_neg (by omega)]

theorem tile_v (arg5 : Memref sig .tc .vmem S4096x512 .bf16) (harg5 : arg5.IsWhole) (X : Vec Ideal S4096x512 .bf16) (h j : ℕ) (off : Fin 2 → ℕ)
    (he : off = ![512 * j, 128 * h]) (inb : ∀ a, off a + S512x128.size a ≤ S4096x512.size a) (x : S1x1x128x512.Idx) (y : S4x8x144x512.Idx)
    (h0 : (y 0).val = h + (x 0).val) (h1 : (y 1).val = j + (x 1).val) (h2 : (y 2).val = 0 + (x 2).val) (h3 : (y 3).val = 0 + (x 3).val) :
    k0_pay4 (View.readAt (Elt Ideal) arg5.view (Rect.unit (s := S4096x512) off S512x128.size inb).toLoadRect (harg5.unread X)) x = vt X y := by
  subst he
  idx_vars x
  obtain rfl : x0 = 0 := Subsingleton.elim _ _
  obtain rfl : x1 = 0 := Subsingleton.elim _ _
  refine (vals_apply _ x2 x3).trans ?_
  unfold vt
  have b2 : x2.val < 128 := x2.isLt
  have e2 : (y 2).val = x2.val := by simpa using h2
  have e3 : (y 3).val = x3.val := by simpa using h3
  have e0 : (y 0).val = h := by simpa using h0
  have e1 : (y 1).val = j := by simpa using h1
  rw [dif_pos (by omega), View.readAt_eq_ld, harg5.read_unread]
  refine congrArg X ?_
  funext a
  match a with
  | ⟨0, _⟩ => exact Fin.ext (by show 512 * j + 1 * x3.val = 512 * (y 1).val + (y 3).val; omega)
  | ⟨1, _⟩ => exact Fin.ext (by show 128 * h + 1 * x2.val = 128 * (y 0).val + (y 2).val; omega)

theorem scratch_A (c : Dev nD) (i : grid0.Coords) (arg3 : Memref sig .tc .vmem S512x1024 .bf16) (harg3 : arg3.IsWhole) (arg4 : Memref sig .tc .vmem S4096x1024 .bf16) (harg4 : arg4.IsWhole) (arg5 : Memref sig .tc .vmem S4096x512 .bf16) (harg5 : arg5.IsWhole) (arg6 : Memref sig .tc .vmem S512x512 .bf16) (harg6 : arg6.IsWhole) (arg7 : Memref sig .tc .vmem S4x1x512 .f32) (harg7 : arg7.IsWhole) (arg8 : Memref sig .tc .vmem S4x144x512 .f32) (harg8 : arg8.IsWhole) (arg9 : Memref sig .tc .vmem S4x8x144x512 .bf16) (harg9 : arg9.IsWhole) (hc0 : cond0_0 i) (x0 : Vec Ideal S512x1024 .bf16) (x1 : Vec Ideal S4096x1024 .bf16) (x2 : Vec Ideal S4096x512 .bf16) :
    sout0_A_2 c i arg3 harg3 arg4 harg4 arg5 harg5 arg6 harg6 arg7 harg7 arg8 harg8 arg9 harg9 hc0 x0 x1 x2 = vt x2 := by
  unfold sout0_A_2 kernelRun0_A
  dsimp only
  rw [View.read_writes_junk_eq_canon]
  funext y
  unfold kernelRun0_A.sl.HS2_64
  canon_tiles x h using scover0_A_2 c i arg3 harg3 arg4 harg4 arg5 harg5 arg6 harg6 arg7 harg7 arg8 harg8 arg9 harg9 hc0 x0 x1 x2 y
  · exact tile_one y x2 x (by omega)
  · exact tile_v arg5 harg5 x2 3 7 ![3584, 384] rfl (by decide) x y (by omega) (by omega) (by omega) (by omega)
  · exact tile_one y x2 x (by omega)
  · exact tile_v arg5 harg5 x2 3 6 ![3072, 384] rfl (by decide) x y (by omega) (by omega) (by omega) (by omega)
  · exact tile_one y x2 x (by omega)
  · exact tile_v arg5 harg5 x2 3 5 ![2560, 384] rfl (by decide) x y (by omega) (by omega) (by omega) (by omega)
  · exact tile_one y x2 x (by omega)
  · exact tile_v arg5 harg5 x2 3 4 ![2048, 384] rfl (by decide) x y (by omega) (by omega) (by omega) (by omega)
  · exact tile_one y x2 x (by omega)
  · exact tile_v arg5 harg5 x2 3 3 ![1536, 384] rfl (by decide) x y (by omega) (by omega) (by omega) (by omega)
  · exact tile_one y x2 x (by omega)
  · exact tile_v arg5 harg5 x2 3 2 ![1024, 384] rfl (by decide) x y (by omega) (by omega) (by omega) (by omega)
  · exact tile_one y x2 x (by omega)
  · exact tile_v arg5 harg5 x2 3 1 ![512, 384] rfl (by decide) x y (by omega) (by omega) (by omega) (by omega)
  · exact tile_one y x2 x (by omega)
  · exact tile_v arg5 harg5 x2 3 0 ![0, 384] rfl (by decide) x y (by omega) (by omega) (by omega) (by omega)
  · exact tile_one y x2 x (by omega)
  · exact tile_v arg5 harg5 x2 2 7 ![3584, 256] rfl (by decide) x y (by omega) (by omega) (by omega) (by omega)
  · exact tile_one y x2 x (by omega)
  · exact tile_v arg5 harg5 x2 2 6 ![3072, 256] rfl (by decide) x y (by omega) (by omega) (by omega) (by omega)
  · exact tile_one y x2 x (by omega)
  · exact tile_v arg5 harg5 x2 2 5 ![2560, 256] rfl (by decide) x y (by omega) (by omega) (by omega) (by omega)
  · exact tile_one y x2 x (by omega)
  · exact tile_v arg5 harg5 x2 2 4 ![2048, 256] rfl (by decide) x y (by omega) (by omega) (by omega) (by omega)
  · exact tile_one y x2 x (by omega)
  · exact tile_v arg5 harg5 x2 2 3 ![1536, 256] rfl (by decide) x y (by omega) (by omega) (by omega) (by omega)
  · exact tile_one y x2 x (by omega)
  · exact tile_v arg5 harg5 x2 2 2 ![1024, 256] rfl (by decide) x y (by omega) (by omega) (by omega) (by omega)
  · exact tile_one y x2 x (by omega)
  · exact tile_v arg5 harg5 x2 2 1 ![512, 256] rfl (by decide) x y (by omega) (by omega) (by omega) (by omega)
  · exact tile_one y x2 x (by omega)
  · exact tile_v arg5 harg5 x2 2 0 ![0, 256] rfl (by decide) x y (by omega) (by omega) (by omega) (by omega)
  · exact tile_one y x2 x (by omega)
  · exact tile_v arg5 harg5 x2 1 7 ![3584, 128] rfl (by decide) x y (by omega) (by omega) (by omega) (by omega)
  · exact tile_one y x2 x (by omega)
  · exact tile_v arg5 harg5 x2 1 6 ![3072, 128] rfl (by decide) x y (by omega) (by omega) (by omega) (by omega)
  · exact tile_one y x2 x (by omega)
  · exact tile_v arg5 harg5 x2 1 5 ![2560, 128] rfl (by decide) x y (by omega) (by omega) (by omega) (by omega)
  · exact tile_one y x2 x (by omega)
  · exact tile_v arg5 harg5 x2 1 4 ![2048, 128] rfl (by decide) x y (by omega) (by omega) (by omega) (by omega)
  · exact tile_one y x2 x (by omega)
  · exact tile_v arg5 harg5 x2 1 3 ![1536, 128] rfl (by decide) x y (by omega) (by omega) (by omega) (by omega)
  · exact tile_one y x2 x (by omega)
  · exact tile_v arg5 harg5 x2 1 2 ![1024, 128] rfl (by decide) x y (by omega) (by omega) (by omega) (by omega)
  · exact tile_one y x2 x (by omega)
  · exact tile_v arg5 harg5 x2 1 1 ![512, 128] rfl (by decide) x y (by omega) (by omega) (by omega) (by omega)
  · exact tile_one y x2 x (by omega)
  · exact tile_v arg5 harg5 x2 1 0 ![0, 128] rfl (by decide) x y (by omega) (by omega) (by omega) (by omega)
  · exact tile_one y x2 x (by omega)
  · exact tile_v arg5 harg5 x2 0 7 ![3584, 0] rfl (by decide) x y (by omega) (by omega) (by omega) (by omega)
  · exact tile_one y x2 x (by omega)
  · exact tile_v arg5 harg5 x2 0 6 ![3072, 0] rfl (by decide) x y (by omega) (by omega) (by omega) (by omega)
  · exact tile_one y x2 x (by omega)
  · exact tile_v arg5 harg5 x2 0 5 ![2560, 0] rfl (by decide) x y (by omega) (by omega) (by omega) (by omega)
  · exact tile_one y x2 x (by omega)
  · exact tile_v arg5 harg5 x2 0 4 ![2048, 0] rfl (by decide) x y (by omega) (by omega) (by omega) (by omega)
  · exact tile_one y x2 x (by omega)
  · exact tile_v arg5 harg5 x2 0 3 ![1536, 0] rfl (by decide) x y (by omega) (by omega) (by omega) (by omega)
  · exact tile_one y x2 x (by omega)
  · exact tile_v arg5 harg5 x2 0 2 ![1024, 0] rfl (by decide) x y (by omega) (by omega) (by omega) (by omega)
  · exact tile_one y x2 x (by omega)
  · exact tile_v arg5 harg5 x2 0 1 ![512, 0] rfl (by decide) x y (by omega) (by omega) (by omega) (by omega)
  · exact tile_one y x2 x (by omega)
  · exact tile_v arg5 harg5 x2 0 0 ![0, 0] rfl (by decide) x y (by omega) (by omega) (by omega) (by omega)
end Cert.KernelIdeal.Step
-- ==== Proof.Array.lean ====
module
public import proofs.«01_k».proof.Proof.Scratch
public import proofs.«01_k».proof.Proof.Gen.KernelIdeal.Value
public import Idealize.ShloMosaic.Lib.Pipeline.ValueKit
@[expose] public section
set_option maxRecDepth 16384
noncomputable section
namespace Cert.KernelIdeal.Step
open Cert.KernelIdeal Cert.KernelIdeal.Gen Idealize.ShloMosaic Idealize.ShloMosaic.TcCoe Idealize.SL.Sem Idealize.ShloMosaic.Tactic

/-! # The kernel's result array, index by index -/

variable (m : (ℓ : Loc nD τ sig) → Buf (Elt Ideal) ℓ) (c : Dev nD)

/-- Grid point of batch `b`, head group `g`, query block `i`. -/
def pt (b : Fin 4) (g : Fin 2) (i : Fin 8) : Fin cfg0.N := ⟨16 * b.val + 8 * g.val + i.val, by rw [show cfg0.N = 64 from N_0]; omega⟩

theorem co2 : ∀ b g i, (grid0.coords (pt b g i) 2).val = i.val := by decide +kernel
theorem ix_q0 : ∀ b g i, win0_0.index (pt b g i) 0 = 8 * b.val + i.val := by decide +kernel
theorem ix_q1 : ∀ b g i, win0_0.index (pt b g i) 1 = g.val := by decide +kernel
theorem ix_k0 : ∀ b g i, win0_1.index (pt b g i) 0 = b.val := by decide +kernel
theorem ix_k1 : ∀ b g i, win0_1.index (pt b g i) 1 = g.val := by decide +kernel
theorem ix_v0 : ∀ b g i, win0_2.index (pt b g i) 0 = b.val := by decide +kernel
theorem ix_v1 : ∀ b g i, win0_2.index (pt b g i) 1 = g.val := by decide +kernel
theorem ix_o0 : ∀ b g i, win0_3.index (pt b g i) 0 = 8 * b.val + i.val := by decide +kernel
theorem ix_o1 : ∀ b g i, win0_3.index (pt b g i) 1 = g.val := by decide +kernel

/-- The query block of a grid point. -/
def qb (Q : Vec Ideal S16384x2048 .bf16) (b : Fin 4) (g : Fin 2) (i : Fin 8) : Vec Ideal S512x1024 .bf16 := fun y =>
  Q (ix2 (⟨4096 * b.val + 512 * i.val + (y 0).val, by have := (y 0).isLt; dsimp at *; omega⟩ : Fin 16384) (⟨1024 * g.val + (y 1).val, by have := (y 1).isLt; dsimp at *; omega⟩ : Fin 2048))
/-- The keys of a batch and head group. -/
def kb (K : Vec Ideal S16384x2048 .bf16) (b : Fin 4) (g : Fin 2) : Vec Ideal S4096x1024 .bf16 := fun y =>
  K (ix2 (⟨4096 * b.val + (y 0).val, by have := (y 0).isLt; dsimp at *; omega⟩ : Fin 16384) (⟨1024 * g.val + (y 1).val, by have := (y 1).isLt; dsimp at *; omega⟩ : Fin 2048))
/-- The values of a batch and head group. -/
def vb (W : Vec Ideal S16384x1024 .bf16) (b : Fin 4) (g : Fin 2) : Vec Ideal S4096x512 .bf16 := fun y =>
  W (ix2 (⟨4096 * b.val + (y 0).val, by have := (y 0).isLt; dsimp at *; omega⟩ : Fin 16384) (⟨512 * g.val + (y 1).val, by have := (y 1).isLt; dsimp at *; omega⟩ : Fin 1024))

theorem iblk_q (b g i) : iblk m c 0 (pt b g i) = qb (V m c main_v21) b g i := by
  funext y
  unfold qb
  blk_ext [iblk, ix_q0 b g i, ix_q1 b g i]

theorem iblk_k (b g i) : iblk m c 1 (pt b g i) = kb (V m c main_v23) b g := by
  funext y
  unfold kb
  blk_ext [iblk, ix_k0 b g i, ix_k1 b g i]

theorem iblk_v (b g i) : iblk m c 2 (pt b g i) = vb (V m c main_v25) b g := by
  funext y
  unfold vb
  blk_ext [iblk, ix_v0 b g i, ix_v1 b g i]

/-- Every point's scratch holds the transposed values of its batch and head group. -/
theorem scratch_all (b : Fin 4) (g : Fin 2) : ∀ (n : ℕ) (hn : n < 8), (outsAt0 m c (pt b g ⟨n, hn⟩).val (pt b g ⟨n, hn⟩).isLt).2 = vt (vb (V m c main_v25) b g)
  | 0, hn => by
    rw [outsAt0_A m c (pt b g ⟨0, hn⟩) (by show (16 * b.val + 8 * g.val + 0) % 8 = 0; omega)]
    dsimp only
    rw [scratch_A, iblk_v]
  | n + 1, hn => by
    rw [outsAt0_B m c (pt b g ⟨n + 1, hn⟩) (by show ¬(16 * b.val + 8 * g.val + (n + 1)) % 8 = 0; omega)]
    exact scratch_all b g n (by omega)

/-- What a grid point writes back. -/
theorem point_out (b : Fin 4) (g : Fin 2) (i : Fin 8) (h : Fin 4) (r : Fin 512) (d : Fin 128) :
    (outsAt0 m c (pt b g i).val (pt b g i).isLt).1 (ix2 r (⟨128 * h.val + d.val, by omega⟩ : Fin 512))
      = Ideal.div (fin (kb (V m c main_v23) b g) (qb (V m c main_v21) b g i) (vt (vb (V m c main_v25) b g)) h i r (Fin.castLE (by omega) d))
          (fin (kb (V m c main_v23) b g) (qb (V m c main_v21) b g i) (vt (vb (V m c main_v25) b g)) h i r 128) := by
  have hi : i.val < 8 := i.isLt
  have e2 : grid0.coords (pt b g i) 2 = i := Fin.ext (co2 b g i)
  by_cases h0 : (pt b g i).val % 8 = 0
  · rw [outsAt0_A m c (pt b g i) h0]
    dsimp only
    rw [out_A, scratch_A, iblk_q, iblk_k, iblk_v, e2]
  · rw [outsAt0_B m c (pt b g i) h0]
    dsimp only
    have h1 : (16 * b.val + 8 * g.val + i.val) % 8 ≠ 0 := h0
    have hs := scratch_all m c b g (i.val - 1) (by omega)
    have hp : (pt b g ⟨i.val - 1, by omega⟩).val = (pt b g i).val - 1 := by
      show 16 * b.val + 8 * g.val + (i.val - 1) = 16 * b.val + 8 * g.val + i.val - 1
      omega
    have hs' : (outsAt0 m c ((pt b g i).val - 1) (Nat.lt_of_le_of_lt (Nat.sub_le _ _) (pt b g i).isLt)).2 = vt (vb (V m c main_v25) b g) := by
      rw [← hs]
      congr 1
      simp only [hp]
    rw [out_B, hs', iblk_q, iblk_k, e2]

/-- The result array at batch `b`, query block `i`, row `r`, head group `g`, head `h` of it and lane `d`. -/
theorem arr_apply (b : Fin 4) (g : Fin 2) (i : Fin 8) (h : Fin 4) (r : Fin 512) (d : Fin 128) :
    (dats m 0 c).arrAt 3 cfg0.N (ix2 (⟨4096 * b.val + 512 * i.val + r.val, by omega⟩ : Fin 16384) (⟨512 * g.val + 128 * h.val + d.val, by omega⟩ : Fin 1024))
      = Ideal.div (fin (kb (V m c main_v23) b g) (qb (V m c main_v21) b g i) (vt (vb (V m c main_v25) b g)) h i r (Fin.castLE (by omega) d))
          (fin (kb (V m c main_v23) b g) (qb (V m c main_v21) b g i) (vt (vb (V m c main_v25) b g)) h i r 128) := by
  rw [← point_out]
  have e := congrFun ((Value.blocks3 m c (pt b g i) (by revert b g i; decide +kernel)).trans (Value.flushed3 m c (pt b g i))) (ix2 r (⟨128 * h.val + d.val, by omega⟩ : Fin 512))
  refine Eq.trans ?_ e
  blk_ext [ix_o0 b g i, ix_o1 b g i]

end Cert.KernelIdeal.Step
-- ==== Proof.Host.lean ====
module
public import proofs.«01_k».proof.Proof.Array
public import Idealize.ShloMosaic.Lib.Claim
public import Idealize.ShloMosaic.Lib.StableHlo.RunRead
@[expose] public section
set_option maxRecDepth 16384
noncomputable section
namespace Cert.KernelIdeal.Step
open Cert.KernelIdeal Cert.KernelIdeal.Gen Idealize.ShloMosaic Idealize.ShloMosaic.TcCoe Idealize.SL.Sem Idealize.ShloMosaic.Tactic

/-! # The packed queries, keys and values the kernel is launched on -/

/-- The scale of the queries: one over the root of 192 and over the logarithm of two. -/
def scl : FVec Ideal S_ .f32 :=
  Host.divf (constant S_ FTy.f32 0x3F800000#32) (mulf (Host.sqrt (constant S_ FTy.f32 0x43400000#32)) (Host.log (constant S_ FTy.f32 0x40000000#32)))

/-- The scale as a real. -/
def sc : ℝ := 1 / (Real.sqrt 192 * Real.log 2)

theorem sc_pos : 0 < sc := by
  unfold sc
  have := Real.log_pos (by norm_num : (1 : ℝ) < 2)
  positivity

theorem w192 : Ideal.ofBits .f32 0x43400000#32 = ((192 : ℝ) : EReal) := by
  simp [Ideal.ofBits, Ideal.ieee, -EReal.coe_mul]; norm_num
theorem w2 : Ideal.ofBits .f32 0x40000000#32 = ((2 : ℝ) : EReal) := by
  simp [Ideal.ofBits, Ideal.ieee, -EReal.coe_mul]; norm_num

theorem scl_apply (j : S_.Idx) : scl j = (sc : EReal) := by
  have hl := Real.log_pos (by norm_num : (1 : ℝ) < 2)
  have e : Ideal.div 1 (Ideal.sqrt (Ideal.ofBits .f32 0x43400000#32) * Ideal.log (Ideal.ofBits .f32 0x40000000#32)) = (sc : EReal) := by
    rw [w192, w2]
    have e1 : Ideal.sqrt ((192 : ℝ) : EReal) = ((Real.sqrt 192 : ℝ) : EReal) := if_neg (by norm_num)
    have e2 : Ideal.log ((2 : ℝ) : EReal) = ((Real.log 2 : ℝ) : EReal) := if_neg (by norm_num)
    rw [e1, e2, ← EReal.coe_mul, Ideal.div_coe (by positivity), one_mul]
    rfl
  unfold scl
  pointwise
  exact e

/-- The rotary lanes of the queries, scaled and laid out in four parts: the first half, zeros, the second half, zeros. -/
def peQ (x1 : Vec Ideal S4x4096x8x64 .f32) : Vec Ideal S4x4096x8x128 .f32 :=
  concatenate S4x4096x8x128 3
    [⟨S4x4096x8x32, extractStridedSlice S4x4096x8x32 ![0, 0, 0, 0] (mulf x1 (broadcastInDim S4x4096x8x64 ![] bcast_S_S4x4096x8x64 scl)) slices_S4x4096x8x64_S4x4096x8x32_0_0_0_0⟩,
     ⟨S4x4096x8x32, broadcastInDim S4x4096x8x32 ![] bcast_S_S4x4096x8x32 (constant (F := Ideal) S_ .f32 0x00000000#32)⟩,
     ⟨S4x4096x8x32, extractStridedSlice S4x4096x8x32 ![0, 0, 0, 32] (mulf x1 (broadcastInDim S4x4096x8x64 ![] bcast_S_S4x4096x8x64 scl)) slices_S4x4096x8x64_S4x4096x8x32_0_0_0_32⟩,
     ⟨S4x4096x8x32, broadcastInDim S4x4096x8x32 ![] bcast_S_S4x4096x8x32 (constant (F := Ideal) S_ .f32 0x00000000#32)⟩]
    concatenates_S4x4096x8x32_S4x4096x8x32_S4x4096x8x32_S4x4096x8x32_S4x4096x8x128_d3

/-- The packed queries. -/
def qh (x0 : Vec Ideal S4x4096x8x128 .f32) (x1 : Vec Ideal S4x4096x8x64 .f32) : Vec Ideal S16384x2048 .bf16 :=
  truncf (F := Ideal) .bf16 (shapeCast S16384x2048 (concatenate S4x4096x8x256 3 [⟨S4x4096x8x128, mulf (F := Ideal) (φ := .f32) x0 (broadcastInDim S4x4096x8x128 ![] bcast_S_S4x4096x8x128 scl)⟩, ⟨S4x4096x8x128, peQ x1⟩]
    concatenates_S4x4096x8x128_S4x4096x8x128_S4x4096x8x256_d3) shapeCasts_S4x4096x8x256_S16384x2048) bitsLt_bf16_f32

/-- The rotary lanes of the keys, laid out as those of the queries. -/
def peK (x3 : Vec Ideal S4x4096x64 .f32) : Vec Ideal S4x4096x128 .f32 :=
  concatenate S4x4096x128 2
    [⟨S4x4096x32, extractStridedSlice S4x4096x32 ![0, 0, 0] x3 slices_S4x4096x64_S4x4096x32_0_0_0⟩,
     ⟨S4x4096x32, broadcastInDim S4x4096x32 ![] bcast_S_S4x4096x32 (constant (F := Ideal) S_ .f32 0x00000000#32)⟩,
     ⟨S4x4096x32, extractStridedSlice S4x4096x32 ![0, 0, 32] x3 slices_S4x4096x64_S4x4096x32_0_0_32⟩,
     ⟨S4x4096x32, broadcastInDim S4x4096x32 ![] bcast_S_S4x4096x32 (constant (F := Ideal) S_ .f32 0x00000000#32)⟩]
    concatenates_S4x4096x32_S4x4096x32_S4x4096x32_S4x4096x32_S4x4096x128_d2

/-- The packed keys. -/
def kh (x2 : Vec Ideal S4x4096x8x128 .f32) (x3 : Vec Ideal S4x4096x64 .f32) : Vec Ideal S16384x2048 .bf16 :=
  truncf (F := Ideal) .bf16 (shapeCast S16384x2048 (concatenate S4x4096x8x256 3 [⟨S4x4096x8x128, x2⟩,
    ⟨S4x4096x8x128, broadcastInDim S4x4096x8x128 ![0, 1, 2, 3] bcast_S4x4096x1x128_S4x4096x8x128_0_1_2_3 (broadcastInDim S4x4096x1x128 ![0, 1, 3] bcast_S4x4096x128_S4x4096x1x128_0_1_3 (peK x3))⟩]
    concatenates_S4x4096x8x128_S4x4096x8x128_S4x4096x8x256_d3) shapeCasts_S4x4096x8x256_S16384x2048) bitsLt_bf16_f32

/-- The packed values. -/
def vh (x4 : Vec Ideal S4x4096x8x128 .f32) : Vec Ideal S16384x1024 .bf16 :=
  truncf (F := Ideal) .bf16 (shapeCast S16384x1024 x4 shapeCasts_S4x4096x8x128_S16384x1024) bitsLt_bf16_f32

section
variable (m : (ℓ : Loc nD τ sig) → Buf (Elt Ideal) ℓ) (c : Dev nD)

theorem up5 : StableHlo.upto hostOps0 (fun b => m (c, b)) 16 (Proc.tc.devRef main_v5)
    = mulf (F := Ideal) (φ := .f32) (m ((c : Thread nD τ).loc main_arg0)) (broadcastInDim S4x4096x8x128 ![] bcast_S_S4x4096x8x128 scl) := by
  after_reads_simp
  rfl
theorem up9 : StableHlo.upto hostOps0 (fun b => m (c, b)) 15 (Proc.tc.devRef main_v9)
    = extractStridedSlice S4x4096x8x32 ![0, 0, 0, 0] (mulf (F := Ideal) (φ := .f32) (m ((c : Thread nD τ).loc main_arg1)) (broadcastInDim S4x4096x8x64 ![] bcast_S_S4x4096x8x64 scl)) slices_S4x4096x8x64_S4x4096x8x32_0_0_0_0 := by
  after_reads_simp
  rfl
theorem up10 : StableHlo.upto hostOps0 (fun b => m (c, b)) 15 (Proc.tc.devRef main_v10)
    = extractStridedSlice S4x4096x8x32 ![0, 0, 0, 32] (mulf (F := Ideal) (φ := .f32) (m ((c : Thread nD τ).loc main_arg1)) (broadcastInDim S4x4096x8x64 ![] bcast_S_S4x4096x8x64 scl)) slices_S4x4096x8x64_S4x4096x8x32_0_0_0_32 := by
  after_reads_simp
  rfl
theorem up8 : StableHlo.upto hostOps0 (fun b => m (c, b)) 15 (Proc.tc.devRef main_v8)
    = broadcastInDim S4x4096x8x32 ![] bcast_S_S4x4096x8x32 (constant (F := Ideal) S_ .f32 0x00000000#32) := by
  after_reads_simp
theorem up11 : StableHlo.upto hostOps0 (fun b => m (c, b)) 16 (Proc.tc.devRef main_v11) = peQ (m ((c : Thread nD τ).loc main_arg1)) := by
  after_reads_simp
  simp only [Matrix.cons_val]
  rw [up9, up10, up8]
  rfl
theorem V21 : V m c main_v21 = qh (m ((c : Thread nD τ).loc main_arg0)) (m ((c : Thread nD τ).loc main_arg1)) := by
  unfold V
  after_reads_simp
  rw [up5, up11]
  rfl
theorem up14 : StableHlo.upto hostOps0 (fun b => m (c, b)) 21 (Proc.tc.devRef main_v14)
    = extractStridedSlice S4x4096x32 ![0, 0, 0] (m ((c : Thread nD τ).loc main_arg3)) slices_S4x4096x64_S4x4096x32_0_0_0 := by
  after_reads_simp
  try rfl
theorem up15 : StableHlo.upto hostOps0 (fun b => m (c, b)) 21 (Proc.tc.devRef main_v15)
    = extractStridedSlice S4x4096x32 ![0, 0, 32] (m ((c : Thread nD τ).loc main_arg3)) slices_S4x4096x64_S4x4096x32_0_0_32 := by
  after_reads_simp
  try rfl
theorem up13 : StableHlo.upto hostOps0 (fun b => m (c, b)) 21 (Proc.tc.devRef main_v13)
    = broadcastInDim S4x4096x32 ![] bcast_S_S4x4096x32 (constant (F := Ideal) S_ .f32 0x00000000#32) := by
  after_reads_simp
theorem up16 : StableHlo.upto hostOps0 (fun b => m (c, b)) 24 (Proc.tc.devRef main_v18)
   = broadcastInDim S4x4096x8x128 ![0, 1, 2, 3] bcast_S4x4096x1x128_S4x4096x8x128_0_1_2_3 (broadcastInDim S4x4096x1x128 ![0, 1, 3] bcast_S4x4096x128_S4x4096x1x128_0_1_3 (peK (m ((c : Thread nD τ).loc main_arg3)))) := by
  after_reads_simp
  simp only [Matrix.cons_val]
  rw [up14, up13, up15]
  rfl
theorem up2 : StableHlo.upto hostOps0 (fun b => m (c, b)) 24 (Proc.tc.devRef main_arg2) = m ((c : Thread nD τ).loc main_arg2) := by
  after_reads_simp
  try rfl
theorem V23 : V m c main_v23 = kh (m ((c : Thread nD τ).loc main_arg2)) (m ((c : Thread nD τ).loc main_arg3)) := by
  unfold V
  after_reads_simp
  rw [up2, up16]
  rfl
theorem V25 : V m c main_v25 = vh (m ((c : Thread nD τ).loc main_arg4)) := by
  unfold V
  after_reads_simp
  rfl
end

section
variable (x0 : Vec Ideal S4x4096x8x128 .f32) (x1 : Vec Ideal S4x4096x8x64 .f32) (x2 : Vec Ideal S4x4096x8x128 .f32) (x3 : Vec Ideal S4x4096x64 .f32) (x4 : Vec Ideal S4x4096x8x128 .f32)
  (b : Fin 4) (s : Fin 4096) (H : Fin 8)

theorem peQ_0 (d : Fin 32) : peQ x1 (ix4 b s H (⟨d.val, by omega⟩ : Fin 128)) = (x1 (ix4 b s H (⟨d.val, by omega⟩ : Fin 64)) : EReal) * sc := by
  have hd := d.isLt
  unfold peQ
  pointwise
  simp [scl_apply]
theorem peQ_1 (d : Fin 32) : peQ x1 (ix4 b s H (⟨32 + d.val, by omega⟩ : Fin 128)) = (0 : EReal) := by
  have hd := d.isLt
  unfold peQ
  pointwise
theorem peQ_2 (d : Fin 32) : peQ x1 (ix4 b s H (⟨64 + d.val, by omega⟩ : Fin 128)) = (x1 (ix4 b s H (⟨32 + d.val, by omega⟩ : Fin 64)) : EReal) * sc := by
  have hd := d.isLt
  unfold peQ
  pointwise
  rw [dif_neg (by omega), dif_neg (by omega), dif_pos (by omega)]
  simp only [show 32 + (64 + d.val - 32 - 32) = 32 + d.val by omega, scl_apply]
theorem peQ_3 (d : Fin 32) : peQ x1 (ix4 b s H (⟨96 + d.val, by omega⟩ : Fin 128)) = (0 : EReal) := by
  have hd := d.isLt
  unfold peQ
  pointwise
  rw [dif_neg (by omega), dif_neg (by omega), dif_neg (by omega)]

theorem peK_0 (d : Fin 32) : peK x3 (ix3 b s (⟨d.val, by omega⟩ : Fin 128)) = (x3 (ix3 b s (⟨d.val, by omega⟩ : Fin 64)) : EReal) := by
  have hd := d.isLt
  unfold peK
  pointwise
theorem peK_2 (d : Fin 32) : peK x3 (ix3 b s (⟨64 + d.val, by omega⟩ : Fin 128)) = (x3 (ix3 b s (⟨32 + d.val, by omega⟩ : Fin 64)) : EReal) := by
  have hd := d.isLt
  unfold peK
  pointwise
  rw [dif_neg (by omega), dif_neg (by omega), dif_pos (by omega)]
  simp only [show 32 + (64 + d.val - 32 - 32) = 32 + d.val by omega]

/-- A query's first 128 lanes: the part without rotation, scaled. -/
theorem qh_n (d : Fin 128) :
    qh x0 x1 (ix2 (⟨4096 * b.val + s.val, by omega⟩ : Fin 16384) (⟨256 * H.val + d.val, by omega⟩ : Fin 2048)) = (x0 (ix4 b s H d) : EReal) * sc := by
  have hd := d.isLt
  have e : (256 * H.val + d.val) % 256 = d.val := by omega
  unfold qh
  pointwise
  simp only [e, scl_apply]
  rw [dif_pos hd]
/-- A query's last 128 lanes: the rotary lanes as laid out. -/
theorem qh_p (d : Fin 128) :
    qh x0 x1 (ix2 (⟨4096 * b.val + s.val, by omega⟩ : Fin 16384) (⟨256 * H.val + (128 + d.val), by omega⟩ : Fin 2048)) = peQ x1 (ix4 b s H d) := by
  have hd := d.isLt
  have e : (256 * H.val + (128 + d.val)) % 256 = 128 + d.val := by omega
  unfold qh
  pointwise
  simp only [e]
  rw [dif_neg (by omega)]
  simp only [Nat.add_sub_cancel_left]
theorem kh_n (d : Fin 128) :
    kh x2 x3 (ix2 (⟨4096 * b.val + s.val, by omega⟩ : Fin 16384) (⟨256 * H.val + d.val, by omega⟩ : Fin 2048)) = x2 (ix4 b s H d) := by
  have hd := d.isLt
  have e : (256 * H.val + d.val) % 256 = d.val := by omega
  unfold kh
  pointwise
  simp only [e]
  rw [dif_pos hd]
theorem kh_p (d : Fin 128) :
    kh x2 x3 (ix2 (⟨4096 * b.val + s.val, by omega⟩ : Fin 16384) (⟨256 * H.val + (128 + d.val), by omega⟩ : Fin 2048)) = peK x3 (ix3 b s d) := by
  have hd := d.isLt
  have e : (256 * H.val + (128 + d.val)) % 256 = 128 + d.val := by omega
  unfold kh
  pointwise
  simp only [e]
  rw [dif_neg (by omega)]
  simp only [Nat.add_sub_cancel_left]
theorem vh_apply (d : Fin 128) :
    vh x4 (ix2 (⟨4096 * b.val + s.val, by omega⟩ : Fin 16384) (⟨128 * H.val + d.val, by omega⟩ : Fin 1024)) = x4 (ix4 b s H d) := by
  have hd := d.isLt
  unfold vh
  pointwise

end
end Cert.KernelIdeal.Step
-- ==== Proof.Sums.lean ====
module
public import proofs.«01_k».proof.Proof.Flash
public import proofs.«01_k».proof.Proof.Loop
@[expose] public section
noncomputable section
namespace Cert.KernelIdeal.Step
open Cert.KernelIdeal Cert.KernelIdeal.Gen Idealize.ShloMosaic Idealize.ShloMosaic.TcCoe Idealize.SL.Sem Idealize.ShloMosaic.Tactic

/-! # What one grid point's rows are: a weighted sum over all 4096 keys, over the sum of the weights -/

section
variable (K : Vec Ideal S4096x1024 .bf16) (Q : Vec Ideal S512x1024 .bf16) (VT : Vec Ideal S4x8x144x512 .bf16) (h : Fin 4) (i : Fin 8) (r : Fin 512)
  (S : Fin 8 → Fin 512 → ℝ)

/-- The weight of key `x` of block `j` for query row `r` of block `i`: two to the score, if the key's chunk of 64 is at
most the query's, else zero. -/
def wt (j : Fin 8) (x : Fin 512) : ℝ :=
  if (512 * j.val + x.val) / 64 ≤ (512 * i.val + r.val) / 64 then Real.rpow 2 (S j x) else 0

/-- The weighted sum of the first `n` blocks. -/
def part (d : Fin 144) (n : ℕ) : EReal :=
  ∑ j : Fin 8, if j.val < n then ∑ x : Fin 512, VT (ix4 h j d x) * Ideal.exp2 (S j x : EReal) else 0

theorem part_zero (d : Fin 144) : part VT h S d 0 = 0 := by simp [part]

theorem part_succ (d : Fin 144) (n : ℕ) (hn : n < 8) :
    part VT h S d (n + 1) = part VT h S d n + ∑ x : Fin 512, VT (ix4 h ⟨n, hn⟩ d x) * Ideal.exp2 (S ⟨n, hn⟩ x : EReal) := by
  unfold part
  have e : ∀ j : Fin 8, (if j.val < n + 1 then ∑ x : Fin 512, VT (ix4 h j d x) * Ideal.exp2 (S j x : EReal) else 0)
      = (if j.val < n then ∑ x : Fin 512, VT (ix4 h j d x) * Ideal.exp2 (S j x : EReal) else 0)
        + (if j = ⟨n, hn⟩ then ∑ x : Fin 512, VT (ix4 h j d x) * Ideal.exp2 (S j x : EReal) else 0) := by
    intro j
    by_cases h1 : j.val < n
    · rw [if_pos (by omega), if_pos h1, if_neg (fun e => by rw [e] at h1; exact lt_irrefl _ h1), add_zero]
    · by_cases h2 : j = ⟨n, hn⟩
      · rw [if_pos (by rw [h2]; exact Nat.lt_succ_self n), if_neg h1, if_pos h2, zero_add]
      · rw [if_neg (fun h3 => h2 (Fin.ext (by show j.val = n; omega))), if_neg h1, if_neg h2, zero_add]
  rw [Finset.sum_congr rfl fun j _ => e j, Finset.sum_add_distrib, Finset.sum_ite_eq' Finset.univ (⟨n, hn⟩ : Fin 8)]
  simp only [Finset.mem_univ, if_true]

/-- After `n` key blocks the running maximum and sums stand for the weighted sums of those blocks. -/
theorem loop_inv (hS : ∀ j x, scf K Q h j r x = (S j x : EReal)) (n : ℕ) (hn : n ≤ 8) (d : Fin 144) :
    Inv (stM K Q h r n) (stA K Q VT h d r n) (part VT h S d n) := by
  induction n with
  | zero => exact Or.inl ⟨rfl, rfl, part_zero VT h S d⟩
  | succ n ih =>
    have hn' : n < 8 := by omega
    have hs : scf K Q h ⟨n, hn'⟩ r = fun x => (S ⟨n, hn'⟩ x : EReal) := funext fun x => hS _ x
    obtain ⟨μ, h1, h2⟩ := step_inv _ _ _ (fun x => (S ⟨n, hn'⟩ x : EReal)) (fun x => VT (ix4 h ⟨n, hn'⟩ d x)) (ih (by omega))
      (fun x => Or.inr ⟨_, rfl⟩) 0 _ rfl
    refine Or.inr ⟨μ, ?_, ?_⟩
    · show (if hn : n < 8 then mxf (stM K Q h r n) (scf K Q h ⟨n, hn⟩ r) else stM K Q h r n) = _
      rw [dif_pos hn', hs]; exact h1
    · show (if hn : n < 8 then acf (stM K Q h r n) (stA K Q VT h d r n) (scf K Q h ⟨n, hn⟩ r) (fun x => VT (ix4 h ⟨n, hn⟩ d x))
        else stA K Q VT h d r n) = _
      rw [dif_pos hn', hs, part_succ VT h S d n hn']; exact h2

/-- The blocks before the query's own and its own under the mask are all the keys under the mask. -/
theorem whole (d : Fin 144) (hS : ∀ j x, scf K Q h j r x = (S j x : EReal)) :
    part VT h S d i.val + ∑ x : Fin 512, VT (ix4 h i d x) * Ideal.exp2 (scm K Q h i r x)
      = ∑ j : Fin 8, ∑ x : Fin 512, VT (ix4 h j d x) * (wt i r S j x : EReal) := by
  have e : ∀ j : Fin 8, (∑ x : Fin 512, VT (ix4 h j d x) * (wt i r S j x : EReal))
      = (if j.val < i.val then ∑ x : Fin 512, VT (ix4 h j d x) * Ideal.exp2 (S j x : EReal) else 0)
        + (if j = i then ∑ x : Fin 512, VT (ix4 h j d x) * Ideal.exp2 (scm K Q h j r x) else 0) := by
    intro j
    by_cases h1 : j.val < i.val
    · rw [if_pos h1, if_neg (fun e => by rw [e] at h1; exact lt_irrefl _ h1), add_zero]
      refine Finset.sum_congr rfl fun x _ => ?_
      have hx := x.isLt
      unfold wt
      rw [if_pos (by omega), Ideal.exp2_coe]
    · by_cases h2 : j = i
      · subst h2
        rw [if_neg h1, if_pos rfl, zero_add]
        refine Finset.sum_congr rfl fun x _ => ?_
        have hx := x.isLt
        have hr := r.isLt
        unfold wt scm
        by_cases h3 : x.val / 64 ≤ r.val / 64
        · rw [if_pos (by omega), if_pos h3, hS, Ideal.exp2_coe]
        · rw [if_neg (by omega), if_neg h3, Ideal.exp2_bot, EReal.coe_zero]
      · rw [if_neg h1, if_neg h2, zero_add]
        refine Finset.sum_eq_zero fun x _ => ?_
        have hx := x.isLt
        have hr := r.isLt
        have hne : j.val ≠ i.val := fun e => h2 (Fin.ext e)
        unfold wt
        rw [if_neg (by omega), EReal.coe_zero, mul_zero]
  rw [Finset.sum_congr rfl fun j _ => e j, Finset.sum_add_distrib, Finset.sum_ite_eq' Finset.univ i]
  simp only [Finset.mem_univ, if_true]
  rfl

/-- The final sums share one positive factor. -/
theorem fin_sum (hS : ∀ j x, scf K Q h j r x = (S j x : EReal)) : ∃ μ : ℝ, ∀ d : Fin 144,
    fin K Q VT h i r d = ((Real.rpow 2 (-μ) : ℝ) : EReal) * ∑ j : Fin 8, ∑ x : Fin 512, VT (ix4 h j d x) * (wt i r S j x : EReal) := by
  have hsc : ∀ x, Sc (scm K Q h i r x) := by
    intro x
    unfold scm
    split
    · exact Or.inr ⟨_, hS i x⟩
    · exact Or.inl rfl
  have h0 : scm K Q h i r r = (S i r : EReal) := by
    unfold scm
    rw [if_pos le_rfl, hS]
  have key := fun d => step_inv _ _ _ (scm K Q h i r) (fun x => VT (ix4 h i d x)) (loop_inv K Q VT h r S hS i.val (by omega) d) hsc r _ h0
  obtain ⟨μ, hμ, -⟩ := key 0
  refine ⟨μ, fun d => ?_⟩
  obtain ⟨ν, h1, h2⟩ := key d
  have : ν = μ := by rw [hμ] at h1; exact (EReal.coe_eq_coe_iff.1 h1).symm
  subst this
  rw [← whole K Q VT h i r S d hS]
  exact h2

/-- The sum of the weights is positive: the query's own key has a positive weight. -/
theorem wt_pos : 0 < ∑ j : Fin 8, ∑ x : Fin 512, wt i r S j x := by
  have hnn : ∀ j x, 0 ≤ wt i r S j x := by
    intro j x
    unfold wt
    split
    · exact Real.rpow_nonneg (by norm_num) _
    · exact le_rfl
  refine Finset.sum_pos' (fun j _ => Finset.sum_nonneg fun x _ => hnn j x) ⟨i, Finset.mem_univ _, ?_⟩
  refine Finset.sum_pos' (fun x _ => hnn i x) ⟨r, Finset.mem_univ _, ?_⟩
  unfold wt
  rw [if_pos le_rfl]
  exact Real.rpow_pos_of_pos (by norm_num) _

/-- The quotient the kernel stores, where row 128 of the transposed values holds ones. -/
theorem fin_div (hS : ∀ j x, scf K Q h j r x = (S j x : EReal)) (hone : ∀ j x, VT (ix4 h j (128 : Fin 144) x) = (1 : EReal)) (d : Fin 144) :
    Ideal.div (fin K Q VT h i r d) (fin K Q VT h i r 128)
      = (∑ j : Fin 8, ∑ x : Fin 512, VT (ix4 h j d x) * (wt i r S j x : EReal)) * ((1 / (∑ j : Fin 8, ∑ x : Fin 512, wt i r S j x) : ℝ) : EReal) := by
  obtain ⟨μ, hμ⟩ := fin_sum K Q VT h i r S hS
  rw [hμ d, hμ 128]
  have e : (∑ j : Fin 8, ∑ x : Fin 512, VT (ix4 h j (128 : Fin 144) x) * (wt i r S j x : EReal)) = ((∑ j : Fin 8, ∑ x : Fin 512, wt i r S j x : ℝ) : EReal) := by
    rw [← sum_coe]
    refine Finset.sum_congr rfl fun j _ => ?_
    rw [← sum_coe]
    exact Finset.sum_congr rfl fun x _ => by rw [hone, one_mul]
  rw [e]
  exact div_cancel _ _ (Real.rpow_pos_of_pos (by norm_num) _) (wt_pos i r S) _
end
end Cert.KernelIdeal.Step
-- ==== Proof.Ref.lean ====
module
public import proofs.«01_k».proof.Proof.Flash
public import proofs.«01_k».proof.Proof.Gen.ReferenceIdeal.Read
@[expose] public section
set_option maxRecDepth 16384
noncomputable section
namespace Cert.ReferenceIdeal.Attn
open Cert.ReferenceIdeal Cert.ReferenceIdeal.Gen Cert.ReferenceIdeal.Read Idealize.ShloMosaic Idealize.ShloMosaic.Tactic
open Cert.KernelIdeal.Step (sum_coe mul_sum_coe Sc exp_sub sup_real div_cancel ninf_word)

/-! # The reference at an index: the softmax-weighted sum of the values -/

/-- The reference's scale: one over the root of 192. -/
def rs : ℝ := 1 / Real.sqrt 192

theorem word192 : Ideal.ofBits .f32 0x43400000#32 = ((192 : ℝ) : EReal) := by
  simp [Ideal.ofBits, Ideal.ieee, -EReal.coe_mul]; norm_num

theorem scale_apply (j : S_.Idx) : val_main_v1 (F := Ideal) j = (rs : EReal) := by
  rw [val_main_v1_apply, val_main_v0_apply, val_main_cst_apply, val_main_cst_0_apply]
  have e1 : Ideal.sqrt ((192 : ℝ) : EReal) = ((Real.sqrt 192 : ℝ) : EReal) := if_neg (by norm_num)
  show Ideal.div (Ideal.ofBits .f32 0x3F800000#32) (Ideal.sqrt (Ideal.ofBits .f32 0x43400000#32)) = (rs : EReal)
  rw [word192, e1, Ideal.div_coe (by positivity)]
  have e2 : Ideal.ofBits .f32 0x3F800000#32 = ((1 : ℝ) : EReal) := by
    simp [Ideal.ofBits, Ideal.ieee, -EReal.coe_mul]; norm_num
  rw [e2, EReal.coe_one, one_mul]
  rfl

theorem sle64 (p q : Fin 64) : IntOp.cmpi CmpIPredicate.sle (BitVec.ofNat 32 p.val) (BitVec.ofNat 32 q.val) = if p.val ≤ q.val then 1#1 else 0#1 := by
  revert p q; decide +kernel

/-- The chunk mask of the reference. -/
theorem mask_apply (b : Fin 4) (H : Fin 8) (q k : Fin 4096) :
    val_main_call0_v1 (F := Ideal) (ix4 b H q k) = if k.val / 64 ≤ q.val / 64 then 1#1 else 0#1 := by
  rw [val_main_call0_v1_apply, val_main_v12_apply, val_main_v10_apply, val_main_v11_apply, val_main_v8_apply, val_main_v9_apply,
    val_main_v3_apply, val_main_v3_apply, val_main_v2_apply, val_main_v2_apply]
  exact sle64 ⟨k.val / 64, by omega⟩ ⟨q.val / 64, by omega⟩

section
variable (x0 : Vec Ideal S4x4096x8x128 .f32) (x1 : Vec Ideal S4x4096x8x64 .f32) (x2 : Vec Ideal S4x4096x8x128 .f32) (x3 : Vec Ideal S4x4096x64 .f32) (x4 : Vec Ideal S4x4096x8x128 .f32)
  (q0 : S4x4096x8x128.Idx → ℝ) (q1 : S4x4096x8x64.Idx → ℝ) (k0 : S4x4096x8x128.Idx → ℝ) (k1 : S4x4096x64.Idx → ℝ)
  (h0 : ∀ y, x0 y = (q0 y : EReal)) (h1 : ∀ y, x1 y = (q1 y : EReal)) (h2 : ∀ y, x2 y = (k0 y : EReal)) (h3 : ∀ y, x3 y = (k1 y : EReal))
  (b : Fin 4) (H : Fin 8)

/-- The product of a query and a key before any scale, over reals. -/
def dotr (q k : Fin 4096) : ℝ :=
  (∑ d : Fin 128, q0 (ix4 b q H d) * k0 (ix4 b k H d)) + ∑ d : Fin 64, k1 (ix3 b k d) * q1 (ix4 b q H d)

/-- The weight of a key before normalisation. -/
def wr (q k : Fin 4096) : ℝ := if k.val / 64 ≤ q.val / 64 then Real.exp (dotr q0 q1 k0 k1 b H q k * rs) else 0

include h0 h1 h2 h3 in
theorem score_apply (q k : Fin 4096) : val_main_v15 (F := Ideal) x0 x1 x2 x3 (ix4 b H q k)
    = if k.val / 64 ≤ q.val / 64 then ((dotr q0 q1 k0 k1 b H q k * rs : ℝ) : EReal) else ⊥ := by
  have e : val_main_v14 (F := Ideal) x0 x1 x2 x3 (ix4 b H q k) = ((dotr q0 q1 k0 k1 b H q k * rs : ℝ) : EReal) := by
    rw [val_main_v14_apply, val_main_v13_apply, scale_apply, val_main_v7_apply, val_main_v4_apply, val_main_v6_apply, val_main_v5_apply]
    unfold dotr
    rw [EReal.coe_mul, EReal.coe_add, ← sum_coe, ← sum_coe]
    show ((∑ d : Fin 128, x0 _ * x2 _ : EReal) + ∑ d : Fin 64, x3 _ * x1 _) * _ = _
    simp only [h0, h1, h2, h3, EReal.coe_mul]
    congr 2
    · refine Finset.sum_congr rfl fun d _ => ?_
      congr 3 <;> (funext a; fin_cases a <;> rfl)
    · refine Finset.sum_congr rfl fun d _ => ?_
      congr 3 <;> (funext a; fin_cases a <;> rfl)
  rw [val_main_v15_apply, mask_apply, e, val_main_call0_v2_apply, val_main_call0_v0_apply, val_main_cst_1_apply]
  show Scalar.select _ _ (Ideal.ofBits .f32 0xFF800000#32) = _
  rw [ninf_word]
  split <;> rfl

include h0 h1 h2 h3 in
theorem score_sc (y : S4x8x4096x4096.Idx) : Sc (val_main_v15 (F := Ideal) x0 x1 x2 x3 y) := by
  idx_vars y
  rw [score_apply x0 x1 x2 x3 q0 q1 k0 k1 h0 h1 h2 h3]
  split
  · exact Or.inr ⟨_, rfl⟩
  · exact Or.inl rfl

include h0 h1 h2 h3 in
/-- The row maximum the reference subtracts is a real. -/
theorem max_real (q : Fin 4096) : ∃ μ : ℝ, val_main_v18 (F := Ideal) x0 x1 x2 x3 (ix3 b H q) = (μ : EReal) := by
  obtain ⟨μ, hμ⟩ := sup_real (Finset.univ.filter fun i => reducesTo_S4x8x4096x4096_S4x8x4096_d3.drop i = ix3 b H q)
    (val_main_v15 (F := Ideal) x0 x1 x2 x3) (score_sc x0 x1 x2 x3 q0 q1 k0 k1 h0 h1 h2 h3) (ix4 b H q q)
    (by rw [Finset.mem_filter]; exact ⟨Finset.mem_univ _, by funext a; fin_cases a <;> rfl⟩)
    (dotr q0 q1 k0 k1 b H q q * rs) (by rw [score_apply x0 x1 x2 x3 q0 q1 k0 k1 h0 h1 h2 h3, if_pos le_rfl]) ⊥ (Or.inl rfl)
  refine ⟨μ, ?_⟩
  rw [← hμ, val_main_v18_apply, val_main_v17_apply, val_main_cst_3_apply]
  unfold val_main_v16
  rw [Host.reduce_eq_fold]
  show max (Ideal.ofBits .f32 0xFF800000#32) _ = _
  rw [ninf_word, val_main_cst_2_apply]
  show max ⊥ (Finset.fold max (Ideal.ofBits .f32 0xFF800000#32) _ _) = _
  rw [ninf_word]
  rfl

include h0 h1 h2 h3 in
/-- The reference at batch `b`, position `q`, head `H` and lane `d`. -/
theorem out_apply (q : Fin 4096) (d : Fin 128) : val_main_v30 (F := Ideal) x0 x1 x2 x3 x4 (ix2 (⟨4096 * b.val + q.val, by omega⟩ : Fin 16384) (⟨128 * H.val + d.val, by omega⟩ : Fin 1024))
    = (∑ k : Fin 4096, x4 (ix4 b k H d) * (wr q0 q1 k0 k1 b H q k : EReal)) * ((1 / (∑ k : Fin 4096, wr q0 q1 k0 k1 b H q k) : ℝ) : EReal) := by
  obtain ⟨μ, hμ⟩ := max_real x0 x1 x2 x3 q0 q1 k0 k1 h0 h1 h2 h3 b H q
  have ew : ∀ k : Fin 4096, val_main_v22 (F := Ideal) x0 x1 x2 x3 (ix4 b H q k) = ((Real.exp (-μ) : ℝ) : EReal) * (wr q0 q1 k0 k1 b H q k : EReal) := by
    intro k
    rw [val_main_v22_apply, val_main_v21_apply, val_main_v20_apply, val_main_v19_apply]
    have e : idx_main_v19 (idx_main_v20 (ix4 b H q k)) = ix3 b H q := by funext a; fin_cases a <;> rfl
    rw [e, hμ]
    show Ideal.exp (val_main_v15 (F := Ideal) x0 x1 x2 x3 (ix4 b H q k) - (μ : EReal)) = _
    rw [exp_sub (score_sc x0 x1 x2 x3 q0 q1 k0 k1 h0 h1 h2 h3 _), score_apply x0 x1 x2 x3 q0 q1 k0 k1 h0 h1 h2 h3]
    refine congrArg (((Real.exp (-μ) : ℝ) : EReal) * ·) ?_
    unfold wr
    split
    · rw [Ideal.exp_coe]
    · rw [Ideal.exp_bot, EReal.coe_zero]
  have hpos : 0 < ∑ k : Fin 4096, wr q0 q1 k0 k1 b H q k := by
    refine Finset.sum_pos' (fun k _ => ?_) ⟨q, Finset.mem_univ _, ?_⟩
    · unfold wr; split
      · exact (Real.exp_pos _).le
      · exact le_rfl
    · unfold wr; rw [if_pos le_rfl]; exact Real.exp_pos _
  have es : ∀ k : Fin 4096, val_main_v25 (F := Ideal) x0 x1 x2 x3 (ix4 b H q k)
      = ((Real.exp (-μ) : ℝ) : EReal) * ((∑ k : Fin 4096, wr q0 q1 k0 k1 b H q k : ℝ) : EReal) := by
    intro k
    rw [val_main_v25_apply, val_main_v24_apply]
    have e : idx_main_v24 (idx_main_v25 (ix4 b H q k)) = ix3 b H q := by funext a; fin_cases a <;> rfl
    rw [e, val_main_v23_apply, val_main_cst_4_apply]
    have e2 : ∀ k : Fin 4096, idx_main_v23 (ix3 b H q) k = ix4 b H q k := by intro k; funext a; fin_cases a <;> rfl
    simp only [e2, ew]
    rw [← sum_coe, mul_sum_coe _ _ (Real.exp_pos _).le]
    show Ideal.ofBits .f32 0x00000000#32 + _ = _
    have ez : Ideal.ofBits .f32 0x00000000#32 = (0 : EReal) := by simp [Ideal.ofBits, Ideal.ieee]
    rw [ez, zero_add]
  have ed : ∀ k : Fin 4096, val_main_v26 (F := Ideal) x0 x1 x2 x3 (ix4 b H q k)
      = (wr q0 q1 k0 k1 b H q k : EReal) * ((1 / (∑ k : Fin 4096, wr q0 q1 k0 k1 b H q k) : ℝ) : EReal) := by
    intro k
    rw [val_main_v26_apply, ew, es]
    exact div_cancel _ _ (Real.exp_pos _) hpos _
  have eo : idx_main_v28 (idx_main_v29 (ix2 (⟨4096 * b.val + q.val, by omega⟩ : Fin 16384) (⟨128 * H.val + d.val, by omega⟩ : Fin 1024))) = ix4 b H d q := by
    have hd := d.isLt
    have hb := b.isLt
    have hH := H.isLt
    have hq := q.isLt
    funext a
    fin_cases a
    · apply Fin.ext; show ((4096 * b.val + q.val) * 1024 + (128 * H.val + d.val)) / 4194304 = b.val; omega
    · apply Fin.ext; show ((4096 * b.val + q.val) * 1024 + (128 * H.val + d.val)) / 128 % 8 = H.val; omega
    · apply Fin.ext; show ((4096 * b.val + q.val) * 1024 + (128 * H.val + d.val)) % 128 = d.val; omega
    · apply Fin.ext; show ((4096 * b.val + q.val) * 1024 + (128 * H.val + d.val)) / 1024 % 4096 = q.val; omega
  rw [val_main_v30_apply, val_main_v29_apply, val_main_v28_apply, eo, val_main_v27_apply]
  show ∑ k : Fin 4096, x4 (lidx_main_v27 (ix4 b H d q) k) * _ = _
  rw [mul_comm, mul_sum_coe _ _ (by positivity)]
  refine Finset.sum_congr rfl fun k _ => ?_
  have el : lidx_main_v27 (ix4 b H d q) k = ix4 b k H d := by funext a; fin_cases a <;> rfl
  have er : ridx_main_v27 (ix4 b H d q) k = ix4 b H q k := by funext a; fin_cases a <;> rfl
  rw [el, er, ed, mul_comm (((1 / _ : ℝ)) : EReal), mul_assoc]
end
end Cert.ReferenceIdeal.Attn
-- ==== Proof.Equal.lean ====
module
public import proofs.«01_k».proof.Proof.Host
public import proofs.«01_k».proof.Proof.Sums
public import proofs.«01_k».proof.Proof.Ref
@[expose] public section
set_option maxRecDepth 16384
noncomputable section
namespace Cert.KernelIdeal.Step
open Cert.KernelIdeal Cert.KernelIdeal.Gen Idealize.ShloMosaic Idealize.ShloMosaic.TcCoe Idealize.SL.Sem Idealize.ShloMosaic.Tactic
open Cert.ReferenceIdeal.Attn (dotr wr rs)

/-! # The kernel's result array is the reference's -/

/-- A sum over 8 blocks of 512 keys is the sum over the 4096 keys. -/
theorem sum_blocks {M : Type} [AddCommMonoid M] (f : Fin 4096 → M) :
    ∑ j : Fin 8, ∑ x : Fin 512, f (⟨512 * j.val + x.val, by omega⟩ : Fin 4096) = ∑ k : Fin 4096, f k := by
  rw [← Fintype.sum_prod_type', ← (finProdFinEquiv (m := 8) (n := 512)).sum_comp f]
  refine Finset.sum_congr rfl fun p _ => congrArg f (Fin.ext ?_)
  show 512 * p.1.val + p.2.val = p.2.val + 512 * p.1.val
  omega

/-- A sum of 128 terms in four quarters. -/
theorem sum_quarters (f : Fin 128 → EReal) :
    ∑ d : Fin 128, f d = (∑ d : Fin 32, f ⟨d.val, by omega⟩) + (∑ d : Fin 32, f ⟨32 + d.val, by omega⟩)
      + ((∑ d : Fin 32, f ⟨64 + d.val, by omega⟩) + ∑ d : Fin 32, f ⟨96 + d.val, by omega⟩) := by
  rw [Fin.sum_univ_add (a := 64) (b := 64) f, Fin.sum_univ_add (a := 32) (b := 32) (fun d => f (Fin.castAdd 64 d)),
    Fin.sum_univ_add (a := 32) (b := 32) (fun d => f (Fin.natAdd 64 d))]
  congr 2

section
variable (x0 : Vec Ideal S4x4096x8x128 .f32) (x1 : Vec Ideal S4x4096x8x64 .f32) (x2 : Vec Ideal S4x4096x8x128 .f32) (x3 : Vec Ideal S4x4096x64 .f32) (x4 : Vec Ideal S4x4096x8x128 .f32)
  (q0 : S4x4096x8x128.Idx → ℝ) (q1 : S4x4096x8x64.Idx → ℝ) (k0 : S4x4096x8x128.Idx → ℝ) (k1 : S4x4096x64.Idx → ℝ)
  (h0 : ∀ y, x0 y = (q0 y : EReal)) (h1 : ∀ y, x1 y = (q1 y : EReal)) (h2 : ∀ y, x2 y = (k0 y : EReal)) (h3 : ∀ y, x3 y = (k1 y : EReal))
  (b : Fin 4) (H : Fin 8)

include h0 h1 h2 h3 in
/-- The 256-lane product of a packed query and a packed key is the scaled product of their two parts. -/
theorem packed_dot (q k : Fin 4096) :
    ∑ e : Fin 256, (kh x2 x3 (ix2 (⟨4096 * b.val + k.val, by omega⟩ : Fin 16384) (⟨256 * H.val + e.val, by omega⟩ : Fin 2048)) : EReal)
        * qh x0 x1 (ix2 (⟨4096 * b.val + q.val, by omega⟩ : Fin 16384) (⟨256 * H.val + e.val, by omega⟩ : Fin 2048))
      = ((sc * dotr q0 q1 k0 k1 b H q k : ℝ) : EReal) := by
  rw [Fin.sum_univ_add (a := 128) (b := 128)]
  have e1 : ∀ d : Fin 128, (kh x2 x3 (ix2 (⟨4096 * b.val + k.val, by omega⟩ : Fin 16384) (⟨256 * H.val + (Fin.castAdd 128 d).val, by omega⟩ : Fin 2048)) : EReal)
        * qh x0 x1 (ix2 (⟨4096 * b.val + q.val, by omega⟩ : Fin 16384) (⟨256 * H.val + (Fin.castAdd 128 d).val, by omega⟩ : Fin 2048))
      = ((sc * (q0 (ix4 b q H d) * k0 (ix4 b k H d)) : ℝ) : EReal) := by
    intro d
    refine (congrArg₂ (fun s t : EReal => s * t) (kh_n x2 x3 b k H d) (qh_n x0 x1 b q H d)).trans ?_
    show (x2 (ix4 b k H d) : EReal) * (x0 (ix4 b q H d) * (sc : EReal)) = _
    rw [h0, h2, ← EReal.coe_mul, ← EReal.coe_mul]
    congr 1; ring
  have e2 : ∀ d : Fin 128, (kh x2 x3 (ix2 (⟨4096 * b.val + k.val, by omega⟩ : Fin 16384) (⟨256 * H.val + (Fin.natAdd 128 d).val, by omega⟩ : Fin 2048)) : EReal)
        * qh x0 x1 (ix2 (⟨4096 * b.val + q.val, by omega⟩ : Fin 16384) (⟨256 * H.val + (Fin.natAdd 128 d).val, by omega⟩ : Fin 2048))
      = (peK x3 (ix3 b k d) : EReal) * peQ x1 (ix4 b q H d) := by
    intro d
    exact congrArg₂ (fun s t : EReal => s * t) (kh_p x2 x3 b k H d) (qh_p x0 x1 b q H d)
  rw [Finset.sum_congr rfl fun d _ => e1 d, Finset.sum_congr rfl fun d _ => e2 d, sum_quarters (fun d => (peK x3 (ix3 b k d) : EReal) * peQ x1 (ix4 b q H d))]
  have z1 : ∑ d : Fin 32, (peK x3 (ix3 b k (⟨32 + d.val, by omega⟩ : Fin 128)) : EReal) * peQ x1 (ix4 b q H (⟨32 + d.val, by omega⟩ : Fin 128)) = 0 :=
    Finset.sum_eq_zero fun d _ => by rw [peQ_1 x1 b q H d]; exact mul_zero _
  have z3 : ∑ d : Fin 32, (peK x3 (ix3 b k (⟨96 + d.val, by omega⟩ : Fin 128)) : EReal) * peQ x1 (ix4 b q H (⟨96 + d.val, by omega⟩ : Fin 128)) = 0 :=
    Finset.sum_eq_zero fun d _ => by rw [peQ_3 x1 b q H d]; exact mul_zero _
  have s0 : ∑ d : Fin 32, (peK x3 (ix3 b k (⟨d.val, by omega⟩ : Fin 128)) : EReal) * peQ x1 (ix4 b q H (⟨d.val, by omega⟩ : Fin 128))
      = ((∑ d : Fin 32, sc * (k1 (ix3 b k (⟨d.val, by omega⟩ : Fin 64)) * q1 (ix4 b q H (⟨d.val, by omega⟩ : Fin 64))) : ℝ) : EReal) := by
    rw [← sum_coe]
    refine Finset.sum_congr rfl fun d _ => ?_
    rw [peQ_0 x1 b q H d, peK_0 x3 b k d, h1, h3, ← EReal.coe_mul, ← EReal.coe_mul]
    congr 1; ring
  have s2 : ∑ d : Fin 32, (peK x3 (ix3 b k (⟨64 + d.val, by omega⟩ : Fin 128)) : EReal) * peQ x1 (ix4 b q H (⟨64 + d.val, by omega⟩ : Fin 128))
      = ((∑ d : Fin 32, sc * (k1 (ix3 b k (⟨32 + d.val, by omega⟩ : Fin 64)) * q1 (ix4 b q H (⟨32 + d.val, by omega⟩ : Fin 64))) : ℝ) : EReal) := by
    rw [← sum_coe]
    refine Finset.sum_congr rfl fun d _ => ?_
    rw [peQ_2 x1 b q H d, peK_2 x3 b k d, h1, h3, ← EReal.coe_mul, ← EReal.coe_mul]
    congr 1; ring
  rw [z1, z3, s0, s2, add_zero, add_zero, sum_coe, ← EReal.coe_add, ← EReal.coe_add]
  refine congrArg (fun t : ℝ => (t : EReal)) ?_
  unfold dotr
  rw [Fin.sum_univ_add (a := 32) (b := 32), mul_add, mul_add, Finset.mul_sum, Finset.mul_sum, Finset.mul_sum]
  rfl

/-- Two to the kernel's score is the exponential of the reference's. -/
theorem pow_score (D : ℝ) : Real.rpow 2 (sc * D) = Real.exp (D * rs) := by
  have hl : Real.log 2 ≠ 0 := (Real.log_pos (by norm_num)).ne'
  show (2 : ℝ) ^ (sc * D) = _
  rw [Real.rpow_def_of_pos (by norm_num)]
  congr 1
  unfold sc rs
  field_simp
end

section
variable (m : (ℓ : Loc nD τ sig) → Buf (Elt Ideal) ℓ) (c : Dev nD)

/-- The kernel's result at an index, from its five arguments. -/
theorem result_apply
    (x4 : Vec Ideal S4x4096x8x128 .f32) (hx4 : m ((c : Thread nD τ).loc main_arg4) = x4)
    (q0 : S4x4096x8x128.Idx → ℝ) (q1 : S4x4096x8x64.Idx → ℝ) (k0 : S4x4096x8x128.Idx → ℝ) (k1 : S4x4096x64.Idx → ℝ)
    (h0 : ∀ y, (m ((c : Thread nD τ).loc main_arg0) : Vec Ideal S4x4096x8x128 .f32) y = (q0 y : EReal))
    (h1 : ∀ y, (m ((c : Thread nD τ).loc main_arg1) : Vec Ideal S4x4096x8x64 .f32) y = (q1 y : EReal))
    (h2 : ∀ y, (m ((c : Thread nD τ).loc main_arg2) : Vec Ideal S4x4096x8x128 .f32) y = (k0 y : EReal))
    (h3 : ∀ y, (m ((c : Thread nD τ).loc main_arg3) : Vec Ideal S4x4096x64 .f32) y = (k1 y : EReal))
    (b : Fin 4) (g : Fin 2) (i : Fin 8) (h : Fin 4) (r : Fin 512) (d : Fin 128) :
    ((dats m 0 c).arrAt 3 cfg0.N : Vec Ideal S16384x1024 .bf16) (ix2 (⟨4096 * b.val + 512 * i.val + r.val, by omega⟩ : Fin 16384) (⟨512 * g.val + 128 * h.val + d.val, by omega⟩ : Fin 1024))
      = (∑ k : Fin 4096, x4 (ix4 b k (⟨4 * g.val + h.val, by omega⟩ : Fin 8) d)
          * (wr q0 q1 k0 k1 b (⟨4 * g.val + h.val, by omega⟩ : Fin 8) (⟨512 * i.val + r.val, by omega⟩ : Fin 4096) k : EReal))
        * ((1 / (∑ k : Fin 4096, wr q0 q1 k0 k1 b (⟨4 * g.val + h.val, by omega⟩ : Fin 8) (⟨512 * i.val + r.val, by omega⟩ : Fin 4096) k) : ℝ) : EReal) := by
  have hS : ∀ j x, scf (kb (V m c main_v23) b g) (qb (V m c main_v21) b g i) h j r x
      = ((sc * dotr q0 q1 k0 k1 b (⟨4 * g.val + h.val, by omega⟩ : Fin 8) (⟨512 * i.val + r.val, by omega⟩ : Fin 4096) (⟨512 * j.val + x.val, by omega⟩ : Fin 4096) : ℝ) : EReal) := by
    intro j x
    rw [V23, V21, ← packed_dot _ _ _ _ q0 q1 k0 k1 h0 h1 h2 h3]
    unfold scf
    refine Finset.sum_congr rfl fun e _ => ?_
    have he := e.isLt
    refine congrArg₂ (fun s t : EReal => s * t) ?_ ?_
    · refine congrArg (kh _ _) ?_
      funext a; fin_cases a
      · rfl
      · apply Fin.ext; show 1024 * g.val + (256 * h.val + e.val) = 256 * (4 * g.val + h.val) + e.val; omega
    · refine congrArg (qh _ _) ?_
      funext a; fin_cases a
      · apply Fin.ext; show 4096 * b.val + 512 * i.val + r.val = 4096 * b.val + (512 * i.val + r.val); omega
      · apply Fin.ext; show 1024 * g.val + (256 * h.val + e.val) = 256 * (4 * g.val + h.val) + e.val; omega
  have hw : ∀ j x, wt i r (fun j x => sc * dotr q0 q1 k0 k1 b (⟨4 * g.val + h.val, by omega⟩ : Fin 8) (⟨512 * i.val + r.val, by omega⟩ : Fin 4096) (⟨512 * j.val + x.val, by omega⟩ : Fin 4096)) j x
      = wr q0 q1 k0 k1 b (⟨4 * g.val + h.val, by omega⟩ : Fin 8) (⟨512 * i.val + r.val, by omega⟩ : Fin 4096) (⟨512 * j.val + x.val, by omega⟩ : Fin 4096) := by
    intro j x
    unfold wt wr
    rw [pow_score]
  have hone : ∀ j x, vt (vb (V m c main_v25) b g) (ix4 h j (128 : Fin 144) x) = (1 : EReal) := by
    intro j x
    unfold vt
    exact dif_neg (show ¬ (128 < 128) by decide)
  have hv : ∀ (j : Fin 8) (x : Fin 512), vt (vb (V m c main_v25) b g) (ix4 h j (Fin.castLE (by decide) d : Fin 144) x)
      = x4 (ix4 b (⟨512 * j.val + x.val, by omega⟩ : Fin 4096) (⟨4 * g.val + h.val, by omega⟩ : Fin 8) d) := by
    intro j x
    rw [V25, hx4]
    refine Eq.trans ?_ (vh_apply x4 b (⟨512 * j.val + x.val, by omega⟩ : Fin 4096) (⟨4 * g.val + h.val, by omega⟩ : Fin 8) d)
    unfold vt
    have hd := d.isLt
    refine (dif_pos hd).trans ?_
    refine congrArg (vh _) ?_
    funext a; fin_cases a
    · rfl
    · apply Fin.ext; show 512 * g.val + (128 * h.val + d.val) = 128 * (4 * g.val + h.val) + d.val; omega
  rw [arr_apply, fin_div _ _ _ h i r _ hS hone]
  simp only [hw, hv]
  rw [sum_blocks (fun k => wr q0 q1 k0 k1 b (⟨4 * g.val + h.val, by omega⟩ : Fin 8) (⟨512 * i.val + r.val, by omega⟩ : Fin 4096) k),
    sum_blocks (fun k => x4 (ix4 b k (⟨4 * g.val + h.val, by omega⟩ : Fin 8) d)
          * (wr q0 q1 k0 k1 b (⟨4 * g.val + h.val, by omega⟩ : Fin 8) (⟨512 * i.val + r.val, by omega⟩ : Fin 4096) k : EReal))]

/-- The kernel's result array is the reference's, for real queries and keys. -/
theorem result_eq
    (h0 : ∀ y, ∃ r : ℝ, (m ((c : Thread nD τ).loc main_arg0) : Vec Ideal S4x4096x8x128 .f32) y = (r : EReal))
    (h1 : ∀ y, ∃ r : ℝ, (m ((c : Thread nD τ).loc main_arg1) : Vec Ideal S4x4096x8x64 .f32) y = (r : EReal))
    (h2 : ∀ y, ∃ r : ℝ, (m ((c : Thread nD τ).loc main_arg2) : Vec Ideal S4x4096x8x128 .f32) y = (r : EReal))
    (h3 : ∀ y, ∃ r : ℝ, (m ((c : Thread nD τ).loc main_arg3) : Vec Ideal S4x4096x64 .f32) y = (r : EReal)) :
    ((dats m 0 c).arrAt 3 cfg0.N : Vec Ideal S16384x1024 .bf16)
      = Cert.ReferenceIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  choose q0 h0 using h0
  choose q1 h1 using h1
  choose k0 h2 using h2
  choose k1 h3 using h3
  refine funext fun (y : S16384x1024.Idx) => ?_
  have hy0 : (y 0).val < 16384 := (y 0).isLt
  have hy1 : (y 1).val < 1024 := (y 1).isLt
  have e := result_apply m c _ rfl q0 q1 k0 k1 h0 h1 h2 h3 ⟨(y 0).val / 4096, by omega⟩ ⟨(y 1).val / 512, by omega⟩ ⟨(y 0).val % 4096 / 512, by omega⟩
    ⟨(y 1).val % 512 / 128, by omega⟩ ⟨(y 0).val % 512, by omega⟩ ⟨(y 1).val % 128, by omega⟩
  have f := Cert.ReferenceIdeal.Attn.out_apply (m ((c : Thread nD τ).loc main_arg0)) (m ((c : Thread nD τ).loc main_arg1)) (m ((c : Thread nD τ).loc main_arg2))
    (m ((c : Thread nD τ).loc main_arg3)) (m ((c : Thread nD τ).loc main_arg4)) q0 q1 k0 k1 h0 h1 h2 h3 ⟨(y 0).val / 4096, by omega⟩ ⟨4 * ((y 1).val / 512) + (y 1).val % 512 / 128, by omega⟩
    ⟨512 * ((y 0).val % 4096 / 512) + (y 0).val % 512, by omega⟩ ⟨(y 1).val % 128, by omega⟩
  have i1 : y = ix2 (⟨4096 * ((y 0).val / 4096) + 512 * ((y 0).val % 4096 / 512) + (y 0).val % 512, by omega⟩ : Fin 16384)
      (⟨512 * ((y 1).val / 512) + 128 * ((y 1).val % 512 / 128) + (y 1).val % 128, by omega⟩ : Fin 1024) := by
    funext a; fin_cases a
    · apply Fin.ext; show (y 0).val = 4096 * ((y 0).val / 4096) + 512 * ((y 0).val % 4096 / 512) + (y 0).val % 512; omega
    · apply Fin.ext; show (y 1).val = 512 * ((y 1).val / 512) + 128 * ((y 1).val % 512 / 128) + (y 1).val % 128; omega
  have i2 : y = ix2 (⟨4096 * ((y 0).val / 4096) + (512 * ((y 0).val % 4096 / 512) + (y 0).val % 512), by omega⟩ : Fin 16384)
      (⟨128 * (4 * ((y 1).val / 512) + (y 1).val % 512 / 128) + (y 1).val % 128, by omega⟩ : Fin 1024) := by
    funext a; fin_cases a
    · apply Fin.ext; show (y 0).val = 4096 * ((y 0).val / 4096) + (512 * ((y 0).val % 4096 / 512) + (y 0).val % 512); omega
    · apply Fin.ext; show (y 1).val = 128 * (4 * ((y 1).val / 512) + (y 1).val % 512 / 128) + (y 1).val % 128; omega
  exact (congrArg _ i1).trans (e.trans (f.symm.trans (congrArg _ i2).symm))
end
end Cert.KernelIdeal.Step
-- ==== Proof.FoxRef.lean ====
module
public import proofs.«01_k».proof.Proof.Equal
public import proofs.«01_k».proof.Proof.Gen.FoxReferenceIdeal.Read
@[expose] public section
set_option maxRecDepth 16384
noncomputable section
namespace Cert.FoxReferenceIdeal.Attn
open Cert.FoxReferenceIdeal Cert.FoxReferenceIdeal.Gen Cert.FoxReferenceIdeal.Read Idealize.ShloMosaic Idealize.ShloMosaic.Tactic
open Cert.KernelIdeal.Step (sum_coe mul_sum_coe Sc exp_sub sup_real div_cancel ninf_word)

/-! # The reference at an index: the softmax-weighted sum of the values -/

/-- The reference's scale: one over the root of 128. -/
def rs : ℝ := 1 / Real.sqrt 128

theorem word128 : Ideal.ofBits .f32 0x43000000#32 = ((128 : ℝ) : EReal) := by
  simp [Ideal.ofBits, Ideal.ieee, -EReal.coe_mul]; norm_num

theorem scale_apply (j : S_.Idx) : val_main_v1 (F := Ideal) j = (rs : EReal) := by
  rw [val_main_v1_apply, val_main_v0_apply, val_main_cst_apply, val_main_cst_0_apply]
  have e1 : Ideal.sqrt ((128 : ℝ) : EReal) = ((Real.sqrt 128 : ℝ) : EReal) := if_neg (by norm_num)
  show Ideal.div (Ideal.ofBits .f32 0x3F800000#32) (Ideal.sqrt (Ideal.ofBits .f32 0x43000000#32)) = (rs : EReal)
  rw [word128, e1, Ideal.div_coe (by positivity)]
  have e2 : Ideal.ofBits .f32 0x3F800000#32 = ((1 : ℝ) : EReal) := by
    simp [Ideal.ofBits, Ideal.ieee, -EReal.coe_mul]; norm_num
  rw [e2, EReal.coe_one, one_mul]
  rfl

theorem sle_pos (p q : Fin 4096) : IntOp.cmpi CmpIPredicate.sle (BitVec.ofNat 32 p.val) (BitVec.ofNat 32 q.val) = if p.val ≤ q.val then 1#1 else 0#1 := by
  have hp := p.isLt
  have hq := q.isLt
  have ep : (BitVec.ofNat 32 p.val).toInt = (p.val : ℤ) := by rw [BitVec.toInt_eq_toNat_cond, BitVec.toNat_ofNat, Nat.mod_eq_of_lt (by omega), if_pos (by omega)]
  have eq : (BitVec.ofNat 32 q.val).toInt = (q.val : ℤ) := by rw [BitVec.toInt_eq_toNat_cond, BitVec.toNat_ofNat, Nat.mod_eq_of_lt (by omega), if_pos (by omega)]
  unfold IntOp.cmpi
  simp only [BitVec.sle, ep, eq]
  by_cases h : p.val ≤ q.val <;> simp [h]

/-- The causal mask of the reference. -/
theorem mask_apply (b : Fin 4) (H : Fin 8) (q k : Fin 4096) :
    val_main_call0_v1 (F := Ideal) (ix4 b H q k) = if k.val ≤ q.val then 1#1 else 0#1 := by
  rw [val_main_call0_v1_apply, val_main_v17_apply, val_main_v15_apply, val_main_v16_apply, val_main_v13_apply, val_main_v14_apply,
    val_main_v2_apply, val_main_v2_apply]
  exact sle_pos k q

section
variable (x0 x1 x2 : Vec Ideal S4x4096x8x128 .f32) (x3 : Vec Ideal S4x4096x8 .f32)
  (q0 k0 : S4x4096x8x128.Idx → ℝ) (gr : S4x4096x8.Idx → ℝ)
  (h0 : ∀ y, x0 y = (q0 y : EReal)) (h1 : ∀ y, x1 y = (k0 y : EReal)) (h3 : ∀ y, x3 y = (gr y : EReal))
  (b : Fin 4) (H : Fin 8)

/-- The product of a query and a key before any scale, over reals. -/
def dotr (q k : Fin 4096) : ℝ := ∑ d : Fin 128, q0 (ix4 b q H d) * k0 (ix4 b k H d)

/-- The score of a key: the scaled product and the log decay between the two positions. -/
def sr (q k : Fin 4096) : ℝ := dotr q0 k0 b H q k * rs + gr (ix3 b q H) - gr (ix3 b k H)

/-- The weight of a key before normalisation. -/
def wr (q k : Fin 4096) : ℝ := if k.val ≤ q.val then Real.exp (sr q0 k0 gr b H q k) else 0

include h0 h1 h3 in
theorem score_apply (q k : Fin 4096) : val_main_v18 (F := Ideal) x0 x1 x3 (ix4 b H q k)
    = if k.val ≤ q.val then ((sr q0 k0 gr b H q k : ℝ) : EReal) else ⊥ := by
  have e : val_main_v12 (F := Ideal) x0 x1 x3 (ix4 b H q k) = ((sr q0 k0 gr b H q k : ℝ) : EReal) := by
    have eq : idx_main_v3 (idx_main_v7 (idx_main_v8 (ix4 b H q k))) = ix3 b q H := by funext a; fin_cases a <;> rfl
    have ek : idx_main_v3 (idx_main_v10 (idx_main_v11 (ix4 b H q k))) = ix3 b k H := by funext a; fin_cases a <;> rfl
    rw [val_main_v12_apply, val_main_v9_apply, val_main_v6_apply, val_main_v5_apply, scale_apply, val_main_v4_apply,
      val_main_v8_apply, val_main_v7_apply, val_main_v3_apply, eq, val_main_v11_apply, val_main_v10_apply, val_main_v3_apply, ek, h3, h3]
    have ed : (∑ d : Fin 128, x0 (lidx_main_v4 (ix4 b H q k) d) * x1 (ridx_main_v4 (ix4 b H q k) d) : EReal) = ((dotr q0 k0 b H q k : ℝ) : EReal) := by
      unfold dotr
      rw [← sum_coe]
      refine Finset.sum_congr rfl fun d _ => ?_
      rw [h0, h1, EReal.coe_mul]
      congr 3 <;> (funext a; fin_cases a <;> rfl)
    show ((∑ d : Fin 128, x0 (lidx_main_v4 (ix4 b H q k) d) * x1 (ridx_main_v4 (ix4 b H q k) d) : EReal) * (rs : EReal) + (gr (ix3 b q H) : EReal)) - (gr (ix3 b k H) : EReal) = _
    rw [ed]
    rfl
  rw [val_main_v18_apply, mask_apply, e, val_main_call0_v2_apply, val_main_call0_v0_apply, val_main_cst_1_apply]
  show Scalar.select _ _ (Ideal.ofBits .f32 0xFF800000#32) = _
  rw [ninf_word]
  split <;> rfl

include h0 h1 h3 in
theorem score_sc (y : S4x8x4096x4096.Idx) : Sc (val_main_v18 (F := Ideal) x0 x1 x3 y) := by
  idx_vars y
  rw [score_apply x0 x1 x3 q0 k0 gr h0 h1 h3]
  split
  · exact Or.inr ⟨_, rfl⟩
  · exact Or.inl rfl

include h0 h1 h3 in
/-- The row maximum the reference subtracts is a real. -/
theorem max_real (q : Fin 4096) : ∃ μ : ℝ, val_main_v21 (F := Ideal) x0 x1 x3 (ix3 b H q) = (μ : EReal) := by
  obtain ⟨μ, hμ⟩ := sup_real (Finset.univ.filter fun i => reducesTo_S4x8x4096x4096_S4x8x4096_d3.drop i = ix3 b H q)
    (val_main_v18 (F := Ideal) x0 x1 x3) (score_sc x0 x1 x3 q0 k0 gr h0 h1 h3) (ix4 b H q q)
    (by rw [Finset.mem_filter]; exact ⟨Finset.mem_univ _, by funext a; fin_cases a <;> rfl⟩)
    (sr q0 k0 gr b H q q) (by rw [score_apply x0 x1 x3 q0 k0 gr h0 h1 h3, if_pos le_rfl]) ⊥ (Or.inl rfl)
  refine ⟨μ, ?_⟩
  rw [← hμ, val_main_v21_apply, val_main_v20_apply, val_main_cst_3_apply]
  unfold val_main_v19
  rw [Host.reduce_eq_fold]
  show max (Ideal.ofBits .f32 0xFF800000#32) _ = _
  rw [ninf_word, val_main_cst_2_apply]
  show max ⊥ (Finset.fold max (Ideal.ofBits .f32 0xFF800000#32) _ _) = _
  rw [ninf_word]
  rfl

include h0 h1 h3 in
/-- The reference at batch `b`, position `q`, head `H` and lane `d`. -/
theorem out_apply (q : Fin 4096) (d : Fin 128) : val_main_v33 (F := Ideal) x0 x1 x2 x3 (ix2 (⟨4096 * b.val + q.val, by omega⟩ : Fin 16384) (⟨128 * H.val + d.val, by omega⟩ : Fin 1024))
    = (∑ k : Fin 4096, x2 (ix4 b k H d) * (wr q0 k0 gr b H q k : EReal)) * ((1 / (∑ k : Fin 4096, wr q0 k0 gr b H q k) : ℝ) : EReal) := by
  obtain ⟨μ, hμ⟩ := max_real x0 x1 x3 q0 k0 gr h0 h1 h3 b H q
  have ew : ∀ k : Fin 4096, val_main_v25 (F := Ideal) x0 x1 x3 (ix4 b H q k) = ((Real.exp (-μ) : ℝ) : EReal) * (wr q0 k0 gr b H q k : EReal) := by
    intro k
    rw [val_main_v25_apply, val_main_v24_apply, val_main_v23_apply, val_main_v22_apply]
    have e : idx_main_v22 (idx_main_v23 (ix4 b H q k)) = ix3 b H q := by funext a; fin_cases a <;> rfl
    rw [e, hμ]
    show Ideal.exp (val_main_v18 (F := Ideal) x0 x1 x3 (ix4 b H q k) - (μ : EReal)) = _
    rw [exp_sub (score_sc x0 x1 x3 q0 k0 gr h0 h1 h3 _), score_apply x0 x1 x3 q0 k0 gr h0 h1 h3]
    refine congrArg (((Real.exp (-μ) : ℝ) : EReal) * ·) ?_
    unfold wr
    split
    · rw [Ideal.exp_coe]
    · rw [Ideal.exp_bot, EReal.coe_zero]
  have hpos : 0 < ∑ k : Fin 4096, wr q0 k0 gr b H q k := by
    refine Finset.sum_pos' (fun k _ => ?_) ⟨q, Finset.mem_univ _, ?_⟩
    · unfold wr; split
      · exact (Real.exp_pos _).le
      · exact le_rfl
    · unfold wr; rw [if_pos le_rfl]; exact Real.exp_pos _
  have es : ∀ k : Fin 4096, val_main_v28 (F := Ideal) x0 x1 x3 (ix4 b H q k)
      = ((Real.exp (-μ) : ℝ) : EReal) * ((∑ k : Fin 4096, wr q0 k0 gr b H q k : ℝ) : EReal) := by
    intro k
    rw [val_main_v28_apply, val_main_v27_apply]
    have e : idx_main_v27 (idx_main_v28 (ix4 b H q k)) = ix3 b H q := by funext a; fin_cases a <;> rfl
    rw [e, val_main_v26_apply, val_main_cst_4_apply]
    have e2 : ∀ k : Fin 4096, idx_main_v26 (ix3 b H q) k = ix4 b H q k := by intro k; funext a; fin_cases a <;> rfl
    simp only [e2, ew]
    rw [← sum_coe, mul_sum_coe _ _ (Real.exp_pos _).le]
    show Ideal.ofBits .f32 0x00000000#32 + _ = _
    have ez : Ideal.ofBits .f32 0x00000000#32 = (0 : EReal) := by simp [Ideal.ofBits, Ideal.ieee]
    rw [ez, zero_add]
  have ed : ∀ k : Fin 4096, val_main_v29 (F := Ideal) x0 x1 x3 (ix4 b H q k)
      = (wr q0 k0 gr b H q k : EReal) * ((1 / (∑ k : Fin 4096, wr q0 k0 gr b H q k) : ℝ) : EReal) := by
    intro k
    rw [val_main_v29_apply, ew, es]
    exact div_cancel _ _ (Real.exp_pos _) hpos _
  have eo : idx_main_v31 (idx_main_v32 (ix2 (⟨4096 * b.val + q.val, by omega⟩ : Fin 16384) (⟨128 * H.val + d.val, by omega⟩ : Fin 1024))) = ix4 b H d q := by
    have hd := d.isLt
    have hb := b.isLt
    have hH := H.isLt
    have hq := q.isLt
    funext a
    fin_cases a
    · apply Fin.ext; show ((4096 * b.val + q.val) * 1024 + (128 * H.val + d.val)) / 4194304 = b.val; omega
    · apply Fin.ext; show ((4096 * b.val + q.val) * 1024 + (128 * H.val + d.val)) / 128 % 8 = H.val; omega
    · apply Fin.ext; show ((4096 * b.val + q.val) * 1024 + (128 * H.val + d.val)) % 128 = d.val; omega
    · apply Fin.ext; show ((4096 * b.val + q.val) * 1024 + (128 * H.val + d.val)) / 1024 % 4096 = q.val; omega
  rw [val_main_v33_apply, val_main_v32_apply, val_main_v31_apply, eo, val_main_v30_apply]
  show ∑ k : Fin 4096, x2 (lidx_main_v30 (ix4 b H d q) k) * _ = _
  rw [mul_comm, mul_sum_coe _ _ (by positivity)]
  refine Finset.sum_congr rfl fun k _ => ?_
  have el : lidx_main_v30 (ix4 b H d q) k = ix4 b k H d := by funext a; fin_cases a <;> rfl
  have er : ridx_main_v30 (ix4 b H d q) k = ix4 b H q k := by funext a; fin_cases a <;> rfl
  rw [el, er, ed, mul_comm (((1 / _ : ℝ)) : EReal), mul_assoc]
end
end Cert.FoxReferenceIdeal.Attn
-- ==== Proof.FoxEqual.lean ====
module
public import proofs.«01_k».proof.Proof.FoxHost
public import proofs.«01_k».proof.Proof.FoxSums
public import proofs.«01_k».proof.Proof.FoxRef
public import proofs.«01_k».proof.Proof.Equal
@[expose] public section
set_option maxRecDepth 16384
noncomputable section
namespace Cert.FoxIdeal.Step
open Cert.FoxIdeal Cert.FoxIdeal.Gen Idealize.ShloMosaic Idealize.ShloMosaic.TcCoe Idealize.SL.Sem Idealize.ShloMosaic.Tactic
open Cert.FoxReferenceIdeal.Attn (dotr sr wr rs)
open Cert.KernelIdeal.Step (sum_coe sum_blocks)

/-! # The kernel's result array is the reference's -/

section
variable (x0 x1 x2 : Vec Ideal S4x4096x8x128 .f32) (q0 k0 : S4x4096x8x128.Idx → ℝ)
  (h0 : ∀ y, x0 y = (q0 y : EReal)) (h1 : ∀ y, x1 y = (k0 y : EReal)) (b : Fin 4) (H : Fin 8)

include h0 h1 in
/-- The 128-lane product of a scaled query and a key is the scaled product. -/
theorem packed_dot (q k : Fin 4096) :
    ∑ e : Fin 128, (proj x0 x1 x2 (ix2 (⟨4096 * b.val + k.val, by omega⟩ : Fin 16384) (⟨1024 + (128 * H.val + e.val), by omega⟩ : Fin 3072)) : EReal)
        * proj x0 x1 x2 (ix2 (⟨4096 * b.val + q.val, by omega⟩ : Fin 16384) (⟨128 * H.val + e.val, by omega⟩ : Fin 3072))
      = ((sc * dotr q0 k0 b H q k : ℝ) : EReal) := by
  unfold dotr
  rw [Finset.mul_sum, ← sum_coe]
  refine Finset.sum_congr rfl fun d _ => ?_
  refine (congrArg₂ (fun s t : EReal => s * t) (proj_k x0 x1 x2 b k H d) (proj_q x0 x1 x2 b q H d)).trans ?_
  show (x1 (ix4 b k H d) : EReal) * (x0 (ix4 b q H d) * (sc : EReal)) = _
  rw [h0, h1, ← EReal.coe_mul, ← EReal.coe_mul]
  congr 1; ring
end

/-- Two to the kernel's score is the exponential of the reference's. -/
theorem pow_score (D s t : ℝ) : Real.rpow 2 (sc * D - t * il + s * il) = Real.exp (D * rs + s - t) := by
  have hl : Real.log 2 ≠ 0 := (Real.log_pos (by norm_num)).ne'
  have h2 : Real.sqrt 128 ≠ 0 := (Real.sqrt_pos.2 (by norm_num)).ne'
  show (2 : ℝ) ^ (sc * D - t * il + s * il) = _
  rw [Real.rpow_def_of_pos (by norm_num)]
  congr 1
  unfold sc rs il
  field_simp
  ring

section
variable (m : (ℓ : Loc nD τ sig) → Buf (Elt Ideal) ℓ) (c : Dev nD)

/-- The kernel's result at an index, from its four arguments. -/
theorem result_apply
    (x2 : Vec Ideal S4x4096x8x128 .f32) (hx2 : m ((c : Thread nD τ).loc main_arg2) = x2)
    (q0 k0 : S4x4096x8x128.Idx → ℝ) (gr : S4x4096x8.Idx → ℝ)
    (h0 : ∀ y, (m ((c : Thread nD τ).loc main_arg0) : Vec Ideal S4x4096x8x128 .f32) y = (q0 y : EReal))
    (h1 : ∀ y, (m ((c : Thread nD τ).loc main_arg1) : Vec Ideal S4x4096x8x128 .f32) y = (k0 y : EReal))
    (h3 : ∀ y, (m ((c : Thread nD τ).loc main_arg3) : Vec Ideal S4x4096x8 .f32) y = (gr y : EReal))
    (b : Fin 4) (g : Fin 2) (i : Fin 8) (h : Fin 4) (r : Fin 512) (d : Fin 128) :
    ((dats m 0 c).arrAt 5 cfg0.N : Vec Ideal S16384x1024 .bf16) (ix2 (⟨4096 * b.val + 512 * i.val + r.val, by omega⟩ : Fin 16384) (⟨512 * g.val + 128 * h.val + d.val, by omega⟩ : Fin 1024))
      = (∑ k : Fin 4096, x2 (ix4 b k (⟨4 * g.val + h.val, by omega⟩ : Fin 8) d)
          * (wr q0 k0 gr b (⟨4 * g.val + h.val, by omega⟩ : Fin 8) (⟨512 * i.val + r.val, by omega⟩ : Fin 4096) k : EReal))
        * ((1 / (∑ k : Fin 4096, wr q0 k0 gr b (⟨4 * g.val + h.val, by omega⟩ : Fin 8) (⟨512 * i.val + r.val, by omega⟩ : Fin 4096) k) : ℝ) : EReal) := by
  have hh := h.isLt
  have hr := r.isLt
  have hU : ub (V m c main_v28) b g i (ix4 0 h 0 r) = ((gr (ix3 b (⟨512 * i.val + r.val, by omega⟩ : Fin 4096) (⟨4 * g.val + h.val, by omega⟩ : Fin 8)) * il : ℝ) : EReal) := by
    rw [V28, EReal.coe_mul, ← h3]
    exact cqh_apply _ b (⟨512 * i.val + r.val, by omega⟩ : Fin 4096) (⟨4 * g.val + h.val, by omega⟩ : Fin 8)
  have hS : ∀ j x, scf (kb (V m c main_v10) b g) (qb (V m c main_v10) b g i) (gb (V m c main_v22) b g) h j r x + ((gr (ix3 b (⟨512 * i.val + r.val, by omega⟩ : Fin 4096) (⟨4 * g.val + h.val, by omega⟩ : Fin 8)) * il : ℝ) : EReal)
      = ((sc * dotr q0 k0 b (⟨4 * g.val + h.val, by omega⟩ : Fin 8) (⟨512 * i.val + r.val, by omega⟩ : Fin 4096) (⟨512 * j.val + x.val, by omega⟩ : Fin 4096) - gr (ix3 b (⟨512 * j.val + x.val, by omega⟩ : Fin 4096) (⟨4 * g.val + h.val, by omega⟩ : Fin 8)) * il + gr (ix3 b (⟨512 * i.val + r.val, by omega⟩ : Fin 4096) (⟨4 * g.val + h.val, by omega⟩ : Fin 8)) * il : ℝ) : EReal) := by
    intro j x
    have hj := j.isLt
    have hx := x.isLt
    have e1 : (∑ e : Fin 128, kb (V m c main_v10) b g (ix2 (⟨512 * j.val + x.val, by omega⟩ : Fin 4096) (⟨128 * h.val + e.val, by omega⟩ : Fin 512)) * qb (V m c main_v10) b g i (ix2 r (⟨128 * h.val + e.val, by omega⟩ : Fin 512)) : EReal)
        = ((sc * dotr q0 k0 b (⟨4 * g.val + h.val, by omega⟩ : Fin 8) (⟨512 * i.val + r.val, by omega⟩ : Fin 4096) (⟨512 * j.val + x.val, by omega⟩ : Fin 4096) : ℝ) : EReal) := by
      rw [V10, ← packed_dot _ _ _ q0 k0 h0 h1]
      refine Finset.sum_congr rfl fun e _ => ?_
      have he := e.isLt
      refine congrArg₂ (fun s t : EReal => s * t) ?_ ?_
      · refine congrArg (proj _ _ _) ?_
        funext a; fin_cases a
        · rfl
        · apply Fin.ext; show 1024 + 512 * g.val + (128 * h.val + e.val) = 1024 + (128 * (4 * g.val + h.val) + e.val); omega
      · refine congrArg (proj _ _ _) ?_
        funext a; fin_cases a
        · apply Fin.ext; show 4096 * b.val + 512 * i.val + r.val = 4096 * b.val + (512 * i.val + r.val); omega
        · apply Fin.ext; show 512 * g.val + (128 * h.val + e.val) = 128 * (4 * g.val + h.val) + e.val; omega
    have e2 : (gb (V m c main_v22) b g (ix3 0 (⟨512 * j.val + x.val, by omega⟩ : Fin 4096) (⟨h.val, by omega⟩ : Fin 128)) : EReal) = ((gr (ix3 b (⟨512 * j.val + x.val, by omega⟩ : Fin 4096) (⟨4 * g.val + h.val, by omega⟩ : Fin 8)) * il : ℝ) : EReal) := by
      rw [V22, EReal.coe_mul, ← h3]
      exact ckh_apply _ b (⟨512 * j.val + x.val, by omega⟩ : Fin 4096) g h
    rw [EReal.coe_add, EReal.coe_sub, ← e1, ← e2]
    rfl
  have hw : ∀ j x, wt i r (fun j x => sc * dotr q0 k0 b (⟨4 * g.val + h.val, by omega⟩ : Fin 8) (⟨512 * i.val + r.val, by omega⟩ : Fin 4096) (⟨512 * j.val + x.val, by omega⟩ : Fin 4096) - gr (ix3 b (⟨512 * j.val + x.val, by omega⟩ : Fin 4096) (⟨4 * g.val + h.val, by omega⟩ : Fin 8)) * il + gr (ix3 b (⟨512 * i.val + r.val, by omega⟩ : Fin 4096) (⟨4 * g.val + h.val, by omega⟩ : Fin 8)) * il) j x
      = wr q0 k0 gr b (⟨4 * g.val + h.val, by omega⟩ : Fin 8) (⟨512 * i.val + r.val, by omega⟩ : Fin 4096) (⟨512 * j.val + x.val, by omega⟩ : Fin 4096) := by
    intro j x
    unfold wt wr sr
    rw [pow_score]
  have hone : ∀ j x, vt (vb (V m c main_v10) b g) (ix4 h j (128 : Fin 144) x) = (1 : EReal) := by
    intro j x
    unfold vt
    exact dif_neg (show ¬ (128 < 128) by decide)
  have hv : ∀ (j : Fin 8) (x : Fin 512), vt (vb (V m c main_v10) b g) (ix4 h j (Fin.castLE (by decide) d : Fin 144) x)
      = x2 (ix4 b (⟨512 * j.val + x.val, by omega⟩ : Fin 4096) (⟨4 * g.val + h.val, by omega⟩ : Fin 8) d) := by
    intro j x
    rw [V10, hx2]
    refine Eq.trans ?_ (proj_v (m ((c : Thread nD τ).loc main_arg0)) (m ((c : Thread nD τ).loc main_arg1)) x2 b (⟨512 * j.val + x.val, by omega⟩ : Fin 4096) (⟨4 * g.val + h.val, by omega⟩ : Fin 8) d)
    unfold vt
    have hd := d.isLt
    refine (dif_pos hd).trans ?_
    refine congrArg (proj _ _ _) ?_
    funext a; fin_cases a
    · rfl
    · apply Fin.ext; show 2048 + 512 * g.val + (128 * h.val + d.val) = 2048 + (128 * (4 * g.val + h.val) + d.val); omega
  rw [arr_apply, fin_div _ _ _ _ _ h i r _ _ hU hS hone]
  simp only [hw, hv]
  rw [sum_blocks (fun k => wr q0 k0 gr b (⟨4 * g.val + h.val, by omega⟩ : Fin 8) (⟨512 * i.val + r.val, by omega⟩ : Fin 4096) k),
    sum_blocks (fun k => x2 (ix4 b k (⟨4 * g.val + h.val, by omega⟩ : Fin 8) d)
          * (wr q0 k0 gr b (⟨4 * g.val + h.val, by omega⟩ : Fin 8) (⟨512 * i.val + r.val, by omega⟩ : Fin 4096) k : EReal))]

/-- The kernel's result array is the reference's, for real queries, keys and gates. -/
theorem result_eq
    (h0 : ∀ y, ∃ r : ℝ, (m ((c : Thread nD τ).loc main_arg0) : Vec Ideal S4x4096x8x128 .f32) y = (r : EReal))
    (h1 : ∀ y, ∃ r : ℝ, (m ((c : Thread nD τ).loc main_arg1) : Vec Ideal S4x4096x8x128 .f32) y = (r : EReal))
    (h3 : ∀ y, ∃ r : ℝ, (m ((c : Thread nD τ).loc main_arg3) : Vec Ideal S4x4096x8 .f32) y = (r : EReal)) :
    ((dats m 0 c).arrAt 5 cfg0.N : Vec Ideal S16384x1024 .bf16)
      = Cert.FoxReferenceIdeal.Read.val_main_v33 (F := Ideal) (m ((c : Thread nD τ).loc main_arg0)) (m ((c : Thread nD τ).loc main_arg1))
          (m ((c : Thread nD τ).loc main_arg2)) (m ((c : Thread nD τ).loc main_arg3)) := by
  choose q0 h0 using h0
  choose k0 h1 using h1
  choose gr h3 using h3
  refine funext fun (y : S16384x1024.Idx) => ?_
  have hy0 : (y 0).val < 16384 := (y 0).isLt
  have hy1 : (y 1).val < 1024 := (y 1).isLt
  have e := result_apply m c _ rfl q0 k0 gr h0 h1 h3 ⟨(y 0).val / 4096, by omega⟩ ⟨(y 1).val / 512, by omega⟩ ⟨(y 0).val % 4096 / 512, by omega⟩
    ⟨(y 1).val % 512 / 128, by omega⟩ ⟨(y 0).val % 512, by omega⟩ ⟨(y 1).val % 128, by omega⟩
  have f := Cert.FoxReferenceIdeal.Attn.out_apply (m ((c : Thread nD τ).loc main_arg0)) (m ((c : Thread nD τ).loc main_arg1)) (m ((c : Thread nD τ).loc main_arg2))
    (m ((c : Thread nD τ).loc main_arg3)) q0 k0 gr h0 h1 h3 ⟨(y 0).val / 4096, by omega⟩ ⟨4 * ((y 1).val / 512) + (y 1).val % 512 / 128, by omega⟩
    ⟨512 * ((y 0).val % 4096 / 512) + (y 0).val % 512, by omega⟩ ⟨(y 1).val % 128, by omega⟩
  have i1 : y = ix2 (⟨4096 * ((y 0).val / 4096) + 512 * ((y 0).val % 4096 / 512) + (y 0).val % 512, by omega⟩ : Fin 16384)
      (⟨512 * ((y 1).val / 512) + 128 * ((y 1).val % 512 / 128) + (y 1).val % 128, by omega⟩ : Fin 1024) := by
    funext a; fin_cases a
    · apply Fin.ext; show (y 0).val = 4096 * ((y 0).val / 4096) + 512 * ((y 0).val % 4096 / 512) + (y 0).val % 512; omega
    · apply Fin.ext; show (y 1).val = 512 * ((y 1).val / 512) + 128 * ((y 1).val % 512 / 128) + (y 1).val % 128; omega
  have i2 : y = ix2 (⟨4096 * ((y 0).val / 4096) + (512 * ((y 0).val % 4096 / 512) + (y 0).val % 512), by omega⟩ : Fin 16384)
      (⟨128 * (4 * ((y 1).val / 512) + (y 1).val % 512 / 128) + (y 1).val % 128, by omega⟩ : Fin 1024) := by
    funext a; fin_cases a
    · apply Fin.ext; show (y 0).val = 4096 * ((y 0).val / 4096) + (512 * ((y 0).val % 4096 / 512) + (y 0).val % 512); omega
    · apply Fin.ext; show (y 1).val = 128 * (4 * ((y 1).val / 512) + (y 1).val % 512 / 128) + (y 1).val % 128; omega
  exact (congrArg _ i1).trans (e.trans (f.symm.trans (congrArg _ i2).symm))
end
end Cert.FoxIdeal.Step
-- ==== Proof.UpVal.lean ====
module
public import proofs.«01_k».proof.Proof.Gen.UpIdeal.Value
public import proofs.«01_k».proof.Proof.Gen.UpReferenceIdeal.Read
public import Idealize.ShloMosaic.Lib.Pointwise
public import Idealize.ShloMosaic.Lib.Pipeline.ValueKit
public import Idealize.ShloMosaic.Lib.StableHlo.RunRead
@[expose] public section
set_option maxRecDepth 16384
noncomputable section
namespace Cert.UpIdeal.Step
open Cert.UpIdeal Cert.UpIdeal.Gen Idealize.ShloMosaic Idealize.ShloMosaic.TcCoe Idealize.SL.Sem Idealize.ShloMosaic.Tactic

/-! # The gated projection of the channel mixer -/

theorem one_word : Ideal.ofBits .f32 0x3F800000#32 = (1 : EReal) := by
  rw [← EReal.coe_one]
  simp [Ideal.ofBits, Ideal.ieee, -EReal.coe_mul]; norm_num
theorem zero_word : Ideal.ofBits .f32 0x00000000#32 = (0 : EReal) := by simp [Ideal.ofBits, Ideal.ieee]

theorem z2 : (![0, 0] : Fin 2 → ℕ) = fun _ => 0 := by funext a; fin_cases a <;> rfl
theorem z3 : (![0, 0, 0] : Fin 3 → ℕ) = fun _ => 0 := by funext a; fin_cases a <;> rfl

/-- `x` times its logistic. -/
def silu (x : EReal) : EReal := x * Ideal.div 1 (1 + Ideal.exp (-x))

/-- A block of the weights, without its leading axis. -/
def wb (X : Vec Ideal S1x2048x512 .f32) : Vec Ideal S2048x512 .bf16 := fun y => X (ix3 0 (y 0) (y 1))

theorem pay1_eq (X : Vec Ideal S1x2048x512 .f32) : k0_pay1 (F := Ideal) X = wb X := by
  funext (y : S2048x512.Idx)
  idx_vars y
  unfold k0_pay1 wb
  pointwise

theorem pay2_eq (X : Vec Ideal S1x2048x512 .f32) : k0_pay2 (F := Ideal) X = wb X := pay1_eq X

theorem pay3_apply (a : Vec Ideal S1024x2048 .bf16) (g u : Vec Ideal S2048x512 .bf16) (r : Fin 1024) (n : Fin 512) :
    k0_pay3 (F := Ideal) a g u (ix2 r n)
      = silu (∑ k : Fin 2048, a (ix2 r k) * g (ix2 k n)) * ∑ k : Fin 2048, a (ix2 r k) * u (ix2 k n) := by
  unfold k0_pay3 silu
  pointwise
  rw [sub_eq_add_neg, zero_add]

section
variable (c : Dev nD) (i : grid0.Coords) (arg2 : Memref sig .tc .vmem S1024x2048 .bf16) (harg2 : arg2.IsWhole) (arg3 : Memref sig .tc .vmem S1x2048x512 .f32) (harg3 : arg3.IsWhole) (arg4 : Memref sig .tc .vmem S1x2048x512 .f32) (harg4 : arg4.IsWhole) (arg5 : Memref sig .tc .vmem S1024x512 .bf16) (harg5 : arg5.IsWhole) (arg6 : Memref sig .tc .vmem S2048x512 .bf16) (harg6 : arg6.IsWhole) (arg7 : Memref sig .tc .vmem S2048x512 .bf16) (harg7 : arg7.IsWhole)
  (x0 : Vec Ideal S1024x2048 .bf16) (x1 : Vec Ideal S1x2048x512 .f32) (x2 : Vec Ideal S1x2048x512 .f32)

theorem sout_A0 (hc0 : cond0_0 i) :
    sout0_A_0 c i arg2 harg2 arg3 harg3 arg4 harg4 arg5 harg5 arg6 harg6 arg7 harg7 hc0 x0 x1 x2 = wb x1 := by
  unfold sout0_A_0 kernelRun0_A
  dsimp only
  rw [View.read_writes_junk_eq_canon]
  sl_unfold_words
  rw [View.canon_unit_zero (by funext a; fin_cases a <;> rfl), View.readAt_eq_ld, harg3.read_unread, View.ld_unit_zero (by funext a; fin_cases a <;> rfl), pay1_eq]

theorem sout_A1 (hc0 : cond0_0 i) :
    sout0_A_1 c i arg2 harg2 arg3 harg3 arg4 harg4 arg5 harg5 arg6 harg6 arg7 harg7 hc0 x0 x1 x2 = wb x2 := by
  unfold sout0_A_1 kernelRun0_A
  dsimp only
  rw [View.read_writes_junk_eq_canon]
  sl_unfold_words
  rw [View.canon_unit_zero (by funext a; fin_cases a <;> rfl), View.readAt_eq_ld, harg4.read_unread, View.ld_unit_zero (by funext a; fin_cases a <;> rfl), pay2_eq]

theorem out_A (hc0 : cond0_0 i) :
    out0_A_3 c i arg2 harg2 arg3 harg3 arg4 harg4 arg5 harg5 arg6 harg6 arg7 harg7 hc0 x0 x1 x2 = k0_pay3 (F := Ideal) x0 (wb x1) (wb x2) := by
  unfold out0_A_3 kernelRun0_A
  dsimp only
  rw [View.read_writes_junk_eq_canon]
  sl_unfold_words
  rw [View.canon_unit_zero z2, View.readCov_unit_zero arg6.view z2, View.readCov_unit_zero arg7.view z2]
  simp only [View.readAt_eq_ld, harg2.read_unread, harg3.read_unread, harg4.read_unread]
  rw [View.ld_unit_zero z2, View.ld_unit_zero z3, View.ld_unit_zero z3, pay1_eq, pay2_eq]

theorem out_B (hc0 : ¬cond0_0 i) (s0 s1 : Vec Ideal S2048x512 .bf16) :
    out0_B_3 c i arg2 harg2 arg3 harg3 arg4 harg4 arg5 harg5 arg6 harg6 arg7 harg7 hc0 x0 x1 x2 s0 s1 = k0_pay3 (F := Ideal) x0 s0 s1 := by
  unfold out0_B_3 kernelRun0_B
  dsimp only
  rw [View.read_writes_junk_eq_canon]
  sl_unfold_words
  rw [View.canon_unit_zero (by funext a; fin_cases a <;> rfl)]
  simp only [View.readAt_eq_ld, harg2.read_unread, harg6.read_unread, harg7.read_unread]
  rw [View.ld_unit_zero (by funext a; fin_cases a <;> rfl), View.ld_unit_zero (by funext a; fin_cases a <;> rfl), View.ld_unit_zero (by funext a; fin_cases a <;> rfl)]

theorem sout_B0 (hc0 : ¬cond0_0 i) (s0 s1 : Vec Ideal S2048x512 .bf16) :
    sout0_B_0 c i arg2 harg2 arg3 harg3 arg4 harg4 arg5 harg5 arg6 harg6 arg7 harg7 hc0 x0 x1 x2 s0 s1 = s0 := rfl
theorem sout_B1 (hc0 : ¬cond0_0 i) (s0 s1 : Vec Ideal S2048x512 .bf16) :
    sout0_B_1 c i arg2 harg2 arg3 harg3 arg4 harg4 arg5 harg5 arg6 harg6 arg7 harg7 hc0 x0 x1 x2 s0 s1 = s1 := rfl
end

section
variable (m : (ℓ : Loc nD τ sig) → Buf (Elt Ideal) ℓ) (c : Dev nD)

/-- Grid point of column block `j` and row block `i`. -/
def pt (j : Fin 11) (i : Fin 16) : Fin cfg0.N := ⟨16 * j.val + i.val, by rw [show cfg0.N = 176 from N_0]; omega⟩

theorem ix_a0 : ∀ j i, win0_0.index (pt j i) 0 = i.val := by decide +kernel
theorem ix_a1 : ∀ j i, win0_0.index (pt j i) 1 = 0 := by decide +kernel
theorem ix_g0 : ∀ j i, win0_1.index (pt j i) 0 = 1 := by decide +kernel
theorem ix_g1 : ∀ j i, win0_1.index (pt j i) 1 = 0 := by decide +kernel
theorem ix_g2 : ∀ j i, win0_1.index (pt j i) 2 = j.val := by decide +kernel
theorem ix_u0 : ∀ j i, win0_2.index (pt j i) 0 = 1 := by decide +kernel
theorem ix_u1 : ∀ j i, win0_2.index (pt j i) 1 = 0 := by decide +kernel
theorem ix_u2 : ∀ j i, win0_2.index (pt j i) 2 = j.val := by decide +kernel
theorem ix_o0 : ∀ j i, win0_3.index (pt j i) 0 = i.val := by decide +kernel
theorem ix_o1 : ∀ j i, win0_3.index (pt j i) 1 = j.val := by decide +kernel

/-- The rows of a grid point. -/
def ab (A : Vec Ideal S16384x2048 .bf16) (i : Fin 16) : Vec Ideal S1024x2048 .bf16 := fun y =>
  A (ix2 (⟨1024 * i.val + (y 0).val, by have := (y 0).isLt; dsimp at *; omega⟩ : Fin 16384) (y 1))
/-- The weights of a grid point. -/
def gb (W : Vec Ideal S2x2048x5632 .f32) (j : Fin 11) : Vec Ideal S1x2048x512 .f32 := fun y =>
  W (ix3 1 (y 1) (⟨512 * j.val + (y 2).val, by have := (y 2).isLt; dsimp at *; omega⟩ : Fin 5632))

theorem iblk_a (j i) : iblk m c 0 (pt j i) = ab (V m c main_v1) i := by
  funext y
  unfold ab
  blk_ext [iblk, ix_a0 j i, ix_a1 j i]
theorem iblk_g (j i) : iblk m c 1 (pt j i) = gb (V m c main_arg1) j := by
  funext y
  unfold gb
  blk_ext [iblk, ix_g0 j i, ix_g1 j i, ix_g2 j i]
theorem iblk_u (j i) : iblk m c 2 (pt j i) = gb (V m c main_arg2) j := by
  funext y
  unfold gb
  blk_ext [iblk, ix_u0 j i, ix_u1 j i, ix_u2 j i]

/-- Every point's two scratch arrays hold the weights of its column block. -/
theorem scratch_all (j : Fin 11) : ∀ (n : ℕ) (hn : n < 16),
    (outsAt0 m c (pt j ⟨n, hn⟩).val (pt j ⟨n, hn⟩).isLt).2 = (wb (gb (V m c main_arg1) j), wb (gb (V m c main_arg2) j))
  | 0, hn => by
    rw [outsAt0_A m c (pt j ⟨0, hn⟩) (by show (16 * j.val + 0) % 16 = 0; omega)]
    dsimp only
    rw [sout_A0, sout_A1, iblk_g, iblk_u]
  | n + 1, hn => by
    rw [outsAt0_B m c (pt j ⟨n + 1, hn⟩) (by show ¬(16 * j.val + (n + 1)) % 16 = 0; omega)]
    exact scratch_all j n (by omega)

/-- What a grid point writes back. -/
theorem point_out (j : Fin 11) (i : Fin 16) :
    (outsAt0 m c (pt j i).val (pt j i).isLt).1 = k0_pay3 (F := Ideal) (ab (V m c main_v1) i) (wb (gb (V m c main_arg1) j)) (wb (gb (V m c main_arg2) j)) := by
  by_cases h0 : (pt j i).val % 16 = 0
  · rw [outsAt0_A m c (pt j i) h0]
    dsimp only
    rw [out_A, iblk_a, iblk_g, iblk_u]
  · rw [outsAt0_B m c (pt j i) h0]
    dsimp only
    have h1 : (16 * j.val + i.val) % 16 ≠ 0 := h0
    have hs := scratch_all m c j (i.val - 1) (by omega)
    have hp : (pt j ⟨i.val - 1, by omega⟩).val = (pt j i).val - 1 := by
      show 16 * j.val + (i.val - 1) = 16 * j.val + i.val - 1
      omega
    have hs' : (outsAt0 m c ((pt j i).val - 1) (Nat.lt_of_le_of_lt (Nat.sub_le _ _) (pt j i).isLt)).2 = (wb (gb (V m c main_arg1) j), wb (gb (V m c main_arg2) j)) := by
      rw [← hs]
      congr 1
      simp only [hp]
    rw [out_B, hs', iblk_a]

/-- The activations at a row and a column, from the rows and the weights. -/
def hid (x0 : Vec Ideal S4x4096x2048 .f32) (x1 x2 : Vec Ideal S2x2048x5632 .f32) (r : Fin 16384) (n : Fin 5632) : EReal :=
  silu (∑ k : Fin 2048, x0 (ix3 (⟨r.val / 4096, by omega⟩ : Fin 4) (⟨r.val % 4096, by omega⟩ : Fin 4096) k) * x1 (ix3 1 k n))
    * ∑ k : Fin 2048, x0 (ix3 (⟨r.val / 4096, by omega⟩ : Fin 4) (⟨r.val % 4096, by omega⟩ : Fin 4096) k) * x2 (ix3 1 k n)

/-- The rows as the kernel takes them. -/
def hb (x0 : Vec Ideal S4x4096x2048 .f32) : Vec Ideal S16384x2048 .bf16 :=
  truncf (F := Ideal) .bf16 (shapeCast S16384x2048 x0 shapeCasts_S4x4096x2048_S16384x2048) bitsLt_bf16_f32

theorem V1 : V m c main_v1 = hb (m ((c : Thread nD τ).loc main_arg0)) := by
  unfold V
  after_reads_simp
  rfl

theorem hb_apply (x0 : Vec Ideal S4x4096x2048 .f32) (r : Fin 16384) (k : Fin 2048) :
    hb x0 (ix2 r k) = x0 (ix3 (⟨r.val / 4096, by omega⟩ : Fin 4) (⟨r.val % 4096, by omega⟩ : Fin 4096) k) := by
  unfold hb
  pointwise

/-- The kernel's result array at a row and a column. -/
theorem arr_apply (x0 : Vec Ideal S4x4096x2048 .f32) (x1 x2 : Vec Ideal S2x2048x5632 .f32) (h0 : m ((c : Thread nD τ).loc main_arg0) = x0)
    (h1 : m ((c : Thread nD τ).loc main_arg1) = x1) (h2 : m ((c : Thread nD τ).loc main_arg2) = x2) (r : Fin 16384) (n : Fin 5632) :
    (dats m 0 c).arrAt 3 cfg0.N (ix2 r n) = hid x0 x1 x2 r n := by
  have e := congrFun ((Value.blocks3 m c (pt ⟨n.val / 512, by omega⟩ ⟨r.val / 1024, by omega⟩) (by generalize (⟨n.val / 512, by omega⟩ : Fin 11) = j; generalize (⟨r.val / 1024, by omega⟩ : Fin 16) = i; revert j i; decide +kernel)).trans (Value.flushed3 m c (pt ⟨n.val / 512, by omega⟩ ⟨r.val / 1024, by omega⟩)))
    (ix2 (⟨r.val % 1024, by omega⟩ : Fin 1024) (⟨n.val % 512, by omega⟩ : Fin 512))
  rw [point_out] at e
  refine Eq.trans ?_ (e.trans ((pay3_apply _ _ _ _ _).trans ?_))
  · blk_ext [ix_o0, ix_o1]
  · rw [V_main_arg1, V_main_arg2, V1, h0, h1, h2]
    unfold hid ab wb gb
    have en : (⟨512 * (n.val / 512) + n.val % 512, by omega⟩ : Fin 5632) = n := Fin.ext (by show 512 * (n.val / 512) + n.val % 512 = n.val; omega)
    have er : (⟨1024 * (r.val / 1024) + r.val % 1024, by omega⟩ : Fin 16384) = r := Fin.ext (by show 1024 * (r.val / 1024) + r.val % 1024 = r.val; omega)
    refine congrArg₂ (fun a b : EReal => silu a * b) (Finset.sum_congr rfl fun k _ => ?_) (Finset.sum_congr rfl fun k _ => ?_)
    · show (hb x0 (ix2 (⟨1024 * (r.val / 1024) + r.val % 1024, _⟩ : Fin 16384) k) : EReal) * x1 (ix3 1 k (⟨512 * (n.val / 512) + n.val % 512, _⟩ : Fin 5632)) = _
      rw [er, en, hb_apply]
    · show (hb x0 (ix2 (⟨1024 * (r.val / 1024) + r.val % 1024, _⟩ : Fin 16384) k) : EReal) * x2 (ix3 1 k (⟨512 * (n.val / 512) + n.val % 512, _⟩ : Fin 5632)) = _
      rw [er, en, hb_apply]
end

end Cert.UpIdeal.Step

namespace Cert.UpReferenceIdeal.Val
open Cert.UpReferenceIdeal Cert.UpReferenceIdeal.Gen Cert.UpReferenceIdeal.Read Idealize.ShloMosaic Idealize.ShloMosaic.Tactic Idealize.ShloMosaic.TcCoe Idealize.SL.Sem
open Cert.UpIdeal.Step (hid silu one_word)

/-- The reference at a row and a column. -/
theorem ref_apply (x0 : Vec Ideal S4x4096x2048 .f32) (x1 x2 : Vec Ideal S2x2048x5632 .f32) (r : Fin 16384) (n : Fin 5632) :
    val_main_v9 (F := Ideal) x0 x1 x2 (ix2 r n) = hid x0 x1 x2 r n := by
  have hd1 (x1 : Vec Ideal S2x2048x5632 .f32) (y : S4x4096x5632.Idx) : val_main_v2 (F := Ideal) x0 x1 y = ∑ k : Fin 2048, x0 (ix3 (y 0) (y 1) k) * x1 (ix3 1 k (y 2)) := by
    idx_vars y
    rw [val_main_v2_apply]
    refine Finset.sum_congr rfl fun k _ => ?_
    rw [val_main_v1_apply, val_main_v0_apply]
    refine congrArg₂ (fun a b : EReal => a * b) (congrArg x0 ?_) (congrArg x1 ?_)
    · funext a; fin_cases a <;> rfl
    · funext a; fin_cases a
      · rfl
      · exact Fin.ext (by show (k.val * 5632 + y2.val) / 5632 % 2048 = k.val; omega)
      · exact Fin.ext (by show (k.val * 5632 + y2.val) % 5632 = y2.val; omega)
  have hd2 (y : S4x4096x5632.Idx) : val_main_v6 (F := Ideal) x0 x2 y = ∑ k : Fin 2048, x0 (ix3 (y 0) (y 1) k) * x2 (ix3 1 k (y 2)) := hd1 x2 y
  rw [val_main_v9_apply, val_main_v8_apply, val_main_v7_apply, val_main_v3_apply, hd1, hd2, val_main_call0_v5_apply, val_main_call0_v4_apply, val_main_call0_v3_apply,
    val_main_call0_v2_apply, val_main_call0_v1_apply, val_main_call0_v0_apply, hd1, val_main_call0_cst_apply, val_main_call0_cst_0_apply]
  have ei : idx_main_v8 (ix2 r n) = ix3 (⟨r.val / 4096, by omega⟩ : Fin 4) (⟨r.val % 4096, by omega⟩ : Fin 4096) n := by
    funext a; fin_cases a
    · exact Fin.ext (by show (r.val * 5632 + n.val) / 23068672 = r.val / 4096; omega)
    · exact Fin.ext (by show (r.val * 5632 + n.val) / 5632 % 4096 = r.val % 4096; omega)
    · exact Fin.ext (by show (r.val * 5632 + n.val) % 5632 = n.val; omega)
  rw [ei]
  unfold hid silu
  show (_ * Ideal.div (Ideal.ofBits .f32 0x3F800000#32) (Ideal.ofBits .f32 0x3F800000#32 + Ideal.exp (-_))) * _ = _
  rw [one_word]
  rfl

/-- The kernel's result array is the reference's. -/
theorem result_eq (m : (ℓ : Loc Cert.UpIdeal.nD Cert.UpIdeal.τ Cert.UpIdeal.sig) → Buf (Elt Ideal) ℓ) (c : Dev Cert.UpIdeal.nD) (x0 : Vec Ideal S4x4096x2048 .f32) (x1 x2 : Vec Ideal S2x2048x5632 .f32)
    (h0 : m ((c : Thread Cert.UpIdeal.nD Cert.UpIdeal.τ).loc Cert.UpIdeal.main_arg0) = x0) (h1 : m ((c : Thread Cert.UpIdeal.nD Cert.UpIdeal.τ).loc Cert.UpIdeal.main_arg1) = x1)
    (h2 : m ((c : Thread Cert.UpIdeal.nD Cert.UpIdeal.τ).loc Cert.UpIdeal.main_arg2) = x2) :
    (Cert.UpIdeal.Gen.dats m 0 c).arrAt 3 Cert.UpIdeal.cfg0.N = val_main_v9 (F := Ideal) x0 x1 x2 := by
  refine funext fun (y : S16384x5632.Idx) => ?_
  idx_vars y
  exact (Cert.UpIdeal.Step.arr_apply m c x0 x1 x2 h0 h1 h2 y0 y1).trans (ref_apply x0 x1 x2 y0 y1).symm
end Cert.UpReferenceIdeal.Val
-- ==== Proof.DownVal.lean ====
module
public import proofs.«01_k».proof.Proof.Gen.DownIdeal.Value
public import proofs.«01_k».proof.Proof.Gen.DownReferenceIdeal.Read
public import Idealize.ShloMosaic.Lib.Pointwise
public import Idealize.ShloMosaic.Lib.Pipeline.ValueKit
public import Idealize.ShloMosaic.Lib.Pipeline.ValueKit.Tiles
public import Idealize.ShloMosaic.Lib.StableHlo.RunRead
@[expose] public section
set_option maxRecDepth 16384
noncomputable section
namespace Cert.DownIdeal.Step
open Cert.DownIdeal Cert.DownIdeal.Gen Idealize.ShloMosaic Idealize.ShloMosaic.TcCoe Idealize.SL.Sem Idealize.ShloMosaic.Tactic

/-! # The closing projection of the channel mixer -/

theorem zero_word : Ideal.ofBits .f32 0x00000000#32 = (0 : EReal) := by simp [Ideal.ofBits, Ideal.ieee]

/-- A row normalised by its root mean square and scaled. -/
def rms (y : Fin 2048 → EReal) (w : EReal) (n : Fin 2048) : EReal :=
  y n * Ideal.rsqrt (Ideal.div (∑ k : Fin 2048, y k * y k) (Ideal.ofBits .f32 0x45000000#32) + Ideal.ofBits .f32 0x358637BD#32) * w

theorem pay3_apply (a : Vec Ideal S256x5632 .bf16) (w : Vec Ideal S1x5632x2048 .bf16) (r : Fin 256) (n : Fin 2048) :
    k0_pay3 (F := Ideal) a w (ix2 r n) = ∑ k : Fin 5632, a (ix2 r k) * w (ix3 0 k n) := by
  unfold k0_pay3
  pointwise

theorem pay1_apply (y : Vec Ideal S256x2048 .f32) (x : Vec Ideal S256x2048 .f32) (g : Vec Ideal S1x1x2048 .f32) (w : Vec Ideal S1x2048 .f32) (r : Fin 256) (n : Fin 2048) :
    k0_pay1 (F := Ideal) y x g w (ix2 r n) = x (ix2 r n) + g (ix3 0 0 n) * rms (fun k => y (ix2 r k)) (w (ix2 0 n)) n := by
  unfold k0_pay1 rms
  pointwise

theorem pay2_eq (a : Vec Ideal S256x5632 .bf16) (W : Vec Ideal S1x5632x2048 .bf16) (x : Vec Ideal S256x2048 .f32) (g : Vec Ideal S1x1x2048 .f32) (w : Vec Ideal S1x2048 .f32) :
    k0_pay2 (F := Ideal) a W x g w = k0_pay1 (k0_pay3 a W) x g w := rfl

/-- One block of the result, from the blocks of the operands. -/
def blkv (x0 : Vec Ideal S512x5632 .bf16) (x1 : Vec Ideal S1x5632x2048 .bf16) (x2 : Vec Ideal S512x2048 .f32) (x3 : Vec Ideal S1x6x2048 .f32) (x5 : Vec Ideal S1x2048 .f32) : Vec Ideal S512x2048 .f32 := fun y =>
  x2 y + x3 (ix3 0 5 (y 1)) * rms (fun n => ∑ k : Fin 5632, x0 (ix2 (y 0) k) * x1 (ix3 0 k n)) (x5 (ix2 0 (y 1))) (y 1)

theorem tile (x0 : Vec Ideal S512x5632 .bf16) (x1 : Vec Ideal S1x5632x2048 .bf16) (x2 : Vec Ideal S512x2048 .f32) (x3 : Vec Ideal S1x6x2048 .f32) (x5 : Vec Ideal S1x2048 .f32)
    (o : ℕ) (off5632 off2048 : Fin 2 → ℕ) (h1 : off5632 = ![o, 0]) (h2 : off2048 = ![o, 0])
    (i1 : ∀ a, off5632 a + S256x5632.size a ≤ S512x5632.size a) (i2 : ∀ a, off2048 a + S256x2048.size a ≤ S512x2048.size a)
    (z : S256x2048.Idx) (y : S512x2048.Idx) (e0 : (y 0).val = o + (z 0).val) (e1 : (y 1).val = 0 + (z 1).val) :
    k0_pay1 (F := Ideal) (k0_pay3 (View.ld x0 (Rect.unit (s := S512x5632) off5632 S256x5632.size i1)) (View.ld x1 r0_1)) (View.ld x2 (Rect.unit (s := S512x2048) off2048 S256x2048.size i2)) (View.ld x3 r0_3) (View.ld x5 r0_4) z
      = blkv x0 x1 x2 x3 x5 y := by
  subst h1 h2
  idx_vars z
  idx_vars y
  have e0' : y0.val = o + z0.val := e0
  have e1' : y1.val = z1.val := by simpa using e1
  have l0 (k : Fin 5632) : View.ld x0 (Rect.unit (s := S512x5632) ![o, 0] S256x5632.size i1) (ix2 z0 k) = x0 (ix2 y0 k) := by
    refine congrArg x0 (funext fun a => ?_)
    match a with
    | ⟨0, _⟩ => exact Fin.ext (by show o + 1 * z0.val = y0.val; omega)
    | ⟨1, _⟩ => exact Fin.ext (by show 0 + 1 * k.val = k.val; omega)
  have l1 (k : Fin 5632) (n : Fin 2048) : View.ld x1 r0_1 (ix3 0 k n) = x1 (ix3 0 k n) := by
    refine congrArg x1 (funext fun a => ?_)
    match a with
    | ⟨0, _⟩ => rfl
    | ⟨1, _⟩ => exact Fin.ext (by show 0 + 1 * k.val = k.val; omega)
    | ⟨2, _⟩ => exact Fin.ext (by show 0 + 1 * n.val = n.val; omega)
  have l2 : View.ld x2 (Rect.unit (s := S512x2048) ![o, 0] S256x2048.size i2) (ix2 z0 z1) = x2 (ix2 y0 y1) := by
    refine congrArg x2 (funext fun a => ?_)
    match a with
    | ⟨0, _⟩ => exact Fin.ext (by show o + 1 * z0.val = y0.val; omega)
    | ⟨1, _⟩ => exact Fin.ext (by show 0 + 1 * z1.val = y1.val; omega)
  have l3 : View.ld x3 r0_3 (ix3 0 0 z1) = x3 (ix3 0 5 y1) := by
    refine congrArg x3 (funext fun a => ?_)
    match a with
    | ⟨0, _⟩ => rfl
    | ⟨1, _⟩ => rfl
    | ⟨2, _⟩ => exact Fin.ext (by show 0 + 1 * z1.val = y1.val; omega)
  have l5 : View.ld x5 r0_4 (ix2 0 z1) = x5 (ix2 0 y1) := by
    refine congrArg x5 (funext fun a => ?_)
    match a with
    | ⟨0, _⟩ => rfl
    | ⟨1, _⟩ => exact Fin.ext (by show 0 + 1 * z1.val = y1.val; omega)
  obtain rfl : y1 = z1 := Fin.ext e1'
  rw [pay1_apply, l2, l3, l5]
  simp only [pay3_apply, l0, l1]
  rfl

theorem out_eq (x0 : Vec Ideal S512x5632 .bf16) (x1 : Vec Ideal S1x5632x2048 .bf16) (x2 : Vec Ideal S512x2048 .f32) (x3 : Vec Ideal S1x6x2048 .f32) (x4 : Vec Ideal S1x6x2048 .f32) (x5 : Vec Ideal S1x2048 .f32) (x6 : Vec Ideal S1x2048 .f32) :
    out0_7 x0 x1 x2 x3 x4 x5 x6 = blkv x0 x1 x2 x3 x5 := by
  unfold out0_7
  funext y
  canon_tiles x h using cover0_7 (F := Ideal) _ _ y
  · exact tile x0 x1 x2 x3 x5 256 ![256, 0] ![256, 0] rfl rfl (by decide) (by decide) x y (by omega) (by omega)
  · rw [pay2_eq]
    exact tile x0 x1 x2 x3 x5 0 ![0, 0] ![0, 0] rfl rfl (by decide) (by decide) x y (by omega) (by omega)

section
variable (m : (ℓ : Loc nD τ sig) → Buf (Elt Ideal) ℓ) (c : Dev nD)

theorem ix_a0 : ∀ t : Fin cfg0.N, win0_0.index t 0 = t.val := by decide +kernel
theorem ix_a1 : ∀ t : Fin cfg0.N, win0_0.index t 1 = 0 := by decide +kernel
theorem ix_w0 : ∀ t : Fin cfg0.N, win0_1.index t 0 = 1 := by decide +kernel
theorem ix_w1 : ∀ t : Fin cfg0.N, win0_1.index t 1 = 0 := by decide +kernel
theorem ix_w2 : ∀ t : Fin cfg0.N, win0_1.index t 2 = 0 := by decide +kernel
theorem ix_x0 : ∀ t : Fin cfg0.N, win0_2.index t 0 = t.val := by decide +kernel
theorem ix_x1 : ∀ t : Fin cfg0.N, win0_2.index t 1 = 0 := by decide +kernel
theorem ix_m0 : ∀ t : Fin cfg0.N, win0_3.index t 0 = t.val / 8 := by decide +kernel
theorem ix_m1 : ∀ t : Fin cfg0.N, win0_3.index t 1 = 0 := by decide +kernel
theorem ix_m2 : ∀ t : Fin cfg0.N, win0_3.index t 2 = 0 := by decide +kernel
theorem ix_p0 : ∀ t : Fin cfg0.N, win0_5.index t 0 = 0 := by decide +kernel
theorem ix_p1 : ∀ t : Fin cfg0.N, win0_5.index t 1 = 0 := by decide +kernel
theorem ix_o0 : ∀ t : Fin cfg0.N, win0_7.index t 0 = t.val := by decide +kernel
theorem ix_o1 : ∀ t : Fin cfg0.N, win0_7.index t 1 = 0 := by decide +kernel
theorem fl_o : ∀ t : Fin cfg0.N, (cfg0.win 7).flush t = true := by decide +kernel

theorem lt_N (t : Fin cfg0.N) : t.val < 32 :=
  lt_of_lt_of_eq t.isLt N_0

/-- The rows of the hidden activations at a grid point. -/
def ab (A : Vec Ideal S16384x5632 .bf16) (t : Fin cfg0.N) : Vec Ideal S512x5632 .bf16 := fun y =>
  A (ix2 (⟨512 * t.val + (y 0).val, by have := (y 0).isLt; have := lt_N t; dsimp at *; omega⟩ : Fin 16384) (y 1))
/-- The weights of the last layer. -/
def wl (W : Vec Ideal S2x5632x2048 .bf16) : Vec Ideal S1x5632x2048 .bf16 := fun y => W (ix3 1 (y 1) (y 2))
/-- The rows of the residual stream at a grid point. -/
def xb (X : Vec Ideal S16384x2048 .f32) (t : Fin cfg0.N) : Vec Ideal S512x2048 .f32 := fun y =>
  X (ix2 (⟨512 * t.val + (y 0).val, by have := (y 0).isLt; have := lt_N t; dsimp at *; omega⟩ : Fin 16384) (y 1))
/-- The modulation of a grid point's sequence. -/
def mb (M : Vec Ideal S8x6x2048 .f32) (t : Fin cfg0.N) : Vec Ideal S1x6x2048 .f32 := fun y =>
  M (ix3 (⟨t.val / 8, by have := lt_N t; omega⟩ : Fin 8) (y 1) (y 2))

theorem iblk_a (t) : iblk m c 0 t = ab (V m c main_v4) t := by
  funext y
  unfold ab
  blk_ext [iblk, ix_a0 t, ix_a1 t]
theorem iblk_w (t) : iblk m c 1 t = wl (V m c main_v5) := by
  funext y
  unfold wl
  blk_ext [iblk, ix_w0 t, ix_w1 t, ix_w2 t]
theorem iblk_x (t) : iblk m c 2 t = xb (V m c main_v6) t := by
  funext y
  unfold xb
  blk_ext [iblk, ix_x0 t, ix_x1 t]
theorem iblk_m (t) : iblk m c 3 t = mb (V m c main_v2) t := by
  funext y
  unfold mb
  blk_ext [iblk, ix_m0 t, ix_m1 t, ix_m2 t]
theorem iblk_p (t) : iblk m c 5 t = V m c main_v11 := by
  funext y
  blk_ext [iblk, ix_p0 t, ix_p1 t]

/-- The hidden activations as the kernel takes them. -/
def hb (x0 : Vec Ideal S4x4096x5632 .f32) : Vec Ideal S16384x5632 .bf16 :=
  truncf (F := Ideal) .bf16 (shapeCast S16384x5632 x0 shapeCasts_S4x4096x5632_S16384x5632) bitsLt_bf16_f32
/-- The weights as the kernel takes them. -/
def wh (x1 : Vec Ideal S2x5632x2048 .f32) : Vec Ideal S2x5632x2048 .bf16 := truncf (F := Ideal) .bf16 x1 bitsLt_bf16_f32
/-- The residual stream as the kernel takes it. -/
def xh (x2 : Vec Ideal S4x4096x2048 .f32) : Vec Ideal S16384x2048 .f32 := shapeCast S16384x2048 x2 shapeCasts_S4x4096x2048_S16384x2048
/-- The modulation as the kernel takes it. -/
def mh (x3 : Vec Ideal S4x12288 .f32) : Vec Ideal S8x6x2048 .f32 :=
  shapeCast S8x6x2048 (concatenate S8x12288 0 [⟨S4x12288, x3⟩, ⟨S4x12288, broadcastInDim S4x12288 ![] bcast_S_S4x12288 (constant (F := Ideal) S_ .f32 0x00000000#32)⟩] concatenates_S4x12288_S4x12288_S8x12288_d0) shapeCasts_S8x12288_S8x6x2048
/-- The scale of the closing norm as the kernel takes it. -/
def ph (x4 : Vec Ideal S2x2048 .f32) : Vec Ideal S1x2048 .f32 :=
  shapeCast S1x2048 (shapeCast S2048 (extractStridedSlice S1x2048 ![1, 0] x4 slices_S2x2048_S1x2048_1_0) shapeCasts_S1x2048_S2048) shapeCasts_S2048_S1x2048

theorem V4 : V m c main_v4 = hb (m ((c : Thread nD τ).loc main_arg0)) := by
  unfold V
  after_reads_simp
  rfl
theorem V5 : V m c main_v5 = wh (m ((c : Thread nD τ).loc main_arg1)) := by
  unfold V
  after_reads_simp
  rfl
theorem V6 : V m c main_v6 = xh (m ((c : Thread nD τ).loc main_arg2)) := by
  unfold V
  after_reads_simp
  rfl
theorem V2 : V m c main_v2 = mh (m ((c : Thread nD τ).loc main_arg3)) := by
  unfold V
  after_reads_simp
  rfl
theorem V11 : V m c main_v11 = ph (m ((c : Thread nD τ).loc main_arg4)) := by
  unfold V
  after_reads_simp
  rfl

theorem hb_apply (x0 : Vec Ideal S4x4096x5632 .f32) (r : Fin 16384) (k : Fin 5632) :
    hb x0 (ix2 r k) = x0 (ix3 (⟨r.val / 4096, by omega⟩ : Fin 4) (⟨r.val % 4096, by omega⟩ : Fin 4096) k) := by
  unfold hb
  pointwise
theorem wh_apply (x1 : Vec Ideal S2x5632x2048 .f32) (y) : wh x1 y = x1 y := rfl
theorem xh_apply (x2 : Vec Ideal S4x4096x2048 .f32) (r : Fin 16384) (k : Fin 2048) :
    xh x2 (ix2 r k) = x2 (ix3 (⟨r.val / 4096, by omega⟩ : Fin 4) (⟨r.val % 4096, by omega⟩ : Fin 4096) k) := by
  unfold xh
  pointwise
theorem mh_apply (x3 : Vec Ideal S4x12288 .f32) (b : Fin 8) (hb : b.val < 4) (q : Fin 6) (n : Fin 2048) :
    mh x3 (ix3 b q n) = x3 (ix2 (⟨b.val, hb⟩ : Fin 4) (⟨2048 * q.val + n.val, by omega⟩ : Fin 12288)) := by
  unfold mh
  pointwise
  rw [dif_pos hb]
  refine congrArg x3 (congrArg (ix2 _) (Fin.ext ?_))
  show q.val * 2048 + n.val = 2048 * q.val + n.val
  omega
theorem ph_apply (x4 : Vec Ideal S2x2048 .f32) (n : Fin 2048) : ph x4 (ix2 0 n) = x4 (ix2 1 n) := by
  unfold ph
  pointwise

/-- The layer's result at a row and a column, from the hidden activations, the weights, the residual stream, the modulation and the norm's scale. -/
def res (x0 : Vec Ideal S4x4096x5632 .f32) (x1 : Vec Ideal S2x5632x2048 .f32) (x2 : Vec Ideal S4x4096x2048 .f32) (x3 : Vec Ideal S4x12288 .f32) (x4 : Vec Ideal S2x2048 .f32) (b : Fin 4) (s : Fin 4096) (n : Fin 2048) : EReal :=
  x2 (ix3 b s n) + x3 (ix2 b (⟨10240 + n.val, by omega⟩ : Fin 12288)) * rms (fun n => ∑ k : Fin 5632, x0 (ix3 b s k) * x1 (ix3 1 k n)) (x4 (ix2 1 n)) n

/-- The kernel's result array at a row and a column. -/
theorem arr_apply (x0 : Vec Ideal S4x4096x5632 .f32) (x1 : Vec Ideal S2x5632x2048 .f32) (x2 : Vec Ideal S4x4096x2048 .f32) (x3 : Vec Ideal S4x12288 .f32) (x4 : Vec Ideal S2x2048 .f32)
    (h0 : m ((c : Thread nD τ).loc main_arg0) = x0) (h1 : m ((c : Thread nD τ).loc main_arg1) = x1) (h2 : m ((c : Thread nD τ).loc main_arg2) = x2) (h3 : m ((c : Thread nD τ).loc main_arg3) = x3) (h4 : m ((c : Thread nD τ).loc main_arg4) = x4) (r : Fin 16384) (n : Fin 2048) :
    (dats m 0 c).arrAt 7 cfg0.N (ix2 r n) = res x0 x1 x2 x3 x4 (⟨r.val / 4096, by omega⟩ : Fin 4) (⟨r.val % 4096, by omega⟩ : Fin 4096) n := by
  have ht : r.val / 512 < cfg0.N := by rw [show cfg0.N = 32 from N_0]; omega
  have e := congrFun ((Value.blocks7 m c ⟨r.val / 512, ht⟩ (fl_o _)).trans (Value.flushed7 m c ⟨r.val / 512, ht⟩)) (ix2 (⟨r.val % 512, by omega⟩ : Fin 512) n)
  rw [out_eq, iblk_a, iblk_w, iblk_x, iblk_m, iblk_p, V4, V5, V6, V2, V11, h0, h1, h2, h3, h4] at e
  have er : (⟨512 * (r.val / 512) + r.val % 512, by omega⟩ : Fin 16384) = r := Fin.ext (by show 512 * (r.val / 512) + r.val % 512 = r.val; omega)
  refine Eq.trans ?_ (e.trans ?_)
  · blk_ext [ix_o0, ix_o1]
  · show (xh x2 (ix2 (⟨512 * (r.val / 512) + r.val % 512, _⟩ : Fin 16384) n) : EReal) + mh x3 (ix3 (⟨r.val / 512 / 8, _⟩ : Fin 8) 5 n)
      * rms (fun n => ∑ k : Fin 5632, (hb x0 (ix2 (⟨512 * (r.val / 512) + r.val % 512, _⟩ : Fin 16384) k) : EReal) * wh x1 (ix3 1 k n)) (ph x4 (ix2 0 n)) n = _
    rw [er, xh_apply, mh_apply _ _ (by show r.val / 512 / 8 < 4; omega), ph_apply]
    simp only [er, hb_apply, wh_apply]
    unfold res
    refine congrArg₂ (fun a b : EReal => a + b) rfl (congrArg₂ (fun a b : EReal => a * b) (congrArg x3 ?_) rfl)
    funext a
    match a with
    | ⟨0, _⟩ => exact Fin.ext (by show r.val / 512 / 8 = r.val / 4096; omega)
    | ⟨1, _⟩ => rfl
end

end Cert.DownIdeal.Step

namespace Cert.DownReferenceIdeal.Val
open Cert.DownReferenceIdeal Cert.DownReferenceIdeal.Gen Cert.DownReferenceIdeal.Read Idealize.ShloMosaic Idealize.ShloMosaic.Tactic Idealize.ShloMosaic.TcCoe Idealize.SL.Sem
open Cert.DownIdeal.Step (res rms zero_word)

/-- The reference at a row and a column. -/
theorem ref_apply (x0 : Vec Ideal S4x4096x5632 .f32) (x1 : Vec Ideal S2x5632x2048 .f32) (x2 : Vec Ideal S4x4096x2048 .f32) (x3 : Vec Ideal S4x12288 .f32) (x4 : Vec Ideal S2x2048 .f32) (r : Fin 16384) (n : Fin 2048) :
    val_main_v28 (F := Ideal) x0 x1 x2 x3 x4 (ix2 r n) = res x0 x1 x2 x3 x4 (⟨r.val / 4096, by omega⟩ : Fin 4) (⟨r.val % 4096, by omega⟩ : Fin 4096) n := by
  have ei : idx_main_v28 (ix2 r n) = ix3 (⟨r.val / 4096, by omega⟩ : Fin 4) (⟨r.val % 4096, by omega⟩ : Fin 4096) n := by
    funext a; fin_cases a
    · exact Fin.ext (by show (r.val * 2048 + n.val) / 8388608 = r.val / 4096; omega)
    · exact Fin.ext (by show (r.val * 2048 + n.val) / 2048 % 4096 = r.val % 4096; omega)
    · exact Fin.ext (by show (r.val * 2048 + n.val) % 2048 = n.val; omega)
  rw [val_main_v28_apply, ei]
  generalize (⟨r.val / 4096, by omega⟩ : Fin 4) = b
  generalize (⟨r.val % 4096, by omega⟩ : Fin 4096) = s
  have hd (n : Fin 2048) : val_main_v9 (F := Ideal) x0 x1 (ix3 b s n) = ∑ k : Fin 5632, x0 (ix3 b s k) * x1 (ix3 1 k n) := by
    rw [val_main_v9_apply]
    refine Finset.sum_congr rfl fun k _ => ?_
    rw [val_main_v8_apply, val_main_v7_apply]
    refine congrArg₂ (fun a b : EReal => a * b) (congrArg x0 ?_) (congrArg x1 ?_)
    · funext a; fin_cases a <;> rfl
    · funext a; fin_cases a
      · rfl
      · exact Fin.ext (by show (k.val * 2048 + n.val) / 2048 % 5632 = k.val; omega)
      · exact Fin.ext (by show (k.val * 2048 + n.val) % 2048 = n.val; omega)
  have hs : val_main_v13 (F := Ideal) x0 x1 (ix2 b s) = ∑ k : Fin 2048, (∑ j : Fin 5632, x0 (ix3 b s j) * x1 (ix3 1 j k)) * (∑ j : Fin 5632, x0 (ix3 b s j) * x1 (ix3 1 j k)) := by
    rw [val_main_v13_apply]
    have hz : val_main_cst (F := Ideal) (Shape.Idx.first h_S_) = (0 : EReal) := zero_word
    rw [hz, zero_add]
    refine Finset.sum_congr rfl fun k _ => ?_
    have ek : idx_main_v13 (ix2 b s) k = ix3 b s k := by funext a; fin_cases a <;> rfl
    rw [ek, val_main_v12_apply, hd]
    rfl
  rw [val_main_v27_apply, val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_v14_apply, val_main_v11_apply, val_main_v10_apply, val_main_v6_apply, val_main_v5_apply, hd]
  have e13 : idx_main_v14 (idx_main_v20 (ix3 b s n)) = ix2 b s := by funext a; fin_cases a <;> rfl
  rw [e13, hs]
  unfold res rms
  refine congrArg₂ (fun a b : EReal => a + b) rfl (congrArg₂ (fun a b : EReal => a * b) (congrArg x3 ?_) (congrArg₂ (fun a b : EReal => a * b) rfl (congrArg x4 ?_)))
  · funext a; fin_cases a <;> rfl
  · funext a; fin_cases a
    · rfl
    · exact Fin.ext (Nat.mod_eq_of_lt n.isLt)

/-- The kernel's result array is the reference's. -/
theorem result_eq (m : (ℓ : Loc Cert.DownIdeal.nD Cert.DownIdeal.τ Cert.DownIdeal.sig) → Buf (Elt Ideal) ℓ) (c : Dev Cert.DownIdeal.nD)
    (x0 : Vec Ideal S4x4096x5632 .f32) (x1 : Vec Ideal S2x5632x2048 .f32) (x2 : Vec Ideal S4x4096x2048 .f32) (x3 : Vec Ideal S4x12288 .f32) (x4 : Vec Ideal S2x2048 .f32)
    (h0 : m ((c : Thread Cert.DownIdeal.nD Cert.DownIdeal.τ).loc Cert.DownIdeal.main_arg0) = x0) (h1 : m ((c : Thread Cert.DownIdeal.nD Cert.DownIdeal.τ).loc Cert.DownIdeal.main_arg1) = x1)
    (h2 : m ((c : Thread Cert.DownIdeal.nD Cert.DownIdeal.τ).loc Cert.DownIdeal.main_arg2) = x2) (h3 : m ((c : Thread Cert.DownIdeal.nD Cert.DownIdeal.τ).loc Cert.DownIdeal.main_arg3) = x3)
    (h4 : m ((c : Thread Cert.DownIdeal.nD Cert.DownIdeal.τ).loc Cert.DownIdeal.main_arg4) = x4) :
    (Cert.DownIdeal.Gen.dats m 0 c).arrAt 7 Cert.DownIdeal.cfg0.N = val_main_v28 (F := Ideal) x0 x1 x2 x3 x4 := by
  refine funext fun (y : S16384x2048.Idx) => ?_
  idx_vars y
  exact (Cert.DownIdeal.Step.arr_apply m c x0 x1 x2 x3 x4 h0 h1 h2 h3 h4 y0 y1).trans (ref_apply x0 x1 x2 x3 x4 y0 y1).symm
end Cert.DownReferenceIdeal.Val
-- ==== Proof.MixVal.lean ====
module
public import proofs.«01_k».proof.Proof.Gen.MixIdeal.Value
public import proofs.«01_k».proof.Proof.Gen.MixReferenceIdeal.Read
public import Idealize.ShloMosaic.Lib.Pointwise
public import Idealize.ShloMosaic.Lib.Pipeline.ValueKit
public import Idealize.ShloMosaic.Lib.Pipeline.ValueKit.Tiles
public import Idealize.ShloMosaic.Lib.StableHlo.RunRead
@[expose] public section
set_option maxRecDepth 16384
noncomputable section
namespace Cert.MixIdeal.Step
open Cert.MixIdeal Cert.MixIdeal.Gen Idealize.ShloMosaic Idealize.ShloMosaic.TcCoe Idealize.SL.Sem Idealize.ShloMosaic.Tactic

/-! # The output projection of the sequence mixers -/

theorem zero_word : Ideal.ofBits .f32 0x00000000#32 = (0 : EReal) := by simp [Ideal.ofBits, Ideal.ieee]
theorem one_word : Ideal.ofBits .f32 0x3F800000#32 = (1 : EReal) := by
  rw [← EReal.coe_one]
  simp [Ideal.ofBits, Ideal.ieee, -EReal.coe_mul]; norm_num
theorem z2 : (![0, 0] : Fin 2 → ℕ) = fun _ => 0 := by funext a; fin_cases a <;> rfl
theorem z3 : (![0, 0, 0] : Fin 3 → ℕ) = fun _ => 0 := by funext a; fin_cases a <;> rfl

/-- A row normalised by its root mean square and scaled. -/
def rms (y : Fin 2048 → EReal) (w : EReal) (n : Fin 2048) : EReal :=
  y n * Ideal.rsqrt (Ideal.div (∑ k : Fin 2048, y k * y k) (Ideal.ofBits .f32 0x45000000#32) + Ideal.ofBits .f32 0x358637BD#32) * w

/-- A half of the weights, without its leading axis. -/
def wb (X : Vec Ideal S1x1024x2048 .f32) : Vec Ideal S1024x2048 .bf16 := fun y => X (ix3 0 (y 0) (y 1))

theorem pay2_eq (X : Vec Ideal S1x1024x2048 .f32) : k0_pay2 (F := Ideal) X = wb X := by
  funext (y : S1024x2048.Idx)
  idx_vars y
  unfold k0_pay2 wb
  pointwise
theorem pay3_eq (X : Vec Ideal S1x1024x2048 .f32) : k0_pay3 (F := Ideal) X = wb X := pay2_eq X

theorem pay4_apply (a0 : Vec Ideal S256x1024 .bf16) (w0 : Vec Ideal S1024x2048 .bf16) (a1 : Vec Ideal S256x1024 .bf16) (w1 : Vec Ideal S1024x2048 .bf16)
    (x : Vec Ideal S256x2048 .f32) (g : Vec Ideal S1x1x2048 .f32) (p : Vec Ideal S1x2048 .f32) (r : Fin 256) (n : Fin 2048) :
    k0_pay4 (F := Ideal) a0 w0 a1 w1 x g p (ix2 r n)
      = x (ix2 r n) + g (ix3 0 0 n) * rms (fun n => (∑ k : Fin 1024, a0 (ix2 r k) * w0 (ix2 k n)) + ∑ k : Fin 1024, a1 (ix2 r k) * w1 (ix2 k n)) (p (ix2 0 n)) n := by
  unfold k0_pay4 rms
  pointwise

theorem pay5_apply (x : Vec Ideal S256x2048 .f32) (p : Vec Ideal S1x2048 .f32) (sc sh : Vec Ideal S1x1x2048 .f32) (r : Fin 256) (n : Fin 2048) :
    k0_pay5 (F := Ideal) x p sc sh (ix2 r n) = rms (fun k => x (ix2 r k)) (p (ix2 0 n)) n * (1 + sc (ix3 0 0 n)) + sh (ix3 0 0 n) := by
  unfold k0_pay5 rms
  pointwise

theorem pay8_eq (a0 : Vec Ideal S256x1024 .bf16) (w0 : Vec Ideal S1024x2048 .bf16) (a1 : Vec Ideal S256x1024 .bf16) (w1 : Vec Ideal S1024x2048 .bf16)
    (x : Vec Ideal S256x2048 .f32) (g : Vec Ideal S1x1x2048 .f32) (p : Vec Ideal S1x2048 .f32) :
    k0_pay8 (F := Ideal) (k0_pay6 a0 w0) (k0_pay7 a1 w1) x g p = k0_pay4 a0 w0 a1 w1 x g p := rfl

theorem pay1_eq (v63 v67 x : Vec Ideal S256x2048 .f32) (g : Vec Ideal S1x1x2048 .f32) (p q : Vec Ideal S1x2048 .f32) (sc sh : Vec Ideal S1x1x2048 .f32) :
    k0_pay1 (F := Ideal) (k0_pay9 v63 v67 x g p q) (k0_pay10 sc) sh = k0_pay5 (k0_pay8 v63 v67 x g p) q sc sh := rfl

/-- One block of the residual stream, from the blocks of the operands. -/
def bx (x0 x1 : Vec Ideal S512x1024 .bf16) (w0 w1 : Vec Ideal S1024x2048 .bf16) (x4 : Vec Ideal S512x2048 .f32) (x5 : Vec Ideal S1x6x2048 .f32) (x7 : Vec Ideal S1x2048 .f32) : Vec Ideal S512x2048 .f32 := fun y =>
  x4 y + x5 (ix3 0 2 (y 1)) * rms (fun n => (∑ k : Fin 1024, x0 (ix2 (y 0) k) * w0 (ix2 k n)) + ∑ k : Fin 1024, x1 (ix2 (y 0) k) * w1 (ix2 k n)) (x7 (ix2 0 (y 1))) (y 1)

/-- One block of the normalised and modulated rows, from a block of the residual stream. -/
def bh (x : Vec Ideal S512x2048 .f32) (x6 : Vec Ideal S1x6x2048 .f32) (x8 : Vec Ideal S1x2048 .f32) : Vec Ideal S512x2048 .bf16 := fun y =>
  rms (fun n => x (ix2 (y 0) n)) (x8 (ix2 0 (y 1))) (y 1) * (1 + x6 (ix3 0 4 (y 1))) + x6 (ix3 0 3 (y 1))

theorem ld_rows {b : Type} (x : S512x2048.Idx → b) (o : ℕ) (i : ∀ a, (![o, 0] : Fin 2 → ℕ) a + S256x2048.size a ≤ S512x2048.size a) (z0 : Fin 256) (y0 : Fin 512) (e : y0.val = o + z0.val) (n : Fin 2048) :
    (fun (X : S512x2048.Idx → b) => X ((Rect.unit (s := S512x2048) ![o, 0] S256x2048.size i).idx (ix2 z0 n))) x = x (ix2 y0 n) := by
  refine congrArg x (funext fun a => ?_)
  match a with
  | ⟨0, _⟩ => exact Fin.ext (by show o + 1 * z0.val = y0.val; omega)
  | ⟨1, _⟩ => exact Fin.ext (by show 0 + 1 * n.val = n.val; omega)

theorem ld_half (x : Vec Ideal S512x1024 .bf16) (o : ℕ) (i : ∀ a, (![o, 0] : Fin 2 → ℕ) a + S256x1024.size a ≤ S512x1024.size a) (z0 : Fin 256) (y0 : Fin 512) (e : y0.val = o + z0.val) (n : Fin 1024) :
    View.ld x (Rect.unit (s := S512x1024) ![o, 0] S256x1024.size i) (ix2 z0 n) = x (ix2 y0 n) := by
  refine congrArg x (funext fun a => ?_)
  match a with
  | ⟨0, _⟩ => exact Fin.ext (by show o + 1 * z0.val = y0.val; omega)
  | ⟨1, _⟩ => exact Fin.ext (by show 0 + 1 * n.val = n.val; omega)

theorem ld_mod (x : Vec Ideal S1x6x2048 .f32) (q : Fin 6) (off : Fin 3 → ℕ) (h : off = ![0, q.val, 0]) (i : ∀ a, off a + S1x1x2048.size a ≤ S1x6x2048.size a) (n : Fin 2048) :
    View.ld x (Rect.unit (s := S1x6x2048) off S1x1x2048.size i) (ix3 0 0 n) = x (ix3 0 q n) := by
  subst h
  refine congrArg x (funext fun a => ?_)
  match a with
  | ⟨0, _⟩ => rfl
  | ⟨1, _⟩ => exact Fin.ext (by show q.val + 1 * 0 = q.val; omega)
  | ⟨2, _⟩ => exact Fin.ext (by show 0 + 1 * n.val = n.val; omega)

theorem ld_w (x : Vec Ideal S1024x2048 .bf16) (i : ∀ a, (![0, 0] : Fin 2 → ℕ) a + (![1024, 2048] : Fin 2 → ℕ) a ≤ S1024x2048.size a) : View.ld x (Rect.unit (s := S1024x2048) ![0, 0] ![1024, 2048] i) = x := by
  show View.ld x (Rect.unit (s := S1024x2048) ![0, 0] S1024x2048.size i) = x
  rw [View.ld_unit_zero (show _ = _ from z2)]
theorem ld_r (x : Vec Ideal S1x2048 .f32) (i : ∀ a, (![0, 0] : Fin 2 → ℕ) a + (![1, 2048] : Fin 2 → ℕ) a ≤ S1x2048.size a) : View.ld x (Rect.unit (s := S1x2048) ![0, 0] ![1, 2048] i) = x := by
  show View.ld x (Rect.unit (s := S1x2048) ![0, 0] S1x2048.size i) = x
  rw [View.ld_unit_zero (show _ = _ from z2)]
theorem ld_k (x : Vec Ideal S1x1024x2048 .f32) (i : ∀ a, (![0, 0, 0] : Fin 3 → ℕ) a + (![1, 1024, 2048] : Fin 3 → ℕ) a ≤ S1x1024x2048.size a) : View.ld x (Rect.unit (s := S1x1024x2048) ![0, 0, 0] ![1, 1024, 2048] i) = x := by
  show View.ld x (Rect.unit (s := S1x1024x2048) ![0, 0, 0] S1x1024x2048.size i) = x
  rw [View.ld_unit_zero (show _ = _ from z3)]

theorem tile_x (x0 x1 : Vec Ideal S512x1024 .bf16) (w0 w1 : Vec Ideal S1024x2048 .bf16) (x4 : Vec Ideal S512x2048 .f32) (x5 : Vec Ideal S1x6x2048 .f32) (x7 : Vec Ideal S1x2048 .f32)
    (o : ℕ) (offa offx : Fin 2 → ℕ) (ha : offa = ![o, 0]) (hx : offx = ![o, 0])
    (i0 i1 : ∀ a, offa a + S256x1024.size a ≤ S512x1024.size a) (i4 : ∀ a, offx a + S256x2048.size a ≤ S512x2048.size a)
    (i5 : ∀ a, (![0, 2, 0] : Fin 3 → ℕ) a + S1x1x2048.size a ≤ S1x6x2048.size a)
    (z : S256x2048.Idx) (y : S512x2048.Idx) (e0 : (y 0).val = o + (z 0).val) (e1 : (y 1).val = (z 1).val) :
    k0_pay4 (F := Ideal) (View.ld x0 (Rect.unit (s := S512x1024) offa S256x1024.size i0)) w0 (View.ld x1 (Rect.unit (s := S512x1024) offa S256x1024.size i1)) w1
      (View.ld x4 (Rect.unit (s := S512x2048) offx S256x2048.size i4)) (View.ld x5 (Rect.unit (s := S1x6x2048) ![0, 2, 0] S1x1x2048.size i5)) x7 z = bx x0 x1 w0 w1 x4 x5 x7 y := by
  subst ha hx
  idx_vars z
  idx_vars y
  have e0' : y0.val = o + z0.val := e0
  obtain rfl : y1 = z1 := Fin.ext e1
  have l4 : View.ld x4 (Rect.unit (s := S512x2048) ![o, 0] S256x2048.size i4) (ix2 z0 y1) = x4 (ix2 y0 y1) := ld_rows x4 o i4 z0 y0 e0' y1
  have l5 : View.ld x5 (Rect.unit (s := S1x6x2048) ![0, 2, 0] S1x1x2048.size i5) (ix3 0 0 y1) = x5 (ix3 0 2 y1) := ld_mod x5 2 _ rfl i5 y1
  rw [pay4_apply, l4, l5]
  simp only [ld_half x0 o i0 z0 y0 e0', ld_half x1 o i1 z0 y0 e0']
  rfl

theorem tile_h (v : Vec Ideal S256x2048 .f32) (x : Vec Ideal S512x2048 .f32) (x6 : Vec Ideal S1x6x2048 .f32) (x8 : Vec Ideal S1x2048 .f32) (o : ℕ)
    (hv : ∀ (z : S256x2048.Idx) (y : S512x2048.Idx), (y 0).val = o + (z 0).val → (y 1).val = (z 1).val → v z = x y)
    (i3 : ∀ a, (![0, 3, 0] : Fin 3 → ℕ) a + S1x1x2048.size a ≤ S1x6x2048.size a) (i4 : ∀ a, (![0, 4, 0] : Fin 3 → ℕ) a + S1x1x2048.size a ≤ S1x6x2048.size a)
    (z : S256x2048.Idx) (y : S512x2048.Idx) (e0 : (y 0).val = o + (z 0).val) (e1 : (y 1).val = (z 1).val) :
    k0_pay5 (F := Ideal) v x8 (View.ld x6 (Rect.unit (s := S1x6x2048) ![0, 4, 0] S1x1x2048.size i4)) (View.ld x6 (Rect.unit (s := S1x6x2048) ![0, 3, 0] S1x1x2048.size i3)) z = bh x x6 x8 y := by
  idx_vars z
  idx_vars y
  have e0' : y0.val = o + z0.val := e0
  obtain rfl : y1 = z1 := Fin.ext e1
  have l4 : View.ld x6 (Rect.unit (s := S1x6x2048) ![0, 4, 0] S1x1x2048.size i4) (ix3 0 0 y1) = x6 (ix3 0 4 y1) := ld_mod x6 4 _ rfl i4 y1
  have l3 : View.ld x6 (Rect.unit (s := S1x6x2048) ![0, 3, 0] S1x1x2048.size i3) (ix3 0 0 y1) = x6 (ix3 0 3 y1) := ld_mod x6 3 _ rfl i3 y1
  rw [pay5_apply, l4, l3]
  simp only [fun n : Fin 2048 => hv (ix2 z0 n) (ix2 y0 n) e0' rfl]
  rfl

section
variable (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S1x1024x2048 .f32) (harg3 : arg3.IsWhole) (arg4 : Memref sig .tc .vmem S1x1024x2048 .f32) (harg4 : arg4.IsWhole) (arg5 : Memref sig .tc .vmem S512x2048 .f32) (harg5 : arg5.IsWhole) (arg6 : Memref sig .tc .vmem S1x6x2048 .f32) (harg6 : arg6.IsWhole) (arg7 : Memref sig .tc .vmem S1x6x2048 .f32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .bf16) (harg11 : arg11.IsWhole) (arg12 : Memref sig .tc .vmem S1024x2048 .bf16) (harg12 : arg12.IsWhole) (arg13 : Memref sig .tc .vmem S1024x2048 .bf16) (harg13 : arg13.IsWhole)
  (x0 : Vec Ideal S512x1024 .bf16) (x1 : Vec Ideal S512x1024 .bf16) (x2 : Vec Ideal S1x1024x2048 .f32) (x3 : Vec Ideal S1x1024x2048 .f32) (x4 : Vec Ideal S512x2048 .f32) (x5 : Vec Ideal S1x6x2048 .f32) (x6 : Vec Ideal S1x6x2048 .f32) (x7 : Vec Ideal S1x2048 .f32) (x8 : Vec Ideal S1x2048 .f32)

theorem sout_A0 (hc0 : cond0_0 i) : sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = wb x2 := by
  unfold sout0_A_0 kernelRun0_A
  dsimp only
  rw [View.read_writes_junk_eq_canon]
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread]
  rw [View.ld_unit_zero z3, pay2_eq]
theorem sout_A1 (hc0 : cond0_0 i) : sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = wb x3 := by
  unfold sout0_A_1 kernelRun0_A
  dsimp only
  rw [View.read_writes_junk_eq_canon]
  sl_unfold_words
  rw [View.canon_unit_zero z2]
  simp only [View.readAt_eq_ld, harg1.read_unread, harg2.read_unread, harg3.read_unread, harg4.read_unread, harg5.read_unread, harg6.read_unread, harg7.read_unread, harg8.read_unread, harg9.read_unread]
  rw [View.ld_unit_zero z3, pay3_eq]
theorem sout_B0 (hc0 : ¬cond0_0 i) (s0 s1 : Vec Ideal S1024x2048 .bf16) : sout0_B_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 s0 s1 = s0 := rfl
theorem sout_B1 (hc0 : ¬cond0_0 i) (s0 s1 : Vec Ideal S1024x2048 .bf16) : sout0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 s0 s1 = s1 := rfl

theorem out_A9 (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = bx x0 x1 (wb x2) (wb x3) x4 x5 x7 := by
  unfold out0_A_9 kernelRun0_A
  dsimp only
  rw [View.read_writes_junk_eq_canon]
  sl_unfold_words
  simp only [View.readCov_unit_zero arg12.view z2, View.readCov_unit_zero arg13.view z2]
  simp only [View.readAt_eq_ld, harg1.read_unread, harg2.read_unread, harg3.read_unread, harg4.read_unread, harg5.read_unread, harg6.read_unread, harg7.read_unread, harg8.read_unread, harg9.read_unread, ld_w, ld_r, ld_k, pay2_eq, pay3_eq, pay1_eq, pay8_eq]
  funext y
  canon_tiles x h using View.cover_of_tiled_head _ _ _ (by rfl) y
  · exact tile_x x0 x1 (wb x2) (wb x3) x4 x5 x7 256 ![256, 0] ![256, 0] rfl rfl (by decide) (by decide) (by decide) (by decide) x y (by omega) (by omega)
  · exact tile_x x0 x1 (wb x2) (wb x3) x4 x5 x7 0 ![0, 0] ![0, 0] rfl rfl (by decide) (by decide) (by decide) (by decide) x y (by omega) (by omega)

theorem out_A10 (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = bh (bx x0 x1 (wb x2) (wb x3) x4 x5 x7) x6 x8 := by
  unfold out0_A_10 kernelRun0_A
  dsimp only
  rw [View.read_writes_junk_eq_canon]
  sl_unfold_words
  simp only [View.readCov_unit_zero arg12.view z2, View.readCov_unit_zero arg13.view z2]
  simp only [View.readAt_eq_ld, harg1.read_unread, harg2.read_unread, harg3.read_unread, harg4.read_unread, harg5.read_unread, harg6.read_unread, harg7.read_unread, harg8.read_unread, harg9.read_unread, ld_w, ld_r, ld_k, pay2_eq, pay3_eq, pay1_eq, pay8_eq]
  funext y
  canon_tiles x h using View.cover_of_tiled_head _ _ _ (by rfl) y
  · exact tile_h _ _ x6 x8 256 (fun z y e0 e1 => tile_x x0 x1 (wb x2) (wb x3) x4 x5 x7 256 ![256, 0] ![256, 0] rfl rfl (by decide) (by decide) (by decide) (by decide) z y e0 e1) (by decide) (by decide) x y (by omega) (by omega)
  · exact tile_h _ _ x6 x8 0 (fun z y e0 e1 => tile_x x0 x1 (wb x2) (wb x3) x4 x5 x7 0 ![0, 0] ![0, 0] rfl rfl (by decide) (by decide) (by decide) (by decide) z y e0 e1) (by decide) (by decide) x y (by omega) (by omega)

theorem out_B9 (hc0 : ¬cond0_0 i) (s0 s1 : Vec Ideal S1024x2048 .bf16) : out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 s0 s1 = bx x0 x1 s0 s1 x4 x5 x7 := by
  unfold out0_B_9 kernelRun0_B
  dsimp only
  rw [View.read_writes_junk_eq_canon]
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, ld_w, ld_r, ld_k, pay1_eq, pay8_eq]
  funext y
  canon_tiles x h using View.cover_of_tiled_head _ _ _ (by rfl) y
  · exact tile_x x0 x1 s0 s1 x4 x5 x7 256 ![256, 0] ![256, 0] rfl rfl (by decide) (by decide) (by decide) (by decide) x y (by omega) (by omega)
  · exact tile_x x0 x1 s0 s1 x4 x5 x7 0 ![0, 0] ![0, 0] rfl rfl (by decide) (by decide) (by decide) (by decide) x y (by omega) (by omega)

theorem out_B10 (hc0 : ¬cond0_0 i) (s0 s1 : Vec Ideal S1024x2048 .bf16) : out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 s0 s1 = bh (bx x0 x1 s0 s1 x4 x5 x7) x6 x8 := by
  unfold out0_B_10 kernelRun0_B
  dsimp only
  rw [View.read_writes_junk_eq_canon]
  sl_unfold_words
  simp only [View.readAt_eq_ld, harg1.read_unread, harg2.read_unread, harg3.read_unread, harg4.read_unread, harg5.read_unread, harg6.read_unread, harg7.read_unread, harg8.read_unread, harg9.read_unread, harg12.read_unread, harg13.read_unread, ld_w, ld_r, ld_k, pay1_eq, pay8_eq]
  funext y
  canon_tiles x h using View.cover_of_tiled_head _ _ _ (by rfl) y
  · exact tile_h _ _ x6 x8 256 (fun z y e0 e1 => tile_x x0 x1 s0 s1 x4 x5 x7 256 ![256, 0] ![256, 0] rfl rfl (by decide) (by decide) (by decide) (by decide) z y e0 e1) (by decide) (by decide) x y (by omega) (by omega)
  · exact tile_h _ _ x6 x8 0 (fun z y e0 e1 => tile_x x0 x1 s0 s1 x4 x5 x7 0 ![0, 0] ![0, 0] rfl rfl (by decide) (by decide) (by decide) (by decide) z y e0 e1) (by decide) (by decide) x y (by omega) (by omega)
end

section
variable (m : (ℓ : Loc nD τ sig) → Buf (Elt Ideal) ℓ) (c : Dev nD)

theorem ix_a0 : ∀ t : Fin cfg0.N, win0_0.index t 0 = t.val := by decide +kernel
theorem ix_a1 : ∀ t : Fin cfg0.N, win0_0.index t 1 = 0 := by decide +kernel
theorem ix_b0 : ∀ t : Fin cfg0.N, win0_1.index t 0 = t.val := by decide +kernel
theorem ix_b1 : ∀ t : Fin cfg0.N, win0_1.index t 1 = 0 := by decide +kernel
theorem ix_v0 : ∀ t : Fin cfg0.N, win0_2.index t 0 = 0 := by decide +kernel
theorem ix_v1 : ∀ t : Fin cfg0.N, win0_2.index t 1 = 0 := by decide +kernel
theorem ix_v2 : ∀ t : Fin cfg0.N, win0_2.index t 2 = 0 := by decide +kernel
theorem ix_w0 : ∀ t : Fin cfg0.N, win0_3.index t 0 = 0 := by decide +kernel
theorem ix_w1 : ∀ t : Fin cfg0.N, win0_3.index t 1 = 1 := by decide +kernel
theorem ix_w2 : ∀ t : Fin cfg0.N, win0_3.index t 2 = 0 := by decide +kernel
theorem ix_x0 : ∀ t : Fin cfg0.N, win0_4.index t 0 = t.val := by decide +kernel
theorem ix_x1 : ∀ t : Fin cfg0.N, win0_4.index t 1 = 0 := by decide +kernel
theorem ix_m0 : ∀ t : Fin cfg0.N, win0_5.index t 0 = t.val / 8 := by decide +kernel
theorem ix_m1 : ∀ t : Fin cfg0.N, win0_5.index t 1 = 0 := by decide +kernel
theorem ix_m2 : ∀ t : Fin cfg0.N, win0_5.index t 2 = 0 := by decide +kernel
theorem ix_n0 : ∀ t : Fin cfg0.N, win0_6.index t 0 = t.val / 8 := by decide +kernel
theorem ix_n1 : ∀ t : Fin cfg0.N, win0_6.index t 1 = 0 := by decide +kernel
theorem ix_n2 : ∀ t : Fin cfg0.N, win0_6.index t 2 = 0 := by decide +kernel
theorem ix_p0 : ∀ t : Fin cfg0.N, win0_7.index t 0 = 0 := by decide +kernel
theorem ix_p1 : ∀ t : Fin cfg0.N, win0_7.index t 1 = 0 := by decide +kernel
theorem ix_q0 : ∀ t : Fin cfg0.N, win0_8.index t 0 = 0 := by decide +kernel
theorem ix_q1 : ∀ t : Fin cfg0.N, win0_8.index t 1 = 0 := by decide +kernel
theorem ix_o0 : ∀ t : Fin cfg0.N, win0_9.index t 0 = t.val := by decide +kernel
theorem ix_o1 : ∀ t : Fin cfg0.N, win0_9.index t 1 = 0 := by decide +kernel
theorem ix_h0 : ∀ t : Fin cfg0.N, win0_10.index t 0 = t.val := by decide +kernel
theorem ix_h1 : ∀ t : Fin cfg0.N, win0_10.index t 1 = 0 := by decide +kernel
theorem fl_o : ∀ t : Fin cfg0.N, (cfg0.win 9).flush t = true := by decide +kernel
theorem fl_h : ∀ t : Fin cfg0.N, (cfg0.win 10).flush t = true := by decide +kernel

theorem lt_N (t : Fin cfg0.N) : t.val < 32 :=
  lt_of_lt_of_eq t.isLt N_0

/-- The rows of one mixer's output at a grid point. -/
def ab (A : Vec Ideal S16384x1024 .bf16) (t : Fin cfg0.N) : Vec Ideal S512x1024 .bf16 := fun y =>
  A (ix2 (⟨512 * t.val + (y 0).val, by have := (y 0).isLt; have := lt_N t; dsimp at *; omega⟩ : Fin 16384) (y 1))
/-- The first half of the weights' rows. -/
def wlo (W : Vec Ideal S1x2048x2048 .f32) : Vec Ideal S1x1024x2048 .f32 := fun y =>
  W (ix3 0 (⟨(y 1).val, by have := (y 1).isLt; dsimp at *; omega⟩ : Fin 2048) (y 2))
/-- The second half of the weights' rows. -/
def whi (W : Vec Ideal S1x2048x2048 .f32) : Vec Ideal S1x1024x2048 .f32 := fun y =>
  W (ix3 0 (⟨1024 + (y 1).val, by have := (y 1).isLt; dsimp at *; omega⟩ : Fin 2048) (y 2))
/-- The rows of the residual stream at a grid point. -/
def xb (X : Vec Ideal S16384x2048 .f32) (t : Fin cfg0.N) : Vec Ideal S512x2048 .f32 := fun y =>
  X (ix2 (⟨512 * t.val + (y 0).val, by have := (y 0).isLt; have := lt_N t; dsimp at *; omega⟩ : Fin 16384) (y 1))
/-- The modulation of a grid point's sequence. -/
def mb (M : Vec Ideal S8x6x2048 .f32) (t : Fin cfg0.N) : Vec Ideal S1x6x2048 .f32 := fun y =>
  M (ix3 (⟨t.val / 8, by have := lt_N t; omega⟩ : Fin 8) (y 1) (y 2))

theorem iblk_a (t) : iblk m c 0 t = ab (V m c main_v4) t := by
  funext y
  unfold ab
  blk_ext [iblk, ix_a0 t, ix_a1 t]
theorem iblk_b (t) : iblk m c 1 t = ab (V m c main_v6) t := by
  funext y
  unfold ab
  blk_ext [iblk, ix_b0 t, ix_b1 t]
theorem iblk_v (t) : iblk m c 2 t = wlo (V m c main_arg2) := by
  funext y
  unfold wlo
  blk_ext [iblk, ix_v0 t, ix_v1 t, ix_v2 t]
theorem iblk_w (t) : iblk m c 3 t = whi (V m c main_arg2) := by
  funext y
  unfold whi
  blk_ext [iblk, ix_w0 t, ix_w1 t, ix_w2 t]
theorem iblk_x (t) : iblk m c 4 t = xb (V m c main_v7) t := by
  funext y
  unfold xb
  blk_ext [iblk, ix_x0 t, ix_x1 t]
theorem iblk_m (t) : iblk m c 5 t = mb (V m c main_v2) t := by
  funext y
  unfold mb
  blk_ext [iblk, ix_m0 t, ix_m1 t, ix_m2 t]
theorem iblk_n (t) : iblk m c 6 t = mb (V m c main_v2) t := by
  funext y
  unfold mb
  blk_ext [iblk, ix_n0 t, ix_n1 t, ix_n2 t]
theorem iblk_p (t) : iblk m c 7 t = V m c main_v12 := by
  funext y
  blk_ext [iblk, ix_p0 t, ix_p1 t]
theorem iblk_q (t) : iblk m c 8 t = V m c main_v13 := by
  funext y
  blk_ext [iblk, ix_q0 t, ix_q1 t]

/-- Every point's two scratch arrays hold the two halves of the weights. -/
theorem scratch_all : ∀ (n : ℕ) (hn : n < cfg0.N),
    (outsAt0 m c n hn).2.2 = (wb (wlo (V m c main_arg2)), wb (whi (V m c main_arg2)))
  | 0, hn => by
    rw [outsAt0_A m c ⟨0, hn⟩ rfl]
    dsimp only
    rw [sout_A0, sout_A1, iblk_v, iblk_w]
  | n + 1, hn => by
    have h32 : n + 1 < 32 := lt_of_lt_of_eq hn N_0
    rw [outsAt0_B m c ⟨n + 1, hn⟩ (by show ¬(n + 1) % 32 = 0; omega)]
    dsimp only
    rw [sout_B0, sout_B1]
    exact scratch_all n (by omega)

/-- What a grid point writes back to the residual stream. -/
def px (t : Fin cfg0.N) : Vec Ideal S512x2048 .f32 :=
  bx (ab (V m c main_v4) t) (ab (V m c main_v6) t) (wb (wlo (V m c main_arg2))) (wb (whi (V m c main_arg2))) (xb (V m c main_v7) t) (mb (V m c main_v2) t) (V m c main_v12)

theorem point_x (t : Fin cfg0.N) : (outsAt0 m c t.val t.isLt).1 = px m c t := by
  by_cases h0 : t.val % 32 = 0
  · rw [outsAt0_A m c t h0]
    dsimp only
    rw [out_A9, iblk_a, iblk_b, iblk_v, iblk_w, iblk_x, iblk_m, iblk_p]
    rfl
  · rw [outsAt0_B m c t h0]
    dsimp only
    rw [out_B9, scratch_all, iblk_a, iblk_b, iblk_x, iblk_m, iblk_p]
    rfl

theorem point_h (t : Fin cfg0.N) : (outsAt0 m c t.val t.isLt).2.1 = bh (px m c t) (mb (V m c main_v2) t) (V m c main_v13) := by
  by_cases h0 : t.val % 32 = 0
  · rw [outsAt0_A m c t h0]
    dsimp only
    rw [out_A10, iblk_a, iblk_b, iblk_v, iblk_w, iblk_x, iblk_m, iblk_n, iblk_p, iblk_q]
    rfl
  · rw [outsAt0_B m c t h0]
    dsimp only
    rw [out_B10, scratch_all, iblk_a, iblk_b, iblk_x, iblk_m, iblk_n, iblk_p, iblk_q]
    rfl

/-- One mixer's output as the kernel takes it. -/
def oh (x0 : Vec Ideal S4x4096x1024 .f32) : Vec Ideal S16384x1024 .bf16 :=
  truncf (F := Ideal) .bf16 (shapeCast S16384x1024 x0 shapeCasts_S4x4096x1024_S16384x1024) bitsLt_bf16_f32
/-- The residual stream as the kernel takes it. -/
def xh (x2 : Vec Ideal S4x4096x2048 .f32) : Vec Ideal S16384x2048 .f32 := shapeCast S16384x2048 x2 shapeCasts_S4x4096x2048_S16384x2048
/-- The modulation as the kernel takes it. -/
def mh (x3 : Vec Ideal S4x12288 .f32) : Vec Ideal S8x6x2048 .f32 :=
  shapeCast S8x6x2048 (concatenate S8x12288 0 [⟨S4x12288, x3⟩, ⟨S4x12288, broadcastInDim S4x12288 ![] bcast_S_S4x12288 (constant (F := Ideal) S_ .f32 0x00000000#32)⟩] concatenates_S4x12288_S4x12288_S8x12288_d0) shapeCasts_S8x12288_S8x6x2048
/-- The scale of a norm as the kernel takes it. -/
def ph (x4 : Vec Ideal S2x2048 .f32) : Vec Ideal S1x2048 .f32 :=
  shapeCast S1x2048 (shapeCast S2048 (extractStridedSlice S1x2048 ![1, 0] x4 slices_S2x2048_S1x2048_1_0) shapeCasts_S1x2048_S2048) shapeCasts_S2048_S1x2048

theorem V4 : V m c main_v4 = oh (m ((c : Thread nD τ).loc main_arg0)) := by
  unfold V
  after_reads_simp
  rfl
theorem V6 : V m c main_v6 = oh (m ((c : Thread nD τ).loc main_arg1)) := by
  unfold V
  after_reads_simp
  rfl
theorem V7 : V m c main_v7 = xh (m ((c : Thread nD τ).loc main_arg3)) := by
  unfold V
  after_reads_simp
  rfl
theorem V2 : V m c main_v2 = mh (m ((c : Thread nD τ).loc main_arg4)) := by
  unfold V
  after_reads_simp
  rfl
theorem V12 : V m c main_v12 = ph (m ((c : Thread nD τ).loc main_arg5)) := by
  unfold V
  after_reads_simp
  rfl
theorem V13 : V m c main_v13 = ph (m ((c : Thread nD τ).loc main_arg6)) := by
  unfold V
  after_reads_simp
  rfl

theorem oh_apply (x0 : Vec Ideal S4x4096x1024 .f32) (r : Fin 16384) (b : Fin 4) (s : Fin 4096) (h : r.val = 4096 * b.val + s.val) (k : Fin 1024) :
    oh x0 (ix2 r k) = x0 (ix3 b s k) := by
  have e : oh x0 (ix2 r k) = x0 (ix3 (⟨r.val / 4096, by omega⟩ : Fin 4) (⟨r.val % 4096, by omega⟩ : Fin 4096) k) := by
    unfold oh
    pointwise
  rw [e, show (⟨r.val / 4096, by omega⟩ : Fin 4) = b from Fin.ext (by show r.val / 4096 = b.val; omega),
    show (⟨r.val % 4096, by omega⟩ : Fin 4096) = s from Fin.ext (by show r.val % 4096 = s.val; omega)]
theorem xh_apply (x2 : Vec Ideal S4x4096x2048 .f32) (r : Fin 16384) (b : Fin 4) (s : Fin 4096) (h : r.val = 4096 * b.val + s.val) (k : Fin 2048) :
    xh x2 (ix2 r k) = x2 (ix3 b s k) := by
  have e : xh x2 (ix2 r k) = x2 (ix3 (⟨r.val / 4096, by omega⟩ : Fin 4) (⟨r.val % 4096, by omega⟩ : Fin 4096) k) := by
    unfold xh
    pointwise
  rw [e, show (⟨r.val / 4096, by omega⟩ : Fin 4) = b from Fin.ext (by show r.val / 4096 = b.val; omega),
    show (⟨r.val % 4096, by omega⟩ : Fin 4096) = s from Fin.ext (by show r.val % 4096 = s.val; omega)]
theorem mh_apply (x3 : Vec Ideal S4x12288 .f32) (i : Fin 8) (b : Fin 4) (h : i.val = b.val) (q : Fin 6) (n : Fin 2048) :
    mh x3 (ix3 i q n) = x3 (ix2 b (⟨2048 * q.val + n.val, by omega⟩ : Fin 12288)) := by
  have hi : i.val < 4 := by omega
  unfold mh
  pointwise
  rw [dif_pos hi]
  refine congrArg x3 ?_
  funext a
  match a with
  | ⟨0, _⟩ => exact Fin.ext h
  | ⟨1, _⟩ => exact Fin.ext (by show q.val * 2048 + n.val = 2048 * q.val + n.val; omega)
theorem ph_apply (x4 : Vec Ideal S2x2048 .f32) (n : Fin 2048) : ph x4 (ix2 0 n) = x4 (ix2 1 n) := by
  unfold ph
  pointwise

/-- The projection of the two mixers' outputs, set side by side, at a sequence, a position and a column. -/
def mixd (x0 x1 : Vec Ideal S4x4096x1024 .f32) (x2 : Vec Ideal S1x2048x2048 .f32) (b : Fin 4) (s : Fin 4096) (n : Fin 2048) : EReal :=
  (∑ k : Fin 1024, x0 (ix3 b s k) * x2 (ix3 0 (⟨k.val, by omega⟩ : Fin 2048) n)) + ∑ k : Fin 1024, x1 (ix3 b s k) * x2 (ix3 0 (⟨1024 + k.val, by omega⟩ : Fin 2048) n)

/-- The residual stream after the mixers, at a sequence, a position and a column. -/
def resx (x0 x1 : Vec Ideal S4x4096x1024 .f32) (x2 : Vec Ideal S1x2048x2048 .f32) (x3 : Vec Ideal S4x4096x2048 .f32) (x4 : Vec Ideal S4x12288 .f32) (x5 : Vec Ideal S2x2048 .f32) (b : Fin 4) (s : Fin 4096) (n : Fin 2048) : EReal :=
  x3 (ix3 b s n) + x4 (ix2 b (⟨4096 + n.val, by omega⟩ : Fin 12288)) * rms (mixd x0 x1 x2 b s) (x5 (ix2 1 n)) n

/-- The rows the channel mixer takes, at a sequence, a position and a column. -/
def resh (x0 x1 : Vec Ideal S4x4096x1024 .f32) (x2 : Vec Ideal S1x2048x2048 .f32) (x3 : Vec Ideal S4x4096x2048 .f32) (x4 : Vec Ideal S4x12288 .f32) (x5 x6 : Vec Ideal S2x2048 .f32) (b : Fin 4) (s : Fin 4096) (n : Fin 2048) : EReal :=
  rms (resx x0 x1 x2 x3 x4 x5 b s) (x6 (ix2 1 n)) n * (1 + x4 (ix2 b (⟨8192 + n.val, by omega⟩ : Fin 12288))) + x4 (ix2 b (⟨6144 + n.val, by omega⟩ : Fin 12288))

/-- A block of the residual stream at an index. -/
theorem bx_apply (x0 x1 : Vec Ideal S4x4096x1024 .f32) (x2 : Vec Ideal S1x2048x2048 .f32) (x3 : Vec Ideal S4x4096x2048 .f32) (x4 : Vec Ideal S4x12288 .f32) (x5 : Vec Ideal S2x2048 .f32)
    (t : Fin cfg0.N) (q : Fin 512) (b : Fin 4) (s : Fin 4096) (hb : t.val / 8 = b.val) (hs : 512 * t.val + q.val = 4096 * b.val + s.val) (n : Fin 2048) :
    bx (ab (oh x0) t) (ab (oh x1) t) (wb (wlo x2)) (wb (whi x2)) (xb (xh x3) t) (mb (mh x4) t) (ph x5) (ix2 q n) = resx x0 x1 x2 x3 x4 x5 b s n := by
  have ht := lt_N t
  show (xh x3 (ix2 (⟨512 * t.val + q.val, _⟩ : Fin 16384) n) : EReal) + mh x4 (ix3 (⟨t.val / 8, _⟩ : Fin 8) 2 n)
      * rms (fun n => (∑ k : Fin 1024, (oh x0 (ix2 (⟨512 * t.val + q.val, _⟩ : Fin 16384) k) : EReal) * x2 (ix3 0 (⟨k.val, _⟩ : Fin 2048) n))
          + ∑ k : Fin 1024, (oh x1 (ix2 (⟨512 * t.val + q.val, _⟩ : Fin 16384) k) : EReal) * x2 (ix3 0 (⟨1024 + k.val, _⟩ : Fin 2048) n)) (ph x5 (ix2 0 n)) n = _
  rw [xh_apply x3 _ b s hs, mh_apply x4 _ b hb, ph_apply]
  simp only [oh_apply x0 (⟨512 * t.val + q.val, by omega⟩ : Fin 16384) b s hs, oh_apply x1 (⟨512 * t.val + q.val, by omega⟩ : Fin 16384) b s hs]
  rfl

/-- A block of the normalised rows at an index. -/
theorem bh_apply (x0 x1 : Vec Ideal S4x4096x1024 .f32) (x2 : Vec Ideal S1x2048x2048 .f32) (x3 : Vec Ideal S4x4096x2048 .f32) (x4 : Vec Ideal S4x12288 .f32) (x5 x6 : Vec Ideal S2x2048 .f32)
    (t : Fin cfg0.N) (q : Fin 512) (b : Fin 4) (s : Fin 4096) (hb : t.val / 8 = b.val) (hs : 512 * t.val + q.val = 4096 * b.val + s.val) (n : Fin 2048) :
    bh (bx (ab (oh x0) t) (ab (oh x1) t) (wb (wlo x2)) (wb (whi x2)) (xb (xh x3) t) (mb (mh x4) t) (ph x5)) (mb (mh x4) t) (ph x6) (ix2 q n) = resh x0 x1 x2 x3 x4 x5 x6 b s n := by
  have ht := lt_N t
  show rms (fun n => bx (ab (oh x0) t) (ab (oh x1) t) (wb (wlo x2)) (wb (whi x2)) (xb (xh x3) t) (mb (mh x4) t) (ph x5) (ix2 q n)) (ph x6 (ix2 0 n)) n
      * (1 + mh x4 (ix3 (⟨t.val / 8, _⟩ : Fin 8) 4 n)) + mh x4 (ix3 (⟨t.val / 8, _⟩ : Fin 8) 3 n) = _
  rw [mh_apply x4 _ b hb, mh_apply x4 _ b hb, ph_apply]
  simp only [bx_apply x0 x1 x2 x3 x4 x5 t q b s hb hs]
  rfl

/-- The residual stream the kernel leaves, at a row and a column. -/
theorem arr_x (x0 x1 : Vec Ideal S4x4096x1024 .f32) (x2 : Vec Ideal S1x2048x2048 .f32) (x3 : Vec Ideal S4x4096x2048 .f32) (x4 : Vec Ideal S4x12288 .f32) (x5 : Vec Ideal S2x2048 .f32)
    (h0 : m ((c : Thread nD τ).loc main_arg0) = x0) (h1 : m ((c : Thread nD τ).loc main_arg1) = x1) (h2 : m ((c : Thread nD τ).loc main_arg2) = x2) (h3 : m ((c : Thread nD τ).loc main_arg3) = x3) (h4 : m ((c : Thread nD τ).loc main_arg4) = x4) (h5 : m ((c : Thread nD τ).loc main_arg5) = x5) (r : Fin 16384) (n : Fin 2048) :
    (dats m 0 c).arrAt 9 cfg0.N (ix2 r n) = resx x0 x1 x2 x3 x4 x5 (⟨r.val / 4096, by omega⟩ : Fin 4) (⟨r.val % 4096, by omega⟩ : Fin 4096) n := by
  have ht : r.val / 512 < cfg0.N := by rw [show cfg0.N = 32 from N_0]; omega
  have e := congrFun ((Value.blocks9 m c ⟨r.val / 512, ht⟩ (fl_o _)).trans (Value.flushed9 m c ⟨r.val / 512, ht⟩)) (ix2 (⟨r.val % 512, by omega⟩ : Fin 512) n)
  rw [point_x] at e
  unfold px at e
  rw [V4, V6, V_main_arg2, V7, V2, V12, h0, h1, h2, h3, h4, h5] at e
  refine Eq.trans ?_ (e.trans (bx_apply x0 x1 x2 x3 x4 x5 ⟨r.val / 512, ht⟩ (⟨r.val % 512, by omega⟩ : Fin 512) _ _ ?_ ?_ n))
  · blk_ext [ix_o0, ix_o1]
  · show r.val / 512 / 8 = r.val / 4096; omega
  · show 512 * (r.val / 512) + r.val % 512 = 4096 * (r.val / 4096) + r.val % 4096; omega

/-- The rows the kernel leaves for the channel mixer, at a row and a column. -/
theorem arr_h (x0 x1 : Vec Ideal S4x4096x1024 .f32) (x2 : Vec Ideal S1x2048x2048 .f32) (x3 : Vec Ideal S4x4096x2048 .f32) (x4 : Vec Ideal S4x12288 .f32) (x5 x6 : Vec Ideal S2x2048 .f32)
    (h0 : m ((c : Thread nD τ).loc main_arg0) = x0) (h1 : m ((c : Thread nD τ).loc main_arg1) = x1) (h2 : m ((c : Thread nD τ).loc main_arg2) = x2) (h3 : m ((c : Thread nD τ).loc main_arg3) = x3) (h4 : m ((c : Thread nD τ).loc main_arg4) = x4) (h5 : m ((c : Thread nD τ).loc main_arg5) = x5) (h6 : m ((c : Thread nD τ).loc main_arg6) = x6) (r : Fin 16384) (n : Fin 2048) :
    (dats m 0 c).arrAt 10 cfg0.N (ix2 r n) = resh x0 x1 x2 x3 x4 x5 x6 (⟨r.val / 4096, by omega⟩ : Fin 4) (⟨r.val % 4096, by omega⟩ : Fin 4096) n := by
  have ht : r.val / 512 < cfg0.N := by rw [show cfg0.N = 32 from N_0]; omega
  have e := congrFun ((Value.blocks10 m c ⟨r.val / 512, ht⟩ (fl_h _)).trans (Value.flushed10 m c ⟨r.val / 512, ht⟩)) (ix2 (⟨r.val % 512, by omega⟩ : Fin 512) n)
  rw [point_h] at e
  unfold px at e
  rw [V4, V6, V_main_arg2, V7, V2, V12, V13, h0, h1, h2, h3, h4, h5, h6] at e
  refine Eq.trans ?_ (e.trans (bh_apply x0 x1 x2 x3 x4 x5 x6 ⟨r.val / 512, ht⟩ (⟨r.val % 512, by omega⟩ : Fin 512) _ _ ?_ ?_ n))
  · blk_ext [ix_h0, ix_h1]
  · show r.val / 512 / 8 = r.val / 4096; omega
  · show 512 * (r.val / 512) + r.val % 512 = 4096 * (r.val / 4096) + r.val % 4096; omega
end
end Cert.MixIdeal.Step

namespace Cert.MixReferenceIdeal.Val
open Cert.MixReferenceIdeal Cert.MixReferenceIdeal.Gen Cert.MixReferenceIdeal.Read Idealize.ShloMosaic Idealize.ShloMosaic.Tactic Idealize.ShloMosaic.TcCoe Idealize.SL.Sem
open Cert.MixIdeal.Step (mixd resx resh rms zero_word one_word)

theorem cat_apply (x0 x1 : Vec Ideal S4x4096x1024 .f32) (b : Fin 4) (s : Fin 4096) (k : Fin 2048) :
    val_main_v12 (F := Ideal) x0 x1 (ix3 b s k) = (if h : k.val < 1024 then x0 (ix3 b s (⟨k.val, h⟩ : Fin 1024)) else x1 (ix3 b s (⟨k.val - 1024, by omega⟩ : Fin 1024))) := by
  unfold val_main_v12
  pointwise

/-- The projection at a sequence, a position and a column. -/
theorem dot_apply (x0 x1 : Vec Ideal S4x4096x1024 .f32) (x2 : Vec Ideal S1x2048x2048 .f32) (b : Fin 4) (s : Fin 4096) (n : Fin 2048) :
    val_main_v14 (F := Ideal) x0 x1 x2 (ix3 b s n) = mixd x0 x1 x2 b s n := by
  have hk (k : Fin 2048) : val_main_v12 (F := Ideal) x0 x1 (lidx_main_v14 (ix3 b s n) k) * val_main_v13 (F := Ideal) x2 (ridx_main_v14 (ix3 b s n) k)
      = (if h : k.val < 1024 then x0 (ix3 b s (⟨k.val, h⟩ : Fin 1024)) else x1 (ix3 b s (⟨k.val - 1024, by omega⟩ : Fin 1024))) * x2 (ix3 0 k n) := by
    rw [← cat_apply, val_main_v13_apply]
    refine congrArg₂ (fun a b : EReal => a * b) (congrArg (val_main_v12 (F := Ideal) x0 x1) ?_) (congrArg x2 ?_)
    · funext a; fin_cases a <;> rfl
    · funext a; fin_cases a
      · rfl
      · exact Fin.ext (by show (k.val * 2048 + n.val) / 2048 % 2048 = k.val; omega)
      · exact Fin.ext (by show (k.val * 2048 + n.val) % 2048 = n.val; omega)
  rw [val_main_v14_apply, Finset.sum_congr rfl fun k _ => hk k]
  refine (Fin.sum_univ_add (a := 1024) (b := 1024) _).trans ?_
  unfold mixd
  refine congrArg₂ (fun a b : EReal => a + b) (Finset.sum_congr rfl fun k _ => ?_) (Finset.sum_congr rfl fun k _ => ?_)
  · rw [dif_pos (show (Fin.castAdd 1024 k).val < 1024 from k.isLt)]
    rfl
  · rw [dif_neg (show ¬(Fin.natAdd 1024 k).val < 1024 by show ¬1024 + k.val < 1024; omega)]
    refine congrArg₂ (fun a b : EReal => a * b) (congrArg (fun k : Fin 1024 => x1 (ix3 b s k)) (Fin.ext ?_)) rfl
    show 1024 + k.val - 1024 = k.val
    omega

/-- The residual stream of the reference. -/
theorem x_apply (x0 x1 : Vec Ideal S4x4096x1024 .f32) (x2 : Vec Ideal S1x2048x2048 .f32) (x3 : Vec Ideal S4x4096x2048 .f32) (x4 : Vec Ideal S4x12288 .f32) (x5 : Vec Ideal S2x2048 .f32) (b : Fin 4) (s : Fin 4096) (n : Fin 2048) :
    val_main_v32 (F := Ideal) x0 x1 x2 x3 x4 x5 (ix3 b s n) = resx x0 x1 x2 x3 x4 x5 b s n := by
  have hs : val_main_v18 (F := Ideal) x0 x1 x2 (ix2 b s) = ∑ k : Fin 2048, mixd x0 x1 x2 b s k * mixd x0 x1 x2 b s k := by
    rw [val_main_v18_apply]
    have hz : val_main_cst (F := Ideal) (Shape.Idx.first h_S_) = (0 : EReal) := zero_word
    rw [hz, zero_add]
    refine Finset.sum_congr rfl fun k _ => ?_
    have ek : idx_main_v18 (ix2 b s) k = ix3 b s k := by funext a; fin_cases a <;> rfl
    rw [ek, val_main_v17_apply, dot_apply]
    rfl
  rw [val_main_v32_apply, val_main_v31_apply, val_main_v30_apply, val_main_v29_apply, val_main_v28_apply, val_main_v27_apply, val_main_v26_apply, val_main_v25_apply, val_main_v24_apply,
    val_main_v23_apply, val_main_v22_apply, val_main_v21_apply, val_main_v20_apply, val_main_v19_apply, val_main_v16_apply, val_main_v15_apply, val_main_v8_apply, val_main_v2_apply, dot_apply]
  have e18 : idx_main_v19 (idx_main_v25 (ix3 b s n)) = ix2 b s := by funext a; fin_cases a <;> rfl
  rw [e18, hs]
  unfold resx rms
  refine congrArg₂ (fun a b : EReal => a + b) rfl (congrArg₂ (fun a b : EReal => a * b) (congrArg x4 ?_) (congrArg₂ (fun a b : EReal => a * b) rfl (congrArg x5 ?_)))
  · funext a; fin_cases a <;> rfl
  · funext a; fin_cases a
    · rfl
    · exact Fin.ext (Nat.mod_eq_of_lt n.isLt)

/-- The normalised and modulated rows of the reference. -/
theorem h_apply (x0 x1 : Vec Ideal S4x4096x1024 .f32) (x2 : Vec Ideal S1x2048x2048 .f32) (x3 : Vec Ideal S4x4096x2048 .f32) (x4 : Vec Ideal S4x12288 .f32) (x5 x6 : Vec Ideal S2x2048 .f32) (b : Fin 4) (s : Fin 4096) (n : Fin 2048) :
    val_main_v53 (F := Ideal) x0 x1 x2 x3 x4 x5 x6 (ix3 b s n) = resh x0 x1 x2 x3 x4 x5 x6 b s n := by
  have hs : val_main_v36 (F := Ideal) x0 x1 x2 x3 x4 x5 (ix2 b s) = ∑ k : Fin 2048, resx x0 x1 x2 x3 x4 x5 b s k * resx x0 x1 x2 x3 x4 x5 b s k := by
    rw [val_main_v36_apply]
    have hz : val_main_cst_2 (F := Ideal) (Shape.Idx.first h_S_) = (0 : EReal) := zero_word
    rw [hz, zero_add]
    refine Finset.sum_congr rfl fun k _ => ?_
    have ek : idx_main_v36 (ix2 b s) k = ix3 b s k := by funext a; fin_cases a <;> rfl
    rw [ek, val_main_v35_apply, x_apply]
    rfl
  have h1 (y) : val_main_v48 (F := Ideal) y = (1 : EReal) := by
    rw [val_main_v48_apply]
    exact one_word
  rw [val_main_v53_apply, val_main_v52_apply, val_main_v51_apply, val_main_v50_apply, val_main_v49_apply, h1, val_main_v47_apply, val_main_v46_apply, val_main_v45_apply, val_main_v44_apply, val_main_v43_apply,
    val_main_v42_apply, val_main_v41_apply, val_main_v40_apply, val_main_v39_apply, val_main_v38_apply, val_main_v37_apply, val_main_v34_apply, val_main_v33_apply, val_main_v10_apply, val_main_v9_apply, val_main_v4_apply, val_main_v3_apply, x_apply]
  have e36 : idx_main_v37 (idx_main_v43 (ix3 b s n)) = ix2 b s := by funext a; fin_cases a <;> rfl
  rw [e36, hs]
  unfold resh
  generalize hR : resx x0 x1 x2 x3 x4 x5 b s = R
  unfold rms
  refine congrArg₂ (fun a b : EReal => a + b) (congrArg₂ (fun a b : EReal => a * b) (congrArg₂ (fun a b : EReal => a * b) rfl (congrArg x6 ?_)) (congrArg (fun a : EReal => 1 + a) (congrArg x4 ?_))) (congrArg x4 ?_)
  · funext a; fin_cases a
    · rfl
    · exact Fin.ext (Nat.mod_eq_of_lt n.isLt)
  · funext a; fin_cases a <;> rfl
  · funext a; fin_cases a <;> rfl

theorem row_split (r : Fin 16384) (n : Fin 2048) : idx_main_v54 (ix2 r n) = ix3 (⟨r.val / 4096, by omega⟩ : Fin 4) (⟨r.val % 4096, by omega⟩ : Fin 4096) n := by
  funext a; fin_cases a
  · exact Fin.ext (by show (r.val * 2048 + n.val) / 8388608 = r.val / 4096; omega)
  · exact Fin.ext (by show (r.val * 2048 + n.val) / 2048 % 4096 = r.val % 4096; omega)
  · exact Fin.ext (by show (r.val * 2048 + n.val) % 2048 = n.val; omega)

section
variable (m : (ℓ : Loc Cert.MixIdeal.nD Cert.MixIdeal.τ Cert.MixIdeal.sig) → Buf (Elt Ideal) ℓ) (c : Dev Cert.MixIdeal.nD)
  (x0 x1 : Vec Ideal S4x4096x1024 .f32) (x2 : Vec Ideal S1x2048x2048 .f32) (x3 : Vec Ideal S4x4096x2048 .f32) (x4 : Vec Ideal S4x12288 .f32) (x5 x6 : Vec Ideal S2x2048 .f32)

/-- The residual stream the kernel leaves is the reference's. -/
theorem result_x
    (h0 : m ((c : Thread Cert.MixIdeal.nD Cert.MixIdeal.τ).loc Cert.MixIdeal.main_arg0) = x0) (h1 : m ((c : Thread Cert.MixIdeal.nD Cert.MixIdeal.τ).loc Cert.MixIdeal.main_arg1) = x1)
    (h2 : m ((c : Thread Cert.MixIdeal.nD Cert.MixIdeal.τ).loc Cert.MixIdeal.main_arg2) = x2) (h3 : m ((c : Thread Cert.MixIdeal.nD Cert.MixIdeal.τ).loc Cert.MixIdeal.main_arg3) = x3)
    (h4 : m ((c : Thread Cert.MixIdeal.nD Cert.MixIdeal.τ).loc Cert.MixIdeal.main_arg4) = x4) (h5 : m ((c : Thread Cert.MixIdeal.nD Cert.MixIdeal.τ).loc Cert.MixIdeal.main_arg5) = x5) :
    (Cert.MixIdeal.Gen.dats m 0 c).arrAt 9 Cert.MixIdeal.cfg0.N = val_main_v54 (F := Ideal) x0 x1 x2 x3 x4 x5 := by
  refine funext fun (y : S16384x2048.Idx) => ?_
  idx_vars y
  refine (Cert.MixIdeal.Step.arr_x m c x0 x1 x2 x3 x4 x5 h0 h1 h2 h3 h4 h5 y0 y1).trans ?_
  rw [val_main_v54_apply, row_split, x_apply]

/-- The rows the kernel leaves for the channel mixer are the reference's. -/
theorem result_h
    (h0 : m ((c : Thread Cert.MixIdeal.nD Cert.MixIdeal.τ).loc Cert.MixIdeal.main_arg0) = x0) (h1 : m ((c : Thread Cert.MixIdeal.nD Cert.MixIdeal.τ).loc Cert.MixIdeal.main_arg1) = x1)
    (h2 : m ((c : Thread Cert.MixIdeal.nD Cert.MixIdeal.τ).loc Cert.MixIdeal.main_arg2) = x2) (h3 : m ((c : Thread Cert.MixIdeal.nD Cert.MixIdeal.τ).loc Cert.MixIdeal.main_arg3) = x3)
    (h4 : m ((c : Thread Cert.MixIdeal.nD Cert.MixIdeal.τ).loc Cert.MixIdeal.main_arg4) = x4) (h5 : m ((c : Thread Cert.MixIdeal.nD Cert.MixIdeal.τ).loc Cert.MixIdeal.main_arg5) = x5)
    (h6 : m ((c : Thread Cert.MixIdeal.nD Cert.MixIdeal.τ).loc Cert.MixIdeal.main_arg6) = x6) :
    (Cert.MixIdeal.Gen.dats m 0 c).arrAt 10 Cert.MixIdeal.cfg0.N = val_main_v56 (F := Ideal) x0 x1 x2 x3 x4 x5 x6 := by
  refine funext fun (y : S16384x2048.Idx) => ?_
  idx_vars y
  refine (Cert.MixIdeal.Step.arr_h m c x0 x1 x2 x3 x4 x5 x6 h0 h1 h2 h3 h4 h5 h6 y0 y1).trans ?_
  rw [val_main_v56_apply, val_main_v55_apply, show idx_main_v55 (ix2 y0 y1) = _ from row_split y0 y1, h_apply]
  rfl
end
end Cert.MixReferenceIdeal.Val
-- ==== Proof.InAbVal.lean ====
module
public import proofs.«01_k».proof.Proof.Gen.InAbIdeal.Value
public import proofs.«01_k».proof.Proof.Gen.InAbReferenceIdeal.Read
public import Idealize.ShloMosaic.Lib.Pointwise
public import Idealize.ShloMosaic.Lib.Pipeline.ValueKit
public import Idealize.ShloMosaic.Lib.StableHlo.RunRead
@[expose] public section
set_option maxRecDepth 16384
noncomputable section
namespace Cert.InAbIdeal.Step
open Cert.InAbIdeal Cert.InAbIdeal.Gen Idealize.ShloMosaic Idealize.ShloMosaic.TcCoe Idealize.SL.Sem Idealize.ShloMosaic.Tactic

/-! # The main columns of the first in-projection -/

theorem z2 : (![0, 0] : Fin 2 → ℕ) = fun _ => 0 := by funext a; fin_cases a <;> rfl
theorem z3 : (![0, 0, 0] : Fin 3 → ℕ) = fun _ => 0 := by funext a; fin_cases a <;> rfl

/-- A block of the weights, without its leading axis. -/
def wb (X : Vec Ideal S1x2048x1024 .f32) : Vec Ideal S2048x1024 .bf16 := fun y => X (ix3 0 (y 0) (y 1))

theorem pay1_eq (X : Vec Ideal S1x2048x1024 .f32) : k0_pay1 (F := Ideal) X = wb X := by
  funext (y : S2048x1024.Idx)
  idx_vars y
  unfold k0_pay1 wb
  pointwise

/-- The products of a block. -/
theorem pay2_apply (g : Vec Ideal S2048x1024 .bf16) (a : Vec Ideal S1024x2048 .bf16) (r : Fin 1024) (n : Fin 1024) :
    k0_pay2 (F := Ideal) g a (ix2 r n) = ∑ k : Fin 2048, a (ix2 r k) * g (ix2 k n) := by
  unfold k0_pay2
  pointwise

section
variable (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S2048x1024 .bf16) (harg5 : arg5.IsWhole)
  (x0 : Vec Ideal S1024x2048 .bf16) (x1 : Vec Ideal S1x2048x1024 .f32)

theorem sout_A (hc0 : cond0_0 i) :
    sout0_A_0 c i arg2 harg2 arg3 harg3 arg4 harg4 arg5 harg5 hc0 x0 x1 = wb x1 := by
  unfold sout0_A_0 kernelRun0_A
  dsimp only
  rw [View.read_writes_junk_eq_canon]
  sl_unfold_words
  rw [View.canon_unit_zero z2, View.readAt_eq_ld, harg3.read_unread, View.ld_unit_zero z3, pay1_eq]

theorem out_A (hc0 : cond0_0 i) :
    out0_A_2 c i arg2 harg2 arg3 harg3 arg4 harg4 arg5 harg5 hc0 x0 x1 = k0_pay2 (F := Ideal) (wb x1) x0 := by
  unfold out0_A_2 kernelRun0_A
  dsimp only
  rw [View.read_writes_junk_eq_canon]
  sl_unfold_words
  rw [View.canon_unit_zero z2, View.readCov_unit_zero arg5.view z2]
  simp only [View.readAt_eq_ld, harg2.read_unread, harg3.read_unread]
  rw [View.ld_unit_zero z3, View.ld_unit_zero z2, pay1_eq]

theorem out_B (hc0 : ¬cond0_0 i) (s0 : Vec Ideal S2048x1024 .bf16) :
    out0_B_2 c i arg2 harg2 arg3 harg3 arg4 harg4 arg5 harg5 hc0 x0 x1 s0 = k0_pay2 (F := Ideal) s0 x0 := by
  unfold out0_B_2 kernelRun0_B
  dsimp only
  rw [View.read_writes_junk_eq_canon]
  sl_unfold_words
  rw [View.canon_unit_zero z2]
  simp only [View.readAt_eq_ld, harg2.read_unread, harg5.read_unread]
  rw [View.ld_unit_zero z2, View.ld_unit_zero z2]

theorem sout_B (hc0 : ¬cond0_0 i) (s0 : Vec Ideal S2048x1024 .bf16) :
    sout0_B_0 c i arg2 harg2 arg3 harg3 arg4 harg4 arg5 harg5 hc0 x0 x1 s0 = s0 := rfl
end

section
variable (m : (ℓ : Loc nD τ sig) → Buf (Elt Ideal) ℓ) (c : Dev nD)

/-- Grid point of column block `j` and row block `i`. -/
def pt (j : Fin 4) (i : Fin 16) : Fin cfg0.N := ⟨16 * j.val + i.val, by rw [show cfg0.N = 64 from N_0]; omega⟩

theorem ix_a0 : ∀ j i, win0_0.index (pt j i) 0 = i.val := by decide +kernel
theorem ix_a1 : ∀ j i, win0_0.index (pt j i) 1 = 0 := by decide +kernel
theorem ix_g0 : ∀ j i, win0_1.index (pt j i) 0 = 0 := by decide +kernel
theorem ix_g1 : ∀ j i, win0_1.index (pt j i) 1 = 0 := by decide +kernel
theorem ix_g2 : ∀ j i, win0_1.index (pt j i) 2 = 0 + j.val := by decide +kernel
theorem ix_o0 : ∀ j i, win0_2.index (pt j i) 0 = i.val := by decide +kernel
theorem ix_o1 : ∀ j i, win0_2.index (pt j i) 1 = j.val := by decide +kernel
theorem fl_o : ∀ j i, (cfg0.win 2).flush (pt j i) = true := by decide +kernel

/-- The rows of a grid point. -/
def ab (A : Vec Ideal S16384x2048 .bf16) (i : Fin 16) : Vec Ideal S1024x2048 .bf16 := fun y =>
  A (ix2 (⟨1024 * i.val + (y 0).val, by have := (y 0).isLt; dsimp at *; omega⟩ : Fin 16384) (y 1))
/-- The weights of a grid point. -/
def gb (W : Vec Ideal S1x2048x5200 .f32) (j : Fin 4) : Vec Ideal S1x2048x1024 .f32 := fun y =>
  W (ix3 0 (y 1) (⟨0 + 1024 * j.val + (y 2).val, by have := (y 2).isLt; dsimp at *; omega⟩ : Fin 5200))

theorem iblk_a (j i) : iblk m c 0 (pt j i) = ab (V m c main_v1) i := by
  funext y
  unfold ab
  blk_ext [iblk, ix_a0 j i, ix_a1 j i]
theorem iblk_g (j i) : X0_1 m c (pt j i) = gb (V m c main_arg1) j := by
  funext y
  unfold gb X0_1 Pipeline.Window.fill
  rw [dif_pos (moved0_1 _ y)]
  blk_ext [iblk, ix_g0 j i, ix_g1 j i, ix_g2 j i]

/-- Every point's scratch array holds the weights of its column block. -/
theorem scratch_all (j : Fin 4) : ∀ (n : ℕ) (hn : n < 16),
    (outsAt0 m c (pt j ⟨n, hn⟩).val (pt j ⟨n, hn⟩).isLt).2 = wb (gb (V m c main_arg1) j)
  | 0, hn => by
    rw [outsAt0_A m c (pt j ⟨0, hn⟩) (by show (16 * j.val + 0) % 16 = 0; omega)]
    dsimp only
    rw [sout_A, iblk_g]
  | n + 1, hn => by
    rw [outsAt0_B m c (pt j ⟨n + 1, hn⟩) (by show ¬(16 * j.val + (n + 1)) % 16 = 0; omega)]
    dsimp only
    rw [sout_B]
    exact scratch_all j n (by omega)

/-- What a grid point writes back. -/
theorem point_out (j : Fin 4) (i : Fin 16) :
    (outsAt0 m c (pt j i).val (pt j i).isLt).1 = k0_pay2 (F := Ideal) (wb (gb (V m c main_arg1) j)) (ab (V m c main_v1) i) := by
  by_cases h0 : (pt j i).val % 16 = 0
  · rw [outsAt0_A m c (pt j i) h0]
    dsimp only
    rw [out_A, iblk_a, iblk_g]
  · rw [outsAt0_B m c (pt j i) h0]
    dsimp only
    have h1 : (16 * j.val + i.val) % 16 ≠ 0 := h0
    have hs := scratch_all m c j (i.val - 1) (by omega)
    have hp : (pt j ⟨i.val - 1, by omega⟩).val = (pt j i).val - 1 := by
      show 16 * j.val + (i.val - 1) = 16 * j.val + i.val - 1
      omega
    have hs' : (outsAt0 m c ((pt j i).val - 1) (Nat.lt_of_le_of_lt (Nat.sub_le _ _) (pt j i).isLt)).2 = wb (gb (V m c main_arg1) j) := by
      rw [← hs]
      congr 1
      simp only [hp]
    rw [out_B, hs', iblk_a]

/-- The rows times the weights, at a row and a column of the weights. -/
def proj (x0 : Vec Ideal S4x4096x2048 .f32) (x1 : Vec Ideal S1x2048x5200 .f32) (r : Fin 16384) (n : Fin 5200) : EReal :=
  ∑ k : Fin 2048, x0 (ix3 (⟨r.val / 4096, by omega⟩ : Fin 4) (⟨r.val % 4096, by omega⟩ : Fin 4096) k) * x1 (ix3 0 k n)

/-- The rows as the kernel takes them. -/
def hb (x0 : Vec Ideal S4x4096x2048 .f32) : Vec Ideal S16384x2048 .bf16 :=
  truncf (F := Ideal) .bf16 (shapeCast S16384x2048 x0 shapeCasts_S4x4096x2048_S16384x2048) bitsLt_bf16_f32

theorem V_rows : V m c main_v1 = hb (m ((c : Thread nD τ).loc main_arg0)) := by
  unfold V
  after_reads_simp
  rfl

theorem hb_apply (x0 : Vec Ideal S4x4096x2048 .f32) (r : Fin 16384) (k : Fin 2048) :
    hb x0 (ix2 r k) = x0 (ix3 (⟨r.val / 4096, by omega⟩ : Fin 4) (⟨r.val % 4096, by omega⟩ : Fin 4096) k) := by
  unfold hb
  pointwise

/-- The kernel's result array at a row and a column. -/
theorem arr_apply (x0 : Vec Ideal S4x4096x2048 .f32) (x1 : Vec Ideal S1x2048x5200 .f32) (h0 : m ((c : Thread nD τ).loc main_arg0) = x0)
    (h1 : m ((c : Thread nD τ).loc main_arg1) = x1) (r : Fin 16384) (n : Fin 4096) :
    (dats m 0 c).arrAt 2 cfg0.N (ix2 r n) = proj x0 x1 r (⟨0 + n.val, by omega⟩ : Fin 5200) := by
  have e := congrFun ((Value.blocks2 m c (pt ⟨n.val / 1024, by omega⟩ ⟨r.val / 1024, by omega⟩) (fl_o _ _)).trans (Value.flushed2 m c (pt ⟨n.val / 1024, by omega⟩ ⟨r.val / 1024, by omega⟩)))
    (ix2 (⟨r.val % 1024, by omega⟩ : Fin 1024) (⟨n.val % 1024, by omega⟩ : Fin 1024))
  rw [point_out] at e
  refine Eq.trans ?_ (e.trans ((pay2_apply _ _ _ _).trans ?_))
  · blk_ext [ix_o0, ix_o1]
  · rw [V_main_arg1, V_rows, h0, h1]
    unfold proj ab wb gb
    have en : (⟨0 + 1024 * (n.val / 1024) + n.val % 1024, by omega⟩ : Fin 5200) = ⟨0 + n.val, by omega⟩ := Fin.ext (by show 0 + 1024 * (n.val / 1024) + n.val % 1024 = 0 + n.val; omega)
    have er : (⟨1024 * (r.val / 1024) + r.val % 1024, by omega⟩ : Fin 16384) = r := Fin.ext (by show 1024 * (r.val / 1024) + r.val % 1024 = r.val; omega)
    refine Finset.sum_congr rfl fun k _ => ?_
    show (hb x0 (ix2 (⟨1024 * (r.val / 1024) + r.val % 1024, _⟩ : Fin 16384) k) : EReal) * x1 (ix3 0 k (⟨0 + 1024 * (n.val / 1024) + n.val % 1024, _⟩ : Fin 5200)) = _
    rw [er, en, hb_apply]
end

end Cert.InAbIdeal.Step

namespace Cert.InAbReferenceIdeal.Val
open Cert.InAbReferenceIdeal Cert.InAbReferenceIdeal.Gen Cert.InAbReferenceIdeal.Read Idealize.ShloMosaic Idealize.ShloMosaic.Tactic Idealize.ShloMosaic.TcCoe Idealize.SL.Sem
open Cert.InAbIdeal.Step (proj)

/-- The product with every column of the weights. -/
theorem dot_apply (x0 : Vec Ideal S4x4096x2048 .f32) (x1 : Vec Ideal S1x2048x5200 .f32) (r : Fin 16384) (n : Fin 5200) :
    val_main_v1 (F := Ideal) x0 x1 (ix3 (⟨r.val / 4096, by omega⟩ : Fin 4) (⟨r.val % 4096, by omega⟩ : Fin 4096) n) = proj x0 x1 r n := by
  rw [val_main_v1_apply]
  unfold proj
  refine Finset.sum_congr rfl fun k _ => ?_
  rw [val_main_v0_apply]
  refine congrArg₂ (fun a b : EReal => a * b) (congrArg x0 ?_) (congrArg x1 ?_)
  · funext a; fin_cases a <;> rfl
  · funext a; fin_cases a
    · rfl
    · exact Fin.ext (by show (k.val * 5200 + n.val) / 5200 % 2048 = k.val; omega)
    · exact Fin.ext (by show (k.val * 5200 + n.val) % 5200 = n.val; omega)

/-- The reference at a row and a column. -/
theorem ref_apply (x0 : Vec Ideal S4x4096x2048 .f32) (x1 : Vec Ideal S1x2048x5200 .f32) (r : Fin 16384) (n : Fin 4096) :
    val_main_v3 (F := Ideal) x0 x1 (ix2 r n) = proj x0 x1 r (⟨0 + n.val, by omega⟩ : Fin 5200) := by
  have ei : idx_main_v3 (ix2 r n) = ix3 (⟨r.val / 4096, by omega⟩ : Fin 4) (⟨r.val % 4096, by omega⟩ : Fin 4096) n := by
    funext a; fin_cases a
    · exact Fin.ext (by show (r.val * 4096 + n.val) / 16777216 = r.val / 4096; omega)
    · exact Fin.ext (by show (r.val * 4096 + n.val) / 4096 % 4096 = r.val % 4096; omega)
    · exact Fin.ext (by show (r.val * 4096 + n.val) % 4096 = n.val; omega)
  rw [val_main_v3_apply, ei, val_main_v2_apply, ← dot_apply]
  refine congrArg (val_main_v1 (F := Ideal) x0 x1) (funext fun a => ?_)
  match a with
  | ⟨0, _⟩ => rfl
  | ⟨1, _⟩ => rfl
  | ⟨2, _⟩ => exact Fin.ext (by show n.val = 0 + n.val; omega)

/-- The kernel's result array is the reference's. -/
theorem result_eq (m : (ℓ : Loc Cert.InAbIdeal.nD Cert.InAbIdeal.τ Cert.InAbIdeal.sig) → Buf (Elt Ideal) ℓ) (c : Dev Cert.InAbIdeal.nD) (x0 : Vec Ideal S4x4096x2048 .f32) (x1 : Vec Ideal S1x2048x5200 .f32)
    (h0 : m ((c : Thread Cert.InAbIdeal.nD Cert.InAbIdeal.τ).loc Cert.InAbIdeal.main_arg0) = x0) (h1 : m ((c : Thread Cert.InAbIdeal.nD Cert.InAbIdeal.τ).loc Cert.InAbIdeal.main_arg1) = x1) :
    (Cert.InAbIdeal.Gen.dats m 0 c).arrAt 2 Cert.InAbIdeal.cfg0.N = val_main_v3 (F := Ideal) x0 x1 := by
  refine funext fun (y : S16384x4096.Idx) => ?_
  idx_vars y
  exact (Cert.InAbIdeal.Step.arr_apply m c x0 x1 h0 h1 y0 y1).trans (ref_apply x0 x1 y0 y1).symm
end Cert.InAbReferenceIdeal.Val
-- ==== Proof.InCVal.lean ====
module
public import proofs.«01_k».proof.Proof.Gen.InCIdeal.Value
public import proofs.«01_k».proof.Proof.Gen.InCReferenceIdeal.Read
public import Idealize.ShloMosaic.Lib.Pointwise
public import Idealize.ShloMosaic.Lib.Pipeline.ValueKit
public import Idealize.ShloMosaic.Lib.StableHlo.RunRead
@[expose] public section
set_option maxRecDepth 16384
noncomputable section
namespace Cert.InCIdeal.Step
open Cert.InCIdeal Cert.InCIdeal.Gen Idealize.ShloMosaic Idealize.ShloMosaic.TcCoe Idealize.SL.Sem Idealize.ShloMosaic.Tactic

/-! # The retention columns of the second in-projection -/

theorem z2 : (![0, 0] : Fin 2 → ℕ) = fun _ => 0 := by funext a; fin_cases a <;> rfl
theorem z3 : (![0, 0, 0] : Fin 3 → ℕ) = fun _ => 0 := by funext a; fin_cases a <;> rfl

/-- A block of the weights, without its leading axis. -/
def wb (X : Vec Ideal S1x2048x1024 .f32) : Vec Ideal S2048x1024 .bf16 := fun y => X (ix3 0 (y 0) (y 1))

theorem pay1_eq (X : Vec Ideal S1x2048x1024 .f32) : k0_pay1 (F := Ideal) X = wb X := by
  funext (y : S2048x1024.Idx)
  idx_vars y
  unfold k0_pay1 wb
  pointwise

theorem one_word : Ideal.ofBits .f32 0x3F800000#32 = (1 : EReal) := by
  rw [← EReal.coe_one]
  simp [Ideal.ofBits, Ideal.ieee, -EReal.coe_mul]; norm_num

/-- The products of a block, each column by its factor. -/
theorem pay2_apply (g : Vec Ideal S2048x1024 .bf16) (a : Vec Ideal S1024x2048 .bf16) (s : Vec Ideal S1x1024 .f32) (r : Fin 1024) (n : Fin 1024) :
    k0_pay2 (F := Ideal) g a s (ix2 r n) = (∑ k : Fin 2048, a (ix2 r k) * g (ix2 k n)) * s (ix2 0 n) := by
  unfold k0_pay2
  pointwise

section
variable (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S2048x1024 .bf16) (harg6 : arg6.IsWhole)
  (x0 : Vec Ideal S1024x2048 .bf16) (x1 : Vec Ideal S1x2048x1024 .f32) (x2 : Vec Ideal S1x1024 .f32)

theorem sout_A (hc0 : cond0_0 i) :
    sout0_A_0 c i arg2 harg2 arg3 harg3 arg4 harg4 arg5 harg5 arg6 harg6 hc0 x0 x1 x2 = wb x1 := by
  unfold sout0_A_0 kernelRun0_A
  dsimp only
  rw [View.read_writes_junk_eq_canon]
  sl_unfold_words
  rw [View.canon_unit_zero z2, View.readAt_eq_ld, harg3.read_unread, View.ld_unit_zero z3, pay1_eq]

theorem out_A (hc0 : cond0_0 i) :
    out0_A_3 c i arg2 harg2 arg3 harg3 arg4 harg4 arg5 harg5 arg6 harg6 hc0 x0 x1 x2 = k0_pay2 (F := Ideal) (wb x1) x0 x2 := by
  unfold out0_A_3 kernelRun0_A
  dsimp only
  rw [View.read_writes_junk_eq_canon]
  sl_unfold_words
  rw [View.canon_unit_zero z2, View.readCov_unit_zero arg6.view z2]
  simp only [View.readAt_eq_ld, harg2.read_unread, harg3.read_unread, harg4.read_unread]
  rw [View.ld_unit_zero z3, View.ld_unit_zero z2, View.ld_unit_zero z2, pay1_eq]

theorem out_B (hc0 : ¬cond0_0 i) (s0 : Vec Ideal S2048x1024 .bf16) :
    out0_B_3 c i arg2 harg2 arg3 harg3 arg4 harg4 arg5 harg5 arg6 harg6 hc0 x0 x1 x2 s0 = k0_pay2 (F := Ideal) s0 x0 x2 := by
  unfold out0_B_3 kernelRun0_B
  dsimp only
  rw [View.read_writes_junk_eq_canon]
  sl_unfold_words
  rw [View.canon_unit_zero z2]
  simp only [View.readAt_eq_ld, harg2.read_unread, harg6.read_unread, harg4.read_unread]
  rw [View.ld_unit_zero z2, View.ld_unit_zero z2, View.ld_unit_zero z2]

theorem sout_B (hc0 : ¬cond0_0 i) (s0 : Vec Ideal S2048x1024 .bf16) :
    sout0_B_0 c i arg2 harg2 arg3 harg3 arg4 harg4 arg5 harg5 arg6 harg6 hc0 x0 x1 x2 s0 = s0 := rfl
end

section
variable (m : (ℓ : Loc nD τ sig) → Buf (Elt Ideal) ℓ) (c : Dev nD)

/-- Grid point of column block `j` and row block `i`. -/
def pt (j : Fin 4) (i : Fin 16) : Fin cfg0.N := ⟨16 * j.val + i.val, by rw [show cfg0.N = 64 from N_0]; omega⟩

theorem ix_a0 : ∀ j i, win0_0.index (pt j i) 0 = i.val := by decide +kernel
theorem ix_a1 : ∀ j i, win0_0.index (pt j i) 1 = 0 := by decide +kernel
theorem ix_g0 : ∀ j i, win0_1.index (pt j i) 0 = 0 := by decide +kernel
theorem ix_g1 : ∀ j i, win0_1.index (pt j i) 1 = 0 := by decide +kernel
theorem ix_g2 : ∀ j i, win0_1.index (pt j i) 2 = 0 + j.val := by decide +kernel
theorem ix_o0 : ∀ j i, win0_3.index (pt j i) 0 = i.val := by decide +kernel
theorem ix_o1 : ∀ j i, win0_3.index (pt j i) 1 = j.val := by decide +kernel
theorem fl_o : ∀ j i, (cfg0.win 3).flush (pt j i) = true := by decide +kernel
theorem ix_s0 : ∀ j i, win0_2.index (pt j i) 0 = 0 := by decide +kernel
theorem ix_s1 : ∀ j i, win0_2.index (pt j i) 1 = j.val := by decide +kernel

/-- The rows of a grid point. -/
def ab (A : Vec Ideal S16384x2048 .bf16) (i : Fin 16) : Vec Ideal S1024x2048 .bf16 := fun y =>
  A (ix2 (⟨1024 * i.val + (y 0).val, by have := (y 0).isLt; dsimp at *; omega⟩ : Fin 16384) (y 1))
/-- The weights of a grid point. -/
def gb (W : Vec Ideal S1x2048x7176 .f32) (j : Fin 4) : Vec Ideal S1x2048x1024 .f32 := fun y =>
  W (ix3 0 (y 1) (⟨0 + 1024 * j.val + (y 2).val, by have := (y 2).isLt; dsimp at *; omega⟩ : Fin 7176))

theorem iblk_a (j i) : iblk m c 0 (pt j i) = ab (V m c main_v5) i := by
  funext y
  unfold ab
  blk_ext [iblk, ix_a0 j i, ix_a1 j i]
theorem iblk_g (j i) : X0_1 m c (pt j i) = gb (V m c main_arg1) j := by
  funext y
  unfold gb X0_1 Pipeline.Window.fill
  rw [dif_pos (moved0_1 _ y)]
  blk_ext [iblk, ix_g0 j i, ix_g1 j i, ix_g2 j i]
/-- The factors of a grid point's columns. -/
def sb (A : Vec Ideal S1x4096 .f32) (j : Fin 4) : Vec Ideal S1x1024 .f32 := fun y =>
  A (ix2 0 (⟨1024 * j.val + (y 1).val, by have := (y 1).isLt; dsimp at *; omega⟩ : Fin 4096))
theorem iblk_s (j i) : iblk m c 2 (pt j i) = sb (V m c main_v6) j := by
  funext y
  unfold sb
  blk_ext [iblk, ix_s0 j i, ix_s1 j i]

/-- Every point's scratch array holds the weights of its column block. -/
theorem scratch_all (j : Fin 4) : ∀ (n : ℕ) (hn : n < 16),
    (outsAt0 m c (pt j ⟨n, hn⟩).val (pt j ⟨n, hn⟩).isLt).2 = wb (gb (V m c main_arg1) j)
  | 0, hn => by
    rw [outsAt0_A m c (pt j ⟨0, hn⟩) (by show (16 * j.val + 0) % 16 = 0; omega)]
    dsimp only
    rw [sout_A, iblk_g]
  | n + 1, hn => by
    rw [outsAt0_B m c (pt j ⟨n + 1, hn⟩) (by show ¬(16 * j.val + (n + 1)) % 16 = 0; omega)]
    dsimp only
    rw [sout_B]
    exact scratch_all j n (by omega)

/-- What a grid point writes back. -/
theorem point_out (j : Fin 4) (i : Fin 16) :
    (outsAt0 m c (pt j i).val (pt j i).isLt).1 = k0_pay2 (F := Ideal) (wb (gb (V m c main_arg1) j)) (ab (V m c main_v5) i) (sb (V m c main_v6) j) := by
  by_cases h0 : (pt j i).val % 16 = 0
  · rw [outsAt0_A m c (pt j i) h0]
    dsimp only
    rw [out_A, iblk_a, iblk_g, iblk_s]
  · rw [outsAt0_B m c (pt j i) h0]
    dsimp only
    have h1 : (16 * j.val + i.val) % 16 ≠ 0 := h0
    have hs := scratch_all m c j (i.val - 1) (by omega)
    have hp : (pt j ⟨i.val - 1, by omega⟩).val = (pt j i).val - 1 := by
      show 16 * j.val + (i.val - 1) = 16 * j.val + i.val - 1
      omega
    have hs' : (outsAt0 m c ((pt j i).val - 1) (Nat.lt_of_le_of_lt (Nat.sub_le _ _) (pt j i).isLt)).2 = wb (gb (V m c main_arg1) j) := by
      rw [← hs]
      congr 1
      simp only [hp]
    rw [out_B, hs', iblk_a, iblk_s]

/-- The rows times the weights, at a row and a column of the weights. -/
def proj (x0 : Vec Ideal S4x4096x2048 .f32) (x1 : Vec Ideal S1x2048x7176 .f32) (r : Fin 16384) (n : Fin 7176) : EReal :=
  ∑ k : Fin 2048, x0 (ix3 (⟨r.val / 4096, by omega⟩ : Fin 4) (⟨r.val % 4096, by omega⟩ : Fin 4096) k) * x1 (ix3 0 k n)

/-- The rows as the kernel takes them. -/
def hb (x0 : Vec Ideal S4x4096x2048 .f32) : Vec Ideal S16384x2048 .bf16 :=
  truncf (F := Ideal) .bf16 (shapeCast S16384x2048 x0 shapeCasts_S4x4096x2048_S16384x2048) bitsLt_bf16_f32

theorem V_rows : V m c main_v5 = hb (m ((c : Thread nD τ).loc main_arg0)) := by
  unfold V
  after_reads_simp
  rfl

theorem hb_apply (x0 : Vec Ideal S4x4096x2048 .f32) (r : Fin 16384) (k : Fin 2048) :
    hb x0 (ix2 r k) = x0 (ix3 (⟨r.val / 4096, by omega⟩ : Fin 4) (⟨r.val % 4096, by omega⟩ : Fin 4096) k) := by
  unfold hb
  pointwise

/-- The factor of the columns of the keys. -/
def factor : EReal := Ideal.ofBits .f32 0x3DB504F3#32
/-- The factor of a column. -/
def fac (n : Fin 4096) : EReal := if 1024 ≤ n.val ∧ n.val < 2048 then factor else 1

/-- The factors as the kernel takes them. -/
def sh : Vec Ideal S1x4096 .f32 :=
  shapeCast S1x4096 (concatenate S4096 0 [⟨S1024, broadcastInDim S1024 ![] bcast_S_S1024 (constant (F := Ideal) S_ .f32 0x3F800000#32)⟩, ⟨S1024, mulf (broadcastInDim S1024 ![] bcast_S_S1024 (constant (F := Ideal) S_ .f32 0x3F800000#32)) (broadcastInDim S1024 ![] bcast_S_S1024 (constant (F := Ideal) S_ .f32 0x3DB504F3#32))⟩, ⟨S1024, broadcastInDim S1024 ![] bcast_S_S1024 (constant (F := Ideal) S_ .f32 0x3F800000#32)⟩, ⟨S1024, broadcastInDim S1024 ![] bcast_S_S1024 (constant (F := Ideal) S_ .f32 0x3F800000#32)⟩] concatenates_S1024_S1024_S1024_S1024_S4096_d0) shapeCasts_S4096_S1x4096
theorem V_fac : V m c main_v6 = sh := by
  unfold V
  after_reads_simp
  rfl
theorem sh_apply (n : Fin 4096) : sh (ix2 0 n) = fac n := by
  unfold sh fac
  pointwise
  split_ifs <;> first | rfl | omega | exact one_mul _

/-- The kernel's result array at a row and a column. -/
theorem arr_apply (x0 : Vec Ideal S4x4096x2048 .f32) (x1 : Vec Ideal S1x2048x7176 .f32) (h0 : m ((c : Thread nD τ).loc main_arg0) = x0)
    (h1 : m ((c : Thread nD τ).loc main_arg1) = x1) (r : Fin 16384) (n : Fin 4096) :
    (dats m 0 c).arrAt 3 cfg0.N (ix2 r n) = proj x0 x1 r (⟨0 + n.val, by omega⟩ : Fin 7176) * fac n := by
  have e := congrFun ((Value.blocks3 m c (pt ⟨n.val / 1024, by omega⟩ ⟨r.val / 1024, by omega⟩) (fl_o _ _)).trans (Value.flushed3 m c (pt ⟨n.val / 1024, by omega⟩ ⟨r.val / 1024, by omega⟩)))
    (ix2 (⟨r.val % 1024, by omega⟩ : Fin 1024) (⟨n.val % 1024, by omega⟩ : Fin 1024))
  rw [point_out] at e
  refine Eq.trans ?_ (e.trans ((pay2_apply _ _ _ _ _).trans ?_))
  · blk_ext [ix_o0, ix_o1]
  · rw [V_main_arg1, V_rows, V_fac, h0, h1]
    unfold proj ab wb gb sb
    have en : (⟨0 + 1024 * (n.val / 1024) + n.val % 1024, by omega⟩ : Fin 7176) = ⟨0 + n.val, by omega⟩ := Fin.ext (by show 0 + 1024 * (n.val / 1024) + n.val % 1024 = 0 + n.val; omega)
    have er : (⟨1024 * (r.val / 1024) + r.val % 1024, by omega⟩ : Fin 16384) = r := Fin.ext (by show 1024 * (r.val / 1024) + r.val % 1024 = r.val; omega)
    have es : (⟨1024 * (n.val / 1024) + n.val % 1024, by omega⟩ : Fin 4096) = n := Fin.ext (by show 1024 * (n.val / 1024) + n.val % 1024 = n.val; omega)
    refine congrArg₂ (fun a b : EReal => a * b) (Finset.sum_congr rfl fun k _ => ?_) ?_
    · show (hb x0 (ix2 (⟨1024 * (r.val / 1024) + r.val % 1024, _⟩ : Fin 16384) k) : EReal) * x1 (ix3 0 k (⟨0 + 1024 * (n.val / 1024) + n.val % 1024, _⟩ : Fin 7176)) = _
      rw [er, en, hb_apply]
    · show sh (ix2 0 (⟨1024 * (n.val / 1024) + n.val % 1024, _⟩ : Fin 4096)) = _
      rw [es, sh_apply]
end

end Cert.InCIdeal.Step

namespace Cert.InCReferenceIdeal.Val
open Cert.InCReferenceIdeal Cert.InCReferenceIdeal.Gen Cert.InCReferenceIdeal.Read Idealize.ShloMosaic Idealize.ShloMosaic.Tactic Idealize.ShloMosaic.TcCoe Idealize.SL.Sem
open Cert.InCIdeal.Step (proj fac factor)

/-- The product with every column of the weights. -/
theorem dot_apply (x0 : Vec Ideal S4x4096x2048 .f32) (x1 : Vec Ideal S1x2048x7176 .f32) (r : Fin 16384) (n : Fin 7176) :
    val_main_v1 (F := Ideal) x0 x1 (ix3 (⟨r.val / 4096, by omega⟩ : Fin 4) (⟨r.val % 4096, by omega⟩ : Fin 4096) n) = proj x0 x1 r n := by
  rw [val_main_v1_apply]
  unfold proj
  refine Finset.sum_congr rfl fun k _ => ?_
  rw [val_main_v0_apply]
  refine congrArg₂ (fun a b : EReal => a * b) (congrArg x0 ?_) (congrArg x1 ?_)
  · funext a; fin_cases a <;> rfl
  · funext a; fin_cases a
    · rfl
    · exact Fin.ext (by show (k.val * 7176 + n.val) / 7176 % 2048 = k.val; omega)
    · exact Fin.ext (by show (k.val * 7176 + n.val) % 7176 = n.val; omega)

/-- The concatenation of the four parts, at an index. -/
theorem val_main_v9_cat (x0 : Vec Ideal S4x4096x2048 .f32) (x1 : Vec Ideal S1x2048x7176 .f32) (b : Fin 4) (t : Fin 4096) (n : Fin 4096) :
    val_main_v9 (F := Ideal) x0 x1 (ix3 b t n) = (if h : n.val < 1024 then val_main_v3 (F := Ideal) x0 x1 (ix3 b t (⟨n.val, h⟩ : Fin 1024))
      else if h : n.val - 1024 < 1024 then val_main_v8 (F := Ideal) x0 x1 (ix3 b t (⟨n.val - 1024, h⟩ : Fin 1024))
      else if h : n.val - 1024 - 1024 < 1024 then val_main_v5 (F := Ideal) x0 x1 (ix3 b t (⟨n.val - 1024 - 1024, h⟩ : Fin 1024))
      else val_main_v6 (F := Ideal) x0 x1 (ix3 b t (⟨n.val - 1024 - 1024 - 1024, by omega⟩ : Fin 1024))) := by
  unfold val_main_v9
  generalize val_main_v3 (F := Ideal) x0 x1 = a1
  generalize val_main_v8 (F := Ideal) x0 x1 = a2
  generalize val_main_v5 (F := Ideal) x0 x1 = a3
  generalize val_main_v6 (F := Ideal) x0 x1 = a4
  pointwise

/-- The reference at a row and a column. -/
theorem ref_apply (x0 : Vec Ideal S4x4096x2048 .f32) (x1 : Vec Ideal S1x2048x7176 .f32) (r : Fin 16384) (n : Fin 4096) :
    val_main_v10 (F := Ideal) x0 x1 (ix2 r n) = proj x0 x1 r (⟨0 + n.val, by omega⟩ : Fin 7176) * fac n := by
  have ei : idx_main_v10 (ix2 r n) = ix3 (⟨r.val / 4096, by omega⟩ : Fin 4) (⟨r.val % 4096, by omega⟩ : Fin 4096) n := by
    funext a; fin_cases a
    · exact Fin.ext (by show (r.val * 4096 + n.val) / 16777216 = r.val / 4096; omega)
    · exact Fin.ext (by show (r.val * 4096 + n.val) / 4096 % 4096 = r.val % 4096; omega)
    · exact Fin.ext (by show (r.val * 4096 + n.val) % 4096 = n.val; omega)
  have hp (y : S4x4096x4096.Idx) : val_main_v2 (F := Ideal) x0 x1 y = val_main_v1 (F := Ideal) x0 x1 (ix3 (y 0) (y 1) (⟨(y 2).val, by have := (y 2).isLt; dsimp at *; omega⟩ : Fin 7176)) := by
    rw [val_main_v2_apply]
    refine congrArg (val_main_v1 (F := Ideal) x0 x1) (funext fun a => ?_)
    match a with
    | ⟨0, _⟩ => rfl
    | ⟨1, _⟩ => rfl
    | ⟨2, _⟩ => rfl
  unfold fac
  rw [val_main_v10_apply, ei]
  rw [val_main_v9_cat]
  by_cases g0 : n.val < 1024
  · rw [dif_pos g0, if_neg (by omega), mul_one, ← dot_apply, val_main_v3_apply, hp]
    exact congrArg (val_main_v1 (F := Ideal) x0 x1) (funext fun a => match a with | ⟨0, _⟩ => rfl | ⟨1, _⟩ => rfl | ⟨2, _⟩ => Fin.ext (by show n.val = 0 + n.val; omega))
  · rw [dif_neg g0]
    by_cases g1 : n.val - 1024 < 1024
    · rw [dif_pos g1, if_pos (by omega), ← dot_apply, val_main_v8_apply, val_main_v7_apply, val_main_cst_apply, val_main_v4_apply, hp]
      refine congrArg (fun a : EReal => a * factor) ?_
      exact congrArg (val_main_v1 (F := Ideal) x0 x1) (funext fun a => match a with | ⟨0, _⟩ => rfl | ⟨1, _⟩ => rfl | ⟨2, _⟩ => Fin.ext (by show 1024 + (n.val - 1024) = 0 + n.val; omega))
    · rw [dif_neg g1, if_neg (by omega), mul_one, ← dot_apply]
      by_cases g2 : n.val - 1024 - 1024 < 1024
      · rw [dif_pos g2, val_main_v5_apply, hp]
        exact congrArg (val_main_v1 (F := Ideal) x0 x1) (funext fun a => match a with | ⟨0, _⟩ => rfl | ⟨1, _⟩ => rfl | ⟨2, _⟩ => Fin.ext (by show 2048 + (n.val - 1024 - 1024) = 0 + n.val; omega))
      · rw [dif_neg g2, val_main_v6_apply, hp]
        exact congrArg (val_main_v1 (F := Ideal) x0 x1) (funext fun a => match a with | ⟨0, _⟩ => rfl | ⟨1, _⟩ => rfl | ⟨2, _⟩ => Fin.ext (by show 3072 + (n.val - 1024 - 1024 - 1024) = 0 + n.val; omega))

/-- The kernel's result array is the reference's. -/
theorem result_eq (m : (ℓ : Loc Cert.InCIdeal.nD Cert.InCIdeal.τ Cert.InCIdeal.sig) → Buf (Elt Ideal) ℓ) (c : Dev Cert.InCIdeal.nD) (x0 : Vec Ideal S4x4096x2048 .f32) (x1 : Vec Ideal S1x2048x7176 .f32)
    (h0 : m ((c : Thread Cert.InCIdeal.nD Cert.InCIdeal.τ).loc Cert.InCIdeal.main_arg0) = x0) (h1 : m ((c : Thread Cert.InCIdeal.nD Cert.InCIdeal.τ).loc Cert.InCIdeal.main_arg1) = x1) :
    (Cert.InCIdeal.Gen.dats m 0 c).arrAt 3 Cert.InCIdeal.cfg0.N = val_main_v10 (F := Ideal) x0 x1 := by
  refine funext fun (y : S16384x4096.Idx) => ?_
  idx_vars y
  exact (Cert.InCIdeal.Step.arr_apply m c x0 x1 h0 h1 y0 y1).trans (ref_apply x0 x1 y0 y1).symm
end Cert.InCReferenceIdeal.Val
-- ==== Proof.InDVal.lean ====
module
public import proofs.«01_k».proof.Proof.Gen.InDIdeal.Value
public import proofs.«01_k».proof.Proof.Gen.InDReferenceIdeal.Read
public import Idealize.ShloMosaic.Lib.Pointwise
public import Idealize.ShloMosaic.Lib.Pipeline.ValueKit
public import Idealize.ShloMosaic.Lib.StableHlo.RunRead
@[expose] public section
set_option maxRecDepth 16384
noncomputable section
namespace Cert.InDIdeal.Step
open Cert.InDIdeal Cert.InDIdeal.Gen Idealize.ShloMosaic Idealize.ShloMosaic.TcCoe Idealize.SL.Sem Idealize.ShloMosaic.Tactic

/-! # The attention columns of the second in-projection -/

theorem z2 : (![0, 0] : Fin 2 → ℕ) = fun _ => 0 := by funext a; fin_cases a <;> rfl
theorem z3 : (![0, 0, 0] : Fin 3 → ℕ) = fun _ => 0 := by funext a; fin_cases a <;> rfl

/-- A block of the weights, without its leading axis. -/
def wb (X : Vec Ideal S1x2048x1024 .f32) : Vec Ideal S2048x1024 .bf16 := fun y => X (ix3 0 (y 0) (y 1))

theorem pay1_eq (X : Vec Ideal S1x2048x1024 .f32) : k0_pay1 (F := Ideal) X = wb X := by
  funext (y : S2048x1024.Idx)
  idx_vars y
  unfold k0_pay1 wb
  pointwise

theorem one_word : Ideal.ofBits .f32 0x3F800000#32 = (1 : EReal) := by
  rw [← EReal.coe_one]
  simp [Ideal.ofBits, Ideal.ieee, -EReal.coe_mul]; norm_num

/-- The products of a block, each column by its factor. -/
theorem pay2_apply (g : Vec Ideal S2048x1024 .bf16) (a : Vec Ideal S1024x2048 .bf16) (s : Vec Ideal S1x1024 .f32) (r : Fin 1024) (n : Fin 1024) :
    k0_pay2 (F := Ideal) g a s (ix2 r n) = (∑ k : Fin 2048, a (ix2 r k) * g (ix2 k n)) * s (ix2 0 n) := by
  unfold k0_pay2
  pointwise

section
variable (c : Dev nD) (i : grid0.Coords) (arg2 : Memref sig .tc .vmem S1024x2048 .bf16) (harg2 : arg2.IsWhole) (arg3 : Memref sig .tc .vmem S1x2048x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S2048x1024 .bf16) (harg6 : arg6.IsWhole)
  (x0 : Vec Ideal S1024x2048 .bf16) (x1 : Vec Ideal S1x2048x1024 .f32) (x2 : Vec Ideal S1x1024 .f32)

theorem sout_A (hc0 : cond0_0 i) :
    sout0_A_0 c i arg2 harg2 arg3 harg3 arg4 harg4 arg5 harg5 arg6 harg6 hc0 x0 x1 x2 = wb x1 := by
  unfold sout0_A_0 kernelRun0_A
  dsimp only
  rw [View.read_writes_junk_eq_canon]
  sl_unfold_words
  rw [View.canon_unit_zero z2, View.readAt_eq_ld, harg3.read_unread, View.ld_unit_zero z3, pay1_eq]

theorem out_A (hc0 : cond0_0 i) :
    out0_A_3 c i arg2 harg2 arg3 harg3 arg4 harg4 arg5 harg5 arg6 harg6 hc0 x0 x1 x2 = k0_pay2 (F := Ideal) (wb x1) x0 x2 := by
  unfold out0_A_3 kernelRun0_A
  dsimp only
  rw [View.read_writes_junk_eq_canon]
  sl_unfold_words
  rw [View.canon_unit_zero z2, View.readCov_unit_zero arg6.view z2]
  simp only [View.readAt_eq_ld, harg2.read_unread, harg3.read_unread, harg4.read_unread]
  rw [View.ld_unit_zero z3, View.ld_unit_zero z2, View.ld_unit_zero z2, pay1_eq]

theorem out_B (hc0 : ¬cond0_0 i) (s0 : Vec Ideal S2048x1024 .bf16) :
    out0_B_3 c i arg2 harg2 arg3 harg3 arg4 harg4 arg5 harg5 arg6 harg6 hc0 x0 x1 x2 s0 = k0_pay2 (F := Ideal) s0 x0 x2 := by
  unfold out0_B_3 kernelRun0_B
  dsimp only
  rw [View.read_writes_junk_eq_canon]
  sl_unfold_words
  rw [View.canon_unit_zero z2]
  simp only [View.readAt_eq_ld, harg2.read_unread, harg6.read_unread, harg4.read_unread]
  rw [View.ld_unit_zero z2, View.ld_unit_zero z2, View.ld_unit_zero z2]

theorem sout_B (hc0 : ¬cond0_0 i) (s0 : Vec Ideal S2048x1024 .bf16) :
    sout0_B_0 c i arg2 harg2 arg3 harg3 arg4 harg4 arg5 harg5 arg6 harg6 hc0 x0 x1 x2 s0 = s0 := rfl
end

section
variable (m : (ℓ : Loc nD τ sig) → Buf (Elt Ideal) ℓ) (c : Dev nD)

/-- Grid point of column block `j` and row block `i`. -/
def pt (j : Fin 3) (i : Fin 16) : Fin cfg0.N := ⟨16 * j.val + i.val, by rw [show cfg0.N = 48 from N_0]; omega⟩

theorem ix_a0 : ∀ j i, win0_0.index (pt j i) 0 = i.val := by decide +kernel
theorem ix_a1 : ∀ j i, win0_0.index (pt j i) 1 = 0 := by decide +kernel
theorem ix_g0 : ∀ j i, win0_1.index (pt j i) 0 = 0 := by decide +kernel
theorem ix_g1 : ∀ j i, win0_1.index (pt j i) 1 = 0 := by decide +kernel
theorem ix_g2 : ∀ j i, win0_1.index (pt j i) 2 = 4 + j.val := by decide +kernel
theorem ix_o0 : ∀ j i, win0_3.index (pt j i) 0 = i.val := by decide +kernel
theorem ix_o1 : ∀ j i, win0_3.index (pt j i) 1 = j.val := by decide +kernel
theorem fl_o : ∀ j i, (cfg0.win 3).flush (pt j i) = true := by decide +kernel
theorem ix_s0 : ∀ j i, win0_2.index (pt j i) 0 = 0 := by decide +kernel
theorem ix_s1 : ∀ j i, win0_2.index (pt j i) 1 = j.val := by decide +kernel

/-- The rows of a grid point. -/
def ab (A : Vec Ideal S16384x2048 .bf16) (i : Fin 16) : Vec Ideal S1024x2048 .bf16 := fun y =>
  A (ix2 (⟨1024 * i.val + (y 0).val, by have := (y 0).isLt; dsimp at *; omega⟩ : Fin 16384) (y 1))
/-- The weights of a grid point. -/
def gb (W : Vec Ideal S1x2048x7176 .f32) (j : Fin 3) : Vec Ideal S1x2048x1024 .f32 := fun y =>
  W (ix3 0 (y 1) (⟨4096 + 1024 * j.val + (y 2).val, by have := (y 2).isLt; dsimp at *; omega⟩ : Fin 7176))

theorem iblk_a (j i) : iblk m c 0 (pt j i) = ab (V m c main_v5) i := by
  funext y
  unfold ab
  blk_ext [iblk, ix_a0 j i, ix_a1 j i]
theorem iblk_g (j i) : X0_1 m c (pt j i) = gb (V m c main_arg1) j := by
  funext y
  unfold gb X0_1 Pipeline.Window.fill
  rw [dif_pos (moved0_1 _ y)]
  blk_ext [iblk, ix_g0 j i, ix_g1 j i, ix_g2 j i]
/-- The factors of a grid point's columns. -/
def sb (A : Vec Ideal S1x3072 .f32) (j : Fin 3) : Vec Ideal S1x1024 .f32 := fun y =>
  A (ix2 0 (⟨1024 * j.val + (y 1).val, by have := (y 1).isLt; dsimp at *; omega⟩ : Fin 3072))
theorem iblk_s (j i) : iblk m c 2 (pt j i) = sb (V m c main_v6) j := by
  funext y
  unfold sb
  blk_ext [iblk, ix_s0 j i, ix_s1 j i]

/-- Every point's scratch array holds the weights of its column block. -/
theorem scratch_all (j : Fin 3) : ∀ (n : ℕ) (hn : n < 16),
    (outsAt0 m c (pt j ⟨n, hn⟩).val (pt j ⟨n, hn⟩).isLt).2 = wb (gb (V m c main_arg1) j)
  | 0, hn => by
    rw [outsAt0_A m c (pt j ⟨0, hn⟩) (by show (16 * j.val + 0) % 16 = 0; omega)]
    dsimp only
    rw [sout_A, iblk_g]
  | n + 1, hn => by
    rw [outsAt0_B m c (pt j ⟨n + 1, hn⟩) (by show ¬(16 * j.val + (n + 1)) % 16 = 0; omega)]
    dsimp only
    rw [sout_B]
    exact scratch_all j n (by omega)

/-- What a grid point writes back. -/
theorem point_out (j : Fin 3) (i : Fin 16) :
    (outsAt0 m c (pt j i).val (pt j i).isLt).1 = k0_pay2 (F := Ideal) (wb (gb (V m c main_arg1) j)) (ab (V m c main_v5) i) (sb (V m c main_v6) j) := by
  by_cases h0 : (pt j i).val % 16 = 0
  · rw [outsAt0_A m c (pt j i) h0]
    dsimp only
    rw [out_A, iblk_a, iblk_g, iblk_s]
  · rw [outsAt0_B m c (pt j i) h0]
    dsimp only
    have h1 : (16 * j.val + i.val) % 16 ≠ 0 := h0
    have hs := scratch_all m c j (i.val - 1) (by omega)
    have hp : (pt j ⟨i.val - 1, by omega⟩).val = (pt j i).val - 1 := by
      show 16 * j.val + (i.val - 1) = 16 * j.val + i.val - 1
      omega
    have hs' : (outsAt0 m c ((pt j i).val - 1) (Nat.lt_of_le_of_lt (Nat.sub_le _ _) (pt j i).isLt)).2 = wb (gb (V m c main_arg1) j) := by
      rw [← hs]
      congr 1
      simp only [hp]
    rw [out_B, hs', iblk_a, iblk_s]

/-- The rows times the weights, at a row and a column of the weights. -/
def proj (x0 : Vec Ideal S4x4096x2048 .f32) (x1 : Vec Ideal S1x2048x7176 .f32) (r : Fin 16384) (n : Fin 7176) : EReal :=
  ∑ k : Fin 2048, x0 (ix3 (⟨r.val / 4096, by omega⟩ : Fin 4) (⟨r.val % 4096, by omega⟩ : Fin 4096) k) * x1 (ix3 0 k n)

/-- The rows as the kernel takes them. -/
def hb (x0 : Vec Ideal S4x4096x2048 .f32) : Vec Ideal S16384x2048 .bf16 :=
  truncf (F := Ideal) .bf16 (shapeCast S16384x2048 x0 shapeCasts_S4x4096x2048_S16384x2048) bitsLt_bf16_f32

theorem V_rows : V m c main_v5 = hb (m ((c : Thread nD τ).loc main_arg0)) := by
  unfold V
  after_reads_simp
  rfl

theorem hb_apply (x0 : Vec Ideal S4x4096x2048 .f32) (r : Fin 16384) (k : Fin 2048) :
    hb x0 (ix2 r k) = x0 (ix3 (⟨r.val / 4096, by omega⟩ : Fin 4) (⟨r.val % 4096, by omega⟩ : Fin 4096) k) := by
  unfold hb
  pointwise

/-- The factor of the columns of the queries. -/
def factor : EReal := Ideal.ofBits .f32 0x3E0293EE#32
/-- The factor of a column. -/
def fac (n : Fin 3072) : EReal := if 0 ≤ n.val ∧ n.val < 1024 then factor else 1

/-- The factors as the kernel takes them. -/
def sh : Vec Ideal S1x3072 .f32 :=
  shapeCast S1x3072 (concatenate S3072 0 [⟨S1024, mulf (broadcastInDim S1024 ![] bcast_S_S1024 (constant (F := Ideal) S_ .f32 0x3F800000#32)) (broadcastInDim S1024 ![] bcast_S_S1024 (constant (F := Ideal) S_ .f32 0x3E0293EE#32))⟩, ⟨S1024, broadcastInDim S1024 ![] bcast_S_S1024 (constant (F := Ideal) S_ .f32 0x3F800000#32)⟩, ⟨S1024, broadcastInDim S1024 ![] bcast_S_S1024 (constant (F := Ideal) S_ .f32 0x3F800000#32)⟩] concatenates_S1024_S1024_S1024_S3072_d0) shapeCasts_S3072_S1x3072
theorem V_fac : V m c main_v6 = sh := by
  unfold V
  after_reads_simp
  rfl
theorem sh_apply (n : Fin 3072) : sh (ix2 0 n) = fac n := by
  unfold sh fac
  pointwise
  split_ifs <;> first | rfl | omega | exact one_mul _

/-- The kernel's result array at a row and a column. -/
theorem arr_apply (x0 : Vec Ideal S4x4096x2048 .f32) (x1 : Vec Ideal S1x2048x7176 .f32) (h0 : m ((c : Thread nD τ).loc main_arg0) = x0)
    (h1 : m ((c : Thread nD τ).loc main_arg1) = x1) (r : Fin 16384) (n : Fin 3072) :
    (dats m 0 c).arrAt 3 cfg0.N (ix2 r n) = proj x0 x1 r (⟨4096 + n.val, by omega⟩ : Fin 7176) * fac n := by
  have e := congrFun ((Value.blocks3 m c (pt ⟨n.val / 1024, by omega⟩ ⟨r.val / 1024, by omega⟩) (fl_o _ _)).trans (Value.flushed3 m c (pt ⟨n.val / 1024, by omega⟩ ⟨r.val / 1024, by omega⟩)))
    (ix2 (⟨r.val % 1024, by omega⟩ : Fin 1024) (⟨n.val % 1024, by omega⟩ : Fin 1024))
  rw [point_out] at e
  refine Eq.trans ?_ (e.trans ((pay2_apply _ _ _ _ _).trans ?_))
  · blk_ext [ix_o0, ix_o1]
  · rw [V_main_arg1, V_rows, V_fac, h0, h1]
    unfold proj ab wb gb sb
    have en : (⟨4096 + 1024 * (n.val / 1024) + n.val % 1024, by omega⟩ : Fin 7176) = ⟨4096 + n.val, by omega⟩ := Fin.ext (by show 4096 + 1024 * (n.val / 1024) + n.val % 1024 = 4096 + n.val; omega)
    have er : (⟨1024 * (r.val / 1024) + r.val % 1024, by omega⟩ : Fin 16384) = r := Fin.ext (by show 1024 * (r.val / 1024) + r.val % 1024 = r.val; omega)
    have es : (⟨1024 * (n.val / 1024) + n.val % 1024, by omega⟩ : Fin 3072) = n := Fin.ext (by show 1024 * (n.val / 1024) + n.val % 1024 = n.val; omega)
    refine congrArg₂ (fun a b : EReal => a * b) (Finset.sum_congr rfl fun k _ => ?_) ?_
    · show (hb x0 (ix2 (⟨1024 * (r.val / 1024) + r.val % 1024, _⟩ : Fin 16384) k) : EReal) * x1 (ix3 0 k (⟨4096 + 1024 * (n.val / 1024) + n.val % 1024, _⟩ : Fin 7176)) = _
      rw [er, en, hb_apply]
    · show sh (ix2 0 (⟨1024 * (n.val / 1024) + n.val % 1024, _⟩ : Fin 3072)) = _
      rw [es, sh_apply]
end

end Cert.InDIdeal.Step

namespace Cert.InDReferenceIdeal.Val
open Cert.InDReferenceIdeal Cert.InDReferenceIdeal.Gen Cert.InDReferenceIdeal.Read Idealize.ShloMosaic Idealize.ShloMosaic.Tactic Idealize.ShloMosaic.TcCoe Idealize.SL.Sem
open Cert.InDIdeal.Step (proj fac factor)

/-- The product with every column of the weights. -/
theorem dot_apply (x0 : Vec Ideal S4x4096x2048 .f32) (x1 : Vec Ideal S1x2048x7176 .f32) (r : Fin 16384) (n : Fin 7176) :
    val_main_v1 (F := Ideal) x0 x1 (ix3 (⟨r.val / 4096, by omega⟩ : Fin 4) (⟨r.val % 4096, by omega⟩ : Fin 4096) n) = proj x0 x1 r n := by
  rw [val_main_v1_apply]
  unfold proj
  refine Finset.sum_congr rfl fun k _ => ?_
  rw [val_main_v0_apply]
  refine congrArg₂ (fun a b : EReal => a * b) (congrArg x0 ?_) (congrArg x1 ?_)
  · funext a; fin_cases a <;> rfl
  · funext a; fin_cases a
    · rfl
    · exact Fin.ext (by show (k.val * 7176 + n.val) / 7176 % 2048 = k.val; omega)
    · exact Fin.ext (by show (k.val * 7176 + n.val) % 7176 = n.val; omega)

/-- The concatenation of the three parts, at an index. -/
theorem val_main_v8_cat (x0 : Vec Ideal S4x4096x2048 .f32) (x1 : Vec Ideal S1x2048x7176 .f32) (b : Fin 4) (t : Fin 4096) (n : Fin 3072) :
    val_main_v8 (F := Ideal) x0 x1 (ix3 b t n) = (if h : n.val < 1024 then val_main_v7 (F := Ideal) x0 x1 (ix3 b t (⟨n.val, h⟩ : Fin 1024))
      else if h : n.val - 1024 < 1024 then val_main_v4 (F := Ideal) x0 x1 (ix3 b t (⟨n.val - 1024, h⟩ : Fin 1024))
      else val_main_v5 (F := Ideal) x0 x1 (ix3 b t (⟨n.val - 1024 - 1024, by omega⟩ : Fin 1024))) := by
  unfold val_main_v8
  generalize val_main_v7 (F := Ideal) x0 x1 = a1
  generalize val_main_v4 (F := Ideal) x0 x1 = a2
  generalize val_main_v5 (F := Ideal) x0 x1 = a3
  pointwise

/-- The reference at a row and a column. -/
theorem ref_apply (x0 : Vec Ideal S4x4096x2048 .f32) (x1 : Vec Ideal S1x2048x7176 .f32) (r : Fin 16384) (n : Fin 3072) :
    val_main_v10 (F := Ideal) x0 x1 (ix2 r n) = proj x0 x1 r (⟨4096 + n.val, by omega⟩ : Fin 7176) * fac n := by
  have ei : idx_main_v9 (ix2 r n) = ix3 (⟨r.val / 4096, by omega⟩ : Fin 4) (⟨r.val % 4096, by omega⟩ : Fin 4096) n := by
    funext a; fin_cases a
    · exact Fin.ext (by show (r.val * 3072 + n.val) / 12582912 = r.val / 4096; omega)
    · exact Fin.ext (by show (r.val * 3072 + n.val) / 3072 % 4096 = r.val % 4096; omega)
    · exact Fin.ext (by show (r.val * 3072 + n.val) % 3072 = n.val; omega)
  have hp (y : S4x4096x3072.Idx) : val_main_v2 (F := Ideal) x0 x1 y = val_main_v1 (F := Ideal) x0 x1 (ix3 (y 0) (y 1) (⟨4096 + (y 2).val, by have := (y 2).isLt; dsimp at *; omega⟩ : Fin 7176)) := by
    rw [val_main_v2_apply]
    refine congrArg (val_main_v1 (F := Ideal) x0 x1) (funext fun a => ?_)
    match a with
    | ⟨0, _⟩ => rfl
    | ⟨1, _⟩ => rfl
    | ⟨2, _⟩ => rfl
  unfold fac
  show val_main_v9 (F := Ideal) x0 x1 (ix2 r n) = _
  rw [val_main_v9_apply, ei]
  rw [val_main_v8_cat]
  by_cases g0 : n.val < 1024
  · rw [dif_pos g0, if_pos (by omega), ← dot_apply, val_main_v7_apply, val_main_v6_apply, val_main_cst_apply, val_main_v3_apply, hp]
    refine congrArg (fun a : EReal => a * factor) ?_
    exact congrArg (val_main_v1 (F := Ideal) x0 x1) (funext fun a => match a with | ⟨0, _⟩ => rfl | ⟨1, _⟩ => rfl | ⟨2, _⟩ => Fin.ext (by show 4096 + n.val = 4096 + n.val; omega))
  · rw [dif_neg g0, if_neg (by omega), mul_one, ← dot_apply]
    by_cases g1 : n.val - 1024 < 1024
    · rw [dif_pos g1, val_main_v4_apply, hp]
      exact congrArg (val_main_v1 (F := Ideal) x0 x1) (funext fun a => match a with | ⟨0, _⟩ => rfl | ⟨1, _⟩ => rfl | ⟨2, _⟩ => Fin.ext (by show 4096 + (1024 + (n.val - 1024)) = 4096 + n.val; omega))
    · rw [dif_neg g1, val_main_v5_apply, hp]
      exact congrArg (val_main_v1 (F := Ideal) x0 x1) (funext fun a => match a with | ⟨0, _⟩ => rfl | ⟨1, _⟩ => rfl | ⟨2, _⟩ => Fin.ext (by show 4096 + (2048 + (n.val - 1024 - 1024)) = 4096 + n.val; omega))

/-- The kernel's result array is the reference's. -/
theorem result_eq (m : (ℓ : Loc Cert.InDIdeal.nD Cert.InDIdeal.τ Cert.InDIdeal.sig) → Buf (Elt Ideal) ℓ) (c : Dev Cert.InDIdeal.nD) (x0 : Vec Ideal S4x4096x2048 .f32) (x1 : Vec Ideal S1x2048x7176 .f32)
    (h0 : m ((c : Thread Cert.InDIdeal.nD Cert.InDIdeal.τ).loc Cert.InDIdeal.main_arg0) = x0) (h1 : m ((c : Thread Cert.InDIdeal.nD Cert.InDIdeal.τ).loc Cert.InDIdeal.main_arg1) = x1) :
    (Cert.InDIdeal.Gen.dats m 0 c).arrAt 3 Cert.InDIdeal.cfg0.N = val_main_v10 (F := Ideal) x0 x1 := by
  refine funext fun (y : S16384x3072.Idx) => ?_
  idx_vars y
  exact (Cert.InDIdeal.Step.arr_apply m c x0 x1 h0 h1 y0 y1).trans (ref_apply x0 x1 y0 y1).symm
end Cert.InDReferenceIdeal.Val
-- ==== Proof.TailAbVal.lean ====
module
public import proofs.«01_k».proof.Proof.Gen.TailAbIdeal.Value
public import proofs.«01_k».proof.Proof.Gen.TailAbReferenceIdeal.Read
public import Idealize.ShloMosaic.Lib.Pointwise
public import Idealize.ShloMosaic.Lib.Pipeline.ValueKit
public import Idealize.ShloMosaic.Lib.StableHlo.RunRead
@[expose] public section
set_option maxRecDepth 16384
noncomputable section
namespace Cert.TailAbIdeal.Step
open Cert.TailAbIdeal Cert.TailAbIdeal.Gen Idealize.ShloMosaic Idealize.ShloMosaic.TcCoe Idealize.SL.Sem Idealize.ShloMosaic.Tactic

/-! # The remaining columns of the first in-projection -/

theorem z2 : (![0, 0] : Fin 2 → ℕ) = fun _ => 0 := by funext a; fin_cases a <;> rfl

/-- The weights as the scratch array holds them. -/
def wb (X : Vec Ideal S2048x1280 .f32) : Vec Ideal S2048x1280 .bf16 := X

theorem pay1_eq (X : Vec Ideal S2048x1280 .f32) : k0_pay1 (F := Ideal) X = wb X := by
  funext (y : S2048x1280.Idx)
  idx_vars y
  unfold k0_pay1 wb
  pointwise

/-- The products of a block. -/
theorem pay2_apply (g : Vec Ideal S2048x1280 .bf16) (a : Vec Ideal S1024x2048 .bf16) (r : Fin 1024) (n : Fin 1280) :
    k0_pay2 (F := Ideal) g a (ix2 r n) = ∑ k : Fin 2048, a (ix2 r k) * g (ix2 k n) := by
  unfold k0_pay2
  pointwise

section
variable (c : Dev nD) (i : grid0.Coords) (arg2 : Memref sig .tc .vmem S1024x2048 .bf16) (harg2 : arg2.IsWhole) (arg3 : Memref sig .tc .vmem S2048x1280 .f32) (harg3 : arg3.IsWhole) (arg4 : Memref sig .tc .vmem S1024x1280 .f32) (harg4 : arg4.IsWhole) (arg5 : Memref sig .tc .vmem S2048x1280 .bf16) (harg5 : arg5.IsWhole)
  (x0 : Vec Ideal S1024x2048 .bf16) (x1 : Vec Ideal S2048x1280 .f32)

theorem sout_A (hc0 : cond0_0 i) :
    sout0_A_0 c i arg2 harg2 arg3 harg3 arg4 harg4 arg5 harg5 hc0 x0 x1 = wb x1 := by
  unfold sout0_A_0 kernelRun0_A
  dsimp only
  rw [View.read_writes_junk_eq_canon]
  sl_unfold_words
  rw [View.canon_unit_zero z2, View.readAt_eq_ld, harg3.read_unread, View.ld_unit_zero z2, pay1_eq]

theorem out_A (hc0 : cond0_0 i) :
    out0_A_2 c i arg2 harg2 arg3 harg3 arg4 harg4 arg5 harg5 hc0 x0 x1 = k0_pay2 (F := Ideal) (wb x1) x0 := by
  unfold out0_A_2 kernelRun0_A
  dsimp only
  rw [View.read_writes_junk_eq_canon]
  sl_unfold_words
  rw [View.canon_unit_zero z2, View.readCov_unit_zero arg5.view z2]
  simp only [View.readAt_eq_ld, harg2.read_unread, harg3.read_unread]
  rw [View.ld_unit_zero z2, View.ld_unit_zero z2, pay1_eq]

theorem out_B (hc0 : ¬cond0_0 i) (s0 : Vec Ideal S2048x1280 .bf16) :
    out0_B_2 c i arg2 harg2 arg3 harg3 arg4 harg4 arg5 harg5 hc0 x0 x1 s0 = k0_pay2 (F := Ideal) s0 x0 := by
  unfold out0_B_2 kernelRun0_B
  dsimp only
  rw [View.read_writes_junk_eq_canon]
  sl_unfold_words
  rw [View.canon_unit_zero z2]
  simp only [View.readAt_eq_ld, harg2.read_unread, harg5.read_unread]
  rw [View.ld_unit_zero z2, View.ld_unit_zero z2]

theorem sout_B (hc0 : ¬cond0_0 i) (s0 : Vec Ideal S2048x1280 .bf16) :
    sout0_B_0 c i arg2 harg2 arg3 harg3 arg4 harg4 arg5 harg5 hc0 x0 x1 s0 = s0 := rfl
end

section
variable (m : (ℓ : Loc nD τ sig) → Buf (Elt Ideal) ℓ) (c : Dev nD)

/-- Grid point of row block `i`. -/
def pt (i : Fin 16) : Fin cfg0.N := ⟨i.val, by rw [show cfg0.N = 16 from N_0]; omega⟩

theorem ix_a0 : ∀ i, win0_0.index (pt i) 0 = i.val := by decide +kernel
theorem ix_a1 : ∀ i, win0_0.index (pt i) 1 = 0 := by decide +kernel
theorem ix_g0 : ∀ i, win0_1.index (pt i) 0 = 0 := by decide +kernel
theorem ix_g1 : ∀ i, win0_1.index (pt i) 1 = 0 := by decide +kernel
theorem ix_o0 : ∀ i, win0_2.index (pt i) 0 = i.val := by decide +kernel
theorem ix_o1 : ∀ i, win0_2.index (pt i) 1 = 0 := by decide +kernel
theorem fl_o : ∀ i, (cfg0.win 2).flush (pt i) = true := by decide +kernel

/-- The rows of a grid point. -/
def ab (A : Vec Ideal S16384x2048 .bf16) (i : Fin 16) : Vec Ideal S1024x2048 .bf16 := fun y =>
  A (ix2 (⟨1024 * i.val + (y 0).val, by have := (y 0).isLt; dsimp at *; omega⟩ : Fin 16384) (y 1))
theorem iblk_a (i) : iblk m c 0 (pt i) = ab (V m c main_v13) i := by
  funext y
  unfold ab
  blk_ext [iblk, ix_a0 i, ix_a1 i]
theorem iblk_g (i) : iblk m c 1 (pt i) = V m c main_v11 := by
  funext y
  blk_ext [iblk, ix_g0 i, ix_g1 i]

/-- Every point's scratch array holds the weights. -/
theorem scratch_all : ∀ (n : ℕ) (hn : n < 16),
    (outsAt0 m c (pt ⟨n, hn⟩).val (pt ⟨n, hn⟩).isLt).2 = wb (V m c main_v11)
  | 0, hn => by
    rw [outsAt0_A m c (pt ⟨0, hn⟩) (by show 0 % 16 = 0; omega)]
    dsimp only
    rw [sout_A, iblk_g]
  | n + 1, hn => by
    rw [outsAt0_B m c (pt ⟨n + 1, hn⟩) (by show ¬(n + 1) % 16 = 0; omega)]
    dsimp only
    rw [sout_B]
    exact scratch_all n (by omega)

/-- What a grid point writes back. -/
theorem point_out (i : Fin 16) :
    (outsAt0 m c (pt i).val (pt i).isLt).1 = k0_pay2 (F := Ideal) (wb (V m c main_v11)) (ab (V m c main_v13) i) := by
  by_cases h0 : (pt i).val % 16 = 0
  · rw [outsAt0_A m c (pt i) h0]
    dsimp only
    rw [out_A, iblk_a, iblk_g]
  · rw [outsAt0_B m c (pt i) h0]
    dsimp only
    have h1 : i.val % 16 ≠ 0 := h0
    have hs := scratch_all m c (i.val - 1) (by omega)
    have hs' : (outsAt0 m c ((pt i).val - 1) (Nat.lt_of_le_of_lt (Nat.sub_le _ _) (pt i).isLt)).2 = wb (V m c main_v11) := hs
    rw [out_B, hs', iblk_a]

/-- The rows times the weights, at a row and a column of the weights. -/
def proj (x0 : Vec Ideal S4x4096x2048 .f32) (x1 : Vec Ideal S1x2048x5200 .f32) (r : Fin 16384) (n : Fin 5200) : EReal :=
  ∑ k : Fin 2048, x0 (ix3 (⟨r.val / 4096, by omega⟩ : Fin 4) (⟨r.val % 4096, by omega⟩ : Fin 4096) k) * x1 (ix3 0 k n)

/-- The rows as the kernel takes them. -/
def hb (x0 : Vec Ideal S4x4096x2048 .f32) : Vec Ideal S16384x2048 .bf16 :=
  truncf (F := Ideal) .bf16 (shapeCast S16384x2048 x0 shapeCasts_S4x4096x2048_S16384x2048) bitsLt_bf16_f32

theorem V_rows : V m c main_v13 = hb (m ((c : Thread nD τ).loc main_arg0)) := by
  unfold V
  after_reads_simp
  rfl

theorem hb_apply (x0 : Vec Ideal S4x4096x2048 .f32) (r : Fin 16384) (k : Fin 2048) :
    hb x0 (ix2 r k) = x0 (ix3 (⟨r.val / 4096, by omega⟩ : Fin 4) (⟨r.val % 4096, by omega⟩ : Fin 4096) k) := by
  unfold hb
  pointwise

/-- The weights without their leading axis. -/
def wf (x1 : Vec Ideal S1x2048x5200 .f32) : Vec Ideal S2048x5200 .f32 := shapeCast S2048x5200 x1 shapeCasts_S1x2048x5200_S2048x5200
theorem wf_apply (x1 : Vec Ideal S1x2048x5200 .f32) (k : Fin 2048) (n : Fin 5200) : wf x1 (ix2 k n) = x1 (ix3 0 k n) := by
  unfold wf
  pointwise
/-- The columns of the rotated keys. -/
def wr (x1 : Vec Ideal S1x2048x5200 .f32) : Vec Ideal S2048x64 .f32 := extractStridedSlice S2048x64 ![0, 5136] (wf x1) slices_S2048x5200_S2048x64_0_5136
def zr : Vec Ideal S2048x32 .f32 := broadcastInDim S2048x32 ![] bcast_S_S2048x32 (constant (F := Ideal) S_ .f32 0x00000000#32)
def zp : Vec Ideal S2048x112 .f32 := broadcastInDim S2048x112 ![] bcast_S_S2048x112 (constant (F := Ideal) S_ .f32 0x00000000#32)
def cat4 (a1 a2 a3 a4 : Vec Ideal S2048x32 .f32) : Vec Ideal S2048x128 .f32 :=
  concatenate S2048x128 1 [⟨S2048x32, a1⟩, ⟨S2048x32, a2⟩, ⟨S2048x32, a3⟩, ⟨S2048x32, a4⟩] concatenates_S2048x32_S2048x32_S2048x32_S2048x32_S2048x128_d1
def cat6 (a1 a2 : Vec Ideal S2048x512 .f32) (a3 : Vec Ideal S2048x128 .f32) (a4 a5 : Vec Ideal S2048x8 .f32) (a6 : Vec Ideal S2048x112 .f32) : Vec Ideal S2048x1280 .f32 :=
  concatenate S2048x1280 1 [⟨S2048x512, a1⟩, ⟨S2048x512, a2⟩, ⟨S2048x128, a3⟩, ⟨S2048x8, a4⟩, ⟨S2048x8, a5⟩, ⟨S2048x112, a6⟩] concatenates_S2048x512_S2048x512_S2048x128_S2048x8_S2048x8_S2048x112_S2048x1280_d1
/-- The weights as the kernel takes them. -/
def wh (x1 : Vec Ideal S1x2048x5200 .f32) : Vec Ideal S2048x1280 .f32 :=
  cat6 (extractStridedSlice S2048x512 ![0, 4112] (wf x1) slices_S2048x5200_S2048x512_0_4112) (extractStridedSlice S2048x512 ![0, 4624] (wf x1) slices_S2048x5200_S2048x512_0_4624)
    (cat4 (extractStridedSlice S2048x32 ![0, 0] (wr x1) slices_S2048x64_S2048x32_0_0) zr (extractStridedSlice S2048x32 ![0, 32] (wr x1) slices_S2048x64_S2048x32_0_32) zr)
    (extractStridedSlice S2048x8 ![0, 4096] (wf x1) slices_S2048x5200_S2048x8_0_4096) (extractStridedSlice S2048x8 ![0, 4104] (wf x1) slices_S2048x5200_S2048x8_0_4104) zp

theorem V_wh : V m c main_v11 = wh (m ((c : Thread nD τ).loc main_arg1)) := by
  unfold V
  after_reads_simp
  rfl

theorem cat4_apply (a1 a2 a3 a4 : Vec Ideal S2048x32 .f32) (k : Fin 2048) (n : Fin 128) :
    cat4 a1 a2 a3 a4 (ix2 k n) = (if h : n.val < 32 then a1 (ix2 k (⟨n.val, h⟩ : Fin 32))
      else if h : n.val - 32 < 32 then a2 (ix2 k (⟨n.val - 32, h⟩ : Fin 32))
      else if h : n.val - 32 - 32 < 32 then a3 (ix2 k (⟨n.val - 32 - 32, h⟩ : Fin 32))
      else a4 (ix2 k (⟨n.val - 32 - 32 - 32, by omega⟩ : Fin 32))) := by
  unfold cat4
  pointwise
theorem cat6_apply (a1 a2 : Vec Ideal S2048x512 .f32) (a3 : Vec Ideal S2048x128 .f32) (a4 a5 : Vec Ideal S2048x8 .f32) (a6 : Vec Ideal S2048x112 .f32) (k : Fin 2048) (n : Fin 1280) :
    cat6 a1 a2 a3 a4 a5 a6 (ix2 k n) = (if h : n.val < 512 then a1 (ix2 k (⟨n.val, h⟩ : Fin 512))
      else if h : n.val - 512 < 512 then a2 (ix2 k (⟨n.val - 512, h⟩ : Fin 512))
      else if h : n.val - 512 - 512 < 128 then a3 (ix2 k (⟨n.val - 512 - 512, h⟩ : Fin 128))
      else if h : n.val - 512 - 512 - 128 < 8 then a4 (ix2 k (⟨n.val - 512 - 512 - 128, h⟩ : Fin 8))
      else if h : n.val - 512 - 512 - 128 - 8 < 8 then a5 (ix2 k (⟨n.val - 512 - 512 - 128 - 8, h⟩ : Fin 8))
      else a6 (ix2 k (⟨n.val - 512 - 512 - 128 - 8 - 8, by omega⟩ : Fin 112))) := by
  unfold cat6
  pointwise
theorem zr_apply (y) : zr y = 0 := by
  idx_vars y
  unfold zr
  pointwise
theorem zp_apply (y) : zp y = 0 := by
  idx_vars y
  unfold zp
  pointwise

/-- The weight of a row and a column of the result: the columns of the two compressed streams, the two halves of the rotated keys each followed by zeros, the two gates, zeros. -/
def tw (x1 : Vec Ideal S1x2048x5200 .f32) (k : Fin 2048) (n : Fin 1280) : EReal :=
  (if h : n.val < 512 then x1 (ix3 0 k (⟨4112 + (n.val), by omega⟩ : Fin 5200))
      else if h : n.val - 512 < 512 then x1 (ix3 0 k (⟨4624 + (n.val - 512), by omega⟩ : Fin 5200))
      else if h : n.val - 512 - 512 < 32 then x1 (ix3 0 k (⟨5136 + (n.val - 512 - 512), by omega⟩ : Fin 5200))
      else if h : n.val - 512 - 512 - 32 < 32 then 0
      else if h : n.val - 512 - 512 - 32 - 32 < 32 then x1 (ix3 0 k (⟨5168 + (n.val - 512 - 512 - 32 - 32), by omega⟩ : Fin 5200))
      else if h : n.val - 512 - 512 - 32 - 32 - 32 < 32 then 0
      else if h : n.val - 512 - 512 - 32 - 32 - 32 - 32 < 8 then x1 (ix3 0 k (⟨4096 + (n.val - 512 - 512 - 32 - 32 - 32 - 32), by omega⟩ : Fin 5200))
      else if h : n.val - 512 - 512 - 32 - 32 - 32 - 32 - 8 < 8 then x1 (ix3 0 k (⟨4104 + (n.val - 512 - 512 - 32 - 32 - 32 - 32 - 8), by omega⟩ : Fin 5200))
      else 0)

theorem sl_apply (x1 : Vec Ideal S1x2048x5200 .f32) (o sz : ℕ) (hs : Shape.Slices S2048x5200 ![0, o] (⟨2, ![2048, sz]⟩ : Shape)) (k : Fin 2048) (n : Fin sz) (ho : o + n.val < 5200) :
    extractStridedSlice (⟨2, ![2048, sz]⟩ : Shape) ![0, o] (wf x1) hs (ix2 k n) = x1 (ix3 0 k (⟨o + n.val, ho⟩ : Fin 5200)) := by
  refine Eq.trans ?_ (wf_apply x1 k (⟨o + n.val, ho⟩ : Fin 5200))
  exact extractStridedSlice_apply ![0, o] (wf x1) hs (ix2 k n) (ix2 k (⟨o + n.val, ho⟩ : Fin 5200)) (fun a => match a with
    | ⟨0, _⟩ => by show k.val = 0 + k.val; omega
    | ⟨1, _⟩ => rfl)
theorem sr_apply (x1 : Vec Ideal S1x2048x5200 .f32) (o : ℕ) (hs : Shape.Slices S2048x64 ![0, o] S2048x32) (k : Fin 2048) (n : Fin 32) (ho : o + n.val < 64) :
    extractStridedSlice S2048x32 ![0, o] (wr x1) hs (ix2 k n) = x1 (ix3 0 k (⟨5136 + (o + n.val), by omega⟩ : Fin 5200)) := by
  refine Eq.trans ?_ (sl_apply x1 5136 64 slices_S2048x5200_S2048x64_0_5136 k (⟨o + n.val, ho⟩ : Fin 64) (by dsimp only; omega))
  exact extractStridedSlice_apply ![0, o] (wr x1) hs (ix2 k n) (ix2 k (⟨o + n.val, ho⟩ : Fin 64)) (fun a => match a with
    | ⟨0, _⟩ => by show k.val = 0 + k.val; omega
    | ⟨1, _⟩ => rfl)

theorem wh_apply (x1 : Vec Ideal S1x2048x5200 .f32) (k : Fin 2048) (n : Fin 1280) : wh x1 (ix2 k n) = tw x1 k n := by
  unfold wh tw
  rw [cat6_apply]
  by_cases g1 : n.val < 512
  · rw [dif_pos g1, dif_pos g1]
    exact sl_apply x1 4112 512 _ k _ _
  rw [dif_neg g1, dif_neg g1]
  by_cases g2 : n.val - 512 < 512
  · rw [dif_pos g2, dif_pos g2]
    exact sl_apply x1 4624 512 _ k _ _
  rw [dif_neg g2, dif_neg g2]
  by_cases g3 : n.val - 512 - 512 < 128
  · rw [dif_pos g3, cat4_apply]
    dsimp only
    by_cases g4 : n.val - 512 - 512 < 32
    · rw [dif_pos g4, dif_pos g4, sr_apply x1 0 _ k _ (by dsimp only; omega)]
      exact congrArg x1 (congrArg (ix3 0 k) (Fin.ext (by show 5136 + (0 + (n.val - 512 - 512)) = 5136 + (n.val - 512 - 512); omega)))
    rw [dif_neg g4, dif_neg g4]
    by_cases g5 : n.val - 512 - 512 - 32 < 32
    · rw [dif_pos g5, dif_pos g5, zr_apply]
    rw [dif_neg g5, dif_neg g5]
    by_cases g6 : n.val - 512 - 512 - 32 - 32 < 32
    · rw [dif_pos g6, dif_pos g6, sr_apply x1 32 _ k _ (by dsimp only; omega)]
      exact congrArg x1 (congrArg (ix3 0 k) (Fin.ext (by show 5136 + (32 + (n.val - 512 - 512 - 32 - 32)) = 5168 + (n.val - 512 - 512 - 32 - 32); omega)))
    rw [dif_neg g6, dif_neg g6, dif_pos (show n.val - 512 - 512 - 32 - 32 - 32 < 32 by omega), zr_apply]
  rw [dif_neg g3, dif_neg (show ¬n.val - 512 - 512 < 32 by omega), dif_neg (show ¬n.val - 512 - 512 - 32 < 32 by omega), dif_neg (show ¬n.val - 512 - 512 - 32 - 32 < 32 by omega), dif_neg (show ¬n.val - 512 - 512 - 32 - 32 - 32 < 32 by omega)]
  by_cases g7 : n.val - 512 - 512 - 128 < 8
  · rw [dif_pos g7, dif_pos (show n.val - 512 - 512 - 32 - 32 - 32 - 32 < 8 by omega)]
    refine (sl_apply x1 4096 8 _ k _ (by dsimp only; omega)).trans ?_
    exact congrArg x1 (congrArg (ix3 0 k) (Fin.ext (by show 4096 + (n.val - 512 - 512 - 128) = 4096 + (n.val - 512 - 512 - 32 - 32 - 32 - 32); omega)))
  rw [dif_neg g7, dif_neg (show ¬n.val - 512 - 512 - 32 - 32 - 32 - 32 < 8 by omega)]
  by_cases g8 : n.val - 512 - 512 - 128 - 8 < 8
  · rw [dif_pos g8, dif_pos (show n.val - 512 - 512 - 32 - 32 - 32 - 32 - 8 < 8 by omega)]
    refine (sl_apply x1 4104 8 _ k _ (by dsimp only; omega)).trans ?_
    exact congrArg x1 (congrArg (ix3 0 k) (Fin.ext (by show 4104 + (n.val - 512 - 512 - 128 - 8) = 4104 + (n.val - 512 - 512 - 32 - 32 - 32 - 32 - 8); omega)))
  rw [dif_neg g8, dif_neg (show ¬n.val - 512 - 512 - 32 - 32 - 32 - 32 - 8 < 8 by omega), zp_apply]

/-- The kernel's result array at a row and a column. -/
theorem arr_apply (x0 : Vec Ideal S4x4096x2048 .f32) (x1 : Vec Ideal S1x2048x5200 .f32) (h0 : m ((c : Thread nD τ).loc main_arg0) = x0)
    (h1 : m ((c : Thread nD τ).loc main_arg1) = x1) (r : Fin 16384) (n : Fin 1280) :
    (dats m 0 c).arrAt 2 cfg0.N (ix2 r n) = ∑ k : Fin 2048, x0 (ix3 (⟨r.val / 4096, by omega⟩ : Fin 4) (⟨r.val % 4096, by omega⟩ : Fin 4096) k) * tw x1 k n := by
  have e := congrFun ((Value.blocks2 m c (pt ⟨r.val / 1024, by omega⟩) (fl_o _)).trans (Value.flushed2 m c (pt ⟨r.val / 1024, by omega⟩)))
    (ix2 (⟨r.val % 1024, by omega⟩ : Fin 1024) n)
  rw [point_out] at e
  refine Eq.trans ?_ (e.trans ((pay2_apply _ _ _ _).trans ?_))
  · blk_ext [ix_o0, ix_o1]
  · rw [V_wh, V_rows, h0, h1]
    unfold ab wb
    have er : (⟨1024 * (r.val / 1024) + r.val % 1024, by omega⟩ : Fin 16384) = r := Fin.ext (by show 1024 * (r.val / 1024) + r.val % 1024 = r.val; omega)
    refine Finset.sum_congr rfl fun k _ => ?_
    show (hb x0 (ix2 (⟨1024 * (r.val / 1024) + r.val % 1024, _⟩ : Fin 16384) k) : EReal) * wh x1 (ix2 k n) = _
    rw [er, hb_apply, wh_apply]
end

end Cert.TailAbIdeal.Step

namespace Cert.TailAbReferenceIdeal.Val
open Cert.TailAbReferenceIdeal Cert.TailAbReferenceIdeal.Gen Cert.TailAbReferenceIdeal.Read Idealize.ShloMosaic Idealize.ShloMosaic.Tactic Idealize.ShloMosaic.TcCoe Idealize.SL.Sem
open Cert.TailAbIdeal.Step (proj tw)

/-- The product with every column of the weights. -/
theorem dot_apply (x0 : Vec Ideal S4x4096x2048 .f32) (x1 : Vec Ideal S1x2048x5200 .f32) (r : Fin 16384) (n : Fin 5200) :
    val_main_v1 (F := Ideal) x0 x1 (ix3 (⟨r.val / 4096, by omega⟩ : Fin 4) (⟨r.val % 4096, by omega⟩ : Fin 4096) n) = proj x0 x1 r n := by
  rw [val_main_v1_apply]
  unfold proj
  refine Finset.sum_congr rfl fun k _ => ?_
  rw [val_main_v0_apply]
  refine congrArg₂ (fun a b : EReal => a * b) (congrArg x0 ?_) (congrArg x1 ?_)
  · funext a; fin_cases a <;> rfl
  · funext a; fin_cases a
    · rfl
    · exact Fin.ext (by show (k.val * 5200 + n.val) / 5200 % 2048 = k.val; omega)
    · exact Fin.ext (by show (k.val * 5200 + n.val) % 5200 = n.val; omega)

theorem zero_word : Ideal.ofBits .f32 0x00000000#32 = (0 : EReal) := by simp [Ideal.ofBits, Ideal.ieee]

def cat9 (a1 a2 : Vec Ideal S4x4096x512 .f32) (a3 z a4 : Vec Ideal S4x4096x32 .f32) (a5 a6 : Vec Ideal S4x4096x8 .f32) (zz : Vec Ideal S4x4096x112 .f32) : Vec Ideal S4x4096x1280 .f32 :=
  concatenate S4x4096x1280 2 [⟨S4x4096x512, a1⟩, ⟨S4x4096x512, a2⟩, ⟨S4x4096x32, a3⟩, ⟨S4x4096x32, z⟩, ⟨S4x4096x32, a4⟩, ⟨S4x4096x32, z⟩, ⟨S4x4096x8, a5⟩, ⟨S4x4096x8, a6⟩, ⟨S4x4096x112, zz⟩] concatenates_S4x4096x512_S4x4096x512_S4x4096x32_S4x4096x32_S4x4096x32_S4x4096x32_S4x4096x8_S4x4096x8_S4x4096x112_S4x4096x1280_d2
/-- The concatenation of the nine parts, at an index. -/
theorem cat9_apply (a1 a2 : Vec Ideal S4x4096x512 .f32) (a3 z a4 : Vec Ideal S4x4096x32 .f32) (a5 a6 : Vec Ideal S4x4096x8 .f32) (zz : Vec Ideal S4x4096x112 .f32) (b : Fin 4) (t : Fin 4096) (n : Fin 1280) :
    cat9 a1 a2 a3 z a4 a5 a6 zz (ix3 b t n) = (if h : n.val < 512 then a1 (ix3 b t (⟨n.val, h⟩ : Fin 512))
      else if h : n.val - 512 < 512 then a2 (ix3 b t (⟨n.val - 512, h⟩ : Fin 512))
      else if h : n.val - 512 - 512 < 32 then a3 (ix3 b t (⟨n.val - 512 - 512, h⟩ : Fin 32))
      else if h : n.val - 512 - 512 - 32 < 32 then z (ix3 b t (⟨n.val - 512 - 512 - 32, h⟩ : Fin 32))
      else if h : n.val - 512 - 512 - 32 - 32 < 32 then a4 (ix3 b t (⟨n.val - 512 - 512 - 32 - 32, h⟩ : Fin 32))
      else if h : n.val - 512 - 512 - 32 - 32 - 32 < 32 then z (ix3 b t (⟨n.val - 512 - 512 - 32 - 32 - 32, h⟩ : Fin 32))
      else if h : n.val - 512 - 512 - 32 - 32 - 32 - 32 < 8 then a5 (ix3 b t (⟨n.val - 512 - 512 - 32 - 32 - 32 - 32, h⟩ : Fin 8))
      else if h : n.val - 512 - 512 - 32 - 32 - 32 - 32 - 8 < 8 then a6 (ix3 b t (⟨n.val - 512 - 512 - 32 - 32 - 32 - 32 - 8, h⟩ : Fin 8))
      else zz (ix3 b t (⟨n.val - 512 - 512 - 32 - 32 - 32 - 32 - 8 - 8, by omega⟩ : Fin 112))) := by
  unfold cat9
  pointwise

/-- The reference at a row and a column. -/
theorem ref_apply (x0 : Vec Ideal S4x4096x2048 .f32) (x1 : Vec Ideal S1x2048x5200 .f32) (r : Fin 16384) (n : Fin 1280) :
    val_main_v14 (F := Ideal) x0 x1 (ix2 r n) = ∑ k : Fin 2048, x0 (ix3 (⟨r.val / 4096, by omega⟩ : Fin 4) (⟨r.val % 4096, by omega⟩ : Fin 4096) k) * tw x1 k n := by
  have ei : idx_main_v14 (ix2 r n) = ix3 (⟨r.val / 4096, by omega⟩ : Fin 4) (⟨r.val % 4096, by omega⟩ : Fin 4096) n := by
    funext a; fin_cases a
    · exact Fin.ext (by show (r.val * 1280 + n.val) / 5242880 = r.val / 4096; omega)
    · exact Fin.ext (by show (r.val * 1280 + n.val) / 1280 % 4096 = r.val % 4096; omega)
    · exact Fin.ext (by show (r.val * 1280 + n.val) % 1280 = n.val; omega)
  have hc : val_main_v13 (F := Ideal) x0 x1 = cat9 (val_main_v6 (F := Ideal) x0 x1) (val_main_v7 (F := Ideal) x0 x1) (val_main_v10 (F := Ideal) x0 x1) (val_main_v9 (F := Ideal))
      (val_main_v11 (F := Ideal) x0 x1) (val_main_v4 (F := Ideal) x0 x1) (val_main_v5 (F := Ideal) x0 x1) (val_main_v12 (F := Ideal)) := rfl
  rw [val_main_v14_apply, ei, hc, cat9_apply]
  unfold tw
  by_cases g0 : n.val < 512
  · simp only [dif_pos g0]
    rw [val_main_v6_apply]
    refine Eq.trans ?_ (dot_apply x0 x1 r (⟨4112 + (n.val), by omega⟩ : Fin 5200))
    exact congrArg (val_main_v1 (F := Ideal) x0 x1) (funext fun a => match a with | ⟨0, _⟩ => rfl | ⟨1, _⟩ => rfl | ⟨2, _⟩ => Fin.ext (by show 4112 + (n.val) = 4112 + (n.val); omega))
  simp only [dif_neg g0]
  by_cases g1 : n.val - 512 < 512
  · simp only [dif_pos g1]
    rw [val_main_v7_apply]
    refine Eq.trans ?_ (dot_apply x0 x1 r (⟨4624 + (n.val - 512), by omega⟩ : Fin 5200))
    exact congrArg (val_main_v1 (F := Ideal) x0 x1) (funext fun a => match a with | ⟨0, _⟩ => rfl | ⟨1, _⟩ => rfl | ⟨2, _⟩ => Fin.ext (by show 4624 + (n.val - 512) = 4624 + (n.val - 512); omega))
  simp only [dif_neg g1]
  by_cases g2 : n.val - 512 - 512 < 32
  · simp only [dif_pos g2]
    rw [val_main_v10_apply, val_main_v8_apply]
    refine Eq.trans ?_ (dot_apply x0 x1 r (⟨5136 + (n.val - 512 - 512), by omega⟩ : Fin 5200))
    exact congrArg (val_main_v1 (F := Ideal) x0 x1) (funext fun a => match a with | ⟨0, _⟩ => rfl | ⟨1, _⟩ => rfl | ⟨2, _⟩ => Fin.ext (by show 5136 + (n.val - 512 - 512) = 5136 + (n.val - 512 - 512); omega))
  simp only [dif_neg g2]
  by_cases g3 : n.val - 512 - 512 - 32 < 32
  · simp only [dif_pos g3]
    rw [val_main_v9_apply, val_main_cst_apply]
    simp only [mul_zero, Finset.sum_const_zero]
    exact zero_word
  simp only [dif_neg g3]
  by_cases g4 : n.val - 512 - 512 - 32 - 32 < 32
  · simp only [dif_pos g4]
    rw [val_main_v11_apply, val_main_v8_apply]
    refine Eq.trans ?_ (dot_apply x0 x1 r (⟨5168 + (n.val - 512 - 512 - 32 - 32), by omega⟩ : Fin 5200))
    exact congrArg (val_main_v1 (F := Ideal) x0 x1) (funext fun a => match a with | ⟨0, _⟩ => rfl | ⟨1, _⟩ => rfl | ⟨2, _⟩ => Fin.ext (by show 5136 + (32 + (n.val - 512 - 512 - 32 - 32)) = 5168 + (n.val - 512 - 512 - 32 - 32); omega))
  simp only [dif_neg g4]
  by_cases g5 : n.val - 512 - 512 - 32 - 32 - 32 < 32
  · simp only [dif_pos g5]
    rw [val_main_v9_apply, val_main_cst_apply]
    simp only [mul_zero, Finset.sum_const_zero]
    exact zero_word
  simp only [dif_neg g5]
  by_cases g6 : n.val - 512 - 512 - 32 - 32 - 32 - 32 < 8
  · simp only [dif_pos g6]
    rw [val_main_v4_apply]
    refine Eq.trans ?_ (dot_apply x0 x1 r (⟨4096 + (n.val - 512 - 512 - 32 - 32 - 32 - 32), by omega⟩ : Fin 5200))
    exact congrArg (val_main_v1 (F := Ideal) x0 x1) (funext fun a => match a with | ⟨0, _⟩ => rfl | ⟨1, _⟩ => rfl | ⟨2, _⟩ => Fin.ext (by show 4096 + (n.val - 512 - 512 - 32 - 32 - 32 - 32) = 4096 + (n.val - 512 - 512 - 32 - 32 - 32 - 32); omega))
  simp only [dif_neg g6]
  by_cases g7 : n.val - 512 - 512 - 32 - 32 - 32 - 32 - 8 < 8
  · simp only [dif_pos g7]
    rw [val_main_v5_apply]
    refine Eq.trans ?_ (dot_apply x0 x1 r (⟨4104 + (n.val - 512 - 512 - 32 - 32 - 32 - 32 - 8), by omega⟩ : Fin 5200))
    exact congrArg (val_main_v1 (F := Ideal) x0 x1) (funext fun a => match a with | ⟨0, _⟩ => rfl | ⟨1, _⟩ => rfl | ⟨2, _⟩ => Fin.ext (by show 4104 + (n.val - 512 - 512 - 32 - 32 - 32 - 32 - 8) = 4104 + (n.val - 512 - 512 - 32 - 32 - 32 - 32 - 8); omega))
  simp only [dif_neg g7]
  rw [val_main_v12_apply, val_main_cst_0_apply]
  simp only [mul_zero, Finset.sum_const_zero]
  exact zero_word

/-- The kernel's result array is the reference's. -/
theorem result_eq (m : (ℓ : Loc Cert.TailAbIdeal.nD Cert.TailAbIdeal.τ Cert.TailAbIdeal.sig) → Buf (Elt Ideal) ℓ) (c : Dev Cert.TailAbIdeal.nD) (x0 : Vec Ideal S4x4096x2048 .f32) (x1 : Vec Ideal S1x2048x5200 .f32)
    (h0 : m ((c : Thread Cert.TailAbIdeal.nD Cert.TailAbIdeal.τ).loc Cert.TailAbIdeal.main_arg0) = x0) (h1 : m ((c : Thread Cert.TailAbIdeal.nD Cert.TailAbIdeal.τ).loc Cert.TailAbIdeal.main_arg1) = x1) :
    (Cert.TailAbIdeal.Gen.dats m 0 c).arrAt 2 Cert.TailAbIdeal.cfg0.N = val_main_v14 (F := Ideal) x0 x1 := by
  refine funext fun (y : S16384x1280.Idx) => ?_
  idx_vars y
  exact (Cert.TailAbIdeal.Step.arr_apply m c x0 x1 h0 h1 y0 y1).trans (ref_apply x0 x1 y0 y1).symm
end Cert.TailAbReferenceIdeal.Val
-- ==== Proof.Pre.lean ====
module
public import proofs.«01_k».proof.Pre_finite_scores
public import Idealize.ShloMosaic.Lib.Pointwise
public import Idealize.ShloMosaic.Lib.ReduceAll
public import Idealize.ShloMosaic.PureOps.Ideal.Laws
@[expose] public section
noncomputable section
namespace Cert.Pre_finite_scores
open Idealize.ShloMosaic

/-! # The precondition read back: every query and key is a real -/

theorem facts : Facts where
  bcast_S_S4x4096x8x128 := by decide
  reducesTo_S4x4096x8x128_S_d0_1_2_3 := by decide
  h_S_ := by decide
  bcast_S_S4x4096x8x64 := by decide
  reducesTo_S4x4096x8x64_S_d0_1_2_3 := by decide
  bcast_S_S4x4096x64 := by decide
  reducesTo_S4x4096x64_S_d0_1_2 := by decide

theorem inf_word : Ideal.ofBits .f32 0x7F800000#32 = (⊤ : EReal) := by simp [Ideal.ofBits, Ideal.ieee]

/-- An extended real whose absolute value is below plus infinity is a real. -/
theorem real_of_lt (x : EReal) (h : max x (-x) < ⊤) : ∃ r : ℝ, x = r := by
  induction x with
  | bot => simp at h
  | coe r => exact ⟨r, rfl⟩
  | top => simp at h

theorem real_of_cmp (x : EReal) (h : Ideal.cmp .olt (max x (-x)) (⊤ : EReal) = 1#1) : ∃ r : ℝ, x = r := by
  refine real_of_lt x ?_
  by_contra hn
  simp [Ideal.cmp, hn] at h

instance : Subsingleton S_.Idx := ⟨fun a b => funext fun i => i.elim0⟩

section
variable [Facts]
open Facts
theorem all_real {s : Shape} {axes : List (Fin s.rank)} (x : FVec Ideal s .f32) (hb : S_.BroadcastsInDim s (![] : Fin 0 → Fin s.rank)) (hr : s.ReducesTo axes S_) (j : S_.Idx)
    (h : Host.reduce IntOp.andi (cmpf .olt (Host.absf x) (broadcastInDim s ![] hb (constant S_ .f32 0x7F800000#32))) (constantI S_ 1 1#1) hr h_S_ j = 1#1) (y : s.Idx) : ∃ r : ℝ, x y = (r : EReal) := by
  have e := Host.reduce_andi_all _ _ _ _ _ h y
  refine real_of_cmp _ ?_
  rw [← inf_word]
  exact e

/-- Under the precondition every element of the two query parts and the two key parts is a real. -/
theorem reals (x0 : FVec Ideal S4x4096x8x128 .f32) (x1 : FVec Ideal S4x4096x8x64 .f32) (x2 : FVec Ideal S4x4096x8x128 .f32) (x3 : FVec Ideal S4x4096x64 .f32)
    (x4 : FVec Ideal S4x4096x8x128 .f32) (h : fn (F := Ideal) x0 x1 x2 x3 x4 = fun _ => 1#1) :
    (∀ y, ∃ r : ℝ, x0 y = (r : EReal)) ∧ (∀ y, ∃ r : ℝ, x1 y = (r : EReal)) ∧ (∀ y, ∃ r : ℝ, x2 y = (r : EReal)) ∧ (∀ y, ∃ r : ℝ, x3 y = (r : EReal)) := by
  have e := congrFun h (Shape.Idx.first h_S_)
  unfold fn fn_part1 at e
  obtain ⟨e1, h3⟩ := IntOp.andi_eq_one.1 e
  obtain ⟨e2, h2⟩ := IntOp.andi_eq_one.1 e1
  obtain ⟨h0, h1⟩ := IntOp.andi_eq_one.1 e2
  exact ⟨all_real x0 _ _ _ h0, all_real x1 _ _ _ h1, all_real x2 _ _ _ h2, all_real x3 _ _ _ h3⟩
end
end Cert.Pre_finite_scores
-- ==== Proof.lean ====
module

public import proofs.«01_k».proof.Proof.Half
public import proofs.«01_k».proof.Proof.Gen.QUp
public import proofs.«01_k».proof.Proof.Gen.QUp.Frame
public import proofs.«01_k».proof.Proof.Gen.QUpIdeal.Frame
public import proofs.«01_k».proof.Proof.Gen.QUpIdeal.Value
public import proofs.«01_k».proof.Proof.Gen.QUpReferenceIdeal.Run
public import proofs.«01_k».proof.Proof.Gen.QUpReferenceIdeal.Read
public import proofs.«01_k».proof.Proof.Gen.KvUp
public import proofs.«01_k».proof.Proof.Gen.KvUp.Frame
public import proofs.«01_k».proof.Proof.Gen.KvUpIdeal.Frame
public import proofs.«01_k».proof.Proof.Gen.KvUpIdeal.Value
public import proofs.«01_k».proof.Proof.Gen.KvUpReferenceIdeal.Run
public import proofs.«01_k».proof.Proof.Gen.KvUpReferenceIdeal.Read
public import proofs.«01_k».proof.Proof.QUpVal
public import proofs.«01_k».proof.Proof.KvUpVal
public import proofs.«01_k».proof.Proof.FoxHalf
public import proofs.«01_k».proof.Proof.FoxPre
public import proofs.«01_k».proof.Proof.FoxEqual
public import proofs.«01_k».proof.Proof.Gen.FoxIdeal.Value
public import proofs.«01_k».proof.Proof.Gen.FoxReferenceIdeal.Run
public import proofs.«01_k».proof.Proof.Gen.FoxReferenceIdeal.Read
public import proofs.«01_k».proof.Proof.Gen.Fox
public import proofs.«01_k».proof.Proof.Gen.Fox.Frame
public import proofs.«01_k».proof.Proof.Gen.FoxIdeal.Frame
public import proofs.«01_k».proof.Proof.UpVal
public import proofs.«01_k».proof.Proof.DownVal
public import proofs.«01_k».proof.Proof.MixVal
public import proofs.«01_k».proof.Proof.InAbVal
public import proofs.«01_k».proof.Proof.InCVal
public import proofs.«01_k».proof.Proof.InDVal
public import proofs.«01_k».proof.Proof.TailAbVal
public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Pre
public import proofs.«01_k».proof.Proof.Equal
public import Idealize.ShloMosaic.Adequacy
public import Idealize.ShloMosaic.Init

@[expose] public section

noncomputable section

namespace Cert.Proof

open Idealize.ShloMosaic Idealize.SL.Sem

local instance : Cert.Pre_finite_scores.Facts := Cert.Pre_finite_scores.facts
local instance : Cert.Pre_finite_fox.Facts := Cert.Pre_finite_fox.facts

/-- The reference runs, its arguments end unchanged, and no semaphore is left raised. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel's result is the reference's. -/
theorem value : Cert.algebraic_KernelIdeal_ReferenceIdeal_pre_finite_scores := by
  intro m g m' g' hpre hargs
  refine ⟨fun c => (Cert.KernelIdeal.Gen.dats m 0 c).arrAt 3 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨h0, h1, h2, h3⟩ := Cert.Pre_finite_scores.reals _ _ _ _ _ (hpre c)
  rw [Cert.ReferenceIdeal.Read.val_main_v30_eq]
  obtain ⟨a0, a1, a2, a3, a4⟩ := hargs c
  rw [a0, a1, a2, a3, a4]
  exact (Cert.KernelIdeal.Step.result_eq m c h0 h1 h2 h3).symm

theorem frame_upref : Cert.quiescent_UpReferenceIdeal := fun m g _ =>
  (θ_run Cert.UpReferenceIdeal.defs _ _).mono (fun r h => ⟨fun c => (h c).2, sem_eq_zero_of_no_sems (by decide) r.2⟩) (Cert.UpReferenceIdeal.Value.run (F := Ideal) m g)

theorem frame_downref : Cert.quiescent_DownReferenceIdeal := fun m g _ =>
  (θ_run Cert.DownReferenceIdeal.defs _ _).mono (fun r h => ⟨fun c => (h c).2, sem_eq_zero_of_no_sems (by decide) r.2⟩) (Cert.DownReferenceIdeal.Value.run (F := Ideal) m g)

theorem frame_mixref : Cert.quiescent_MixReferenceIdeal := fun m g _ =>
  (θ_run Cert.MixReferenceIdeal.defs _ _).mono (fun r h => ⟨fun c => (h c).2.2, sem_eq_zero_of_no_sems (by decide) r.2⟩) (Cert.MixReferenceIdeal.Value.run (F := Ideal) m g)

/-- The gated projection's array is the reference's. -/
theorem value_up : Cert.algebraic_UpIdeal_UpReferenceIdeal := by
  intro m g m' g' hpre hargs
  refine ⟨fun c => (Cert.UpIdeal.Gen.dats m 0 c).arrAt 3 Cert.UpIdeal.cfg0.N, Cert.UpIdeal.Value.run_blocks m g, ?_⟩
  refine (θ_run _ _ _).mono (fun r h c => ⟨(h c).1.trans ?_, (h c).2⟩) (Cert.UpReferenceIdeal.Value.run m' g')
  rw [Cert.UpReferenceIdeal.Read.val_main_v9_eq]
  obtain ⟨a0, a1, a2⟩ := hargs c
  rw [a0, a1, a2]
  exact (Cert.UpReferenceIdeal.Val.result_eq m c _ _ _ rfl rfl rfl).symm

/-- The layer's result array is the reference's. -/
theorem value_down : Cert.algebraic_DownIdeal_DownReferenceIdeal := by
  intro m g m' g' hpre hargs
  refine ⟨fun c => (Cert.DownIdeal.Gen.dats m 0 c).arrAt 7 Cert.DownIdeal.cfg0.N, Cert.DownIdeal.Value.run_blocks m g, ?_⟩
  refine (θ_run _ _ _).mono (fun r h c => ⟨(h c).1.trans ?_, (h c).2⟩) (Cert.DownReferenceIdeal.Value.run m' g')
  rw [Cert.DownReferenceIdeal.Read.val_main_v28_eq]
  obtain ⟨a0, a1, a2, a3, a4, a5⟩ := hargs c
  rw [a0, a1, a2, a3, a4]
  exact (Cert.DownReferenceIdeal.Val.result_eq m c _ _ _ _ _ rfl rfl rfl rfl rfl).symm

theorem frame_inabref : Cert.quiescent_InAbReferenceIdeal := fun m g _ =>
  (θ_run Cert.InAbReferenceIdeal.defs _ _).mono (fun r h => ⟨fun c => (h c).2, sem_eq_zero_of_no_sems (by decide) r.2⟩) (Cert.InAbReferenceIdeal.Value.run (F := Ideal) m g)

/-- The main columns of the first in-projection are the reference's. -/
theorem value_inab : Cert.algebraic_InAbIdeal_InAbReferenceIdeal := by
  intro m g m' g' hpre hargs
  refine ⟨fun c => (Cert.InAbIdeal.Gen.dats m 0 c).arrAt 2 Cert.InAbIdeal.cfg0.N, Cert.InAbIdeal.Value.run_blocks m g, ?_⟩
  refine (θ_run _ _ _).mono (fun r h c => ⟨(h c).1.trans ?_, (h c).2⟩) (Cert.InAbReferenceIdeal.Value.run m' g')
  rw [Cert.InAbReferenceIdeal.Read.val_main_v3_eq]
  obtain ⟨a0, a1⟩ := hargs c
  rw [a0, a1]
  exact (Cert.InAbReferenceIdeal.Val.result_eq m c _ _ rfl rfl).symm

theorem frame_incref : Cert.quiescent_InCReferenceIdeal := fun m g _ =>
  (θ_run Cert.InCReferenceIdeal.defs _ _).mono (fun r h => ⟨fun c => (h c).2, sem_eq_zero_of_no_sems (by decide) r.2⟩) (Cert.InCReferenceIdeal.Value.run (F := Ideal) m g)

/-- The retention columns of the second in-projection are the reference's. -/
theorem value_inc : Cert.algebraic_InCIdeal_InCReferenceIdeal := by
  intro m g m' g' hpre hargs
  refine ⟨fun c => (Cert.InCIdeal.Gen.dats m 0 c).arrAt 3 Cert.InCIdeal.cfg0.N, Cert.InCIdeal.Value.run_blocks m g, ?_⟩
  refine (θ_run _ _ _).mono (fun r h c => ⟨(h c).1.trans ?_, (h c).2⟩) (Cert.InCReferenceIdeal.Value.run m' g')
  rw [Cert.InCReferenceIdeal.Read.val_main_v10_eq]
  obtain ⟨a0, a1⟩ := hargs c
  rw [a0, a1]
  exact (Cert.InCReferenceIdeal.Val.result_eq m c _ _ rfl rfl).symm

theorem frame_indref : Cert.quiescent_InDReferenceIdeal := fun m g _ =>
  (θ_run Cert.InDReferenceIdeal.defs _ _).mono (fun r h => ⟨fun c => (h c).2, sem_eq_zero_of_no_sems (by decide) r.2⟩) (Cert.InDReferenceIdeal.Value.run (F := Ideal) m g)

/-- The attention columns of the second in-projection are the reference's. -/
theorem value_ind : Cert.algebraic_InDIdeal_InDReferenceIdeal := by
  intro m g m' g' hpre hargs
  refine ⟨fun c => (Cert.InDIdeal.Gen.dats m 0 c).arrAt 3 Cert.InDIdeal.cfg0.N, Cert.InDIdeal.Value.run_blocks m g, ?_⟩
  refine (θ_run _ _ _).mono (fun r h c => ⟨(h c).1.trans ?_, (h c).2⟩) (Cert.InDReferenceIdeal.Value.run m' g')
  rw [Cert.InDReferenceIdeal.Read.val_main_v10_eq]
  obtain ⟨a0, a1⟩ := hargs c
  rw [a0, a1]
  exact (Cert.InDReferenceIdeal.Val.result_eq m c _ _ rfl rfl).symm

theorem frame_tailabref : Cert.quiescent_TailAbReferenceIdeal := fun m g _ =>
  (θ_run Cert.TailAbReferenceIdeal.defs _ _).mono (fun r h => ⟨fun c => (h c).2, sem_eq_zero_of_no_sems (by decide) r.2⟩) (Cert.TailAbReferenceIdeal.Value.run (F := Ideal) m g)

/-- The remaining columns of the first in-projection are the reference's. -/
theorem value_tailab : Cert.algebraic_TailAbIdeal_TailAbReferenceIdeal := by
  intro m g m' g' hpre hargs
  refine ⟨fun c => (Cert.TailAbIdeal.Gen.dats m 0 c).arrAt 2 Cert.TailAbIdeal.cfg0.N, Cert.TailAbIdeal.Value.run_blocks m g, ?_⟩
  refine (θ_run _ _ _).mono (fun r h c => ⟨(h c).1.trans ?_, (h c).2⟩) (Cert.TailAbReferenceIdeal.Value.run m' g')
  rw [Cert.TailAbReferenceIdeal.Read.val_main_v14_eq]
  obtain ⟨a0, a1⟩ := hargs c
  rw [a0, a1]
  exact (Cert.TailAbReferenceIdeal.Val.result_eq m c _ _ rfl rfl).symm

/-- The layer's residual stream and the next layer's normalised rows are the reference's. -/
theorem value_mix : Cert.algebraic_MixIdeal_MixReferenceIdeal := by
  intro m g m' g' hpre hargs
  refine ⟨fun c => (Cert.MixIdeal.Gen.dats m 0 c).arrAt 9 Cert.MixIdeal.cfg0.N, fun c => (Cert.MixIdeal.Gen.dats m 0 c).arrAt 10 Cert.MixIdeal.cfg0.N, Cert.MixIdeal.Value.run_blocks m g, ?_⟩
  refine (θ_run _ _ _).mono (fun r h c => ⟨(h c).1.trans ?_, (h c).2.1.trans ?_, (h c).2.2⟩) (Cert.MixReferenceIdeal.Value.run m' g')
  · rw [Cert.MixReferenceIdeal.Read.val_main_v54_eq]
    obtain ⟨a0, a1, a2, a3, a4, a5, a6⟩ := hargs c
    rw [a0, a1, a2, a3, a4, a5]
    exact (Cert.MixReferenceIdeal.Val.result_x m c _ _ _ _ _ _ rfl rfl rfl rfl rfl rfl).symm
  · rw [Cert.MixReferenceIdeal.Read.val_main_v56_eq]
    obtain ⟨a0, a1, a2, a3, a4, a5, a6⟩ := hargs c
    rw [a0, a1, a2, a3, a4, a5, a6]
    exact (Cert.MixReferenceIdeal.Val.result_h m c _ _ _ _ _ _ _ rfl rfl rfl rfl rfl rfl rfl).symm

theorem frame_foxref : Cert.quiescent_FoxReferenceIdeal := fun m g _ =>
  (θ_run Cert.FoxReferenceIdeal.defs _ _).mono (fun r h => ⟨fun c => (h c).2, sem_eq_zero_of_no_sems (by decide) r.2⟩) (Cert.FoxReferenceIdeal.Value.run (F := Ideal) m g)

/-- The forgetting attention's result is the reference's. -/
theorem value_fox : Cert.algebraic_FoxIdeal_FoxReferenceIdeal_pre_finite_fox := by
  intro m g m' g' hpre hargs
  refine ⟨fun c => (Cert.FoxIdeal.Gen.dats m 0 c).arrAt 5 Cert.FoxIdeal.cfg0.N, Cert.FoxIdeal.Value.run_blocks m g, ?_⟩
  refine (θ_run _ _ _).mono (fun r h c => ⟨(h c).1.trans ?_, (h c).2⟩) (Cert.FoxReferenceIdeal.Value.run m' g')
  obtain ⟨h0, h1, h3⟩ := Cert.Pre_finite_fox.reals _ _ _ _ (hpre c)
  rw [Cert.FoxReferenceIdeal.Read.val_main_v33_eq]
  obtain ⟨a0, a1, a2, a3⟩ := hargs c
  rw [a0, a1, a2, a3]
  exact (Cert.FoxIdeal.Step.result_eq m c h0 h1 h3).symm

/-- The queries' reference runs, its arguments end unchanged, and no semaphore is left raised. -/
theorem frame_qupref : Cert.quiescent_QUpReferenceIdeal := fun m g _ =>
  (θ_run Cert.QUpReferenceIdeal.defs _ _).mono (fun r h => ⟨fun c => (h c).2, sem_eq_zero_of_no_sems (by decide) r.2⟩) (Cert.QUpReferenceIdeal.Value.run (F := Ideal) m g)

/-- The latent attention's queries are the reference's. -/
theorem value_qup : Cert.algebraic_QUpIdeal_QUpReferenceIdeal := by
  intro m g m' g' hpre hargs
  refine ⟨fun c => (Cert.QUpIdeal.Gen.dats m 0 c).arrAt 5 Cert.QUpIdeal.cfg0.N, Cert.QUpIdeal.Value.run_blocks m g, ?_⟩
  refine (θ_run _ _ _).mono (fun r h c => ⟨(h c).1.trans ?_, (h c).2⟩) (Cert.QUpReferenceIdeal.Value.run m' g')
  rw [Cert.QUpReferenceIdeal.Read.val_main_v37_eq]
  obtain ⟨a0, a1, a2, a3, a4⟩ := hargs c
  rw [a0, a1, a2, a3, a4]
  exact (Cert.QUpReferenceIdeal.Val.result_eq m c _ _ _ _ _ rfl rfl rfl rfl rfl).symm

/-- The keys' and values' reference runs, its arguments end unchanged, and no semaphore is left raised. -/
theorem frame_kvupref : Cert.quiescent_KvUpReferenceIdeal := fun m g _ =>
  (θ_run Cert.KvUpReferenceIdeal.defs _ _).mono (fun r h => ⟨fun c => (h c).2.2, sem_eq_zero_of_no_sems (by decide) r.2⟩) (Cert.KvUpReferenceIdeal.Value.run (F := Ideal) m g)

/-- The latent attention's keys and values are the reference's. -/
theorem value_kvup : Cert.algebraic_KvUpIdeal_KvUpReferenceIdeal := by
  intro m g m' g' hpre hargs
  refine ⟨fun c => (Cert.KvUpIdeal.Gen.dats m 0 c).arrAt 6 Cert.KvUpIdeal.cfg0.N, fun c => (Cert.KvUpIdeal.Gen.dats m 0 c).arrAt 7 Cert.KvUpIdeal.cfg0.N,
    Cert.KvUpIdeal.Value.run_blocks m g, ?_⟩
  refine (θ_run _ _ _).mono (fun r h c => ⟨(h c).1.trans ?_, (h c).2.1.trans ?_, (h c).2.2⟩) (Cert.KvUpReferenceIdeal.Value.run m' g')
  · rw [Cert.KvUpReferenceIdeal.Read.val_main_v33_eq]
    obtain ⟨a0, a1, a2, a3, a4, a5⟩ := hargs c
    rw [a0, a1, a2, a3, a4, a5]
    exact (Cert.KvUpReferenceIdeal.Val.result_k m c _ _ _ _ _ _ rfl rfl rfl rfl rfl rfl).symm
  · rw [Cert.KvUpReferenceIdeal.Read.val_main_v35_eq]
    obtain ⟨a0, a1, a2, a3, a4, a5⟩ := hargs c
    rw [a0, a1, a2]
    exact (Cert.KvUpReferenceIdeal.Val.result_v m c _ _ _ _ rfl rfl rfl rfl).symm

theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.Down.Gen.facts, Cert.DownIdeal.Gen.facts, Cert.DownReferenceIdeal.Gen.facts,
  Cert.Mix.Gen.facts, Cert.MixIdeal.Gen.facts, Cert.MixReferenceIdeal.Gen.facts,
  Cert.InAb.Gen.facts, Cert.InAbIdeal.Gen.facts, Cert.InAbReferenceIdeal.Gen.facts,
  Cert.InC.Gen.facts, Cert.InCIdeal.Gen.facts, Cert.InCReferenceIdeal.Gen.facts,
  Cert.InD.Gen.facts, Cert.InDIdeal.Gen.facts, Cert.InDReferenceIdeal.Gen.facts,
  Cert.TailAb.Gen.facts, Cert.TailAbIdeal.Gen.facts, Cert.TailAbReferenceIdeal.Gen.facts,
  Cert.Fox.Gen.facts, Cert.FoxIdeal.Gen.facts, Cert.FoxReferenceIdeal.Gen.facts,
  Cert.QUp.Gen.facts, Cert.QUpIdeal.Gen.facts, Cert.QUpReferenceIdeal.Gen.facts,
  Cert.KvUp.Gen.facts, Cert.KvUpIdeal.Gen.facts, Cert.KvUpReferenceIdeal.Gen.facts,
  Cert.Pre_finite_scores.facts, Cert.Pre_finite_fox.facts,
  fun m g _ => Cert.Kernel.Gen.frame m g,
  fun m g _ => Cert.KernelIdeal.Gen.frame m g,
  fun m g _ => Cert.KernelIdeal.Gen.frame m g,
  fun m g _ => frame_ref m g trivial,
  fun m g _ => frame_ref m g trivial,
  fun m g _ => Cert.Up.Gen.frame m g,
  fun m g _ => Cert.UpIdeal.Gen.frame m g,
  frame_upref,
  fun m g _ => Cert.Down.Gen.frame m g,
  fun m g _ => Cert.DownIdeal.Gen.frame m g,
  frame_downref,
  fun m g _ => Cert.Mix.Gen.frame m g,
  fun m g _ => Cert.MixIdeal.Gen.frame m g,
  frame_mixref,
  fun m g _ => Cert.InAb.Gen.frame m g,
  fun m g _ => Cert.InAbIdeal.Gen.frame m g,
  frame_inabref,
  fun m g _ => Cert.InC.Gen.frame m g,
  fun m g _ => Cert.InCIdeal.Gen.frame m g,
  frame_incref,
  fun m g _ => Cert.InD.Gen.frame m g,
  fun m g _ => Cert.InDIdeal.Gen.frame m g,
  frame_indref,
  fun m g _ => Cert.TailAb.Gen.frame m g,
  fun m g _ => Cert.TailAbIdeal.Gen.frame m g,
  frame_tailabref,
  fun m g _ => Cert.Fox.Gen.frame m g,
  fun m g _ => Cert.FoxIdeal.Gen.frame m g,
  fun m g _ => Cert.FoxIdeal.Gen.frame m g,
  frame_foxref,
  fun m g _ => frame_foxref m g trivial,
  fun m g _ => Cert.QUp.Gen.frame m g,
  fun m g _ => Cert.QUpIdeal.Gen.frame m g,
  frame_qupref,
  fun m g _ => Cert.KvUp.Gen.frame m g,
  fun m g _ => Cert.KvUpIdeal.Gen.frame m g,
  frame_kvupref,
  IdealRules.named_const.statement Cert.KernelIdeal.κ "mask" .f32 0xF149F2CA#32 ⊥ rfl,
  value,
  trivial, value_up,
  trivial, value_down,
  trivial, value_mix,
  trivial, value_inab,
  trivial, value_inc,
  trivial, value_ind,
  trivial, value_tailab,
  IdealRules.named_const.statement Cert.FoxIdeal.κ "mask" .f32 0xF149F2CA#32 ⊥ rfl,
  value_fox,
  trivial, value_qup,
  trivial, value_kvup⟩

end Cert.Proof

end
